-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13))
      ∧ r.2.sem = fun _ => 0)

def preserves_Kernel_KernelIdeal : Prop :=
  IdealRules.named_const.Statement Cert.KernelIdeal.κ "inv_sqrt2" .f32 0x3F3504F3#32 (((Real.sqrt 2)⁻¹ : ℝ) : EReal)
  ∧ IdealRules.named_const.Statement Cert.KernelIdeal.κ "inv_sqrt2pi" .f32 0x3ECC422A#32 (((Real.sqrt (2 * Real.pi))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v42_0)) (v1 : (c : Dev Cert.KernelIdeal.nD) → Buf (Elt Ideal) ((c.tc : Thread Cert.KernelIdeal.nD Cert.KernelIdeal.τ).loc Cert.KernelIdeal.main_v42_1)) (v2 : (c : Dev Cert.KernelIdeal.nD) → Buf (Elt Ideal) ((c.tc : Thread Cert.KernelIdeal.nD Cert.KernelIdeal.τ).loc Cert.KernelIdeal.main_v42_2)) (v3 : (c : Dev Cert.KernelIdeal.nD) → Buf (Elt Ideal) ((c.tc : Thread Cert.KernelIdeal.nD Cert.KernelIdeal.τ).loc Cert.KernelIdeal.main_v42_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42_0) = v0 c
          ∧ r.2.mem ((c.tc : Thread Cert.KernelIdeal.nD Cert.KernelIdeal.τ).loc Cert.KernelIdeal.main_v42_1) = v1 c
          ∧ r.2.mem ((c.tc : Thread Cert.KernelIdeal.nD Cert.KernelIdeal.τ).loc Cert.KernelIdeal.main_v42_2) = v2 c
          ∧ r.2.mem ((c.tc : Thread Cert.KernelIdeal.nD Cert.KernelIdeal.τ).loc Cert.KernelIdeal.main_v42_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v26_0)) (v1 : (c : Dev Cert.Kernel2Ideal.nD) → Buf (Elt Ideal) ((c.tc : Thread Cert.Kernel2Ideal.nD Cert.Kernel2Ideal.τ).loc Cert.Kernel2Ideal.main_v26_1)) (v2 : (c : Dev Cert.Kernel2Ideal.nD) → Buf (Elt Ideal) ((c.tc : Thread Cert.Kernel2Ideal.nD Cert.Kernel2Ideal.τ).loc Cert.Kernel2Ideal.main_v26_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v26_0) = v0 c
          ∧ r.2.mem ((c.tc : Thread Cert.Kernel2Ideal.nD Cert.Kernel2Ideal.τ).loc Cert.Kernel2Ideal.main_v26_1) = v1 c
          ∧ r.2.mem ((c.tc : Thread Cert.Kernel2Ideal.nD Cert.Kernel2Ideal.τ).loc Cert.Kernel2Ideal.main_v26_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v45) = v0 c
          ∧ r.2.mem ((c.tc : Thread Cert.Reference2Ideal.nD Cert.Reference2Ideal.τ).loc Cert.Reference2Ideal.main_v41) = v1 c
          ∧ r.2.mem ((c.tc : Thread Cert.Reference2Ideal.nD Cert.Reference2Ideal.τ).loc Cert.Reference2Ideal.main_v42) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v45_0)) (v1 : (c : Dev Cert.Kernel3Ideal.nD) → Buf (Elt Ideal) ((c.tc : Thread Cert.Kernel3Ideal.nD Cert.Kernel3Ideal.τ).loc Cert.Kernel3Ideal.main_v45_1)) (v2 : (c : Dev Cert.Kernel3Ideal.nD) → Buf (Elt Ideal) ((c.tc : Thread Cert.Kernel3Ideal.nD Cert.Kernel3Ideal.τ).loc Cert.Kernel3Ideal.main_v45_2)) (v3 : (c : Dev Cert.Kernel3Ideal.nD) → Buf (Elt Ideal) ((c.tc : Thread Cert.Kernel3Ideal.nD Cert.Kernel3Ideal.τ).loc Cert.Kernel3Ideal.main_v45_3)) (v4 : (c : Dev Cert.Kernel3Ideal.nD) → Buf (Elt Ideal) ((c.tc : Thread Cert.Kernel3Ideal.nD Cert.Kernel3Ideal.τ).loc Cert.Kernel3Ideal.main_v45_4)) (v5 : (c : Dev Cert.Kernel3Ideal.nD) → Buf (Elt Ideal) ((c.tc : Thread Cert.Kernel3Ideal.nD Cert.Kernel3Ideal.τ).loc Cert.Kernel3Ideal.main_v45_5)) (v6 : (c : Dev Cert.Kernel3Ideal.nD) → Buf (Elt Ideal) ((c.tc : Thread Cert.Kernel3Ideal.nD Cert.Kernel3Ideal.τ).loc Cert.Kernel3Ideal.main_v45_6)) (v7 : (c : Dev Cert.Kernel3Ideal.nD) → Buf (Elt Ideal) ((c.tc : Thread Cert.Kernel3Ideal.nD Cert.Kernel3Ideal.τ).loc Cert.Kernel3Ideal.main_v45_7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v45_0) = v0 c
          ∧ r.2.mem ((c.tc : Thread Cert.Kernel3Ideal.nD Cert.Kernel3Ideal.τ).loc Cert.Kernel3Ideal.main_v45_1) = v1 c
          ∧ r.2.mem ((c.tc : Thread Cert.Kernel3Ideal.nD Cert.Kernel3Ideal.τ).loc Cert.Kernel3Ideal.main_v45_2) = v2 c
          ∧ r.2.mem ((c.tc : Thread Cert.Kernel3Ideal.nD Cert.Kernel3Ideal.τ).loc Cert.Kernel3Ideal.main_v45_3) = v3 c
          ∧ r.2.mem ((c.tc : Thread Cert.Kernel3Ideal.nD Cert.Kernel3Ideal.τ).loc Cert.Kernel3Ideal.main_v45_4) = v4 c
          ∧ r.2.mem ((c.tc : Thread Cert.Kernel3Ideal.nD Cert.Kernel3Ideal.τ).loc Cert.Kernel3Ideal.main_v45_5) = v5 c
          ∧ r.2.mem ((c.tc : Thread Cert.Kernel3Ideal.nD Cert.Kernel3Ideal.τ).loc Cert.Kernel3Ideal.main_v45_6) = v6 c
          ∧ r.2.mem ((c.tc : Thread Cert.Kernel3Ideal.nD Cert.Kernel3Ideal.τ).loc Cert.Kernel3Ideal.main_v45_7) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v83) = v0 c
          ∧ r.2.mem ((c.tc : Thread Cert.Reference3Ideal.nD Cert.Reference3Ideal.τ).loc Cert.Reference3Ideal.main_v84) = v1 c
          ∧ r.2.mem ((c.tc : Thread Cert.Reference3Ideal.nD Cert.Reference3Ideal.τ).loc Cert.Reference3Ideal.main_v138) = v2 c
          ∧ r.2.mem ((c.tc : Thread Cert.Reference3Ideal.nD Cert.Reference3Ideal.τ).loc Cert.Reference3Ideal.main_v118) = v3 c
          ∧ r.2.mem ((c.tc : Thread Cert.Reference3Ideal.nD Cert.Reference3Ideal.τ).loc Cert.Reference3Ideal.main_v140) = v4 c
          ∧ r.2.mem ((c.tc : Thread Cert.Reference3Ideal.nD Cert.Reference3Ideal.τ).loc Cert.Reference3Ideal.main_v139) = v5 c
          ∧ r.2.mem ((c.tc : Thread Cert.Reference3Ideal.nD Cert.Reference3Ideal.τ).loc Cert.Reference3Ideal.main_v117) = v6 c
          ∧ r.2.mem ((c.tc : Thread Cert.Reference3Ideal.nD Cert.Reference3Ideal.τ).loc Cert.Reference3Ideal.main_v141) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v12)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v56) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  IdealRules.named_const.Statement Cert.Kernel5Ideal.κ "inv_sqrt2" .f32 0x3F3504F3#32 (((Real.sqrt 2)⁻¹ : ℝ) : EReal)

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)) →
    ∃ (v0 : (c : Dev Cert.Kernel5Ideal.nD) → Buf (Elt Ideal) ((c.tc : Thread Cert.Kernel5Ideal.nD Cert.Kernel5Ideal.τ).loc Cert.Kernel5Ideal.main_v5_0)) (v1 : (c : Dev Cert.Kernel5Ideal.nD) → Buf (Elt Ideal) ((c.tc : Thread Cert.Kernel5Ideal.nD Cert.Kernel5Ideal.τ).loc Cert.Kernel5Ideal.main_v5_1)) (v2 : (c : Dev Cert.Kernel5Ideal.nD) → Buf (Elt Ideal) ((c.tc : Thread Cert.Kernel5Ideal.nD Cert.Kernel5Ideal.τ).loc Cert.Kernel5Ideal.main_v5_2)) (v3 : (c : Dev Cert.Kernel5Ideal.nD) → Buf (Elt Ideal) ((c.tc : Thread Cert.Kernel5Ideal.nD Cert.Kernel5Ideal.τ).loc Cert.Kernel5Ideal.main_v5_3)) (v4 : (c : Dev Cert.Kernel5Ideal.nD) → Buf (Elt Ideal) ((c.tc : Thread Cert.Kernel5Ideal.nD Cert.Kernel5Ideal.τ).loc Cert.Kernel5Ideal.main_v5_4)) (v5 : (c : Dev Cert.Kernel5Ideal.nD) → Buf (Elt Ideal) ((c.tc : Thread Cert.Kernel5Ideal.nD Cert.Kernel5Ideal.τ).loc Cert.Kernel5Ideal.main_v5_5)) (v6 : (c : Dev Cert.Kernel5Ideal.nD) → Buf (Elt Ideal) ((c.tc : Thread Cert.Kernel5Ideal.nD Cert.Kernel5Ideal.τ).loc Cert.Kernel5Ideal.main_v5_6)) (v7 : (c : Dev Cert.Kernel5Ideal.nD) → Buf (Elt Ideal) ((c.tc : Thread Cert.Kernel5Ideal.nD Cert.Kernel5Ideal.τ).loc Cert.Kernel5Ideal.main_v5_7)) (v8 : (c : Dev Cert.Kernel5Ideal.nD) → Buf (Elt Ideal) ((c.tc : Thread Cert.Kernel5Ideal.nD Cert.Kernel5Ideal.τ).loc Cert.Kernel5Ideal.main_v5_8)) (v9 : (c : Dev Cert.Kernel5Ideal.nD) → Buf (Elt Ideal) ((c.tc : Thread Cert.Kernel5Ideal.nD Cert.Kernel5Ideal.τ).loc Cert.Kernel5Ideal.main_v5_9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_0) = v0 c
          ∧ r.2.mem ((c.tc : Thread Cert.Kernel5Ideal.nD Cert.Kernel5Ideal.τ).loc Cert.Kernel5Ideal.main_v5_1) = v1 c
          ∧ r.2.mem ((c.tc : Thread Cert.Kernel5Ideal.nD Cert.Kernel5Ideal.τ).loc Cert.Kernel5Ideal.main_v5_2) = v2 c
          ∧ r.2.mem ((c.tc : Thread Cert.Kernel5Ideal.nD Cert.Kernel5Ideal.τ).loc Cert.Kernel5Ideal.main_v5_3) = v3 c
          ∧ r.2.mem ((c.tc : Thread Cert.Kernel5Ideal.nD Cert.Kernel5Ideal.τ).loc Cert.Kernel5Ideal.main_v5_4) = v4 c
          ∧ r.2.mem ((c.tc : Thread Cert.Kernel5Ideal.nD Cert.Kernel5Ideal.τ).loc Cert.Kernel5Ideal.main_v5_5) = v5 c
          ∧ r.2.mem ((c.tc : Thread Cert.Kernel5Ideal.nD Cert.Kernel5Ideal.τ).loc Cert.Kernel5Ideal.main_v5_6) = v6 c
          ∧ r.2.mem ((c.tc : Thread Cert.Kernel5Ideal.nD Cert.Kernel5Ideal.τ).loc Cert.Kernel5Ideal.main_v5_7) = v7 c
          ∧ r.2.mem ((c.tc : Thread Cert.Kernel5Ideal.nD Cert.Kernel5Ideal.τ).loc Cert.Kernel5Ideal.main_v5_8) = v8 c
          ∧ r.2.mem ((c.tc : Thread Cert.Kernel5Ideal.nD Cert.Kernel5Ideal.τ).loc Cert.Kernel5Ideal.main_v5_9) = v9 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v37) = v0 c
          ∧ r.2.mem ((c.tc : Thread Cert.Reference5Ideal.nD Cert.Reference5Ideal.τ).loc Cert.Reference5Ideal.main_v146) = v1 c
          ∧ r.2.mem ((c.tc : Thread Cert.Reference5Ideal.nD Cert.Reference5Ideal.τ).loc Cert.Reference5Ideal.main_v147) = v2 c
          ∧ r.2.mem ((c.tc : Thread Cert.Reference5Ideal.nD Cert.Reference5Ideal.τ).loc Cert.Reference5Ideal.main_v148) = v3 c
          ∧ r.2.mem ((c.tc : Thread Cert.Reference5Ideal.nD Cert.Reference5Ideal.τ).loc Cert.Reference5Ideal.main_v149) = v4 c
          ∧ r.2.mem ((c.tc : Thread Cert.Reference5Ideal.nD Cert.Reference5Ideal.τ).loc Cert.Reference5Ideal.main_v150) = v5 c
          ∧ r.2.mem ((c.tc : Thread Cert.Reference5Ideal.nD Cert.Reference5Ideal.τ).loc Cert.Reference5Ideal.main_v151) = v6 c
          ∧ r.2.mem ((c.tc : Thread Cert.Reference5Ideal.nD Cert.Reference5Ideal.τ).loc Cert.Reference5Ideal.main_v144) = v7 c
          ∧ r.2.mem ((c.tc : Thread Cert.Reference5Ideal.nD Cert.Reference5Ideal.τ).loc Cert.Reference5Ideal.main_v152) = v8 c
          ∧ r.2.mem ((c.tc : Thread Cert.Reference5Ideal.nD Cert.Reference5Ideal.τ).loc Cert.Reference5Ideal.main_v145) = v9 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite2 : Cert.Pre_finite2.Facts) (hPre_finite3 : Cert.Pre_finite3.Facts) (hPre_finite4 : Cert.Pre_finite4.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
-- ==== Pre_finite.lean ====
abbrev S4096x5632 : Shape := ⟨2, ![4096, 5632]⟩
abbrev S3x2816 : Shape := ⟨2, ![3, 2816]⟩
abbrev S1x2816 : Shape := ⟨2, ![1, 2816]⟩
abbrev S2816x1024 : Shape := ⟨2, ![2816, 1024]⟩
abbrev S4096x1024 : Shape := ⟨2, ![4096, 1024]⟩
abbrev S_ : Shape := ⟨0, ![]⟩

class Facts : Prop where
  bcast_S_S4096x5632 : S_.BroadcastsInDim S4096x5632 (![] : Fin 0 → Fin S4096x5632.rank)
  reducesTo_S4096x5632_S_d0_1 : S4096x5632.ReducesTo [0, 1] S_
  h_S_ : 0 < S_.numel
  bcast_S_S3x2816 : S_.BroadcastsInDim S3x2816 (![] : Fin 0 → Fin S3x2816.rank)
  reducesTo_S3x2816_S_d0_1 : S3x2816.ReducesTo [0, 1] S_
  bcast_S_S1x2816 : S_.BroadcastsInDim S1x2816 (![] : Fin 0 → Fin S1x2816.rank)
  reducesTo_S1x2816_S_d0_1 : S1x2816.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S4096x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S4096x5632 .f32) (main_arg1 : FVec F S3x2816 .f32) (main_arg2 : FVec F S1x2816 .f32) (main_arg3 : FVec F S2816x1024 .f32) (main_arg4 : FVec F S4096x1024 .f32) : IVec S_ 1 :=
  let main_v0 : FVec F S4096x5632 .f32 := Host.absf main_arg0
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_c : IVec S_ 1 := constantI S_ 1 1#1
  let main_v3 : IVec S_ 1 := (fun x v => Host.reduce IntOp.andi x v reducesTo_S4096x5632_S_d0_1 h_S_) main_v2 main_c
  let main_v4 : FVec F S3x2816 .f32 := Host.absf main_arg1
  let main_cst_0 : FVec F S_ .f32 := constant S_ .f32 0x7F800000#32
  let main_v5 : FVec F S3x2816 .f32 := broadcastInDim S3x2816 ![] bcast_S_S3x2816 main_cst_0
  let main_v6 : IVec S3x2816 1 := cmpf .olt main_v4 main_v5
  let main_c_1 : IVec S_ 1 := constantI S_ 1 1#1
  let main_v7 : IVec S_ 1 := (fun x v => Host.reduce IntOp.andi x v reducesTo_S3x2816_S_d0_1 h_S_) main_v6 main_c_1
  let main_v8 : IVec S_ 1 := andi main_v3 main_v7
  let main_v9 : FVec F S1x2816 .f32 := Host.absf main_arg2
  let main_cst_2 : FVec F S_ .f32 := constant S_ .f32 0x7F800000#32
  let main_v10 : FVec F S1x2816 .f32 := broadcastInDim S1x2816 ![] bcast_S_S1x2816 main_cst_2
  let main_v11 : IVec S1x2816 1 := cmpf .olt main_v9 main_v10
  let main_c_3 : IVec S_ 1 := constantI S_ 1 1#1
  let main_v12 : IVec S_ 1 := (fun x v => Host.reduce IntOp.andi x v reducesTo_S1x2816_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_v13 main_v16
-- ==== Pre_finite2.lean ====
abbrev S4096x1024 : Shape := ⟨2, ![4096, 1024]⟩
abbrev S1x1024 : Shape := ⟨2, ![1, 1024]⟩
abbrev S1024x3584 : Shape := ⟨2, ![1024, 3584]⟩
abbrev S4096x3584 : Shape := ⟨2, ![4096, 3584]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x3584 : S_.BroadcastsInDim S1024x3584 (![] : Fin 0 → Fin S1024x3584.rank)
  reducesTo_S1024x3584_S_d0_1 : S1024x3584.ReducesTo [0, 1] S_
  bcast_S_S4096x3584 : S_.BroadcastsInDim S4096x3584 (![] : Fin 0 → Fin S4096x3584.rank)
  reducesTo_S4096x3584_S_d0_1 : S4096x3584.ReducesTo [0, 1] S_

variable [Facts]

def fn_part1 {F : FTy → Type} [FloatOps F] (main_v13 : IVec S_ 1) (main_v16 : IVec S4096x3584 1) : IVec S_ 1 :=
  let main_c_5 : IVec S_ 1 := constantI S_ 1 1#1
  let main_v17 : IVec S_ 1 := (fun x v => Host.reduce IntOp.andi x v reducesTo_S4096x3584_S_d0_1 h_S_) main_v16 main_c_5
  let main_v18 : IVec S_ 1 := andi main_v13 main_v17
  main_v18

def fn {F : FTy → Type} [FloatOps F] (main_arg0 : FVec F S4096x1024 .f32) (main_arg1 : FVec F S1x1024 .f32) (main_arg2 : FVec F S1024x3584 .f32) (main_arg3 : FVec F S4096x1024 .f32) (main_arg4 : FVec F S4096x3584 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x3584 .f32 := Host.absf main_arg2
  let main_cst_2 : FVec F S_ .f32 := constant S_ .f32 0x7F800000#32
  let main_v10 : FVec F S1024x3584 .f32 := broadcastInDim S1024x3584 ![] bcast_S_S1024x3584 main_cst_2
  let main_v11 : IVec S1024x3584 1 := cmpf .olt main_v9 main_v10
  let main_c_3 : IVec S_ 1 := constantI S_ 1 1#1
  let main_v12 : IVec S_ 1 := (fun x v => Host.reduce IntOp.andi x v reducesTo_S1024x3584_S_d0_1 h_S_) main_v11 main_c_3
  let main_v13 : IVec S_ 1 := andi main_v8 main_v12
  let main_v14 : FVec F S4096x3584 .f32 := Host.absf main_arg4
  let main_cst_4 : FVec F S_ .f32 := constant S_ .f32 0x7F800000#32
  let main_v15 : FVec F S4096x3584 .f32 := broadcastInDim S4096x3584 ![] bcast_S_S4096x3584 main_cst_4
  let main_v16 : IVec S4096x3584 1 := cmpf .olt main_v14 main_v15
  fn_part1 (F := F) main_v13 main_v16
-- ==== Pre_finite3.lean ====
abbrev S4096x1024 : Shape := ⟨2, ![4096, 1024]⟩
abbrev S4096x512 : Shape := ⟨2, ![4096, 512]⟩
abbrev S4096x2048 : Shape := ⟨2, ![4096, 2048]⟩
abbrev S1x512 : Shape := ⟨2, ![1, 512]⟩
abbrev S1024x1024 : Shape := ⟨2, ![1024, 1024]⟩
abbrev S1x1024 : Shape := ⟨2, ![1, 1024]⟩
abbrev S1024x5632 : Shape := ⟨2, ![1024, 5632]⟩
abbrev S4096x5632 : Shape := ⟨2, ![4096, 5632]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S1x512 : S_.BroadcastsInDim S1x512 (![] : Fin 0 → Fin S1x512.rank)
  reducesTo_S1x512_S_d0_1 : S1x512.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S4096x5632 : S_.BroadcastsInDim S4096x5632 (![] : Fin 0 → Fin S4096x5632.rank)
  reducesTo_S4096x5632_S_d0_1 : S4096x5632.ReducesTo [0, 1] S_

variable [Facts]

def fn_part3 {F : FTy → Type} [FloatOps F] (main_v48 : IVec S_ 1) (main_v49 : FVec F S4096x5632 .f32) (main_v50 : FVec F S4096x5632 .f32) : IVec S_ 1 :=
  let main_v51 : IVec S4096x5632 1 := cmpf .olt main_v49 main_v50
  let main_c_19 : IVec S_ 1 := constantI S_ 1 1#1
  let main_v52 : IVec S_ 1 := (fun x v => Host.reduce IntOp.andi x v reducesTo_S4096x5632_S_d0_1 h_S_) main_v51 main_c_19
  let main_v53 : IVec S_ 1 := andi main_v48 main_v52
  main_v53

def fn_part2 {F : FTy → Type} [FloatOps F] (main_arg7 : FVec F S1x1024 .f32) (main_arg8 : FVec F S1024x5632 .f32) (main_arg9 : FVec F S4096x1024 .f32) (main_arg10 : FVec F S4096x5632 .f32) (main_v33 : IVec S_ 1) : IVec S_ 1 :=
  let main_v34 : FVec F S1x1024 .f32 := Host.absf main_arg7
  let main_cst_12 : FVec F S_ .f32 := constant S_ .f32 0x7F800000#32
  let main_v35 : FVec F S1x1024 .f32 := broadcastInDim S1x1024 ![] bcast_S_S1x1024 main_cst_12
  let main_v36 : IVec S1x1024 1 := cmpf .olt main_v34 main_v35
  let main_c_13 : IVec S_ 1 := constantI S_ 1 1#1
  let main_v37 : IVec S_ 1 := (fun x v => Host.reduce IntOp.andi x v reducesTo_S1x1024_S_d0_1 h_S_) main_v36 main_c_13
  let main_v38 : IVec S_ 1 := andi main_v33 main_v37
  let main_v39 : FVec F S1024x5632 .f32 := Host.absf main_arg8
  let main_cst_14 : FVec F S_ .f32 := constant S_ .f32 0x7F800000#32
  let main_v40 : FVec F S1024x5632 .f32 := broadcastInDim S1024x5632 ![] bcast_S_S1024x5632 main_cst_14
  let main_v41 : IVec S1024x5632 1 := cmpf .olt main_v39 main_v40
  let main_c_15 : IVec S_ 1 := constantI S_ 1 1#1
  let main_v42 : IVec S_ 1 := (fun x v => Host.reduce IntOp.andi x v reducesTo_S1024x5632_S_d0_1 h_S_) main_v41 main_c_15
  let main_v43 : IVec S_ 1 := andi main_v38 main_v42
  let main_v44 : FVec F S4096x1024 .f32 := Host.absf main_arg9
  let main_cst_16 : FVec F S_ .f32 := constant S_ .f32 0x7F800000#32
  let main_v45 : FVec F S4096x1024 .f32 := broadcastInDim S4096x1024 ![] bcast_S_S4096x1024 main_cst_16
  let main_v46 : IVec S4096x1024 1 := cmpf .olt main_v44 main_v45
  let main_c_17 : IVec S_ 1 := constantI S_ 1 1#1
  let main_v47 : IVec S_ 1 := (fun x v => Host.reduce IntOp.andi x v reducesTo_S4096x1024_S_d0_1 h_S_) main_v46 main_c_17
  let main_v48 : IVec S_ 1 := andi main_v43 main_v47
  let main_v49 : FVec F S4096x5632 .f32 := Host.absf main_arg10
  let main_cst_18 : FVec F S_ .f32 := constant S_ .f32 0x7F800000#32
  let main_v50 : FVec F S4096x5632 .f32 := broadcastInDim S4096x5632 ![] bcast_S_S4096x5632 main_cst_18
  fn_part3 (F := F) main_v48 main_v49 main_v50

def fn_part1 {F : FTy → Type} [FloatOps F] (main_arg4 : FVec F S1x512 .f32) (main_arg5 : FVec F S1x512 .f32) (main_arg6 : FVec F S1024x1024 .f32) (main_arg7 : FVec F S1x1024 .f32) (main_arg8 : FVec F S1024x5632 .f32) (main_arg9 : FVec F S4096x1024 .f32) (main_arg10 : FVec F S4096x5632 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S1x512 .f32 := Host.absf main_arg4
  let main_cst_6 : FVec F S_ .f32 := constant S_ .f32 0x7F800000#32
  let main_v20 : FVec F S1x512 .f32 := broadcastInDim S1x512 ![] bcast_S_S1x512 main_cst_6
  let main_v21 : IVec S1x512 1 := cmpf .olt main_v19 main_v20
  let main_c_7 : IVec S_ 1 := constantI S_ 1 1#1
  let main_v22 : IVec S_ 1 := (fun x v => Host.reduce IntOp.andi x v reducesTo_S1x512_S_d0_1 h_S_) main_v21 main_c_7
  let main_v23 : IVec S_ 1 := andi main_v18 main_v22
  let main_v24 : FVec F S1x512 .f32 := Host.absf main_arg5
  let main_cst_8 : FVec F S_ .f32 := constant S_ .f32 0x7F800000#32
  let main_v25 : FVec F S1x512 .f32 := broadcastInDim S1x512 ![] bcast_S_S1x512 main_cst_8
  let main_v26 : IVec S1x512 1 := cmpf .olt main_v24 main_v25
  let main_c_9 : IVec S_ 1 := constantI S_ 1 1#1
  let main_v27 : IVec S_ 1 := (fun x v => Host.reduce IntOp.andi x v reducesTo_S1x512_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x1024 .f32) (main_arg1 : FVec F S4096x512 .f32) (main_arg2 : FVec F S4096x512 .f32) (main_arg3 : FVec F S4096x2048 .f32) (main_arg4 : FVec F S1x512 .f32) (main_arg5 : FVec F S1x512 .f32) (main_arg6 : FVec F S1024x1024 .f32) (main_arg7 : FVec F S1x1024 .f32) (main_arg8 : FVec F S1024x5632 .f32) (main_arg9 : FVec F S4096x1024 .f32) (main_arg10 : FVec F S4096x5632 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_arg5 main_arg6 main_arg7 main_arg8 main_arg9 main_arg10 main_v13 main_v16
-- ==== Pre_finite4.lean ====
abbrev S2x512 : Shape := ⟨2, ![2, 512]⟩
abbrev S1x1024 : Shape := ⟨2, ![1, 1024]⟩
abbrev S1x512 : Shape := ⟨2, ![1, 512]⟩
abbrev S1x2816 : Shape := ⟨2, ![1, 2816]⟩
abbrev S3x2816 : Shape := ⟨2, ![3, 2816]⟩
abbrev S1x128 : Shape := ⟨2, ![1, 128]⟩
abbrev S_ : Shape := ⟨0, ![]⟩

class Facts : Prop where
  bcast_S_S2x512 : S_.BroadcastsInDim S2x512 (![] : Fin 0 → Fin S2x512.rank)
  reducesTo_S2x512_S_d0_1 : S2x512.ReducesTo [0, 1] S_
  h_S_ : 0 < S_.numel
  bcast_S_S1x512 : S_.BroadcastsInDim S1x512 (![] : Fin 0 → Fin S1x512.rank)
  reducesTo_S1x512_S_d0_1 : S1x512.ReducesTo [0, 1] S_

variable [Facts]

def fn {F : FTy → Type} [FloatOps F] (main_arg0 : FVec F S2x512 .f32) (main_arg1 : FVec F S1x1024 .f32) (main_arg2 : FVec F S1x512 .f32) (main_arg3 : FVec F S1x512 .f32) (main_arg4 : FVec F S1x1024 .f32) (main_arg5 : FVec F S1x2816 .f32) (main_arg6 : FVec F S1x1024 .f32) (main_arg7 : FVec F S3x2816 .f32) (main_arg8 : FVec F S1x512 .f32) (main_arg9 : FVec F S1x128 .f32) : IVec S_ 1 :=
  let main_v0 : FVec F S2x512 .f32 := Host.absf main_arg0
  let main_cst : FVec F S_ .f32 := constant S_ .f32 0x7F800000#32
  let main_v1 : FVec F S2x512 .f32 := broadcastInDim S2x512 ![] bcast_S_S2x512 main_cst
  let main_v2 : IVec S2x512 1 := cmpf .olt main_v0 main_v1
  let main_c : IVec S_ 1 := constantI S_ 1 1#1
  let main_v3 : IVec S_ 1 := (fun x v => Host.reduce IntOp.andi x v reducesTo_S2x512_S_d0_1 h_S_) main_v2 main_c
  let main_v4 : FVec F S1x512 .f32 := Host.absf main_arg8
  let main_cst_0 : FVec F S_ .f32 := constant S_ .f32 0x7F800000#32
  let main_v5 : FVec F S1x512 .f32 := broadcastInDim S1x512 ![] bcast_S_S1x512 main_cst_0
  let main_v6 : IVec S1x512 1 := cmpf .olt main_v4 main_v5
  let main_c_1 : IVec S_ 1 := constantI S_ 1 1#1
  let main_v7 : IVec S_ 1 := (fun x v => Host.reduce IntOp.andi x v reducesTo_S1x512_S_d0_1 h_S_) main_v6 main_c_1
  let main_v8 : IVec S_ 1 := andi main_v3 main_v7
  main_v8
-- ==== Pre_finite5.lean ====
abbrev S4096x512 : Shape := ⟨2, ![4096, 512]⟩
abbrev S4096x2048 : Shape := ⟨2, ![4096, 2048]⟩
abbrev S4096x1024 : Shape := ⟨2, ![4096, 1024]⟩
abbrev S1x512 : Shape := ⟨2, ![1, 512]⟩
abbrev S1024x1024 : Shape := ⟨2, ![1024, 1024]⟩
abbrev S1x1024 : Shape := ⟨2, ![1, 1024]⟩
abbrev S1024x5632 : Shape := ⟨2, ![1024, 5632]⟩
abbrev S3x2816 : Shape := ⟨2, ![3, 2816]⟩
abbrev S1x2816 : Shape := ⟨2, ![1, 2816]⟩
abbrev S2816x1024 : Shape := ⟨2, ![2816, 1024]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x512 : S_.BroadcastsInDim S1x512 (![] : Fin 0 → Fin S1x512.rank)
  reducesTo_S1x512_S_d0_1 : S1x512.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S3x2816 : S_.BroadcastsInDim S3x2816 (![] : Fin 0 → Fin S3x2816.rank)
  reducesTo_S3x2816_S_d0_1 : S3x2816.ReducesTo [0, 1] S_
  bcast_S_S1x2816 : S_.BroadcastsInDim S1x2816 (![] : Fin 0 → Fin S1x2816.rank)
  reducesTo_S1x2816_S_d0_1 : S1x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S2816x1024 .f32) (main_arg12 : FVec F S1x1024 .f32) (main_arg13 : FVec F S4096x1024 .f32) (main_v48 : IVec S_ 1) (main_v49 : FVec F S1x2816 .f32) (main_v50 : FVec F S1x2816 .f32) : IVec S_ 1 :=
  let main_v51 : IVec S1x2816 1 := cmpf .olt main_v49 main_v50
  let main_c_19 : IVec S_ 1 := constantI S_ 1 1#1
  let main_v52 : IVec S_ 1 := (fun x v => Host.reduce IntOp.andi x v reducesTo_S1x2816_S_d0_1 h_S_) main_v51 main_c_19
  let main_v53 : IVec S_ 1 := andi main_v48 main_v52
  let main_v54 : FVec F S2816x1024 .f32 := Host.absf main_arg11
  let main_cst_20 : FVec F S_ .f32 := constant S_ .f32 0x7F800000#32
  let main_v55 : FVec F S2816x1024 .f32 := broadcastInDim S2816x1024 ![] bcast_S_S2816x1024 main_cst_20
  let main_v56 : IVec S2816x1024 1 := cmpf .olt main_v54 main_v55
  let main_c_21 : IVec S_ 1 := constantI S_ 1 1#1
  let main_v57 : IVec S_ 1 := (fun x v => Host.reduce IntOp.andi x v reducesTo_S2816x1024_S_d0_1 h_S_) main_v56 main_c_21
  let main_v58 : IVec S_ 1 := andi main_v53 main_v57
  let main_v59 : FVec F S1x1024 .f32 := Host.absf main_arg12
  let main_cst_22 : FVec F S_ .f32 := constant S_ .f32 0x7F800000#32
  let main_v60 : FVec F S1x1024 .f32 := broadcastInDim S1x1024 ![] bcast_S_S1x1024 main_cst_22
  let main_v61 : IVec S1x1024 1 := cmpf .olt main_v59 main_v60
  let main_c_23 : IVec S_ 1 := constantI S_ 1 1#1
  let main_v62 : IVec S_ 1 := (fun x v => Host.reduce IntOp.andi x v reducesTo_S1x1024_S_d0_1 h_S_) main_v61 main_c_23
  let main_v63 : IVec S_ 1 := andi main_v58 main_v62
  let main_v64 : FVec F S4096x1024 .f32 := Host.absf main_arg13
  let main_cst_24 : FVec F S_ .f32 := constant S_ .f32 0x7F800000#32
  let main_v65 : FVec F S4096x1024 .f32 := broadcastInDim S4096x1024 ![] bcast_S_S4096x1024 main_cst_24
  let main_v66 : IVec S4096x1024 1 := cmpf .olt main_v64 main_v65
  let main_c_25 : IVec S_ 1 := constantI S_ 1 1#1
  let main_v67 : IVec S_ 1 := (fun x v => Host.reduce IntOp.andi x v reducesTo_S4096x1024_S_d0_1 h_S_) main_v66 main_c_25
  fn_part4 (F := F) main_v63 main_v67

def fn_part2 {F : FTy → Type} [FloatOps F] (main_arg7 : FVec F S1x1024 .f32) (main_arg8 : FVec F S1024x5632 .f32) (main_arg9 : FVec F S3x2816 .f32) (main_arg10 : FVec F S1x2816 .f32) (main_arg11 : FVec F S2816x1024 .f32) (main_arg12 : FVec F S1x1024 .f32) (main_arg13 : FVec F S4096x1024 .f32) (main_v33 : IVec S_ 1) : IVec S_ 1 :=
  let main_v34 : FVec F S1x1024 .f32 := Host.absf main_arg7
  let main_cst_12 : FVec F S_ .f32 := constant S_ .f32 0x7F800000#32
  let main_v35 : FVec F S1x1024 .f32 := broadcastInDim S1x1024 ![] bcast_S_S1x1024 main_cst_12
  let main_v36 : IVec S1x1024 1 := cmpf .olt main_v34 main_v35
  let main_c_13 : IVec S_ 1 := constantI S_ 1 1#1
  let main_v37 : IVec S_ 1 := (fun x v => Host.reduce IntOp.andi x v reducesTo_S1x1024_S_d0_1 h_S_) main_v36 main_c_13
  let main_v38 : IVec S_ 1 := andi main_v33 main_v37
  let main_v39 : FVec F S1024x5632 .f32 := Host.absf main_arg8
  let main_cst_14 : FVec F S_ .f32 := constant S_ .f32 0x7F800000#32
  let main_v40 : FVec F S1024x5632 .f32 := broadcastInDim S1024x5632 ![] bcast_S_S1024x5632 main_cst_14
  let main_v41 : IVec S1024x5632 1 := cmpf .olt main_v39 main_v40
  let main_c_15 : IVec S_ 1 := constantI S_ 1 1#1
  let main_v42 : IVec S_ 1 := (fun x v => Host.reduce IntOp.andi x v reducesTo_S1024x5632_S_d0_1 h_S_) main_v41 main_c_15
  let main_v43 : IVec S_ 1 := andi main_v38 main_v42
  let main_v44 : FVec F S3x2816 .f32 := Host.absf main_arg9
  let main_cst_16 : FVec F S_ .f32 := constant S_ .f32 0x7F800000#32
  let main_v45 : FVec F S3x2816 .f32 := broadcastInDim S3x2816 ![] bcast_S_S3x2816 main_cst_16
  let main_v46 : IVec S3x2816 1 := cmpf .olt main_v44 main_v45
  let main_c_17 : IVec S_ 1 := constantI S_ 1 1#1
  let main_v47 : IVec S_ 1 := (fun x v => Host.reduce IntOp.andi x v reducesTo_S3x2816_S_d0_1 h_S_) main_v46 main_c_17
  let main_v48 : IVec S_ 1 := andi main_v43 main_v47
  let main_v49 : FVec F S1x2816 .f32 := Host.absf main_arg10
  let main_cst_18 : FVec F S_ .f32 := constant S_ .f32 0x7F800000#32
  let main_v50 : FVec F S1x2816 .f32 := broadcastInDim S1x2816 ![] bcast_S_S1x2816 main_cst_18
  fn_part3 (F := F) main_arg11 main_arg12 main_arg13 main_v48 main_v49 main_v50

def fn_part1 {F : FTy → Type} [FloatOps F] (main_arg4 : FVec F S1x512 .f32) (main_arg5 : FVec F S1x512 .f32) (main_arg6 : FVec F S1024x1024 .f32) (main_arg7 : FVec F S1x1024 .f32) (main_arg8 : FVec F S1024x5632 .f32) (main_arg9 : FVec F S3x2816 .f32) (main_arg10 : FVec F S1x2816 .f32) (main_arg11 : FVec F S2816x1024 .f32) (main_arg12 : FVec F S1x1024 .f32) (main_arg13 : FVec F S4096x1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S1x512 .f32 := Host.absf main_arg4
  let main_cst_6 : FVec F S_ .f32 := constant S_ .f32 0x7F800000#32
  let main_v20 : FVec F S1x512 .f32 := broadcastInDim S1x512 ![] bcast_S_S1x512 main_cst_6
  let main_v21 : IVec S1x512 1 := cmpf .olt main_v19 main_v20
  let main_c_7 : IVec S_ 1 := constantI S_ 1 1#1
  let main_v22 : IVec S_ 1 := (fun x v => Host.reduce IntOp.andi x v reducesTo_S1x512_S_d0_1 h_S_) main_v21 main_c_7
  let main_v23 : IVec S_ 1 := andi main_v18 main_v22
  let main_v24 : FVec F S1x512 .f32 := Host.absf main_arg5
  let main_cst_8 : FVec F S_ .f32 := constant S_ .f32 0x7F800000#32
  let main_v25 : FVec F S1x512 .f32 := broadcastInDim S1x512 ![] bcast_S_S1x512 main_cst_8
  let main_v26 : IVec S1x512 1 := cmpf .olt main_v24 main_v25
  let main_c_9 : IVec S_ 1 := constantI S_ 1 1#1
  let main_v27 : IVec S_ 1 := (fun x v => Host.reduce IntOp.andi x v reducesTo_S1x512_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S4096x512 .f32) (main_arg1 : FVec F S4096x512 .f32) (main_arg2 : FVec F S4096x2048 .f32) (main_arg3 : FVec F S4096x1024 .f32) (main_arg4 : FVec F S1x512 .f32) (main_arg5 : FVec F S1x512 .f32) (main_arg6 : FVec F S1024x1024 .f32) (main_arg7 : FVec F S1x1024 .f32) (main_arg8 : FVec F S1024x5632 .f32) (main_arg9 : FVec F S3x2816 .f32) (main_arg10 : FVec F S1x2816 .f32) (main_arg11 : FVec F S2816x1024 .f32) (main_arg12 : FVec F S1x1024 .f32) (main_arg13 : FVec F S4096x1024 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_arg8 main_arg9 main_arg10 main_arg11 main_arg12 main_arg13 main_v13 main_v16
-- ==== Kernel.lean ====
abbrev S4096x5632 : Shape := ⟨2, ![4096, 5632]⟩
abbrev S3x2816 : Shape := ⟨2, ![3, 2816]⟩
abbrev S1x2816 : Shape := ⟨2, ![1, 2816]⟩
abbrev S2816x1024 : Shape := ⟨2, ![2816, 1024]⟩
abbrev S4096x1024 : Shape := ⟨2, ![4096, 1024]⟩
abbrev S4096x2816 : Shape := ⟨2, ![4096, 2816]⟩
abbrev S_ : Shape := ⟨0, ![]⟩
abbrev S2x2816 : Shape := ⟨2, ![2, 2816]⟩
abbrev S4098x2816 : Shape := ⟨2, ![4098, 2816]⟩
abbrev S2816 : Shape := ⟨1, ![2816]⟩
abbrev S256x1024 : Shape := ⟨2, ![256, 1024]⟩
abbrev S256x2816 : Shape := ⟨2, ![256, 2816]⟩
abbrev S256x5632 : Shape := ⟨2, ![256, 5632]⟩
abbrev S8x2816 : Shape := ⟨2, ![8, 2816]⟩
abbrev S256x512 : Shape := ⟨2, ![256, 512]⟩
abbrev S512x1024 : Shape := ⟨2, ![512, 1024]⟩
abbrev S8x512 : Shape := ⟨2, ![8, 512]⟩
abbrev S512 : Shape := ⟨1, ![512]⟩
abbrev S1x512 : Shape := ⟨2, ![1, 512]⟩
abbrev S256x256 : Shape := ⟨2, ![256, 256]⟩
abbrev S8x256 : Shape := ⟨2, ![8, 256]⟩
abbrev S256 : Shape := ⟨1, ![256]⟩
abbrev S1x256 : Shape := ⟨2, ![1, 256]⟩

abbrev nBuf : Space → Nat
  | .hbm => 55
  | .vmem => 19
  | .smem => 0
  | _ => 0

abbrev bufTy : (tb : Table) → Fin (tcTables nBuf tb) → BufTy
  | .hbm, ⟨0, _⟩ => ⟨S4096x5632, .f32⟩
  | .hbm, ⟨1, _⟩ => ⟨S3x2816, .f32⟩
  | .hbm, ⟨2, _⟩ => ⟨S1x2816, .f32⟩
  | .hbm, ⟨3, _⟩ => ⟨S2816x1024, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S2x2816, .f32⟩
  | .hbm, ⟨9, _⟩ => ⟨S4098x2816, .f32⟩
  | .hbm, ⟨10, _⟩ => ⟨S1x2816, .f32⟩
  | .hbm, ⟨11, _⟩ => ⟨S2816, .f32⟩
  | .hbm, ⟨12, _⟩ => ⟨S4096x2816, .f32⟩
  | .hbm, ⟨13, _⟩ => ⟨S1x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S1x2816, .f32⟩
  | .hbm, ⟨19, _⟩ => ⟨S2816, .f32⟩
  | .hbm, ⟨20, _⟩ => ⟨S4096x2816, .f32⟩
  | .hbm, ⟨21, _⟩ => ⟨S1x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S1x2816, .f32⟩
  | .hbm, ⟨26, _⟩ => ⟨S2816, .f32⟩
  | .hbm, ⟨27, _⟩ => ⟨S4096x2816, .f32⟩
  | .hbm, ⟨28, _⟩ => ⟨S1x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S_, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .bf16⟩
  | .hbm, ⟨47, _⟩ => ⟨S4096x2816, .bf16⟩
  | .hbm, ⟨48, _⟩ => ⟨S4096x2816, .bf16⟩
  | .hbm, ⟨49, _⟩ => ⟨S4096x2816, .bf16⟩
  | .hbm, ⟨50, _⟩ => ⟨S2816x1024, .bf16⟩
  | .hbm, ⟨51, _⟩ => ⟨S4096x5632, .bf16⟩
  | .hbm, ⟨52, _⟩ => ⟨S3x2816, .f32⟩
  | .hbm, ⟨53, _⟩ => ⟨S1x2816, .f32⟩
  | .hbm, ⟨54, _⟩ => ⟨S2816x1024, .bf16⟩
  | .local _ .vmem, ⟨0, _⟩ => ⟨S256x1024, .f32⟩
  | .local _ .vmem, ⟨1, _⟩ => ⟨S256x1024, .f32⟩
  | .local _ .vmem, ⟨2, _⟩ => ⟨S256x2816, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S3x2816, .f32⟩
  | .local _ .vmem, ⟨11, _⟩ => ⟨S2816x1024, .bf16⟩
  | .local _ .vmem, ⟨12, _⟩ => ⟨S256x5632, .bf16⟩
  | .local _ .vmem, ⟨13, _⟩ => ⟨S256x5632, .bf16⟩
  | .local _ .vmem, ⟨14, _⟩ => ⟨S3x2816, .f32⟩
  | .local _ .vmem, ⟨15, _⟩ => ⟨S1x2816, .f32⟩
  | .local _ .vmem, ⟨16, _⟩ => ⟨S2816x1024, .bf16⟩
  | .local _ .vmem, ⟨17, _⟩ => ⟨S8x2816, .f32⟩
  | .local _ .vmem, ⟨18, _⟩ => ⟨S2816x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_0 : Ref sig .tc := ⟨.hbm, 32, rfl⟩
abbrev main_v26 : Ref sig .tc := ⟨.hbm, 33, rfl⟩
abbrev main_v27 : Ref sig .tc := ⟨.hbm, 34, rfl⟩
abbrev main_cst_1 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_2 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42_0 : Ref sig .tc := ⟨.hbm, 51, rfl⟩
abbrev main_v42_1 : Ref sig .tc := ⟨.hbm, 52, rfl⟩
abbrev main_v42_2 : Ref sig .tc := ⟨.hbm, 53, rfl⟩
abbrev main_v42_3 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v713 : BitVec 1 := Scalar.cmpi .eq arg0 c15_i32
  let v714 : BitVec 32 := Scalar.extui v713
  let c0_i32_381 : BitVec 32 := 0#32
  let v715 : BitVec 1 := Scalar.cmpi .ne v714 c0_i32_381
  v715

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F] [Named F]
def κ : String → Option EReal := fun
  | "inv_sqrt2" => some (((Real.sqrt 2)⁻¹ : ℝ) : EReal)
  | "inv_sqrt2pi" => some (((Real.sqrt (2 * Real.pi))⁻¹ : ℝ) : EReal)
  | "two_over_sqrt_pi" => some ((2 * (Real.sqrt Real.pi)⁻¹ : ℝ) : EReal)
  | _ => none
-- ==== ReferenceIdeal.lean ====
abbrev S4096x5632 : Shape := ⟨2, ![4096, 5632]⟩
abbrev S3x2816 : Shape := ⟨2, ![3, 2816]⟩
abbrev S1x2816 : Shape := ⟨2, ![1, 2816]⟩
abbrev S2816x1024 : Shape := ⟨2, ![2816, 1024]⟩
abbrev S4096x1024 : Shape := ⟨2, ![4096, 1024]⟩
abbrev S4096x2816 : Shape := ⟨2, ![4096, 2816]⟩
abbrev S2x2816 : Shape := ⟨2, ![2, 2816]⟩
abbrev S4098x2816 : Shape := ⟨2, ![4098, 2816]⟩
abbrev S2816 : Shape := ⟨1, ![2816]⟩
abbrev S1024x2816 : Shape := ⟨2, ![1024, 2816]⟩
abbrev S4097x2816 : Shape := ⟨2, ![4097, 2816]⟩

abbrev nBuf : Space → Nat
  | .hbm => 9
  | .vmem => 9
  | .smem => 0
  | _ => 0

abbrev bufTy : (tb : Table) → Fin (tcTables nBuf tb) → BufTy
  | .hbm, ⟨0, _⟩ => ⟨S4096x5632, .f32⟩
  | .hbm, ⟨1, _⟩ => ⟨S3x2816, .f32⟩
  | .hbm, ⟨2, _⟩ => ⟨S1x2816, .f32⟩
  | .hbm, ⟨3, _⟩ => ⟨S2816x1024, .f32⟩
  | .hbm, ⟨4, _⟩ => ⟨S4096x1024, .f32⟩
  | .hbm, ⟨5, _⟩ => ⟨S4096x5632, .bf16⟩
  | .hbm, ⟨6, _⟩ => ⟨S3x2816, .f32⟩
  | .hbm, ⟨7, _⟩ => ⟨S1x2816, .f32⟩
  | .hbm, ⟨8, _⟩ => ⟨S2816x1024, .bf16⟩
  | .local _ .vmem, ⟨0, _⟩ => ⟨S4096x5632, .f32⟩
  | .local _ .vmem, ⟨1, _⟩ => ⟨S3x2816, .f32⟩
  | .local _ .vmem, ⟨2, _⟩ => ⟨S1x2816, .f32⟩
  | .local _ .vmem, ⟨3, _⟩ => ⟨S2816x1024, .f32⟩
  | .local _ .vmem, ⟨4, _⟩ => ⟨S4096x1024, .f32⟩
  | .local _ .vmem, ⟨5, _⟩ => ⟨S4096x5632, .bf16⟩
  | .local _ .vmem, ⟨6, _⟩ => ⟨S3x2816, .f32⟩
  | .local _ .vmem, ⟨7, _⟩ => ⟨S1x2816, .f32⟩
  | .local _ .vmem, ⟨8, _⟩ => ⟨S2816x1024, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F] [Named F]

def κ : String → Option EReal := fun
  | "inv_sqrt2" => some (((Real.sqrt 2)⁻¹ : ℝ) : EReal)
  | "inv_sqrt2pi" => some (((Real.sqrt (2 * Real.pi))⁻¹ : ℝ) : EReal)
  | "two_over_sqrt_pi" => some ((2 * (Real.sqrt Real.pi)⁻¹ : ℝ) : EReal)
  | _ => none

abbrev grid0 : Pipeline.Grid := .none

abbrev stage0_0 : Fin 1 → Memref sig .tc .vmem S4096x5632 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2816x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Kernel2.lean ====
abbrev S4096x1024 : Shape := ⟨2, ![4096, 1024]⟩
abbrev S1x1024 : Shape := ⟨2, ![1, 1024]⟩
abbrev S1024x3584 : Shape := ⟨2, ![1024, 3584]⟩
abbrev S4096x3584 : Shape := ⟨2, ![4096, 3584]⟩
abbrev S1024x4x896 : Shape := ⟨3, ![1024, 4, 896]⟩
abbrev S4x1024x896 : Shape := ⟨3, ![4, 1024, 896]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x512 : Shape := ⟨2, ![4096, 512]⟩
abbrev S256x512 : Shape := ⟨2, ![256, 512]⟩
abbrev S256x1024 : Shape := ⟨2, ![256, 1024]⟩
abbrev S4 : Shape := ⟨1, ![4]⟩
abbrev S1 : Shape := ⟨1, ![1]⟩
abbrev S1024x896 : Shape := ⟨2, ![1024, 896]⟩
abbrev S1x1024x896 : Shape := ⟨3, ![1, 1024, 896]⟩
abbrev S8x128 : Shape := ⟨2, ![8, 128]⟩
abbrev S256x3584 : Shape := ⟨2, ![256, 3584]⟩
abbrev S256 : Shape := ⟨1, ![256]⟩
abbrev S256x1 : Shape := ⟨2, ![256, 1]⟩

abbrev nBuf : Space → Nat
  | .hbm => 37
  | .vmem => 27
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3584, .f32⟩
  | .hbm, ⟨3, _⟩ => ⟨S4096x1024, .f32⟩
  | .hbm, ⟨4, _⟩ => ⟨S4096x3584, .f32⟩
  | .hbm, ⟨5, _⟩ => ⟨S1024x4x896, .f32⟩
  | .hbm, ⟨6, _⟩ => ⟨S4x1024x896, .f32⟩
  | .hbm, ⟨7, _⟩ => ⟨S4x1024x896, .bf16⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | .hbm, ⟨26, _⟩ => ⟨S4096x3584, .bf16⟩
  | .hbm, ⟨27, _⟩ => ⟨S4096x512, .bf16⟩
  | .hbm, ⟨28, _⟩ => ⟨S4096x512, .bf16⟩
  | .hbm, ⟨29, _⟩ => ⟨S4096x512, .bf16⟩
  | .hbm, ⟨30, _⟩ => ⟨S4096x512, .bf16⟩
  | .hbm, ⟨31, _⟩ => ⟨S4096x512, .bf16⟩
  | .hbm, ⟨32, _⟩ => ⟨S4096x512, .bf16⟩
  | .hbm, ⟨33, _⟩ => ⟨S4096x512, .bf16⟩
  | .hbm, ⟨34, _⟩ => ⟨S4x1024x896, .bf16⟩
  | .hbm, ⟨35, _⟩ => ⟨S4096x1024, .f32⟩
  | .hbm, ⟨36, _⟩ => ⟨S1x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .f32⟩
  | .local _ .vmem, ⟨17, _⟩ => ⟨S256x1024, .f32⟩
  | .local _ .vmem, ⟨18, _⟩ => ⟨S1x1024, .f32⟩
  | .local _ .vmem, ⟨19, _⟩ => ⟨S256x1024, .f32⟩
  | .local _ .vmem, ⟨20, _⟩ => ⟨S256x1024, .f32⟩
  | .local _ .vmem, ⟨21, _⟩ => ⟨S4x1024x896, .bf16⟩
  | .local _ .vmem, ⟨22, _⟩ => ⟨S256x1024, .f32⟩
  | .local _ .vmem, ⟨23, _⟩ => ⟨S256x1024, .f32⟩
  | .local _ .vmem, ⟨24, _⟩ => ⟨S1x1024, .f32⟩
  | .local _ .vmem, ⟨25, _⟩ => ⟨S1024x3584, .bf16⟩
  | .local _ .vmem, ⟨26, _⟩ => ⟨S1024x3584, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26_0 : Ref sig .tc := ⟨.hbm, 34, rfl⟩
abbrev main_v26_1 : Ref sig .tc := ⟨.hbm, 35, rfl⟩
abbrev main_v26_2 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_scratch0 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem12_1 : DmaSem sig := 23
abbrev cc0_sem13_0 : DmaSem sig := 24

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v62 : BitVec 1 := Scalar.cmpi .eq arg0 c15_i32
  let v63 : BitVec 32 := Scalar.extui v62
  let c0_i32_41 : BitVec 32 := 0#32
  let v64 : BitVec 1 := Scalar.cmpi .ne v63 c0_i32_41
  v64

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S4x1024x896 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference2Ideal.lean ====
abbrev S4096x1024 : Shape := ⟨2, ![4096, 1024]⟩
abbrev S1x1024 : Shape := ⟨2, ![1, 1024]⟩
abbrev S1024x3584 : Shape := ⟨2, ![1024, 3584]⟩
abbrev S4096x3584 : Shape := ⟨2, ![4096, 3584]⟩
abbrev S1024 : Shape := ⟨1, ![1024]⟩
abbrev S_ : Shape := ⟨0, ![]⟩
abbrev S4096 : Shape := ⟨1, ![4096]⟩
abbrev S4096x1 : Shape := ⟨2, ![4096, 1]⟩
abbrev S3584x1024 : Shape := ⟨2, ![3584, 1024]⟩
abbrev S1024x4x896 : Shape := ⟨3, ![1024, 4, 896]⟩
abbrev S4x1024x896 : Shape := ⟨3, ![4, 1024, 896]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3584, .f32⟩
  | .hbm, ⟨3, _⟩ => ⟨S4096x1024, .f32⟩
  | .hbm, ⟨4, _⟩ => ⟨S4096x3584, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x3584, .f32⟩
  | .hbm, ⟨27, _⟩ => ⟨S3584x1024, .f32⟩
  | .hbm, ⟨28, _⟩ => ⟨S1024x3584, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S1x1024, .f32⟩
  | .hbm, ⟨57, _⟩ => ⟨S1024x4x896, .f32⟩
  | .hbm, ⟨58, _⟩ => ⟨S4x1024x896, .f32⟩
  | .hbm, ⟨59, _⟩ => ⟨S4x1024x896, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Kernel3.lean ====
abbrev S4096x1024 : Shape := ⟨2, ![4096, 1024]⟩
abbrev S4096x512 : Shape := ⟨2, ![4096, 512]⟩
abbrev S4096x2048 : Shape := ⟨2, ![4096, 2048]⟩
abbrev S1x512 : Shape := ⟨2, ![1, 512]⟩
abbrev S1024x1024 : Shape := ⟨2, ![1024, 1024]⟩
abbrev S1x1024 : Shape := ⟨2, ![1, 1024]⟩
abbrev S1024x5632 : Shape := ⟨2, ![1024, 5632]⟩
abbrev S4096x5632 : Shape := ⟨2, ![4096, 5632]⟩
abbrev S1024x4x1408 : Shape := ⟨3, ![1024, 4, 1408]⟩
abbrev S4x1024x1408 : Shape := ⟨3, ![4, 1024, 1408]⟩
abbrev S512 : Shape := ⟨1, ![512]⟩
abbrev S_ : Shape := ⟨0, ![]⟩
abbrev S4096 : Shape := ⟨1, ![4096]⟩
abbrev S4096x1 : Shape := ⟨2, ![4096, 1]⟩
abbrev S4096x4x128 : Shape := ⟨3, ![4096, 4, 128]⟩
abbrev S4x128 : Shape := ⟨2, ![4, 128]⟩
abbrev S4096x4 : Shape := ⟨2, ![4096, 4]⟩
abbrev S4096x4x1 : Shape := ⟨3, ![4096, 4, 1]⟩
abbrev S1x4x128 : Shape := ⟨3, ![1, 4, 128]⟩
abbrev S256x5632 : Shape := ⟨2, ![256, 5632]⟩
abbrev S256x1024 : Shape := ⟨2, ![256, 1024]⟩
abbrev S256x512 : Shape := ⟨2, ![256, 512]⟩
abbrev S4 : Shape := ⟨1, ![4]⟩
abbrev S1 : Shape := ⟨1, ![1]⟩
abbrev S1024x1408 : Shape := ⟨2, ![1024, 1408]⟩
abbrev S1x1024x1408 : Shape := ⟨3, ![1, 1024, 1408]⟩
abbrev S8x128 : Shape := ⟨2, ![8, 128]⟩
abbrev S256 : Shape := ⟨1, ![256]⟩
abbrev S256x1 : Shape := ⟨2, ![256, 1]⟩
abbrev S1024 : Shape := ⟨1, ![1024]⟩
abbrev S256x128 : Shape := ⟨2, ![256, 128]⟩

abbrev nBuf : Space → Nat
  | .hbm => 78
  | .vmem => 31
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x2048, .f32⟩
  | .hbm, ⟨4, _⟩ => ⟨S1x512, .f32⟩
  | .hbm, ⟨5, _⟩ => ⟨S1x512, .f32⟩
  | .hbm, ⟨6, _⟩ => ⟨S1024x1024, .f32⟩
  | .hbm, ⟨7, _⟩ => ⟨S1x1024, .f32⟩
  | .hbm, ⟨8, _⟩ => ⟨S1024x5632, .f32⟩
  | .hbm, ⟨9, _⟩ => ⟨S4096x1024, .f32⟩
  | .hbm, ⟨10, _⟩ => ⟨S4096x5632, .f32⟩
  | .hbm, ⟨11, _⟩ => ⟨S1024x4x1408, .f32⟩
  | .hbm, ⟨12, _⟩ => ⟨S4x1024x1408, .f32⟩
  | .hbm, ⟨13, _⟩ => ⟨S4x1024x1408, .bf16⟩
  | .hbm, ⟨14, _⟩ => ⟨S4096x512, .f32⟩
  | .hbm, ⟨15, _⟩ => ⟨S512, .f32⟩
  | .hbm, ⟨16, _⟩ => ⟨S4096x512, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x512, .f32⟩
  | .hbm, ⟨28, _⟩ => ⟨S4096x512, .f32⟩
  | .hbm, ⟨29, _⟩ => ⟨S1x512, .f32⟩
  | .hbm, ⟨30, _⟩ => ⟨S4096x512, .f32⟩
  | .hbm, ⟨31, _⟩ => ⟨S4096x512, .f32⟩
  | .hbm, ⟨32, _⟩ => ⟨S4096x4x128, .f32⟩
  | .hbm, ⟨33, _⟩ => ⟨S512, .f32⟩
  | .hbm, ⟨34, _⟩ => ⟨S4x128, .f32⟩
  | .hbm, ⟨35, _⟩ => ⟨S4096x4x128, .f32⟩
  | .hbm, ⟨36, _⟩ => ⟨S_, .f32⟩
  | .hbm, ⟨37, _⟩ => ⟨S4096x4, .f32⟩
  | .hbm, ⟨38, _⟩ => ⟨S4096x4x1, .f32⟩
  | .hbm, ⟨39, _⟩ => ⟨S_, .f32⟩
  | .hbm, ⟨40, _⟩ => ⟨S4096x4x1, .f32⟩
  | .hbm, ⟨41, _⟩ => ⟨S4096x4x1, .f32⟩
  | .hbm, ⟨42, _⟩ => ⟨S_, .f32⟩
  | .hbm, ⟨43, _⟩ => ⟨S4096x4x1, .f32⟩
  | .hbm, ⟨44, _⟩ => ⟨S4096x4x1, .f32⟩
  | .hbm, ⟨45, _⟩ => ⟨S4096x4x1, .f32⟩
  | .hbm, ⟨46, _⟩ => ⟨S4096x4x128, .f32⟩
  | .hbm, ⟨47, _⟩ => ⟨S4096x4x128, .f32⟩
  | .hbm, ⟨48, _⟩ => ⟨S1x4x128, .f32⟩
  | .hbm, ⟨49, _⟩ => ⟨S4096x4x128, .f32⟩
  | .hbm, ⟨50, _⟩ => ⟨S4096x4x128, .f32⟩
  | .hbm, ⟨51, _⟩ => ⟨S4096x4x128, .f32⟩
  | .hbm, ⟨52, _⟩ => ⟨S4096x4x128, .f32⟩
  | .hbm, ⟨53, _⟩ => ⟨S4096x4x128, .f32⟩
  | .hbm, ⟨54, _⟩ => ⟨S_, .f32⟩
  | .hbm, ⟨55, _⟩ => ⟨S4096x4x128, .f32⟩
  | .hbm, ⟨56, _⟩ => ⟨S4096x4x128, .f32⟩
  | .hbm, ⟨57, _⟩ => ⟨S_, .f32⟩
  | .hbm, ⟨58, _⟩ => ⟨S4096x4x128, .f32⟩
  | .hbm, ⟨59, _⟩ => ⟨S4096x4x128, .f32⟩
  | .hbm, ⟨60, _⟩ => ⟨S4096x4x128, .f32⟩
  | .hbm, ⟨61, _⟩ => ⟨S4096x4x128, .f32⟩
  | .hbm, ⟨62, _⟩ => ⟨S4096x512, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x5632, .bf16⟩
  | .hbm, ⟨67, _⟩ => ⟨S1024x1024, .bf16⟩
  | .hbm, ⟨68, _⟩ => ⟨S4096x1024, .bf16⟩
  | .hbm, ⟨69, _⟩ => ⟨S1x1024, .f32⟩
  | .hbm, ⟨70, _⟩ => ⟨S4096x1024, .f32⟩
  | .hbm, ⟨71, _⟩ => ⟨S1x1024, .f32⟩
  | .hbm, ⟨72, _⟩ => ⟨S4096x512, .f32⟩
  | .hbm, ⟨73, _⟩ => ⟨S4096x512, .f32⟩
  | .hbm, ⟨74, _⟩ => ⟨S4096x512, .bf16⟩
  | .hbm, ⟨75, _⟩ => ⟨S1x512, .f32⟩
  | .hbm, ⟨76, _⟩ => ⟨S1x512, .f32⟩
  | .hbm, ⟨77, _⟩ => ⟨S1024x1024, .bf16⟩
  | .local _ .vmem, ⟨0, _⟩ => ⟨S256x5632, .bf16⟩
  | .local _ .vmem, ⟨1, _⟩ => ⟨S256x5632, .bf16⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S1024x1024, .bf16⟩
  | .local _ .vmem, ⟨8, _⟩ => ⟨S256x1024, .bf16⟩
  | .local _ .vmem, ⟨9, _⟩ => ⟨S256x1024, .bf16⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S1x1024, .f32⟩
  | .local _ .vmem, ⟨17, _⟩ => ⟨S256x1024, .f32⟩
  | .local _ .vmem, ⟨18, _⟩ => ⟨S256x1024, .f32⟩
  | .local _ .vmem, ⟨19, _⟩ => ⟨S1x1024, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x512, .bf16⟩
  | .local _ .vmem, ⟨25, _⟩ => ⟨S256x512, .bf16⟩
  | .local _ .vmem, ⟨26, _⟩ => ⟨S1x512, .f32⟩
  | .local _ .vmem, ⟨27, _⟩ => ⟨S1x512, .f32⟩
  | .local _ .vmem, ⟨28, _⟩ => ⟨S1024x1024, .bf16⟩
  | .local _ .vmem, ⟨29, _⟩ => ⟨S1024x5632, .bf16⟩
  | .local _ .vmem, ⟨30, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45_0 : Ref sig .tc := ⟨.hbm, 70, rfl⟩
abbrev main_v45_1 : Ref sig .tc := ⟨.hbm, 71, rfl⟩
abbrev main_v45_2 : Ref sig .tc := ⟨.hbm, 72, rfl⟩
abbrev main_v45_3 : Ref sig .tc := ⟨.hbm, 73, rfl⟩
abbrev main_v45_4 : Ref sig .tc := ⟨.hbm, 74, rfl⟩
abbrev main_v45_5 : Ref sig .tc := ⟨.hbm, 75, rfl⟩
abbrev main_v45_6 : Ref sig .tc := ⟨.hbm, 76, rfl⟩
abbrev main_v45_7 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_scratch0 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem16_0 : DmaSem sig := 27
abbrev cc0_sem17_0 : DmaSem sig := 28

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v197 : BitVec 1 := Scalar.cmpi .eq arg0 c15_i32
  let v198 : BitVec 32 := Scalar.extui v197
  let c0_i32_84 : BitVec 32 := 0#32
  let v199 : BitVec 1 := Scalar.cmpi .ne v198 c0_i32_84
  v199

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference3Ideal.lean ====
abbrev S4096x1024 : Shape := ⟨2, ![4096, 1024]⟩
abbrev S4096x512 : Shape := ⟨2, ![4096, 512]⟩
abbrev S4096x2048 : Shape := ⟨2, ![4096, 2048]⟩
abbrev S1x512 : Shape := ⟨2, ![1, 512]⟩
abbrev S1024x1024 : Shape := ⟨2, ![1024, 1024]⟩
abbrev S1x1024 : Shape := ⟨2, ![1, 1024]⟩
abbrev S1024x5632 : Shape := ⟨2, ![1024, 5632]⟩
abbrev S4096x5632 : Shape := ⟨2, ![4096, 5632]⟩
abbrev S512 : Shape := ⟨1, ![512]⟩
abbrev S_ : Shape := ⟨0, ![]⟩
abbrev S4096 : Shape := ⟨1, ![4096]⟩
abbrev S4096x1 : Shape := ⟨2, ![4096, 1]⟩
abbrev S4096x4x128 : Shape := ⟨3, ![4096, 4, 128]⟩
abbrev S4x128 : Shape := ⟨2, ![4, 128]⟩
abbrev S4096x4 : Shape := ⟨2, ![4096, 4]⟩
abbrev S4096x4x1 : Shape := ⟨3, ![4096, 4, 1]⟩
abbrev S1x4x128 : Shape := ⟨3, ![1, 4, 128]⟩
abbrev S1024 : Shape := ⟨1, ![1024]⟩

abbrev nBuf : Space → Nat
  | .hbm => 195
  | .vmem => 0
  | .smem => 0
  | _ => 0

abbrev hbmTy0_0 (i : Nat) : BufTy := match i % 128 with
  | 0 => ⟨S4096x1024, .f32⟩
  | 1 => ⟨S4096x512, .f32⟩
  | 2 => ⟨S4096x512, .f32⟩
  | 3 => ⟨S4096x2048, .f32⟩
  | 4 => ⟨S1x512, .f32⟩
  | 5 => ⟨S1x512, .f32⟩
  | 6 => ⟨S1024x1024, .f32⟩
  | 7 => ⟨S1x1024, .f32⟩
  | 8 => ⟨S1024x5632, .f32⟩
  | 9 => ⟨S4096x1024, .f32⟩
  | 10 => ⟨S4096x5632, .f32⟩
  | 11 => ⟨S4096x512, .f32⟩
  | 12 => ⟨S512, .f32⟩
  | 13 => ⟨S4096x512, .f32⟩
  | 14 => ⟨S_, .f32⟩
  | 15 => ⟨S4096, .f32⟩
  | 16 => ⟨S4096x1, .f32⟩
  | 17 => ⟨S_, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x1, .f32⟩
  | 24 => ⟨S4096x1, .f32⟩
  | 25 => ⟨S_, .f32⟩
  | 26 => ⟨S4096x1, .f32⟩
  | 27 => ⟨S4096x1, .f32⟩
  | 28 => ⟨S4096x512, .f32⟩
  | 29 => ⟨S4096x512, .f32⟩
  | 30 => ⟨S1x512, .f32⟩
  | 31 => ⟨S4096x512, .f32⟩
  | 32 => ⟨S4096x512, .f32⟩
  | 33 => ⟨S4096x4x128, .f32⟩
  | 34 => ⟨S512, .f32⟩
  | 35 => ⟨S4x128, .f32⟩
  | 36 => ⟨S4096x4x128, .f32⟩
  | 37 => ⟨S_, .f32⟩
  | 38 => ⟨S4096x4, .f32⟩
  | 39 => ⟨S4096x4x1, .f32⟩
  | 40 => ⟨S_, .f32⟩
  | 41 => ⟨S4096x4x1, .f32⟩
  | 42 => ⟨S4096x4x1, .f32⟩
  | 43 => ⟨S_, .f32⟩
  | 44 => ⟨S4096x4x1, .f32⟩
  | 45 => ⟨S4096x4x1, .f32⟩
  | 46 => ⟨S4096x4x1, .f32⟩
  | 47 => ⟨S4096x4x1, .f32⟩
  | 48 => ⟨S_, .f32⟩
  | 49 => ⟨S4096x4x1, .f32⟩
  | 50 => ⟨S4096x4x1, .f32⟩
  | 51 => ⟨S4096x4x128, .f32⟩
  | 52 => ⟨S4096x4x128, .f32⟩
  | 53 => ⟨S1x4x128, .f32⟩
  | 54 => ⟨S4096x4x128, .f32⟩
  | 55 => ⟨S4096x4x128, .f32⟩
  | 56 => ⟨S4096x4x128, .f32⟩
  | 57 => ⟨S4096x4x128, .f32⟩
  | 58 => ⟨S4096x4x128, .f32⟩
  | 59 => ⟨S_, .f32⟩
  | 60 => ⟨S4096x4x128, .f32⟩
  | 61 => ⟨S4096x4x128, .f32⟩
  | 62 => ⟨S_, .f32⟩
  | 63 => ⟨S4096x4x128, .f32⟩
  | 64 => ⟨S4096x4x128, .f32⟩
  | 65 => ⟨S_, .f32⟩
  | 66 => ⟨S4096x4x128, .f32⟩
  | 67 => ⟨S4096x4x128, .f32⟩
  | 68 => ⟨S4096x4x128, .f32⟩
  | 69 => ⟨S4096x4x128, .f32⟩
  | 70 => ⟨S4096x4x128, .f32⟩
  | 71 => ⟨S4096x512, .f32⟩
  | 72 => ⟨S4096x1024, .f32⟩
  | 73 => ⟨S4096x1024, .f32⟩
  | 74 => ⟨S4096x1024, .f32⟩
  | 75 => ⟨S1024, .f32⟩
  | 76 => ⟨S4096x1024, .f32⟩
  | 77 => ⟨S_, .f32⟩
  | 78 => ⟨S4096, .f32⟩
  | 79 => ⟨S4096x1, .f32⟩
  | 80 => ⟨S_, .f32⟩
  | 81 => ⟨S4096x1, .f32⟩
  | 82 => ⟨S4096x1, .f32⟩
  | 83 => ⟨S_, .f32⟩
  | 84 => ⟨S4096x1, .f32⟩
  | 85 => ⟨S4096x1, .f32⟩
  | 86 => ⟨S4096x1, .f32⟩
  | 87 => ⟨S4096x1, .f32⟩
  | 88 => ⟨S_, .f32⟩
  | 89 => ⟨S4096x1, .f32⟩
  | 90 => ⟨S4096x1, .f32⟩
  | 91 => ⟨S4096x1024, .f32⟩
  | 92 => ⟨S4096x1024, .f32⟩
  | 93 => ⟨S1x1024, .f32⟩
  | 94 => ⟨S4096x1024, .f32⟩
  | 95 => ⟨S4096x1024, .f32⟩
  | 96 => ⟨S4096x5632, .f32⟩
  | 97 => ⟨S4096x1024, .f32⟩
  | 98 => ⟨S4096x1024, .f32⟩
  | 99 => ⟨S_, .f32⟩
  | 100 => ⟨S1024, .f32⟩
  | 101 => ⟨S1x1024, .f32⟩
  | 102 => ⟨S4096x1024, .f32⟩
  | 103 => ⟨S4096x1024, .f32⟩
  | 104 => ⟨S_, .f32⟩
  | 105 => ⟨S1024, .f32⟩
  | 106 => ⟨S4096x1024, .f32⟩
  | 107 => ⟨S_, .f32⟩
  | 108 => ⟨S4096, .f32⟩
  | 109 => ⟨S4096x1, .f32⟩
  | 110 => ⟨S4096x1024, .f32⟩
  | 111 => ⟨S4096x1024, .f32⟩
  | 112 => ⟨S4096x1024, .f32⟩
  | 113 => ⟨S4096x1, .f32⟩
  | 114 => ⟨S_, .f32⟩
  | 115 => ⟨S4096x1, .f32⟩
  | 116 => ⟨S4096x1, .f32⟩
  | 117 => ⟨S_, .f32⟩
  | 118 => ⟨S4096, .f32⟩
  | 119 => ⟨S4096x1024, .f32⟩
  | 120 => ⟨S4096x1024, .f32⟩
  | 121 => ⟨S4096x1024, .f32⟩
  | 122 => ⟨S4096x1024, .f32⟩
  | 123 => ⟨S4096x1024, .f32⟩
  | 124 => ⟨S1x1024, .f32⟩
  | 125 => ⟨S4096x1024, .f32⟩
  | 126 => ⟨S1024x1024, .f32⟩
  | 127 => ⟨S1024x1024, .f32⟩
  | _ => ⟨S4096x1024, .f32⟩

abbrev hbmTy0_1 (i : Nat) : BufTy := match i % 128 with
  | 0 => ⟨S4096x1024, .f32⟩
  | 1 => ⟨S4096x512, .f32⟩
  | 2 => ⟨S4096x512, .f32⟩
  | 3 => ⟨S4096x4x128, .f32⟩
  | 4 => ⟨S4096x4x128, .f32⟩
  | 5 => ⟨S4096x4x128, .f32⟩
  | 6 => ⟨S4096x4x128, .f32⟩
  | 7 => ⟨S4096x4x128, .f32⟩
  | 8 => ⟨S4096x4x128, .f32⟩
  | 9 => ⟨S4096x4x128, .f32⟩
  | 10 => ⟨S4096x512, .f32⟩
  | 11 => ⟨S4096x4x128, .f32⟩
  | 12 => ⟨S_, .f32⟩
  | 13 => ⟨S4x128, .f32⟩
  | 14 => ⟨S1x4x128, .f32⟩
  | 15 => ⟨S4096x4x128, .f32⟩
  | 16 => ⟨S4096x4x128, .f32⟩
  | 17 => ⟨S_, .f32⟩
  | 18 => ⟨S4x128, .f32⟩
  | 19 => ⟨S4096x4x128, .f32⟩
  | 20 => ⟨S_, .f32⟩
  | 21 => ⟨S4096x4, .f32⟩
  | 22 => ⟨S4096x4x1, .f32⟩
  | 23 => ⟨S4096x4x128, .f32⟩
  | 24 => ⟨S4096x4x128, .f32⟩
  | 25 => ⟨S4096x4x1, .f32⟩
  | 26 => ⟨S_, .f32⟩
  | 27 => ⟨S4096x4x1, .f32⟩
  | 28 => ⟨S4096x4x1, .f32⟩
  | 29 => ⟨S_, .f32⟩
  | 30 => ⟨S4096x4, .f32⟩
  | 31 => ⟨S4096x4x128, .f32⟩
  | 32 => ⟨S4096x4x128, .f32⟩
  | 33 => ⟨S4096x4x128, .f32⟩
  | 34 => ⟨S4096x4x128, .f32⟩
  | 35 => ⟨S4096x4x128, .f32⟩
  | 36 => ⟨S512, .f32⟩
  | 37 => ⟨S1x512, .f32⟩
  | 38 => ⟨S4096x512, .f32⟩
  | 39 => ⟨S4096x512, .f32⟩
  | 40 => ⟨S_, .f32⟩
  | 41 => ⟨S512, .f32⟩
  | 42 => ⟨S1x512, .f32⟩
  | 43 => ⟨S4096x512, .f32⟩
  | 44 => ⟨S4096x512, .f32⟩
  | 45 => ⟨S_, .f32⟩
  | 46 => ⟨S512, .f32⟩
  | 47 => ⟨S4096x512, .f32⟩
  | 48 => ⟨S_, .f32⟩
  | 49 => ⟨S4096, .f32⟩
  | 50 => ⟨S4096x1, .f32⟩
  | 51 => ⟨S4096x512, .f32⟩
  | 52 => ⟨S4096x512, .f32⟩
  | 53 => ⟨S4096x1, .f32⟩
  | 54 => ⟨S_, .f32⟩
  | 55 => ⟨S4096x1, .f32⟩
  | 56 => ⟨S4096x1, .f32⟩
  | 57 => ⟨S_, .f32⟩
  | 58 => ⟨S4096, .f32⟩
  | 59 => ⟨S4096x512, .f32⟩
  | 60 => ⟨S4096x512, .f32⟩
  | 61 => ⟨S4096x512, .f32⟩
  | 62 => ⟨S4096x512, .f32⟩
  | 63 => ⟨S4096x512, .f32⟩
  | 64 => ⟨S1x512, .f32⟩
  | 65 => ⟨S4096x512, .bf16⟩
  | 66 => ⟨S1024x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_v38_2 : Ref sig .tc := ⟨.hbm, 64, rfl⟩
abbrev main_call0_cst_1 : Ref sig .tc := ⟨.hbm, 65, rfl⟩
abbrev main_call0_v6 : Ref sig .tc := ⟨.hbm, 66, rfl⟩
abbrev main_call0_v7 : Ref sig .tc := ⟨.hbm, 67, rfl⟩
abbrev main_v38_1 : Ref sig .tc := ⟨.hbm, 68, rfl⟩
abbrev main_v38_0 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_7 : Ref sig .tc := ⟨.hbm, 77, rfl⟩
abbrev main_v46 : Ref sig .tc := ⟨.hbm, 78, rfl⟩
abbrev main_v47 : Ref sig .tc := ⟨.hbm, 79, rfl⟩
abbrev main_cst_8 : Ref sig .tc := ⟨.hbm, 80, rfl⟩
abbrev main_v48 : Ref sig .tc := ⟨.hbm, 81, rfl⟩
abbrev main_v49 : Ref sig .tc := ⟨.hbm, 82, rfl⟩
abbrev main_cst_9 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_10 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_11 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_12 : Ref sig .tc := ⟨.hbm, 104, rfl⟩
abbrev main_v68 : Ref sig .tc := ⟨.hbm, 105, rfl⟩
abbrev main_v69 : Ref sig .tc := ⟨.hbm, 106, rfl⟩
abbrev main_cst_13 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_14 : Ref sig .tc := ⟨.hbm, 114, rfl⟩
abbrev main_v76 : Ref sig .tc := ⟨.hbm, 115, rfl⟩
abbrev main_v77 : Ref sig .tc := ⟨.hbm, 116, rfl⟩
abbrev main_cst_15 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_call1_v0 : Ref sig .tc := ⟨.hbm, 134, rfl⟩
abbrev main_call1_v1 : Ref sig .tc := ⟨.hbm, 135, rfl⟩
abbrev main_call1_v2 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_cst_16 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_cst_17 : Ref sig .tc := ⟨.hbm, 145, rfl⟩
abbrev main_v101 : Ref sig .tc := ⟨.hbm, 146, rfl⟩
abbrev main_v102 : Ref sig .tc := ⟨.hbm, 147, rfl⟩
abbrev main_cst_18 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_cst_19 : Ref sig .tc := ⟨.hbm, 154, rfl⟩
abbrev main_v108 : Ref sig .tc := ⟨.hbm, 155, rfl⟩
abbrev main_v109 : Ref sig .tc := ⟨.hbm, 156, rfl⟩
abbrev main_cst_20 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_cst_21 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_cst_22 : Ref sig .tc := ⟨.hbm, 173, rfl⟩
abbrev main_v124 : Ref sig .tc := ⟨.hbm, 174, rfl⟩
abbrev main_v125 : Ref sig .tc := ⟨.hbm, 175, rfl⟩
abbrev main_cst_23 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_cst_24 : Ref sig .tc := ⟨.hbm, 182, rfl⟩
abbrev main_v131 : Ref sig .tc := ⟨.hbm, 183, rfl⟩
abbrev main_v132 : Ref sig .tc := ⟨.hbm, 184, rfl⟩
abbrev main_cst_25 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩

abbrev nD : Nat := 1
abbrev τ : Topo := Topo.v7x

variable {F : FTy → Type} [FloatOps F]
-- ==== Kernel4.lean ====
abbrev S2x512 : Shape := ⟨2, ![2, 512]⟩
abbrev S1x1024 : Shape := ⟨2, ![1, 1024]⟩
abbrev S1x512 : Shape := ⟨2, ![1, 512]⟩
abbrev S1x2816 : Shape := ⟨2, ![1, 2816]⟩
abbrev S3x2816 : Shape := ⟨2, ![3, 2816]⟩
abbrev S1x128 : Shape := ⟨2, ![1, 128]⟩
abbrev S_ : Shape := ⟨0, ![]⟩
abbrev S512 : Shape := ⟨1, ![512]⟩
abbrev S136x128 : Shape := ⟨2, ![136, 128]⟩

abbrev nBuf : Space → Nat
  | .hbm => 26
  | .vmem => 11
  | .smem => 0
  | _ => 0

abbrev bufTy : (tb : Table) → Fin (tcTables nBuf tb) → BufTy
  | .hbm, ⟨0, _⟩ => ⟨S2x512, .f32⟩
  | .hbm, ⟨1, _⟩ => ⟨S1x1024, .f32⟩
  | .hbm, ⟨2, _⟩ => ⟨S1x512, .f32⟩
  | .hbm, ⟨3, _⟩ => ⟨S1x512, .f32⟩
  | .hbm, ⟨4, _⟩ => ⟨S1x1024, .f32⟩
  | .hbm, ⟨5, _⟩ => ⟨S1x2816, .f32⟩
  | .hbm, ⟨6, _⟩ => ⟨S1x1024, .f32⟩
  | .hbm, ⟨7, _⟩ => ⟨S3x2816, .f32⟩
  | .hbm, ⟨8, _⟩ => ⟨S1x512, .f32⟩
  | .hbm, ⟨9, _⟩ => ⟨S1x128, .f32⟩
  | .hbm, ⟨10, _⟩ => ⟨S_, .f32⟩
  | .hbm, ⟨11, _⟩ => ⟨S512, .f32⟩
  | .hbm, ⟨12, _⟩ => ⟨S_, .f32⟩
  | .hbm, ⟨13, _⟩ => ⟨S512, .f32⟩
  | .hbm, ⟨14, _⟩ => ⟨S512, .f32⟩
  | .hbm, ⟨15, _⟩ => ⟨S1x512, .f32⟩
  | .hbm, ⟨16, _⟩ => ⟨S2x512, .f32⟩
  | .hbm, ⟨17, _⟩ => ⟨S2x512, .f32⟩
  | .hbm, ⟨18, _⟩ => ⟨S2x512, .f32⟩
  | .hbm, ⟨19, _⟩ => ⟨S_, .f32⟩
  | .hbm, ⟨20, _⟩ => ⟨S512, .f32⟩
  | .hbm, ⟨21, _⟩ => ⟨S1x512, .f32⟩
  | .hbm, ⟨22, _⟩ => ⟨S2x512, .f32⟩
  | .hbm, ⟨23, _⟩ => ⟨S2x512, .f32⟩
  | .hbm, ⟨24, _⟩ => ⟨S1x512, .f32⟩
  | .hbm, ⟨25, _⟩ => ⟨S136x128, .f32⟩
  | .local _ .vmem, ⟨0, _⟩ => ⟨S1x1024, .f32⟩
  | .local _ .vmem, ⟨1, _⟩ => ⟨S1x512, .f32⟩
  | .local _ .vmem, ⟨2, _⟩ => ⟨S1x512, .f32⟩
  | .local _ .vmem, ⟨3, _⟩ => ⟨S1x1024, .f32⟩
  | .local _ .vmem, ⟨4, _⟩ => ⟨S1x2816, .f32⟩
  | .local _ .vmem, ⟨5, _⟩ => ⟨S1x1024, .f32⟩
  | .local _ .vmem, ⟨6, _⟩ => ⟨S3x2816, .f32⟩
  | .local _ .vmem, ⟨7, _⟩ => ⟨S1x512, .f32⟩
  | .local _ .vmem, ⟨8, _⟩ => ⟨S1x512, .f32⟩
  | .local _ .vmem, ⟨9, _⟩ => ⟨S1x128, .f32⟩
  | .local _ .vmem, ⟨10, _⟩ => ⟨S136x128, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S136x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Reference4Ideal.lean ====
abbrev S2x512 : Shape := ⟨2, ![2, 512]⟩
abbrev S1x1024 : Shape := ⟨2, ![1, 1024]⟩
abbrev S1x512 : Shape := ⟨2, ![1, 512]⟩
abbrev S1x2816 : Shape := ⟨2, ![1, 2816]⟩
abbrev S3x2816 : Shape := ⟨2, ![3, 2816]⟩
abbrev S1x128 : Shape := ⟨2, ![1, 128]⟩
abbrev S_ : Shape := ⟨0, ![]⟩
abbrev S512 : Shape := ⟨1, ![512]⟩
abbrev S8x128 : Shape := ⟨2, ![8, 128]⟩
abbrev S4x128 : Shape := ⟨2, ![4, 128]⟩
abbrev S22x128 : Shape := ⟨2, ![22, 128]⟩
abbrev S66x128 : Shape := ⟨2, ![66, 128]⟩
abbrev S7x128 : Shape := ⟨2, ![7, 128]⟩
abbrev S136x128 : Shape := ⟨2, ![136, 128]⟩

abbrev nBuf : Space → Nat
  | .hbm => 85
  | .vmem => 0
  | .smem => 0
  | _ => 0

abbrev bufTy : (tb : Table) → Fin (tcTables nBuf tb) → BufTy
  | .hbm, ⟨0, _⟩ => ⟨S2x512, .f32⟩
  | .hbm, ⟨1, _⟩ => ⟨S1x1024, .f32⟩
  | .hbm, ⟨2, _⟩ => ⟨S1x512, .f32⟩
  | .hbm, ⟨3, _⟩ => ⟨S1x512, .f32⟩
  | .hbm, ⟨4, _⟩ => ⟨S1x1024, .f32⟩
  | .hbm, ⟨5, _⟩ => ⟨S1x2816, .f32⟩
  | .hbm, ⟨6, _⟩ => ⟨S1x1024, .f32⟩
  | .hbm, ⟨7, _⟩ => ⟨S3x2816, .f32⟩
  | .hbm, ⟨8, _⟩ => ⟨S1x512, .f32⟩
  | .hbm, ⟨9, _⟩ => ⟨S1x128, .f32⟩
  | .hbm, ⟨10, _⟩ => ⟨S_, .f32⟩
  | .hbm, ⟨11, _⟩ => ⟨S512, .f32⟩
  | .hbm, ⟨12, _⟩ => ⟨S1x512, .f32⟩
  | .hbm, ⟨13, _⟩ => ⟨S2x512, .f32⟩
  | .hbm, ⟨14, _⟩ => ⟨S2x512, .i1⟩
  | .hbm, ⟨15, _⟩ => ⟨S2x512, .f32⟩
  | .hbm, ⟨16, _⟩ => ⟨S_, .f32⟩
  | .hbm, ⟨17, _⟩ => ⟨S512, .f32⟩
  | .hbm, ⟨18, _⟩ => ⟨S_, .f32⟩
  | .hbm, ⟨19, _⟩ => ⟨S512, .f32⟩
  | .hbm, ⟨20, _⟩ => ⟨S512, .f32⟩
  | .hbm, ⟨21, _⟩ => ⟨S_, .f32⟩
  | .hbm, ⟨22, _⟩ => ⟨S512, .f32⟩
  | .hbm, ⟨23, _⟩ => ⟨S512, .i1⟩
  | .hbm, ⟨24, _⟩ => ⟨S_, .f32⟩
  | .hbm, ⟨25, _⟩ => ⟨S512, .f32⟩
  | .hbm, ⟨26, _⟩ => ⟨S512, .i1⟩
  | .hbm, ⟨27, _⟩ => ⟨S_, .f32⟩
  | .hbm, ⟨28, _⟩ => ⟨S512, .f32⟩
  | .hbm, ⟨29, _⟩ => ⟨S_, .f32⟩
  | .hbm, ⟨30, _⟩ => ⟨S512, .f32⟩
  | .hbm, ⟨31, _⟩ => ⟨S_, .f32⟩
  | .hbm, ⟨32, _⟩ => ⟨S512, .f32⟩
  | .hbm, ⟨33, _⟩ => ⟨S512, .f32⟩
  | .hbm, ⟨34, _⟩ => ⟨S512, .f32⟩
  | .hbm, ⟨35, _⟩ => ⟨S1x512, .f32⟩
  | .hbm, ⟨36, _⟩ => ⟨S2x512, .f32⟩
  | .hbm, ⟨37, _⟩ => ⟨S2x512, .f32⟩
  | .hbm, ⟨38, _⟩ => ⟨S2x512, .f32⟩
  | .hbm, ⟨39, _⟩ => ⟨S_, .f32⟩
  | .hbm, ⟨40, _⟩ => ⟨S512, .f32⟩
  | .hbm, ⟨41, _⟩ => ⟨S1x512, .f32⟩
  | .hbm, ⟨42, _⟩ => ⟨S2x512, .f32⟩
  | .hbm, ⟨43, _⟩ => ⟨S2x512, .f32⟩
  | .hbm, ⟨44, _⟩ => ⟨S1x512, .f32⟩
  | .hbm, ⟨45, _⟩ => ⟨S_, .f32⟩
  | .hbm, ⟨46, _⟩ => ⟨S1x512, .f32⟩
  | .hbm, ⟨47, _⟩ => ⟨S1x512, .f32⟩
  | .hbm, ⟨48, _⟩ => ⟨S_, .f32⟩
  | .hbm, ⟨49, _⟩ => ⟨S_, .f32⟩
  | .hbm, ⟨50, _⟩ => ⟨S2x512, .f32⟩
  | .hbm, ⟨51, _⟩ => ⟨S1x512, .f32⟩
  | .hbm, ⟨52, _⟩ => ⟨S512, .f32⟩
  | .hbm, ⟨53, _⟩ => ⟨S512, .f32⟩
  | .hbm, ⟨54, _⟩ => ⟨S1x512, .f32⟩
  | .hbm, ⟨55, _⟩ => ⟨S_, .f32⟩
  | .hbm, ⟨56, _⟩ => ⟨S2x512, .f32⟩
  | .hbm, ⟨57, _⟩ => ⟨S_, .f32⟩
  | .hbm, ⟨58, _⟩ => ⟨S_, .f32⟩
  | .hbm, ⟨59, _⟩ => ⟨S2x512, .f32⟩
  | .hbm, ⟨60, _⟩ => ⟨S2x512, .f32⟩
  | .hbm, ⟨61, _⟩ => ⟨S2x512, .f32⟩
  | .hbm, ⟨62, _⟩ => ⟨S2x512, .f32⟩
  | .hbm, ⟨63, _⟩ => ⟨S_, .f32⟩
  | .hbm, ⟨64, _⟩ => ⟨S512, .f32⟩
  | .hbm, ⟨65, _⟩ => ⟨S1x512, .f32⟩
  | .hbm, ⟨66, _⟩ => ⟨S1x512, .f32⟩
  | .hbm, ⟨67, _⟩ => ⟨S2x512, .f32⟩
  | .hbm, ⟨68, _⟩ => ⟨S2x512, .f32⟩
  | .hbm, ⟨69, _⟩ => ⟨S_, .f32⟩
  | .hbm, ⟨70, _⟩ => ⟨S512, .f32⟩
  | .hbm, ⟨71, _⟩ => ⟨S2x512, .f32⟩
  | .hbm, ⟨72, _⟩ => ⟨S2x512, .f32⟩
  | .hbm, ⟨73, _⟩ => ⟨S2x512, .f32⟩
  | .hbm, ⟨74, _⟩ => ⟨S8x128, .f32⟩
  | .hbm, ⟨75, _⟩ => ⟨S4x128, .f32⟩
  | .hbm, ⟨76, _⟩ => ⟨S4x128, .f32⟩
  | .hbm, ⟨77, _⟩ => ⟨S8x128, .f32⟩
  | .hbm, ⟨78, _⟩ => ⟨S8x128, .f32⟩
  | .hbm, ⟨79, _⟩ => ⟨S22x128, .f32⟩
  | .hbm, ⟨80, _⟩ => ⟨S8x128, .f32⟩
  | .hbm, ⟨81, _⟩ => ⟨S66x128, .f32⟩
  | .hbm, ⟨82, _⟩ => ⟨S_, .f32⟩
  | .hbm, ⟨83, _⟩ => ⟨S7x128, .f32⟩
  | .hbm, ⟨84, _⟩ => ⟨S136x128, .f32⟩
  | _, _ => ⟨S2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_cst_3 : Ref sig .tc := ⟨.hbm, 24, rfl⟩
abbrev main_v10 : Ref sig .tc := ⟨.hbm, 25, rfl⟩
abbrev main_v11 : Ref sig .tc := ⟨.hbm, 26, rfl⟩
abbrev main_cst_4 : Ref sig .tc := ⟨.hbm, 27, rfl⟩
abbrev main_v12 : Ref sig .tc := ⟨.hbm, 28, rfl⟩
abbrev main_cst_5 : Ref sig .tc := ⟨.hbm, 29, rfl⟩
abbrev main_v13 : Ref sig .tc := ⟨.hbm, 30, rfl⟩
abbrev main_cst_6 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_7 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_8 : Ref sig .tc := ⟨.hbm, 45, rfl⟩
abbrev main_v26 : Ref sig .tc := ⟨.hbm, 46, rfl⟩
abbrev main_v27 : Ref sig .tc := ⟨.hbm, 47, rfl⟩
abbrev main_call0_call0_cst : Ref sig .tc := ⟨.hbm, 48, rfl⟩
abbrev main_call0_call0_v0 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_9 : Ref sig .tc := ⟨.hbm, 55, rfl⟩
abbrev main_v33 : Ref sig .tc := ⟨.hbm, 56, rfl⟩
abbrev main_call1_call0_cst : Ref sig .tc := ⟨.hbm, 57, rfl⟩
abbrev main_call1_call0_v0 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_10 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_11 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_12 : Ref sig .tc := ⟨.hbm, 82, rfl⟩
abbrev main_v55 : Ref sig .tc := ⟨.hbm, 83, rfl⟩
abbrev main_v56 : Ref sig .tc := ⟨.hbm, 84, rfl⟩

abbrev nD : Nat := 1
abbrev τ : Topo := Topo.v7x

variable {F : FTy → Type} [FloatOps F]
-- ==== Kernel5.lean ====
abbrev S4096x512 : Shape := ⟨2, ![4096, 512]⟩
abbrev S4096x2048 : Shape := ⟨2, ![4096, 2048]⟩
abbrev S4096x1024 : Shape := ⟨2, ![4096, 1024]⟩
abbrev S1x512 : Shape := ⟨2, ![1, 512]⟩
abbrev S1024x1024 : Shape := ⟨2, ![1024, 1024]⟩
abbrev S1x1024 : Shape := ⟨2, ![1, 1024]⟩
abbrev S1024x5632 : Shape := ⟨2, ![1024, 5632]⟩
abbrev S3x2816 : Shape := ⟨2, ![3, 2816]⟩
abbrev S1x2816 : Shape := ⟨2, ![1, 2816]⟩
abbrev S2816x1024 : Shape := ⟨2, ![2816, 1024]⟩
abbrev S1024x4x1408 : Shape := ⟨3, ![1024, 4, 1408]⟩
abbrev S4x1024x1408 : Shape := ⟨3, ![4, 1024, 1408]⟩
abbrev S4096x2816 : Shape := ⟨2, ![4096, 2816]⟩
abbrev S1x128 : Shape := ⟨2, ![1, 128]⟩
abbrev S256x512 : Shape := ⟨2, ![256, 512]⟩
abbrev S256x1024 : Shape := ⟨2, ![256, 1024]⟩
abbrev S256x2816 : Shape := ⟨2, ![256, 2816]⟩
abbrev S8x2816 : Shape := ⟨2, ![8, 2816]⟩
abbrev S4 : Shape := ⟨1, ![4]⟩
abbrev S1 : Shape := ⟨1, ![1]⟩
abbrev S_ : Shape := ⟨0, ![]⟩
abbrev S1024x1408 : Shape := ⟨2, ![1024, 1408]⟩
abbrev S1x1024x1408 : Shape := ⟨3, ![1, 1024, 1408]⟩
abbrev S8x128 : Shape := ⟨2, ![8, 128]⟩
abbrev S256 : Shape := ⟨1, ![256]⟩
abbrev S256x1 : Shape := ⟨2, ![256, 1]⟩
abbrev S256x128 : Shape := ⟨2, ![256, 128]⟩
abbrev S256x1536 : Shape := ⟨2, ![256, 1536]⟩
abbrev S1024x1536 : Shape := ⟨2, ![1024, 1536]⟩
abbrev S8x1536 : Shape := ⟨2, ![8, 1536]⟩
abbrev S1536 : Shape := ⟨1, ![1536]⟩
abbrev S1x1536 : Shape := ⟨2, ![1, 1536]⟩
abbrev S1536x1024 : Shape := ⟨2, ![1536, 1024]⟩
abbrev S256x1280 : Shape := ⟨2, ![256, 1280]⟩
abbrev S1024x1280 : Shape := ⟨2, ![1024, 1280]⟩
abbrev S8x1280 : Shape := ⟨2, ![8, 1280]⟩
abbrev S1280 : Shape := ⟨1, ![1280]⟩
abbrev S1x1280 : Shape := ⟨2, ![1, 1280]⟩
abbrev S1280x1024 : Shape := ⟨2, ![1280, 1024]⟩
abbrev S1x256x1024 : Shape := ⟨3, ![1, 256, 1024]⟩
abbrev S1x1x1 : Shape := ⟨3, ![1, 1, 1]⟩
abbrev S1024 : Shape := ⟨1, ![1024]⟩

abbrev nBuf : Space → Nat
  | .hbm => 29
  | .vmem => 38
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x2048, .f32⟩
  | .hbm, ⟨3, _⟩ => ⟨S4096x1024, .f32⟩
  | .hbm, ⟨4, _⟩ => ⟨S1x512, .f32⟩
  | .hbm, ⟨5, _⟩ => ⟨S1x512, .f32⟩
  | .hbm, ⟨6, _⟩ => ⟨S1024x1024, .f32⟩
  | .hbm, ⟨7, _⟩ => ⟨S1x1024, .f32⟩
  | .hbm, ⟨8, _⟩ => ⟨S1024x5632, .f32⟩
  | .hbm, ⟨9, _⟩ => ⟨S3x2816, .f32⟩
  | .hbm, ⟨10, _⟩ => ⟨S1x2816, .f32⟩
  | .hbm, ⟨11, _⟩ => ⟨S2816x1024, .f32⟩
  | .hbm, ⟨12, _⟩ => ⟨S1x1024, .f32⟩
  | .hbm, ⟨13, _⟩ => ⟨S4096x1024, .f32⟩
  | .hbm, ⟨14, _⟩ => ⟨S1024x4x1408, .f32⟩
  | .hbm, ⟨15, _⟩ => ⟨S4x1024x1408, .f32⟩
  | .hbm, ⟨16, _⟩ => ⟨S4x1024x1408, .bf16⟩
  | .hbm, ⟨17, _⟩ => ⟨S1024x1024, .bf16⟩
  | .hbm, ⟨18, _⟩ => ⟨S2816x1024, .bf16⟩
  | .hbm, ⟨19, _⟩ => ⟨S4096x1024, .f32⟩
  | .hbm, ⟨20, _⟩ => ⟨S4096x1024, .bf16⟩
  | .hbm, ⟨21, _⟩ => ⟨S4096x1024, .bf16⟩
  | .hbm, ⟨22, _⟩ => ⟨S4096x2816, .bf16⟩
  | .hbm, ⟨23, _⟩ => ⟨S4096x2816, .bf16⟩
  | .hbm, ⟨24, _⟩ => ⟨S4096x2816, .bf16⟩
  | .hbm, ⟨25, _⟩ => ⟨S4096x2816, .bf16⟩
  | .hbm, ⟨26, _⟩ => ⟨S4096x1024, .f32⟩
  | .hbm, ⟨27, _⟩ => ⟨S1x128, .f32⟩
  | .hbm, ⟨28, _⟩ => ⟨S1x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x1024, .f32⟩
  | .local _ .vmem, ⟨7, _⟩ => ⟨S256x1024, .f32⟩
  | .local _ .vmem, ⟨8, _⟩ => ⟨S1x512, .f32⟩
  | .local _ .vmem, ⟨9, _⟩ => ⟨S1x512, .f32⟩
  | .local _ .vmem, ⟨10, _⟩ => ⟨S1024x1024, .bf16⟩
  | .local _ .vmem, ⟨11, _⟩ => ⟨S1x1024, .f32⟩
  | .local _ .vmem, ⟨12, _⟩ => ⟨S3x2816, .f32⟩
  | .local _ .vmem, ⟨13, _⟩ => ⟨S1x2816, .f32⟩
  | .local _ .vmem, ⟨14, _⟩ => ⟨S2816x1024, .bf16⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x2816, .bf16⟩
  | .local _ .vmem, ⟨25, _⟩ => ⟨S256x2816, .bf16⟩
  | .local _ .vmem, ⟨26, _⟩ => ⟨S256x2816, .bf16⟩
  | .local _ .vmem, ⟨27, _⟩ => ⟨S256x2816, .bf16⟩
  | .local _ .vmem, ⟨28, _⟩ => ⟨S256x2816, .bf16⟩
  | .local _ .vmem, ⟨29, _⟩ => ⟨S256x2816, .bf16⟩
  | .local _ .vmem, ⟨30, _⟩ => ⟨S256x2816, .bf16⟩
  | .local _ .vmem, ⟨31, _⟩ => ⟨S256x2816, .bf16⟩
  | .local _ .vmem, ⟨32, _⟩ => ⟨S256x1024, .f32⟩
  | .local _ .vmem, ⟨33, _⟩ => ⟨S256x1024, .f32⟩
  | .local _ .vmem, ⟨34, _⟩ => ⟨S1x128, .f32⟩
  | .local _ .vmem, ⟨35, _⟩ => ⟨S1x1024, .f32⟩
  | .local _ .vmem, ⟨36, _⟩ => ⟨S8x2816, .f32⟩
  | .local _ .vmem, ⟨37, _⟩ => ⟨S1024x5632, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5_0 : Ref sig .tc := ⟨.hbm, 19, rfl⟩
abbrev main_v5_1 : Ref sig .tc := ⟨.hbm, 20, rfl⟩
abbrev main_v5_2 : Ref sig .tc := ⟨.hbm, 21, rfl⟩
abbrev main_v5_3 : Ref sig .tc := ⟨.hbm, 22, rfl⟩
abbrev main_v5_4 : Ref sig .tc := ⟨.hbm, 23, rfl⟩
abbrev main_v5_5 : Ref sig .tc := ⟨.hbm, 24, rfl⟩
abbrev main_v5_6 : Ref sig .tc := ⟨.hbm, 25, rfl⟩
abbrev main_v5_7 : Ref sig .tc := ⟨.hbm, 26, rfl⟩
abbrev main_v5_8 : Ref sig .tc := ⟨.hbm, 27, rfl⟩
abbrev main_v5_9 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg22_0 : Ref sig .tc := ⟨.vmem, 35, rfl⟩
abbrev cc0_scratch0 : Ref sig .tc := ⟨.vmem, 36, rfl⟩
abbrev cc0_scratch1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem22_0 : DmaSem sig := 35

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x2816 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x2816 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x2816 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x2816 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== Kernel5Ideal.lean ====
variable {F : FTy → Type} [FloatOps F] [Named F]
def κ : String → Option EReal := fun
  | "inv_sqrt2" => some (((Real.sqrt 2)⁻¹ : ℝ) : EReal)
  | "inv_sqrt2pi" => some (((Real.sqrt (2 * Real.pi))⁻¹ : ℝ) : EReal)
  | "two_over_sqrt_pi" => some ((2 * (Real.sqrt Real.pi)⁻¹ : ℝ) : EReal)
  | _ => none
-- ==== Reference5Ideal.lean ====
abbrev S4096x512 : Shape := ⟨2, ![4096, 512]⟩
abbrev S4096x2048 : Shape := ⟨2, ![4096, 2048]⟩
abbrev S4096x1024 : Shape := ⟨2, ![4096, 1024]⟩
abbrev S1x512 : Shape := ⟨2, ![1, 512]⟩
abbrev S1024x1024 : Shape := ⟨2, ![1024, 1024]⟩
abbrev S1x1024 : Shape := ⟨2, ![1, 1024]⟩
abbrev S1024x5632 : Shape := ⟨2, ![1024, 5632]⟩
abbrev S3x2816 : Shape := ⟨2, ![3, 2816]⟩
abbrev S1x2816 : Shape := ⟨2, ![1, 2816]⟩
abbrev S2816x1024 : Shape := ⟨2, ![2816, 1024]⟩
abbrev S512 : Shape := ⟨1, ![512]⟩
abbrev S_ : Shape := ⟨0, ![]⟩
abbrev S4096 : Shape := ⟨1, ![4096]⟩
abbrev S4096x1 : Shape := ⟨2, ![4096, 1]⟩
abbrev S4096x4x128 : Shape := ⟨3, ![4096, 4, 128]⟩
abbrev S4x128 : Shape := ⟨2, ![4, 128]⟩
abbrev S4096x4 : Shape := ⟨2, ![4096, 4]⟩
abbrev S4096x4x1 : Shape := ⟨3, ![4096, 4, 1]⟩
abbrev S1x4x128 : Shape := ⟨3, ![1, 4, 128]⟩
abbrev S1024 : Shape := ⟨1, ![1024]⟩
abbrev S4096x5632 : Shape := ⟨2, ![4096, 5632]⟩
abbrev S4096x2816 : Shape := ⟨2, ![4096, 2816]⟩
abbrev S4098x2816 : Shape := ⟨2, ![4098, 2816]⟩
abbrev S2816 : Shape := ⟨1, ![2816]⟩
abbrev S1x128 : Shape := ⟨2, ![1, 128]⟩

abbrev nBuf : Space → Nat
  | .hbm => 206
  | .vmem => 0
  | .smem => 0
  | _ => 0

abbrev hbmTy0_0 (i : Nat) : BufTy := match i % 128 with
  | 0 => ⟨S4096x512, .f32⟩
  | 1 => ⟨S4096x512, .f32⟩
  | 2 => ⟨S4096x2048, .f32⟩
  | 3 => ⟨S4096x1024, .f32⟩
  | 4 => ⟨S1x512, .f32⟩
  | 5 => ⟨S1x512, .f32⟩
  | 6 => ⟨S1024x1024, .f32⟩
  | 7 => ⟨S1x1024, .f32⟩
  | 8 => ⟨S1024x5632, .f32⟩
  | 9 => ⟨S3x2816, .f32⟩
  | 10 => ⟨S1x2816, .f32⟩
  | 11 => ⟨S2816x1024, .f32⟩
  | 12 => ⟨S1x1024, .f32⟩
  | 13 => ⟨S4096x1024, .f32⟩
  | 14 => ⟨S4096x512, .f32⟩
  | 15 => ⟨S512, .f32⟩
  | 16 => ⟨S4096x512, .f32⟩
  | 17 => ⟨S_, .f32⟩
  | 18 => ⟨S4096, .f32⟩
  | 19 => ⟨S4096x1, .f32⟩
  | 20 => ⟨S_, .f32⟩
  | 21 => ⟨S4096x1, .f32⟩
  | 22 => ⟨S4096x1, .f32⟩
  | 23 => ⟨S_, .f32⟩
  | 24 => ⟨S4096x1, .f32⟩
  | 25 => ⟨S4096x1, .f32⟩
  | 26 => ⟨S4096x1, .f32⟩
  | 27 => ⟨S4096x512, .f32⟩
  | 28 => ⟨S4096x512, .f32⟩
  | 29 => ⟨S1x512, .f32⟩
  | 30 => ⟨S4096x512, .f32⟩
  | 31 => ⟨S4096x512, .f32⟩
  | 32 => ⟨S4096x4x128, .f32⟩
  | 33 => ⟨S512, .f32⟩
  | 34 => ⟨S4x128, .f32⟩
  | 35 => ⟨S4096x4x128, .f32⟩
  | 36 => ⟨S_, .f32⟩
  | 37 => ⟨S4096x4, .f32⟩
  | 38 => ⟨S4096x4x1, .f32⟩
  | 39 => ⟨S_, .f32⟩
  | 40 => ⟨S4096x4x1, .f32⟩
  | 41 => ⟨S4096x4x1, .f32⟩
  | 42 => ⟨S_, .f32⟩
  | 43 => ⟨S4096x4x1, .f32⟩
  | 44 => ⟨S4096x4x1, .f32⟩
  | 45 => ⟨S4096x4x1, .f32⟩
  | 46 => ⟨S4096x4x128, .f32⟩
  | 47 => ⟨S4096x4x128, .f32⟩
  | 48 => ⟨S1x4x128, .f32⟩
  | 49 => ⟨S4096x4x128, .f32⟩
  | 50 => ⟨S4096x4x128, .f32⟩
  | 51 => ⟨S4096x4x128, .f32⟩
  | 52 => ⟨S4096x4x128, .f32⟩
  | 53 => ⟨S4096x4x128, .f32⟩
  | 54 => ⟨S_, .f32⟩
  | 55 => ⟨S4096x4x128, .f32⟩
  | 56 => ⟨S4096x4x128, .f32⟩
  | 57 => ⟨S_, .f32⟩
  | 58 => ⟨S4096x4x128, .f32⟩
  | 59 => ⟨S4096x4x128, .f32⟩
  | 60 => ⟨S4096x4x128, .f32⟩
  | 61 => ⟨S4096x4x128, .f32⟩
  | 62 => ⟨S4096x512, .f32⟩
  | 63 => ⟨S4096x1024, .f32⟩
  | 64 => ⟨S4096x1024, .f32⟩
  | 65 => ⟨S4096x1024, .f32⟩
  | 66 => ⟨S1024, .f32⟩
  | 67 => ⟨S4096x1024, .f32⟩
  | 68 => ⟨S_, .f32⟩
  | 69 => ⟨S4096, .f32⟩
  | 70 => ⟨S4096x1, .f32⟩
  | 71 => ⟨S_, .f32⟩
  | 72 => ⟨S4096x1, .f32⟩
  | 73 => ⟨S4096x1, .f32⟩
  | 74 => ⟨S_, .f32⟩
  | 75 => ⟨S4096x1, .f32⟩
  | 76 => ⟨S4096x1, .f32⟩
  | 77 => ⟨S4096x1, .f32⟩
  | 78 => ⟨S4096x1024, .f32⟩
  | 79 => ⟨S4096x1024, .f32⟩
  | 80 => ⟨S1x1024, .f32⟩
  | 81 => ⟨S4096x1024, .f32⟩
  | 82 => ⟨S4096x1024, .f32⟩
  | 83 => ⟨S4096x5632, .f32⟩
  | 84 => ⟨S4096x2816, .f32⟩
  | 85 => ⟨S4096x2816, .f32⟩
  | 86 => ⟨S_, .i32⟩
  | 87 => ⟨S_, .f32⟩
  | 88 => ⟨S4098x2816, .f32⟩
  | 89 => ⟨S2816, .f32⟩
  | 90 => ⟨S1x2816, .f32⟩
  | 91 => ⟨S2816, .f32⟩
  | 92 => ⟨S4096x2816, .f32⟩
  | 93 => ⟨S1x2816, .f32⟩
  | 94 => ⟨S4096x2816, .f32⟩
  | 95 => ⟨S4096x2816, .f32⟩
  | 96 => ⟨S1x2816, .f32⟩
  | 97 => ⟨S4096x2816, .f32⟩
  | 98 => ⟨S4096x2816, .f32⟩
  | 99 => ⟨S1x2816, .f32⟩
  | 100 => ⟨S2816, .f32⟩
  | 101 => ⟨S4096x2816, .f32⟩
  | 102 => ⟨S1x2816, .f32⟩
  | 103 => ⟨S4096x2816, .f32⟩
  | 104 => ⟨S4096x2816, .f32⟩
  | 105 => ⟨S4096x2816, .f32⟩
  | 106 => ⟨S1x2816, .f32⟩
  | 107 => ⟨S2816, .f32⟩
  | 108 => ⟨S4096x2816, .f32⟩
  | 109 => ⟨S1x2816, .f32⟩
  | 110 => ⟨S4096x2816, .f32⟩
  | 111 => ⟨S4096x2816, .f32⟩
  | 112 => ⟨S4096x2816, .f32⟩
  | 113 => ⟨S_, .f32⟩
  | 114 => ⟨S4096x2816, .f32⟩
  | 115 => ⟨S4096x2816, .f32⟩
  | 116 => ⟨S_, .f32⟩
  | 117 => ⟨S_, .f32⟩
  | 118 => ⟨S_, .f32⟩
  | 119 => ⟨S4096x2816, .f32⟩
  | 120 => ⟨S4096x2816, .f32⟩
  | 121 => ⟨S4096x2816, .f32⟩
  | 122 => ⟨S_, .f32⟩
  | 123 => ⟨S4096x2816, .f32⟩
  | 124 => ⟨S4096x2816, .f32⟩
  | 125 => ⟨S4096x2816, .f32⟩
  | 126 => ⟨S4096x2816, .f32⟩
  | 127 => ⟨S4096x1024, .f32⟩
  | _ => ⟨S4096x512, .f32⟩

abbrev hbmTy0_1 (i : Nat) : BufTy := match i % 128 with
  | 0 => ⟨S4096x1024, .f32⟩
  | 1 => ⟨S1024, .f32⟩
  | 2 => ⟨S4096x1024, .f32⟩
  | 3 => ⟨S_, .f32⟩
  | 4 => ⟨S4096, .f32⟩
  | 5 => ⟨S4096x1, .f32⟩
  | 6 => ⟨S_, .f32⟩
  | 7 => ⟨S4096x1, .f32⟩
  | 8 => ⟨S4096x1, .f32⟩
  | 9 => ⟨S_, .f32⟩
  | 10 => ⟨S4096x1, .f32⟩
  | 11 => ⟨S4096x1, .f32⟩
  | 12 => ⟨S4096x1, .f32⟩
  | 13 => ⟨S4096x1, .f32⟩
  | 14 => ⟨S_, .f32⟩
  | 15 => ⟨S4096x1, .f32⟩
  | 16 => ⟨S4096x1, .f32⟩
  | 17 => ⟨S4096x1024, .f32⟩
  | 18 => ⟨S4096x1024, .f32⟩
  | 19 => ⟨S1x1024, .f32⟩
  | 20 => ⟨S4096x1024, .f32⟩
  | 21 => ⟨S4096x1024, .f32⟩
  | 22 => ⟨S4096x1024, .f32⟩
  | 23 => ⟨S4096x1024, .f32⟩
  | 24 => ⟨S_, .f32⟩
  | 25 => ⟨S4096x1024, .f32⟩
  | 26 => ⟨S4096x1024, .f32⟩
  | 27 => ⟨S_, .f32⟩
  | 28 => ⟨S4096, .f32⟩
  | 29 => ⟨S_, .f32⟩
  | 30 => ⟨S4096, .f32⟩
  | 31 => ⟨S4096, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S4096, .f32⟩
  | 40 => ⟨S_, .f32⟩
  | 41 => ⟨S4096, .f32⟩
  | 42 => ⟨S4096, .f32⟩
  | 43 => ⟨S4096x1024, .f32⟩
  | 44 => ⟨S4096x1024, .f32⟩
  | 45 => ⟨S4096x1024, .f32⟩
  | 46 => ⟨S_, .f32⟩
  | 47 => ⟨S1024, .f32⟩
  | 48 => ⟨S1x1024, .f32⟩
  | 49 => ⟨S4096x1024, .f32⟩
  | 50 => ⟨S4096x1024, .f32⟩
  | 51 => ⟨S_, .f32⟩
  | 52 => ⟨S1024, .f32⟩
  | 53 => ⟨S4096x1024, .f32⟩
  | 54 => ⟨S_, .f32⟩
  | 55 => ⟨S4096, .f32⟩
  | 56 => ⟨S4096x1, .f32⟩
  | 57 => ⟨S4096x1024, .f32⟩
  | 58 => ⟨S4096x1024, .f32⟩
  | 59 => ⟨S4096x1, .f32⟩
  | 60 => ⟨S_, .f32⟩
  | 61 => ⟨S4096x1, .f32⟩
  | 62 => ⟨S4096x1, .f32⟩
  | 63 => ⟨S_, .f32⟩
  | 64 => ⟨S4096, .f32⟩
  | 65 => ⟨S4096x1024, .f32⟩
  | 66 => ⟨S4096x1024, .f32⟩
  | 67 => ⟨S4096x1024, .f32⟩
  | 68 => ⟨S4096x1024, .f32⟩
  | 69 => ⟨S4096x1024, .f32⟩
  | 70 => ⟨S1x1024, .f32⟩
  | 71 => ⟨S4096x1024, .bf16⟩
  | 72 => ⟨S4096x1024, .bf16⟩
  | 73 => ⟨S4096x2816, .bf16⟩
  | 74 => ⟨S4096x2816, .bf16⟩
  | 75 => ⟨S4096x2816, .bf16⟩
  | 76 => ⟨S4096x2816, .bf16⟩
  | 77 => ⟨S1x128, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_5 : Ref sig .tc := ⟨.hbm, 68, rfl⟩
abbrev main_v40 : Ref sig .tc := ⟨.hbm, 69, rfl⟩
abbrev main_v41 : Ref sig .tc := ⟨.hbm, 70, rfl⟩
abbrev main_cst_6 : Ref sig .tc := ⟨.hbm, 71, rfl⟩
abbrev main_v42 : Ref sig .tc := ⟨.hbm, 72, rfl⟩
abbrev main_v43 : Ref sig .tc := ⟨.hbm, 73, rfl⟩
abbrev main_cst_7 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_c : Ref sig .tc := ⟨.hbm, 86, rfl⟩
abbrev main_call1_v0 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_8 : Ref sig .tc := ⟨.hbm, 113, rfl⟩
abbrev main_v80 : Ref sig .tc := ⟨.hbm, 114, rfl⟩
abbrev main_v81 : Ref sig .tc := ⟨.hbm, 115, rfl⟩
abbrev main_cst_9 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_10 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_11 : Ref sig .tc := ⟨.hbm, 131, rfl⟩
abbrev main_v95 : Ref sig .tc := ⟨.hbm, 132, rfl⟩
abbrev main_v96 : Ref sig .tc := ⟨.hbm, 133, rfl⟩
abbrev main_cst_12 : Ref sig .tc := ⟨.hbm, 134, rfl⟩
abbrev main_v97 : Ref sig .tc := ⟨.hbm, 135, rfl⟩
abbrev main_v98 : Ref sig .tc := ⟨.hbm, 136, rfl⟩
abbrev main_cst_13 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_cst_14 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_cst_15 : Ref sig .tc := ⟨.hbm, 152, rfl⟩
abbrev main_v112 : Ref sig .tc := ⟨.hbm, 153, rfl⟩
abbrev main_v113 : Ref sig .tc := ⟨.hbm, 154, rfl⟩
abbrev main_cst_16 : Ref sig .tc := ⟨.hbm, 155, rfl⟩
abbrev main_v114 : Ref sig .tc := ⟨.hbm, 156, rfl⟩
abbrev main_cst_17 : Ref sig .tc := ⟨.hbm, 157, rfl⟩
abbrev main_v115 : Ref sig .tc := ⟨.hbm, 158, rfl⟩
abbrev main_v116 : Ref sig .tc := ⟨.hbm, 159, rfl⟩
abbrev main_cst_18 : Ref sig .tc := ⟨.hbm, 160, rfl⟩
abbrev main_v117 : Ref sig .tc := ⟨.hbm, 161, rfl⟩
abbrev main_cst_19 : Ref sig .tc := ⟨.hbm, 162, rfl⟩
abbrev main_v118 : Ref sig .tc := ⟨.hbm, 163, rfl⟩
abbrev main_cst_20 : Ref sig .tc := ⟨.hbm, 164, rfl⟩
abbrev main_cst_21 : Ref sig .tc := ⟨.hbm, 165, rfl⟩
abbrev main_v119 : Ref sig .tc := ⟨.hbm, 166, rfl⟩
abbrev main_v120 : Ref sig .tc := ⟨.hbm, 167, rfl⟩
abbrev main_cst_22 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_cst_23 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_cst_24 : Ref sig .tc := ⟨.hbm, 179, rfl⟩
abbrev main_v130 : Ref sig .tc := ⟨.hbm, 180, rfl⟩
abbrev main_v131 : Ref sig .tc := ⟨.hbm, 181, rfl⟩
abbrev main_cst_25 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_cst_26 : Ref sig .tc := ⟨.hbm, 188, rfl⟩
abbrev main_v137 : Ref sig .tc := ⟨.hbm, 189, rfl⟩
abbrev main_v138 : Ref sig .tc := ⟨.hbm, 190, rfl⟩
abbrev main_cst_27 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩

abbrev nD : Nat := 1
abbrev τ : Topo := Topo.v7x

variable {F : FTy → Type} [FloatOps F]
-- ==== Proof.Mlp.Terms.lean ====
/- What one grid point of the ConvGLU backward kernel computes, written over its blocks: `dh` [256, 1024] the cotangent rows, `g`, `v`, `cv`, `act` [256, 2816]
   the saved gate, value, convolution and activation rows, `cw` [3, 2816] the taps, `wd` [2816, 1024] the down-projection, and what the point before left. -/
module

public import proofs.«01_k».proof.Proof.Gen.KernelIdeal.Value
public import Idealize.ShloMosaic.Lib.Pointwise
public import Idealize.ShloMosaic.Lib.Pipeline.Value
public import Idealize.ShloMosaic.Lib.Pipeline.CanonAppend
public import Idealize.ShloMosaic.Lib.Pipeline.ReadBack

@[expose] public section

noncomputable section

namespace Cert.KernelIdeal.Mlp

open Cert.KernelIdeal Cert.KernelIdeal.Gen Idealize.ShloMosaic Idealize.ShloMosaic.TcCoe Idealize.SL.Sem

/-- Stores that tile a buffer with blocks of `G`, over one earlier store of anything, leave `G`. -/
theorem canon_over_fill {s : Shape} {e : EltTy} (G : s.Idx → Elt Ideal e) (L : List (View.Piece (Elt Ideal) s e)) (y : s.Idx)
    (hc : ∃ p ∈ L.dropLast, y ∈ p.1.set) (h : ∀ p ∈ L.dropLast, ∀ x : p.1.shape.Idx, p.2 x = G (p.1.emb x)) : View.canon L y = G y := by
  have hne : L ≠ [] := by rintro rfl; obtain ⟨p, hp, -⟩ := hc; simp at hp
  rw [← List.dropLast_append_getLast hne]
  exact View.canon_append_of_pieces G _ _ h y hc

/-- A stored rectangle's embedding is the same rectangle's read index. -/
theorem emb_eq_idx {s : Shape} (off size : Fin s.rank → ℕ) (inb : ∀ a, off a + size a ≤ s.size a) (x : (Rect.unit (s := s) off size inb).shape.Idx) :
    (Rect.unit (s := s) off size inb).emb x = (Rect.unit (s := s) off size inb).toLoadRect.idx x := rfl

/-- The normal distribution function, as the kernel spells it: `1/2 (1 + erf (x / √2))`. -/
def cdfK (x : EReal) : EReal :=
  Ideal.ofBits FTy.f32 1056964608#32 * (1 + FloatOps.erf (F := Ideal) (φ := .f32) (x * Named.named (F := Ideal) (φ := .f32) κ "inv_sqrt2" 1060439283#32))

/-- The derivative of gelu, as the kernel spells it. -/
def dgeluK (x : EReal) : EReal :=
  cdfK x + x * Named.named (F := Ideal) (φ := .f32) κ "inv_sqrt2pi" 1053573674#32 *
    Ideal.exp (0 - x * Named.named (F := Ideal) (φ := .f32) κ "inv_sqrt2" 1060439283#32 * (x * Named.named (F := Ideal) (φ := .f32) κ "inv_sqrt2" 1060439283#32))

/-- The cotangent of the activation: a row of `dh` against a row of `wd`. -/
def dactK (dh : Vec Ideal S256x1024 .f32) (wd : Vec Ideal S2816x1024 .bf16) (r : Fin 256) (c : Fin 2816) : EReal :=
  ∑ x, dh (ix2 r x) * wd (ix2 c x)

/-- The cotangent of the convolution. -/
def dconvK (dh : Vec Ideal S256x1024 .f32) (wd : Vec Ideal S2816x1024 .bf16) (v cv : Vec Ideal S256x2816 .bf16) (r : Fin 256) (c : Fin 2816) : EReal :=
  dactK dh wd r c * v (ix2 r c) * dgeluK (cv (ix2 r c))

/-- Row `k` of what the block after this one carried over, as the kernel picks it. -/
def pickK (k : BitVec 32) (xs : Vec Ideal S8x2816 .f32) (c : Fin 2816) : EReal :=
  ∑ x : Fin 8, Scalar.select (IntOp.cmpi CmpIPredicate.eq (BitVec.ofNat 32 ↑x) k) (xs (ix2 x c)) 0

/-- A block rolled up by `256 - k` rows. -/
def rollK (k : ℕ) (d : Fin 256 → Fin 2816 → EReal) (r : Fin 256) (c : Fin 2816) : EReal :=
  d ⟨(↑r + 256 - k) % 256, Nat.mod_lt _ (by norm_num)⟩ c

/-- The cotangent of the convolution one row further on. -/
def u1K (d : Fin 256 → Fin 2816 → EReal) (xs : Vec Ideal S8x2816 .f32) (r : Fin 256) (c : Fin 2816) : EReal :=
  Scalar.select (IntOp.cmpi CmpIPredicate.eq (BitVec.ofNat 32 ↑r) 255#32) (pickK 0#32 xs c) (rollK 255 d r c)

/-- The cotangent of the convolution two rows further on. -/
def u2K (d : Fin 256 → Fin 2816 → EReal) (xs : Vec Ideal S8x2816 .f32) (r : Fin 256) (c : Fin 2816) : EReal :=
  Scalar.select (IntOp.cmpi CmpIPredicate.eq (BitVec.ofNat 32 ↑r) 255#32) (pickK 1#32 xs c)
    (Scalar.select (IntOp.cmpi CmpIPredicate.eq (BitVec.ofNat 32 ↑r) 254#32) (pickK 0#32 xs c) (rollK 254 d r c))

/-- The cotangent of the gate. -/
def dgateK (cw : Vec Ideal S3x2816 .f32) (d : Fin 256 → Fin 2816 → EReal) (xs : Vec Ideal S8x2816 .f32) (r : Fin 256) (c : Fin 2816) : EReal :=
  cw (ix2 2 c) * d r c + cw (ix2 1 c) * u1K d xs r c + cw (ix2 0 c) * u2K d xs r c

/-- The cotangent of the value. -/
def dvalK (dh : Vec Ideal S256x1024 .f32) (wd : Vec Ideal S2816x1024 .bf16) (cv : Vec Ideal S256x2816 .bf16) (r : Fin 256) (c : Fin 2816) : EReal :=
  dactK dh wd r c * (cv (ix2 r c) * cdfK (cv (ix2 r c)))

/-- The block of gate and value cotangents. -/
def blkGV (cw : Vec Ideal S3x2816 .f32) (dh : Vec Ideal S256x1024 .f32) (wd : Vec Ideal S2816x1024 .bf16) (v cv : Vec Ideal S256x2816 .bf16)
    (xs : Vec Ideal S8x2816 .f32) : S256x5632.Idx → EReal := fun y =>
  if h : (y 1).val < 2816 then dgateK cw (dconvK dh wd v cv) xs (y 0) ⟨(y 1).val, h⟩
  else dvalK dh wd cv (y 0) ⟨(y 1).val - 2816, by have : (y 1).val < 5632 := (y 1).isLt; omega⟩

theorem blkGV_gate (cw : Vec Ideal S3x2816 .f32) (dh : Vec Ideal S256x1024 .f32) (wd : Vec Ideal S2816x1024 .bf16) (v cv : Vec Ideal S256x2816 .bf16)
    (xs : Vec Ideal S8x2816 .f32) (r : Fin 256) (c : Fin 2816) (c' : Fin 5632) (h : c'.val = c.val) :
    blkGV cw dh wd v cv xs (ix2 r c') = dgateK cw (dconvK dh wd v cv) xs r c := by
  have h' : c'.val < 2816 := h ▸ c.isLt
  have e : (⟨c'.val, h'⟩ : Fin 2816) = c := Fin.ext h
  unfold blkGV
  rw [dif_pos (show ((ix2 r c' : S256x5632.Idx) 1).val < 2816 from h')]
  exact congrArg _ e

theorem blkGV_val (cw : Vec Ideal S3x2816 .f32) (dh : Vec Ideal S256x1024 .f32) (wd : Vec Ideal S2816x1024 .bf16) (v cv : Vec Ideal S256x2816 .bf16)
    (xs : Vec Ideal S8x2816 .f32) (r : Fin 256) (c : Fin 2816) (c' : Fin 5632) (h : c'.val = 2816 + c.val) :
    blkGV cw dh wd v cv xs (ix2 r c') = dvalK dh wd cv r c := by
  unfold blkGV
  rw [dif_neg (show ¬ ((ix2 r c' : S256x5632.Idx) 1).val < 2816 from by show ¬ c'.val < 2816; omega)]
  exact congrArg _ (Fin.ext (by show c'.val - 2816 = c.val; omega))

/-- The three tap gradients after this point. -/
def blkCW (dh : Vec Ideal S256x1024 .f32) (wd : Vec Ideal S2816x1024 .bf16) (g v cv : Vec Ideal S256x2816 .bf16)
    (xo : Vec Ideal S3x2816 .f32) (xs : Vec Ideal S8x2816 .f32) : S3x2816.Idx → EReal := fun y =>
  xo (ix2 (y 0) (y 1)) + ∑ r, (if (y 0).val = 0 then u2K (dconvK dh wd v cv) xs r (y 1) else if (y 0).val = 1 then u1K (dconvK dh wd v cv) xs r (y 1)
    else dconvK dh wd v cv r (y 1)) * g (ix2 r (y 1))

/-- The bias gradient after this point. -/
def blkCB (dh : Vec Ideal S256x1024 .f32) (wd : Vec Ideal S2816x1024 .bf16) (v cv : Vec Ideal S256x2816 .bf16) (xo : Vec Ideal S1x2816 .f32) :
    S1x2816.Idx → EReal := fun y =>
  xo (ix2 (y 0) (y 1)) + ∑ r, dconvK dh wd v cv r (y 1)

/-- What is carried to the next point: the first rows of the convolution's cotangent. -/
def blkCarry (dh : Vec Ideal S256x1024 .f32) (wd : Vec Ideal S2816x1024 .bf16) (v cv : Vec Ideal S256x2816 .bf16) : S8x2816.Idx → EReal := fun y =>
  dconvK dh wd v cv ⟨(y 0).val, by have : (y 0).val < 8 := (y 0).isLt; omega⟩ (y 1)

/-- The down-projection's gradient after this point. -/
def blkWD (dh : Vec Ideal S256x1024 .f32) (act : Vec Ideal S256x2816 .bf16) (xs : Vec Ideal S2816x1024 .f32) : S2816x1024.Idx → EReal := fun y =>
  xs (ix2 (y 0) (y 1)) + ∑ r, act (ix2 r (y 0)) * dh (ix2 r (y 1))

end Cert.KernelIdeal.Mlp

end
-- ==== Proof.Mlp.CaseA.lean ====
/- The first grid point of the ConvGLU backward kernel, read back: what its stores leave in each output and in each carried buffer. -/
module

public import proofs.«01_k».proof.Proof.Mlp.Terms

@[expose] public section

set_option maxRecDepth 16384

noncomputable section

namespace Cert.KernelIdeal.Mlp

open Cert.KernelIdeal Cert.KernelIdeal.Gen Idealize.ShloMosaic Idealize.ShloMosaic.TcCoe Idealize.SL.Sem

variable (c : Dev nD) (i : grid0.Coords) (arg1 : Memref sig .tc .vmem S256x1024 .f32) (harg1 : arg1.IsWhole) (arg2 : Memref sig .tc .vmem S256x2816 .bf16) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S256x2816 .bf16) (harg5 : arg5.IsWhole) (arg6 : Memref sig .tc .vmem S3x2816 .f32) (harg6 : arg6.IsWhole) (arg7 : Memref sig .tc .vmem S2816x1024 .bf16) (harg7 : arg7.IsWhole) (arg8 : Memref sig .tc .vmem S256x5632 .bf16) (harg8 : arg8.IsWhole) (arg9 : Memref sig .tc .vmem S3x2816 .f32) (harg9 : arg9.IsWhole) (arg10 : Memref sig .tc .vmem S1x2816 .f32) (harg10 : arg10.IsWhole) (arg11 : Memref sig .tc .vmem S2816x1024 .bf16) (harg11 : arg11.IsWhole) (arg12 : Memref sig .tc .vmem S8x2816 .f32) (harg12 : arg12.IsWhole) (arg13 : Memref sig .tc .vmem S2816x1024 .f32) (harg13 : arg13.IsWhole) (hc0 : cond0_0 i) (hc1 : ¬cond0_1 i)
    (x0 : Vec Ideal S256x1024 .f32) (x1 : Vec Ideal S256x2816 .bf16) (x2 : Vec Ideal S256x2816 .bf16) (x3 : Vec Ideal S256x2816 .bf16) (x4 : Vec Ideal S256x2816 .bf16) (x5 : Vec Ideal S3x2816 .f32) (x6 : Vec Ideal S2816x1024 .bf16)

set_option maxHeartbeats 2000000 in
include c i arg1 harg1 arg2 harg2 arg3 harg3 arg4 harg4 arg5 harg5 arg6 harg6 arg7 harg7 arg8 harg8 arg9 harg9 arg10 harg10 arg11 harg11 arg12 harg12 arg13 harg13 hc0 hc1 in
/-- The block of gate and value cotangents after the first grid point. -/
theorem gv_A :
    out0_A_7 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 = blkGV x5 x0 x6 x2 x3 (k0_pay9 (F := Ideal)) := by
  funext y
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)]
  apply View.canon_apply_of_pieces (Val := Elt Ideal) (blkGV x5 x0 x6 x2 x3 (k0_pay9 (F := Ideal))) _ ?_ y (cover0_A_7 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 y)
  unfold kernelRun0_A
  dsimp only
  sl_unfold_words
  simp (disch := decide) only [↓View.readCov_skip, ↓View.readCov_fill, View.readAt_eq_ld, harg1.read_unread, harg2.read_unread, harg3.read_unread, harg4.read_unread, harg5.read_unread, harg6.read_unread, harg7.read_unread, harg9.read_unread, harg10.read_unread, harg12.read_unread, harg13.read_unread,
    List.dropLast_cons₂, List.dropLast_singleton, List.forall_mem_cons, List.not_mem_nil, false_implies, implies_true, and_true]
  generalize k0_pay9 (F := Ideal) = z9
  generalize k0_pay10 (F := Ideal) = z10
  generalize k0_pay11 (F := Ideal) = z11
  generalize k0_pay12 (F := Ideal) = z12
  refine ⟨?_, ?_, ?_, ?_, ?_, ?_, ?_, ?_, ?_, ?_, ?_, ?_⟩ <;>
    (intro x
     first | change S256x512.Idx at x | change S256x256.Idx at x
     idx_vars x
     rw [emb_eq_idx]
     unfold_payloads
     pointwise [View.ld_unit]
     first
      | exact (blkGV_gate _ _ _ _ _ _ _ _ _ rfl).symm
      | exact (blkGV_val _ _ _ _ _ _ _ _ _ (by simp only [] <;> omega)).symm)

set_option maxHeartbeats 2000000 in
include c i arg1 harg1 arg2 harg2 arg3 harg3 arg4 harg4 arg5 harg5 arg6 harg6 arg7 harg7 arg8 harg8 arg9 harg9 arg10 harg10 arg11 harg11 arg12 harg12 arg13 harg13 hc0 hc1 in
/-- The tap gradients after the first grid point. -/
theorem cw_A :
    out0_A_8 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 = blkCW x0 x6 x1 x2 x3 (k0_pay10 (F := Ideal)) (k0_pay9 (F := Ideal)) := by
  funext y
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)]
  apply canon_over_fill (blkCW x0 x6 x1 x2 x3 (k0_pay10 (F := Ideal)) (k0_pay9 (F := Ideal))) _ y (View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.1.dropLast ![1, 256] (by sl_kernel_rfl) y)
  unfold kernelRun0_A
  dsimp only
  sl_unfold_words
  simp (disch := decide) only [↓View.readCov_skip, ↓View.readCov_fill, View.readAt_eq_ld, harg1.read_unread, harg2.read_unread, harg3.read_unread, harg4.read_unread, harg5.read_unread, harg6.read_unread, harg7.read_unread, harg9.read_unread, harg10.read_unread, harg12.read_unread, harg13.read_unread,
    List.dropLast_cons₂, List.dropLast_singleton, List.forall_mem_cons, List.not_mem_nil, false_implies, implies_true, and_true]
  generalize k0_pay9 (F := Ideal) = z9
  generalize k0_pay10 (F := Ideal) = z10
  generalize k0_pay11 (F := Ideal) = z11
  generalize k0_pay12 (F := Ideal) = z12
  refine ⟨?_, ?_, ?_, ?_, ?_, ?_, ?_, ?_, ?_, ?_, ?_, ?_, ?_, ?_, ?_, ?_, ?_, ?_⟩ <;>
    (intro x
     first | change S1x512.Idx at x | change S1x256.Idx at x
     idx_vars x
     rw [emb_eq_idx]
     unfold_payloads
     pointwise [View.ld_unit]
     rfl)

set_option maxHeartbeats 2000000 in
include c i arg1 harg1 arg2 harg2 arg3 harg3 arg4 harg4 arg5 harg5 arg6 harg6 arg7 harg7 arg8 harg8 arg9 harg9 arg10 harg10 arg11 harg11 arg12 harg12 arg13 harg13 hc0 hc1 in
/-- The bias gradient after the first grid point. -/
theorem cb_A :
    out0_A_9 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 = blkCB x0 x6 x2 x3 (k0_pay11 (F := Ideal)) := by
  funext y
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)]
  apply canon_over_fill (blkCB x0 x6 x2 x3 (k0_pay11 (F := Ideal))) _ y (View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.1.dropLast ![1, 256] (by sl_kernel_rfl) y)
  unfold kernelRun0_A
  dsimp only
  sl_unfold_words
  simp (disch := decide) only [↓View.readCov_skip, ↓View.readCov_fill, View.readAt_eq_ld, harg1.read_unread, harg2.read_unread, harg3.read_unread, harg4.read_unread, harg5.read_unread, harg6.read_unread, harg7.read_unread, harg9.read_unread, harg10.read_unread, harg12.read_unread, harg13.read_unread,
    List.dropLast_cons₂, List.dropLast_singleton, List.forall_mem_cons, List.not_mem_nil, false_implies, implies_true, and_true]
  generalize k0_pay9 (F := Ideal) = z9
  generalize k0_pay10 (F := Ideal) = z10
  generalize k0_pay11 (F := Ideal) = z11
  generalize k0_pay12 (F := Ideal) = z12
  refine ⟨?_, ?_, ?_, ?_, ?_, ?_⟩ <;>
    (intro x
     first | change S1x512.Idx at x | change S1x256.Idx at x
     idx_vars x
     rw [emb_eq_idx]
     unfold_payloads
     pointwise [View.ld_unit]
     rfl)

set_option maxHeartbeats 2000000 in
include c i arg1 harg1 arg2 harg2 arg3 harg3 arg4 harg4 arg5 harg5 arg6 harg6 arg7 harg7 arg8 harg8 arg9 harg9 arg10 harg10 arg11 harg11 arg12 harg12 arg13 harg13 hc0 hc1 in
/-- The rows carried to the next point after the first grid point. -/
theorem carry_A :
    sout0_A_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 = blkCarry x0 x6 x2 x3 := by
  funext y
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)]
  apply canon_over_fill (blkCarry x0 x6 x2 x3) _ y (View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.2.2.1.dropLast ![8, 256] (by sl_kernel_rfl) y)
  unfold kernelRun0_A
  dsimp only
  sl_unfold_words
  simp (disch := decide) only [↓View.readCov_skip, ↓View.readCov_fill, View.readAt_eq_ld, harg1.read_unread, harg2.read_unread, harg3.read_unread, harg4.read_unread, harg5.read_unread, harg6.read_unread, harg7.read_unread, harg9.read_unread, harg10.read_unread, harg12.read_unread, harg13.read_unread,
    List.dropLast_cons₂, List.dropLast_singleton, List.forall_mem_cons, List.not_mem_nil, false_implies, implies_true, and_true]
  generalize k0_pay9 (F := Ideal) = z9
  generalize k0_pay10 (F := Ideal) = z10
  generalize k0_pay11 (F := Ideal) = z11
  generalize k0_pay12 (F := Ideal) = z12
  refine ⟨?_, ?_, ?_, ?_, ?_, ?_⟩ <;>
    (intro x
     first | change S8x512.Idx at x | change S8x256.Idx at x
     idx_vars x
     rw [emb_eq_idx]
     unfold_payloads
     pointwise [View.ld_unit]
     rfl)

set_option maxHeartbeats 2000000 in
include c i arg1 harg1 arg2 harg2 arg3 harg3 arg4 harg4 arg5 harg5 arg6 harg6 arg7 harg7 arg8 harg8 arg9 harg9 arg10 harg10 arg11 harg11 arg12 harg12 arg13 harg13 hc0 hc1 in
/-- The down-projection gradient's running sum after the first grid point. -/
theorem acc_A :
    sout0_A_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 = blkWD x0 x4 (k0_pay12 (F := Ideal)) := by
  funext y
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)]
  apply canon_over_fill (blkWD x0 x4 (k0_pay12 (F := Ideal))) _ y (View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.2.2.2.1.dropLast ![256, 1024] (by sl_kernel_rfl) y)
  unfold kernelRun0_A
  dsimp only
  sl_unfold_words
  simp (disch := decide) only [↓View.readCov_skip, ↓View.readCov_fill, View.readAt_eq_ld, harg1.read_unread, harg2.read_unread, harg3.read_unread, harg4.read_unread, harg5.read_unread, harg6.read_unread, harg7.read_unread, harg9.read_unread, harg10.read_unread, harg12.read_unread, harg13.read_unread,
    List.dropLast_cons₂, List.dropLast_singleton, List.forall_mem_cons, List.not_mem_nil, false_implies, implies_true, and_true]
  generalize k0_pay9 (F := Ideal) = z9
  generalize k0_pay10 (F := Ideal) = z10
  generalize k0_pay11 (F := Ideal) = z11
  generalize k0_pay12 (F := Ideal) = z12
  refine ⟨?_, ?_, ?_, ?_, ?_, ?_⟩ <;>
    (intro x
     first | change S512x1024.Idx at x | change S256x1024.Idx at x
     idx_vars x
     rw [emb_eq_idx]
     unfold_payloads
     pointwise [View.ld_unit]
     rfl)

end Cert.KernelIdeal.Mlp

end
-- ==== Proof.Mlp.CaseB.lean ====
/- A middle grid point of the ConvGLU backward kernel, read back: what its stores leave in each output and in each carried buffer. -/
module

public import proofs.«01_k».proof.Proof.Mlp.Terms

@[expose] public section

set_option maxRecDepth 16384

noncomputable section

namespace Cert.KernelIdeal.Mlp

open Cert.KernelIdeal Cert.KernelIdeal.Gen Idealize.ShloMosaic Idealize.ShloMosaic.TcCoe Idealize.SL.Sem

variable (c : Dev nD) (i : grid0.Coords) (arg1 : Memref sig .tc .vmem S256x1024 .f32) (harg1 : arg1.IsWhole) (arg2 : Memref sig .tc .vmem S256x2816 .bf16) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S256x2816 .bf16) (harg5 : arg5.IsWhole) (arg6 : Memref sig .tc .vmem S3x2816 .f32) (harg6 : arg6.IsWhole) (arg7 : Memref sig .tc .vmem S2816x1024 .bf16) (harg7 : arg7.IsWhole) (arg8 : Memref sig .tc .vmem S256x5632 .bf16) (harg8 : arg8.IsWhole) (arg9 : Memref sig .tc .vmem S3x2816 .f32) (harg9 : arg9.IsWhole) (arg10 : Memref sig .tc .vmem S1x2816 .f32) (harg10 : arg10.IsWhole) (arg11 : Memref sig .tc .vmem S2816x1024 .bf16) (harg11 : arg11.IsWhole) (arg12 : Memref sig .tc .vmem S8x2816 .f32) (harg12 : arg12.IsWhole) (arg13 : Memref sig .tc .vmem S2816x1024 .f32) (harg13 : arg13.IsWhole) (hc0 : ¬cond0_0 i) (hc1 : ¬cond0_1 i)
    (x0 : Vec Ideal S256x1024 .f32) (x1 : Vec Ideal S256x2816 .bf16) (x2 : Vec Ideal S256x2816 .bf16) (x3 : Vec Ideal S256x2816 .bf16) (x4 : Vec Ideal S256x2816 .bf16) (x5 : Vec Ideal S3x2816 .f32) (x6 : Vec Ideal S2816x1024 .bf16) (xo8 : Vec Ideal S3x2816 .f32) (xo9 : Vec Ideal S1x2816 .f32) (xs0 : Vec Ideal S8x2816 .f32) (xs1 : Vec Ideal S2816x1024 .f32)

set_option maxHeartbeats 2000000 in
include c i arg1 harg1 arg2 harg2 arg3 harg3 arg4 harg4 arg5 harg5 arg6 harg6 arg7 harg7 arg8 harg8 arg9 harg9 arg10 harg10 arg11 harg11 arg12 harg12 arg13 harg13 hc0 hc1 in
/-- The block of gate and value cotangents after a middle grid point. -/
theorem gv_B :
    out0_B_7 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo8 xo9 xs0 xs1 = blkGV x5 x0 x6 x2 x3 xs0 := by
  funext y
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo8 xo9 xs0 xs1)]
  apply View.canon_apply_of_pieces (Val := Elt Ideal) (blkGV x5 x0 x6 x2 x3 xs0) _ ?_ y (cover0_B_7 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo8 xo9 xs0 xs1 y)
  unfold kernelRun0_B
  dsimp only
  sl_unfold_words
  simp only [View.readAt_eq_ld, harg1.read_unread, harg2.read_unread, harg3.read_unread, harg4.read_unread, harg5.read_unread, harg6.read_unread, harg7.read_unread, harg9.read_unread, harg10.read_unread, harg12.read_unread, harg13.read_unread,
    List.dropLast_cons₂, List.dropLast_singleton, List.forall_mem_cons, List.not_mem_nil, false_implies, implies_true, and_true]
  refine ⟨?_, ?_, ?_, ?_, ?_, ?_, ?_, ?_, ?_, ?_, ?_, ?_⟩ <;>
    (intro x
     first | change S256x512.Idx at x | change S256x256.Idx at x
     idx_vars x
     rw [emb_eq_idx]
     unfold_payloads
     pointwise [View.ld_unit]
     first
      | exact (blkGV_gate _ _ _ _ _ _ _ _ _ rfl).symm
      | exact (blkGV_val _ _ _ _ _ _ _ _ _ (by simp only [] <;> omega)).symm)

set_option maxHeartbeats 2000000 in
include c i arg1 harg1 arg2 harg2 arg3 harg3 arg4 harg4 arg5 harg5 arg6 harg6 arg7 harg7 arg8 harg8 arg9 harg9 arg10 harg10 arg11 harg11 arg12 harg12 arg13 harg13 hc0 hc1 in
/-- The tap gradients after a middle grid point. -/
theorem cw_B :
    out0_B_8 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo8 xo9 xs0 xs1 = blkCW x0 x6 x1 x2 x3 xo8 xs0 := by
  funext y
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo8 xo9 xs0 xs1)]
  apply View.canon_apply_of_pieces (Val := Elt Ideal) (blkCW x0 x6 x1 x2 x3 xo8 xs0) _ ?_ y (cover0_B_8 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo8 xo9 xs0 xs1 y)
  unfold kernelRun0_B
  dsimp only
  sl_unfold_words
  simp only [View.readAt_eq_ld, harg1.read_unread, harg2.read_unread, harg3.read_unread, harg4.read_unread, harg5.read_unread, harg6.read_unread, harg7.read_unread, harg9.read_unread, harg10.read_unread, harg12.read_unread, harg13.read_unread,
    List.dropLast_cons₂, List.dropLast_singleton, List.forall_mem_cons, List.not_mem_nil, false_implies, implies_true, and_true]
  refine ⟨?_, ?_, ?_, ?_, ?_, ?_, ?_, ?_, ?_, ?_, ?_, ?_, ?_, ?_, ?_, ?_, ?_, ?_⟩ <;>
    (intro x
     first | change S1x512.Idx at x | change S1x256.Idx at x
     idx_vars x
     rw [emb_eq_idx]
     unfold_payloads
     pointwise [View.ld_unit]
     rfl)

set_option maxHeartbeats 2000000 in
include c i arg1 harg1 arg2 harg2 arg3 harg3 arg4 harg4 arg5 harg5 arg6 harg6 arg7 harg7 arg8 harg8 arg9 harg9 arg10 harg10 arg11 harg11 arg12 harg12 arg13 harg13 hc0 hc1 in
/-- The bias gradient after a middle grid point. -/
theorem cb_B :
    out0_B_9 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo8 xo9 xs0 xs1 = blkCB x0 x6 x2 x3 xo9 := by
  funext y
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo8 xo9 xs0 xs1)]
  apply View.canon_apply_of_pieces (Val := Elt Ideal) (blkCB x0 x6 x2 x3 xo9) _ ?_ y (cover0_B_9 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo8 xo9 xs0 xs1 y)
  unfold kernelRun0_B
  dsimp only
  sl_unfold_words
  simp only [View.readAt_eq_ld, harg1.read_unread, harg2.read_unread, harg3.read_unread, harg4.read_unread, harg5.read_unread, harg6.read_unread, harg7.read_unread, harg9.read_unread, harg10.read_unread, harg12.read_unread, harg13.read_unread,
    List.dropLast_cons₂, List.dropLast_singleton, List.forall_mem_cons, List.not_mem_nil, false_implies, implies_true, and_true]
  refine ⟨?_, ?_, ?_, ?_, ?_, ?_⟩ <;>
    (intro x
     first | change S1x512.Idx at x | change S1x256.Idx at x
     idx_vars x
     rw [emb_eq_idx]
     unfold_payloads
     pointwise [View.ld_unit]
     rfl)

set_option maxHeartbeats 2000000 in
include c i arg1 harg1 arg2 harg2 arg3 harg3 arg4 harg4 arg5 harg5 arg6 harg6 arg7 harg7 arg8 harg8 arg9 harg9 arg10 harg10 arg11 harg11 arg12 harg12 arg13 harg13 hc0 hc1 in
/-- The rows carried to the next point after a middle grid point. -/
theorem carry_B :
    sout0_B_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo8 xo9 xs0 xs1 = blkCarry x0 x6 x2 x3 := by
  funext y
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo8 xo9 xs0 xs1)]
  apply View.canon_apply_of_pieces (Val := Elt Ideal) (blkCarry x0 x6 x2 x3) _ ?_ y (scover0_B_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo8 xo9 xs0 xs1 y)
  unfold kernelRun0_B
  dsimp only
  sl_unfold_words
  simp only [View.readAt_eq_ld, harg1.read_unread, harg2.read_unread, harg3.read_unread, harg4.read_unread, harg5.read_unread, harg6.read_unread, harg7.read_unread, harg9.read_unread, harg10.read_unread, harg12.read_unread, harg13.read_unread,
    List.dropLast_cons₂, List.dropLast_singleton, List.forall_mem_cons, List.not_mem_nil, false_implies, implies_true, and_true]
  refine ⟨?_, ?_, ?_, ?_, ?_, ?_⟩ <;>
    (intro x
     first | change S8x512.Idx at x | change S8x256.Idx at x
     idx_vars x
     rw [emb_eq_idx]
     unfold_payloads
     pointwise [View.ld_unit]
     rfl)

set_option maxHeartbeats 2000000 in
include c i arg1 harg1 arg2 harg2 arg3 harg3 arg4 harg4 arg5 harg5 arg6 harg6 arg7 harg7 arg8 harg8 arg9 harg9 arg10 harg10 arg11 harg11 arg12 harg12 arg13 harg13 hc0 hc1 in
/-- The down-projection gradient's running sum after a middle grid point. -/
theorem acc_B :
    sout0_B_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo8 xo9 xs0 xs1 = blkWD x0 x4 xs1 := by
  funext y
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo8 xo9 xs0 xs1)]
  apply View.canon_apply_of_pieces (Val := Elt Ideal) (blkWD x0 x4 xs1) _ ?_ y (scover0_B_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo8 xo9 xs0 xs1 y)
  unfold kernelRun0_B
  dsimp only
  sl_unfold_words
  simp only [View.readAt_eq_ld, harg1.read_unread, harg2.read_unread, harg3.read_unread, harg4.read_unread, harg5.read_unread, harg6.read_unread, harg7.read_unread, harg9.read_unread, harg10.read_unread, harg12.read_unread, harg13.read_unread,
    List.dropLast_cons₂, List.dropLast_singleton, List.forall_mem_cons, List.not_mem_nil, false_implies, implies_true, and_true]
  refine ⟨?_, ?_, ?_, ?_, ?_, ?_⟩ <;>
    (intro x
     first | change S512x1024.Idx at x | change S256x1024.Idx at x
     idx_vars x
     rw [emb_eq_idx]
     unfold_payloads
     pointwise [View.ld_unit]
     rfl)

end Cert.KernelIdeal.Mlp

end
-- ==== Proof.Mlp.CaseC.lean ====
/- The last grid point of the ConvGLU backward kernel, read back: what its stores leave in each output and in each carried buffer. -/
module

public import proofs.«01_k».proof.Proof.Mlp.Terms

@[expose] public section

set_option maxRecDepth 16384

noncomputable section

namespace Cert.KernelIdeal.Mlp

open Cert.KernelIdeal Cert.KernelIdeal.Gen Idealize.ShloMosaic Idealize.ShloMosaic.TcCoe Idealize.SL.Sem

variable (c : Dev nD) (i : grid0.Coords) (arg1 : Memref sig .tc .vmem S256x1024 .f32) (harg1 : arg1.IsWhole) (arg2 : Memref sig .tc .vmem S256x2816 .bf16) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S256x2816 .bf16) (harg5 : arg5.IsWhole) (arg6 : Memref sig .tc .vmem S3x2816 .f32) (harg6 : arg6.IsWhole) (arg7 : Memref sig .tc .vmem S2816x1024 .bf16) (harg7 : arg7.IsWhole) (arg8 : Memref sig .tc .vmem S256x5632 .bf16) (harg8 : arg8.IsWhole) (arg9 : Memref sig .tc .vmem S3x2816 .f32) (harg9 : arg9.IsWhole) (arg10 : Memref sig .tc .vmem S1x2816 .f32) (harg10 : arg10.IsWhole) (arg11 : Memref sig .tc .vmem S2816x1024 .bf16) (harg11 : arg11.IsWhole) (arg12 : Memref sig .tc .vmem S8x2816 .f32) (harg12 : arg12.IsWhole) (arg13 : Memref sig .tc .vmem S2816x1024 .f32) (harg13 : arg13.IsWhole) (hc0 : ¬cond0_0 i) (hc1 : cond0_1 i)
    (x0 : Vec Ideal S256x1024 .f32) (x1 : Vec Ideal S256x2816 .bf16) (x2 : Vec Ideal S256x2816 .bf16) (x3 : Vec Ideal S256x2816 .bf16) (x4 : Vec Ideal S256x2816 .bf16) (x5 : Vec Ideal S3x2816 .f32) (x6 : Vec Ideal S2816x1024 .bf16) (xo8 : Vec Ideal S3x2816 .f32) (xo9 : Vec Ideal S1x2816 .f32) (xs0 : Vec Ideal S8x2816 .f32) (xs1 : Vec Ideal S2816x1024 .f32)

set_option maxHeartbeats 2000000 in
include c i arg1 harg1 arg2 harg2 arg3 harg3 arg4 harg4 arg5 harg5 arg6 harg6 arg7 harg7 arg8 harg8 arg9 harg9 arg10 harg10 arg11 harg11 arg12 harg12 arg13 harg13 hc0 hc1 in
/-- The block of gate and value cotangents after the last grid point. -/
theorem gv_C :
    out0_C_7 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo8 xo9 xs0 xs1 = blkGV x5 x0 x6 x2 x3 xs0 := by
  funext y
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo8 xo9 xs0 xs1)]
  apply View.canon_apply_of_pieces (Val := Elt Ideal) (blkGV x5 x0 x6 x2 x3 xs0) _ ?_ y (cover0_C_7 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo8 xo9 xs0 xs1 y)
  unfold kernelRun0_C
  dsimp only
  sl_unfold_words
  simp (disch := decide) only [↓View.readCov_skip, ↓View.readCov_fill, View.readAt_eq_ld, harg1.read_unread, harg2.read_unread, harg3.read_unread, harg4.read_unread, harg5.read_unread, harg6.read_unread, harg7.read_unread, harg9.read_unread, harg10.read_unread, harg12.read_unread, harg13.read_unread,
    List.dropLast_cons₂, List.dropLast_singleton, List.forall_mem_cons, List.not_mem_nil, false_implies, implies_true, and_true]
  refine ⟨?_, ?_, ?_, ?_, ?_, ?_, ?_, ?_, ?_, ?_, ?_, ?_⟩ <;>
    (intro x
     first | change S256x512.Idx at x | change S256x256.Idx at x
     idx_vars x
     rw [emb_eq_idx]
     unfold_payloads
     pointwise [View.ld_unit]
     first
      | exact (blkGV_gate _ _ _ _ _ _ _ _ _ rfl).symm
      | exact (blkGV_val _ _ _ _ _ _ _ _ _ (by simp only [] <;> omega)).symm)

set_option maxHeartbeats 2000000 in
include c i arg1 harg1 arg2 harg2 arg3 harg3 arg4 harg4 arg5 harg5 arg6 harg6 arg7 harg7 arg8 harg8 arg9 harg9 arg10 harg10 arg11 harg11 arg12 harg12 arg13 harg13 hc0 hc1 in
/-- The tap gradients after the last grid point. -/
theorem cw_C :
    out0_C_8 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo8 xo9 xs0 xs1 = blkCW x0 x6 x1 x2 x3 xo8 xs0 := by
  funext y
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo8 xo9 xs0 xs1)]
  apply View.canon_apply_of_pieces (Val := Elt Ideal) (blkCW x0 x6 x1 x2 x3 xo8 xs0) _ ?_ y (cover0_C_8 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo8 xo9 xs0 xs1 y)
  unfold kernelRun0_C
  dsimp only
  sl_unfold_words
  simp (disch := decide) only [↓View.readCov_skip, ↓View.readCov_fill, View.readAt_eq_ld, harg1.read_unread, harg2.read_unread, harg3.read_unread, harg4.read_unread, harg5.read_unread, harg6.read_unread, harg7.read_unread, harg9.read_unread, harg10.read_unread, harg12.read_unread, harg13.read_unread,
    List.dropLast_cons₂, List.dropLast_singleton, List.forall_mem_cons, List.not_mem_nil, false_implies, implies_true, and_true]
  refine ⟨?_, ?_, ?_, ?_, ?_, ?_, ?_, ?_, ?_, ?_, ?_, ?_, ?_, ?_, ?_, ?_, ?_, ?_⟩ <;>
    (intro x
     first | change S1x512.Idx at x | change S1x256.Idx at x
     idx_vars x
     rw [emb_eq_idx]
     unfold_payloads
     pointwise [View.ld_unit]
     rfl)

set_option maxHeartbeats 2000000 in
include c i arg1 harg1 arg2 harg2 arg3 harg3 arg4 harg4 arg5 harg5 arg6 harg6 arg7 harg7 arg8 harg8 arg9 harg9 arg10 harg10 arg11 harg11 arg12 harg12 arg13 harg13 hc0 hc1 in
/-- The bias gradient after the last grid point. -/
theorem cb_C :
    out0_C_9 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo8 xo9 xs0 xs1 = blkCB x0 x6 x2 x3 xo9 := by
  funext y
  unfold out0_C_9
  rw [View.read_writes_eq_canon _ _ _ (cover0_C_9 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo8 xo9 xs0 xs1)]
  apply View.canon_apply_of_pieces (Val := Elt Ideal) (blkCB x0 x6 x2 x3 xo9) _ ?_ y (cover0_C_9 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo8 xo9 xs0 xs1 y)
  unfold kernelRun0_C
  dsimp only
  sl_unfold_words
  simp (disch := decide) only [↓View.readCov_skip, ↓View.readCov_fill, View.readAt_eq_ld, harg1.read_unread, harg2.read_unread, harg3.read_unread, harg4.read_unread, harg5.read_unread, harg6.read_unread, harg7.read_unread, harg9.read_unread, harg10.read_unread, harg12.read_unread, harg13.read_unread,
    List.dropLast_cons₂, List.dropLast_singleton, List.forall_mem_cons, List.not_mem_nil, false_implies, implies_true, and_true]
  refine ⟨?_, ?_, ?_, ?_, ?_, ?_⟩ <;>
    (intro x
     first | change S1x512.Idx at x | change S1x256.Idx at x
     idx_vars x
     rw [emb_eq_idx]
     unfold_payloads
     pointwise [View.ld_unit]
     rfl)

set_option maxHeartbeats 2000000 in
include c i arg1 harg1 arg2 harg2 arg3 harg3 arg4 harg4 arg5 harg5 arg6 harg6 arg7 harg7 arg8 harg8 arg9 harg9 arg10 harg10 arg11 harg11 arg12 harg12 arg13 harg13 hc0 hc1 in
/-- The down-projection gradient after the last grid point. -/
theorem wd_C :
    out0_C_10 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo8 xo9 xs0 xs1 = blkWD x0 x4 xs1 := by
  funext y
  unfold out0_C_10
  rw [View.read_writes_eq_canon _ _ _ (cover0_C_10 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo8 xo9 xs0 xs1)]
  apply View.canon_apply_of_pieces (Val := Elt Ideal) (blkWD x0 x4 xs1) _ ?_ y (cover0_C_10 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xo8 xo9 xs0 xs1 y)
  unfold kernelRun0_C
  dsimp only
  sl_unfold_words
  simp (disch := decide) only [↓View.readCov_skip, ↓View.readCov_fill, View.readCov_cons_toLoadRect, View.readAt_eq_ld, harg1.read_unread, harg2.read_unread, harg3.read_unread, harg4.read_unread, harg5.read_unread, harg6.read_unread, harg7.read_unread, harg9.read_unread, harg10.read_unread, harg12.read_unread, harg13.read_unread,
    List.dropLast_cons₂, List.dropLast_singleton, List.forall_mem_cons, List.not_mem_nil, false_implies, implies_true, and_true]
  refine ⟨?_, ?_, ?_, ?_, ?_, ?_⟩ <;>
    (intro x
     first | change S512x1024.Idx at x | change S256x1024.Idx at x
     idx_vars x
     rw [emb_eq_idx]
     unfold_payloads
     pointwise [View.ld_unit]
     rfl)

end Cert.KernelIdeal.Mlp

end
-- ==== Proof.Mlp.Spec.lean ====
/- The gradient of the ConvGLU part, written entry by entry over the extended reals: the causal three-tap convolution of the gate, gelu of it times the value,
   the down-projection, and what the down-projection's cotangent `dh` gives for the four arguments. -/
module

public import Idealize.ShloMosaic.Lib.Pointwise

@[expose] public section

noncomputable section

namespace Cert.Mlp

open Idealize.ShloMosaic

variable (gv : Fin 4096 → Fin 5632 → EReal) (cw : Fin 3 → Fin 2816 → EReal) (cb : Fin 2816 → EReal) (wd : Fin 2816 → Fin 1024 → EReal)
  (dh : Fin 4096 → Fin 1024 → EReal)

/-- The gate column `c` at row `n`, zero beyond the last row. -/
def gate (n : ℕ) (c : Fin 2816) : EReal := if h : n < 4096 then gv ⟨n, h⟩ ⟨c.val, by omega⟩ else 0

/-- The value column `c` at row `t`. -/
def val (t : Fin 4096) (c : Fin 2816) : EReal := gv t ⟨2816 + c.val, by omega⟩

/-- The gate after two rows of zeros. -/
def gpad (n : ℕ) (c : Fin 2816) : EReal := if n < 2 then 0 else gate gv (n - 2) c

/-- The causal convolution. -/
def conv (t : Fin 4096) (c : Fin 2816) : EReal :=
  ((cb c + cw 0 c * gpad gv t.val c) + cw 1 c * gpad gv (1 + t.val) c) + cw 2 c * gpad gv (2 + t.val) c

def isqrt2 : EReal := (((Real.sqrt 2)⁻¹ : ℝ) : EReal)
def isqrt2pi : EReal := (((Real.sqrt (2 * Real.pi))⁻¹ : ℝ) : EReal)
def twoOverSqrtPi : EReal := ((2 * (Real.sqrt Real.pi)⁻¹ : ℝ) : EReal)
def half : EReal := Ideal.ofBits FTy.f32 1056964608#32

/-- The normal distribution function. -/
def cdf (x : EReal) : EReal := half * (1 + FloatOps.erf (F := Ideal) (φ := .f32) (x * isqrt2))

/-- The derivative of gelu. -/
def dgelu (x : EReal) : EReal := cdf x + x * isqrt2pi * Ideal.exp (0 - x * isqrt2 * (x * isqrt2))

/-- The activation. -/
def act (t : Fin 4096) (c : Fin 2816) : EReal :=
  half * conv gv cw cb t c * (1 + FloatOps.erf (F := Ideal) (φ := .f32) (conv gv cw cb t c * isqrt2)) * val gv t c

/-- The cotangent of the activation. -/
def dact (t : Fin 4096) (c : Fin 2816) : EReal := ∑ x, dh t x * wd c x

/-- The cotangent of the convolution. -/
def dconv (t : Fin 4096) (c : Fin 2816) : EReal := dact wd dh t c * val gv t c * dgelu (conv gv cw cb t c)

/-- The same, zero beyond the last row. -/
def dconvN (n : ℕ) (c : Fin 2816) : EReal := if h : n < 4096 then dconv gv cw cb wd dh ⟨n, h⟩ c else 0

theorem dconvN_lt {n : ℕ} (h : n < 4096) (c : Fin 2816) : dconvN gv cw cb wd dh n c = dconv gv cw cb wd dh ⟨n, h⟩ c := dif_pos h
theorem dconvN_ge {n : ℕ} (h : ¬ n < 4096) (c : Fin 2816) : dconvN gv cw cb wd dh n c = 0 := dif_neg h

/-- The cotangent of the gate. -/
def dgate (n : ℕ) (c : Fin 2816) : EReal :=
  cw 2 c * dconvN gv cw cb wd dh n c + cw 1 c * dconvN gv cw cb wd dh (n + 1) c + cw 0 c * dconvN gv cw cb wd dh (n + 2) c

/-- The cotangent of the value. -/
def dval (t : Fin 4096) (c : Fin 2816) : EReal := dact wd dh t c * (conv gv cw cb t c * cdf (conv gv cw cb t c))

/-- The cotangent of gate and value side by side. -/
def dgv (t : Fin 4096) (c : Fin 5632) : EReal :=
  if h : c.val < 2816 then dgate gv cw cb wd dh t.val ⟨c.val, h⟩ else dval gv cw cb wd dh t ⟨c.val - 2816, by omega⟩

/-- Row `n`'s part of the gradient of tap `j`. -/
def dcwTerm (j : ℕ) (c : Fin 2816) (n : ℕ) : EReal :=
  (if j = 0 then dconvN gv cw cb wd dh (n + 2) c else if j = 1 then dconvN gv cw cb wd dh (n + 1) c else dconvN gv cw cb wd dh n c) * gate gv n c

/-- The gradient of tap `j`. -/
def dcw (j : Fin 3) (c : Fin 2816) : EReal := ∑ t : Fin 4096, dcwTerm gv cw cb wd dh j.val c t.val

/-- The gradient of the bias. -/
def dcb (c : Fin 2816) : EReal := ∑ t : Fin 4096, dconvN gv cw cb wd dh t.val c

/-- Row `n`'s part of the down-projection's gradient. -/
def dwdTerm (c : Fin 2816) (x : Fin 1024) (n : ℕ) : EReal := if h : n < 4096 then act gv cw cb ⟨n, h⟩ c * dh ⟨n, h⟩ x else 0

/-- The gradient of the down-projection. -/
def dwd (c : Fin 2816) (x : Fin 1024) : EReal := ∑ t : Fin 4096, dwdTerm gv cw cb dh c x t.val

/-- An extended real that is a real. -/
def IsReal (x : EReal) : Prop := ∃ r : ℝ, x = (r : EReal)

theorem IsReal.zero : IsReal 0 := ⟨0, rfl⟩
theorem IsReal.coe (r : ℝ) : IsReal (r : EReal) := ⟨r, rfl⟩
theorem IsReal.add {x y : EReal} : IsReal x → IsReal y → IsReal (x + y) := fun ⟨a, ha⟩ ⟨b, hb⟩ => ⟨a + b, by rw [ha, hb, EReal.coe_add]⟩
theorem IsReal.mul {x y : EReal} : IsReal x → IsReal y → IsReal (x * y) := fun ⟨a, ha⟩ ⟨b, hb⟩ => ⟨a * b, by rw [ha, hb, EReal.coe_mul]⟩
theorem IsReal.sum {ι : Type} (s : Finset ι) (f : ι → EReal) (h : ∀ i, IsReal (f i)) : IsReal (∑ i ∈ s, f i) := by
  classical
  induction s using Finset.induction_on with
  | empty => simpa using IsReal.zero
  | insert a s ha ih => rw [Finset.sum_insert ha]; exact (h a).add ih

theorem sum_range_shift (k : ℕ) (f g : ℕ → EReal) :
    ∑ n ∈ Finset.range (4096 + k), f n * (if n < k then 0 else g (n - k)) = ∑ n ∈ Finset.range 4096, f (n + k) * g n := by
  rw [Nat.add_comm 4096 k, Finset.sum_range_add, Finset.sum_eq_zero, zero_add]
  · exact Finset.sum_congr rfl fun n _ => by rw [if_neg (by omega), Nat.add_sub_cancel_left, Nat.add_comm]
  · intro n h
    rw [if_pos (Finset.mem_range.mp h), mul_zero]

/-- Tap `j`'s gradient summed over the convolution's rows is the same summed over the gate's rows: `k = 2 - j` rows apart, and nothing is lost at the ends. -/
theorem dcw_shift (k : ℕ) (hk : k ≤ 2) (c : Fin 2816) :
    ∑ t : Fin 4096, dconv gv cw cb wd dh t c * gpad gv (2 - k + t.val) c = ∑ t : Fin 4096, dconvN gv cw cb wd dh (t.val + k) c * gate gv t.val c := by
  have e1 : ∀ t : Fin 4096, dconv gv cw cb wd dh t c * gpad gv (2 - k + t.val) c
      = (fun n : ℕ => dconvN gv cw cb wd dh n c * (if n < k then 0 else gate gv (n - k) c)) t.val := fun t => by
    show _ = dconvN gv cw cb wd dh t.val c * _
    unfold dconvN gpad
    rw [dif_pos t.isLt]
    congr 1
    by_cases h : t.val < k
    · rw [if_pos h, if_pos (by omega)]
    · rw [if_neg h, if_neg (by omega)]; congr 1; omega
  rw [Finset.sum_congr rfl fun t _ => e1 t, Fin.sum_univ_eq_sum_range (fun n => dconvN gv cw cb wd dh n c * (if n < k then 0 else gate gv (n - k) c)), Fin.sum_univ_eq_sum_range (fun n => dconvN gv cw cb wd dh (n + k) c * gate gv n c)]
  have l1 : ∑ n ∈ Finset.range 4096, dconvN gv cw cb wd dh n c * (if n < k then 0 else gate gv (n - k) c)
      = ∑ n ∈ Finset.range (4096 + k), dconvN gv cw cb wd dh n c * (if n < k then 0 else gate gv (n - k) c) := by
    refine Finset.sum_subset (by intro n; simp only [Finset.mem_range]; omega) fun n _ h => ?_
    have : ¬ n < 4096 := by simpa using h
    rw [show dconvN gv cw cb wd dh n c = 0 from dif_neg this, zero_mul]
  rw [l1]; exact sum_range_shift k (fun n => dconvN gv cw cb wd dh n c) (fun n => gate gv n c)

variable {gv cw cb wd dh}

theorem gate_real (hg : ∀ t c, IsReal (gv t c)) (n : ℕ) (c : Fin 2816) : IsReal (gate gv n c) := by
  unfold gate; split
  · exact hg _ _
  · exact IsReal.zero

theorem gpad_real (hg : ∀ t c, IsReal (gv t c)) (n : ℕ) (c : Fin 2816) : IsReal (gpad gv n c) := by
  unfold gpad; split
  · exact IsReal.zero
  · exact gate_real hg _ _

theorem conv_real (hg : ∀ t c, IsReal (gv t c)) (hw : ∀ j c, IsReal (cw j c)) (hb : ∀ c, IsReal (cb c)) (t : Fin 4096) (c : Fin 2816) :
    IsReal (conv gv cw cb t c) :=
  (((hb _).add ((hw _ _).mul (gpad_real hg _ _))).add ((hw _ _).mul (gpad_real hg _ _))).add ((hw _ _).mul (gpad_real hg _ _))

theorem dact_real (hwd : ∀ c x, IsReal (wd c x)) (hdh : ∀ t x, IsReal (dh t x)) (t : Fin 4096) (c : Fin 2816) : IsReal (dact wd dh t c) :=
  IsReal.sum _ _ fun x => (hdh _ _).mul (hwd _ _)

theorem half_eq : half = ((1 / 2 : ℝ) : EReal) := by
  unfold half
  simp [Ideal.ofBits, Ideal.ieee]
  rw [← EReal.coe_mul]; norm_num [zpow_neg]

/-- `2/√π · 1/2 · 1/√2 = 1/√(2π)`. -/
theorem consts : 2 * (Real.sqrt Real.pi)⁻¹ * (1 / 2) * (Real.sqrt 2)⁻¹ = (Real.sqrt (2 * Real.pi))⁻¹ := by
  rw [Real.sqrt_mul (by norm_num), mul_inv]; ring

/-- The product rule's way to write the convolution's cotangent is the kernel's. -/
theorem dconv_ref (T x : EReal) (hT : IsReal T) (hx : IsReal x) :
    twoOverSqrtPi * (half * x * T) * Ideal.exp (0 - x * isqrt2 * (x * isqrt2)) * isqrt2
      + half * (T * (1 + FloatOps.erf (F := Ideal) (φ := .f32) (x * isqrt2))) = T * dgelu x := by
  obtain ⟨T, rfl⟩ := hT
  obtain ⟨x, rfl⟩ := hx
  unfold dgelu cdf
  rw [half_eq]
  unfold isqrt2 isqrt2pi twoOverSqrtPi
  have he : FloatOps.erf (F := Ideal) (φ := .f32) ((x : EReal) * (((Real.sqrt 2)⁻¹ : ℝ) : EReal)) =
    ((2 / Real.sqrt Real.pi * ∫ t in (0 : ℝ)..(x * (Real.sqrt 2)⁻¹), Real.exp (-(t ^ 2)) : ℝ) : EReal) := by
    rw [← EReal.coe_mul]; exact Ideal.erf_coe _
  rw [he]
  generalize (2 / Real.sqrt Real.pi * ∫ t in (0 : ℝ)..(x * (Real.sqrt 2)⁻¹), Real.exp (-(t ^ 2)) : ℝ) = E
  rw [← EReal.coe_one, ← EReal.coe_zero]
  simp only [← EReal.coe_mul, ← EReal.coe_sub, Ideal.exp_coe, ← EReal.coe_add]
  rw [← consts]
  congr 1
  ring

end Cert.Mlp

end
-- ==== Proof.Mlp.Block.lean ====
/- One grid point's results in the terms of the whole problem: if the point's blocks hold rows `256 b …` of the arrays and the carried buffer the first rows of
   block `b + 1`'s convolution cotangent, the point's results are the same rows of the specification and its sums gain this block's part. -/
module

public import proofs.«01_k».proof.Proof.Mlp.Terms
public import proofs.«01_k».proof.Proof.Mlp.Spec

@[expose] public section

noncomputable section

namespace Cert.KernelIdeal.Mlp

open Cert.KernelIdeal Cert.KernelIdeal.Gen Idealize.ShloMosaic Idealize.ShloMosaic.TcCoe Idealize.SL.Sem
open Cert.Mlp

theorem isqrt2_named : Named.named (F := Ideal) (φ := .f32) κ "inv_sqrt2" 1060439283#32 = isqrt2 := IdealRules.named_const.ideal_named_scalar _ _ _ _ rfl
theorem isqrt2pi_named : Named.named (F := Ideal) (φ := .f32) κ "inv_sqrt2pi" 1053573674#32 = isqrt2pi :=
  IdealRules.named_const.ideal_named_scalar _ _ _ _ rfl

theorem cdfK_eq (x : EReal) : cdfK x = cdf x := by unfold cdfK cdf; rw [isqrt2_named]; rfl
theorem dgeluK_eq (x : EReal) : dgeluK x = dgelu x := by unfold dgeluK dgelu; rw [cdfK_eq, isqrt2_named, isqrt2pi_named]

theorem pick0 (xs : Vec Ideal S8x2816 .f32) (c : Fin 2816) : pickK 0#32 xs c = xs (ix2 0 c) := by
  unfold pickK; simp [Fin.sum_univ_eight, Scalar.select, IntOp.cmpi]

theorem pick1 (xs : Vec Ideal S8x2816 .f32) (c : Fin 2816) : pickK 1#32 xs c = xs (ix2 1 c) := by
  unfold pickK; simp [Fin.sum_univ_eight, Scalar.select, IntOp.cmpi]

theorem sel (r k : ℕ) (hr : r < 256) (hk : k < 256) (a b : EReal) :
    Scalar.select (IntOp.cmpi CmpIPredicate.eq (BitVec.ofNat 32 r) (BitVec.ofNat 32 k)) a b = if r = k then a else b := by
  unfold Scalar.select
  by_cases h : r = k
  · subst h; rw [if_pos rfl, if_pos (by simp [IntOp.cmpi])]
  · rw [if_neg h, if_neg]
    intro e
    have e := IntOp.cmpi_eq.mp e
    have := congrArg BitVec.toNat e
    simp only [BitVec.toNat_ofNat] at this
    omega

variable {gv : Fin 4096 → Fin 5632 → EReal} {cw : Fin 3 → Fin 2816 → EReal} {cb : Fin 2816 → EReal} {wd : Fin 2816 → Fin 1024 → EReal}
  {dh : Fin 4096 → Fin 1024 → EReal} {b : ℕ}
  {x0 : Vec Ideal S256x1024 .f32} {x1 x2 x3 x4 : Vec Ideal S256x2816 .bf16} {x5 : Vec Ideal S3x2816 .f32} {x6 : Vec Ideal S2816x1024 .bf16}

/-- The blocks hold rows `256 b …` of the arrays. -/
structure Holds (gv : Fin 4096 → Fin 5632 → EReal) (cw : Fin 3 → Fin 2816 → EReal) (cb : Fin 2816 → EReal) (wd : Fin 2816 → Fin 1024 → EReal)
    (dh : Fin 4096 → Fin 1024 → EReal) (b : ℕ) (x0 : Vec Ideal S256x1024 .f32) (x1 x2 x3 x4 : Vec Ideal S256x2816 .bf16) (x5 : Vec Ideal S3x2816 .f32)
    (x6 : Vec Ideal S2816x1024 .bf16) : Prop where
  lt : b < 16
  hdh : ∀ (r : Fin 256) (x : Fin 1024), x0 (ix2 r x) = dh ⟨b * 256 + r.val, by omega⟩ x
  hgate : ∀ (r : Fin 256) (c : Fin 2816), x1 (ix2 r c) = gate gv (b * 256 + r.val) c
  hval : ∀ (r : Fin 256) (c : Fin 2816), x2 (ix2 r c) = val gv ⟨b * 256 + r.val, by omega⟩ c
  hconv : ∀ (r : Fin 256) (c : Fin 2816), x3 (ix2 r c) = conv gv cw cb ⟨b * 256 + r.val, by omega⟩ c
  hact : ∀ (r : Fin 256) (c : Fin 2816), x4 (ix2 r c) = act gv cw cb ⟨b * 256 + r.val, by omega⟩ c
  hcw : ∀ (j : Fin 3) (c : Fin 2816), x5 (ix2 j c) = cw j c
  hwd : ∀ (c : Fin 2816) (x : Fin 1024), x6 (ix2 c x) = wd c x

/-- The carried buffer holds the first rows of the next block's convolution cotangent. -/
def Carries (gv : Fin 4096 → Fin 5632 → EReal) (cw : Fin 3 → Fin 2816 → EReal) (cb : Fin 2816 → EReal) (wd : Fin 2816 → Fin 1024 → EReal)
    (dh : Fin 4096 → Fin 1024 → EReal) (b : ℕ) (xs : Vec Ideal S8x2816 .f32) : Prop :=
  ∀ (x : Fin 8) (c : Fin 2816), xs (ix2 x c) = dconvN gv cw cb wd dh (b * 256 + x.val) c

theorem Holds.dact_eq (H : Holds gv cw cb wd dh b x0 x1 x2 x3 x4 x5 x6) (r : Fin 256) (c : Fin 2816) :
    dactK x0 x6 r c = Cert.Mlp.dact wd dh ⟨b * 256 + r.val, by have := H.lt; omega⟩ c := by
  unfold dactK Cert.Mlp.dact
  exact Finset.sum_congr rfl fun x _ => by rw [H.hdh, H.hwd]

theorem Holds.dconv_eq (H : Holds gv cw cb wd dh b x0 x1 x2 x3 x4 x5 x6) (r : Fin 256) (c : Fin 2816) :
    dconvK x0 x6 x2 x3 r c = dconvN gv cw cb wd dh (b * 256 + r.val) c := by
  have := H.lt
  rw [dconvN_lt _ _ _ _ _ (by omega)]
  unfold dconvK Cert.Mlp.dconv
  rw [H.dact_eq, H.hval, dgeluK_eq, H.hconv]

theorem Holds.carry (H : Holds gv cw cb wd dh b x0 x1 x2 x3 x4 x5 x6) (x : Fin 8) (k : Fin 2816) :
    blkCarry x0 x6 x2 x3 (ix2 x k) = dconvN gv cw cb wd dh (b * 256 + x.val) k := H.dconv_eq ⟨x.val, by omega⟩ k

variable {xs : Vec Ideal S8x2816 .f32}

theorem Holds.u1 (H : Holds gv cw cb wd dh b x0 x1 x2 x3 x4 x5 x6) (C : Carries gv cw cb wd dh (b + 1) xs) (r : Fin 256) (c : Fin 2816) :
    u1K (dconvK x0 x6 x2 x3) xs r c = dconvN gv cw cb wd dh (b * 256 + r.val + 1) c := by
  unfold u1K rollK
  rw [sel r.val 255 r.isLt (by norm_num), pick0, C]
  split
  · congr 1; simp only [Fin.val_zero]; omega
  · rw [H.dconv_eq]; congr 1; simp only; omega

theorem Holds.u2 (H : Holds gv cw cb wd dh b x0 x1 x2 x3 x4 x5 x6) (C : Carries gv cw cb wd dh (b + 1) xs) (r : Fin 256) (c : Fin 2816) :
    u2K (dconvK x0 x6 x2 x3) xs r c = dconvN gv cw cb wd dh (b * 256 + r.val + 2) c := by
  unfold u2K rollK
  rw [sel r.val 255 r.isLt (by norm_num), sel r.val 254 r.isLt (by norm_num), pick0, pick1, C, C]
  split
  · congr 1; simp only [Fin.val_one]; omega
  · split
    · congr 1; simp only [Fin.val_zero]; omega
    · rw [H.dconv_eq]; congr 1; simp only; omega

/-- The block of gate and value cotangents. -/
theorem Holds.gv_eq (H : Holds gv cw cb wd dh b x0 x1 x2 x3 x4 x5 x6) (C : Carries gv cw cb wd dh (b + 1) xs) (r : Fin 256) (k : Fin 5632) :
    blkGV x5 x0 x6 x2 x3 xs (ix2 r k) = dgv gv cw cb wd dh ⟨b * 256 + r.val, by have := H.lt; omega⟩ k := by
  show (if h : k.val < 2816 then dgateK x5 (dconvK x0 x6 x2 x3) xs r ⟨k.val, h⟩ else dvalK x0 x6 x3 r ⟨k.val - 2816, _⟩) = _
  unfold dgv
  split
  · unfold dgateK dgate
    rw [H.u1 C, H.u2 C, H.dconv_eq, H.hcw, H.hcw, H.hcw]
  · unfold dvalK dval
    rw [H.dact_eq, H.hconv, cdfK_eq]

/-- The tap gradients gain this block's rows. -/
theorem Holds.cw_eq (H : Holds gv cw cb wd dh b x0 x1 x2 x3 x4 x5 x6) (C : Carries gv cw cb wd dh (b + 1) xs) (xo : Vec Ideal S3x2816 .f32)
    (j : Fin 3) (k : Fin 2816) :
    blkCW x0 x6 x1 x2 x3 xo xs (ix2 j k) = xo (ix2 j k) + ∑ r : Fin 256, dcwTerm gv cw cb wd dh j.val k (b * 256 + r.val) := by
  show xo (ix2 j k) + ∑ r, (if j.val = 0 then u2K (dconvK x0 x6 x2 x3) xs r k else if j.val = 1 then u1K (dconvK x0 x6 x2 x3) xs r k
    else dconvK x0 x6 x2 x3 r k) * x1 (ix2 r k) = _
  unfold dcwTerm
  congr 1
  exact Finset.sum_congr rfl fun r _ => by rw [H.u1 C, H.u2 C, H.dconv_eq, H.hgate]

/-- The bias gradient gains this block's rows. -/
theorem Holds.cb_eq (H : Holds gv cw cb wd dh b x0 x1 x2 x3 x4 x5 x6) (xo : Vec Ideal S1x2816 .f32) (u : Fin 1) (k : Fin 2816) :
    blkCB x0 x6 x2 x3 xo (ix2 u k) = xo (ix2 u k) + ∑ r : Fin 256, dconvN gv cw cb wd dh (b * 256 + r.val) k := by
  show xo (ix2 u k) + ∑ r, dconvK x0 x6 x2 x3 r k = _
  congr 1
  exact Finset.sum_congr rfl fun r _ => H.dconv_eq _ _

/-- The down-projection's gradient gains this block's rows. -/
theorem Holds.wd_eq (H : Holds gv cw cb wd dh b x0 x1 x2 x3 x4 x5 x6) (xs : Vec Ideal S2816x1024 .f32) (k : Fin 2816) (x : Fin 1024) :
    blkWD x0 x4 xs (ix2 k x) = xs (ix2 k x) + ∑ r : Fin 256, dwdTerm gv cw cb dh k x (b * 256 + r.val) := by
  show xs (ix2 k x) + ∑ r, x4 (ix2 r k) * x0 (ix2 r x) = _
  unfold dwdTerm
  congr 1
  exact Finset.sum_congr rfl fun r _ => by
    have := H.lt
    rw [dif_pos (by omega), H.hact, H.hdh]

/-- The rows of the first `k` blocks, block by block. -/
theorem sum_blocks (f : ℕ → EReal) : ∀ k : ℕ, ∑ i ∈ Finset.range k, ∑ r : Fin 256, f (i * 256 + r.val) = ∑ n ∈ Finset.range (k * 256), f n
  | 0 => by simp
  | k + 1 => by
    rw [Finset.sum_range_succ, sum_blocks f k, Nat.succ_mul, Finset.sum_range_add, Fin.sum_univ_eq_sum_range (fun r => f (k * 256 + r))]

/-- All rows, summed from the last block to the first. -/
theorem sum_rev (f : ℕ → EReal) : ∑ i ∈ Finset.range 16, ∑ r : Fin 256, f ((15 - i) * 256 + r.val) = ∑ t : Fin 4096, f t.val := by
  rw [Finset.sum_range_reflect (fun i => ∑ r : Fin 256, f (i * 256 + r.val)) 16, sum_blocks, Fin.sum_univ_eq_sum_range]

end Cert.KernelIdeal.Mlp

end
-- ==== Proof.Mlp.Host.lean ====
/- What the host lines before the kernel leave in its operands: gate, value, convolution, activation and the down-projection, entry by entry. -/
module

public import proofs.«01_k».proof.Proof.Gen.KernelIdeal.Value
public import proofs.«01_k».proof.Proof.Mlp.Spec

@[expose] public section

set_option maxRecDepth 16384

noncomputable section

namespace Cert.KernelIdeal.Mlp

open Cert.KernelIdeal Cert.KernelIdeal.Gen Idealize.ShloMosaic Idealize.ShloMosaic.TcCoe Idealize.SL.Sem
open Cert.Mlp

variable (m : (ℓ : Loc nD τ sig) → Buf (Elt Ideal) ℓ) (c : Dev nD)

/-- The arguments, as functions of row and column. -/
abbrev gvM : Fin 4096 → Fin 5632 → EReal := fun t k => (m ((c : Thread nD τ).loc main_arg0) : Vec Ideal S4096x5632 .f32) (ix2 t k)
abbrev cwM : Fin 3 → Fin 2816 → EReal := fun j k => (m ((c : Thread nD τ).loc main_arg1) : Vec Ideal S3x2816 .f32) (ix2 j k)
abbrev cbM : Fin 2816 → EReal := fun k => (m ((c : Thread nD τ).loc main_arg2) : Vec Ideal S1x2816 .f32) (ix2 0 k)
abbrev wdM : Fin 2816 → Fin 1024 → EReal := fun k x => (m ((c : Thread nD τ).loc main_arg3) : Vec Ideal S2816x1024 .f32) (ix2 k x)
abbrev dhM : Fin 4096 → Fin 1024 → EReal := fun t x => (m ((c : Thread nD τ).loc main_arg4) : Vec Ideal S4096x1024 .f32) (ix2 t x)

theorem gpad_read (a0 : Vec Ideal S4096x5632 .f32) (n : ℕ) (k : Fin 2816) (hn : n < 4098) (hk : k.val < 5632) :
    (if h : n < 2 then 0 else a0 (ix2 (⟨n - 2, by omega⟩ : Fin 4096) (⟨k.val, hk⟩ : Fin 5632))) = gpad (fun t k => a0 (ix2 t k)) n k := by
  unfold gpad gate
  by_cases h : n < 2
  · rw [dif_pos h, if_pos h]
  · rw [dif_neg h, if_neg h, dif_pos (by omega)]

/-- The convolution as the host's entries spell it. -/
theorem conv_read (a0 : Vec Ideal S4096x5632 .f32) (a1 : Vec Ideal S3x2816 .f32) (a2 : Vec Ideal S1x2816 .f32) (t : Fin 4096) (k : Fin 2816)
    (h0 : ¬ t.val < 2 → t.val - 2 < 4096) (h1 : ¬ 1 + t.val < 2 → 1 + t.val - 2 < 4096) (hk : k.val < 5632) :
    ((a2 (ix2 0 k) + a1 (ix2 0 k) * if h : t.val < 2 then 0 else a0 (ix2 (⟨t.val - 2, h0 h⟩ : Fin 4096) (⟨k.val, hk⟩ : Fin 5632))) +
        a1 (ix2 1 k) * if h : 1 + t.val < 2 then 0 else a0 (ix2 (⟨1 + t.val - 2, h1 h⟩ : Fin 4096) (⟨k.val, hk⟩ : Fin 5632))) +
      a1 (ix2 2 k) * a0 (ix2 t (⟨k.val, hk⟩ : Fin 5632))
      = conv (fun t k => a0 (ix2 t k)) (fun j k => a1 (ix2 j k)) (fun k => a2 (ix2 0 k)) t k := by
  unfold conv
  rw [← gpad_read a0 t.val k (by omega) (by omega), ← gpad_read a0 (1 + t.val) k (by omega) (by omega),
    ← gpad_read a0 (2 + t.val) k (by omega) (by omega), dif_neg (show ¬ 2 + t.val < 2 by omega)]
  have e : (⟨2 + t.val - 2, by omega⟩ : Fin 4096) = t := Fin.ext (by simp)
  rw [e]

set_option maxHeartbeats 1000000 in
theorem V_gate (t : Fin 4096) (k : Fin 2816) : (V m c main_v37 : Vec Ideal S4096x2816 .bf16) (ix2 t k) = gate (gvM m c) t.val k := by
  unfold V hostOps0
  after_results
  pointwise
  unfold gate
  rw [dif_pos t.isLt]

set_option maxHeartbeats 1000000 in
theorem V_val (t : Fin 4096) (k : Fin 2816) : (V m c main_v38 : Vec Ideal S4096x2816 .bf16) (ix2 t k) = val (gvM m c) t k := by
  unfold V hostOps0
  after_results
  pointwise
  rfl

set_option maxHeartbeats 1000000 in
theorem V_conv (t : Fin 4096) (k : Fin 2816) :
    (V m c main_v39 : Vec Ideal S4096x2816 .bf16) (ix2 t k) = conv (gvM m c) (cwM m c) (cbM m c) t k := by
  unfold V hostOps0
  after_results
  pointwise
  exact conv_read (m ((c : Thread nD τ).loc main_arg0)) (m ((c : Thread nD τ).loc main_arg1)) (m ((c : Thread nD τ).loc main_arg2)) t k
    (by omega) (by omega) (by omega)

theorem two_eq : Ideal.ofBits FTy.f32 1073741824#32 = ((2 : ℝ) : EReal) := by
  simp [Ideal.ofBits, Ideal.ieee]
  rw [← EReal.coe_mul]; norm_num [zpow_neg]

theorem div_sqrt2 (x : EReal) (i : S_.Idx) : Ideal.div x (id (Host.sqrt (F := Ideal) (constant S_ FTy.f32 1073741824#32)) i) = x * isqrt2 := by
  have e : id (Host.sqrt (F := Ideal) (constant S_ FTy.f32 1073741824#32)) i = ((Real.sqrt 2 : ℝ) : EReal) := by
    show Ideal.sqrt (Ideal.ofBits FTy.f32 1073741824#32) = _
    rw [two_eq, Ideal.sqrt_coe, if_neg (by norm_num)]
  rw [e]
  unfold Ideal.div isqrt2
  rw [if_neg, ← EReal.coe_inv]
  simp

set_option maxHeartbeats 1000000 in
theorem V_act (t : Fin 4096) (k : Fin 2816) :
    (V m c main_v40 : Vec Ideal S4096x2816 .bf16) (ix2 t k) = act (gvM m c) (cwM m c) (cbM m c) t k := by
  unfold V hostOps0
  after_results
  pointwise
  rw [div_sqrt2]
  have e := conv_read (m ((c : Thread nD τ).loc main_arg0)) (m ((c : Thread nD τ).loc main_arg1)) (m ((c : Thread nD τ).loc main_arg2)) t k
    (by omega) (by omega) (by omega)
  unfold act
  rw [← e]
  rfl

set_option maxHeartbeats 1000000 in
theorem V_wd (k : Fin 2816) (x : Fin 1024) : (V m c main_v41 : Vec Ideal S2816x1024 .bf16) (ix2 k x) = wdM m c k x := by
  unfold V hostOps0
  after_results
  pointwise

end Cert.KernelIdeal.Mlp

end
-- ==== Proof.Mlp.Global.lean ====
/- The kernel's four result arrays after all sixteen grid points: point `t` takes row block `15 - t`, so the sums run over the rows from the last block to the first. -/
module

public import proofs.«01_k».proof.Proof.Mlp.CaseA
public import proofs.«01_k».proof.Proof.Mlp.CaseB
public import proofs.«01_k».proof.Proof.Mlp.CaseC
public import proofs.«01_k».proof.Proof.Mlp.Block
public import proofs.«01_k».proof.Proof.Mlp.Host

@[expose] public section

set_option maxRecDepth 16384

noncomputable section

namespace Cert.KernelIdeal.Mlp

open Cert.KernelIdeal Cert.KernelIdeal.Gen Idealize.ShloMosaic Idealize.ShloMosaic.TcCoe Idealize.SL.Sem
open Cert.Mlp

variable (m : (ℓ : Loc nD τ sig) → Buf (Elt Ideal) ℓ) (c : Dev nD)

/-- The row block a point takes. -/
theorem idx_rev (t : Fin cfg0.N) : win0_0.index t 0 = 15 - t.val ∧ win0_0.index t 1 = 0 ∧ win0_1.index t 0 = 15 - t.val ∧ win0_1.index t 1 = 0
    ∧ win0_2.index t 0 = 15 - t.val ∧ win0_2.index t 1 = 0 ∧ win0_3.index t 0 = 15 - t.val ∧ win0_3.index t 1 = 0
    ∧ win0_4.index t 0 = 15 - t.val ∧ win0_4.index t 1 = 0 ∧ win0_5.index t 0 = 0 ∧ win0_5.index t 1 = 0
    ∧ win0_6.index t 0 = 0 ∧ win0_6.index t 1 = 0 ∧ win0_7.index t 0 = 15 - t.val ∧ win0_7.index t 1 = 0 :=
  (by decide +kernel : ∀ t : Fin grid0.N, win0_0.index t 0 = 15 - t.val ∧ win0_0.index t 1 = 0 ∧ win0_1.index t 0 = 15 - t.val ∧ win0_1.index t 1 = 0
    ∧ win0_2.index t 0 = 15 - t.val ∧ win0_2.index t 1 = 0 ∧ win0_3.index t 0 = 15 - t.val ∧ win0_3.index t 1 = 0
    ∧ win0_4.index t 0 = 15 - t.val ∧ win0_4.index t 1 = 0 ∧ win0_5.index t 0 = 0 ∧ win0_5.index t 1 = 0
    ∧ win0_6.index t 0 = 0 ∧ win0_6.index t 1 = 0 ∧ win0_7.index t 0 = 15 - t.val ∧ win0_7.index t 1 = 0) t

theorem row_lt (t : Fin cfg0.N) (r : Fin 256) : (15 - t.val) * 256 + r.val < 4096 := by
  have : t.val < 16 := lt_of_lt_of_eq t.isLt (show cfg0.N = 16 from N_0)
  omega

theorem blk0 (t : Fin cfg0.N) (r : Fin 256) (x : Fin 1024) :
    (iblk m c 0 t : Vec Ideal S256x1024 .f32) (ix2 r x) = dhM m c ⟨(15 - t.val) * 256 + r.val, row_lt t r⟩ x := by
  have hi := idx_rev t
  unfold iblk
  rw [View.read_apply]
  show V m c main_arg4 _ = _
  rw [V_main_arg4]
  show m ((c : Thread nD τ).loc main_arg4) _ = m ((c : Thread nD τ).loc main_arg4) _
  congr 1
  funext a
  apply Fin.ext
  match a with
  | ⟨0, _⟩ => show win0_0.index t 0 * 256 + 1 * r.val = (15 - t.val) * 256 + r.val; rw [hi.1]; omega
  | ⟨1, _⟩ => show win0_0.index t 1 * 1024 + 1 * x.val = x.val; rw [hi.2.1]; omega

theorem blk1 (t : Fin cfg0.N) (r : Fin 256) (k : Fin 2816) :
    (iblk m c 1 t : Vec Ideal S256x2816 .bf16) (ix2 r k) = gate (gvM m c) ((15 - t.val) * 256 + r.val) k := by
  have hi := idx_rev t
  refine Eq.trans ?_ (V_gate m c ⟨(15 - t.val) * 256 + r.val, row_lt t r⟩ k)
  unfold iblk
  rw [View.read_apply]
  show V m c main_v37 _ = V m c main_v37 _
  generalize V m c main_v37 = W
  congr 1
  funext a
  apply Fin.ext
  match a with
  | ⟨0, _⟩ => show win0_1.index t 0 * 256 + 1 * r.val = (15 - t.val) * 256 + r.val; rw [hi.2.2.1]; omega
  | ⟨1, _⟩ => show win0_1.index t 1 * 2816 + 1 * k.val = k.val; rw [hi.2.2.2.1]; omega

theorem blk2 (t : Fin cfg0.N) (r : Fin 256) (k : Fin 2816) :
    (iblk m c 2 t : Vec Ideal S256x2816 .bf16) (ix2 r k) = val (gvM m c) ⟨(15 - t.val) * 256 + r.val, row_lt t r⟩ k := by
  have hi := idx_rev t
  refine Eq.trans ?_ (V_val m c ⟨(15 - t.val) * 256 + r.val, row_lt t r⟩ k)
  unfold iblk
  rw [View.read_apply]
  show V m c main_v38 _ = V m c main_v38 _
  generalize V m c main_v38 = W
  congr 1
  funext a
  apply Fin.ext
  match a with
  | ⟨0, _⟩ => show win0_2.index t 0 * 256 + 1 * r.val = (15 - t.val) * 256 + r.val; rw [hi.2.2.2.2.1]; omega
  | ⟨1, _⟩ => show win0_2.index t 1 * 2816 + 1 * k.val = k.val; rw [hi.2.2.2.2.2.1]; omega

theorem blk3 (t : Fin cfg0.N) (r : Fin 256) (k : Fin 2816) :
    (iblk m c 3 t : Vec Ideal S256x2816 .bf16) (ix2 r k)
      = conv (gvM m c) (cwM m c) (cbM m c) ⟨(15 - t.val) * 256 + r.val, row_lt t r⟩ k := by
  have hi := idx_rev t
  refine Eq.trans ?_ (V_conv m c ⟨(15 - t.val) * 256 + r.val, row_lt t r⟩ k)
  unfold iblk
  rw [View.read_apply]
  show V m c main_v39 _ = V m c main_v39 _
  generalize V m c main_v39 = W
  congr 1
  funext a
  apply Fin.ext
  match a with
  | ⟨0, _⟩ => show win0_3.index t 0 * 256 + 1 * r.val = (15 - t.val) * 256 + r.val; rw [hi.2.2.2.2.2.2.1]; omega
  | ⟨1, _⟩ => show win0_3.index t 1 * 2816 + 1 * k.val = k.val; rw [hi.2.2.2.2.2.2.2.1]; omega

theorem blk4 (t : Fin cfg0.N) (r : Fin 256) (k : Fin 2816) :
    (iblk m c 4 t : Vec Ideal S256x2816 .bf16) (ix2 r k)
      = act (gvM m c) (cwM m c) (cbM m c) ⟨(15 - t.val) * 256 + r.val, row_lt t r⟩ k := by
  have hi := idx_rev t
  refine Eq.trans ?_ (V_act m c ⟨(15 - t.val) * 256 + r.val, row_lt t r⟩ k)
  unfold iblk
  rw [View.read_apply]
  show V m c main_v40 _ = V m c main_v40 _
  generalize V m c main_v40 = W
  congr 1
  funext a
  apply Fin.ext
  match a with
  | ⟨0, _⟩ => show win0_4.index t 0 * 256 + 1 * r.val = (15 - t.val) * 256 + r.val; rw [hi.2.2.2.2.2.2.2.2.1]; omega
  | ⟨1, _⟩ => show win0_4.index t 1 * 2816 + 1 * k.val = k.val; rw [hi.2.2.2.2.2.2.2.2.2.1]; omega

theorem blk5 (t : Fin cfg0.N) (j : Fin 3) (k : Fin 2816) : (iblk m c 5 t : Vec Ideal S3x2816 .f32) (ix2 j k) = cwM m c j k := by
  have hi := idx_rev t
  unfold iblk
  rw [View.read_apply]
  show V m c main_arg1 _ = _
  rw [V_main_arg1]
  show m ((c : Thread nD τ).loc main_arg1) _ = m ((c : Thread nD τ).loc main_arg1) _
  congr 1
  funext a
  apply Fin.ext
  match a with
  | ⟨0, _⟩ => show win0_5.index t 0 * 3 + 1 * j.val = j.val; rw [hi.2.2.2.2.2.2.2.2.2.2.1]; omega
  | ⟨1, _⟩ => show win0_5.index t 1 * 2816 + 1 * k.val = k.val; rw [hi.2.2.2.2.2.2.2.2.2.2.2.1]; omega

theorem blk6 (t : Fin cfg0.N) (k : Fin 2816) (x : Fin 1024) : (iblk m c 6 t : Vec Ideal S2816x1024 .bf16) (ix2 k x) = wdM m c k x := by
  have hi := idx_rev t
  refine Eq.trans ?_ (V_wd m c k x)
  unfold iblk
  rw [View.read_apply]
  show V m c main_v41 _ = V m c main_v41 _
  generalize V m c main_v41 = W
  congr 1
  funext a
  apply Fin.ext
  match a with
  | ⟨0, _⟩ => show win0_6.index t 0 * 2816 + 1 * k.val = k.val; rw [hi.2.2.2.2.2.2.2.2.2.2.2.2.1]; omega
  | ⟨1, _⟩ => show win0_6.index t 1 * 1024 + 1 * x.val = x.val; rw [hi.2.2.2.2.2.2.2.2.2.2.2.2.2.1]; omega

/-- A point's blocks hold the rows of its row block. -/
theorem holds (t : Fin cfg0.N) : Holds (gvM m c) (cwM m c) (cbM m c) (wdM m c) (dhM m c) (15 - t.val)
    (iblk m c 0 t) (iblk m c 1 t) (iblk m c 2 t) (iblk m c 3 t) (iblk m c 4 t) (iblk m c 5 t) (iblk m c 6 t) where
  lt := by omega
  hdh := blk0 m c t
  hgate := blk1 m c t
  hval := blk2 m c t
  hconv := blk3 m c t
  hact := blk4 m c t
  hcw := blk5 m c t
  hwd := blk6 m c t

/-- What the sixteen points have added up after point `n`. -/
def upto (f : ℕ → EReal) (n : ℕ) : EReal := ∑ i ∈ Finset.range (n + 1), ∑ r : Fin 256, f ((15 - i) * 256 + r.val)

theorem upto_zero (f : ℕ → EReal) : upto f 0 = 0 + ∑ r : Fin 256, f ((15 - 0) * 256 + r.val) := by
  unfold upto; rw [Finset.sum_range_succ, Finset.sum_range_zero]
theorem upto_succ (f : ℕ → EReal) (n : ℕ) : upto f (n + 1) = upto f n + ∑ r : Fin 256, f ((15 - (n + 1)) * 256 + r.val) := by
  unfold upto; rw [Finset.sum_range_succ]
theorem upto_last (f : ℕ → EReal) : upto f 15 = ∑ t : Fin 4096, f t.val := sum_rev f

theorem pay9_zero (x : Fin 8) (k : Fin 2816) : k0_pay9 (F := Ideal) (ix2 x k) = 0 := by
  unfold_payloads
  pointwise
theorem pay10_zero (j : Fin 3) (k : Fin 2816) : k0_pay10 (F := Ideal) (ix2 j k) = 0 := by
  unfold_payloads
  pointwise
theorem pay11_zero (u : Fin 1) (k : Fin 2816) : k0_pay11 (F := Ideal) (ix2 u k) = 0 := by
  unfold_payloads
  pointwise
theorem pay12_zero (k : Fin 2816) (x : Fin 1024) : k0_pay12 (F := Ideal) (ix2 k x) = 0 := by
  unfold_payloads
  pointwise

/-- Everything a point leaves behind. -/
structure After (n : ℕ) (o : Vec Ideal S256x5632 .bf16 × Vec Ideal S3x2816 .f32 × Vec Ideal S1x2816 .f32 × Vec Ideal S2816x1024 .bf16 × Vec Ideal S8x2816 .f32 × Vec Ideal S2816x1024 .f32) : Prop where
  gv : ∀ (r : Fin 256) (k : Fin 5632), o.1 (ix2 r k) = dgv (gvM m c) (cwM m c) (cbM m c) (wdM m c) (dhM m c) ⟨(15 - n) * 256 + r.val, by omega⟩ k
  cw : ∀ (j : Fin 3) (k : Fin 2816), o.2.1 (ix2 j k) = upto (dcwTerm (gvM m c) (cwM m c) (cbM m c) (wdM m c) (dhM m c) j.val k) n
  cb : ∀ (u : Fin 1) (k : Fin 2816), o.2.2.1 (ix2 u k) = upto (fun n => dconvN (gvM m c) (cwM m c) (cbM m c) (wdM m c) (dhM m c) n k) n
  wd : n = 15 → ∀ (k : Fin 2816) (x : Fin 1024), o.2.2.2.1 (ix2 k x) = upto (dwdTerm (gvM m c) (cwM m c) (cbM m c) (dhM m c) k x) n
  carry : n < 15 → Carries (gvM m c) (cwM m c) (cbM m c) (wdM m c) (dhM m c) (15 - n) o.2.2.2.2.1
  acc : n < 15 → ∀ (k : Fin 2816) (x : Fin 1024), o.2.2.2.2.2 (ix2 k x) = upto (dwdTerm (gvM m c) (cwM m c) (cbM m c) (dhM m c) k x) n

theorem N16 (t : Fin cfg0.N) : t.val < 16 := lt_of_lt_of_eq t.isLt (show cfg0.N = 16 from N_0)

theorem carries_zero : Carries (gvM m c) (cwM m c) (cbM m c) (wdM m c) (dhM m c) (15 - 0 + 1) (k0_pay9 (F := Ideal)) := fun x k => by
  rw [pay9_zero, dconvN_ge _ _ _ _ _ (by omega)]

set_option maxHeartbeats 1000000 in
theorem after_A (t : Fin cfg0.N) (h : t.val = 0) : After m c 0 (outsAt0 m c t.val t.isLt) := by
  have H := holds m c t
  rw [h] at H
  rw [outsAt0_A m c t (by rw [h]) (by rw [h]; decide), gv_A, cw_A, cb_A, carry_A, acc_A]
  constructor
  · exact fun r k => H.gv_eq (carries_zero m c) r k
  · exact fun j k => by rw [upto_zero, ← pay10_zero j k]; exact H.cw_eq (carries_zero m c) _ j k
  · exact fun u k => by rw [upto_zero, ← pay11_zero u k]; exact H.cb_eq _ u k
  · exact fun h => absurd h (by decide)
  · exact fun _ x k => H.carry x k
  · exact fun _ k x => by rw [upto_zero, ← pay12_zero k x]; exact H.wd_eq _ k x

set_option maxHeartbeats 1000000 in
theorem after_B (t : Fin cfg0.N) (n : ℕ) (h : t.val = n + 1) (hn : n + 1 < 15) (ih : After m c n (outsAt0 m c (t.val - 1) (Nat.lt_of_le_of_lt (Nat.sub_le _ _) t.isLt))) :
    After m c (n + 1) (outsAt0 m c t.val t.isLt) := by
  have H := holds m c t
  rw [h] at H
  have C := ih.carry (by omega)
  rw [show 15 - n = 15 - (n + 1) + 1 by omega] at C
  rw [outsAt0_B m c t (by omega) (by omega), gv_B, cw_B, cb_B, carry_B, acc_B]
  constructor
  · exact fun r k => H.gv_eq C r k
  · exact fun j k => by rw [upto_succ, ← ih.cw j k]; exact H.cw_eq C _ j k
  · exact fun u k => by rw [upto_succ, ← ih.cb u k]; exact H.cb_eq _ u k
  · exact fun h => absurd h (by omega)
  · exact fun _ x k => H.carry x k
  · exact fun _ k x => by rw [upto_succ, ← ih.acc (by omega) k x]; exact H.wd_eq _ k x

set_option maxHeartbeats 1000000 in
theorem after_C (t : Fin cfg0.N) (h : t.val = 14 + 1) (ih : After m c 14 (outsAt0 m c (t.val - 1) (Nat.lt_of_le_of_lt (Nat.sub_le _ _) t.isLt))) :
    After m c (14 + 1) (outsAt0 m c t.val t.isLt) := by
  have H := holds m c t
  rw [h] at H
  have C := ih.carry (by omega)
  rw [show 15 - 14 = 15 - (14 + 1) + 1 by omega] at C
  rw [outsAt0_C m c t (by omega) (by omega), gv_C, cw_C, cb_C, wd_C]
  constructor
  · exact fun r k => H.gv_eq C r k
  · exact fun j k => by rw [upto_succ, ← ih.cw j k]; exact H.cw_eq C _ j k
  · exact fun u k => by rw [upto_succ, ← ih.cb u k]; exact H.cb_eq _ u k
  · exact fun _ k x => by rw [upto_succ, ← ih.acc (by omega) k x]; exact H.wd_eq _ k x
  · exact fun h => absurd h (by omega)
  · exact fun h => absurd h (by omega)

/-- What every point leaves behind. -/
theorem after (n : ℕ) : ∀ hn : n < cfg0.N, After m c n (outsAt0 m c n hn) := by
  induction n with
  | zero => exact fun hn => after_A m c ⟨0, hn⟩ rfl
  | succ n ih =>
    intro hn
    have := N16 ⟨n + 1, hn⟩
    by_cases h : n + 1 < 15
    · exact after_B m c ⟨n + 1, hn⟩ n rfl h (ih _)
    · obtain rfl : n = 14 := by simp only at this; omega
      exact after_C m c ⟨14 + 1, hn⟩ rfl (ih _)

/-- The gate-and-value gradient as one array. -/
def gvOut : Vec Ideal S4096x5632 .bf16 := fun y => dgv (gvM m c) (cwM m c) (cbM m c) (wdM m c) (dhM m c) ⟨(y 0).val, (y 0).isLt⟩ ⟨(y 1).val, (y 1).isLt⟩
/-- The gradient of the convolution's weights. -/
def cwOut : Vec Ideal S3x2816 .f32 := fun y => dcw (gvM m c) (cwM m c) (cbM m c) (wdM m c) (dhM m c) ⟨(y 0).val, (y 0).isLt⟩ ⟨(y 1).val, (y 1).isLt⟩
/-- The gradient of the convolution's bias. -/
def cbOut : Vec Ideal S1x2816 .f32 := fun y => dcb (gvM m c) (cwM m c) (cbM m c) (wdM m c) (dhM m c) ⟨(y 1).val, (y 1).isLt⟩
/-- The gradient of the down weights. -/
def wdOut : Vec Ideal S2816x1024 .bf16 := fun y => dwd (gvM m c) (cwM m c) (cbM m c) (dhM m c) ⟨(y 0).val, (y 0).isLt⟩ ⟨(y 1).val, (y 1).isLt⟩

/-- An index of a matrix from its two coordinates. -/
theorem ix2_eta {a b : ℕ} (y : (⟨2, ![a, b]⟩ : Shape).Idx) : y = ix2 ⟨(y 0).val, (y 0).isLt⟩ ⟨(y 1).val, (y 1).isLt⟩ := by
  funext i; match i with | ⟨0, _⟩ => rfl | ⟨1, _⟩ => rfl

end Cert.KernelIdeal.Mlp

end
-- ==== Proof.Mlp.Final.lean ====
/- The kernel's four result arrays. -/
module

public import proofs.«01_k».proof.Proof.Mlp.Global
public import proofs.«01_k».proof.Proof.Gen.KernelIdeal.Value

@[expose] public section

set_option maxRecDepth 16384

noncomputable section

namespace Cert.KernelIdeal.Mlp

open Cert.KernelIdeal Cert.KernelIdeal.Gen Idealize.ShloMosaic Idealize.ShloMosaic.TcCoe Idealize.SL.Sem
open Cert.Mlp

variable (m : (ℓ : Loc nD τ sig) → Buf (Elt Ideal) ℓ) (c : Dev nD)

theorem xs7 (t : Fin cfg0.N) : win0_7.xsize (grid0.coords t) 0 = 256 ∧ win0_7.xsize (grid0.coords t) 1 = 5632 :=
  (by decide +kernel : ∀ t : Fin grid0.N, win0_7.xsize (grid0.coords t) 0 = 256 ∧ win0_7.xsize (grid0.coords t) 1 = 5632) t

theorem flushed_gv (t : Fin cfg0.N) : (dats m 0 c).flushed 7 t = ((cfg0.win 7).blk t).view.read (Elt Ideal) (gvOut m c) := by
  have A := (after m c t.val t.isLt).gv
  have hi := idx_rev t
  rw [Value.flushed7]
  generalize outsAt0 m c t.val t.isLt = o at A ⊢
  funext j
  rw [View.read_apply]
  have hj0 : (j 0).val < 256 := lt_of_lt_of_eq (j 0).isLt (xs7 t).1
  have hj1 : (j 1).val < 5632 := lt_of_lt_of_eq (j 1).isLt (xs7 t).2
  refine Eq.trans (b := o.1 (ix2 ⟨(j 0).val, hj0⟩ ⟨(j 1).val, hj1⟩)) ?_ ((A _ _).trans ?_)
  · exact congrArg o.1 (funext fun a => match a with | ⟨0, _⟩ => rfl | ⟨1, _⟩ => rfl)
  · refine congrArg₂ (dgv (gvM m c) (cwM m c) (cbM m c) (wdM m c) (dhM m c)) ?_ ?_
    · apply Fin.ext
      show (15 - t.val) * 256 + (j 0).val = win0_7.index t 0 * 256 + 1 * (j 0).val
      rw [hi.2.2.2.2.2.2.2.2.2.2.2.2.2.2.1]; omega
    · apply Fin.ext
      show (j 1).val = win0_7.index t 1 * 5632 + 1 * (j 1).val
      rw [hi.2.2.2.2.2.2.2.2.2.2.2.2.2.2.2]; omega

theorem final_gv : (dats m 0 c).arrAt 7 cfg0.N = gvOut m c :=
  (dats m 0 c).arrAt_eq_of_cover 7 (gvOut m c) (fun t _ => flushed_gv m c t) fun i => by
    have h0 : (i 0 : Nat) < 4096 := (i 0).isLt
    have h1 : (i 1 : Nat) < 5632 := (i 1).isLt
    obtain ⟨t, ht⟩ : ∃ t : Fin cfg0.N, t.val = 15 - (i 0 : Nat) / 256 := ⟨⟨15 - (i 0 : Nat) / 256, lt_of_lt_of_eq (by omega : _ < 16) (show cfg0.N = 16 from N_0).symm⟩, rfl⟩
    have hi := idx_rev t
    refine ⟨t, flush0_7 t, ?_⟩
    show i ∈ ((View.whole main_v42_0).slice (win0_7.rect t)).set
    rw [View.set_slice_whole, Rect.mem_set_unit]
    intro a
    match a with
    | ⟨0, _⟩ =>
      show win0_7.index t 0 * 256 ≤ (i 0 : Nat) ∧ (i 0 : Nat) < win0_7.index t 0 * 256 + win0_7.xsize (grid0.coords t) 0
      rw [(xs7 t).1,
        hi.2.2.2.2.2.2.2.2.2.2.2.2.2.2.1]
      omega
    | ⟨1, _⟩ =>
      show win0_7.index t 1 * 5632 ≤ (i 1 : Nat) ∧ (i 1 : Nat) < win0_7.index t 1 * 5632 + win0_7.xsize (grid0.coords t) 1
      rw [(xs7 t).2,
        hi.2.2.2.2.2.2.2.2.2.2.2.2.2.2.2]
      omega

theorem last (t : Fin cfg0.N) (h : t.val % 16 = 15) : t = t0_15 := by
  have := N16 t
  exact Fin.ext (by show t.val = 15; omega)

theorem flushed_cw (t : Fin cfg0.N) (hf : (cfg0.win 8).flush t = true) :
    (dats m 0 c).flushed 8 t = ((cfg0.win 8).blk t).view.read (Elt Ideal) (cwOut m c) := by
  obtain rfl := last t ((flush0_8 t).mp hf)
  have A : (outsAt0 m c t0_15.val t0_15.isLt).2.1 = cwOut m c := by
    funext y
    rw [ix2_eta y]
    exact ((after m c 15 t0_15.isLt).cw _ _).trans (upto_last _)
  show (cfg0.win 8).cut (grid0.coords t0_15) ((dats m 0 c).after 8 t0_15) = _
  rw [after0_8, A]
  have hz' : (fun a => win0_8.index t0_15 a * main_v42_1.ty.shape.size a) = fun _ => 0 := funext fun a => by fin_cases a <;> decide
  exact (Memref.read_access_unit_zero (Elt Ideal) main_v42_1 hz' (fun a => by rw [congrFun hz' a]; simp) (cwOut m c)).symm

theorem flushed_cb (t : Fin cfg0.N) (hf : (cfg0.win 9).flush t = true) :
    (dats m 0 c).flushed 9 t = ((cfg0.win 9).blk t).view.read (Elt Ideal) (cbOut m c) := by
  obtain rfl := last t ((flush0_9 t).mp hf)
  have A : (outsAt0 m c t0_15.val t0_15.isLt).2.2.1 = cbOut m c := by
    funext y
    rw [ix2_eta y]
    exact ((after m c 15 t0_15.isLt).cb _ _).trans (upto_last (fun n => dconvN (gvM m c) (cwM m c) (cbM m c) (wdM m c) (dhM m c) n _))
  show (cfg0.win 9).cut (grid0.coords t0_15) ((dats m 0 c).after 9 t0_15) = _
  rw [after0_9, A]
  have hz' : (fun a => win0_9.index t0_15 a * main_v42_2.ty.shape.size a) = fun _ => 0 := funext fun a => by fin_cases a <;> decide
  exact (Memref.read_access_unit_zero (Elt Ideal) main_v42_2 hz' (fun a => by rw [congrFun hz' a]; simp) (cbOut m c)).symm

theorem flushed_wd (t : Fin cfg0.N) (hf : (cfg0.win 10).flush t = true) :
    (dats m 0 c).flushed 10 t = ((cfg0.win 10).blk t).view.read (Elt Ideal) (wdOut m c) := by
  obtain rfl := last t ((flush0_10 t).mp hf)
  have A : (outsAt0 m c t0_15.val t0_15.isLt).2.2.2.1 = wdOut m c := by
    funext y
    rw [ix2_eta y]
    refine ((after m c 15 t0_15.isLt).wd rfl _ _).trans ((upto_last _).trans ?_)
    show _ = dwd (gvM m c) (cwM m c) (cbM m c) (dhM m c) _ _
    rfl
  show (cfg0.win 10).cut (grid0.coords t0_15) ((dats m 0 c).after 10 t0_15) = _
  rw [after0_10, A]
  have hz' : (fun a => win0_10.index t0_15 a * main_v42_3.ty.shape.size a) = fun _ => 0 := funext fun a => by fin_cases a <;> decide
  exact (Memref.read_access_unit_zero (Elt Ideal) main_v42_3 hz' (fun a => by rw [congrFun hz' a]; simp) (wdOut m c)).symm

theorem final_cw : (dats m 0 c).arrAt 8 cfg0.N = cwOut m c :=
  (dats m 0 c).arrAt_eq_of_cover 8 (cwOut m c) (flushed_cw m c) fun i => ⟨t0_15, (flush0_8 t0_15).mpr rfl, by
    have h0 : (i 0 : Nat) < 3 := (i 0).isLt
    have h1 : (i 1 : Nat) < 2816 := (i 1).isLt
    show i ∈ ((View.whole main_v42_1).slice (win0_8.rect t0_15)).set
    rw [View.set_slice_whole, Rect.mem_set_unit]
    intro a
    match a with
    | ⟨0, _⟩ =>
      show win0_8.index t0_15 0 * 3 ≤ (i 0 : Nat) ∧ (i 0 : Nat) < win0_8.index t0_15 0 * 3 + win0_8.xsize (grid0.coords t0_15) 0
      rw [show win0_8.index t0_15 0 = 0 from by decide +kernel, show win0_8.xsize (grid0.coords t0_15) 0 = 3 from by decide +kernel]; omega
    | ⟨1, _⟩ =>
      show win0_8.index t0_15 1 * 2816 ≤ (i 1 : Nat) ∧ (i 1 : Nat) < win0_8.index t0_15 1 * 2816 + win0_8.xsize (grid0.coords t0_15) 1
      rw [show win0_8.index t0_15 1 = 0 from by decide +kernel, show win0_8.xsize (grid0.coords t0_15) 1 = 2816 from by decide +kernel]; omega⟩

theorem final_cb : (dats m 0 c).arrAt 9 cfg0.N = cbOut m c :=
  (dats m 0 c).arrAt_eq_of_cover 9 (cbOut m c) (flushed_cb m c) fun i => ⟨t0_15, (flush0_9 t0_15).mpr rfl, by
    have h0 : (i 0 : Nat) < 1 := (i 0).isLt
    have h1 : (i 1 : Nat) < 2816 := (i 1).isLt
    show i ∈ ((View.whole main_v42_2).slice (win0_9.rect t0_15)).set
    rw [View.set_slice_whole, Rect.mem_set_unit]
    intro a
    match a with
    | ⟨0, _⟩ =>
      show win0_9.index t0_15 0 * 1 ≤ (i 0 : Nat) ∧ (i 0 : Nat) < win0_9.index t0_15 0 * 1 + win0_9.xsize (grid0.coords t0_15) 0
      rw [show win0_9.index t0_15 0 = 0 from by decide +kernel, show win0_9.xsize (grid0.coords t0_15) 0 = 1 from by decide +kernel]; omega
    | ⟨1, _⟩ =>
      show win0_9.index t0_15 1 * 2816 ≤ (i 1 : Nat) ∧ (i 1 : Nat) < win0_9.index t0_15 1 * 2816 + win0_9.xsize (grid0.coords t0_15) 1
      rw [show win0_9.index t0_15 1 = 0 from by decide +kernel, show win0_9.xsize (grid0.coords t0_15) 1 = 2816 from by decide +kernel]; omega⟩

theorem final_wd : (dats m 0 c).arrAt 10 cfg0.N = wdOut m c :=
  (dats m 0 c).arrAt_eq_of_cover 10 (wdOut m c) (flushed_wd m c) fun i => ⟨t0_15, (flush0_10 t0_15).mpr rfl, by
    have h0 : (i 0 : Nat) < 2816 := (i 0).isLt
    have h1 : (i 1 : Nat) < 1024 := (i 1).isLt
    show i ∈ ((View.whole main_v42_3).slice (win0_10.rect t0_15)).set
    rw [View.set_slice_whole, Rect.mem_set_unit]
    intro a
    match a with
    | ⟨0, _⟩ =>
      show win0_10.index t0_15 0 * 2816 ≤ (i 0 : Nat) ∧ (i 0 : Nat) < win0_10.index t0_15 0 * 2816 + win0_10.xsize (grid0.coords t0_15) 0
      rw [show win0_10.index t0_15 0 = 0 from by decide +kernel, show win0_10.xsize (grid0.coords t0_15) 0 = 2816 from by decide +kernel]; omega
    | ⟨1, _⟩ =>
      show win0_10.index t0_15 1 * 1024 ≤ (i 1 : Nat) ∧ (i 1 : Nat) < win0_10.index t0_15 1 * 1024 + win0_10.xsize (grid0.coords t0_15) 1
      rw [show win0_10.index t0_15 1 = 0 from by decide +kernel, show win0_10.xsize (grid0.coords t0_15) 1 = 1024 from by decide +kernel]; omega⟩

end Cert.KernelIdeal.Mlp

end
-- ==== Proof.Mlp.Ref.lean ====
/- What the reference's single kernel computes, entry by entry: the convolution, the activation, the convolution's cotangent, and from them the four gradients. -/
module

public import proofs.«01_k».proof.Proof.Gen.ReferenceIdeal.Value
public import proofs.«01_k».proof.Proof.Mlp.Spec

@[expose] public section

set_option maxRecDepth 16384

noncomputable section

namespace Cert.ReferenceIdeal.Mlp

open Cert.ReferenceIdeal Cert.ReferenceIdeal.Gen Cert.ReferenceIdeal.Value Idealize.ShloMosaic Idealize.ShloMosaic.TcCoe Idealize.SL.Sem
open Cert.Mlp

theorem isqrt2_named : Named.named (F := Ideal) (φ := .f32) κ "inv_sqrt2" 1060439283#32 = isqrt2 := IdealRules.named_const.ideal_named_scalar _ _ _ _ rfl
theorem twoOverSqrtPi_named : Named.named (F := Ideal) (φ := .f32) κ "two_over_sqrt_pi" 1066430139#32 = twoOverSqrtPi :=
  IdealRules.named_const.ideal_named_scalar _ _ _ _ rfl

theorem hz : (![0, 0] : Fin 2 → ℕ) = fun _ => 0 := funext fun a => by fin_cases a <;> rfl

variable (a0 : Vec Ideal S4096x5632 .f32) (a1 : Vec Ideal S3x2816 .f32) (a2 : Vec Ideal S1x2816 .f32) (a3 : Vec Ideal S2816x1024 .f32)
  (a4 : Vec Ideal S4096x1024 .f32)

abbrev gvF : Fin 4096 → Fin 5632 → EReal := fun t c => a0 (ix2 t c)
abbrev cwF : Fin 3 → Fin 2816 → EReal := fun j c => a1 (ix2 j c)
abbrev cbF : Fin 2816 → EReal := fun c => a2 (ix2 0 c)
abbrev wdF : Fin 2816 → Fin 1024 → EReal := fun c x => a3 (ix2 c x)
abbrev dhF : Fin 4096 → Fin 1024 → EReal := fun t x => a4 (ix2 t x)

theorem gpad_read (n : ℕ) (c : Fin 2816) (hn : n < 4098) (hc : c.val < 5632) :
    (if h : n < 2 then 0 else a0 (ix2 (⟨n - 2, by omega⟩ : Fin 4096) (⟨c.val, hc⟩ : Fin 5632))) = gpad (gvF a0) n c := by
  unfold gpad gate
  by_cases h : n < 2
  · rw [dif_pos h, if_pos h]
  · rw [dif_neg h, if_neg h, dif_pos (by omega)]

theorem conv_apply (t : Fin 4096) (c : Fin 2816) : k0_pay12 a0 a1 a2 (ix2 t c) = conv (gvF a0) (cwF a1) (cbF a2) t c := by
  unfold_payloads
  pointwise [View.ld_unit]
  unfold conv
  rw [← gpad_read a0 t.val c (by omega) (by omega), ← gpad_read a0 (1 + t.val) c (by omega) (by omega),
    ← gpad_read a0 (2 + t.val) c (by omega) (by omega), dif_neg (show ¬ 2 + t.val < 2 by omega)]
  have e : (⟨2 + t.val - 2, by omega⟩ : Fin 4096) = t := Fin.ext (by simp)
  rw [e]

/-- The convolution's cotangent. -/
abbrev dconvP : FVec Ideal S4096x2816 .f32 :=
  k0_pay22 a3 (k0_pay27 a0 a1 a2 a3 a4) (k0_pay28 a0 a1 a2 a3 a4) (k0_pay29 a0 a1 a2 a3 a4) (k0_pay30 a0 a1 a2 a3 a4) a4

theorem dconv_apply (hg : ∀ t c, IsReal (gvF a0 t c)) (hw : ∀ j c, IsReal (cwF a1 j c)) (hb : ∀ c, IsReal (cbF a2 c))
    (hwd : ∀ c x, IsReal (wdF a3 c x)) (hdh : ∀ t x, IsReal (dhF a4 t x)) (t : Fin 4096) (c : Fin 2816) :
    dconvP a0 a1 a2 a3 a4 (ix2 t c) = dconv (gvF a0) (cwF a1) (cbF a2) (wdF a3) (dhF a4) t c := by
  have hcv : k0_pay12 a0 a1 a2 (ix2 t c) = conv (gvF a0) (cwF a1) (cbF a2) t c := conv_apply a0 a1 a2 t c
  unfold dconvP
  unfold k0_pay27 k0_pay28 k0_pay29 k0_pay30 k0_pay22 k0_pay20 k0_pay15 k0_pay13 k0_pay16 k0_pay14 k0_pay4
  rw [show View.ld a0 r0_0 = a0 from View.ld_unit_zero hz _ a0, show View.ld a1 r0_1 = a1 from View.ld_unit_zero hz _ a1,
    show View.ld a2 r0_2 = a2 from View.ld_unit_zero hz _ a2]
  generalize k0_pay12 a0 a1 a2 = cv at hcv ⊢
  unfold_payloads
  pointwise [View.ld_unit]
  rw [isqrt2_named, twoOverSqrtPi_named, hcv]
  exact dconv_ref _ _ ((dact_real hwd hdh t c).mul (hg _ _)) (conv_real hg hw hb t c)

theorem act_apply (t : Fin 4096) (c : Fin 2816) : k0_pay18 a0 a1 a2 (ix2 t c) = act (gvF a0) (cwF a1) (cbF a2) t c := by
  have hcv : k0_pay12 a0 a1 a2 (ix2 t c) = conv (gvF a0) (cwF a1) (cbF a2) t c := conv_apply a0 a1 a2 t c
  unfold k0_pay18 k0_pay17 k0_pay13 k0_pay16 k0_pay14 k0_pay4
  generalize k0_pay12 a0 a1 a2 = cv at hcv ⊢
  unfold_payloads
  pointwise [View.ld_unit]
  rw [isqrt2_named, hcv]
  rfl

theorem gelu_apply (t : Fin 4096) (c : Fin 2816) :
    k0_pay17 a0 a1 a2 (ix2 t c) = conv (gvF a0) (cwF a1) (cbF a2) t c * cdf (conv (gvF a0) (cwF a1) (cbF a2) t c) := by
  have hcv : k0_pay12 a0 a1 a2 (ix2 t c) = conv (gvF a0) (cwF a1) (cbF a2) t c := conv_apply a0 a1 a2 t c
  unfold k0_pay17 k0_pay13 k0_pay16 k0_pay14
  generalize k0_pay12 a0 a1 a2 = cv at hcv ⊢
  unfold_payloads
  pointwise [View.ld_unit]
  rw [isqrt2_named, hcv]
  unfold cdf
  rw [← mul_assoc, mul_comm (conv (gvF a0) (cwF a1) (cbF a2) t c) half]
  rfl

/-- The down-projection's gradient. -/
theorem g8_apply (c : Fin 2816) (x : Fin 1024) : G8 a0 a1 a2 a3 a4 (ix2 c x) = dwd (gvF a0) (cwF a1) (cbF a2) (dhF a4) c x := by
  have hact := act_apply a0 a1 a2
  unfold G8
  generalize k0_pay18 a0 a1 a2 = ac at hact ⊢
  unfold_payloads
  pointwise [View.ld_unit]
  unfold dwd dwdTerm
  refine Finset.sum_congr rfl fun t _ => ?_
  rw [dif_pos t.isLt, hact, mul_comm]

theorem gp0_apply (t : Fin 4096) (c : Fin 2816) : k0_pay6 a0 (ix2 t c) = gpad (gvF a0) t.val c := by
  unfold_payloads
  pointwise [View.ld_unit]
  exact gpad_read a0 t.val c (by omega) (by omega)

theorem gp1_apply (t : Fin 4096) (c : Fin 2816) : k0_pay8 a0 (ix2 t c) = gpad (gvF a0) (1 + t.val) c := by
  unfold_payloads
  pointwise [View.ld_unit]
  exact gpad_read a0 (1 + t.val) c (by omega) (by omega)

theorem gp2_apply (t : Fin 4096) (c : Fin 2816) : k0_pay10 a0 (ix2 t c) = gpad (gvF a0) (2 + t.val) c := by
  unfold_payloads
  pointwise [View.ld_unit]
  rw [← gpad_read a0 (2 + t.val) c (by omega) (by omega), dif_neg (show ¬ 2 + t.val < 2 by omega)]
  have e : (⟨2 + t.val - 2, by omega⟩ : Fin 4096) = t := Fin.ext (by simp)
  rw [e]

section
variable (hg : ∀ t c, IsReal (gvF a0 t c)) (hw : ∀ j c, IsReal (cwF a1 j c)) (hb : ∀ c, IsReal (cbF a2 c))
    (hwd : ∀ c x, IsReal (wdF a3 c x)) (hdh : ∀ t x, IsReal (dhF a4 t x))
include hg hw hb hwd hdh

/-- The bias gradient. -/
theorem g7_apply (u : Fin 1) (c : Fin 2816) : G7 a0 a1 a2 a3 a4 (ix2 u c) = dcb (gvF a0) (cwF a1) (cbF a2) (wdF a3) (dhF a4) c := by
  have hd := dconv_apply a0 a1 a2 a3 a4 hg hw hb hwd hdh
  unfold dconvP at hd
  unfold G7 k0_pay25
  generalize k0_pay22 a3 (k0_pay27 a0 a1 a2 a3 a4) (k0_pay28 a0 a1 a2 a3 a4) (k0_pay29 a0 a1 a2 a3 a4) (k0_pay30 a0 a1 a2 a3 a4) a4 = d at hd ⊢
  unfold_payloads
  pointwise [View.ld_unit]
  unfold dcb dconvN
  refine Finset.sum_congr rfl fun t _ => ?_
  rw [dif_pos t.isLt, hd]

/-- The tap gradients. -/
theorem g6_apply (j : Fin 3) (c : Fin 2816) : G6 a0 a1 a2 a3 a4 (ix2 j c) = dcw (gvF a0) (cwF a1) (cbF a2) (wdF a3) (dhF a4) j c := by
  have hd := dconv_apply a0 a1 a2 a3 a4 hg hw hb hwd hdh
  have h0 := gp0_apply a0
  have h1 := gp1_apply a0
  have h2 := gp2_apply a0
  unfold dconvP at hd
  unfold G6 k0_pay1 k0_pay24
  generalize k0_pay22 a3 (k0_pay27 a0 a1 a2 a3 a4) (k0_pay28 a0 a1 a2 a3 a4) (k0_pay29 a0 a1 a2 a3 a4) (k0_pay30 a0 a1 a2 a3 a4) a4 = d at hd ⊢
  generalize k0_pay6 a0 = g0 at h0 ⊢
  generalize k0_pay8 a0 = g1 at h1 ⊢
  generalize k0_pay10 a0 = g2 at h2 ⊢
  unfold_payloads
  pointwise [View.ld_unit]
  simp only [hd, h0, h1, h2, Finset.sum_const, Finset.card_univ, Fintype.card_fin, one_smul]
  unfold dcw dcwTerm
  fin_cases j
  · simpa using dcw_shift (gvF a0) (cwF a1) (cbF a2) (wdF a3) (dhF a4) 2 (by norm_num) c
  · simpa using dcw_shift (gvF a0) (cwF a1) (cbF a2) (wdF a3) (dhF a4) 1 (by norm_num) c
  · simpa using dcw_shift (gvF a0) (cwF a1) (cbF a2) (wdF a3) (dhF a4) 0 (by norm_num) c

set_option maxHeartbeats 2000000 in
/-- The cotangents of gate and value. -/
theorem g5_apply (t : Fin 4096) (c : Fin 5632) : G5 a0 a1 a2 a3 a4 (ix2 t c) = dgv (gvF a0) (cwF a1) (cbF a2) (wdF a3) (dhF a4) t c := by
  have hd := dconv_apply a0 a1 a2 a3 a4 hg hw hb hwd hdh
  have hv := gelu_apply a0 a1 a2
  unfold dconvP at hd
  unfold G5 k0_pay2 k0_pay23 k0_pay26
  generalize k0_pay22 a3 (k0_pay27 a0 a1 a2 a3 a4) (k0_pay28 a0 a1 a2 a3 a4) (k0_pay29 a0 a1 a2 a3 a4) (k0_pay30 a0 a1 a2 a3 a4) a4 = d at hd ⊢
  generalize k0_pay17 a0 a1 a2 = v41 at hv ⊢
  unfold_payloads
  pointwise [View.ld_unit]
  unfold dgv
  split
  · rename_i h
    simp only [hd]
    unfold dgate
    rw [dconvN_lt _ _ _ _ _ t.isLt]
    congr 1
    · congr 1
      by_cases h1 : t.val + 1 < 4096
      · rw [dconvN_lt _ _ _ _ _ h1, dif_pos (show 2 + t.val < 4097 by omega), dif_neg (show ¬ 2 + t.val < 1 by omega)]
        have e : (⟨2 + t.val - 1, by omega⟩ : Fin 4096) = ⟨t.val + 1, h1⟩ := Fin.ext (by show 2 + t.val - 1 = t.val + 1; omega)
        rw [e]
      · rw [dconvN_ge _ _ _ _ _ h1, dif_neg (show ¬ 2 + t.val < 4097 by omega), mul_zero]
    · by_cases h2 : t.val + 2 < 4096
      · rw [dconvN_lt _ _ _ _ _ h2, dif_pos (show 2 + t.val < 4096 by omega)]
        have e : (⟨2 + t.val, by omega⟩ : Fin 4096) = ⟨t.val + 2, h2⟩ := Fin.ext (by show 2 + t.val = t.val + 2; omega)
        rw [e]
      · rw [dconvN_ge _ _ _ _ _ h2, dif_neg (show ¬ 2 + t.val < 4096 by omega), mul_zero]
  · unfold dval dact
    rw [hv, mul_comm]

end

end Cert.ReferenceIdeal.Mlp

end
-- ==== Proof.Mlp.Pre.lean ====
/- The precondition read back: every argument entry is a real number. -/
module

public import proofs.«01_k».proof.Defs
public import proofs.«01_k».proof.Proof.Gen.Pre_finite
public import proofs.«01_k».proof.Proof.Mlp.Spec
public import Idealize.ShloMosaic.Lib.ReduceAll

@[expose] public section

noncomputable section

namespace Cert.Mlp

open Idealize.ShloMosaic Cert.Pre_finite

theorem top_eq : Ideal.ofBits .f32 0x7F800000#32 = ⊤ := by simp [Ideal.ofBits, Ideal.ieee]

/-- An extended real whose absolute value is below the top is a real. -/
theorem real_of_abs_lt (x : EReal) (h : FloatOps.cmpf (F := Ideal) (φ := .f32) CmpFPredicate.olt (FloatOps.absf (F := Ideal) (φ := .f32) x) (Ideal.ofBits .f32 0x7F800000#32) = 1#1) : IsReal x := by
  rw [top_eq] at h
  induction x using EReal.rec with
  | coe r => exact ⟨r, rfl⟩
  | bot => exact absurd h (by simp [FloatOps.cmpf, FloatOps.absf, Ideal.cmp])
  | top => exact absurd h (by simp [FloatOps.cmpf, FloatOps.absf, Ideal.cmp])

instance : Subsingleton S_.Idx := ⟨fun a b => funext fun i => i.elim0⟩

/-- One argument's test: every entry is a real. -/
theorem real_of_all {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant (F := Ideal) S_ .f32 0x7F800000#32))) (constantI S_ 1 1#1) hr hu j = 1#1)
    (i : s.Idx) : IsReal (x i) :=
  real_of_abs_lt (x i) (Host.reduce_andi_all _ _ hr hu j e i)

/-- The whole test: every entry of every argument is a real. -/
theorem real_of_finite (a0 : FVec Ideal S4096x5632 .f32) (a1 : FVec Ideal S3x2816 .f32) (a2 : FVec Ideal S1x2816 .f32) (a3 : FVec Ideal S2816x1024 .f32)
    (a4 : FVec Ideal S4096x1024 .f32) [Facts] (h : fn (F := Ideal) a0 a1 a2 a3 a4 = fun _ => 1#1) :
    (∀ i, IsReal (a0 i)) ∧ (∀ i, IsReal (a1 i)) ∧ (∀ i, IsReal (a2 i)) ∧ (∀ i, IsReal (a3 i)) ∧ ∀ i, IsReal (a4 i) := by
  have h' := congrFun h (fun i => i.elim0)
  unfold fn fn_part1 at h'
  obtain ⟨h', e4⟩ := IntOp.andi_eq_one.mp h'
  obtain ⟨h', e3⟩ := IntOp.andi_eq_one.mp h'
  obtain ⟨h', e2⟩ := IntOp.andi_eq_one.mp h'
  obtain ⟨e0, e1⟩ := IntOp.andi_eq_one.mp h'
  exact ⟨real_of_all a0 _ _ _ _ e0, real_of_all a1 _ _ _ _ e1, real_of_all a2 _ _ _ _ e2, real_of_all a3 _ _ _ _ e3, real_of_all a4 _ _ _ _ e4⟩

end Cert.Mlp

end
-- ==== Proof.In.Terms.lean ====
/- The four column blocks of the input weights: side by side in the scratch, one on top of the other in memory. -/
module

public import proofs.«01_k».proof.Proof.Gen.Kernel2Ideal.Value
public import Idealize.ShloMosaic.Lib.Pointwise
public import Idealize.ShloMosaic.Lib.Pipeline.Value
public import Idealize.ShloMosaic.Lib.Pipeline.ValueKit
public import Idealize.ShloMosaic.Lib.Pipeline.CanonAppend
public import Idealize.ShloMosaic.Lib.Pipeline.ReadBack
public import Idealize.ShloMosaic.Lib.Writes
public import Idealize.ShloMosaic.Lib.ValueLayout

@[expose] public section

set_option maxRecDepth 16384

noncomputable section

namespace Cert.Kernel2Ideal.In

open Cert.Kernel2Ideal Cert.Kernel2Ideal.Gen Idealize.ShloMosaic Idealize.ShloMosaic.TcCoe Idealize.SL.Sem

/-- Column `q` lies in block `q / 896`, at place `q % 896`. -/
def blockOf (q : Fin 3584) : Fin 4 := ⟨q.val / 896, by omega⟩
def placeOf (q : Fin 3584) : Fin 896 := ⟨q.val % 896, by omega⟩

/-- The four column blocks of the input weights, side by side. -/
def sideBySide (w : Vec Ideal S4x1024x896 .bf16) : Vec Ideal S1024x3584 .bf16 :=
  fun y => w (ix3 (blockOf (y 1)) (y 0) (placeOf (y 1)))

/-- Column `q` of block `k`. -/
def colOf (k : Fin 4) (q : Fin 896) : Fin 3584 := ⟨k.val * 896 + q.val, by omega⟩

/-- The four column blocks of a matrix, one on top of the other. -/
def cut (a : Vec Ideal S1024x3584 .f32) : Vec Ideal S4x1024x896 .bf16 :=
  fun y => a (ix2 (y 1) (colOf (y 0) (y 2)))

theorem cut_at (a : Vec Ideal S1024x3584 .f32) (k : Fin 4) (r : Fin 1024) (q : Fin 896) (j : Fin 3584) (h : j.val = k.val * 896 + q.val) :
    a (ix2 r j) = cut a (ix3 k r q) :=
  congrArg (fun j => a (ix2 r j)) (Fin.ext h)

/-- A stored rectangle's embedding is the same rectangle's read index. -/
theorem emb_eq_idx {s : Shape} (off size : Fin s.rank → ℕ) (inb : ∀ a, off a + size a ≤ s.size a) (x : (Rect.unit (s := s) off size inb).shape.Idx) :
    (Rect.unit (s := s) off size inb).emb x = (Rect.unit (s := s) off size inb).toLoadRect.idx x := rfl

/-- A block of columns `o …` of the scratch, at its row `r` and column `q`. -/
theorem emb_col (o : ℕ) (inb : ∀ a, (![0, o] : Fin 2 → ℕ) a + (![1024, 896] : Fin 2 → ℕ) a ≤ S1024x3584.size a) (r : Fin 1024) (q : Fin 896)
    (h : o + q.val < 3584) : (Rect.unit (s := S1024x3584) ![0, o] ![1024, 896] inb).emb (ix2 r q) = ix2 r ⟨o + q.val, h⟩ := by
  funext a
  apply Fin.ext
  match a with
  | ⟨0, _⟩ => show 0 + 1 * r.val = r.val; omega
  | ⟨1, _⟩ => show o + 1 * q.val = o + q.val; omega

/-- Side by side, column `q` of block `k`. -/
theorem side_at (w : Vec Ideal S4x1024x896 .bf16) (k : Fin 4) (o : ℕ) (ho : o = k.val * 896) (r : Fin 1024) (q : Fin 896) (h : o + q.val < 3584) :
    sideBySide w (ix2 r ⟨o + q.val, h⟩) = w (ix3 k r q) := by
  show w (ix3 (blockOf ⟨o + q.val, h⟩) r (placeOf ⟨o + q.val, h⟩)) = _
  have e1 : blockOf ⟨o + q.val, h⟩ = k := Fin.ext (by show (o + q.val) / 896 = k.val; omega)
  have e2 : placeOf ⟨o + q.val, h⟩ = q := Fin.ext (by show (o + q.val) % 896 = q.val; omega)
  rw [e1, e2]

/-- A column from `o` on is one of the block there. -/
theorem exists_col (o : ℕ) (c : Fin 3584) (h1 : o ≤ c.val) (h2 : c.val < o + 896) : ∃ (q : Fin 896) (h : o + q.val < 3584), c = ⟨o + q.val, h⟩ := by
  obtain ⟨c, hc⟩ := c
  obtain ⟨q, rfl⟩ := Nat.exists_eq_add_of_le h1
  exact ⟨⟨q, Nat.lt_of_add_lt_add_left h2⟩, hc, rfl⟩

/-- The last write, at one of its columns. -/
theorem canon_here (o : ℕ) (inb) (p : S1024x896.Idx → Elt Ideal .bf16) (L : List (View.Piece (Elt Ideal) S1024x3584 .bf16)) (r : Fin 1024) (q : Fin 896)
    (h : o + q.val < 3584) :
    View.canon (⟨Rect.unit (s := S1024x3584) ![0, o] ![1024, 896] inb, p⟩ :: L) (ix2 r ⟨o + q.val, h⟩) = p (ix2 r q) := by
  rw [← emb_col o inb r q h]
  exact View.canon_cons_emb (Rect.unit (s := S1024x3584) ![0, o] ![1024, 896] inb) p L (ix2 r q)

/-- A write to later columns does not reach an earlier one. -/
theorem skip_col (o n m : ℕ) (inb) (v : (Rect.unit (s := S1024x3584) ![0, o] ![n, m] inb).shape.Idx → Elt Ideal .bf16)
    (L : List (View.Piece (Elt Ideal) S1024x3584 .bf16)) (r : Fin 1024) (c : Fin 3584) (hc : c.val < o) :
    View.canon (⟨Rect.unit (s := S1024x3584) ![0, o] ![n, m] inb, v⟩ :: L) (ix2 r c) = View.canon L (ix2 r c) :=
  View.canon_cons_of_not_mem (⟨Rect.unit (s := S1024x3584) ![0, o] ![n, m] inb, v⟩ : View.Piece (Elt Ideal) S1024x3584 .bf16) L
    (Rect.not_mem_set_of_axis (Rect.unit (s := S1024x3584) ![0, o] ![n, m] inb) (ix2 r c) (⟨1, Nat.one_lt_two⟩ : Fin 2) o m rfl rfl rfl (Or.inl hc))

/-- Four blocks of columns written side by side, a few words of the last one written before it: the four blocks. -/
theorem canon_side (w : Vec Ideal S4x1024x896 .bf16) (z : S8x128.Idx → Elt Ideal .bf16) (p0 p1 p2 p3 : S1024x896.Idx → Elt Ideal .bf16)
    (h0 : ∀ (r : Fin 1024) (q : Fin 896), p0 (ix2 r q) = w (ix3 (0 : Fin 4) r q)) (h1 : ∀ (r : Fin 1024) (q : Fin 896), p1 (ix2 r q) = w (ix3 (1 : Fin 4) r q))
    (h2 : ∀ (r : Fin 1024) (q : Fin 896), p2 (ix2 r q) = w (ix3 (2 : Fin 4) r q)) (h3 : ∀ (r : Fin 1024) (q : Fin 896), p3 (ix2 r q) = w (ix3 (3 : Fin 4) r q))
    (i0 i1 i2 i3 iz) :
    View.canon (Val := Elt Ideal) (s := S1024x3584) (e := .bf16)
      [⟨Rect.unit ![0, 2688] ![1024, 896] i3, p3⟩, ⟨Rect.unit ![0, 3456] ![8, 128] iz, z⟩,
       ⟨Rect.unit ![0, 1792] ![1024, 896] i2, p2⟩, ⟨Rect.unit ![0, 896] ![1024, 896] i1, p1⟩,
       ⟨Rect.unit ![0, 0] ![1024, 896] i0, p0⟩] = sideBySide w := by
  have key (r : Fin 1024) (c : Fin 3584) : View.canon (Val := Elt Ideal) (s := S1024x3584) (e := .bf16)
      [⟨Rect.unit ![0, 2688] ![1024, 896] i3, p3⟩, ⟨Rect.unit ![0, 3456] ![8, 128] iz, z⟩,
       ⟨Rect.unit ![0, 1792] ![1024, 896] i2, p2⟩, ⟨Rect.unit ![0, 896] ![1024, 896] i1, p1⟩,
       ⟨Rect.unit ![0, 0] ![1024, 896] i0, p0⟩] (ix2 r c) = sideBySide w (ix2 r c) := by
    by_cases g3 : 2688 ≤ c.val
    · obtain ⟨q, h, rfl⟩ : ∃ (q : Fin 896) (h : 2688 + q.val < 3584), c = ⟨2688 + q.val, h⟩ := exists_col 2688 c (by omega) (by omega)
      refine (canon_here 2688 i3 p3 _ r q h).trans ?_
      rw [h3 r q, side_at w 3 2688 (by decide) r q h]
    refine (skip_col 2688 1024 896 i3 p3 _ r c (by omega)).trans ?_
    refine (skip_col 3456 8 128 iz z _ r c (by omega)).trans ?_
    by_cases g2 : 1792 ≤ c.val
    · obtain ⟨q, h, rfl⟩ : ∃ (q : Fin 896) (h : 1792 + q.val < 3584), c = ⟨1792 + q.val, h⟩ := exists_col 1792 c (by omega) (by omega)
      refine (canon_here 1792 i2 p2 _ r q h).trans ?_
      rw [h2 r q, side_at w 2 1792 (by decide) r q h]
    refine (skip_col 1792 1024 896 i2 p2 _ r c (by omega)).trans ?_
    by_cases g1 : 896 ≤ c.val
    · obtain ⟨q, h, rfl⟩ : ∃ (q : Fin 896) (h : 896 + q.val < 3584), c = ⟨896 + q.val, h⟩ := exists_col 896 c (by omega) (by omega)
      refine (canon_here 896 i1 p1 _ r q h).trans ?_
      rw [h1 r q, side_at w 1 896 (by decide) r q h]
    refine (skip_col 896 1024 896 i1 p1 _ r c (by omega)).trans ?_
    obtain ⟨q, h, rfl⟩ : ∃ (q : Fin 896) (h : 0 + q.val < 3584), c = ⟨0 + q.val, h⟩ := exists_col 0 c (by omega) (by omega)
    refine (canon_here 0 i0 p0 _ r q h).trans ?_
    rw [h0 r q, side_at w 0 0 (by decide) r q h]
  funext y
  exact (congrArg _ (eq_ix2 y)).trans ((key (y 0) (y 1)).trans (congrArg _ (eq_ix2 y).symm))

/-- The scratch read whole after the four copies. -/
theorem read_side (v : View sig .tc .vmem S1024x3584 .bf16) (w : Vec Ideal S4x1024x896 .bf16) (z : S8x128.Idx → Elt Ideal .bf16)
    (p0 p1 p2 p3 : S1024x896.Idx → Elt Ideal .bf16)
    (h0 : ∀ (r : Fin 1024) (q : Fin 896), p0 (ix2 r q) = w (ix3 (0 : Fin 4) r q)) (h1 : ∀ (r : Fin 1024) (q : Fin 896), p1 (ix2 r q) = w (ix3 (1 : Fin 4) r q))
    (h2 : ∀ (r : Fin 1024) (q : Fin 896), p2 (ix2 r q) = w (ix3 (2 : Fin 4) r q)) (h3 : ∀ (r : Fin 1024) (q : Fin 896), p3 (ix2 r q) = w (ix3 (3 : Fin 4) r q))
    (i0 i1 i2 i3 iz inb)
    (hcov : ∀ y, ∃ p ∈ ([⟨Rect.unit ![0, 2688] ![1024, 896] i3, p3⟩, ⟨Rect.unit ![0, 3456] ![8, 128] iz, z⟩,
       ⟨Rect.unit ![0, 1792] ![1024, 896] i2, p2⟩, ⟨Rect.unit ![0, 896] ![1024, 896] i1, p1⟩,
       ⟨Rect.unit ![0, 0] ![1024, 896] i0, p0⟩] : List (View.Piece (Elt Ideal) S1024x3584 .bf16)), y ∈ p.1.set) :
    v.readCov (Val := Elt Ideal)
      [⟨Rect.unit ![0, 2688] ![1024, 896] i3, p3⟩, ⟨Rect.unit ![0, 3456] ![8, 128] iz, z⟩,
       ⟨Rect.unit ![0, 1792] ![1024, 896] i2, p2⟩, ⟨Rect.unit ![0, 896] ![1024, 896] i1, p1⟩,
       ⟨Rect.unit ![0, 0] ![1024, 896] i0, p0⟩] (Rect.unit ![0, 0] ![1024, 3584] inb).toLoadRect = sideBySide w := by
  rw [View.readCov_eq_canon_ld _ _ _ hcov, canon_side w z p0 p1 p2 p3 h0 h1 h2 h3 i0 i1 i2 i3 iz]
  exact View.ld_unit_lit' (S := S1024x3584) inb _ (by decide)

/-- Block `k` of the weights in memory, as a copy reads it. -/
theorem slab (c : Dev nD) (k : Fin 4) (w : HbBuf0 (F := Ideal) c hbM0_0) (inb) (hs) (r : Fin 1024) (q : Fin 896) :
    (ReadAs.same.apply (View.read (Elt Ideal) (((View.whole main_v2).slice (Rect.unit ![k.val, 0, 0] ![1, 1024, 896] inb)).reshape S1024x896 hs) w)
      : S1024x896.Idx → Elt Ideal .bf16) (ix2 r q) = (w : Vec Ideal S4x1024x896 .bf16) (ix3 k r q) := by
  show (w : Vec Ideal S4x1024x896 .bf16) ((Rect.unit (s := S4x1024x896) ![k.val, 0, 0] ![1, 1024, 896] inb).emb (Shape.reshapeEquiv hs (ix2 r q))) = _
  have e := ValueIdx.reshapeEquiv_ix2_1ab hs r q
  refine congrArg (w : Vec Ideal S4x1024x896 .bf16) ((congrArg _ e).trans ?_)
  funext a
  apply Fin.ext
  match a with
  | ⟨0, _⟩ => show k.val + 1 * 0 = k.val; omega
  | ⟨1, _⟩ => show 0 + 1 * r.val = r.val; omega
  | ⟨2, _⟩ => show 0 + 1 * q.val = q.val; omega

end Cert.Kernel2Ideal.In

end
-- ==== Proof.In.CaseA.lean ====
/- The first grid point of the input projection's backward kernel, read back. -/
module

public import proofs.«01_k».proof.Proof.In.Terms

@[expose] public section

set_option maxRecDepth 16384

noncomputable section

namespace Cert.Kernel2Ideal.In

open Cert.Kernel2Ideal Cert.Kernel2Ideal.Gen Idealize.ShloMosaic Idealize.ShloMosaic.TcCoe Idealize.SL.Sem

variable (c : Dev nD) (i : grid0.Coords) (arg1 : Memref sig .tc .vmem S256x512 .bf16) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x512 .bf16) (harg7 : arg7.IsWhole) (arg9 : Memref sig .tc .vmem S256x1024 .bf16) (harg9 : arg9.IsWhole) (arg10 : Memref sig .tc .vmem S256x1024 .f32) (harg10 : arg10.IsWhole) (arg11 : Memref sig .tc .vmem S1x1024 .f32) (harg11 : arg11.IsWhole) (arg12 : Memref sig .tc .vmem S256x1024 .f32) (harg12 : arg12.IsWhole) (arg13 : Memref sig .tc .vmem S4x1024x896 .bf16) (harg13 : arg13.IsWhole) (arg14 : Memref sig .tc .vmem S256x1024 .f32) (harg14 : arg14.IsWhole) (arg15 : Memref sig .tc .vmem S1x1024 .f32) (harg15 : arg15.IsWhole) (arg16 : Memref sig .tc .vmem S1024x3584 .bf16) (harg16 : arg16.IsWhole) (arg18 : Memref sig .tc .vmem S1024x3584 .f32) (harg18 : arg18.IsWhole) (hc0 : cond0_0 i) (hc1 : ¬cond0_1 i) (x0 : Vec Ideal S256x512 .bf16) (x1 : Vec Ideal S256x512 .bf16) (x2 : Vec Ideal S256x512 .bf16) (x3 : Vec Ideal S256x512 .bf16) (x4 : Vec Ideal S256x512 .bf16) (x5 : Vec Ideal S256x512 .bf16) (x6 : Vec Ideal S256x512 .bf16) (x7 : Vec Ideal S256x1024 .bf16) (x8 : Vec Ideal S256x1024 .f32) (x9 : Vec Ideal S1x1024 .f32) (x10 : Vec Ideal S256x1024 .f32) (fh0 : HbBuf0 (F := Ideal) c hbM0_0)

set_option maxHeartbeats 4000000 in
/-- The scratch holds the weights after the first point. -/
theorem w_A :
    sout0_A_0 c i arg1 harg1 arg2 harg2 arg3 harg3 arg4 harg4 arg5 harg5 arg6 harg6 arg7 harg7 arg9 harg9 arg10 harg10 arg11 harg11 arg12 harg12 arg13 harg13 arg14 harg14 arg15 harg15 arg16 harg16 arg18 harg18 hc0 hc1 x0 x1 x2 x3 x4 x5 x6 x7 x8 x9 x10 fh0 = sideBySide fh0 := by
  unfold sout0_A_0
  rw [View.read_writes_eq_canon _ _ _ (scover0_A_0 c i arg1 harg1 arg2 harg2 arg3 harg3 arg4 harg4 arg5 harg5 arg6 harg6 arg7 harg7 arg9 harg9 arg10 harg10 arg11 harg11 arg12 harg12 arg13 harg13 arg14 harg14 arg15 harg15 arg16 harg16 arg18 harg18 hc0 hc1 x0 x1 x2 x3 x4 x5 x6 x7 x8 x9 x10 fh0)]
  exact canon_side fh0 _ _ _ _ _ (slab c 0 fh0 _ _) (slab c 1 fh0 _ _) (slab c 2 fh0 _ _) (slab c 3 fh0 _ _) _ _ _ _ _

set_option maxHeartbeats 4000000 in
/-- The weight gradient's running sum after the first point. -/
theorem acc_A :
    sout0_A_1 c i arg1 harg1 arg2 harg2 arg3 harg3 arg4 harg4 arg5 harg5 arg6 harg6 arg7 harg7 arg9 harg9 arg10 harg10 arg11 harg11 arg12 harg12 arg13 harg13 arg14 harg14 arg15 harg15 arg16 harg16 arg18 harg18 hc0 hc1 x0 x1 x2 x3 x4 x5 x6 x7 x8 x9 x10 fh0 = k0_pay13 x0 x1 x2 x3 x4 x5 x6 (k0_pay10 (F := Ideal)) x7 := by
  unfold sout0_A_1
  rw [View.read_writes_eq_canon _ _ _ (scover0_A_1 c i arg1 harg1 arg2 harg2 arg3 harg3 arg4 harg4 arg5 harg5 arg6 harg6 arg7 harg7 arg9 harg9 arg10 harg10 arg11 harg11 arg12 harg12 arg13 harg13 arg14 harg14 arg15 harg15 arg16 harg16 arg18 harg18 hc0 hc1 x0 x1 x2 x3 x4 x5 x6 x7 x8 x9 x10 fh0)]
  unfold kernelRun0_A
  dsimp only
  sl_unfold_words
  simp (disch := decide) only [View.canon_cons_unit_lit', View.readCov_cons_unit_lit', View.readCov_unit_lit', View.readAt_eq_ld, View.ld_unit_lit', harg1.read_unread, harg2.read_unread, harg3.read_unread, harg4.read_unread, harg5.read_unread, harg6.read_unread, harg7.read_unread, harg9.read_unread, harg10.read_unread, harg11.read_unread, harg12.read_unread, harg13.read_unread, harg14.read_unread, harg15.read_unread, harg16.read_unread, harg18.read_unread]

set_option maxHeartbeats 4000000 in
/-- The cotangent's block after the first point. -/
theorem dx_A :
    out0_A_12 c i arg1 harg1 arg2 harg2 arg3 harg3 arg4 harg4 arg5 harg5 arg6 harg6 arg7 harg7 arg9 harg9 arg10 harg10 arg11 harg11 arg12 harg12 arg13 harg13 arg14 harg14 arg15 harg15 arg16 harg16 arg18 harg18 hc0 hc1 x0 x1 x2 x3 x4 x5 x6 x7 x8 x9 x10 fh0 = k0_pay4 (k0_pay14 x0 x1 x2 x3 x4 x5 x6 (sideBySide fh0)) x8 x10 x9 := by
  unfold out0_A_12
  rw [View.read_writes_eq_canon _ _ _ (cover0_A_12 c i arg1 harg1 arg2 harg2 arg3 harg3 arg4 harg4 arg5 harg5 arg6 harg6 arg7 harg7 arg9 harg9 arg10 harg10 arg11 harg11 arg12 harg12 arg13 harg13 arg14 harg14 arg15 harg15 arg16 harg16 arg18 harg18 hc0 hc1 x0 x1 x2 x3 x4 x5 x6 x7 x8 x9 x10 fh0)]
  unfold kernelRun0_A
  dsimp only
  sl_unfold_words
  simp (disch := decide) only [View.canon_cons_unit_lit', View.readCov_cons_unit_lit', View.readCov_unit_lit', View.readAt_eq_ld, View.ld_unit_lit', harg1.read_unread, harg2.read_unread, harg3.read_unread, harg4.read_unread, harg5.read_unread, harg6.read_unread, harg7.read_unread, harg9.read_unread, harg10.read_unread, harg11.read_unread, harg12.read_unread, harg13.read_unread, harg14.read_unread, harg15.read_unread, harg16.read_unread, harg18.read_unread]
  exact congrArg (fun s => k0_pay4 (k0_pay14 x0 x1 x2 x3 x4 x5 x6 s) x8 x10 x9) (read_side arg16.view fh0 (k0_pay11 (F := Ideal)) _ _ _ _ (slab c 0 fh0 _ _) (slab c 1 fh0 _ _) (slab c 2 fh0 _ _) (slab c 3 fh0 _ _) _ _ _ _ _ _ (scover0_A_0 c i arg1 harg1 arg2 harg2 arg3 harg3 arg4 harg4 arg5 harg5 arg6 harg6 arg7 harg7 arg9 harg9 arg10 harg10 arg11 harg11 arg12 harg12 arg13 harg13 arg14 harg14 arg15 harg15 arg16 harg16 arg18 harg18 hc0 hc1 x0 x1 x2 x3 x4 x5 x6 x7 x8 x9 x10 fh0))

set_option maxHeartbeats 4000000 in
/-- The scale gradient's running sum after the first point. -/
theorem dg_A :
    out0_A_13 c i arg1 harg1 arg2 harg2 arg3 harg3 arg4 harg4 arg5 harg5 arg6 harg6 arg7 harg7 arg9 harg9 arg10 harg10 arg11 harg11 arg12 harg12 arg13 harg13 arg14 harg14 arg15 harg15 arg16 harg16 arg18 harg18 hc0 hc1 x0 x1 x2 x3 x4 x5 x6 x7 x8 x9 x10 fh0 = k0_pay3 (k0_pay14 x0 x1 x2 x3 x4 x5 x6 (sideBySide fh0)) x8 (k0_pay9 (F := Ideal)) := by
  unfold out0_A_13
  rw [View.read_writes_eq_canon _ _ _ (cover0_A_13 c i arg1 harg1 arg2 harg2 arg3 harg3 arg4 harg4 arg5 harg5 arg6 harg6 arg7 harg7 arg9 harg9 arg10 harg10 arg11 harg11 arg12 harg12 arg13 harg13 arg14 harg14 arg15 harg15 arg16 harg16 arg18 harg18 hc0 hc1 x0 x1 x2 x3 x4 x5 x6 x7 x8 x9 x10 fh0)]
  unfold kernelRun0_A
  dsimp only
  sl_unfold_words
  simp (disch := decide) only [View.canon_cons_unit_lit', View.readCov_cons_unit_lit', View.readCov_unit_lit', View.readAt_eq_ld, View.ld_unit_lit', harg1.read_unread, harg2.read_unread, harg3.read_unread, harg4.read_unread, harg5.read_unread, harg6.read_unread, harg7.read_unread, harg9.read_unread, harg10.read_unread, harg11.read_unread, harg12.read_unread, harg13.read_unread, harg14.read_unread, harg15.read_unread, harg16.read_unread, harg18.read_unread]
  exact congrArg (fun s => k0_pay3 (k0_pay14 x0 x1 x2 x3 x4 x5 x6 s) x8 (k0_pay9 (F := Ideal))) (read_side arg16.view fh0 (k0_pay11 (F := Ideal)) _ _ _ _ (slab c 0 fh0 _ _) (slab c 1 fh0 _ _) (slab c 2 fh0 _ _) (slab c 3 fh0 _ _) _ _ _ _ _ _ (scover0_A_0 c i arg1 harg1 arg2 harg2 arg3 harg3 arg4 harg4 arg5 harg5 arg6 harg6 arg7 harg7 arg9 harg9 arg10 harg10 arg11 harg11 arg12 harg12 arg13 harg13 arg14 harg14 arg15 harg15 arg16 harg16 arg18 harg18 hc0 hc1 x0 x1 x2 x3 x4 x5 x6 x7 x8 x9 x10 fh0))

end Cert.Kernel2Ideal.In

end
-- ==== Proof.In.CaseB.lean ====
/- A middle grid point of the input projection's backward kernel, read back. -/
module

public import proofs.«01_k».proof.Proof.In.Terms

@[expose] public section

set_option maxRecDepth 16384

noncomputable section

namespace Cert.Kernel2Ideal.In

open Cert.Kernel2Ideal Cert.Kernel2Ideal.Gen Idealize.ShloMosaic Idealize.ShloMosaic.TcCoe Idealize.SL.Sem

variable (c : Dev nD) (i : grid0.Coords) (arg1 : Memref sig .tc .vmem S256x512 .bf16) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x512 .bf16) (harg7 : arg7.IsWhole) (arg9 : Memref sig .tc .vmem S256x1024 .bf16) (harg9 : arg9.IsWhole) (arg10 : Memref sig .tc .vmem S256x1024 .f32) (harg10 : arg10.IsWhole) (arg11 : Memref sig .tc .vmem S1x1024 .f32) (harg11 : arg11.IsWhole) (arg12 : Memref sig .tc .vmem S256x1024 .f32) (harg12 : arg12.IsWhole) (arg13 : Memref sig .tc .vmem S4x1024x896 .bf16) (harg13 : arg13.IsWhole) (arg14 : Memref sig .tc .vmem S256x1024 .f32) (harg14 : arg14.IsWhole) (arg15 : Memref sig .tc .vmem S1x1024 .f32) (harg15 : arg15.IsWhole) (arg16 : Memref sig .tc .vmem S1024x3584 .bf16) (harg16 : arg16.IsWhole) (arg18 : Memref sig .tc .vmem S1024x3584 .f32) (harg18 : arg18.IsWhole) (hc0 : ¬cond0_0 i) (hc1 : ¬cond0_1 i) (x0 : Vec Ideal S256x512 .bf16) (x1 : Vec Ideal S256x512 .bf16) (x2 : Vec Ideal S256x512 .bf16) (x3 : Vec Ideal S256x512 .bf16) (x4 : Vec Ideal S256x512 .bf16) (x5 : Vec Ideal S256x512 .bf16) (x6 : Vec Ideal S256x512 .bf16) (x7 : Vec Ideal S256x1024 .bf16) (x8 : Vec Ideal S256x1024 .f32) (x9 : Vec Ideal S1x1024 .f32) (x10 : Vec Ideal S256x1024 .f32) (xo13 : Vec Ideal S1x1024 .f32) (xs0 : Vec Ideal S1024x3584 .bf16) (xs1 : Vec Ideal S1024x3584 .f32) (fh0 : HbBuf0 (F := Ideal) c hbM0_0)

set_option maxHeartbeats 4000000 in
/-- The weight gradient's running sum after a middle point. -/
theorem acc_B :
    sout0_B_1 c i arg1 harg1 arg2 harg2 arg3 harg3 arg4 harg4 arg5 harg5 arg6 harg6 arg7 harg7 arg9 harg9 arg10 harg10 arg11 harg11 arg12 harg12 arg13 harg13 arg14 harg14 arg15 harg15 arg16 harg16 arg18 harg18 hc0 hc1 x0 x1 x2 x3 x4 x5 x6 x7 x8 x9 x10 xo13 xs0 xs1 fh0 = k0_pay13 x0 x1 x2 x3 x4 x5 x6 xs1 x7 := by
  unfold sout0_B_1
  rw [View.read_writes_eq_canon _ _ _ (scover0_B_1 c i arg1 harg1 arg2 harg2 arg3 harg3 arg4 harg4 arg5 harg5 arg6 harg6 arg7 harg7 arg9 harg9 arg10 harg10 arg11 harg11 arg12 harg12 arg13 harg13 arg14 harg14 arg15 harg15 arg16 harg16 arg18 harg18 hc0 hc1 x0 x1 x2 x3 x4 x5 x6 x7 x8 x9 x10 xo13 xs0 xs1 fh0)]
  unfold kernelRun0_B
  dsimp only
  sl_unfold_words
  simp (disch := decide) only [View.canon_cons_unit_lit', View.readCov_cons_unit_lit', View.readCov_unit_lit', View.readAt_eq_ld, View.ld_unit_lit', harg1.read_unread, harg2.read_unread, harg3.read_unread, harg4.read_unread, harg5.read_unread, harg6.read_unread, harg7.read_unread, harg9.read_unread, harg10.read_unread, harg11.read_unread, harg12.read_unread, harg13.read_unread, harg14.read_unread, harg15.read_unread, harg16.read_unread, harg18.read_unread]

set_option maxHeartbeats 4000000 in
/-- The cotangent's block after a middle point. -/
theorem dx_B :
    out0_B_12 c i arg1 harg1 arg2 harg2 arg3 harg3 arg4 harg4 arg5 harg5 arg6 harg6 arg7 harg7 arg9 harg9 arg10 harg10 arg11 harg11 arg12 harg12 arg13 harg13 arg14 harg14 arg15 harg15 arg16 harg16 arg18 harg18 hc0 hc1 x0 x1 x2 x3 x4 x5 x6 x7 x8 x9 x10 xo13 xs0 xs1 fh0 = k0_pay4 (k0_pay14 x0 x1 x2 x3 x4 x5 x6 xs0) x8 x10 x9 := by
  unfold out0_B_12
  rw [View.read_writes_eq_canon _ _ _ (cover0_B_12 c i arg1 harg1 arg2 harg2 arg3 harg3 arg4 harg4 arg5 harg5 arg6 harg6 arg7 harg7 arg9 harg9 arg10 harg10 arg11 harg11 arg12 harg12 arg13 harg13 arg14 harg14 arg15 harg15 arg16 harg16 arg18 harg18 hc0 hc1 x0 x1 x2 x3 x4 x5 x6 x7 x8 x9 x10 xo13 xs0 xs1 fh0)]
  unfold kernelRun0_B
  dsimp only
  sl_unfold_words
  simp (disch := decide) only [View.canon_cons_unit_lit', View.readCov_cons_unit_lit', View.readCov_unit_lit', View.readAt_eq_ld, View.ld_unit_lit', harg1.read_unread, harg2.read_unread, harg3.read_unread, harg4.read_unread, harg5.read_unread, harg6.read_unread, harg7.read_unread, harg9.read_unread, harg10.read_unread, harg11.read_unread, harg12.read_unread, harg13.read_unread, harg14.read_unread, harg15.read_unread, harg16.read_unread, harg18.read_unread]

set_option maxHeartbeats 4000000 in
/-- The scale gradient's running sum after a middle point. -/
theorem dg_B :
    out0_B_13 c i arg1 harg1 arg2 harg2 arg3 harg3 arg4 harg4 arg5 harg5 arg6 harg6 arg7 harg7 arg9 harg9 arg10 harg10 arg11 harg11 arg12 harg12 arg13 harg13 arg14 harg14 arg15 harg15 arg16 harg16 arg18 harg18 hc0 hc1 x0 x1 x2 x3 x4 x5 x6 x7 x8 x9 x10 xo13 xs0 xs1 fh0 = k0_pay3 (k0_pay14 x0 x1 x2 x3 x4 x5 x6 xs0) x8 xo13 := by
  unfold out0_B_13
  rw [View.read_writes_eq_canon _ _ _ (cover0_B_13 c i arg1 harg1 arg2 harg2 arg3 harg3 arg4 harg4 arg5 harg5 arg6 harg6 arg7 harg7 arg9 harg9 arg10 harg10 arg11 harg11 arg12 harg12 arg13 harg13 arg14 harg14 arg15 harg15 arg16 harg16 arg18 harg18 hc0 hc1 x0 x1 x2 x3 x4 x5 x6 x7 x8 x9 x10 xo13 xs0 xs1 fh0)]
  unfold kernelRun0_B
  dsimp only
  sl_unfold_words
  simp (disch := decide) only [View.canon_cons_unit_lit', View.readCov_cons_unit_lit', View.readCov_unit_lit', View.readAt_eq_ld, View.ld_unit_lit', harg1.read_unread, harg2.read_unread, harg3.read_unread, harg4.read_unread, harg5.read_unread, harg6.read_unread, harg7.read_unread, harg9.read_unread, harg10.read_unread, harg11.read_unread, harg12.read_unread, harg13.read_unread, harg14.read_unread, harg15.read_unread, harg16.read_unread, harg18.read_unread]

end Cert.Kernel2Ideal.In

end
-- ==== Proof.In.CaseC.lean ====
/- The last grid point of the input projection's backward kernel, read back. -/
module

public import proofs.«01_k».proof.Proof.In.Terms

@[expose] public section

set_option maxRecDepth 16384

noncomputable section

namespace Cert.Kernel2Ideal.In

open Cert.Kernel2Ideal Cert.Kernel2Ideal.Gen Idealize.ShloMosaic Idealize.ShloMosaic.TcCoe Idealize.SL.Sem

variable (c : Dev nD) (i : grid0.Coords) (arg1 : Memref sig .tc .vmem S256x512 .bf16) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x512 .bf16) (harg7 : arg7.IsWhole) (arg9 : Memref sig .tc .vmem S256x1024 .bf16) (harg9 : arg9.IsWhole) (arg10 : Memref sig .tc .vmem S256x1024 .f32) (harg10 : arg10.IsWhole) (arg11 : Memref sig .tc .vmem S1x1024 .f32) (harg11 : arg11.IsWhole) (arg12 : Memref sig .tc .vmem S256x1024 .f32) (harg12 : arg12.IsWhole) (arg13 : Memref sig .tc .vmem S4x1024x896 .bf16) (harg13 : arg13.IsWhole) (arg14 : Memref sig .tc .vmem S256x1024 .f32) (harg14 : arg14.IsWhole) (arg15 : Memref sig .tc .vmem S1x1024 .f32) (harg15 : arg15.IsWhole) (arg16 : Memref sig .tc .vmem S1024x3584 .bf16) (harg16 : arg16.IsWhole) (arg18 : Memref sig .tc .vmem S1024x3584 .f32) (harg18 : arg18.IsWhole) (hc0 : ¬cond0_0 i) (hc1 : cond0_1 i) (x0 : Vec Ideal S256x512 .bf16) (x1 : Vec Ideal S256x512 .bf16) (x2 : Vec Ideal S256x512 .bf16) (x3 : Vec Ideal S256x512 .bf16) (x4 : Vec Ideal S256x512 .bf16) (x5 : Vec Ideal S256x512 .bf16) (x6 : Vec Ideal S256x512 .bf16) (x7 : Vec Ideal S256x1024 .bf16) (x8 : Vec Ideal S256x1024 .f32) (x9 : Vec Ideal S1x1024 .f32) (x10 : Vec Ideal S256x1024 .f32) (xo13 : Vec Ideal S1x1024 .f32) (xs0 : Vec Ideal S1024x3584 .bf16) (xs1 : Vec Ideal S1024x3584 .f32) (fh0 : HbBuf0 (F := Ideal) c hbM0_0)

set_option maxHeartbeats 4000000 in
/-- The weight gradient's running sum after the last point. -/
theorem acc_C :
    sout0_C_1 c i arg1 harg1 arg2 harg2 arg3 harg3 arg4 harg4 arg5 harg5 arg6 harg6 arg7 harg7 arg9 harg9 arg10 harg10 arg11 harg11 arg12 harg12 arg13 harg13 arg14 harg14 arg15 harg15 arg16 harg16 arg18 harg18 hc0 hc1 x0 x1 x2 x3 x4 x5 x6 x7 x8 x9 x10 xo13 xs0 xs1 fh0 = k0_pay13 x0 x1 x2 x3 x4 x5 x6 xs1 x7 := by
  unfold sout0_C_1
  rw [View.read_writes_eq_canon _ _ _ (scover0_C_1 c i arg1 harg1 arg2 harg2 arg3 harg3 arg4 harg4 arg5 harg5 arg6 harg6 arg7 harg7 arg9 harg9 arg10 harg10 arg11 harg11 arg12 harg12 arg13 harg13 arg14 harg14 arg15 harg15 arg16 harg16 arg18 harg18 hc0 hc1 x0 x1 x2 x3 x4 x5 x6 x7 x8 x9 x10 xo13 xs0 xs1 fh0)]
  unfold kernelRun0_C
  dsimp only
  sl_unfold_words
  simp (disch := decide) only [View.canon_cons_unit_lit', View.readCov_cons_unit_lit', View.readCov_unit_lit', View.readAt_eq_ld, View.ld_unit_lit', harg1.read_unread, harg2.read_unread, harg3.read_unread, harg4.read_unread, harg5.read_unread, harg6.read_unread, harg7.read_unread, harg9.read_unread, harg10.read_unread, harg11.read_unread, harg12.read_unread, harg13.read_unread, harg14.read_unread, harg15.read_unread, harg16.read_unread, harg18.read_unread]

set_option maxHeartbeats 4000000 in
/-- The cotangent's block after the last point. -/
theorem dx_C :
    out0_C_12 c i arg1 harg1 arg2 harg2 arg3 harg3 arg4 harg4 arg5 harg5 arg6 harg6 arg7 harg7 arg9 harg9 arg10 harg10 arg11 harg11 arg12 harg12 arg13 harg13 arg14 harg14 arg15 harg15 arg16 harg16 arg18 harg18 hc0 hc1 x0 x1 x2 x3 x4 x5 x6 x7 x8 x9 x10 xo13 xs0 xs1 fh0 = k0_pay4 (k0_pay14 x0 x1 x2 x3 x4 x5 x6 xs0) x8 x10 x9 := by
  unfold out0_C_12
  rw [View.read_writes_eq_canon _ _ _ (cover0_C_12 c i arg1 harg1 arg2 harg2 arg3 harg3 arg4 harg4 arg5 harg5 arg6 harg6 arg7 harg7 arg9 harg9 arg10 harg10 arg11 harg11 arg12 harg12 arg13 harg13 arg14 harg14 arg15 harg15 arg16 harg16 arg18 harg18 hc0 hc1 x0 x1 x2 x3 x4 x5 x6 x7 x8 x9 x10 xo13 xs0 xs1 fh0)]
  unfold kernelRun0_C
  dsimp only
  sl_unfold_words
  simp (disch := decide) only [View.canon_cons_unit_lit', View.readCov_cons_unit_lit', View.readCov_unit_lit', View.readAt_eq_ld, View.ld_unit_lit', harg1.read_unread, harg2.read_unread, harg3.read_unread, harg4.read_unread, harg5.read_unread, harg6.read_unread, harg7.read_unread, harg9.read_unread, harg10.read_unread, harg11.read_unread, harg12.read_unread, harg13.read_unread, harg14.read_unread, harg15.read_unread, harg16.read_unread, harg18.read_unread]

set_option maxHeartbeats 4000000 in
/-- The scale gradient's running sum after the last point. -/
theorem dg_C :
    out0_C_13 c i arg1 harg1 arg2 harg2 arg3 harg3 arg4 harg4 arg5 harg5 arg6 harg6 arg7 harg7 arg9 harg9 arg10 harg10 arg11 harg11 arg12 harg12 arg13 harg13 arg14 harg14 arg15 harg15 arg16 harg16 arg18 harg18 hc0 hc1 x0 x1 x2 x3 x4 x5 x6 x7 x8 x9 x10 xo13 xs0 xs1 fh0 = k0_pay3 (k0_pay14 x0 x1 x2 x3 x4 x5 x6 xs0) x8 xo13 := by
  unfold out0_C_13
  rw [View.read_writes_eq_canon _ _ _ (cover0_C_13 c i arg1 harg1 arg2 harg2 arg3 harg3 arg4 harg4 arg5 harg5 arg6 harg6 arg7 harg7 arg9 harg9 arg10 harg10 arg11 harg11 arg12 harg12 arg13 harg13 arg14 harg14 arg15 harg15 arg16 harg16 arg18 harg18 hc0 hc1 x0 x1 x2 x3 x4 x5 x6 x7 x8 x9 x10 xo13 xs0 xs1 fh0)]
  unfold kernelRun0_C
  dsimp only
  sl_unfold_words
  simp (disch := decide) only [View.canon_cons_unit_lit', View.readCov_cons_unit_lit', View.readCov_unit_lit', View.readAt_eq_ld, View.ld_unit_lit', harg1.read_unread, harg2.read_unread, harg3.read_unread, harg4.read_unread, harg5.read_unread, harg6.read_unread, harg7.read_unread, harg9.read_unread, harg10.read_unread, harg11.read_unread, harg12.read_unread, harg13.read_unread, harg14.read_unread, harg15.read_unread, harg16.read_unread, harg18.read_unread]

set_option maxHeartbeats 4000000 in
/-- The weight gradient after the last point. -/
theorem dw_C :
    out0_C_11 c i arg1 harg1 arg2 harg2 arg3 harg3 arg4 harg4 arg5 harg5 arg6 harg6 arg7 harg7 arg9 harg9 arg10 harg10 arg11 harg11 arg12 harg12 arg13 harg13 arg14 harg14 arg15 harg15 arg16 harg16 arg18 harg18 hc0 hc1 x0 x1 x2 x3 x4 x5 x6 x7 x8 x9 x10 xo13 xs0 xs1 fh0 = cut (k0_pay13 x0 x1 x2 x3 x4 x5 x6 xs1 x7) := by
  funext y
  unfold out0_C_11
  rw [View.read_writes_eq_canon _ _ _ (cover0_C_11 c i arg1 harg1 arg2 harg2 arg3 harg3 arg4 harg4 arg5 harg5 arg6 harg6 arg7 harg7 arg9 harg9 arg10 harg10 arg11 harg11 arg12 harg12 arg13 harg13 arg14 harg14 arg15 harg15 arg16 harg16 arg18 harg18 hc0 hc1 x0 x1 x2 x3 x4 x5 x6 x7 x8 x9 x10 xo13 xs0 xs1 fh0)]
  apply View.canon_apply_of_pieces (Val := Elt Ideal) (cut (k0_pay13 x0 x1 x2 x3 x4 x5 x6 xs1 x7)) _ ?_ y (cover0_C_11 c i arg1 harg1 arg2 harg2 arg3 harg3 arg4 harg4 arg5 harg5 arg6 harg6 arg7 harg7 arg9 harg9 arg10 harg10 arg11 harg11 arg12 harg12 arg13 harg13 arg14 harg14 arg15 harg15 arg16 harg16 arg18 harg18 hc0 hc1 x0 x1 x2 x3 x4 x5 x6 x7 x8 x9 x10 xo13 xs0 xs1 fh0 y)
  unfold kernelRun0_C
  dsimp only
  sl_unfold_words
  simp (disch := decide) only [↓View.readCov_fill, View.canon_cons_unit_lit', View.readAt_eq_ld, View.ld_unit_lit', harg1.read_unread, harg2.read_unread, harg3.read_unread, harg4.read_unread, harg5.read_unread, harg6.read_unread, harg7.read_unread, harg9.read_unread, harg10.read_unread, harg11.read_unread, harg12.read_unread, harg13.read_unread, harg14.read_unread, harg15.read_unread, harg16.read_unread, harg18.read_unread, List.forall_mem_cons, List.not_mem_nil, false_implies, implies_true, and_true]
  generalize k0_pay13 x0 x1 x2 x3 x4 x5 x6 xs1 x7 = a
  refine ⟨?_, ?_, ?_, ?_⟩ <;>
    (intro x
     change S1x1024x896.Idx at x
     idx_vars x
     rw [emb_eq_idx]
     unfold_payloads
     pointwise [View.ld_unit]
     exact cut_at a _ x1 x2 _ (by simp))

end Cert.Kernel2Ideal.In

end
-- ==== Proof.Norm.lean ====
/- Root-mean-square normalisation of a row and its gradient over the extended reals: the usual closed form of the gradient, and the one the chain rule writes down,
   agree on real rows. -/
module

public import proofs.«01_k».proof.Proof.Mlp.Spec

@[expose] public section

noncomputable section

namespace Cert.Norm

open Idealize.ShloMosaic Cert.Mlp

/-- The small number under the root. -/
def eps : EReal := Ideal.ofBits FTy.f32 897988541#32

/-- It is a positive real. -/
theorem eps_eq : ∃ e : ℝ, 0 < e ∧ eps = (e : EReal) := by
  refine ⟨8796093 / 8796093022208, by norm_num, ?_⟩
  unfold eps
  simp [Ideal.ofBits, Ideal.ieee]
  rw [← EReal.coe_mul]; norm_num [zpow_neg]

theorem n1024_eq : Ideal.ofBits FTy.f32 1149239296#32 = ((1024 : ℝ) : EReal) := by
  simp [Ideal.ofBits, Ideal.ieee]
  rw [← EReal.coe_mul]; norm_num [zpow_neg]

theorem inv1024_eq : Ideal.ofBits FTy.f32 981467136#32 = (((1024 : ℝ)⁻¹ : ℝ) : EReal) := by
  simp [Ideal.ofBits, Ideal.ieee]
  rw [← EReal.coe_mul]; norm_num [zpow_neg]

theorem neghalf_eq : Ideal.ofBits FTy.f32 3204448256#32 = ((-(1 / 2) : ℝ) : EReal) := by
  simp [Ideal.ofBits, Ideal.ieee]
  rw [← EReal.coe_mul]; norm_num [zpow_neg]

/-- Division by a real that is not zero. -/
theorem div_real (a : EReal) (b : ℝ) (h : b ≠ 0) : Ideal.div a (b : EReal) = a * ((b⁻¹ : ℝ) : EReal) := by
  unfold Ideal.div
  rw [if_neg (by exact_mod_cast h), ← EReal.coe_inv]

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

variable {n : ℕ} (N : ℝ) (x d : Fin n → EReal)

/-- The mean square of a row and the small number. -/
def meanSq : EReal := (∑ i, x i * x i) * ((N⁻¹ : ℝ) : EReal) + eps

/-- The row's inverse root mean square. -/
def rms : EReal := Ideal.rsqrt (meanSq N x)

/-- Entry `k` of the gradient of the normalised row, for a cotangent `d` of it. -/
def normGrad (k : Fin n) : EReal := rms N x * (d k - x k * rms N x * ((∑ i, d i * (x i * rms N x)) * ((N⁻¹ : ℝ) : EReal)))

/-- What the chain rule sends into the mean square. -/
def meanCot : EReal := (∑ i, x i * d i) * (((-(1 / 2) : ℝ) : EReal) * Ideal.div (rms N x) (meanSq N x)) * ((N⁻¹ : ℝ) : EReal)

variable {N x d}

theorem meanSq_pos (hN : 0 < N) (hx : ∀ i, IsReal (x i)) : ∃ v : ℝ, 0 < v ∧ meanSq N x = (v : EReal) := by
  obtain ⟨e, he, e'⟩ := eps_eq
  choose X hX using hx
  refine ⟨(∑ i, X i * X i) * N⁻¹ + e, ?_, ?_⟩
  · have : 0 ≤ ∑ i, X i * X i := Finset.sum_nonneg fun i _ => mul_self_nonneg _
    positivity
  · unfold meanSq
    simp only [hX, e', ← EReal.coe_mul, coe_sum, ← EReal.coe_add]

theorem rms_of {v : ℝ} (hv : 0 < v) (h : meanSq N x = (v : EReal)) : rms N x = (((Real.sqrt v)⁻¹ : ℝ) : EReal) := by
  unfold rms
  rw [h, Ideal.rsqrt_coe, if_neg (by linarith), if_neg (by linarith)]

theorem rms_real (hN : 0 < N) (hx : ∀ i, IsReal (x i)) : IsReal (rms N x) := by
  obtain ⟨v, hv, e⟩ := meanSq_pos hN hx
  exact ⟨_, rms_of hv e⟩

/-- The two gradients agree. -/
theorem normGrad_eq (hN : 0 < N) (hx : ∀ i, IsReal (x i)) (hd : ∀ i, IsReal (d i)) (h : EReal) (k : Fin n) :
    h + normGrad N x d k = h + d k * rms N x + x k * meanCot N x d + meanCot N x d * x k := by
  obtain ⟨v, hv, e⟩ := meanSq_pos hN hx
  have er := rms_of hv e
  have hs : Real.sqrt v * Real.sqrt v = v := Real.mul_self_sqrt hv.le
  have h0 : Real.sqrt v ≠ 0 := (Real.sqrt_pos.mpr hv).ne'
  choose X hX using hx
  choose D hD using hd
  unfold normGrad meanCot
  rw [er, e, div_real _ _ hv.ne', add_assoc, add_assoc]
  congr 1
  simp only [hX, hD, ← EReal.coe_mul, coe_sum, ← EReal.coe_sub, ← EReal.coe_add]
  congr 1
  have e1 : ∑ i, D i * (X i * (Real.sqrt v)⁻¹) = (∑ i, X i * D i) * (Real.sqrt v)⁻¹ := by
    rw [Finset.sum_mul]; exact Finset.sum_congr rfl fun i _ => by ring
  rw [e1]
  generalize (∑ i, X i * D i) = S
  have e2 : v⁻¹ = (Real.sqrt v)⁻¹ * (Real.sqrt v)⁻¹ := by rw [← mul_inv, hs]
  rw [e2]
  generalize (Real.sqrt v)⁻¹ = r
  ring

/-- The same without a term before it. -/
theorem normGrad_eq' (hN : 0 < N) (hx : ∀ i, IsReal (x i)) (hd : ∀ i, IsReal (d i)) (k : Fin n) :
    normGrad N x d k = d k * rms N x + x k * meanCot N x d + meanCot N x d * x k := by
  have e := normGrad_eq hN hx hd 0 k
  rwa [zero_add, zero_add] at e

theorem normGrad_real (hN : 0 < N) (hx : ∀ i, IsReal (x i)) (hd : ∀ i, IsReal (d i)) (k : Fin n) : IsReal (normGrad N x d k) := by
  obtain ⟨r, hr⟩ := rms_real hN hx
  choose X hX using hx
  choose D hD using hd
  unfold normGrad
  simp only [hX, hD, hr, ← EReal.coe_mul, coe_sum, ← EReal.coe_sub]
  exact ⟨_, rfl⟩

end Cert.Norm

end
-- ==== Proof.In.Spec.lean ====
/- The gradient of the layer's first norm and of the input weights, written entry by entry: the normalised input against the cotangent of the projection, and the projection's cotangent sent back through the weights and the norm. -/
module

public import proofs.«01_k».proof.Proof.Norm

@[expose] public section

set_option maxRecDepth 16384

noncomputable section

namespace Cert.In

open Idealize.ShloMosaic Cert.Mlp Cert.Norm

variable (X : Fin 4096 → Fin 1024 → EReal) (G : Fin 1024 → EReal) (W : Fin 1024 → Fin 3584 → EReal) (DH : Fin 4096 → Fin 1024 → EReal)
  (DP : Fin 4096 → Fin 3584 → EReal)

/-- The cotangent of the normalised, scaled input. -/
def du (t : Fin 4096) (k : Fin 1024) : EReal := ∑ j, DP t j * W k j

/-- The cotangent of the input. -/
def dx (t : Fin 4096) (k : Fin 1024) : EReal := DH t k + normGrad 1024 (X t) (fun i => du W DP t i * G i) k

/-- Row `n`'s part of the gradient of the norm's scale, zero beyond the last row. -/
def dgTerm (k : Fin 1024) (n : ℕ) : EReal := if h : n < 4096 then du W DP ⟨n, h⟩ k * (X ⟨n, h⟩ k * rms 1024 (X ⟨n, h⟩)) else 0

/-- Row `n`'s part of the gradient of the weights, zero beyond the last row. -/
def dwTerm (k : Fin 1024) (j : Fin 3584) (n : ℕ) : EReal :=
  if h : n < 4096 then X ⟨n, h⟩ k * rms 1024 (X ⟨n, h⟩) * G k * DP ⟨n, h⟩ j else 0

/-- The gradient of the norm's scale. -/
def dg (k : Fin 1024) : EReal := ∑ t : Fin 4096, dgTerm X W DP k t.val

/-- The gradient of the weights. -/
def dw (k : Fin 1024) (j : Fin 3584) : EReal := ∑ t : Fin 4096, dwTerm X G DP k j t.val

/-- The inverse root mean square as the host lines spell it. -/
theorem rms_host (x : Fin 1024 → EReal) :
    Ideal.rsqrt (Ideal.div (∑ i, x i * x i) (Ideal.ofBits FTy.f32 1149239296#32) + Ideal.ofBits FTy.f32 897988541#32) = rms 1024 x := by
  rw [n1024_eq, div_real _ _ (by norm_num)]
  rfl

/-- The inverse root mean square as the kernel spells it. -/
theorem rms_kernel (x : Fin 1024 → EReal) :
    Ideal.rsqrt ((∑ i, x i * x i) * Ideal.ofBits FTy.f32 981467136#32 + Ideal.ofBits FTy.f32 897988541#32) = rms 1024 x := by
  rw [inv1024_eq]
  rfl

/-- What sixteen blocks of 256 rows have added up after block `n`. -/
def upto (f : ℕ → EReal) (n : ℕ) : EReal := ∑ i ∈ Finset.range (n + 1), ∑ r : Fin 256, f (i * 256 + r.val)

theorem upto_zero (f : ℕ → EReal) : upto f 0 = 0 + ∑ r : Fin 256, f (0 * 256 + r.val) := by
  unfold upto; rw [Finset.sum_range_succ, Finset.sum_range_zero]
theorem upto_succ (f : ℕ → EReal) (n : ℕ) : upto f (n + 1) = upto f n + ∑ r : Fin 256, f ((n + 1) * 256 + r.val) := by
  unfold upto; rw [Finset.sum_range_succ]

theorem sum_blocks (f : ℕ → EReal) (n : ℕ) : ∑ i ∈ Finset.range n, ∑ r : Fin 256, f (i * 256 + r.val) = ∑ i ∈ Finset.range (n * 256), f i := by
  induction n with
  | zero => simp
  | succ n ih =>
    rw [Finset.sum_range_succ, ih, Nat.succ_mul, Finset.sum_range_add]
    exact congrArg _ (Fin.sum_univ_eq_sum_range (fun r => f (n * 256 + r)) 256)

theorem upto_last (f : ℕ → EReal) : upto f 15 = ∑ t : Fin 4096, f t.val := by
  unfold upto
  rw [sum_blocks, Fin.sum_univ_eq_sum_range]

end Cert.In

end
-- ==== Proof.In.Block.lean ====
/- One grid point's results in the terms of the whole problem: if the point's blocks hold rows `256 b …` of the arrays, its results are the same rows of the specification and its sums gain this block's part. -/
module

public import proofs.«01_k».proof.Proof.In.Terms
public import proofs.«01_k».proof.Proof.In.Spec

@[expose] public section

set_option maxRecDepth 16384

noncomputable section

namespace Cert.Kernel2Ideal.In

open Cert.Kernel2Ideal Cert.Kernel2Ideal.Gen Idealize.ShloMosaic Idealize.ShloMosaic.TcCoe Idealize.SL.Sem
open Cert.Mlp Cert.Norm Cert.In

variable {X : Fin 4096 → Fin 1024 → EReal} {G : Fin 1024 → EReal} {W : Fin 1024 → Fin 3584 → EReal} {DH : Fin 4096 → Fin 1024 → EReal}
  {DP : Fin 4096 → Fin 3584 → EReal} {b : ℕ}
  {x0 x1 x2 x3 x4 x5 x6 : Vec Ideal S256x512 .bf16} {x7 : Vec Ideal S256x1024 .bf16} {x8 : Vec Ideal S256x1024 .f32} {x9 : Vec Ideal S1x1024 .f32}
  {x10 : Vec Ideal S256x1024 .f32}

/-- The seven column blocks of the projection's cotangent hold its columns `512 p …` at rows `256 b …`. -/
def Part (DP : Fin 4096 → Fin 3584 → EReal) (b p : ℕ) (x : Vec Ideal S256x512 .bf16) : Prop :=
  ∀ (r : Fin 256) (q : Fin 512) (h : b * 256 + r.val < 4096) (h' : p * 512 + q.val < 3584), x (ix2 r q) = DP ⟨b * 256 + r.val, h⟩ ⟨p * 512 + q.val, h'⟩

/-- The blocks hold rows `256 b …` of the arrays. -/
structure Holds (X : Fin 4096 → Fin 1024 → EReal) (G : Fin 1024 → EReal) (DH : Fin 4096 → Fin 1024 → EReal) (DP : Fin 4096 → Fin 3584 → EReal) (b : ℕ)
    (x0 x1 x2 x3 x4 x5 x6 : Vec Ideal S256x512 .bf16) (x7 : Vec Ideal S256x1024 .bf16) (x8 : Vec Ideal S256x1024 .f32) (x9 : Vec Ideal S1x1024 .f32)
    (x10 : Vec Ideal S256x1024 .f32) : Prop where
  lt : b < 16
  p0 : Part DP b 0 x0
  p1 : Part DP b 1 x1
  p2 : Part DP b 2 x2
  p3 : Part DP b 3 x3
  p4 : Part DP b 4 x4
  p5 : Part DP b 5 x5
  p6 : Part DP b 6 x6
  hu : ∀ (r : Fin 256) (k : Fin 1024), x7 (ix2 r k) = X ⟨b * 256 + r.val, by omega⟩ k * rms 1024 (X ⟨b * 256 + r.val, by omega⟩) * G k
  hx : ∀ (r : Fin 256) (k : Fin 1024), x8 (ix2 r k) = X ⟨b * 256 + r.val, by omega⟩ k
  hg : ∀ k : Fin 1024, x9 (ix2 0 k) = G k
  hdh : ∀ (r : Fin 256) (k : Fin 1024), x10 (ix2 r k) = DH ⟨b * 256 + r.val, by omega⟩ k

/-- A column of the joined parts: entry `j`, from the part that holds it. -/
theorem part_at {p : ℕ} {x : Vec Ideal S256x512 .bf16} (H : Part DP b p x) (r : Fin 256) (j : Fin 3584) (q : ℕ) (hq : q < 512) (hb : b * 256 + r.val < 4096)
    (e : j.val = p * 512 + q) : x (ix2 r ⟨q, hq⟩) = DP ⟨b * 256 + r.val, hb⟩ j :=
  (H r ⟨q, hq⟩ hb (by show p * 512 + q < 3584; omega)).trans (congrArg _ (Fin.ext e.symm))

section
variable (H : Holds X G DH DP b x0 x1 x2 x3 x4 x5 x6 x7 x8 x9 x10)
include H

/-- The parts side by side hold the rows of the projection's cotangent. -/
theorem Holds.dp (r : Fin 256) (j : Fin 3584) (hb : b * 256 + r.val < 4096) : k0_pay12 x0 x1 x2 x3 x4 x5 x6 (ix2 r j) = DP ⟨b * 256 + r.val, hb⟩ j := by
  unfold_payloads
  pointwise
  split
  · exact part_at H.p0 r j _ _ hb (by omega)
  split
  · exact part_at H.p1 r j _ _ hb (by omega)
  split
  · exact part_at H.p2 r j _ _ hb (by omega)
  split
  · exact part_at H.p3 r j _ _ hb (by omega)
  split
  · exact part_at H.p4 r j _ _ hb (by omega)
  split
  · exact part_at H.p5 r j _ _ hb (by omega)
  · exact part_at H.p6 r j _ _ hb (by omega)

/-- The weight gradient's sum gains the block's rows. -/
theorem Holds.dw_eq (acc : Vec Ideal S1024x3584 .f32) (k : Fin 1024) (j : Fin 3584) :
    k0_pay13 x0 x1 x2 x3 x4 x5 x6 acc x7 (ix2 k j) = acc (ix2 k j) + ∑ r : Fin 256, dwTerm X G DP k j (b * 256 + r.val) := by
  have hdp := H.dp
  unfold k0_pay13
  generalize k0_pay12 x0 x1 x2 x3 x4 x5 x6 = d at hdp ⊢
  pointwise
  congr 1
  refine Finset.sum_congr rfl fun r _ => ?_
  have := H.lt
  have hb : b * 256 + r.val < 4096 := by omega
  unfold dwTerm
  rw [dif_pos hb, H.hu, hdp r j hb]

/-- The cotangent of the normalised, scaled input. -/
theorem Holds.du_eq (w : Vec Ideal S1024x3584 .bf16) (hw : ∀ k j, w (ix2 k j) = W k j) (r : Fin 256) (k : Fin 1024) (hb : b * 256 + r.val < 4096) :
    k0_pay14 x0 x1 x2 x3 x4 x5 x6 w (ix2 r k) = du W DP ⟨b * 256 + r.val, hb⟩ k := by
  have hdp := H.dp
  unfold k0_pay14
  generalize k0_pay12 x0 x1 x2 x3 x4 x5 x6 = d at hdp ⊢
  pointwise
  unfold du
  exact Finset.sum_congr rfl fun j _ => by rw [hdp r j hb, hw]

/-- The scale gradient's sum gains the block's rows. -/
theorem Holds.dg_eq (w : Vec Ideal S1024x3584 .bf16) (hw : ∀ k j, w (ix2 k j) = W k j) (o : Vec Ideal S1x1024 .f32) (u : Fin 1) (k : Fin 1024) :
    k0_pay3 (k0_pay14 x0 x1 x2 x3 x4 x5 x6 w) x8 o (ix2 u k) = o (ix2 u k) + ∑ r : Fin 256, dgTerm X W DP k (b * 256 + r.val) := by
  have hdu := H.du_eq w hw
  generalize k0_pay14 x0 x1 x2 x3 x4 x5 x6 w = d at hdu ⊢
  unfold_payloads
  pointwise
  congr 1
  refine Finset.sum_congr rfl fun r _ => ?_
  have := H.lt
  have hb : b * 256 + r.val < 4096 := by omega
  unfold dgTerm
  rw [dif_pos hb, hdu r k hb]
  simp only [H.hx]
  rw [rms_kernel]

/-- The block's rows of the input's cotangent. -/
theorem Holds.dx_eq (w : Vec Ideal S1024x3584 .bf16) (hw : ∀ k j, w (ix2 k j) = W k j) (r : Fin 256) (k : Fin 1024) (hb : b * 256 + r.val < 4096) :
    k0_pay4 (k0_pay14 x0 x1 x2 x3 x4 x5 x6 w) x8 x10 x9 (ix2 r k) = dx X G W DH DP ⟨b * 256 + r.val, hb⟩ k := by
  have hdu := H.du_eq w hw
  generalize k0_pay14 x0 x1 x2 x3 x4 x5 x6 w = d at hdu ⊢
  unfold_payloads
  pointwise
  simp only [H.hx, H.hg, H.hdh, fun k => hdu r k hb]
  rw [rms_kernel, inv1024_eq]
  rfl
end

end Cert.Kernel2Ideal.In

end
-- ==== Proof.In.Host.lean ====
/- What the host lines before the kernel leave in its operands: the normalised, scaled input, the seven column blocks of the projection's cotangent, and the weights cut into four. -/
module

public import proofs.«01_k».proof.Proof.Gen.Kernel2Ideal.Value
public import proofs.«01_k».proof.Proof.In.Terms
public import proofs.«01_k».proof.Proof.In.Spec

@[expose] public section

set_option maxRecDepth 16384

noncomputable section

namespace Cert.Kernel2Ideal.In

open Cert.Kernel2Ideal Cert.Kernel2Ideal.Gen Idealize.ShloMosaic Idealize.ShloMosaic.TcCoe Idealize.SL.Sem
open Cert.Mlp Cert.Norm Cert.In

variable (m : (ℓ : Loc nD τ sig) → Buf (Elt Ideal) ℓ) (c : Dev nD)

/-- The arguments, as functions of row and column. -/
abbrev xM : Fin 4096 → Fin 1024 → EReal := fun t k => (m ((c : Thread nD τ).loc main_arg0) : Vec Ideal S4096x1024 .f32) (ix2 t k)
abbrev gM : Fin 1024 → EReal := fun k => (m ((c : Thread nD τ).loc main_arg1) : Vec Ideal S1x1024 .f32) (ix2 0 k)
abbrev wM : Fin 1024 → Fin 3584 → EReal := fun k j => (m ((c : Thread nD τ).loc main_arg2) : Vec Ideal S1024x3584 .f32) (ix2 k j)
abbrev dhM : Fin 4096 → Fin 1024 → EReal := fun t k => (m ((c : Thread nD τ).loc main_arg3) : Vec Ideal S4096x1024 .f32) (ix2 t k)
abbrev dpM : Fin 4096 → Fin 3584 → EReal := fun t j => (m ((c : Thread nD τ).loc main_arg4) : Vec Ideal S4096x3584 .f32) (ix2 t j)

set_option maxHeartbeats 1000000 in
/-- The four blocks of the weights side by side are the weights. -/
theorem V_w (k : Fin 1024) (j : Fin 3584) : sideBySide (V m c main_v2 : Vec Ideal S4x1024x896 .bf16) (ix2 k j) = wM m c k j := by
  show (V m c main_v2 : Vec Ideal S4x1024x896 .bf16) (ix3 (blockOf j) k (placeOf j)) = _
  unfold V hostOps0
  after_results
  pointwise
  show m (c, Proc.tc.devRef main_arg2) _ = m (c, Proc.tc.devRef main_arg2) _
  exact congrArg _ (congrArg _ (Fin.ext (by show j.val / 896 * 896 + j.val % 896 = j.val; omega)))

set_option maxHeartbeats 1000000 in
theorem V_u (t : Fin 4096) (k : Fin 1024) : (V m c main_v17 : Vec Ideal S4096x1024 .bf16) (ix2 t k) = xM m c t k * rms 1024 (xM m c t) * gM m c k := by
  unfold V hostOps0
  after_results
  pointwise
  exact congrArg (fun z => xM m c t k * z * gM m c k) (rms_host (xM m c t))

set_option maxHeartbeats 1000000 in
theorem V_p0 (t : Fin 4096) (q : Fin 512) : (V m c main_v19 : Vec Ideal S4096x512 .bf16) (ix2 t q) = dpM m c t ⟨0 * 512 + q.val, by omega⟩ := by
  unfold V hostOps0
  after_results
  pointwise

set_option maxHeartbeats 1000000 in
theorem V_p1 (t : Fin 4096) (q : Fin 512) : (V m c main_v20 : Vec Ideal S4096x512 .bf16) (ix2 t q) = dpM m c t ⟨1 * 512 + q.val, by omega⟩ := by
  unfold V hostOps0
  after_results
  pointwise

set_option maxHeartbeats 1000000 in
theorem V_p2 (t : Fin 4096) (q : Fin 512) : (V m c main_v21 : Vec Ideal S4096x512 .bf16) (ix2 t q) = dpM m c t ⟨2 * 512 + q.val, by omega⟩ := by
  unfold V hostOps0
  after_results
  pointwise

set_option maxHeartbeats 1000000 in
theorem V_p3 (t : Fin 4096) (q : Fin 512) : (V m c main_v22 : Vec Ideal S4096x512 .bf16) (ix2 t q) = dpM m c t ⟨3 * 512 + q.val, by omega⟩ := by
  unfold V hostOps0
  after_results
  pointwise

set_option maxHeartbeats 1000000 in
theorem V_p4 (t : Fin 4096) (q : Fin 512) : (V m c main_v23 : Vec Ideal S4096x512 .bf16) (ix2 t q) = dpM m c t ⟨4 * 512 + q.val, by omega⟩ := by
  unfold V hostOps0
  after_results
  pointwise

set_option maxHeartbeats 1000000 in
theorem V_p5 (t : Fin 4096) (q : Fin 512) : (V m c main_v24 : Vec Ideal S4096x512 .bf16) (ix2 t q) = dpM m c t ⟨5 * 512 + q.val, by omega⟩ := by
  unfold V hostOps0
  after_results
  pointwise

set_option maxHeartbeats 1000000 in
theorem V_p6 (t : Fin 4096) (q : Fin 512) : (V m c main_v25 : Vec Ideal S4096x512 .bf16) (ix2 t q) = dpM m c t ⟨6 * 512 + q.val, by omega⟩ := by
  unfold V hostOps0
  after_results
  pointwise

end Cert.Kernel2Ideal.In

end
-- ==== Proof.In.Global.lean ====
/- The kernel's results point by point: point `t` takes row block `t`, so the sums run over the rows in their order. -/
module

public import proofs.«01_k».proof.Proof.In.CaseA
public import proofs.«01_k».proof.Proof.In.CaseB
public import proofs.«01_k».proof.Proof.In.CaseC
public import proofs.«01_k».proof.Proof.In.Block
public import proofs.«01_k».proof.Proof.In.Host

@[expose] public section

set_option maxRecDepth 16384

noncomputable section

namespace Cert.Kernel2Ideal.In

open Cert.Kernel2Ideal Cert.Kernel2Ideal.Gen Idealize.ShloMosaic Idealize.ShloMosaic.TcCoe Idealize.SL.Sem
open Cert.Mlp Cert.Norm Cert.In

variable (m : (ℓ : Loc nD τ sig) → Buf (Elt Ideal) ℓ) (c : Dev nD)

/-- The row block a point takes. -/
theorem idx (t : Fin cfg0.N) : win0_0.index t 0 = t.val ∧ win0_0.index t 1 = 0 ∧ win0_1.index t 0 = t.val ∧ win0_1.index t 1 = 0 ∧ win0_2.index t 0 = t.val ∧ win0_2.index t 1 = 0 ∧ win0_3.index t 0 = t.val ∧ win0_3.index t 1 = 0 ∧ win0_4.index t 0 = t.val ∧ win0_4.index t 1 = 0 ∧ win0_5.index t 0 = t.val ∧ win0_5.index t 1 = 0 ∧ win0_6.index t 0 = t.val ∧ win0_6.index t 1 = 0 ∧ win0_7.index t 0 = t.val ∧ win0_7.index t 1 = 0 ∧ win0_8.index t 0 = t.val ∧ win0_8.index t 1 = 0 ∧ win0_10.index t 0 = t.val ∧ win0_10.index t 1 = 0 ∧ win0_12.index t 0 = t.val ∧ win0_12.index t 1 = 0 ∧ win0_9.index t 0 = 0 ∧ win0_9.index t 1 = 0 :=
  (by decide +kernel : ∀ t : Fin grid0.N, win0_0.index t 0 = t.val ∧ win0_0.index t 1 = 0 ∧ win0_1.index t 0 = t.val ∧ win0_1.index t 1 = 0 ∧ win0_2.index t 0 = t.val ∧ win0_2.index t 1 = 0 ∧ win0_3.index t 0 = t.val ∧ win0_3.index t 1 = 0 ∧ win0_4.index t 0 = t.val ∧ win0_4.index t 1 = 0 ∧ win0_5.index t 0 = t.val ∧ win0_5.index t 1 = 0 ∧ win0_6.index t 0 = t.val ∧ win0_6.index t 1 = 0 ∧ win0_7.index t 0 = t.val ∧ win0_7.index t 1 = 0 ∧ win0_8.index t 0 = t.val ∧ win0_8.index t 1 = 0 ∧ win0_10.index t 0 = t.val ∧ win0_10.index t 1 = 0 ∧ win0_12.index t 0 = t.val ∧ win0_12.index t 1 = 0 ∧ win0_9.index t 0 = 0 ∧ win0_9.index t 1 = 0) t

theorem N16 (t : Fin cfg0.N) : t.val < 16 := lt_of_lt_of_eq t.isLt (show cfg0.N = 16 from N_0)

theorem row_lt (t : Fin cfg0.N) (r : Fin 256) : t.val * 256 + r.val < 4096 := by
  have := N16 t
  omega

theorem blk0 (t : Fin cfg0.N) : Part (dpM m c) t.val 0 (iblk m c 0 t : Vec Ideal S256x512 .bf16) := fun r k hb hk => by
  have hi := idx t
  refine Eq.trans ?_ (V_p0 m c ⟨t.val * 256 + r.val, hb⟩ k)
  unfold iblk
  rw [View.read_apply]
  show V m c main_v19 _ = V m c main_v19 _
  generalize V m c main_v19 = A
  congr 1
  funext a
  apply Fin.ext
  match a with
  | ⟨0, _⟩ => show win0_0.index t 0 * 256 + 1 * _ = _; rw [hi.1]; simp
  | ⟨1, _⟩ => show win0_0.index t 1 * 512 + 1 * _ = _; rw [hi.2.1]; simp

theorem blk1 (t : Fin cfg0.N) : Part (dpM m c) t.val 1 (iblk m c 1 t : Vec Ideal S256x512 .bf16) := fun r k hb hk => by
  have hi := idx t
  refine Eq.trans ?_ (V_p1 m c ⟨t.val * 256 + r.val, hb⟩ k)
  unfold iblk
  rw [View.read_apply]
  show V m c main_v20 _ = V m c main_v20 _
  generalize V m c main_v20 = A
  congr 1
  funext a
  apply Fin.ext
  match a with
  | ⟨0, _⟩ => show win0_1.index t 0 * 256 + 1 * _ = _; rw [hi.2.2.1]; simp
  | ⟨1, _⟩ => show win0_1.index t 1 * 512 + 1 * _ = _; rw [hi.2.2.2.1]; simp

theorem blk2 (t : Fin cfg0.N) : Part (dpM m c) t.val 2 (iblk m c 2 t : Vec Ideal S256x512 .bf16) := fun r k hb hk => by
  have hi := idx t
  refine Eq.trans ?_ (V_p2 m c ⟨t.val * 256 + r.val, hb⟩ k)
  unfold iblk
  rw [View.read_apply]
  show V m c main_v21 _ = V m c main_v21 _
  generalize V m c main_v21 = A
  congr 1
  funext a
  apply Fin.ext
  match a with
  | ⟨0, _⟩ => show win0_2.index t 0 * 256 + 1 * _ = _; rw [hi.2.2.2.2.1]; simp
  | ⟨1, _⟩ => show win0_2.index t 1 * 512 + 1 * _ = _; rw [hi.2.2.2.2.2.1]; simp

theorem blk3 (t : Fin cfg0.N) : Part (dpM m c) t.val 3 (iblk m c 3 t : Vec Ideal S256x512 .bf16) := fun r k hb hk => by
  have hi := idx t
  refine Eq.trans ?_ (V_p3 m c ⟨t.val * 256 + r.val, hb⟩ k)
  unfold iblk
  rw [View.read_apply]
  show V m c main_v22 _ = V m c main_v22 _
  generalize V m c main_v22 = A
  congr 1
  funext a
  apply Fin.ext
  match a with
  | ⟨0, _⟩ => show win0_3.index t 0 * 256 + 1 * _ = _; rw [hi.2.2.2.2.2.2.1]; simp
  | ⟨1, _⟩ => show win0_3.index t 1 * 512 + 1 * _ = _; rw [hi.2.2.2.2.2.2.2.1]; simp

theorem blk4 (t : Fin cfg0.N) : Part (dpM m c) t.val 4 (iblk m c 4 t : Vec Ideal S256x512 .bf16) := fun r k hb hk => by
  have hi := idx t
  refine Eq.trans ?_ (V_p4 m c ⟨t.val * 256 + r.val, hb⟩ k)
  unfold iblk
  rw [View.read_apply]
  show V m c main_v23 _ = V m c main_v23 _
  generalize V m c main_v23 = A
  congr 1
  funext a
  apply Fin.ext
  match a with
  | ⟨0, _⟩ => show win0_4.index t 0 * 256 + 1 * _ = _; rw [hi.2.2.2.2.2.2.2.2.1]; simp
  | ⟨1, _⟩ => show win0_4.index t 1 * 512 + 1 * _ = _; rw [hi.2.2.2.2.2.2.2.2.2.1]; simp

theorem blk5 (t : Fin cfg0.N) : Part (dpM m c) t.val 5 (iblk m c 5 t : Vec Ideal S256x512 .bf16) := fun r k hb hk => by
  have hi := idx t
  refine Eq.trans ?_ (V_p5 m c ⟨t.val * 256 + r.val, hb⟩ k)
  unfold iblk
  rw [View.read_apply]
  show V m c main_v24 _ = V m c main_v24 _
  generalize V m c main_v24 = A
  congr 1
  funext a
  apply Fin.ext
  match a with
  | ⟨0, _⟩ => show win0_5.index t 0 * 256 + 1 * _ = _; rw [hi.2.2.2.2.2.2.2.2.2.2.1]; simp
  | ⟨1, _⟩ => show win0_5.index t 1 * 512 + 1 * _ = _; rw [hi.2.2.2.2.2.2.2.2.2.2.2.1]; simp

theorem blk6 (t : Fin cfg0.N) : Part (dpM m c) t.val 6 (iblk m c 6 t : Vec Ideal S256x512 .bf16) := fun r k hb hk => by
  have hi := idx t
  refine Eq.trans ?_ (V_p6 m c ⟨t.val * 256 + r.val, hb⟩ k)
  unfold iblk
  rw [View.read_apply]
  show V m c main_v25 _ = V m c main_v25 _
  generalize V m c main_v25 = A
  congr 1
  funext a
  apply Fin.ext
  match a with
  | ⟨0, _⟩ => show win0_6.index t 0 * 256 + 1 * _ = _; rw [hi.2.2.2.2.2.2.2.2.2.2.2.2.1]; simp
  | ⟨1, _⟩ => show win0_6.index t 1 * 512 + 1 * _ = _; rw [hi.2.2.2.2.2.2.2.2.2.2.2.2.2.1]; simp

theorem blk7 (t : Fin cfg0.N) (r : Fin 256) (k : Fin 1024) : (iblk m c 7 t : Vec Ideal S256x1024 .bf16) (ix2 r k)
    = xM m c ⟨t.val * 256 + r.val, row_lt t r⟩ k * rms 1024 (xM m c ⟨t.val * 256 + r.val, row_lt t r⟩) * gM m c k := by
  have hi := idx t
  refine Eq.trans ?_ (V_u m c ⟨t.val * 256 + r.val, row_lt t r⟩ k)
  unfold iblk
  rw [View.read_apply]
  show V m c main_v17 _ = V m c main_v17 _
  generalize V m c main_v17 = A
  congr 1
  funext a
  apply Fin.ext
  match a with
  | ⟨0, _⟩ => show win0_7.index t 0 * 256 + 1 * _ = _; rw [hi.2.2.2.2.2.2.2.2.2.2.2.2.2.2.1]; simp
  | ⟨1, _⟩ => show win0_7.index t 1 * 1024 + 1 * _ = _; rw [hi.2.2.2.2.2.2.2.2.2.2.2.2.2.2.2.1]; simp

theorem blk8 (t : Fin cfg0.N) (r : Fin 256) (k : Fin 1024) :
    (iblk m c 8 t : Vec Ideal S256x1024 .f32) (ix2 r k) = xM m c ⟨t.val * 256 + r.val, row_lt t r⟩ k := by
  have hi := idx t
  unfold iblk
  rw [View.read_apply]
  show V m c main_arg0 _ = _
  rw [V_main_arg0]
  show m ((c : Thread nD τ).loc main_arg0) _ = m ((c : Thread nD τ).loc main_arg0) _
  congr 1
  funext a
  apply Fin.ext
  match a with
  | ⟨0, _⟩ => show win0_8.index t 0 * 256 + 1 * _ = _; rw [hi.2.2.2.2.2.2.2.2.2.2.2.2.2.2.2.2.1]; simp
  | ⟨1, _⟩ => show win0_8.index t 1 * 1024 + 1 * _ = _; rw [hi.2.2.2.2.2.2.2.2.2.2.2.2.2.2.2.2.2.1]; simp

theorem blk10 (t : Fin cfg0.N) (r : Fin 256) (k : Fin 1024) :
    (iblk m c 10 t : Vec Ideal S256x1024 .f32) (ix2 r k) = dhM m c ⟨t.val * 256 + r.val, row_lt t r⟩ k := by
  have hi := idx t
  unfold iblk
  rw [View.read_apply]
  show V m c main_arg3 _ = _
  rw [V_main_arg3]
  show m ((c : Thread nD τ).loc main_arg3) _ = m ((c : Thread nD τ).loc main_arg3) _
  congr 1
  funext a
  apply Fin.ext
  match a with
  | ⟨0, _⟩ => show win0_10.index t 0 * 256 + 1 * _ = _; rw [hi.2.2.2.2.2.2.2.2.2.2.2.2.2.2.2.2.2.2.1]; simp
  | ⟨1, _⟩ => show win0_10.index t 1 * 1024 + 1 * _ = _; rw [hi.2.2.2.2.2.2.2.2.2.2.2.2.2.2.2.2.2.2.2.1]; simp

theorem blk9 (t : Fin cfg0.N) (k : Fin 1024) : (iblk m c 9 t : Vec Ideal S1x1024 .f32) (ix2 0 k) = gM m c k := by
  have hi := idx t
  unfold iblk
  rw [View.read_apply]
  show V m c main_arg1 _ = _
  rw [V_main_arg1]
  show m ((c : Thread nD τ).loc main_arg1) _ = m ((c : Thread nD τ).loc main_arg1) _
  congr 1
  funext a
  apply Fin.ext
  match a with
  | ⟨0, _⟩ => show win0_9.index t 0 * 1 + 1 * _ = _; rw [hi.2.2.2.2.2.2.2.2.2.2.2.2.2.2.2.2.2.2.2.2.2.2.1]; simp
  | ⟨1, _⟩ => show win0_9.index t 1 * 1024 + 1 * _ = _; rw [hi.2.2.2.2.2.2.2.2.2.2.2.2.2.2.2.2.2.2.2.2.2.2.2]; simp

/-- A point's blocks hold the rows of its row block. -/
theorem holds (t : Fin cfg0.N) : Holds (xM m c) (gM m c) (dhM m c) (dpM m c) t.val (iblk m c 0 t) (iblk m c 1 t) (iblk m c 2 t) (iblk m c 3 t) (iblk m c 4 t) (iblk m c 5 t) (iblk m c 6 t) (iblk m c 7 t) (iblk m c 8 t) (iblk m c 9 t) (iblk m c 10 t) where
  lt := N16 t
  p0 := blk0 m c t
  p1 := blk1 m c t
  p2 := blk2 m c t
  p3 := blk3 m c t
  p4 := blk4 m c t
  p5 := blk5 m c t
  p6 := blk6 m c t
  hu := blk7 m c t
  hx := blk8 m c t
  hg := blk9 m c t
  hdh := blk10 m c t

theorem pay9_zero (u : Fin 1) (k : Fin 1024) : k0_pay9 (F := Ideal) (ix2 u k) = 0 := by
  unfold_payloads
  pointwise
theorem pay10_zero (k : Fin 1024) (j : Fin 3584) : k0_pay10 (F := Ideal) (ix2 k j) = 0 := by
  unfold_payloads
  pointwise

/-- Everything a point leaves behind. -/
structure After (n : ℕ) (o : Vec Ideal S4x1024x896 .bf16 × Vec Ideal S256x1024 .f32 × Vec Ideal S1x1024 .f32 × Vec Ideal S1024x3584 .bf16 × Vec Ideal S1024x3584 .f32) : Prop where
  dw : n = 15 → ∀ (b : Fin 4) (k : Fin 1024) (q : Fin 896), o.1 (ix3 b k q) = upto (dwTerm (xM m c) (gM m c) (dpM m c) k (colOf b q)) n
  dx : ∀ (r : Fin 256) (k : Fin 1024) (hb : n * 256 + r.val < 4096), o.2.1 (ix2 r k) = dx (xM m c) (gM m c) (wM m c) (dhM m c) (dpM m c) ⟨n * 256 + r.val, hb⟩ k
  dg : ∀ (u : Fin 1) (k : Fin 1024), o.2.2.1 (ix2 u k) = upto (dgTerm (xM m c) (wM m c) (dpM m c) k) n
  w : n < 15 → ∀ (k : Fin 1024) (j : Fin 3584), o.2.2.2.1 (ix2 k j) = wM m c k j
  acc : n < 15 → ∀ (k : Fin 1024) (j : Fin 3584), o.2.2.2.2 (ix2 k j) = upto (dwTerm (xM m c) (gM m c) (dpM m c) k j) n

set_option maxHeartbeats 1000000 in
theorem after_A (t : Fin cfg0.N) (h : t.val = 0) : After m c 0 (outsAt0 m c t.val t.isLt) := by
  have H := holds m c t
  rw [h] at H
  have hw := V_w m c
  rw [outsAt0_A m c t (by rw [h]) (by rw [h]; decide), w_A, acc_A, dx_A, dg_A]
  constructor
  · exact fun h => absurd h (by decide)
  · exact fun r k hb => H.dx_eq _ hw r k hb
  · exact fun u k => by rw [upto_zero, ← pay9_zero u k]; exact H.dg_eq _ hw _ u k
  · exact fun _ k j => hw k j
  · exact fun _ k j => by rw [upto_zero, ← pay10_zero k j]; exact H.dw_eq _ k j

set_option maxHeartbeats 1000000 in
theorem after_B (t : Fin cfg0.N) (n : ℕ) (h : t.val = n + 1) (hn : n + 1 < 15) (ih : After m c n (outsAt0 m c (t.val - 1) (Nat.lt_of_le_of_lt (Nat.sub_le _ _) t.isLt))) :
    After m c (n + 1) (outsAt0 m c t.val t.isLt) := by
  have H := holds m c t
  rw [h] at H
  have hw := ih.w (by omega)
  rw [outsAt0_B m c t (by omega) (by omega), acc_B, dx_B, dg_B]
  constructor
  · exact fun h => absurd h (by omega)
  · exact fun r k hb => H.dx_eq _ hw r k hb
  · exact fun u k => by rw [upto_succ, ← ih.dg u k]; exact H.dg_eq _ hw _ u k
  · exact fun _ k j => hw k j
  · exact fun _ k j => by rw [upto_succ, ← ih.acc (by omega) k j]; exact H.dw_eq _ k j

set_option maxHeartbeats 1000000 in
theorem after_C (t : Fin cfg0.N) (h : t.val = 14 + 1) (ih : After m c 14 (outsAt0 m c (t.val - 1) (Nat.lt_of_le_of_lt (Nat.sub_le _ _) t.isLt))) :
    After m c (14 + 1) (outsAt0 m c t.val t.isLt) := by
  have H := holds m c t
  rw [h] at H
  have hw := ih.w (by omega)
  rw [outsAt0_C m c t (by omega) (by omega), dw_C, dx_C, dg_C]
  constructor
  · exact fun _ b k q => by rw [upto_succ, ← ih.acc (by omega) k (colOf b q)]; exact H.dw_eq _ k (colOf b q)
  · exact fun r k hb => H.dx_eq _ hw r k hb
  · exact fun u k => by rw [upto_succ, ← ih.dg u k]; exact H.dg_eq _ hw _ u k
  · exact fun h => absurd h (by omega)
  · exact fun h => absurd h (by omega)

/-- What every point leaves behind. -/
theorem after (n : ℕ) : ∀ hn : n < cfg0.N, After m c n (outsAt0 m c n hn) := by
  induction n with
  | zero => exact fun hn => after_A m c ⟨0, hn⟩ rfl
  | succ n ih =>
    intro hn
    have := N16 ⟨n + 1, hn⟩
    by_cases h : n + 1 < 15
    · exact after_B m c ⟨n + 1, hn⟩ n rfl h (ih _)
    · obtain rfl : n = 14 := by simp only at this; omega
      exact after_C m c ⟨14 + 1, hn⟩ rfl (ih _)

/-- The gradient of the weights, cut into four, as one array. -/
def dwOut : Vec Ideal S4x1024x896 .bf16 := fun y => dw (xM m c) (gM m c) (dpM m c) ⟨(y 1).val, (y 1).isLt⟩ (colOf ⟨(y 0).val, (y 0).isLt⟩ ⟨(y 2).val, (y 2).isLt⟩)
/-- The cotangent of the input. -/
def dxOut : Vec Ideal S4096x1024 .f32 := fun y => dx (xM m c) (gM m c) (wM m c) (dhM m c) (dpM m c) ⟨(y 0).val, (y 0).isLt⟩ ⟨(y 1).val, (y 1).isLt⟩
/-- The gradient of the norm's scale. -/
def dgOut : Vec Ideal S1x1024 .f32 := fun y => dg (xM m c) (wM m c) (dpM m c) ⟨(y 1).val, (y 1).isLt⟩

/-- An index of a matrix from its two coordinates. -/
theorem ix2_eta {a b : ℕ} (y : (⟨2, ![a, b]⟩ : Shape).Idx) : y = ix2 ⟨(y 0).val, (y 0).isLt⟩ ⟨(y 1).val, (y 1).isLt⟩ := by
  funext i; match i with | ⟨0, _⟩ => rfl | ⟨1, _⟩ => rfl

/-- An index of a stack of matrices from its three coordinates. -/
theorem ix3_eta {a b d : ℕ} (y : (⟨3, ![a, b, d]⟩ : Shape).Idx) : y = ix3 ⟨(y 0).val, (y 0).isLt⟩ ⟨(y 1).val, (y 1).isLt⟩ ⟨(y 2).val, (y 2).isLt⟩ := by
  funext i; match i with | ⟨0, _⟩ => rfl | ⟨1, _⟩ => rfl | ⟨2, _⟩ => rfl

end Cert.Kernel2Ideal.In

end
-- ==== Proof.In.Final.lean ====
/- The kernel's three result arrays. -/
module

public import proofs.«01_k».proof.Proof.In.Global

@[expose] public section

set_option maxRecDepth 16384

noncomputable section

namespace Cert.Kernel2Ideal.In

open Cert.Kernel2Ideal Cert.Kernel2Ideal.Gen Idealize.ShloMosaic Idealize.ShloMosaic.TcCoe Idealize.SL.Sem
open Cert.Mlp Cert.Norm Cert.In

variable (m : (ℓ : Loc nD τ sig) → Buf (Elt Ideal) ℓ) (c : Dev nD)

theorem xs12 (t : Fin cfg0.N) : win0_12.xsize (grid0.coords t) 0 = 256 ∧ win0_12.xsize (grid0.coords t) 1 = 1024 :=
  (by decide +kernel : ∀ t : Fin grid0.N, win0_12.xsize (grid0.coords t) 0 = 256 ∧ win0_12.xsize (grid0.coords t) 1 = 1024) t

theorem flushed_dx (t : Fin cfg0.N) : (dats m 0 c).flushed 12 t = ((cfg0.win 12).blk t).view.read (Elt Ideal) (dxOut m c) := by
  have A := (after m c t.val t.isLt).dx
  have hi := idx t
  rw [Value.flushed12]
  generalize outsAt0 m c t.val t.isLt = o at A ⊢
  funext j
  rw [View.read_apply]
  have hj0 : (j 0).val < 256 := lt_of_lt_of_eq (j 0).isLt (xs12 t).1
  have hj1 : (j 1).val < 1024 := lt_of_lt_of_eq (j 1).isLt (xs12 t).2
  refine Eq.trans (b := o.2.1 (ix2 ⟨(j 0).val, hj0⟩ ⟨(j 1).val, hj1⟩)) ?_ ((A _ _ (row_lt t _)).trans ?_)
  · exact congrArg o.2.1 (funext fun a => match a with | ⟨0, _⟩ => rfl | ⟨1, _⟩ => rfl)
  · refine congrArg₂ (dx (xM m c) (gM m c) (wM m c) (dhM m c) (dpM m c)) ?_ ?_
    · apply Fin.ext
      show t.val * 256 + (j 0).val = win0_12.index t 0 * 256 + 1 * (j 0).val
      rw [hi.2.2.2.2.2.2.2.2.2.2.2.2.2.2.2.2.2.2.2.2.1]; omega
    · apply Fin.ext
      show (j 1).val = win0_12.index t 1 * 1024 + 1 * (j 1).val
      rw [hi.2.2.2.2.2.2.2.2.2.2.2.2.2.2.2.2.2.2.2.2.2.1]; omega

theorem final_dx : (dats m 0 c).arrAt 12 cfg0.N = dxOut m c :=
  (dats m 0 c).arrAt_eq_of_cover 12 (dxOut m c) (fun t _ => flushed_dx m c t) fun i => by
    have h0 : (i 0 : Nat) < 4096 := (i 0).isLt
    have h1 : (i 1 : Nat) < 1024 := (i 1).isLt
    obtain ⟨t, ht⟩ : ∃ t : Fin cfg0.N, t.val = (i 0 : Nat) / 256 := ⟨⟨(i 0 : Nat) / 256, lt_of_lt_of_eq (by omega : _ < 16) (show cfg0.N = 16 from N_0).symm⟩, rfl⟩
    have hi := idx t
    refine ⟨t, flush0_12 t, ?_⟩
    show i ∈ ((View.whole main_v26_1).slice (win0_12.rect t)).set
    rw [View.set_slice_whole, Rect.mem_set_unit]
    intro a
    match a with
    | ⟨0, _⟩ =>
      show win0_12.index t 0 * 256 ≤ (i 0 : Nat) ∧ (i 0 : Nat) < win0_12.index t 0 * 256 + win0_12.xsize (grid0.coords t) 0
      rw [(xs12 t).1, hi.2.2.2.2.2.2.2.2.2.2.2.2.2.2.2.2.2.2.2.2.1]
      omega
    | ⟨1, _⟩ =>
      show win0_12.index t 1 * 1024 ≤ (i 1 : Nat) ∧ (i 1 : Nat) < win0_12.index t 1 * 1024 + win0_12.xsize (grid0.coords t) 1
      rw [(xs12 t).2, hi.2.2.2.2.2.2.2.2.2.2.2.2.2.2.2.2.2.2.2.2.2.1]
      omega

theorem last (t : Fin cfg0.N) (h : t.val % 16 = 15) : t = t0_15 := by
  have := N16 t
  exact Fin.ext (by show t.val = 15; omega)

theorem flushed_dw (t : Fin cfg0.N) (hf : (cfg0.win 11).flush t = true) :
    (dats m 0 c).flushed 11 t = ((cfg0.win 11).blk t).view.read (Elt Ideal) (dwOut m c) := by
  obtain rfl := last t ((flush0_11 t).mp hf)
  have A : (outsAt0 m c t0_15.val t0_15.isLt).1 = dwOut m c := by
    funext y
    rw [ix3_eta y]
    exact ((after m c 15 t0_15.isLt).dw rfl _ _ _).trans (upto_last _)
  show (cfg0.win 11).cut (grid0.coords t0_15) ((dats m 0 c).after 11 t0_15) = _
  rw [after0_11, A]
  have hz' : (fun a => win0_11.index t0_15 a * main_v26_0.ty.shape.size a) = fun _ => 0 := funext fun a => by fin_cases a <;> decide
  exact (Memref.read_access_unit_zero (Elt Ideal) main_v26_0 hz' (fun a => by rw [congrFun hz' a]; simp) (dwOut m c)).symm

theorem final_dw : (dats m 0 c).arrAt 11 cfg0.N = dwOut m c :=
  (dats m 0 c).arrAt_eq_of_cover 11 (dwOut m c) (flushed_dw m c) fun i => ⟨t0_15, (flush0_11 t0_15).mpr rfl, by
    show i ∈ ((View.whole main_v26_0).slice (win0_11.rect t0_15)).set
    rw [View.set_slice_whole, Rect.mem_set_unit]
    intro a
    match a with
    | ⟨0, _⟩ =>
      have h : (i 0 : Nat) < 4 := (i 0).isLt
      show win0_11.index t0_15 0 * 4 ≤ (i 0 : Nat) ∧ (i 0 : Nat) < win0_11.index t0_15 0 * 4 + win0_11.xsize (grid0.coords t0_15) 0
      rw [show win0_11.index t0_15 0 = 0 from by decide +kernel, show win0_11.xsize (grid0.coords t0_15) 0 = 4 from by decide +kernel]; omega
    | ⟨1, _⟩ =>
      have h : (i 1 : Nat) < 1024 := (i 1).isLt
      show win0_11.index t0_15 1 * 1024 ≤ (i 1 : Nat) ∧ (i 1 : Nat) < win0_11.index t0_15 1 * 1024 + win0_11.xsize (grid0.coords t0_15) 1
      rw [show win0_11.index t0_15 1 = 0 from by decide +kernel, show win0_11.xsize (grid0.coords t0_15) 1 = 1024 from by decide +kernel]; omega
    | ⟨2, _⟩ =>
      have h : (i 2 : Nat) < 896 := (i 2).isLt
      show win0_11.index t0_15 2 * 896 ≤ (i 2 : Nat) ∧ (i 2 : Nat) < win0_11.index t0_15 2 * 896 + win0_11.xsize (grid0.coords t0_15) 2
      rw [show win0_11.index t0_15 2 = 0 from by decide +kernel, show win0_11.xsize (grid0.coords t0_15) 2 = 896 from by decide +kernel]; omega⟩

theorem flushed_dg (t : Fin cfg0.N) (hf : (cfg0.win 13).flush t = true) :
    (dats m 0 c).flushed 13 t = ((cfg0.win 13).blk t).view.read (Elt Ideal) (dgOut m c) := by
  obtain rfl := last t ((flush0_13 t).mp hf)
  have A : (outsAt0 m c t0_15.val t0_15.isLt).2.2.1 = dgOut m c := by
    funext y
    rw [ix2_eta y]
    exact ((after m c 15 t0_15.isLt).dg _ _).trans (upto_last _)
  show (cfg0.win 13).cut (grid0.coords t0_15) ((dats m 0 c).after 13 t0_15) = _
  rw [after0_13, A]
  have hz' : (fun a => win0_13.index t0_15 a * main_v26_2.ty.shape.size a) = fun _ => 0 := funext fun a => by fin_cases a <;> decide
  exact (Memref.read_access_unit_zero (Elt Ideal) main_v26_2 hz' (fun a => by rw [congrFun hz' a]; simp) (dgOut m c)).symm

theorem final_dg : (dats m 0 c).arrAt 13 cfg0.N = dgOut m c :=
  (dats m 0 c).arrAt_eq_of_cover 13 (dgOut m c) (flushed_dg m c) fun i => ⟨t0_15, (flush0_13 t0_15).mpr rfl, by
    show i ∈ ((View.whole main_v26_2).slice (win0_13.rect t0_15)).set
    rw [View.set_slice_whole, Rect.mem_set_unit]
    intro a
    match a with
    | ⟨0, _⟩ =>
      have h : (i 0 : Nat) < 1 := (i 0).isLt
      show win0_13.index t0_15 0 * 1 ≤ (i 0 : Nat) ∧ (i 0 : Nat) < win0_13.index t0_15 0 * 1 + win0_13.xsize (grid0.coords t0_15) 0
      rw [show win0_13.index t0_15 0 = 0 from by decide +kernel, show win0_13.xsize (grid0.coords t0_15) 0 = 1 from by decide +kernel]; omega
    | ⟨1, _⟩ =>
      have h : (i 1 : Nat) < 1024 := (i 1).isLt
      show win0_13.index t0_15 1 * 1024 ≤ (i 1 : Nat) ∧ (i 1 : Nat) < win0_13.index t0_15 1 * 1024 + win0_13.xsize (grid0.coords t0_15) 1
      rw [show win0_13.index t0_15 1 = 0 from by decide +kernel, show win0_13.xsize (grid0.coords t0_15) 1 = 1024 from by decide +kernel]; omega⟩

end Cert.Kernel2Ideal.In

end
-- ==== Proof.In.Ref.lean ====
/- What the reference computes, entry by entry. -/
module

public import proofs.«01_k».proof.Proof.Gen.Reference2Ideal.Read
public import proofs.«01_k».proof.Proof.In.Spec

@[expose] public section

set_option maxRecDepth 16384

noncomputable section

namespace Cert.Reference2Ideal.In

open Cert.Reference2Ideal Cert.Reference2Ideal.Gen Cert.Reference2Ideal.Read Idealize.ShloMosaic Idealize.ShloMosaic.TcCoe Idealize.SL.Sem
open Cert.Mlp Cert.Norm Cert.In

variable (x0 : Vec Ideal S4096x1024 .f32) (x1 : Vec Ideal S1x1024 .f32) (x2 : Vec Ideal S1024x3584 .f32) (x3 : Vec Ideal S4096x1024 .f32) (x4 : Vec Ideal S4096x3584 .f32)

abbrev xF : Fin 4096 → Fin 1024 → EReal := fun t k => x0 (ix2 t k)
abbrev gF : Fin 1024 → EReal := fun k => x1 (ix2 0 k)
abbrev wF : Fin 1024 → Fin 3584 → EReal := fun k j => x2 (ix2 k j)
abbrev dhF : Fin 4096 → Fin 1024 → EReal := fun t k => x3 (ix2 t k)
abbrev dpF : Fin 4096 → Fin 3584 → EReal := fun t j => x4 (ix2 t j)

set_option maxHeartbeats 1000000

theorem dw_apply (b : Fin 4) (k : Fin 1024) (q : Fin 896) (h : b.val * 896 + q.val < 3584) :
    (val_main_v45 (F := Ideal) x0 x1 x4 : Vec Ideal S4x1024x896 .bf16) (ix3 b k q) = dw (xF x0) (gF x1) (dpF x4) k ⟨b.val * 896 + q.val, h⟩ := by
  unfold val_main_v45 val_main_v44 val_main_v43 val_main_v19 val_main_v18 val_main_v16 val_main_v15 val_main_v14 val_main_v13 val_main_v12 val_main_v8 val_main_v7 val_main_v6 val_main_cst_1 val_main_v5 val_main_v4 val_main_cst_0 val_main_v3 val_main_v2 val_main_cst val_main_v1 val_main_v0
  pointwise
  unfold dw
  refine Finset.sum_congr rfl fun t _ => ?_
  rw [rms_host fun i => x0 (ix2 t i)]
  unfold dwTerm
  rw [dif_pos t.isLt, mul_comm]

theorem dg_apply (u : Fin 1) (k : Fin 1024) : (val_main_v42 (F := Ideal) x0 x2 x4 : Vec Ideal S1x1024 .f32) (ix2 u k) = dg (xF x0) (wF x2) (dpF x4) k := by
  unfold val_main_v42 val_main_v26 val_main_cst_4 val_main_v23 val_main_v22 val_main_cst_3 val_main_v21 val_main_v20 val_main_v13 val_main_v12 val_main_v8 val_main_v7 val_main_v6 val_main_cst_1 val_main_v5 val_main_v4 val_main_cst_0 val_main_v3 val_main_v2 val_main_cst val_main_v1
  pointwise
  rw [Fin.sum_univ_one]
  unfold dg
  refine Finset.sum_congr rfl fun t _ => ?_
  rw [rms_host fun i => x0 (ix2 t i)]
  unfold dgTerm
  rw [dif_pos t.isLt, mul_comm]
  rfl

theorem dx_apply (hx : ∀ i, IsReal (x0 i)) (hg : ∀ i, IsReal (x1 i)) (hw : ∀ i, IsReal (x2 i)) (hp : ∀ i, IsReal (x4 i)) (t : Fin 4096) (k : Fin 1024) :
    (val_main_v41 (F := Ideal) x0 x1 x2 x3 x4 : Vec Ideal S4096x1024 .f32) (ix2 t k) = dx (xF x0) (gF x1) (wF x2) (dhF x3) (dpF x4) t k := by
  unfold val_main_v41 val_main_v40 val_main_v39 val_main_v38 val_main_v37 val_main_v36 val_main_cst_7 val_main_v35 val_main_v34 val_main_cst_6 val_main_v33 val_main_v32 val_main_v31 val_main_v30 val_main_v29 val_main_v28 val_main_cst_5 val_main_v27 val_main_v25 val_main_v24 val_main_v20 val_main_v14 val_main_v11 val_main_v10 val_main_cst_2 val_main_v9 val_main_v8 val_main_v7 val_main_v6 val_main_cst_1 val_main_v5 val_main_v4 val_main_cst_0 val_main_v3 val_main_v2 val_main_cst val_main_v1 val_main_v0
  pointwise
  rw [Fin.sum_univ_one, rms_host fun i => x0 (ix2 t i), n1024_eq, neghalf_eq, div_real _ 1024 (by norm_num), div_real _ 1024 (by norm_num)]
  exact (normGrad_eq (N := 1024) (x := xF x0 t) (d := fun i => du (wF x2) (dpF x4) t i * gF x1 i) (by norm_num) (fun _ => hx _)
    (fun _ => (IsReal.sum _ _ fun _ => (hp _).mul (hw _)).mul (hg _)) (x3 (ix2 t k)) k).symm

end Cert.Reference2Ideal.In

end
-- ==== Proof.In.Pre.lean ====
/- The precondition read back: every entry it tests is a real number. -/
module

public import proofs.«01_k».proof.Defs
public import proofs.«01_k».proof.Proof.Gen.Pre_finite2
public import proofs.«01_k».proof.Proof.Mlp.Pre

@[expose] public section

noncomputable section

namespace Cert.In

open Idealize.ShloMosaic Cert.Pre_finite2 Cert.Mlp

theorem real_of_finite2 (a0 : FVec Ideal S4096x1024 .f32) (a1 : FVec Ideal S1x1024 .f32) (a2 : FVec Ideal S1024x3584 .f32) (a3 : FVec Ideal S4096x1024 .f32)
    (a4 : FVec Ideal S4096x3584 .f32) [Facts] (h : fn (F := Ideal) a0 a1 a2 a3 a4 = fun _ => 1#1) :
    (∀ i, IsReal (a0 i)) ∧ (∀ i, IsReal (a1 i)) ∧ (∀ i, IsReal (a2 i)) ∧ ∀ i, IsReal (a4 i) := by
  have h' := congrFun h (fun i => i.elim0)
  unfold fn fn_part1 at h'
  obtain ⟨h', e4⟩ := IntOp.andi_eq_one.mp h'
  obtain ⟨h', e2⟩ := IntOp.andi_eq_one.mp h'
  obtain ⟨e0, e1⟩ := IntOp.andi_eq_one.mp h'
  exact ⟨real_of_all a0 _ _ _ _ e0, real_of_all a1 _ _ _ _ e1, real_of_all a2 _ _ _ _ e2, real_of_all a4 _ _ _ _ e4⟩

end Cert.In

end
-- ==== Proof.Up.Spec.lean ====
/- The gradient of the two mixers' norms, of the output gate, of the output projection and of the second norm, written entry by entry: the forward lines from the
   mixers' outputs to the second norm, and the cotangents sent back through them. -/
module

public import proofs.«01_k».proof.Proof.In.Spec

@[expose] public section

set_option maxRecDepth 16384

noncomputable section

namespace Cert.Up

open Idealize.ShloMosaic Cert.Mlp Cert.Norm

/-- The logistic function. -/
def sig (z : EReal) : EReal := Ideal.div 1 (1 + Ideal.exp (-z))

/-- Column `k`'s head: its 128 columns. -/
def headCol (k : Fin 512) (c : Fin 128) : Fin 512 := ⟨k.val / 128 * 128 + c.val, by omega⟩
/-- Column `k`'s place in its head. -/
def headPlace (k : Fin 512) : Fin 128 := ⟨k.val % 128, by omega⟩
/-- A row's 128 entries in column `k`'s head. -/
def head (x : Fin 512 → EReal) (k : Fin 512) : Fin 128 → EReal := fun c => x (headCol k c)

theorem headCol_place (k : Fin 512) : headCol k (headPlace k) = k := Fin.ext (by show k.val / 128 * 128 + k.val % 128 = k.val; omega)

/-- Columns of the two mixers in the joined row. -/
def left (k : Fin 512) : Fin 1024 := ⟨k.val, by omega⟩
def right (k : Fin 512) : Fin 1024 := ⟨512 + k.val, by omega⟩

/-- A row of the recurrence's output, normalised head by head. -/
def recN (x : Fin 512 → EReal) (k : Fin 512) : EReal := x k * rms 128 (head x k)

/-- The two mixers' rows, normed, the second gated, side by side. -/
def mixedRow (a r z ga gh : Fin 512 → EReal) (j : Fin 1024) : EReal :=
  if h : j.val < 512 then a ⟨j.val, h⟩ * rms 512 a * ga ⟨j.val, h⟩
  else recN r ⟨j.val - 512, by omega⟩ * gh ⟨j.val - 512, by omega⟩ * (z ⟨j.val - 512, by omega⟩ * sig (z ⟨j.val - 512, by omega⟩))

variable (X : Fin 4096 → Fin 1024 → EReal) (A R Z : Fin 4096 → Fin 512 → EReal) (GA GH : Fin 512 → EReal) (WO : Fin 1024 → Fin 1024 → EReal)
  (G : Fin 1024 → EReal) (W : Fin 1024 → Fin 5632 → EReal) (DH : Fin 4096 → Fin 1024 → EReal) (DV : Fin 4096 → Fin 5632 → EReal)

/-- The mixers' rows joined. -/
def mixed (t : Fin 4096) : Fin 1024 → EReal := mixedRow (A t) (R t) (Z t) GA GH

/-- The first residual. -/
def h1 (t : Fin 4096) (k : Fin 1024) : EReal := X t k + ∑ j, mixed A R Z GA GH t j * WO j k

/-- The cotangent of the second norm's scaled output. -/
def du (t : Fin 4096) (k : Fin 1024) : EReal := ∑ j, DV t j * W k j

/-- The cotangent of the first residual. -/
def dh1 (H : Fin 4096 → Fin 1024 → EReal) (t : Fin 4096) (k : Fin 1024) : EReal := DH t k + normGrad 1024 (H t) (fun i => du W DV t i * G i) k

/-- The cotangent of the joined row, for a cotangent `D` of the residual. -/
def dmix (D : Fin 4096 → Fin 1024 → EReal) (t : Fin 4096) (j : Fin 1024) : EReal := ∑ k, D t k * WO j k

/-- The cotangent of the attention's output. -/
def da (M : Fin 4096 → Fin 1024 → EReal) (t : Fin 4096) (k : Fin 512) : EReal := normGrad 512 (A t) (fun i => M t (left i) * GA i) k

/-- The cotangent of the normed, scaled recurrence. -/
def dgated (M : Fin 4096 → Fin 1024 → EReal) (t : Fin 4096) (k : Fin 512) : EReal := M t (right k) * (Z t k * sig (Z t k))

/-- The cotangent of the recurrence's output. -/
def dr (M : Fin 4096 → Fin 1024 → EReal) (t : Fin 4096) (k : Fin 512) : EReal :=
  normGrad 128 (head (R t) k) (head (fun i => dgated Z M t i * GH i) k) (headPlace k)

/-- The cotangent of the gate. -/
def dz (M : Fin 4096 → Fin 1024 → EReal) (t : Fin 4096) (k : Fin 512) : EReal :=
  M t (right k) * recN (R t) k * GH k * (sig (Z t k) * (1 + Z t k * (1 - sig (Z t k))))

/-- Row `n`'s part of the gradients of the three scales and of the output projection, zero beyond the last row. -/
def dgTerm (H : Fin 4096 → Fin 1024 → EReal) (k : Fin 1024) (n : ℕ) : EReal :=
  if h : n < 4096 then du W DV ⟨n, h⟩ k * (H ⟨n, h⟩ k * rms 1024 (H ⟨n, h⟩)) else 0
def dgaTerm (M : Fin 4096 → Fin 1024 → EReal) (k : Fin 512) (n : ℕ) : EReal :=
  if h : n < 4096 then M ⟨n, h⟩ (left k) * (A ⟨n, h⟩ k * rms 512 (A ⟨n, h⟩)) else 0
def dghTerm (M : Fin 4096 → Fin 1024 → EReal) (k : Fin 512) (n : ℕ) : EReal :=
  if h : n < 4096 then dgated Z M ⟨n, h⟩ k * recN (R ⟨n, h⟩) k else 0
def dwTerm (Q D : Fin 4096 → Fin 1024 → EReal) (k j : Fin 1024) (n : ℕ) : EReal := if h : n < 4096 then Q ⟨n, h⟩ k * D ⟨n, h⟩ j else 0

def dg (H : Fin 4096 → Fin 1024 → EReal) (k : Fin 1024) : EReal := ∑ t : Fin 4096, dgTerm W DV H k t.val
def dga (M : Fin 4096 → Fin 1024 → EReal) (k : Fin 512) : EReal := ∑ t : Fin 4096, dgaTerm A M k t.val
def dgh (M : Fin 4096 → Fin 1024 → EReal) (k : Fin 512) : EReal := ∑ t : Fin 4096, dghTerm R Z M k t.val
def dw (Q D : Fin 4096 → Fin 1024 → EReal) (k j : Fin 1024) : EReal := ∑ t : Fin 4096, dwTerm Q D k j t.val

theorem n512_eq : Ideal.ofBits FTy.f32 1140850688#32 = ((512 : ℝ) : EReal) := by
  simp [Ideal.ofBits, Ideal.ieee]
  rw [← EReal.coe_mul]; norm_num [zpow_neg]
theorem inv512_eq : Ideal.ofBits FTy.f32 989855744#32 = (((512 : ℝ)⁻¹ : ℝ) : EReal) := by
  simp [Ideal.ofBits, Ideal.ieee]
  rw [← EReal.coe_mul]; norm_num [zpow_neg]
theorem n128_eq : Ideal.ofBits FTy.f32 1124073472#32 = ((128 : ℝ) : EReal) := by
  simp [Ideal.ofBits, Ideal.ieee]
  rw [← EReal.coe_mul]; norm_num [zpow_neg]
theorem inv128_eq : Ideal.ofBits FTy.f32 1006632960#32 = (((128 : ℝ)⁻¹ : ℝ) : EReal) := by
  simp [Ideal.ofBits, Ideal.ieee]
  rw [← EReal.coe_mul]; norm_num [zpow_neg]
theorem one_eq : Ideal.ofBits FTy.f32 1065353216#32 = 1 := by
  simp [Ideal.ofBits, Ideal.ieee]
  rw [← EReal.coe_mul]; norm_num [zpow_neg]

/-- The inverse root mean squares as the host lines and the kernel spell them. -/
theorem rms_host512 (x : Fin 512 → EReal) :
    Ideal.rsqrt (Ideal.div (∑ i, x i * x i) (Ideal.ofBits FTy.f32 1140850688#32) + Ideal.ofBits FTy.f32 897988541#32) = rms 512 x := by
  rw [n512_eq, div_real _ _ (by norm_num)]
  rfl
theorem rms_host128 (x : Fin 128 → EReal) :
    Ideal.rsqrt (Ideal.div (∑ i, x i * x i) (Ideal.ofBits FTy.f32 1124073472#32) + Ideal.ofBits FTy.f32 897988541#32) = rms 128 x := by
  rw [n128_eq, div_real _ _ (by norm_num)]
  rfl
theorem rms_kernel512 (x : Fin 512 → EReal) :
    Ideal.rsqrt ((∑ i, x i * x i) * Ideal.ofBits FTy.f32 989855744#32 + Ideal.ofBits FTy.f32 897988541#32) = rms 512 x := by
  rw [inv512_eq]
  rfl
theorem rms_kernel128 (x : Fin 128 → EReal) :
    Ideal.rsqrt ((∑ i, x i * x i) * Ideal.ofBits FTy.f32 1006632960#32 + Ideal.ofBits FTy.f32 897988541#32) = rms 128 x := by
  rw [inv128_eq]
  rfl

theorem sig_real {z : EReal} (h : IsReal z) : IsReal (sig z) := by
  obtain ⟨r, rfl⟩ := h
  have h0 : (1 + Real.exp (-r)) ≠ 0 := by positivity
  refine ⟨(1 + Real.exp (-r))⁻¹, ?_⟩
  unfold sig
  rw [← EReal.coe_neg, Ideal.exp_coe, ← EReal.coe_one, ← EReal.coe_add, div_real _ _ h0, ← EReal.coe_mul, one_mul]

/-- The gate's gradient as the chain rule writes it. -/
theorem gate_eq {u z : EReal} (hu : IsReal u) (hz : IsReal z) :
    u * sig z + z * u * (sig z * (1 - sig z)) = u * (sig z * (1 + z * (1 - sig z))) := by
  obtain ⟨s, hs⟩ := sig_real hz
  obtain ⟨a, rfl⟩ := hu
  obtain ⟨b, rfl⟩ := hz
  rw [hs, ← EReal.coe_one]
  simp only [← EReal.coe_mul, ← EReal.coe_sub, ← EReal.coe_add]
  congr 1
  ring

variable {X A R Z GA GH WO G W DH DV}

theorem recN_real {x : Fin 512 → EReal} (h : ∀ i, IsReal (x i)) (k : Fin 512) : IsReal (recN x k) := (h k).mul (rms_real (by norm_num) fun _ => h _)

theorem mixed_real (hA : ∀ t k, IsReal (A t k)) (hR : ∀ t k, IsReal (R t k)) (hZ : ∀ t k, IsReal (Z t k)) (hGA : ∀ k, IsReal (GA k)) (hGH : ∀ k, IsReal (GH k))
    (t : Fin 4096) (j : Fin 1024) : IsReal (mixed A R Z GA GH t j) := by
  unfold mixed mixedRow
  split
  · exact ((hA _ _).mul (rms_real (by norm_num) fun _ => hA _ _)).mul (hGA _)
  · exact ((recN_real (hR t) _).mul (hGH _)).mul ((hZ _ _).mul (sig_real (hZ _ _)))

end Cert.Up

end
-- ==== Proof.Up.Block.lean ====
/- One grid point's results in the terms of the whole problem: if the point's blocks hold rows `256 b …` of the arrays, its results are the same rows of the specification and its sums gain this block's part. -/
module

public import proofs.«01_k».proof.Proof.Gen.Kernel3Ideal.Skeleton
public import Idealize.ShloMosaic.Lib.Pointwise
public import Idealize.ShloMosaic.Lib.Pipeline.Value
public import proofs.«01_k».proof.Proof.Up.Spec

@[expose] public section

set_option maxRecDepth 16384

noncomputable section

namespace Cert.Kernel3Ideal.Up

open Cert.Kernel3Ideal Cert.Kernel3Ideal.Gen Idealize.ShloMosaic Idealize.ShloMosaic.TcCoe Idealize.SL.Sem
open Cert.Mlp Cert.Norm Cert.Up
open Cert.In (rms_kernel)

/-- The two halves of the row of scales. -/
def gainA (x : Vec Ideal S1x1024 .f32) : Vec Ideal S1x512 .f32 := View.ld x (Rect.unit (s := S1x1024) ![0, 0] S1x512.size inb_S1x1024_S1x512_0_0)
def gainH (x : Vec Ideal S1x1024 .f32) : Vec Ideal S1x512 .f32 := View.ld x (Rect.unit (s := S1x1024) ![0, 512] S1x512.size inb_S1x1024_S1x512_0_512)

theorem gainA_at (x : Vec Ideal S1x1024 .f32) (k : Fin 512) : gainA x (ix2 0 k) = x (ix2 0 (left k)) := by
  unfold gainA
  pointwise [View.ld_unit]
  rfl
theorem gainH_at (x : Vec Ideal S1x1024 .f32) (k : Fin 512) : gainH x (ix2 0 k) = x (ix2 0 (right k)) := by
  unfold gainH
  pointwise [View.ld_unit]
  rfl

section
variable (x0 : Vec Ideal S256x5632 .bf16) (w : Vec Ideal S1024x5632 .bf16) (x1 : Vec Ideal S256x1024 .f32) (x2 : Vec Ideal S1x1024 .f32)
  (x3 : Vec Ideal S256x1024 .f32) (x4 : Vec Ideal S1024x1024 .bf16) (x5 : Vec Ideal S256x1024 .bf16) (x6 x7 x8 : Vec Ideal S256x512 .f32) (x9 : Vec Ideal S1x1024 .f32)

/-- The point's cotangent of the first residual. -/
abbrev bDh := k0_pay15 (k0_pay9 x1) (k0_pay10 x1) x3 (k0_pay12 x0 w x2) (k0_pay13 x0 w x1 x2) k0_pay14
/-- The output projection's gradient with the point's part added. -/
abbrev bAcc (acc : Vec Ideal S1024x1024 .f32) := k0_pay17 (k0_pay9 x1) (k0_pay10 x1) x3 (k0_pay12 x0 w x2) (k0_pay13 x0 w x1 x2) k0_pay14 acc x5
/-- The point's cotangent of the joined rows, and its two halves. -/
abbrev bMix := k0_pay18 (k0_pay9 x1) (k0_pay10 x1) x3 (k0_pay12 x0 w x2) (k0_pay13 x0 w x1 x2) k0_pay14 x4
abbrev bAn := k0_pay19 (k0_pay9 x1) (k0_pay10 x1) x3 (k0_pay12 x0 w x2) (k0_pay13 x0 w x1 x2) k0_pay14 x4
abbrev bMr := k0_pay24 (bMix x0 w x1 x2 x3 x4)
/-- The attention scale's gradient with the point's part added, and the cotangent of the attention's output. -/
abbrev bGa (o : Vec Ideal S1x512 .f32) := k0_pay22 (k0_pay9 x1) (k0_pay10 x1) x3 (k0_pay12 x0 w x2) (k0_pay13 x0 w x1 x2) k0_pay14 x4 x6 o
abbrev bDa := k0_pay23 (bAn x0 w x1 x2 x3 x4) (k0_pay20 x6) (k0_pay21 x6) (gainA x9)
/-- The recurrence's inverse root mean squares and its normalised rows. -/
abbrev bRr := k0_pay28 x7 (k0_pay26 x7) (k0_pay27 x7) (Scalar.ofBits (F := Ideal) .f32 0x358637BD#32)
abbrev bRn := k0_pay29 x7 (k0_pay26 x7) (k0_pay27 x7) (Scalar.ofBits (F := Ideal) .f32 0x358637BD#32)
/-- The cotangent of the gate, the recurrence scale's gradient with the point's part added, and the cotangent of the recurrence's output. -/
abbrev bDz := k0_pay31 (bMr x0 w x1 x2 x3 x4) x8 (k0_pay25 (gainH x9)) x7 (k0_pay26 x7) (k0_pay27 x7) (Scalar.ofBits (F := Ideal) .f32 0x358637BD#32)
abbrev bGh (o : Vec Ideal S1x512 .f32) := k0_pay33 (bMr x0 w x1 x2 x3 x4) x8 (bRn x7) (k0_pay30 x8) o
abbrev bDr := k0_pay34 (bMr x0 w x1 x2 x3 x4) x8 (k0_pay25 (gainH x9)) (bRr x7) (bRn x7) (k0_pay30 x8)
end

variable {H Q : Fin 4096 → Fin 1024 → EReal} {A R Z : Fin 4096 → Fin 512 → EReal} {GA GH : Fin 512 → EReal} {WO : Fin 1024 → Fin 1024 → EReal}
  {G : Fin 1024 → EReal} {W : Fin 1024 → Fin 5632 → EReal} {DH : Fin 4096 → Fin 1024 → EReal} {DV : Fin 4096 → Fin 5632 → EReal} {b : ℕ}
  {x0 : Vec Ideal S256x5632 .bf16} {x1 : Vec Ideal S256x1024 .f32} {x2 : Vec Ideal S1x1024 .f32}
  {x3 : Vec Ideal S256x1024 .f32} {x4 : Vec Ideal S1024x1024 .bf16} {x5 : Vec Ideal S256x1024 .bf16} {x6 x7 x8 : Vec Ideal S256x512 .f32} {x9 : Vec Ideal S1x1024 .f32}

/-- The blocks hold rows `256 b …` of the arrays. -/
structure Holds (H Q : Fin 4096 → Fin 1024 → EReal) (A R Z : Fin 4096 → Fin 512 → EReal) (GA GH : Fin 512 → EReal) (WO : Fin 1024 → Fin 1024 → EReal)
    (G : Fin 1024 → EReal) (DH : Fin 4096 → Fin 1024 → EReal) (DV : Fin 4096 → Fin 5632 → EReal) (b : ℕ)
    (x0 : Vec Ideal S256x5632 .bf16) (x1 : Vec Ideal S256x1024 .f32) (x2 : Vec Ideal S1x1024 .f32) (x3 : Vec Ideal S256x1024 .f32)
    (x4 : Vec Ideal S1024x1024 .bf16) (x5 : Vec Ideal S256x1024 .bf16) (x6 x7 x8 : Vec Ideal S256x512 .f32) (x9 : Vec Ideal S1x1024 .f32) : Prop where
  lt : b < 16
  hv : ∀ (r : Fin 256) (j : Fin 5632), x0 (ix2 r j) = DV ⟨b * 256 + r.val, by omega⟩ j
  hh : ∀ (r : Fin 256) (k : Fin 1024), x1 (ix2 r k) = H ⟨b * 256 + r.val, by omega⟩ k
  hg : ∀ k : Fin 1024, x2 (ix2 0 k) = G k
  hdh : ∀ (r : Fin 256) (k : Fin 1024), x3 (ix2 r k) = DH ⟨b * 256 + r.val, by omega⟩ k
  hwo : ∀ j k : Fin 1024, x4 (ix2 j k) = WO j k
  hq : ∀ (r : Fin 256) (k : Fin 1024), x5 (ix2 r k) = Q ⟨b * 256 + r.val, by omega⟩ k
  ha : ∀ (r : Fin 256) (k : Fin 512), x6 (ix2 r k) = A ⟨b * 256 + r.val, by omega⟩ k
  hr : ∀ (r : Fin 256) (k : Fin 512), x7 (ix2 r k) = R ⟨b * 256 + r.val, by omega⟩ k
  hz : ∀ (r : Fin 256) (k : Fin 512), x8 (ix2 r k) = Z ⟨b * 256 + r.val, by omega⟩ k
  hga : ∀ k : Fin 512, x9 (ix2 0 (left k)) = GA k
  hgh : ∀ k : Fin 512, x9 (ix2 0 (right k)) = GH k

/-- Column `k`'s head, found by comparing `k` with the heads' first columns. -/
theorem by_head (f : Fin 512 → EReal) (g : (Fin 128 → EReal) → EReal) (k : Fin 512) :
    (if _ : k.val < 128 then g (fun c => f ⟨c.val, by omega⟩)
      else if _ : k.val - 128 < 128 then g (fun c => f ⟨128 + c.val, by omega⟩)
      else if _ : k.val - 128 - 128 < 128 then g (fun c => f ⟨256 + c.val, by omega⟩)
      else g (fun c => f ⟨384 + c.val, by omega⟩)) = g (head f k) := by
  have e (o : ℕ) (h : ∀ c : Fin 128, o + c.val < 512) (e : k.val / 128 * 128 = o) : g (fun c => f ⟨o + c.val, h c⟩) = g (head f k) :=
    congrArg g (funext fun c => congrArg f (Fin.ext (by show o + c.val = k.val / 128 * 128 + c.val; omega)))
  split
  · exact (congrArg g (funext fun c => congrArg f (Fin.ext (by show c.val = 0 + c.val; omega)))).trans (e 0 (fun c => by omega) (by omega))
  split
  · exact e 128 (fun c => by omega) (by omega)
  split
  · exact e 256 (fun c => by omega) (by omega)
  · exact e 384 (fun c => by omega) (by omega)

section
variable (B : Holds H Q A R Z GA GH WO G DH DV b x0 x1 x2 x3 x4 x5 x6 x7 x8 x9)
include B

theorem Holds.row (r : Fin 256) : b * 256 + r.val < 4096 := by
  have := B.lt
  omega

section
variable (w : Vec Ideal S1024x5632 .bf16) (hw : ∀ k j, w (ix2 k j) = W k j)
include hw

theorem Holds.du_eq (r : Fin 256) (k : Fin 1024) : k0_pay7 x0 w (ix2 r k) = du W DV ⟨b * 256 + r.val, B.row r⟩ k := by
  unfold_payloads
  pointwise
  simp only [B.hv, hw]
  rfl

omit hw in
theorem Holds.n_eq (r : Fin 256) (k : Fin 1024) : k0_pay10 x1 (ix2 r k) = H ⟨b * 256 + r.val, B.row r⟩ k * rms 1024 (H ⟨b * 256 + r.val, B.row r⟩) := by
  unfold_payloads
  pointwise
  simp only [B.hh]
  rw [rms_kernel]

omit hw in
theorem Holds.r_eq (r : Fin 256) (u : Fin 1) : k0_pay9 x1 (ix2 r u) = rms 1024 (H ⟨b * 256 + r.val, B.row r⟩) := by
  unfold_payloads
  pointwise
  simp only [B.hh]
  rw [rms_kernel]

/-- The second norm's scale gradient gains the block's rows. -/
theorem Holds.dg_eq (o : Vec Ideal S1x1024 .f32) (u : Fin 1) (k : Fin 1024) :
    k0_pay11 x0 w x1 o (ix2 u k) = o (ix2 u k) + ∑ r : Fin 256, dgTerm W DV H k (b * 256 + r.val) := by
  have h1 := B.du_eq w hw
  have h2 := B.n_eq
  unfold k0_pay11
  generalize k0_pay7 x0 w = d at h1 ⊢
  generalize k0_pay10 x1 = n at h2 ⊢
  pointwise
  congr 1
  refine Finset.sum_congr rfl fun r _ => ?_
  unfold dgTerm
  rw [dif_pos (B.row r), h1, h2]

/-- The block's rows of the residual's cotangent. -/
theorem Holds.dh_eq (r : Fin 256) (k : Fin 1024) : bDh x0 w x1 x2 x3 (ix2 r k) = dh1 G W DH DV H ⟨b * 256 + r.val, B.row r⟩ k := by
  have h1 := B.du_eq w hw
  have h2 := B.n_eq
  have h3 := B.r_eq
  unfold bDh k0_pay13 k0_pay12
  generalize k0_pay7 x0 w = d at h1 ⊢
  generalize k0_pay10 x1 = n at h2 ⊢
  generalize k0_pay9 x1 = s at h3 ⊢
  unfold_payloads
  pointwise
  simp only [h1, h2, h3, B.hdh, B.hg]
  rw [inv1024_eq]
  rfl

/-- The output projection's gradient gains the block's rows. -/
theorem Holds.dw_eq (acc : Vec Ideal S1024x1024 .f32) (k j : Fin 1024) :
    bAcc x0 w x1 x2 x3 x5 acc (ix2 k j) = acc (ix2 k j) + ∑ r : Fin 256, dwTerm Q (dh1 G W DH DV H) k j (b * 256 + r.val) := by
  have h1 := B.dh_eq w hw
  unfold bDh at h1
  unfold bAcc k0_pay17 k0_pay16
  generalize k0_pay15 (k0_pay9 x1) (k0_pay10 x1) x3 (k0_pay12 x0 w x2) (k0_pay13 x0 w x1 x2) k0_pay14 = d at h1 ⊢
  pointwise
  congr 1
  refine Finset.sum_congr rfl fun r _ => ?_
  unfold dwTerm
  rw [dif_pos (B.row r), h1, B.hq]

/-- The block's rows of the joined rows' cotangent. -/
theorem Holds.mix_eq (r : Fin 256) (j : Fin 1024) : bMix x0 w x1 x2 x3 x4 (ix2 r j) = dmix WO (dh1 G W DH DV H) ⟨b * 256 + r.val, B.row r⟩ j := by
  have h1 := B.dh_eq w hw
  unfold bDh at h1
  unfold bMix k0_pay18 k0_pay16
  generalize k0_pay15 (k0_pay9 x1) (k0_pay10 x1) x3 (k0_pay12 x0 w x2) (k0_pay13 x0 w x1 x2) k0_pay14 = d at h1 ⊢
  pointwise
  simp only [h1, B.hwo]
  rfl

theorem Holds.an_eq (r : Fin 256) (k : Fin 512) : bAn x0 w x1 x2 x3 x4 (ix2 r k) = dmix WO (dh1 G W DH DV H) ⟨b * 256 + r.val, B.row r⟩ (left k) := by
  have h1 := B.mix_eq w hw
  unfold bMix at h1
  unfold bAn k0_pay19
  generalize k0_pay18 (k0_pay9 x1) (k0_pay10 x1) x3 (k0_pay12 x0 w x2) (k0_pay13 x0 w x1 x2) k0_pay14 x4 = d at h1 ⊢
  pointwise
  exact h1 r (left k)

theorem Holds.mr_eq (r : Fin 256) (k : Fin 512) : bMr x0 w x1 x2 x3 x4 (ix2 r k) = dmix WO (dh1 G W DH DV H) ⟨b * 256 + r.val, B.row r⟩ (right k) := by
  have h1 := B.mix_eq w hw
  unfold bMix at h1
  unfold bMr bMix k0_pay24
  generalize k0_pay18 (k0_pay9 x1) (k0_pay10 x1) x3 (k0_pay12 x0 w x2) (k0_pay13 x0 w x1 x2) k0_pay14 x4 = d at h1 ⊢
  pointwise
  exact h1 r (right k)

/-- The attention scale's gradient gains the block's rows. -/
theorem Holds.ga_eq (o : Vec Ideal S1x512 .f32) (u : Fin 1) (k : Fin 512) :
    bGa x0 w x1 x2 x3 x4 x6 o (ix2 u k) = o (ix2 u k) + ∑ r : Fin 256, dgaTerm A (dmix WO (dh1 G W DH DV H)) k (b * 256 + r.val) := by
  have h1 := B.an_eq w hw
  unfold bAn at h1
  unfold bGa k0_pay22
  generalize k0_pay19 (k0_pay9 x1) (k0_pay10 x1) x3 (k0_pay12 x0 w x2) (k0_pay13 x0 w x1 x2) k0_pay14 x4 = d at h1 ⊢
  unfold_payloads
  pointwise
  congr 1
  refine Finset.sum_congr rfl fun r _ => ?_
  unfold dgaTerm
  rw [dif_pos (B.row r), h1]
  simp only [B.ha]
  rw [rms_kernel512]

/-- The block's rows of the attention output's cotangent. -/
theorem Holds.da_eq (r : Fin 256) (k : Fin 512) :
    bDa x0 w x1 x2 x3 x4 x6 x9 (ix2 r k) = da A GA (dmix WO (dh1 G W DH DV H)) ⟨b * 256 + r.val, B.row r⟩ k := by
  have h1 := B.an_eq w hw
  have h2 := fun k => (gainA_at x9 k).trans (B.hga k)
  unfold bDa
  generalize bAn x0 w x1 x2 x3 x4 = d at h1 ⊢
  generalize gainA x9 = g at h2 ⊢
  unfold_payloads
  pointwise
  simp only [h1, h2, B.ha]
  rw [rms_kernel512, inv512_eq]
  rfl

omit hw in
theorem Holds.rr_eq (r : Fin 256) (k : Fin 512) : bRr x7 (ix2 r k) = rms 128 (head (R ⟨b * 256 + r.val, B.row r⟩) k) := by
  unfold bRr
  unfold_payloads
  pointwise
  simp only [B.hr]
  refine (by_head (R ⟨b * 256 + r.val, B.row r⟩) (fun y => Ideal.rsqrt ((∑ i, y i * y i) * Ideal.ofBits FTy.f32 1006632960#32 + Ideal.ofBits FTy.f32 897988541#32)) k).trans ?_
  exact rms_kernel128 _

omit hw in
theorem Holds.rn_eq (r : Fin 256) (k : Fin 512) : bRn x7 (ix2 r k) = recN (R ⟨b * 256 + r.val, B.row r⟩) k := by
  have h1 := B.rr_eq
  unfold bRr at h1
  unfold bRn k0_pay29
  generalize k0_pay28 x7 (k0_pay26 x7) (k0_pay27 x7) (Scalar.ofBits (F := Ideal) .f32 0x358637BD#32) = s at h1 ⊢
  pointwise
  rw [h1, B.hr]
  rfl

omit hw in
theorem Holds.sg_eq (r : Fin 256) (k : Fin 512) : k0_pay30 x8 (ix2 r k) = Cert.Up.sig (Z ⟨b * 256 + r.val, B.row r⟩ k) := by
  unfold_payloads
  pointwise
  rw [B.hz, zero_sub]
  rfl

/-- The block's rows of the gate's cotangent. -/
theorem Holds.dz_eq (r : Fin 256) (k : Fin 512) :
    bDz x0 w x1 x2 x3 x4 x7 x8 x9 (ix2 r k) = dz R Z GH (dmix WO (dh1 G W DH DV H)) ⟨b * 256 + r.val, B.row r⟩ k := by
  have h1 := B.mr_eq w hw
  have h2 := fun k => (gainH_at x9 k).trans (B.hgh k)
  have h3 := B.rn_eq
  have h4 := B.sg_eq
  unfold bRn at h3
  unfold bDz k0_pay31
  generalize bMr x0 w x1 x2 x3 x4 = d at h1 ⊢
  generalize gainH x9 = g at h2 ⊢
  generalize k0_pay29 x7 (k0_pay26 x7) (k0_pay27 x7) (Scalar.ofBits (F := Ideal) .f32 0x358637BD#32) = n at h3 ⊢
  generalize k0_pay30 x8 = s at h4 ⊢
  unfold_payloads
  pointwise
  simp only [h1, h2, h3, h4, B.hz]
  rfl

/-- The recurrence scale's gradient gains the block's rows. -/
theorem Holds.gh_eq (o : Vec Ideal S1x512 .f32) (u : Fin 1) (k : Fin 512) :
    bGh x0 w x1 x2 x3 x4 x7 x8 o (ix2 u k) = o (ix2 u k) + ∑ r : Fin 256, dghTerm R Z (dmix WO (dh1 G W DH DV H)) k (b * 256 + r.val) := by
  have h1 := B.mr_eq w hw
  have h3 := B.rn_eq
  have h4 := B.sg_eq
  unfold bGh
  generalize bMr x0 w x1 x2 x3 x4 = d at h1 ⊢
  generalize bRn x7 = n at h3 ⊢
  generalize k0_pay30 x8 = s at h4 ⊢
  unfold_payloads
  pointwise
  congr 1
  refine Finset.sum_congr rfl fun r _ => ?_
  unfold dghTerm
  rw [dif_pos (B.row r), h1, h3, h4, B.hz]
  rfl

/-- The block's rows of the recurrence output's cotangent. -/
theorem Holds.dr_eq (r : Fin 256) (k : Fin 512) :
    bDr x0 w x1 x2 x3 x4 x7 x8 x9 (ix2 r k) = dr R Z GH (dmix WO (dh1 G W DH DV H)) ⟨b * 256 + r.val, B.row r⟩ k := by
  have h1 := B.mr_eq w hw
  have h2 := fun k => (gainH_at x9 k).trans (B.hgh k)
  have h3 := B.rn_eq
  have h4 := B.sg_eq
  have h5 := B.rr_eq
  unfold bDr
  generalize bMr x0 w x1 x2 x3 x4 = d at h1 ⊢
  generalize gainH x9 = g at h2 ⊢
  generalize bRn x7 = n at h3 ⊢
  generalize k0_pay30 x8 = s at h4 ⊢
  generalize bRr x7 = q at h5 ⊢
  unfold_payloads
  pointwise
  simp only [h1, h2, h3, h4, h5, B.hz]
  set t : Fin 4096 := ⟨b * 256 + r.val, B.row r⟩ with ht
  have e := by_head (fun i => dgated Z (dmix WO (dh1 G W DH DV H)) t i * GH i * recN (R t) i) (fun y => ∑ c, y c) k
  refine (congrArg (fun s => rms 128 (head (R t) k) * (dgated Z (dmix WO (dh1 G W DH DV H)) t k * GH k - recN (R t) k * (s * Ideal.ofBits FTy.f32 1006632960#32))) e).trans ?_
  rw [inv128_eq]
  unfold dr normGrad
  have p : head (R t) k (headPlace k) = R t k := congrArg (R t) (headCol_place k)
  have p' : head (fun i => dgated Z (dmix WO (dh1 G W DH DV H)) t i * GH i) k (headPlace k) = dgated Z (dmix WO (dh1 G W DH DV H)) t k * GH k :=
    congrArg (fun i => dgated Z (dmix WO (dh1 G W DH DV H)) t i * GH i) (headCol_place k)
  have hc (c : Fin 128) : head (R t) (headCol k c) = head (R t) k := by
    funext i
    exact congrArg (R t) (Fin.ext (by show (k.val / 128 * 128 + c.val) / 128 * 128 + i.val = k.val / 128 * 128 + i.val; omega))
  rw [p, p']
  unfold recN
  refine congrArg (fun s => rms 128 (head (R t) k) * (dgated Z (dmix WO (dh1 G W DH DV H)) t k * GH k - R t k * rms 128 (head (R t) k) * (s * (((128 : ℝ)⁻¹ : ℝ) : EReal)))) ?_
  refine Finset.sum_congr rfl fun c _ => ?_
  show dgated Z (dmix WO (dh1 G W DH DV H)) t (headCol k c) * GH (headCol k c) * (R t (headCol k c) * rms 128 (head (R t) (headCol k c))) = _
  rw [hc]
  rfl
end
end

theorem cast_at (a : Vec Ideal S1024x1024 .f32) (r k : Fin 1024) : k0_pay1 a (ix2 r k) = a (ix2 r k) := by
  unfold_payloads
  pointwise

theorem pay2_zero (u : Fin 1) (k : Fin 1024) : k0_pay2 (F := Ideal) (ix2 u k) = 0 := by
  unfold_payloads
  pointwise
theorem pay3_zero (u : Fin 1) (k : Fin 512) : k0_pay3 (F := Ideal) (ix2 u k) = 0 := by
  unfold_payloads
  pointwise
theorem pay4_zero (u : Fin 1) (k : Fin 512) : k0_pay4 (F := Ideal) (ix2 u k) = 0 := by
  unfold_payloads
  pointwise
theorem pay5_zero (k j : Fin 1024) : k0_pay5 (F := Ideal) (ix2 k j) = 0 := by
  unfold_payloads
  pointwise

end Cert.Kernel3Ideal.Up

end
-- ==== Proof.Up.Terms.lean ====
/- The four column blocks of the up projection: side by side in the scratch, one on top of the other in memory. -/
module

public import proofs.«01_k».proof.Proof.Gen.Kernel3Ideal.Value
public import Idealize.ShloMosaic.Lib.Pointwise
public import Idealize.ShloMosaic.Lib.Pipeline.Value
public import Idealize.ShloMosaic.Lib.Pipeline.ValueKit
public import Idealize.ShloMosaic.Lib.Pipeline.CanonAppend
public import Idealize.ShloMosaic.Lib.Pipeline.ReadBack
public import Idealize.ShloMosaic.Lib.Writes
public import Idealize.ShloMosaic.Lib.ValueLayout
public import proofs.«01_k».proof.Proof.Up.Block

@[expose] public section

set_option maxRecDepth 16384

noncomputable section

namespace Cert.Kernel3Ideal.Up

open Cert.Kernel3Ideal Cert.Kernel3Ideal.Gen Idealize.ShloMosaic Idealize.ShloMosaic.TcCoe Idealize.SL.Sem

/-- Column `q` lies in block `q / 1408`, at place `q % 1408`. -/
def blockOf (q : Fin 5632) : Fin 4 := ⟨q.val / 1408, by omega⟩
def placeOf (q : Fin 5632) : Fin 1408 := ⟨q.val % 1408, by omega⟩

/-- The four column blocks of the up projection, side by side. -/
def sideBySide (w : Vec Ideal S4x1024x1408 .bf16) : Vec Ideal S1024x5632 .bf16 :=
  fun y => w (ix3 (blockOf (y 1)) (y 0) (placeOf (y 1)))

/-- A block of columns `o …` of the scratch, at its row `r` and column `q`. -/
theorem emb_col (o : ℕ) (inb : ∀ a, (![0, o] : Fin 2 → ℕ) a + (![1024, 1408] : Fin 2 → ℕ) a ≤ S1024x5632.size a) (r : Fin 1024) (q : Fin 1408)
    (h : o + q.val < 5632) : (Rect.unit (s := S1024x5632) ![0, o] ![1024, 1408] inb).emb (ix2 r q) = ix2 r ⟨o + q.val, h⟩ := by
  funext a
  apply Fin.ext
  match a with
  | ⟨0, _⟩ => show 0 + 1 * r.val = r.val; omega
  | ⟨1, _⟩ => show o + 1 * q.val = o + q.val; omega

/-- Side by side, column `q` of block `k`. -/
theorem side_at (w : Vec Ideal S4x1024x1408 .bf16) (k : Fin 4) (o : ℕ) (ho : o = k.val * 1408) (r : Fin 1024) (q : Fin 1408) (h : o + q.val < 5632) :
    sideBySide w (ix2 r ⟨o + q.val, h⟩) = w (ix3 k r q) := by
  show w (ix3 (blockOf ⟨o + q.val, h⟩) r (placeOf ⟨o + q.val, h⟩)) = _
  have e1 : blockOf ⟨o + q.val, h⟩ = k := Fin.ext (by show (o + q.val) / 1408 = k.val; omega)
  have e2 : placeOf ⟨o + q.val, h⟩ = q := Fin.ext (by show (o + q.val) % 1408 = q.val; omega)
  rw [e1, e2]

/-- A column from `o` on is one of the block there. -/
theorem exists_col (o : ℕ) (c : Fin 5632) (h1 : o ≤ c.val) (h2 : c.val < o + 1408) : ∃ (q : Fin 1408) (h : o + q.val < 5632), c = ⟨o + q.val, h⟩ := by
  obtain ⟨c, hc⟩ := c
  obtain ⟨q, rfl⟩ := Nat.exists_eq_add_of_le h1
  exact ⟨⟨q, Nat.lt_of_add_lt_add_left h2⟩, hc, rfl⟩

/-- The last write, at one of its columns. -/
theorem canon_here (o : ℕ) (inb) (p : S1024x1408.Idx → Elt Ideal .bf16) (L : List (View.Piece (Elt Ideal) S1024x5632 .bf16)) (r : Fin 1024) (q : Fin 1408)
    (h : o + q.val < 5632) :
    View.canon (⟨Rect.unit (s := S1024x5632) ![0, o] ![1024, 1408] inb, p⟩ :: L) (ix2 r ⟨o + q.val, h⟩) = p (ix2 r q) := by
  rw [← emb_col o inb r q h]
  exact View.canon_cons_emb (Rect.unit (s := S1024x5632) ![0, o] ![1024, 1408] inb) p L (ix2 r q)

/-- A write to later columns does not reach an earlier one. -/
theorem skip_col (o n m : ℕ) (inb) (v : (Rect.unit (s := S1024x5632) ![0, o] ![n, m] inb).shape.Idx → Elt Ideal .bf16)
    (L : List (View.Piece (Elt Ideal) S1024x5632 .bf16)) (r : Fin 1024) (c : Fin 5632) (hc : c.val < o) :
    View.canon (⟨Rect.unit (s := S1024x5632) ![0, o] ![n, m] inb, v⟩ :: L) (ix2 r c) = View.canon L (ix2 r c) :=
  View.canon_cons_of_not_mem (⟨Rect.unit (s := S1024x5632) ![0, o] ![n, m] inb, v⟩ : View.Piece (Elt Ideal) S1024x5632 .bf16) L
    (Rect.not_mem_set_of_axis (Rect.unit (s := S1024x5632) ![0, o] ![n, m] inb) (ix2 r c) (⟨1, Nat.one_lt_two⟩ : Fin 2) o m rfl rfl rfl (Or.inl hc))

/-- Four blocks of columns written side by side, a few words of the last one written before it: the four blocks. -/
theorem canon_side (w : Vec Ideal S4x1024x1408 .bf16) (z : S8x128.Idx → Elt Ideal .bf16) (p0 p1 p2 p3 : S1024x1408.Idx → Elt Ideal .bf16)
    (h0 : ∀ (r : Fin 1024) (q : Fin 1408), p0 (ix2 r q) = w (ix3 (0 : Fin 4) r q)) (h1 : ∀ (r : Fin 1024) (q : Fin 1408), p1 (ix2 r q) = w (ix3 (1 : Fin 4) r q))
    (h2 : ∀ (r : Fin 1024) (q : Fin 1408), p2 (ix2 r q) = w (ix3 (2 : Fin 4) r q)) (h3 : ∀ (r : Fin 1024) (q : Fin 1408), p3 (ix2 r q) = w (ix3 (3 : Fin 4) r q))
    (i0 i1 i2 i3 iz) :
    View.canon (Val := Elt Ideal) (s := S1024x5632) (e := .bf16)
      [⟨Rect.unit ![0, 4224] ![1024, 1408] i3, p3⟩, ⟨Rect.unit ![0, 5504] ![8, 128] iz, z⟩,
       ⟨Rect.unit ![0, 2816] ![1024, 1408] i2, p2⟩, ⟨Rect.unit ![0, 1408] ![1024, 1408] i1, p1⟩,
       ⟨Rect.unit ![0, 0] ![1024, 1408] i0, p0⟩] = sideBySide w := by
  have key (r : Fin 1024) (c : Fin 5632) : View.canon (Val := Elt Ideal) (s := S1024x5632) (e := .bf16)
      [⟨Rect.unit ![0, 4224] ![1024, 1408] i3, p3⟩, ⟨Rect.unit ![0, 5504] ![8, 128] iz, z⟩,
       ⟨Rect.unit ![0, 2816] ![1024, 1408] i2, p2⟩, ⟨Rect.unit ![0, 1408] ![1024, 1408] i1, p1⟩,
       ⟨Rect.unit ![0, 0] ![1024, 1408] i0, p0⟩] (ix2 r c) = sideBySide w (ix2 r c) := by
    by_cases g3 : 4224 ≤ c.val
    · obtain ⟨q, h, rfl⟩ : ∃ (q : Fin 1408) (h : 4224 + q.val < 5632), c = ⟨4224 + q.val, h⟩ := exists_col 4224 c (by omega) (by omega)
      refine (canon_here 4224 i3 p3 _ r q h).trans ?_
      rw [h3 r q, side_at w 3 4224 (by decide) r q h]
    refine (skip_col 4224 1024 1408 i3 p3 _ r c (by omega)).trans ?_
    refine (skip_col 5504 8 128 iz z _ r c (by omega)).trans ?_
    by_cases g2 : 2816 ≤ c.val
    · obtain ⟨q, h, rfl⟩ : ∃ (q : Fin 1408) (h : 2816 + q.val < 5632), c = ⟨2816 + q.val, h⟩ := exists_col 2816 c (by omega) (by omega)
      refine (canon_here 2816 i2 p2 _ r q h).trans ?_
      rw [h2 r q, side_at w 2 2816 (by decide) r q h]
    refine (skip_col 2816 1024 1408 i2 p2 _ r c (by omega)).trans ?_
    by_cases g1 : 1408 ≤ c.val
    · obtain ⟨q, h, rfl⟩ : ∃ (q : Fin 1408) (h : 1408 + q.val < 5632), c = ⟨1408 + q.val, h⟩ := exists_col 1408 c (by omega) (by omega)
      refine (canon_here 1408 i1 p1 _ r q h).trans ?_
      rw [h1 r q, side_at w 1 1408 (by decide) r q h]
    refine (skip_col 1408 1024 1408 i1 p1 _ r c (by omega)).trans ?_
    obtain ⟨q, h, rfl⟩ : ∃ (q : Fin 1408) (h : 0 + q.val < 5632), c = ⟨0 + q.val, h⟩ := exists_col 0 c (by omega) (by omega)
    refine (canon_here 0 i0 p0 _ r q h).trans ?_
    rw [h0 r q, side_at w 0 0 (by decide) r q h]
  funext y
  exact (congrArg _ (eq_ix2 y)).trans ((key (y 0) (y 1)).trans (congrArg _ (eq_ix2 y).symm))

/-- The scratch read whole after the four copies. -/
theorem read_side (v : View sig .tc .vmem S1024x5632 .bf16) (w : Vec Ideal S4x1024x1408 .bf16) (z : S8x128.Idx → Elt Ideal .bf16)
    (p0 p1 p2 p3 : S1024x1408.Idx → Elt Ideal .bf16)
    (h0 : ∀ (r : Fin 1024) (q : Fin 1408), p0 (ix2 r q) = w (ix3 (0 : Fin 4) r q)) (h1 : ∀ (r : Fin 1024) (q : Fin 1408), p1 (ix2 r q) = w (ix3 (1 : Fin 4) r q))
    (h2 : ∀ (r : Fin 1024) (q : Fin 1408), p2 (ix2 r q) = w (ix3 (2 : Fin 4) r q)) (h3 : ∀ (r : Fin 1024) (q : Fin 1408), p3 (ix2 r q) = w (ix3 (3 : Fin 4) r q))
    (i0 i1 i2 i3 iz inb)
    (hcov : ∀ y, ∃ p ∈ ([⟨Rect.unit ![0, 4224] ![1024, 1408] i3, p3⟩, ⟨Rect.unit ![0, 5504] ![8, 128] iz, z⟩,
       ⟨Rect.unit ![0, 2816] ![1024, 1408] i2, p2⟩, ⟨Rect.unit ![0, 1408] ![1024, 1408] i1, p1⟩,
       ⟨Rect.unit ![0, 0] ![1024, 1408] i0, p0⟩] : List (View.Piece (Elt Ideal) S1024x5632 .bf16)), y ∈ p.1.set) :
    v.readCov (Val := Elt Ideal)
      [⟨Rect.unit ![0, 4224] ![1024, 1408] i3, p3⟩, ⟨Rect.unit ![0, 5504] ![8, 128] iz, z⟩,
       ⟨Rect.unit ![0, 2816] ![1024, 1408] i2, p2⟩, ⟨Rect.unit ![0, 1408] ![1024, 1408] i1, p1⟩,
       ⟨Rect.unit ![0, 0] ![1024, 1408] i0, p0⟩] (Rect.unit ![0, 0] ![1024, 5632] inb).toLoadRect = sideBySide w := by
  rw [View.readCov_eq_canon_ld _ _ _ hcov, canon_side w z p0 p1 p2 p3 h0 h1 h2 h3 i0 i1 i2 i3 iz]
  exact View.ld_unit_lit' (S := S1024x5632) inb _ (by decide)

/-- Block `k` of the weights in memory, as a copy reads it. -/
theorem slab (c : Dev nD) (k : Fin 4) (w : HbBuf0 (F := Ideal) c hbM0_0) (inb) (hs) (r : Fin 1024) (q : Fin 1408) :
    (ReadAs.same.apply (View.read (Elt Ideal) (((View.whole main_v2).slice (Rect.unit ![k.val, 0, 0] ![1, 1024, 1408] inb)).reshape S1024x1408 hs) w)
      : S1024x1408.Idx → Elt Ideal .bf16) (ix2 r q) = (w : Vec Ideal S4x1024x1408 .bf16) (ix3 k r q) := by
  show (w : Vec Ideal S4x1024x1408 .bf16) ((Rect.unit (s := S4x1024x1408) ![k.val, 0, 0] ![1, 1024, 1408] inb).emb (Shape.reshapeEquiv hs (ix2 r q))) = _
  have e := ValueIdx.reshapeEquiv_ix2_1ab hs r q
  refine congrArg (w : Vec Ideal S4x1024x1408 .bf16) ((congrArg _ e).trans ?_)
  funext a
  apply Fin.ext
  match a with
  | ⟨0, _⟩ => show k.val + 1 * 0 = k.val; omega
  | ⟨1, _⟩ => show 0 + 1 * r.val = r.val; omega
  | ⟨2, _⟩ => show 0 + 1 * q.val = q.val; omega

end Cert.Kernel3Ideal.Up

end
-- ==== Proof.Up.CaseA.lean ====
/- The first grid point of the residual and up projection's backward kernel, read back. -/
module

public import proofs.«01_k».proof.Proof.Up.Terms

@[expose] public section

set_option maxRecDepth 16384

noncomputable section

namespace Cert.Kernel3Ideal.Up

open Cert.Kernel3Ideal Cert.Kernel3Ideal.Gen Idealize.ShloMosaic Idealize.ShloMosaic.TcCoe Idealize.SL.Sem

variable (c : Dev nD) (i : grid0.Coords) (arg1 : Memref sig .tc .vmem S256x5632 .bf16) (harg1 : arg1.IsWhole) (arg3 : Memref sig .tc .vmem S256x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S1024x1024 .bf16) (harg6 : arg6.IsWhole) (arg7 : Memref sig .tc .vmem S256x1024 .bf16) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S1x1024 .f32) (harg11 : arg11.IsWhole) (arg12 : Memref sig .tc .vmem S256x1024 .f32) (harg12 : arg12.IsWhole) (arg13 : Memref sig .tc .vmem S1x1024 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .bf16) (harg16 : arg16.IsWhole) (arg17 : Memref sig .tc .vmem S1x512 .f32) (harg17 : arg17.IsWhole) (arg18 : Memref sig .tc .vmem S1x512 .f32) (harg18 : arg18.IsWhole) (arg19 : Memref sig .tc .vmem S1024x1024 .bf16) (harg19 : arg19.IsWhole) (arg20 : Memref sig .tc .vmem S1024x5632 .bf16) (harg20 : arg20.IsWhole) (arg22 : Memref sig .tc .vmem S1024x1024 .f32) (harg22 : arg22.IsWhole) (hc0 : cond0_0 i) (hc1 : ¬cond0_1 i) (x0 : Vec Ideal S256x5632 .bf16) (x1 : Vec Ideal S256x1024 .f32) (x2 : Vec Ideal S1x1024 .f32) (x3 : Vec Ideal S256x1024 .f32) (x4 : Vec Ideal S1024x1024 .bf16) (x5 : Vec Ideal S256x1024 .bf16) (x6 : Vec Ideal S256x512 .f32) (x7 : Vec Ideal S256x512 .f32) (x8 : Vec Ideal S256x512 .f32) (x9 : Vec Ideal S1x1024 .f32) (fh0 : HbBuf0 (F := Ideal) c hbM0_0)

set_option maxHeartbeats 4000000 in
/-- The scratch holds the weights after the first point. -/
theorem w_A :
    sout0_A_0 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 fh0 = sideBySide fh0 := by
  unfold sout0_A_0
  rw [View.read_writes_eq_canon _ _ _ (scover0_A_0 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 fh0)]
  exact canon_side fh0 _ _ _ _ _ (slab c 0 fh0 _ _) (slab c 1 fh0 _ _) (slab c 2 fh0 _ _) (slab c 3 fh0 _ _) _ _ _ _ _

set_option maxHeartbeats 4000000 in
/-- The residual's cotangent after the first point. -/
theorem dh_A :
    out0_A_10 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 fh0 = bDh x0 (sideBySide fh0) x1 x2 x3 := by
  unfold out0_A_10
  rw [View.read_writes_eq_canon _ _ _ (cover0_A_10 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 fh0)]
  unfold kernelRun0_A
  dsimp only
  sl_unfold_words
  simp (disch := decide) only [View.canon_cons_unit_lit', View.readCov_cons_unit_lit', View.readCov_unit_lit', View.readAt_eq_ld, View.ld_unit_lit', harg1.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg22.read_unread]
  exact congrArg (fun s => bDh x0 s x1 x2 x3) (read_side arg20.view fh0 (k0_pay6 (F := Ideal)) _ _ _ _ (slab c 0 fh0 _ _) (slab c 1 fh0 _ _) (slab c 2 fh0 _ _) (slab c 3 fh0 _ _) _ _ _ _ _ _ (scover0_A_0 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 fh0))

set_option maxHeartbeats 4000000 in
/-- The second norm's scale gradient after the first point. -/
theorem dg_A :
    out0_A_11 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 fh0 = k0_pay11 x0 (sideBySide fh0) x1 (k0_pay2 (F := Ideal)) := by
  unfold out0_A_11
  rw [View.read_writes_eq_canon _ _ _ (cover0_A_11 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 fh0)]
  unfold kernelRun0_A
  dsimp only
  sl_unfold_words
  simp (disch := decide) only [View.canon_cons_unit_lit', View.readCov_cons_unit_lit', View.readCov_unit_lit', View.readAt_eq_ld, View.ld_unit_lit', harg1.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg22.read_unread]
  exact congrArg (fun s => k0_pay11 x0 s x1 (k0_pay2 (F := Ideal))) (read_side arg20.view fh0 (k0_pay6 (F := Ideal)) _ _ _ _ (slab c 0 fh0 _ _) (slab c 1 fh0 _ _) (slab c 2 fh0 _ _) (slab c 3 fh0 _ _) _ _ _ _ _ _ (scover0_A_0 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 fh0))

set_option maxHeartbeats 4000000 in
/-- The attention output's cotangent after the first point. -/
theorem da_A :
    out0_A_12 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 fh0 = bDa x0 (sideBySide fh0) x1 x2 x3 x4 x6 x9 := by
  unfold out0_A_12
  rw [View.read_writes_eq_canon _ _ _ (cover0_A_12 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 fh0)]
  unfold kernelRun0_A
  dsimp only
  sl_unfold_words
  simp (disch := decide) only [View.canon_cons_unit_lit', View.readCov_cons_unit_lit', View.readCov_unit_lit', View.readAt_eq_ld, View.ld_unit_lit', harg1.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg22.read_unread]
  exact congrArg (fun s => bDa x0 s x1 x2 x3 x4 x6 x9) (read_side arg20.view fh0 (k0_pay6 (F := Ideal)) _ _ _ _ (slab c 0 fh0 _ _) (slab c 1 fh0 _ _) (slab c 2 fh0 _ _) (slab c 3 fh0 _ _) _ _ _ _ _ _ (scover0_A_0 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 fh0))

set_option maxHeartbeats 4000000 in
/-- The recurrence output's cotangent after the first point. -/
theorem dr_A :
    out0_A_13 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 fh0 = bDr x0 (sideBySide fh0) x1 x2 x3 x4 x7 x8 x9 := by
  unfold out0_A_13
  rw [View.read_writes_eq_canon _ _ _ (cover0_A_13 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 fh0)]
  unfold kernelRun0_A
  dsimp only
  sl_unfold_words
  simp (disch := decide) only [View.canon_cons_unit_lit', View.readCov_cons_unit_lit', View.readCov_unit_lit', View.readAt_eq_ld, View.ld_unit_lit', harg1.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg22.read_unread]
  exact congrArg (fun s => bDr x0 s x1 x2 x3 x4 x7 x8 x9) (read_side arg20.view fh0 (k0_pay6 (F := Ideal)) _ _ _ _ (slab c 0 fh0 _ _) (slab c 1 fh0 _ _) (slab c 2 fh0 _ _) (slab c 3 fh0 _ _) _ _ _ _ _ _ (scover0_A_0 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 fh0))

set_option maxHeartbeats 4000000 in
/-- The gate's cotangent after the first point. -/
theorem dz_A :
    out0_A_14 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 fh0 = bDz x0 (sideBySide fh0) x1 x2 x3 x4 x7 x8 x9 := by
  unfold out0_A_14
  rw [View.read_writes_eq_canon _ _ _ (cover0_A_14 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 fh0)]
  unfold kernelRun0_A
  dsimp only
  sl_unfold_words
  simp (disch := decide) only [View.canon_cons_unit_lit', View.readCov_cons_unit_lit', View.readCov_unit_lit', View.readAt_eq_ld, View.ld_unit_lit', harg1.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg22.read_unread]
  exact congrArg (fun s => bDz x0 s x1 x2 x3 x4 x7 x8 x9) (read_side arg20.view fh0 (k0_pay6 (F := Ideal)) _ _ _ _ (slab c 0 fh0 _ _) (slab c 1 fh0 _ _) (slab c 2 fh0 _ _) (slab c 3 fh0 _ _) _ _ _ _ _ _ (scover0_A_0 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 fh0))

set_option maxHeartbeats 4000000 in
/-- The attention scale's gradient after the first point. -/
theorem ga_A :
    out0_A_15 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 fh0 = bGa x0 (sideBySide fh0) x1 x2 x3 x4 x6 (k0_pay3 (F := Ideal)) := by
  unfold out0_A_15
  rw [View.read_writes_eq_canon _ _ _ (cover0_A_15 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 fh0)]
  unfold kernelRun0_A
  dsimp only
  sl_unfold_words
  simp (disch := decide) only [View.canon_cons_unit_lit', View.readCov_cons_unit_lit', View.readCov_unit_lit', View.readAt_eq_ld, View.ld_unit_lit', harg1.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg22.read_unread]
  exact congrArg (fun s => bGa x0 s x1 x2 x3 x4 x6 (k0_pay3 (F := Ideal))) (read_side arg20.view fh0 (k0_pay6 (F := Ideal)) _ _ _ _ (slab c 0 fh0 _ _) (slab c 1 fh0 _ _) (slab c 2 fh0 _ _) (slab c 3 fh0 _ _) _ _ _ _ _ _ (scover0_A_0 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 fh0))

set_option maxHeartbeats 4000000 in
/-- The recurrence scale's gradient after the first point. -/
theorem gh_A :
    out0_A_16 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 fh0 = bGh x0 (sideBySide fh0) x1 x2 x3 x4 x7 x8 (k0_pay4 (F := Ideal)) := by
  unfold out0_A_16
  rw [View.read_writes_eq_canon _ _ _ (cover0_A_16 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 fh0)]
  unfold kernelRun0_A
  dsimp only
  sl_unfold_words
  simp (disch := decide) only [View.canon_cons_unit_lit', View.readCov_cons_unit_lit', View.readCov_unit_lit', View.readAt_eq_ld, View.ld_unit_lit', harg1.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg22.read_unread]
  exact congrArg (fun s => bGh x0 s x1 x2 x3 x4 x7 x8 (k0_pay4 (F := Ideal))) (read_side arg20.view fh0 (k0_pay6 (F := Ideal)) _ _ _ _ (slab c 0 fh0 _ _) (slab c 1 fh0 _ _) (slab c 2 fh0 _ _) (slab c 3 fh0 _ _) _ _ _ _ _ _ (scover0_A_0 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 fh0))

set_option maxHeartbeats 4000000 in
/-- The output projection's running gradient after the first point. -/
theorem acc_A :
    sout0_A_1 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 fh0 = bAcc x0 (sideBySide fh0) x1 x2 x3 x5 (k0_pay5 (F := Ideal)) := by
  unfold sout0_A_1
  rw [View.read_writes_eq_canon _ _ _ (scover0_A_1 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 fh0)]
  unfold kernelRun0_A
  dsimp only
  sl_unfold_words
  simp (disch := decide) only [View.canon_cons_unit_lit', View.readCov_cons_unit_lit', View.readCov_unit_lit', View.readAt_eq_ld, View.ld_unit_lit', harg1.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg22.read_unread]
  exact congrArg (fun s => bAcc x0 s x1 x2 x3 x5 (k0_pay5 (F := Ideal))) (read_side arg20.view fh0 (k0_pay6 (F := Ideal)) _ _ _ _ (slab c 0 fh0 _ _) (slab c 1 fh0 _ _) (slab c 2 fh0 _ _) (slab c 3 fh0 _ _) _ _ _ _ _ _ (scover0_A_0 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 fh0))

end Cert.Kernel3Ideal.Up

end
-- ==== Proof.Up.CaseB.lean ====
/- A middle grid point of the residual and up projection's backward kernel, read back. -/
module

public import proofs.«01_k».proof.Proof.Up.Terms

@[expose] public section

set_option maxRecDepth 16384

noncomputable section

namespace Cert.Kernel3Ideal.Up

open Cert.Kernel3Ideal Cert.Kernel3Ideal.Gen Idealize.ShloMosaic Idealize.ShloMosaic.TcCoe Idealize.SL.Sem

variable (c : Dev nD) (i : grid0.Coords) (arg1 : Memref sig .tc .vmem S256x5632 .bf16) (harg1 : arg1.IsWhole) (arg3 : Memref sig .tc .vmem S256x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S1024x1024 .bf16) (harg6 : arg6.IsWhole) (arg7 : Memref sig .tc .vmem S256x1024 .bf16) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S1x1024 .f32) (harg11 : arg11.IsWhole) (arg12 : Memref sig .tc .vmem S256x1024 .f32) (harg12 : arg12.IsWhole) (arg13 : Memref sig .tc .vmem S1x1024 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .bf16) (harg16 : arg16.IsWhole) (arg17 : Memref sig .tc .vmem S1x512 .f32) (harg17 : arg17.IsWhole) (arg18 : Memref sig .tc .vmem S1x512 .f32) (harg18 : arg18.IsWhole) (arg19 : Memref sig .tc .vmem S1024x1024 .bf16) (harg19 : arg19.IsWhole) (arg20 : Memref sig .tc .vmem S1024x5632 .bf16) (harg20 : arg20.IsWhole) (arg22 : Memref sig .tc .vmem S1024x1024 .f32) (harg22 : arg22.IsWhole) (hc0 : ¬cond0_0 i) (hc1 : ¬cond0_1 i) (x0 : Vec Ideal S256x5632 .bf16) (x1 : Vec Ideal S256x1024 .f32) (x2 : Vec Ideal S1x1024 .f32) (x3 : Vec Ideal S256x1024 .f32) (x4 : Vec Ideal S1024x1024 .bf16) (x5 : Vec Ideal S256x1024 .bf16) (x6 : Vec Ideal S256x512 .f32) (x7 : Vec Ideal S256x512 .f32) (x8 : Vec Ideal S256x512 .f32) (x9 : Vec Ideal S1x1024 .f32) (xo11 : Vec Ideal S1x1024 .f32) (xo15 : Vec Ideal S1x512 .f32) (xo16 : Vec Ideal S1x512 .f32) (xs0 : Vec Ideal S1024x5632 .bf16) (xs1 : Vec Ideal S1024x1024 .f32) (fh0 : HbBuf0 (F := Ideal) c hbM0_0)

set_option maxHeartbeats 4000000 in
/-- The residual's cotangent after a middle point. -/
theorem dh_B :
    out0_B_10 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 xo11 xo15 xo16 xs0 xs1 fh0 = bDh x0 xs0 x1 x2 x3 := by
  unfold out0_B_10
  rw [View.read_writes_eq_canon _ _ _ (cover0_B_10 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 xo11 xo15 xo16 xs0 xs1 fh0)]
  unfold kernelRun0_B
  dsimp only
  sl_unfold_words
  simp (disch := decide) only [View.canon_cons_unit_lit', View.readCov_cons_unit_lit', View.readCov_unit_lit', View.readAt_eq_ld, View.ld_unit_lit', harg1.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg22.read_unread]

set_option maxHeartbeats 4000000 in
/-- The second norm's scale gradient after a middle point. -/
theorem dg_B :
    out0_B_11 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 xo11 xo15 xo16 xs0 xs1 fh0 = k0_pay11 x0 xs0 x1 xo11 := by
  unfold out0_B_11
  rw [View.read_writes_eq_canon _ _ _ (cover0_B_11 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 xo11 xo15 xo16 xs0 xs1 fh0)]
  unfold kernelRun0_B
  dsimp only
  sl_unfold_words
  simp (disch := decide) only [View.canon_cons_unit_lit', View.readCov_cons_unit_lit', View.readCov_unit_lit', View.readAt_eq_ld, View.ld_unit_lit', harg1.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg22.read_unread]

set_option maxHeartbeats 4000000 in
/-- The attention output's cotangent after a middle point. -/
theorem da_B :
    out0_B_12 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 xo11 xo15 xo16 xs0 xs1 fh0 = bDa x0 xs0 x1 x2 x3 x4 x6 x9 := by
  unfold out0_B_12
  rw [View.read_writes_eq_canon _ _ _ (cover0_B_12 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 xo11 xo15 xo16 xs0 xs1 fh0)]
  unfold kernelRun0_B
  dsimp only
  sl_unfold_words
  simp (disch := decide) only [View.canon_cons_unit_lit', View.readCov_cons_unit_lit', View.readCov_unit_lit', View.readAt_eq_ld, View.ld_unit_lit', harg1.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg22.read_unread]
  rfl

set_option maxHeartbeats 4000000 in
/-- The recurrence output's cotangent after a middle point. -/
theorem dr_B :
    out0_B_13 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 xo11 xo15 xo16 xs0 xs1 fh0 = bDr x0 xs0 x1 x2 x3 x4 x7 x8 x9 := by
  unfold out0_B_13
  rw [View.read_writes_eq_canon _ _ _ (cover0_B_13 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 xo11 xo15 xo16 xs0 xs1 fh0)]
  unfold kernelRun0_B
  dsimp only
  sl_unfold_words
  simp (disch := decide) only [View.canon_cons_unit_lit', View.readCov_cons_unit_lit', View.readCov_unit_lit', View.readAt_eq_ld, View.ld_unit_lit', harg1.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg22.read_unread]
  rfl

set_option maxHeartbeats 4000000 in
/-- The gate's cotangent after a middle point. -/
theorem dz_B :
    out0_B_14 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 xo11 xo15 xo16 xs0 xs1 fh0 = bDz x0 xs0 x1 x2 x3 x4 x7 x8 x9 := by
  unfold out0_B_14
  rw [View.read_writes_eq_canon _ _ _ (cover0_B_14 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 xo11 xo15 xo16 xs0 xs1 fh0)]
  unfold kernelRun0_B
  dsimp only
  sl_unfold_words
  simp (disch := decide) only [View.canon_cons_unit_lit', View.readCov_cons_unit_lit', View.readCov_unit_lit', View.readAt_eq_ld, View.ld_unit_lit', harg1.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg22.read_unread]
  rfl

set_option maxHeartbeats 4000000 in
/-- The attention scale's gradient after a middle point. -/
theorem ga_B :
    out0_B_15 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 xo11 xo15 xo16 xs0 xs1 fh0 = bGa x0 xs0 x1 x2 x3 x4 x6 xo15 := by
  unfold out0_B_15
  rw [View.read_writes_eq_canon _ _ _ (cover0_B_15 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 xo11 xo15 xo16 xs0 xs1 fh0)]
  unfold kernelRun0_B
  dsimp only
  sl_unfold_words
  simp (disch := decide) only [View.canon_cons_unit_lit', View.readCov_cons_unit_lit', View.readCov_unit_lit', View.readAt_eq_ld, View.ld_unit_lit', harg1.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg22.read_unread]

set_option maxHeartbeats 4000000 in
/-- The recurrence scale's gradient after a middle point. -/
theorem gh_B :
    out0_B_16 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 xo11 xo15 xo16 xs0 xs1 fh0 = bGh x0 xs0 x1 x2 x3 x4 x7 x8 xo16 := by
  unfold out0_B_16
  rw [View.read_writes_eq_canon _ _ _ (cover0_B_16 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 xo11 xo15 xo16 xs0 xs1 fh0)]
  unfold kernelRun0_B
  dsimp only
  sl_unfold_words
  simp (disch := decide) only [View.canon_cons_unit_lit', View.readCov_cons_unit_lit', View.readCov_unit_lit', View.readAt_eq_ld, View.ld_unit_lit', harg1.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg22.read_unread]

set_option maxHeartbeats 4000000 in
/-- The output projection's running gradient after a middle point. -/
theorem acc_B :
    sout0_B_1 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 xo11 xo15 xo16 xs0 xs1 fh0 = bAcc x0 xs0 x1 x2 x3 x5 xs1 := by
  unfold sout0_B_1
  rw [View.read_writes_eq_canon _ _ _ (scover0_B_1 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 xo11 xo15 xo16 xs0 xs1 fh0)]
  unfold kernelRun0_B
  dsimp only
  sl_unfold_words
  simp (disch := decide) only [View.canon_cons_unit_lit', View.readCov_cons_unit_lit', View.readCov_unit_lit', View.readAt_eq_ld, View.ld_unit_lit', harg1.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg22.read_unread]

end Cert.Kernel3Ideal.Up

end
-- ==== Proof.Up.CaseC.lean ====
/- The last grid point of the residual and up projection's backward kernel, read back. -/
module

public import proofs.«01_k».proof.Proof.Up.Terms

@[expose] public section

set_option maxRecDepth 16384

noncomputable section

namespace Cert.Kernel3Ideal.Up

open Cert.Kernel3Ideal Cert.Kernel3Ideal.Gen Idealize.ShloMosaic Idealize.ShloMosaic.TcCoe Idealize.SL.Sem

variable (c : Dev nD) (i : grid0.Coords) (arg1 : Memref sig .tc .vmem S256x5632 .bf16) (harg1 : arg1.IsWhole) (arg3 : Memref sig .tc .vmem S256x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S1024x1024 .bf16) (harg6 : arg6.IsWhole) (arg7 : Memref sig .tc .vmem S256x1024 .bf16) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S1x1024 .f32) (harg11 : arg11.IsWhole) (arg12 : Memref sig .tc .vmem S256x1024 .f32) (harg12 : arg12.IsWhole) (arg13 : Memref sig .tc .vmem S1x1024 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .bf16) (harg16 : arg16.IsWhole) (arg17 : Memref sig .tc .vmem S1x512 .f32) (harg17 : arg17.IsWhole) (arg18 : Memref sig .tc .vmem S1x512 .f32) (harg18 : arg18.IsWhole) (arg19 : Memref sig .tc .vmem S1024x1024 .bf16) (harg19 : arg19.IsWhole) (arg20 : Memref sig .tc .vmem S1024x5632 .bf16) (harg20 : arg20.IsWhole) (arg22 : Memref sig .tc .vmem S1024x1024 .f32) (harg22 : arg22.IsWhole) (hc0 : ¬cond0_0 i) (hc1 : cond0_1 i) (x0 : Vec Ideal S256x5632 .bf16) (x1 : Vec Ideal S256x1024 .f32) (x2 : Vec Ideal S1x1024 .f32) (x3 : Vec Ideal S256x1024 .f32) (x4 : Vec Ideal S1024x1024 .bf16) (x5 : Vec Ideal S256x1024 .bf16) (x6 : Vec Ideal S256x512 .f32) (x7 : Vec Ideal S256x512 .f32) (x8 : Vec Ideal S256x512 .f32) (x9 : Vec Ideal S1x1024 .f32) (xo11 : Vec Ideal S1x1024 .f32) (xo15 : Vec Ideal S1x512 .f32) (xo16 : Vec Ideal S1x512 .f32) (xs0 : Vec Ideal S1024x5632 .bf16) (xs1 : Vec Ideal S1024x1024 .f32) (fh0 : HbBuf0 (F := Ideal) c hbM0_0)

set_option maxHeartbeats 4000000 in
/-- The residual's cotangent after the last point. -/
theorem dh_C :
    out0_C_10 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 xo11 xo15 xo16 xs0 xs1 fh0 = bDh x0 xs0 x1 x2 x3 := by
  unfold out0_C_10
  rw [View.read_writes_eq_canon _ _ _ (cover0_C_10 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 xo11 xo15 xo16 xs0 xs1 fh0)]
  unfold kernelRun0_C
  dsimp only
  sl_unfold_words
  simp (disch := decide) only [View.canon_cons_unit_lit', View.readCov_cons_unit_lit', View.readCov_unit_lit', View.readAt_eq_ld, View.ld_unit_lit', harg1.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg22.read_unread]

set_option maxHeartbeats 4000000 in
/-- The second norm's scale gradient after the last point. -/
theorem dg_C :
    out0_C_11 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 xo11 xo15 xo16 xs0 xs1 fh0 = k0_pay11 x0 xs0 x1 xo11 := by
  unfold out0_C_11
  rw [View.read_writes_eq_canon _ _ _ (cover0_C_11 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 xo11 xo15 xo16 xs0 xs1 fh0)]
  unfold kernelRun0_C
  dsimp only
  sl_unfold_words
  simp (disch := decide) only [View.canon_cons_unit_lit', View.readCov_cons_unit_lit', View.readCov_unit_lit', View.readAt_eq_ld, View.ld_unit_lit', harg1.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg22.read_unread]

set_option maxHeartbeats 4000000 in
/-- The attention output's cotangent after the last point. -/
theorem da_C :
    out0_C_12 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 xo11 xo15 xo16 xs0 xs1 fh0 = bDa x0 xs0 x1 x2 x3 x4 x6 x9 := by
  unfold out0_C_12
  rw [View.read_writes_eq_canon _ _ _ (cover0_C_12 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 xo11 xo15 xo16 xs0 xs1 fh0)]
  unfold kernelRun0_C
  dsimp only
  sl_unfold_words
  simp (disch := decide) only [View.canon_cons_unit_lit', View.readCov_cons_unit_lit', View.readCov_unit_lit', View.readAt_eq_ld, View.ld_unit_lit', harg1.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg22.read_unread]
  rfl

set_option maxHeartbeats 4000000 in
/-- The recurrence output's cotangent after the last point. -/
theorem dr_C :
    out0_C_13 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 xo11 xo15 xo16 xs0 xs1 fh0 = bDr x0 xs0 x1 x2 x3 x4 x7 x8 x9 := by
  unfold out0_C_13
  rw [View.read_writes_eq_canon _ _ _ (cover0_C_13 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 xo11 xo15 xo16 xs0 xs1 fh0)]
  unfold kernelRun0_C
  dsimp only
  sl_unfold_words
  simp (disch := decide) only [View.canon_cons_unit_lit', View.readCov_cons_unit_lit', View.readCov_unit_lit', View.readAt_eq_ld, View.ld_unit_lit', harg1.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg22.read_unread]
  rfl

set_option maxHeartbeats 4000000 in
/-- The gate's cotangent after the last point. -/
theorem dz_C :
    out0_C_14 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 xo11 xo15 xo16 xs0 xs1 fh0 = bDz x0 xs0 x1 x2 x3 x4 x7 x8 x9 := by
  unfold out0_C_14
  rw [View.read_writes_eq_canon _ _ _ (cover0_C_14 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 xo11 xo15 xo16 xs0 xs1 fh0)]
  unfold kernelRun0_C
  dsimp only
  sl_unfold_words
  simp (disch := decide) only [View.canon_cons_unit_lit', View.readCov_cons_unit_lit', View.readCov_unit_lit', View.readAt_eq_ld, View.ld_unit_lit', harg1.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg22.read_unread]
  rfl

set_option maxHeartbeats 4000000 in
/-- The attention scale's gradient after the last point. -/
theorem ga_C :
    out0_C_15 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 xo11 xo15 xo16 xs0 xs1 fh0 = bGa x0 xs0 x1 x2 x3 x4 x6 xo15 := by
  unfold out0_C_15
  rw [View.read_writes_eq_canon _ _ _ (cover0_C_15 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 xo11 xo15 xo16 xs0 xs1 fh0)]
  unfold kernelRun0_C
  dsimp only
  sl_unfold_words
  simp (disch := decide) only [View.canon_cons_unit_lit', View.readCov_cons_unit_lit', View.readCov_unit_lit', View.readAt_eq_ld, View.ld_unit_lit', harg1.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg22.read_unread]

set_option maxHeartbeats 4000000 in
/-- The recurrence scale's gradient after the last point. -/
theorem gh_C :
    out0_C_16 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 xo11 xo15 xo16 xs0 xs1 fh0 = bGh x0 xs0 x1 x2 x3 x4 x7 x8 xo16 := by
  unfold out0_C_16
  rw [View.read_writes_eq_canon _ _ _ (cover0_C_16 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 xo11 xo15 xo16 xs0 xs1 fh0)]
  unfold kernelRun0_C
  dsimp only
  sl_unfold_words
  simp (disch := decide) only [View.canon_cons_unit_lit', View.readCov_cons_unit_lit', View.readCov_unit_lit', View.readAt_eq_ld, View.ld_unit_lit', harg1.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg22.read_unread]

set_option maxHeartbeats 4000000 in
/-- The output projection's running gradient after the last point. -/
theorem acc_C :
    sout0_C_1 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 xo11 xo15 xo16 xs0 xs1 fh0 = bAcc x0 xs0 x1 x2 x3 x5 xs1 := by
  unfold sout0_C_1
  rw [View.read_writes_eq_canon _ _ _ (scover0_C_1 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 xo11 xo15 xo16 xs0 xs1 fh0)]
  unfold kernelRun0_C
  dsimp only
  sl_unfold_words
  simp (disch := decide) only [View.canon_cons_unit_lit', View.readCov_cons_unit_lit', View.readCov_unit_lit', View.readAt_eq_ld, View.ld_unit_lit', harg1.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg22.read_unread]

set_option maxHeartbeats 4000000 in
/-- The output projection's gradient after the last point. -/
theorem dw_C :
    out0_C_17 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 xo11 xo15 xo16 xs0 xs1 fh0 = k0_pay1 (F := Ideal) (bAcc x0 xs0 x1 x2 x3 x5 xs1) := by
  unfold out0_C_17
  rw [View.read_writes_eq_canon _ _ _ (cover0_C_17 c i arg1 harg1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg22 harg22 hc0 hc1 x0 x1 x2 x3 x4 x5 x6 x7 x8 x9 xo11 xo15 xo16 xs0 xs1 fh0)]
  unfold kernelRun0_C
  dsimp only
  sl_unfold_words
  simp (disch := decide) only [View.canon_cons_unit_lit', View.readCov_cons_unit_lit', View.readCov_unit_lit', View.readAt_eq_ld, View.ld_unit_lit', harg1.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg22.read_unread]

end Cert.Kernel3Ideal.Up

end
-- ==== Proof.Up.Halves.lean ====
/- The joined row, half by half. -/
module

public import proofs.«01_k».proof.Proof.Up.Spec

@[expose] public section

noncomputable section

namespace Cert.Up

open Idealize.ShloMosaic Cert.Mlp Cert.Norm

/-- A sum over the joined columns, half by half. -/
theorem sum_halves (f : Fin 1024 → EReal) : ∑ j, f j = ∑ k, f (left k) + ∑ k, f (right k) := by
  have h (n : Fin 1024) : f n = (fun i : ℕ => if h : i < 1024 then f ⟨i, h⟩ else 0) n.val := by
    show _ = dite _ _ _
    rw [dif_pos n.isLt]
  have h1 (k : Fin 512) : f (left k) = (fun i : ℕ => if h : i < 1024 then f ⟨i, h⟩ else 0) k.val := h (left k)
  have h2 (k : Fin 512) : f (right k) = (fun i : ℕ => if h : i < 1024 then f ⟨i, h⟩ else 0) (512 + k.val) := h (right k)
  generalize (fun i : ℕ => if h : i < 1024 then f ⟨i, h⟩ else 0) = F at h h1 h2
  rw [Finset.sum_congr rfl fun n _ => h n, Finset.sum_congr rfl fun k _ => h1 k, Finset.sum_congr rfl fun k _ => h2 k,
    Fin.sum_univ_eq_sum_range F 1024, Fin.sum_univ_eq_sum_range F 512, Fin.sum_univ_eq_sum_range (fun i => F (512 + i)) 512]
  exact Finset.sum_range_add F 512 512

theorem mixedRow_left (a r z ga gh : Fin 512 → EReal) (k : Fin 512) : mixedRow a r z ga gh (left k) = a k * rms 512 a * ga k := by
  have : (left k).val < 512 := k.isLt
  exact dif_pos this

theorem mixedRow_right (a r z ga gh : Fin 512 → EReal) (k : Fin 512) :
    mixedRow a r z ga gh (right k) = recN r k * gh k * (z k * sig (z k)) := by
  have : ¬ (right k).val < 512 := by show ¬ (512 + k.val < 512); omega
  unfold mixedRow
  rw [dif_neg this]
  have e : (⟨(right k).val - 512, by show 512 + k.val - 512 < 512; omega⟩ : Fin 512) = k := Fin.ext (by show 512 + k.val - 512 = k.val; omega)
  rw [e]

end Cert.Up

end
-- ==== Proof.Up.Host.lean ====
/- What the host lines before the kernel leave in its operands: the joined, normed rows, the residual, the two mixers' scales in one row, and the weights cut into four. -/
module

public import proofs.«01_k».proof.Proof.Gen.Kernel3Ideal.Value
public import proofs.«01_k».proof.Proof.Up.Terms
public import proofs.«01_k».proof.Proof.Up.Halves

@[expose] public section

set_option maxRecDepth 16384

noncomputable section

namespace Cert.Kernel3Ideal.Up

open Cert.Kernel3Ideal Cert.Kernel3Ideal.Gen Idealize.ShloMosaic Idealize.ShloMosaic.TcCoe Idealize.SL.Sem
open Cert.Mlp Cert.Norm Cert.Up
open Cert.In (upto upto_zero upto_succ upto_last)

variable (m : (ℓ : Loc nD τ sig) → Buf (Elt Ideal) ℓ) (c : Dev nD)

/-- The arguments, as functions of row and column. -/
abbrev xM : Fin 4096 → Fin 1024 → EReal := fun t k => (m ((c : Thread nD τ).loc main_arg0) : Vec Ideal S4096x1024 .f32) (ix2 t k)
abbrev aM : Fin 4096 → Fin 512 → EReal := fun t k => (m ((c : Thread nD τ).loc main_arg1) : Vec Ideal S4096x512 .f32) (ix2 t k)
abbrev rM : Fin 4096 → Fin 512 → EReal := fun t k => (m ((c : Thread nD τ).loc main_arg2) : Vec Ideal S4096x512 .f32) (ix2 t k)
abbrev zM : Fin 4096 → Fin 512 → EReal := fun t k => (m ((c : Thread nD τ).loc main_arg3) : Vec Ideal S4096x2048 .f32) (ix2 t ⟨1536 + k.val, by omega⟩)
abbrev gaM : Fin 512 → EReal := fun k => (m ((c : Thread nD τ).loc main_arg4) : Vec Ideal S1x512 .f32) (ix2 0 k)
abbrev ghM : Fin 512 → EReal := fun k => (m ((c : Thread nD τ).loc main_arg5) : Vec Ideal S1x512 .f32) (ix2 0 k)
abbrev woM : Fin 1024 → Fin 1024 → EReal := fun j k => (m ((c : Thread nD τ).loc main_arg6) : Vec Ideal S1024x1024 .f32) (ix2 j k)
abbrev gM : Fin 1024 → EReal := fun k => (m ((c : Thread nD τ).loc main_arg7) : Vec Ideal S1x1024 .f32) (ix2 0 k)
abbrev wM : Fin 1024 → Fin 5632 → EReal := fun k j => (m ((c : Thread nD τ).loc main_arg8) : Vec Ideal S1024x5632 .f32) (ix2 k j)
abbrev dhM : Fin 4096 → Fin 1024 → EReal := fun t k => (m ((c : Thread nD τ).loc main_arg9) : Vec Ideal S4096x1024 .f32) (ix2 t k)
abbrev dvM : Fin 4096 → Fin 5632 → EReal := fun t j => (m ((c : Thread nD τ).loc main_arg10) : Vec Ideal S4096x5632 .f32) (ix2 t j)
/-- The joined rows, the residual, and the cotangents of the residual and of the joined rows. -/
abbrev qM := mixed (aM m c) (rM m c) (zM m c) (gaM m c) (ghM m c)
abbrev hM := h1 (xM m c) (aM m c) (rM m c) (zM m c) (gaM m c) (ghM m c) (woM m c)
abbrev dM := dh1 (gM m c) (wM m c) (dhM m c) (dvM m c) (hM m c)
abbrev dmM := dmix (woM m c) (dM m c)

set_option maxHeartbeats 1000000

/-- The four blocks of the weights side by side are the weights. -/
theorem V_w (k : Fin 1024) (j : Fin 5632) : sideBySide (V m c main_v2 : Vec Ideal S4x1024x1408 .bf16) (ix2 k j) = wM m c k j := by
  show (V m c main_v2 : Vec Ideal S4x1024x1408 .bf16) (ix3 (blockOf j) k (placeOf j)) = _
  unfold V
  simp only [hostOps0, hostOps0_1, hostOps0_2, List.flatten_cons, List.flatten_nil, List.append_nil, List.cons_append, List.nil_append,
    StableHlo.TRef.nullary, StableHlo.TRef.unary, StableHlo.TRef.binary, StableHlo.TRef.toBuf, StableHlo.TRef.ofBuf, cast_eq]
  after_results
  pointwise
  show m (c, Proc.tc.devRef main_arg8) _ = m (c, Proc.tc.devRef main_arg8) _
  exact congrArg _ (congrArg _ (Fin.ext (by show j.val / 1408 * 1408 + j.val % 1408 = j.val; omega)))

theorem V_dv (t : Fin 4096) (j : Fin 5632) : (V m c main_v41 : Vec Ideal S4096x5632 .bf16) (ix2 t j) = dvM m c t j := by
  unfold V
  simp only [hostOps0, hostOps0_1, hostOps0_2, List.flatten_cons, List.flatten_nil, List.append_nil, List.cons_append, List.nil_append,
    StableHlo.TRef.nullary, StableHlo.TRef.unary, StableHlo.TRef.binary, StableHlo.TRef.toBuf, StableHlo.TRef.ofBuf, cast_eq]
  after_results
  pointwise

theorem V_wo (j k : Fin 1024) : (V m c main_v42 : Vec Ideal S1024x1024 .bf16) (ix2 j k) = woM m c j k := by
  unfold V
  simp only [hostOps0, hostOps0_1, hostOps0_2, List.flatten_cons, List.flatten_nil, List.append_nil, List.cons_append, List.nil_append,
    StableHlo.TRef.nullary, StableHlo.TRef.unary, StableHlo.TRef.binary, StableHlo.TRef.toBuf, StableHlo.TRef.ofBuf, cast_eq]
  after_results
  pointwise

theorem V_ga (k : Fin 512) : (V m c main_v44 : Vec Ideal S1x1024 .f32) (ix2 0 (left k)) = gaM m c k := by
  unfold V
  simp only [hostOps0, hostOps0_1, hostOps0_2, List.flatten_cons, List.flatten_nil, List.append_nil, List.cons_append, List.nil_append,
    StableHlo.TRef.nullary, StableHlo.TRef.unary, StableHlo.TRef.binary, StableHlo.TRef.toBuf, StableHlo.TRef.ofBuf, cast_eq]
  after_results
  pointwise
  have : (left k).val < 512 := k.isLt
  rw [dif_pos this]
  rfl

theorem V_gh (k : Fin 512) : (V m c main_v44 : Vec Ideal S1x1024 .f32) (ix2 0 (right k)) = ghM m c k := by
  unfold V
  simp only [hostOps0, hostOps0_1, hostOps0_2, List.flatten_cons, List.flatten_nil, List.append_nil, List.cons_append, List.nil_append,
    StableHlo.TRef.nullary, StableHlo.TRef.unary, StableHlo.TRef.binary, StableHlo.TRef.toBuf, StableHlo.TRef.ofBuf, cast_eq]
  after_results
  pointwise
  have : ¬ (right k).val < 512 := by show ¬ (512 + k.val < 512); omega
  rw [dif_neg this]
  exact congrArg (ghM m c) (Fin.ext (by show 512 + k.val - 512 = k.val; omega))

theorem V_q (t : Fin 4096) (k : Fin 1024) : (V m c main_v43 : Vec Ideal S4096x1024 .bf16) (ix2 t k) = qM m c t k := by
  unfold V
  simp only [hostOps0, hostOps0_1, hostOps0_2, List.flatten_cons, List.flatten_nil, List.append_nil, List.cons_append, List.nil_append,
    StableHlo.TRef.nullary, StableHlo.TRef.unary, StableHlo.TRef.binary, StableHlo.TRef.toBuf, StableHlo.TRef.ofBuf, cast_eq]
  after_results
  pointwise
  show _ = mixedRow (aM m c t) (rM m c t) (zM m c t) (gaM m c) (ghM m c) k
  unfold mixedRow
  split
  · exact congrArg (fun s => aM m c t _ * s * gaM m c _) (rms_host512 (aM m c t))
  · next h =>
    exact congrArg (fun s => rM m c t ⟨k.val - 512, by omega⟩ * s * ghM m c ⟨k.val - 512, by omega⟩ *
        (zM m c t ⟨k.val - 512, by omega⟩ * Cert.Up.sig (zM m c t ⟨k.val - 512, by omega⟩)))
      (rms_host128 (Cert.Up.head (rM m c t) ⟨k.val - 512, by omega⟩))

theorem V_h (t : Fin 4096) (k : Fin 1024) : (V m c main_v40 : Vec Ideal S4096x1024 .f32) (ix2 t k) = hM m c t k := by
  unfold V
  simp only [hostOps0, hostOps0_1, hostOps0_2, List.flatten_cons, List.flatten_nil, List.append_nil, List.cons_append, List.nil_append,
    StableHlo.TRef.nullary, StableHlo.TRef.unary, StableHlo.TRef.binary, StableHlo.TRef.toBuf, StableHlo.TRef.ofBuf, cast_eq]
  after_results
  pointwise
  refine congrArg (fun s => xM m c t k + s) (Eq.trans ?_ (sum_halves fun j => qM m c t j * woM m c j k).symm)
  refine congrArg₂ (fun a b => a + b) (Finset.sum_congr rfl fun j _ => ?_) (Finset.sum_congr rfl fun j _ => ?_)
  · refine congrArg₂ (fun a b => a * b) ?_ ?_
    · refine Eq.trans ?_ (mixedRow_left (aM m c t) (rM m c t) (zM m c t) (gaM m c) (ghM m c) j).symm
      exact congrArg (fun s => aM m c t j * s * gaM m c j) (rms_host512 (aM m c t))
    · rfl
  · refine congrArg₂ (fun a b => a * b) ?_ ?_
    · refine Eq.trans ?_ (mixedRow_right (aM m c t) (rM m c t) (zM m c t) (gaM m c) (ghM m c) j).symm
      exact congrArg (fun s => rM m c t j * s * ghM m c j * (zM m c t j * Cert.Up.sig (zM m c t j))) (rms_host128 (Cert.Up.head (rM m c t) j))
    · rfl

end Cert.Kernel3Ideal.Up

end
-- ==== Proof.Up.Global.lean ====
/- The kernel's results point by point: point `t` takes row block `t`, so the sums run over the rows in their order. -/
module

public import proofs.«01_k».proof.Proof.Up.CaseA
public import proofs.«01_k».proof.Proof.Up.CaseB
public import proofs.«01_k».proof.Proof.Up.CaseC
public import proofs.«01_k».proof.Proof.Up.Block
public import proofs.«01_k».proof.Proof.Up.Host

@[expose] public section

set_option maxRecDepth 16384

noncomputable section

namespace Cert.Kernel3Ideal.Up

open Cert.Kernel3Ideal Cert.Kernel3Ideal.Gen Idealize.ShloMosaic Idealize.ShloMosaic.TcCoe Idealize.SL.Sem
open Cert.Mlp Cert.Norm Cert.Up
open Cert.In (upto upto_zero upto_succ upto_last)

variable (m : (ℓ : Loc nD τ sig) → Buf (Elt Ideal) ℓ) (c : Dev nD)

/-- The row block a point takes. -/
theorem idx (t : Fin cfg0.N) : win0_0.index t 0 = t.val ∧ win0_0.index t 1 = 0 ∧ win0_1.index t 0 = t.val ∧ win0_1.index t 1 = 0 ∧ win0_3.index t 0 = t.val ∧ win0_3.index t 1 = 0 ∧ win0_5.index t 0 = t.val ∧ win0_5.index t 1 = 0 ∧ win0_6.index t 0 = t.val ∧ win0_6.index t 1 = 0 ∧ win0_7.index t 0 = t.val ∧ win0_7.index t 1 = 0 ∧ win0_10.index t 0 = t.val ∧ win0_10.index t 1 = 0 ∧ win0_12.index t 0 = t.val ∧ win0_12.index t 1 = 0 ∧ win0_13.index t 0 = t.val ∧ win0_13.index t 1 = 0 ∧ win0_14.index t 0 = t.val ∧ win0_14.index t 1 = 0 ∧ win0_8.index t 0 = t.val ∧ win0_8.index t 1 = 3 ∧ win0_2.index t 0 = 0 ∧ win0_2.index t 1 = 0 ∧ win0_4.index t 0 = 0 ∧ win0_4.index t 1 = 0 ∧ win0_9.index t 0 = 0 ∧ win0_9.index t 1 = 0 :=
  (by decide +kernel : ∀ t : Fin grid0.N, win0_0.index t 0 = t.val ∧ win0_0.index t 1 = 0 ∧ win0_1.index t 0 = t.val ∧ win0_1.index t 1 = 0 ∧ win0_3.index t 0 = t.val ∧ win0_3.index t 1 = 0 ∧ win0_5.index t 0 = t.val ∧ win0_5.index t 1 = 0 ∧ win0_6.index t 0 = t.val ∧ win0_6.index t 1 = 0 ∧ win0_7.index t 0 = t.val ∧ win0_7.index t 1 = 0 ∧ win0_10.index t 0 = t.val ∧ win0_10.index t 1 = 0 ∧ win0_12.index t 0 = t.val ∧ win0_12.index t 1 = 0 ∧ win0_13.index t 0 = t.val ∧ win0_13.index t 1 = 0 ∧ win0_14.index t 0 = t.val ∧ win0_14.index t 1 = 0 ∧ win0_8.index t 0 = t.val ∧ win0_8.index t 1 = 3 ∧ win0_2.index t 0 = 0 ∧ win0_2.index t 1 = 0 ∧ win0_4.index t 0 = 0 ∧ win0_4.index t 1 = 0 ∧ win0_9.index t 0 = 0 ∧ win0_9.index t 1 = 0) t

theorem N16 (t : Fin cfg0.N) : t.val < 16 := lt_of_lt_of_eq t.isLt (show cfg0.N = 16 from N_0)

theorem row_lt (t : Fin cfg0.N) (r : Fin 256) : t.val * 256 + r.val < 4096 := by
  have := N16 t
  omega

theorem blk0 (t : Fin cfg0.N) (r : Fin 256) (k : Fin 5632) : (iblk m c 0 t : Vec Ideal S256x5632 .bf16) (ix2 r k) = dvM m c ⟨t.val * 256 + r.val, row_lt t r⟩ k := by
  have hi := idx t
  refine Eq.trans ?_ (V_dv m c ⟨t.val * 256 + r.val, row_lt t r⟩ k)
  unfold iblk
  rw [View.read_apply]
  show V m c main_v41 _ = V m c main_v41 _
  generalize V m c main_v41 = A
  congr 1
  funext a
  apply Fin.ext
  match a with
  | ⟨0, _⟩ => show win0_0.index t 0 * 256 + 1 * _ = _; rw [hi.1]; simp
  | ⟨1, _⟩ => show win0_0.index t 1 * 5632 + 1 * _ = _; rw [hi.2.1]; simp

theorem blk1 (t : Fin cfg0.N) (r : Fin 256) (k : Fin 1024) : (iblk m c 1 t : Vec Ideal S256x1024 .f32) (ix2 r k) = hM m c ⟨t.val * 256 + r.val, row_lt t r⟩ k := by
  have hi := idx t
  refine Eq.trans ?_ (V_h m c ⟨t.val * 256 + r.val, row_lt t r⟩ k)
  unfold iblk
  rw [View.read_apply]
  show V m c main_v40 _ = V m c main_v40 _
  generalize V m c main_v40 = A
  congr 1
  funext a
  apply Fin.ext
  match a with
  | ⟨0, _⟩ => show win0_1.index t 0 * 256 + 1 * _ = _; rw [hi.2.2.1]; simp
  | ⟨1, _⟩ => show win0_1.index t 1 * 1024 + 1 * _ = _; rw [hi.2.2.2.1]; simp

theorem blk2 (t : Fin cfg0.N) (k : Fin 1024) : (iblk m c 2 t : Vec Ideal S1x1024 .f32) (ix2 0 k) = gM m c k := by
  have hi := idx t
  unfold iblk
  rw [View.read_apply]
  show V m c main_arg7 _ = _
  rw [V_main_arg7]
  show m ((c : Thread nD τ).loc main_arg7) _ = m ((c : Thread nD τ).loc main_arg7) _
  congr 1
  funext a
  apply Fin.ext
  match a with
  | ⟨0, _⟩ => show win0_2.index t 0 * 1 + 1 * _ = _; rw [hi.2.2.2.2.2.2.2.2.2.2.2.2.2.2.2.2.2.2.2.2.2.2.1]; simp
  | ⟨1, _⟩ => show win0_2.index t 1 * 1024 + 1 * _ = _; rw [hi.2.2.2.2.2.2.2.2.2.2.2.2.2.2.2.2.2.2.2.2.2.2.2.1]; simp

theorem blk3 (t : Fin cfg0.N) (r : Fin 256) (k : Fin 1024) : (iblk m c 3 t : Vec Ideal S256x1024 .f32) (ix2 r k) = dhM m c ⟨t.val * 256 + r.val, row_lt t r⟩ k := by
  have hi := idx t
  unfold iblk
  rw [View.read_apply]
  show V m c main_arg9 _ = _
  rw [V_main_arg9]
  show m ((c : Thread nD τ).loc main_arg9) _ = m ((c : Thread nD τ).loc main_arg9) _
  congr 1
  funext a
  apply Fin.ext
  match a with
  | ⟨0, _⟩ => show win0_3.index t 0 * 256 + 1 * _ = _; rw [hi.2.2.2.2.1]; simp
  | ⟨1, _⟩ => show win0_3.index t 1 * 1024 + 1 * _ = _; rw [hi.2.2.2.2.2.1]; simp

theorem blk4 (t : Fin cfg0.N) (j k : Fin 1024) : (iblk m c 4 t : Vec Ideal S1024x1024 .bf16) (ix2 j k) = woM m c j k := by
  have hi := idx t
  refine Eq.trans ?_ (V_wo m c j k)
  unfold iblk
  rw [View.read_apply]
  show V m c main_v42 _ = V m c main_v42 _
  generalize V m c main_v42 = A
  congr 1
  funext a
  apply Fin.ext
  match a with
  | ⟨0, _⟩ => show win0_4.index t 0 * 1024 + 1 * _ = _; rw [hi.2.2.2.2.2.2.2.2.2.2.2.2.2.2.2.2.2.2.2.2.2.2.2.2.1]; simp
  | ⟨1, _⟩ => show win0_4.index t 1 * 1024 + 1 * _ = _; rw [hi.2.2.2.2.2.2.2.2.2.2.2.2.2.2.2.2.2.2.2.2.2.2.2.2.2.1]; simp

theorem blk5 (t : Fin cfg0.N) (r : Fin 256) (k : Fin 1024) : (iblk m c 5 t : Vec Ideal S256x1024 .bf16) (ix2 r k) = qM m c ⟨t.val * 256 + r.val, row_lt t r⟩ k := by
  have hi := idx t
  refine Eq.trans ?_ (V_q m c ⟨t.val * 256 + r.val, row_lt t r⟩ k)
  unfold iblk
  rw [View.read_apply]
  show V m c main_v43 _ = V m c main_v43 _
  generalize V m c main_v43 = A
  congr 1
  funext a
  apply Fin.ext
  match a with
  | ⟨0, _⟩ => show win0_5.index t 0 * 256 + 1 * _ = _; rw [hi.2.2.2.2.2.2.1]; simp
  | ⟨1, _⟩ => show win0_5.index t 1 * 1024 + 1 * _ = _; rw [hi.2.2.2.2.2.2.2.1]; simp

theorem blk6 (t : Fin cfg0.N) (r : Fin 256) (k : Fin 512) : (iblk m c 6 t : Vec Ideal S256x512 .f32) (ix2 r k) = aM m c ⟨t.val * 256 + r.val, row_lt t r⟩ k := by
  have hi := idx t
  unfold iblk
  rw [View.read_apply]
  show V m c main_arg1 _ = _
  rw [V_main_arg1]
  show m ((c : Thread nD τ).loc main_arg1) _ = m ((c : Thread nD τ).loc main_arg1) _
  congr 1
  funext a
  apply Fin.ext
  match a with
  | ⟨0, _⟩ => show win0_6.index t 0 * 256 + 1 * _ = _; rw [hi.2.2.2.2.2.2.2.2.1]; simp
  | ⟨1, _⟩ => show win0_6.index t 1 * 512 + 1 * _ = _; rw [hi.2.2.2.2.2.2.2.2.2.1]; simp

theorem blk7 (t : Fin cfg0.N) (r : Fin 256) (k : Fin 512) : (iblk m c 7 t : Vec Ideal S256x512 .f32) (ix2 r k) = rM m c ⟨t.val * 256 + r.val, row_lt t r⟩ k := by
  have hi := idx t
  unfold iblk
  rw [View.read_apply]
  show V m c main_arg2 _ = _
  rw [V_main_arg2]
  show m ((c : Thread nD τ).loc main_arg2) _ = m ((c : Thread nD τ).loc main_arg2) _
  congr 1
  funext a
  apply Fin.ext
  match a with
  | ⟨0, _⟩ => show win0_7.index t 0 * 256 + 1 * _ = _; rw [hi.2.2.2.2.2.2.2.2.2.2.1]; simp
  | ⟨1, _⟩ => show win0_7.index t 1 * 512 + 1 * _ = _; rw [hi.2.2.2.2.2.2.2.2.2.2.2.1]; simp

theorem blk8 (t : Fin cfg0.N) (r : Fin 256) (k : Fin 512) : (iblk m c 8 t : Vec Ideal S256x512 .f32) (ix2 r k) = zM m c ⟨t.val * 256 + r.val, row_lt t r⟩ k := by
  have hi := idx t
  unfold iblk
  rw [View.read_apply]
  show V m c main_arg3 _ = _
  rw [V_main_arg3]
  show m ((c : Thread nD τ).loc main_arg3) _ = m ((c : Thread nD τ).loc main_arg3) _
  congr 1
  funext a
  apply Fin.ext
  match a with
  | ⟨0, _⟩ => show win0_8.index t 0 * 256 + 1 * _ = _; rw [hi.2.2.2.2.2.2.2.2.2.2.2.2.2.2.2.2.2.2.2.2.1]; simp
  | ⟨1, _⟩ => show win0_8.index t 1 * 512 + 1 * _ = _; rw [hi.2.2.2.2.2.2.2.2.2.2.2.2.2.2.2.2.2.2.2.2.2.1]; simp

theorem blk9a (t : Fin cfg0.N) (k : Fin 512) : (iblk m c 9 t : Vec Ideal S1x1024 .f32) (ix2 0 (left k)) = gaM m c k := by
  have hi := idx t
  refine Eq.trans ?_ (V_ga m c k)
  unfold iblk
  rw [View.read_apply]
  show V m c main_v44 _ = V m c main_v44 _
  generalize V m c main_v44 = A
  congr 1
  funext a
  apply Fin.ext
  match a with
  | ⟨0, _⟩ => show win0_9.index t 0 * 1 + 1 * _ = _; rw [hi.2.2.2.2.2.2.2.2.2.2.2.2.2.2.2.2.2.2.2.2.2.2.2.2.2.2.1]; simp
  | ⟨1, _⟩ => show win0_9.index t 1 * 1024 + 1 * _ = _; rw [hi.2.2.2.2.2.2.2.2.2.2.2.2.2.2.2.2.2.2.2.2.2.2.2.2.2.2.2]; simp

theorem blk9h (t : Fin cfg0.N) (k : Fin 512) : (iblk m c 9 t : Vec Ideal S1x1024 .f32) (ix2 0 (right k)) = ghM m c k := by
  have hi := idx t
  refine Eq.trans ?_ (V_gh m c k)
  unfold iblk
  rw [View.read_apply]
  show V m c main_v44 _ = V m c main_v44 _
  generalize V m c main_v44 = A
  congr 1
  funext a
  apply Fin.ext
  match a with
  | ⟨0, _⟩ => show win0_9.index t 0 * 1 + 1 * _ = _; rw [hi.2.2.2.2.2.2.2.2.2.2.2.2.2.2.2.2.2.2.2.2.2.2.2.2.2.2.1]; simp
  | ⟨1, _⟩ => show win0_9.index t 1 * 1024 + 1 * _ = _; rw [hi.2.2.2.2.2.2.2.2.2.2.2.2.2.2.2.2.2.2.2.2.2.2.2.2.2.2.2]; simp

/-- A point's blocks hold the rows of its row block. -/
theorem holds (t : Fin cfg0.N) : Holds (hM m c) (qM m c) (aM m c) (rM m c) (zM m c) (gaM m c) (ghM m c) (woM m c) (gM m c) (dhM m c) (dvM m c) t.val
    (iblk m c 0 t) (iblk m c 1 t) (iblk m c 2 t) (iblk m c 3 t) (iblk m c 4 t) (iblk m c 5 t) (iblk m c 6 t) (iblk m c 7 t) (iblk m c 8 t) (iblk m c 9 t) where
  lt := N16 t
  hv := blk0 m c t
  hh := blk1 m c t
  hg := blk2 m c t
  hdh := blk3 m c t
  hwo := blk4 m c t
  hq := blk5 m c t
  ha := blk6 m c t
  hr := blk7 m c t
  hz := blk8 m c t
  hga := blk9a m c t
  hgh := blk9h m c t

/-- The four sums' terms, row by row. -/
abbrev dgT (k : Fin 1024) := dgTerm (wM m c) (dvM m c) (hM m c) k
abbrev gaT (k : Fin 512) := dgaTerm (aM m c) (dmM m c) k
abbrev ghT (k : Fin 512) := dghTerm (rM m c) (zM m c) (dmM m c) k
abbrev dwT (k j : Fin 1024) := dwTerm (qM m c) (dM m c) k j

/-- Everything a point leaves behind. -/
structure After (n : ℕ) (o : Vec Ideal S256x1024 .f32 × Vec Ideal S1x1024 .f32 × Vec Ideal S256x512 .f32 × Vec Ideal S256x512 .f32 × Vec Ideal S256x512 .bf16 ×
    Vec Ideal S1x512 .f32 × Vec Ideal S1x512 .f32 × Vec Ideal S1024x1024 .bf16 × Vec Ideal S1024x5632 .bf16 × Vec Ideal S1024x1024 .f32) : Prop where
  lt : n < 16
  dh : ∀ (r : Fin 256) (k : Fin 1024), o.1 (ix2 r k) = dM m c ⟨n * 256 + r.val, by omega⟩ k
  dg : ∀ (u : Fin 1) (k : Fin 1024), o.2.1 (ix2 u k) = upto (dgT m c k) n
  da : ∀ (r : Fin 256) (k : Fin 512), o.2.2.1 (ix2 r k) = da (aM m c) (gaM m c) (dmM m c) ⟨n * 256 + r.val, by omega⟩ k
  dr : ∀ (r : Fin 256) (k : Fin 512), o.2.2.2.1 (ix2 r k) = dr (rM m c) (zM m c) (ghM m c) (dmM m c) ⟨n * 256 + r.val, by omega⟩ k
  dz : ∀ (r : Fin 256) (k : Fin 512), o.2.2.2.2.1 (ix2 r k) = dz (rM m c) (zM m c) (ghM m c) (dmM m c) ⟨n * 256 + r.val, by omega⟩ k
  ga : ∀ (u : Fin 1) (k : Fin 512), o.2.2.2.2.2.1 (ix2 u k) = upto (gaT m c k) n
  gh : ∀ (u : Fin 1) (k : Fin 512), o.2.2.2.2.2.2.1 (ix2 u k) = upto (ghT m c k) n
  dw : n = 15 → ∀ k j : Fin 1024, o.2.2.2.2.2.2.2.1 (ix2 k j) = upto (dwT m c k j) n
  w : n < 15 → ∀ (k : Fin 1024) (j : Fin 5632), o.2.2.2.2.2.2.2.2.1 (ix2 k j) = wM m c k j
  acc : n < 15 → ∀ k j : Fin 1024, o.2.2.2.2.2.2.2.2.2 (ix2 k j) = upto (dwT m c k j) n

set_option maxHeartbeats 1000000 in
theorem after_A (t : Fin cfg0.N) (h : t.val = 0) : After m c 0 (outsAt0 m c t.val t.isLt) := by
  have H := holds m c t
  rw [h] at H
  have hw := V_w m c
  rw [outsAt0_A m c t (by rw [h]) (by rw [h]; decide), w_A, acc_A, dh_A, dg_A, da_A, dr_A, dz_A, ga_A, gh_A]
  constructor
  · exact fun r k => H.dh_eq _ hw r k
  · exact fun u k => by rw [upto_zero, ← pay2_zero u k]; exact H.dg_eq _ hw _ u k
  · exact fun r k => H.da_eq _ hw r k
  · exact fun r k => H.dr_eq _ hw r k
  · exact fun r k => H.dz_eq _ hw r k
  · exact fun u k => by rw [upto_zero, ← pay3_zero u k]; exact H.ga_eq _ hw _ u k
  · exact fun u k => by rw [upto_zero, ← pay4_zero u k]; exact H.gh_eq _ hw _ u k
  · exact fun h => absurd h (by decide)
  · exact fun _ k j => hw k j
  · exact fun _ k j => by rw [upto_zero, ← pay5_zero k j]; exact H.dw_eq _ hw _ k j
  · decide

set_option maxHeartbeats 1000000 in
theorem after_B (t : Fin cfg0.N) (n : ℕ) (h : t.val = n + 1) (hn : n + 1 < 15) (ih : After m c n (outsAt0 m c (t.val - 1) (Nat.lt_of_le_of_lt (Nat.sub_le _ _) t.isLt))) :
    After m c (n + 1) (outsAt0 m c t.val t.isLt) := by
  have H := holds m c t
  rw [h] at H
  have hw := ih.w (by omega)
  rw [outsAt0_B m c t (by omega) (by omega), acc_B, dh_B, dg_B, da_B, dr_B, dz_B, ga_B, gh_B]
  constructor
  · exact fun r k => H.dh_eq _ hw r k
  · exact fun u k => by rw [upto_succ, ← ih.dg u k]; exact H.dg_eq _ hw _ u k
  · exact fun r k => H.da_eq _ hw r k
  · exact fun r k => H.dr_eq _ hw r k
  · exact fun r k => H.dz_eq _ hw r k
  · exact fun u k => by rw [upto_succ, ← ih.ga u k]; exact H.ga_eq _ hw _ u k
  · exact fun u k => by rw [upto_succ, ← ih.gh u k]; exact H.gh_eq _ hw _ u k
  · exact fun h => absurd h (by omega)
  · exact fun _ k j => hw k j
  · exact fun _ k j => by rw [upto_succ, ← ih.acc (by omega) k j]; exact H.dw_eq _ hw _ k j
  · omega

set_option maxHeartbeats 1000000 in
theorem after_C (t : Fin cfg0.N) (h : t.val = 14 + 1) (ih : After m c 14 (outsAt0 m c (t.val - 1) (Nat.lt_of_le_of_lt (Nat.sub_le _ _) t.isLt))) :
    After m c (14 + 1) (outsAt0 m c t.val t.isLt) := by
  have H := holds m c t
  rw [h] at H
  have hw := ih.w (by omega)
  rw [outsAt0_C m c t (by omega) (by omega), dw_C, dh_C, dg_C, da_C, dr_C, dz_C, ga_C, gh_C]
  constructor
  · exact fun r k => H.dh_eq _ hw r k
  · exact fun u k => by rw [upto_succ, ← ih.dg u k]; exact H.dg_eq _ hw _ u k
  · exact fun r k => H.da_eq _ hw r k
  · exact fun r k => H.dr_eq _ hw r k
  · exact fun r k => H.dz_eq _ hw r k
  · exact fun u k => by rw [upto_succ, ← ih.ga u k]; exact H.ga_eq _ hw _ u k
  · exact fun u k => by rw [upto_succ, ← ih.gh u k]; exact H.gh_eq _ hw _ u k
  · exact fun _ k j => by rw [upto_succ, ← ih.acc (by omega) k j]; exact (cast_at _ k j).trans (H.dw_eq _ hw _ k j)
  · exact fun h => absurd h (by omega)
  · exact fun h => absurd h (by omega)
  · omega

/-- What every point leaves behind. -/
theorem after (n : ℕ) : ∀ hn : n < cfg0.N, After m c n (outsAt0 m c n hn) := by
  induction n with
  | zero => exact fun hn => after_A m c ⟨0, hn⟩ rfl
  | succ n ih =>
    intro hn
    have := N16 ⟨n + 1, hn⟩
    by_cases h : n + 1 < 15
    · exact after_B m c ⟨n + 1, hn⟩ n rfl h (ih _)
    · obtain rfl : n = 14 := by simp only at this; omega
      exact after_C m c ⟨14 + 1, hn⟩ rfl (ih _)

/-- The results as arrays: the residual's cotangent, the second norm's scale gradient, the cotangents of the attention's output, of the recurrence's output and of the
    gate, the gradients of the two mixers' scales, and the output projection's gradient. -/
def dhOut : Vec Ideal S4096x1024 .f32 := fun y => dM m c ⟨(y 0).val, (y 0).isLt⟩ ⟨(y 1).val, (y 1).isLt⟩
def dgOut : Vec Ideal S1x1024 .f32 := fun y => dg (wM m c) (dvM m c) (hM m c) ⟨(y 1).val, (y 1).isLt⟩
def daOut : Vec Ideal S4096x512 .f32 := fun y => da (aM m c) (gaM m c) (dmM m c) ⟨(y 0).val, (y 0).isLt⟩ ⟨(y 1).val, (y 1).isLt⟩
def drOut : Vec Ideal S4096x512 .f32 := fun y => dr (rM m c) (zM m c) (ghM m c) (dmM m c) ⟨(y 0).val, (y 0).isLt⟩ ⟨(y 1).val, (y 1).isLt⟩
def dzOut : Vec Ideal S4096x512 .bf16 := fun y => dz (rM m c) (zM m c) (ghM m c) (dmM m c) ⟨(y 0).val, (y 0).isLt⟩ ⟨(y 1).val, (y 1).isLt⟩
def gaOut : Vec Ideal S1x512 .f32 := fun y => dga (aM m c) (dmM m c) ⟨(y 1).val, (y 1).isLt⟩
def ghOut : Vec Ideal S1x512 .f32 := fun y => dgh (rM m c) (zM m c) (dmM m c) ⟨(y 1).val, (y 1).isLt⟩
def dwOut : Vec Ideal S1024x1024 .bf16 := fun y => dw (qM m c) (dM m c) ⟨(y 0).val, (y 0).isLt⟩ ⟨(y 1).val, (y 1).isLt⟩

/-- An index of a matrix from its two coordinates. -/
theorem ix2_eta {a b : ℕ} (y : (⟨2, ![a, b]⟩ : Shape).Idx) : y = ix2 ⟨(y 0).val, (y 0).isLt⟩ ⟨(y 1).val, (y 1).isLt⟩ := by
  funext i; match i with | ⟨0, _⟩ => rfl | ⟨1, _⟩ => rfl

end Cert.Kernel3Ideal.Up

end
-- ==== Proof.Up.Final.lean ====
/- The kernel's eight result arrays. -/
module

public import proofs.«01_k».proof.Proof.Up.Global

@[expose] public section

set_option maxRecDepth 16384

noncomputable section

namespace Cert.Kernel3Ideal.Up

open Cert.Kernel3Ideal Cert.Kernel3Ideal.Gen Idealize.ShloMosaic Idealize.ShloMosaic.TcCoe Idealize.SL.Sem
open Cert.Mlp Cert.Norm Cert.Up
open Cert.In (upto upto_zero upto_succ upto_last)

variable (m : (ℓ : Loc nD τ sig) → Buf (Elt Ideal) ℓ) (c : Dev nD)

theorem last (t : Fin cfg0.N) (h : t.val % 16 = 15) : t = t0_15 := by
  have := N16 t
  exact Fin.ext (by show t.val = 15; omega)

theorem xs10 (t : Fin cfg0.N) : win0_10.xsize (grid0.coords t) 0 = 256 ∧ win0_10.xsize (grid0.coords t) 1 = 1024 :=
  (by decide +kernel : ∀ t : Fin grid0.N, win0_10.xsize (grid0.coords t) 0 = 256 ∧ win0_10.xsize (grid0.coords t) 1 = 1024) t

theorem cut_dh (t : Fin cfg0.N) (o : Vec Ideal S256x1024 .f32)
    (A : ∀ (r : Fin 256) (k : Fin 1024), o (ix2 r k) = dM m c ⟨t.val * 256 + r.val, row_lt t r⟩ k) :
    (cfg0.win 10).cut (grid0.coords t) o = ((cfg0.win 10).blk t).view.read (Elt Ideal) (dhOut m c) := by
  have hi := idx t
  funext j
  rw [View.read_apply]
  have hj0 : (j 0).val < 256 := lt_of_lt_of_eq (j 0).isLt (xs10 t).1
  have hj1 : (j 1).val < 1024 := lt_of_lt_of_eq (j 1).isLt (xs10 t).2
  refine Eq.trans (b := o (ix2 ⟨(j 0).val, hj0⟩ ⟨(j 1).val, hj1⟩)) ?_ ((A _ _).trans ?_)
  · exact congrArg o (funext fun a => match a with | ⟨0, _⟩ => rfl | ⟨1, _⟩ => rfl)
  · refine congrArg₂ (dM m c) ?_ ?_
    · apply Fin.ext
      show t.val * 256 + (j 0).val = win0_10.index t 0 * 256 + 1 * (j 0).val
      rw [hi.2.2.2.2.2.2.2.2.2.2.2.2.1]; omega
    · apply Fin.ext
      show (j 1).val = win0_10.index t 1 * 1024 + 1 * (j 1).val
      rw [hi.2.2.2.2.2.2.2.2.2.2.2.2.2.1]; omega

theorem flushed_dh (t : Fin cfg0.N) : (dats m 0 c).flushed 10 t = ((cfg0.win 10).blk t).view.read (Elt Ideal) (dhOut m c) :=
  (Value.flushed10 m c t).trans (cut_dh m c t _ (after m c t.val t.isLt).dh)

theorem final_dh : (dats m 0 c).arrAt 10 cfg0.N = dhOut m c :=
  (dats m 0 c).arrAt_eq_of_cover 10 (dhOut m c) (fun t _ => flushed_dh m c t) fun i => by
    have h0 : (i 0 : Nat) < 4096 := (i 0).isLt
    have h1 : (i 1 : Nat) < 1024 := (i 1).isLt
    obtain ⟨t, ht⟩ : ∃ t : Fin cfg0.N, t.val = (i 0 : Nat) / 256 := ⟨⟨(i 0 : Nat) / 256, lt_of_lt_of_eq (by omega : _ < 16) (show cfg0.N = 16 from N_0).symm⟩, rfl⟩
    have hi := idx t
    refine ⟨t, flush0_10 t, ?_⟩
    show i ∈ ((View.whole main_v45_0).slice (win0_10.rect t)).set
    rw [View.set_slice_whole, Rect.mem_set_unit]
    intro a
    match a with
    | ⟨0, _⟩ =>
      show win0_10.index t 0 * 256 ≤ (i 0 : Nat) ∧ (i 0 : Nat) < win0_10.index t 0 * 256 + win0_10.xsize (grid0.coords t) 0
      rw [(xs10 t).1, hi.2.2.2.2.2.2.2.2.2.2.2.2.1]
      omega
    | ⟨1, _⟩ =>
      show win0_10.index t 1 * 1024 ≤ (i 1 : Nat) ∧ (i 1 : Nat) < win0_10.index t 1 * 1024 + win0_10.xsize (grid0.coords t) 1
      rw [(xs10 t).2, hi.2.2.2.2.2.2.2.2.2.2.2.2.2.1]
      omega

theorem xs12 (t : Fin cfg0.N) : win0_12.xsize (grid0.coords t) 0 = 256 ∧ win0_12.xsize (grid0.coords t) 1 = 512 :=
  (by decide +kernel : ∀ t : Fin grid0.N, win0_12.xsize (grid0.coords t) 0 = 256 ∧ win0_12.xsize (grid0.coords t) 1 = 512) t

theorem cut_da (t : Fin cfg0.N) (o : Vec Ideal S256x512 .f32)
    (A : ∀ (r : Fin 256) (k : Fin 512), o (ix2 r k) = Cert.Up.da (aM m c) (gaM m c) (dmM m c) ⟨t.val * 256 + r.val, row_lt t r⟩ k) :
    (cfg0.win 12).cut (grid0.coords t) o = ((cfg0.win 12).blk t).view.read (Elt Ideal) (daOut m c) := by
  have hi := idx t
  funext j
  rw [View.read_apply]
  have hj0 : (j 0).val < 256 := lt_of_lt_of_eq (j 0).isLt (xs12 t).1
  have hj1 : (j 1).val < 512 := lt_of_lt_of_eq (j 1).isLt (xs12 t).2
  refine Eq.trans (b := o (ix2 ⟨(j 0).val, hj0⟩ ⟨(j 1).val, hj1⟩)) ?_ ((A _ _).trans ?_)
  · exact congrArg o (funext fun a => match a with | ⟨0, _⟩ => rfl | ⟨1, _⟩ => rfl)
  · refine congrArg₂ (Cert.Up.da (aM m c) (gaM m c) (dmM m c)) ?_ ?_
    · apply Fin.ext
      show t.val * 256 + (j 0).val = win0_12.index t 0 * 256 + 1 * (j 0).val
      rw [hi.2.2.2.2.2.2.2.2.2.2.2.2.2.2.1]; omega
    · apply Fin.ext
      show (j 1).val = win0_12.index t 1 * 512 + 1 * (j 1).val
      rw [hi.2.2.2.2.2.2.2.2.2.2.2.2.2.2.2.1]; omega

theorem flushed_da (t : Fin cfg0.N) : (dats m 0 c).flushed 12 t = ((cfg0.win 12).blk t).view.read (Elt Ideal) (daOut m c) :=
  (Value.flushed12 m c t).trans (cut_da m c t _ (after m c t.val t.isLt).da)

theorem final_da : (dats m 0 c).arrAt 12 cfg0.N = daOut m c :=
  (dats m 0 c).arrAt_eq_of_cover 12 (daOut m c) (fun t _ => flushed_da m c t) fun i => by
    have h0 : (i 0 : Nat) < 4096 := (i 0).isLt
    have h1 : (i 1 : Nat) < 512 := (i 1).isLt
    obtain ⟨t, ht⟩ : ∃ t : Fin cfg0.N, t.val = (i 0 : Nat) / 256 := ⟨⟨(i 0 : Nat) / 256, lt_of_lt_of_eq (by omega : _ < 16) (show cfg0.N = 16 from N_0).symm⟩, rfl⟩
    have hi := idx t
    refine ⟨t, flush0_12 t, ?_⟩
    show i ∈ ((View.whole main_v45_2).slice (win0_12.rect t)).set
    rw [View.set_slice_whole, Rect.mem_set_unit]
    intro a
    match a with
    | ⟨0, _⟩ =>
      show win0_12.index t 0 * 256 ≤ (i 0 : Nat) ∧ (i 0 : Nat) < win0_12.index t 0 * 256 + win0_12.xsize (grid0.coords t) 0
      rw [(xs12 t).1, hi.2.2.2.2.2.2.2.2.2.2.2.2.2.2.1]
      omega
    | ⟨1, _⟩ =>
      show win0_12.index t 1 * 512 ≤ (i 1 : Nat) ∧ (i 1 : Nat) < win0_12.index t 1 * 512 + win0_12.xsize (grid0.coords t) 1
      rw [(xs12 t).2, hi.2.2.2.2.2.2.2.2.2.2.2.2.2.2.2.1]
      omega

theorem xs13 (t : Fin cfg0.N) : win0_13.xsize (grid0.coords t) 0 = 256 ∧ win0_13.xsize (grid0.coords t) 1 = 512 :=
  (by decide +kernel : ∀ t : Fin grid0.N, win0_13.xsize (grid0.coords t) 0 = 256 ∧ win0_13.xsize (grid0.coords t) 1 = 512) t

theorem cut_dr (t : Fin cfg0.N) (o : Vec Ideal S256x512 .f32)
    (A : ∀ (r : Fin 256) (k : Fin 512), o (ix2 r k) = Cert.Up.dr (rM m c) (zM m c) (ghM m c) (dmM m c) ⟨t.val * 256 + r.val, row_lt t r⟩ k) :
    (cfg0.win 13).cut (grid0.coords t) o = ((cfg0.win 13).blk t).view.read (Elt Ideal) (drOut m c) := by
  have hi := idx t
  funext j
  rw [View.read_apply]
  have hj0 : (j 0).val < 256 := lt_of_lt_of_eq (j 0).isLt (xs13 t).1
  have hj1 : (j 1).val < 512 := lt_of_lt_of_eq (j 1).isLt (xs13 t).2
  refine Eq.trans (b := o (ix2 ⟨(j 0).val, hj0⟩ ⟨(j 1).val, hj1⟩)) ?_ ((A _ _).trans ?_)
  · exact congrArg o (funext fun a => match a with | ⟨0, _⟩ => rfl | ⟨1, _⟩ => rfl)
  · refine congrArg₂ (Cert.Up.dr (rM m c) (zM m c) (ghM m c) (dmM m c)) ?_ ?_
    · apply Fin.ext
      show t.val * 256 + (j 0).val = win0_13.index t 0 * 256 + 1 * (j 0).val
      rw [hi.2.2.2.2.2.2.2.2.2.2.2.2.2.2.2.2.1]; omega
    · apply Fin.ext
      show (j 1).val = win0_13.index t 1 * 512 + 1 * (j 1).val
      rw [hi.2.2.2.2.2.2.2.2.2.2.2.2.2.2.2.2.2.1]; omega

theorem flushed_dr (t : Fin cfg0.N) : (dats m 0 c).flushed 13 t = ((cfg0.win 13).blk t).view.read (Elt Ideal) (drOut m c) :=
  (Value.flushed13 m c t).trans (cut_dr m c t _ (after m c t.val t.isLt).dr)

theorem final_dr : (dats m 0 c).arrAt 13 cfg0.N = drOut m c :=
  (dats m 0 c).arrAt_eq_of_cover 13 (drOut m c) (fun t _ => flushed_dr m c t) fun i => by
    have h0 : (i 0 : Nat) < 4096 := (i 0).isLt
    have h1 : (i 1 : Nat) < 512 := (i 1).isLt
    obtain ⟨t, ht⟩ : ∃ t : Fin cfg0.N, t.val = (i 0 : Nat) / 256 := ⟨⟨(i 0 : Nat) / 256, lt_of_lt_of_eq (by omega : _ < 16) (show cfg0.N = 16 from N_0).symm⟩, rfl⟩
    have hi := idx t
    refine ⟨t, flush0_13 t, ?_⟩
    show i ∈ ((View.whole main_v45_3).slice (win0_13.rect t)).set
    rw [View.set_slice_whole, Rect.mem_set_unit]
    intro a
    match a with
    | ⟨0, _⟩ =>
      show win0_13.index t 0 * 256 ≤ (i 0 : Nat) ∧ (i 0 : Nat) < win0_13.index t 0 * 256 + win0_13.xsize (grid0.coords t) 0
      rw [(xs13 t).1, hi.2.2.2.2.2.2.2.2.2.2.2.2.2.2.2.2.1]
      omega
    | ⟨1, _⟩ =>
      show win0_13.index t 1 * 512 ≤ (i 1 : Nat) ∧ (i 1 : Nat) < win0_13.index t 1 * 512 + win0_13.xsize (grid0.coords t) 1
      rw [(xs13 t).2, hi.2.2.2.2.2.2.2.2.2.2.2.2.2.2.2.2.2.1]
      omega

theorem xs14 (t : Fin cfg0.N) : win0_14.xsize (grid0.coords t) 0 = 256 ∧ win0_14.xsize (grid0.coords t) 1 = 512 :=
  (by decide +kernel : ∀ t : Fin grid0.N, win0_14.xsize (grid0.coords t) 0 = 256 ∧ win0_14.xsize (grid0.coords t) 1 = 512) t

theorem cut_dz (t : Fin cfg0.N) (o : Vec Ideal S256x512 .bf16)
    (A : ∀ (r : Fin 256) (k : Fin 512), o (ix2 r k) = Cert.Up.dz (rM m c) (zM m c) (ghM m c) (dmM m c) ⟨t.val * 256 + r.val, row_lt t r⟩ k) :
    (cfg0.win 14).cut (grid0.coords t) o = ((cfg0.win 14).blk t).view.read (Elt Ideal) (dzOut m c) := by
  have hi := idx t
  funext j
  rw [View.read_apply]
  have hj0 : (j 0).val < 256 := lt_of_lt_of_eq (j 0).isLt (xs14 t).1
  have hj1 : (j 1).val < 512 := lt_of_lt_of_eq (j 1).isLt (xs14 t).2
  refine Eq.trans (b := o (ix2 ⟨(j 0).val, hj0⟩ ⟨(j 1).val, hj1⟩)) ?_ ((A _ _).trans ?_)
  · exact congrArg o (funext fun a => match a with | ⟨0, _⟩ => rfl | ⟨1, _⟩ => rfl)
  · refine congrArg₂ (Cert.Up.dz (rM m c) (zM m c) (ghM m c) (dmM m c)) ?_ ?_
    · apply Fin.ext
      show t.val * 256 + (j 0).val = win0_14.index t 0 * 256 + 1 * (j 0).val
      rw [hi.2.2.2.2.2.2.2.2.2.2.2.2.2.2.2.2.2.2.1]; omega
    · apply Fin.ext
      show (j 1).val = win0_14.index t 1 * 512 + 1 * (j 1).val
      rw [hi.2.2.2.2.2.2.2.2.2.2.2.2.2.2.2.2.2.2.2.1]; omega

theorem flushed_dz (t : Fin cfg0.N) : (dats m 0 c).flushed 14 t = ((cfg0.win 14).blk t).view.read (Elt Ideal) (dzOut m c) :=
  (Value.flushed14 m c t).trans (cut_dz m c t _ (after m c t.val t.isLt).dz)

theorem final_dz : (dats m 0 c).arrAt 14 cfg0.N = dzOut m c :=
  (dats m 0 c).arrAt_eq_of_cover 14 (dzOut m c) (fun t _ => flushed_dz m c t) fun i => by
    have h0 : (i 0 : Nat) < 4096 := (i 0).isLt
    have h1 : (i 1 : Nat) < 512 := (i 1).isLt
    obtain ⟨t, ht⟩ : ∃ t : Fin cfg0.N, t.val = (i 0 : Nat) / 256 := ⟨⟨(i 0 : Nat) / 256, lt_of_lt_of_eq (by omega : _ < 16) (show cfg0.N = 16 from N_0).symm⟩, rfl⟩
    have hi := idx t
    refine ⟨t, flush0_14 t, ?_⟩
    show i ∈ ((View.whole main_v45_4).slice (win0_14.rect t)).set
    rw [View.set_slice_whole, Rect.mem_set_unit]
    intro a
    match a with
    | ⟨0, _⟩ =>
      show win0_14.index t 0 * 256 ≤ (i 0 : Nat) ∧ (i 0 : Nat) < win0_14.index t 0 * 256 + win0_14.xsize (grid0.coords t) 0
      rw [(xs14 t).1, hi.2.2.2.2.2.2.2.2.2.2.2.2.2.2.2.2.2.2.1]
      omega
    | ⟨1, _⟩ =>
      show win0_14.index t 1 * 512 ≤ (i 1 : Nat) ∧ (i 1 : Nat) < win0_14.index t 1 * 512 + win0_14.xsize (grid0.coords t) 1
      rw [(xs14 t).2, hi.2.2.2.2.2.2.2.2.2.2.2.2.2.2.2.2.2.2.2.1]
      omega

theorem flushed_dg (t : Fin cfg0.N) (hf : (cfg0.win 11).flush t = true) :
    (dats m 0 c).flushed 11 t = ((cfg0.win 11).blk t).view.read (Elt Ideal) (dgOut m c) := by
  obtain rfl := last t ((flush0_11 t).mp hf)
  have A : (outsAt0 m c t0_15.val t0_15.isLt).2.1 = dgOut m c := by
    funext y
    rw [ix2_eta y]
    exact ((after m c 15 t0_15.isLt).dg _ _).trans (upto_last _)
  show (cfg0.win 11).cut (grid0.coords t0_15) ((dats m 0 c).after 11 t0_15) = _
  rw [after0_11, A]
  have hz' : (fun a => win0_11.index t0_15 a * main_v45_1.ty.shape.size a) = fun _ => 0 := funext fun a => by fin_cases a <;> decide
  exact (Memref.read_access_unit_zero (Elt Ideal) main_v45_1 hz' (fun a => by rw [congrFun hz' a]; simp) (dgOut m c)).symm

theorem final_dg : (dats m 0 c).arrAt 11 cfg0.N = dgOut m c :=
  (dats m 0 c).arrAt_eq_of_cover 11 (dgOut m c) (flushed_dg m c) fun i => ⟨t0_15, (flush0_11 t0_15).mpr rfl, by
    show i ∈ ((View.whole main_v45_1).slice (win0_11.rect t0_15)).set
    rw [View.set_slice_whole, Rect.mem_set_unit]
    intro a
    match a with
    | ⟨0, _⟩ =>
      have h : (i 0 : Nat) < 1 := (i 0).isLt
      show win0_11.index t0_15 0 * 1 ≤ (i 0 : Nat) ∧ (i 0 : Nat) < win0_11.index t0_15 0 * 1 + win0_11.xsize (grid0.coords t0_15) 0
      rw [show win0_11.index t0_15 0 = 0 from by decide +kernel, show win0_11.xsize (grid0.coords t0_15) 0 = 1 from by decide +kernel]; omega
    | ⟨1, _⟩ =>
      have h : (i 1 : Nat) < 1024 := (i 1).isLt
      show win0_11.index t0_15 1 * 1024 ≤ (i 1 : Nat) ∧ (i 1 : Nat) < win0_11.index t0_15 1 * 1024 + win0_11.xsize (grid0.coords t0_15) 1
      rw [show win0_11.index t0_15 1 = 0 from by decide +kernel, show win0_11.xsize (grid0.coords t0_15) 1 = 1024 from by decide +kernel]; omega⟩

theorem flushed_ga (t : Fin cfg0.N) (hf : (cfg0.win 15).flush t = true) :
    (dats m 0 c).flushed 15 t = ((cfg0.win 15).blk t).view.read (Elt Ideal) (gaOut m c) := by
  obtain rfl := last t ((flush0_15 t).mp hf)
  have A : (outsAt0 m c t0_15.val t0_15.isLt).2.2.2.2.2.1 = gaOut m c := by
    funext y
    rw [ix2_eta y]
    exact ((after m c 15 t0_15.isLt).ga _ _).trans (upto_last _)
  show (cfg0.win 15).cut (grid0.coords t0_15) ((dats m 0 c).after 15 t0_15) = _
  rw [after0_15, A]
  have hz' : (fun a => win0_15.index t0_15 a * main_v45_5.ty.shape.size a) = fun _ => 0 := funext fun a => by fin_cases a <;> decide
  exact (Memref.read_access_unit_zero (Elt Ideal) main_v45_5 hz' (fun a => by rw [congrFun hz' a]; simp) (gaOut m c)).symm

theorem final_ga : (dats m 0 c).arrAt 15 cfg0.N = gaOut m c :=
  (dats m 0 c).arrAt_eq_of_cover 15 (gaOut m c) (flushed_ga m c) fun i => ⟨t0_15, (flush0_15 t0_15).mpr rfl, by
    show i ∈ ((View.whole main_v45_5).slice (win0_15.rect t0_15)).set
    rw [View.set_slice_whole, Rect.mem_set_unit]
    intro a
    match a with
    | ⟨0, _⟩ =>
      have h : (i 0 : Nat) < 1 := (i 0).isLt
      show win0_15.index t0_15 0 * 1 ≤ (i 0 : Nat) ∧ (i 0 : Nat) < win0_15.index t0_15 0 * 1 + win0_15.xsize (grid0.coords t0_15) 0
      rw [show win0_15.index t0_15 0 = 0 from by decide +kernel, show win0_15.xsize (grid0.coords t0_15) 0 = 1 from by decide +kernel]; omega
    | ⟨1, _⟩ =>
      have h : (i 1 : Nat) < 512 := (i 1).isLt
      show win0_15.index t0_15 1 * 512 ≤ (i 1 : Nat) ∧ (i 1 : Nat) < win0_15.index t0_15 1 * 512 + win0_15.xsize (grid0.coords t0_15) 1
      rw [show win0_15.index t0_15 1 = 0 from by decide +kernel, show win0_15.xsize (grid0.coords t0_15) 1 = 512 from by decide +kernel]; omega⟩

theorem flushed_gh (t : Fin cfg0.N) (hf : (cfg0.win 16).flush t = true) :
    (dats m 0 c).flushed 16 t = ((cfg0.win 16).blk t).view.read (Elt Ideal) (ghOut m c) := by
  obtain rfl := last t ((flush0_16 t).mp hf)
  have A : (outsAt0 m c t0_15.val t0_15.isLt).2.2.2.2.2.2.1 = ghOut m c := by
    funext y
    rw [ix2_eta y]
    exact ((after m c 15 t0_15.isLt).gh _ _).trans (upto_last _)
  show (cfg0.win 16).cut (grid0.coords t0_15) ((dats m 0 c).after 16 t0_15) = _
  rw [after0_16, A]
  have hz' : (fun a => win0_16.index t0_15 a * main_v45_6.ty.shape.size a) = fun _ => 0 := funext fun a => by fin_cases a <;> decide
  exact (Memref.read_access_unit_zero (Elt Ideal) main_v45_6 hz' (fun a => by rw [congrFun hz' a]; simp) (ghOut m c)).symm

theorem final_gh : (dats m 0 c).arrAt 16 cfg0.N = ghOut m c :=
  (dats m 0 c).arrAt_eq_of_cover 16 (ghOut m c) (flushed_gh m c) fun i => ⟨t0_15, (flush0_16 t0_15).mpr rfl, by
    show i ∈ ((View.whole main_v45_6).slice (win0_16.rect t0_15)).set
    rw [View.set_slice_whole, Rect.mem_set_unit]
    intro a
    match a with
    | ⟨0, _⟩ =>
      have h : (i 0 : Nat) < 1 := (i 0).isLt
      show win0_16.index t0_15 0 * 1 ≤ (i 0 : Nat) ∧ (i 0 : Nat) < win0_16.index t0_15 0 * 1 + win0_16.xsize (grid0.coords t0_15) 0
      rw [show win0_16.index t0_15 0 = 0 from by decide +kernel, show win0_16.xsize (grid0.coords t0_15) 0 = 1 from by decide +kernel]; omega
    | ⟨1, _⟩ =>
      have h : (i 1 : Nat) < 512 := (i 1).isLt
      show win0_16.index t0_15 1 * 512 ≤ (i 1 : Nat) ∧ (i 1 : Nat) < win0_16.index t0_15 1 * 512 + win0_16.xsize (grid0.coords t0_15) 1
      rw [show win0_16.index t0_15 1 = 0 from by decide +kernel, show win0_16.xsize (grid0.coords t0_15) 1 = 512 from by decide +kernel]; omega⟩

theorem flushed_dw (t : Fin cfg0.N) (hf : (cfg0.win 17).flush t = true) :
    (dats m 0 c).flushed 17 t = ((cfg0.win 17).blk t).view.read (Elt Ideal) (dwOut m c) := by
  obtain rfl := last t ((flush0_17 t).mp hf)
  have A : (outsAt0 m c t0_15.val t0_15.isLt).2.2.2.2.2.2.2.1 = dwOut m c := by
    funext y
    rw [ix2_eta y]
    exact ((after m c 15 t0_15.isLt).dw rfl _ _).trans (upto_last _)
  show (cfg0.win 17).cut (grid0.coords t0_15) ((dats m 0 c).after 17 t0_15) = _
  rw [after0_17, A]
  have hz' : (fun a => win0_17.index t0_15 a * main_v45_7.ty.shape.size a) = fun _ => 0 := funext fun a => by fin_cases a <;> decide
  exact (Memref.read_access_unit_zero (Elt Ideal) main_v45_7 hz' (fun a => by rw [congrFun hz' a]; simp) (dwOut m c)).symm

theorem final_dw : (dats m 0 c).arrAt 17 cfg0.N = dwOut m c :=
  (dats m 0 c).arrAt_eq_of_cover 17 (dwOut m c) (flushed_dw m c) fun i => ⟨t0_15, (flush0_17 t0_15).mpr rfl, by
    show i ∈ ((View.whole main_v45_7).slice (win0_17.rect t0_15)).set
    rw [View.set_slice_whole, Rect.mem_set_unit]
    intro a
    match a with
    | ⟨0, _⟩ =>
      have h : (i 0 : Nat) < 1024 := (i 0).isLt
      show win0_17.index t0_15 0 * 1024 ≤ (i 0 : Nat) ∧ (i 0 : Nat) < win0_17.index t0_15 0 * 1024 + win0_17.xsize (grid0.coords t0_15) 0
      rw [show win0_17.index t0_15 0 = 0 from by decide +kernel, show win0_17.xsize (grid0.coords t0_15) 0 = 1024 from by decide +kernel]; omega
    | ⟨1, _⟩ =>
      have h : (i 1 : Nat) < 1024 := (i 1).isLt
      show win0_17.index t0_15 1 * 1024 ≤ (i 1 : Nat) ∧ (i 1 : Nat) < win0_17.index t0_15 1 * 1024 + win0_17.xsize (grid0.coords t0_15) 1
      rw [show win0_17.index t0_15 1 = 0 from by decide +kernel, show win0_17.xsize (grid0.coords t0_15) 1 = 1024 from by decide +kernel]; omega⟩

end Cert.Kernel3Ideal.Up

end
-- ==== Proof.Up.Ref.lean ====
/- What the reference computes, entry by entry. -/
module

public import proofs.«01_k».proof.Proof.Gen.Reference3Ideal.Read
public import proofs.«01_k».proof.Proof.Up.Spec

@[expose] public section

set_option maxRecDepth 16384

noncomputable section

namespace Cert.Reference3Ideal.Up

open Cert.Reference3Ideal Cert.Reference3Ideal.Gen Cert.Reference3Ideal.Read Idealize.ShloMosaic Idealize.ShloMosaic.TcCoe Idealize.SL.Sem
open Cert.Mlp Cert.Norm Cert.Up
open Cert.In (rms_host)

variable (x0 : Vec Ideal S4096x1024 .f32) (x1 x2 : Vec Ideal S4096x512 .f32) (x3 : Vec Ideal S4096x2048 .f32) (x4 x5 : Vec Ideal S1x512 .f32)
  (x6 : Vec Ideal S1024x1024 .f32) (x7 : Vec Ideal S1x1024 .f32) (x8 : Vec Ideal S1024x5632 .f32) (x9 : Vec Ideal S4096x1024 .f32) (x10 : Vec Ideal S4096x5632 .f32)

abbrev xF : Fin 4096 → Fin 1024 → EReal := fun t k => x0 (ix2 t k)
abbrev aF : Fin 4096 → Fin 512 → EReal := fun t k => x1 (ix2 t k)
abbrev rF : Fin 4096 → Fin 512 → EReal := fun t k => x2 (ix2 t k)
abbrev zF : Fin 4096 → Fin 512 → EReal := fun t k => x3 (ix2 t ⟨1536 + k.val, by omega⟩)
abbrev gaF : Fin 512 → EReal := fun k => x4 (ix2 0 k)
abbrev ghF : Fin 512 → EReal := fun k => x5 (ix2 0 k)
abbrev woF : Fin 1024 → Fin 1024 → EReal := fun j k => x6 (ix2 j k)
abbrev gF : Fin 1024 → EReal := fun k => x7 (ix2 0 k)
abbrev wF : Fin 1024 → Fin 5632 → EReal := fun k j => x8 (ix2 k j)
abbrev dhF : Fin 4096 → Fin 1024 → EReal := fun t k => x9 (ix2 t k)
abbrev dvF : Fin 4096 → Fin 5632 → EReal := fun t j => x10 (ix2 t j)
/-- The joined rows, the residual, and the cotangents of the residual and of the joined rows. -/
abbrev mF := mixed (aF x1) (rF x2) (zF x3) (gaF x4) (ghF x5)
abbrev hF := h1 (xF x0) (aF x1) (rF x2) (zF x3) (gaF x4) (ghF x5) (woF x6)
abbrev dF := dh1 (gF x7) (wF x8) (dhF x9) (dvF x10) (hF x0 x1 x2 x3 x4 x5 x6)
abbrev dmF := dmix (woF x6) (dF x0 x1 x2 x3 x4 x5 x6 x7 x8 x9 x10)

set_option maxHeartbeats 1000000

theorem mixed_apply  (t : Fin 4096) (k : Fin 1024) :
    (val_main_v41 (F := Ideal) x1 x2 x3 x4 x5 : Vec Ideal S4096x1024 .f32) (ix2 t k) = mF x1 x2 x3 x4 x5 t k := by
  unfold val_main_v41 val_main_v40 val_main_v39 val_main_v38_0 val_main_v38_2 val_main_call0_v4 val_main_call0_cst_0 val_main_call0_v3 val_main_call0_v2 val_main_call0_cst val_main_call0_v1 val_main_call0_v0 val_main_v37 val_main_v36 val_main_v35 val_main_v34 val_main_v33 val_main_v32 val_main_v28 val_main_v27 val_main_v26 val_main_cst_5 val_main_v25 val_main_v24 val_main_cst_4 val_main_v23 val_main_v22 val_main_cst_3 val_main_v21 val_main_v20 val_main_v19 val_main_v18 val_main_v17 val_main_v16 val_main_v15 val_main_v14 val_main_v13 val_main_v9 val_main_v8 val_main_v7 val_main_cst_1 val_main_v6 val_main_v5 val_main_cst_0 val_main_v4 val_main_v3 val_main_cst val_main_v2 val_main_v1 val_main_v0
  pointwise
  show _ = mixedRow (aF x1 t) (rF x2 t) (zF x3 t) (gaF x4) (ghF x5) k
  unfold mixedRow
  split
  · rw [rms_host512 fun i => x1 (ix2 t i)]
  · next h =>
    have e : (k.val - 512) / 128 * 128 + (k.val - 512) % 128 = k.val - 512 := Nat.div_add_mod' _ _
    rw [rms_host128 fun x => x2 (ix2 t ⟨(k.val - 512) / 128 * 128 + x.val, by omega⟩)]
    simp only [e]
    rfl

theorem h1_apply  (t : Fin 4096) (k : Fin 1024) :
    (val_main_v43 (F := Ideal) x0 x1 x2 x3 x4 x5 x6 : Vec Ideal S4096x1024 .f32) (ix2 t k) = hF x0 x1 x2 x3 x4 x5 x6 t k := by
  unfold val_main_v43 val_main_v42
  have e_v41 := mixed_apply x1 x2 x3 x4 x5
  generalize val_main_v41 (F := Ideal) x1 x2 x3 x4 x5 = Av41 at e_v41 ⊢
  pointwise
  simp only [e_v41]
  rfl

theorem du_apply  (t : Fin 4096) (k : Fin 1024) :
    (val_main_v62 (F := Ideal) x8 x10 : Vec Ideal S4096x1024 .f32) (ix2 t k) = du (wF x8) (dvF x10) t k := by
  unfold val_main_v62
  pointwise
  rfl

/-- Every entry of every argument is a real. -/
structure Reals : Prop where
  r0 : ∀ i, IsReal (x0 i)
  r1 : ∀ i, IsReal (x1 i)
  r2 : ∀ i, IsReal (x2 i)
  r3 : ∀ i, IsReal (x3 i)
  r4 : ∀ i, IsReal (x4 i)
  r5 : ∀ i, IsReal (x5 i)
  r6 : ∀ i, IsReal (x6 i)
  r7 : ∀ i, IsReal (x7 i)
  r8 : ∀ i, IsReal (x8 i)
  r9 : ∀ i, IsReal (x9 i)
  r10 : ∀ i, IsReal (x10 i)

variable {x0 x1 x2 x3 x4 x5 x6 x7 x8 x9 x10} in
theorem Reals.mixed (H : Reals x0 x1 x2 x3 x4 x5 x6 x7 x8 x9 x10) (t : Fin 4096) (j : Fin 1024) : IsReal (mF x1 x2 x3 x4 x5 t j) :=
  mixed_real (fun _ _ => H.r1 _) (fun _ _ => H.r2 _) (fun _ _ => H.r3 _) (fun _ => H.r4 _) (fun _ => H.r5 _) t j

variable {x0 x1 x2 x3 x4 x5 x6 x7 x8 x9 x10} in
theorem Reals.h1 (H : Reals x0 x1 x2 x3 x4 x5 x6 x7 x8 x9 x10) (t : Fin 4096) (k : Fin 1024) : IsReal (hF x0 x1 x2 x3 x4 x5 x6 t k) :=
  (H.r0 _).add (IsReal.sum _ _ fun _ => (H.mixed _ _).mul (H.r6 _))

variable {x0 x1 x2 x3 x4 x5 x6 x7 x8 x9 x10} in
theorem Reals.du (H : Reals x0 x1 x2 x3 x4 x5 x6 x7 x8 x9 x10) (t : Fin 4096) (k : Fin 1024) : IsReal (du (wF x8) (dvF x10) t k * gF x7 k) :=
  (IsReal.sum _ _ fun _ => (H.r10 _).mul (H.r8 _)).mul (H.r7 _)

variable {x0 x1 x2 x3 x4 x5 x6 x7 x8 x9 x10} in
theorem Reals.dmix (H : Reals x0 x1 x2 x3 x4 x5 x6 x7 x8 x9 x10) (t : Fin 4096) (j : Fin 1024) : IsReal (dmF x0 x1 x2 x3 x4 x5 x6 x7 x8 x9 x10 t j) :=
  IsReal.sum _ _ fun _ => ((H.r9 _).add (normGrad_real (by norm_num) (H.h1 t) (H.du t) _)).mul (H.r6 _)

theorem dx_apply (H : Reals x0 x1 x2 x3 x4 x5 x6 x7 x8 x9 x10) (t : Fin 4096) (k : Fin 1024) :
    (val_main_v83 (F := Ideal) x0 x1 x2 x3 x4 x5 x6 x7 x8 x9 x10 : Vec Ideal S4096x1024 .f32) (ix2 t k) = dF x0 x1 x2 x3 x4 x5 x6 x7 x8 x9 x10 t k := by
  unfold val_main_v83 val_main_v82 val_main_v81 val_main_v80 val_main_v79 val_main_v78 val_main_cst_15 val_main_v77 val_main_v76 val_main_cst_14 val_main_v75 val_main_v74 val_main_v73 val_main_v72 val_main_v71 val_main_v70 val_main_cst_13 val_main_v69 val_main_v67 val_main_v66 val_main_v58 val_main_v55 val_main_v54 val_main_cst_10 val_main_v53 val_main_v52 val_main_v51 val_main_v50 val_main_cst_9 val_main_v49 val_main_v48 val_main_cst_8 val_main_v47 val_main_v46 val_main_cst_7 val_main_v45 val_main_v44
  have e_v43 := h1_apply x0 x1 x2 x3 x4 x5 x6
  generalize val_main_v43 (F := Ideal) x0 x1 x2 x3 x4 x5 x6 = Av43 at e_v43 ⊢
  have e_v62 := du_apply x8 x10
  generalize val_main_v62 (F := Ideal) x8 x10 = Av62 at e_v62 ⊢
  pointwise
  simp only [e_v43, e_v62]
  rw [Fin.sum_univ_one, rms_host (hF x0 x1 x2 x3 x4 x5 x6 t), n1024_eq, neghalf_eq, div_real _ 1024 (by norm_num), div_real _ 1024 (by norm_num)]
  exact (normGrad_eq (N := 1024) (by norm_num) (H.h1 t) (H.du t) (x9 (ix2 t k)) k).symm

theorem dmix_apply (H : Reals x0 x1 x2 x3 x4 x5 x6 x7 x8 x9 x10) (t : Fin 4096) (k : Fin 1024) :
    (val_main_v88 (F := Ideal) x0 x1 x2 x3 x4 x5 x6 x7 x8 x9 x10 : Vec Ideal S4096x1024 .f32) (ix2 t k) = dmF x0 x1 x2 x3 x4 x5 x6 x7 x8 x9 x10 t k := by
  unfold val_main_v88 val_main_v85
  have e_v83 := dx_apply x0 x1 x2 x3 x4 x5 x6 x7 x8 x9 x10 H
  generalize val_main_v83 (F := Ideal) x0 x1 x2 x3 x4 x5 x6 x7 x8 x9 x10 = Av83 at e_v83 ⊢
  pointwise
  simp only [e_v83]
  rfl

theorem dg_apply  (u : Fin 1) (k : Fin 1024) :
    (val_main_v84 (F := Ideal) x0 x1 x2 x3 x4 x5 x6 x8 x10 : Vec Ideal S1x1024 .f32) (ix2 u k) = dg (wF x8) (dvF x10) (hF x0 x1 x2 x3 x4 x5 x6) k := by
  unfold val_main_v84 val_main_v68 val_main_cst_12 val_main_v65 val_main_v64 val_main_cst_11 val_main_v63 val_main_v57 val_main_v56 val_main_v52 val_main_v51 val_main_v50 val_main_cst_9 val_main_v49 val_main_v48 val_main_cst_8 val_main_v47 val_main_v46 val_main_cst_7 val_main_v45
  have e_v43 := h1_apply x0 x1 x2 x3 x4 x5 x6
  generalize val_main_v43 (F := Ideal) x0 x1 x2 x3 x4 x5 x6 = Av43 at e_v43 ⊢
  have e_v62 := du_apply x8 x10
  generalize val_main_v62 (F := Ideal) x8 x10 = Av62 at e_v62 ⊢
  pointwise
  simp only [e_v43, e_v62]
  rw [Fin.sum_univ_one]
  unfold dg
  refine Finset.sum_congr rfl fun t _ => ?_
  rw [rms_host (hF x0 x1 x2 x3 x4 x5 x6 t)]
  unfold dgTerm
  rw [dif_pos t.isLt, mul_comm]

theorem da_apply (H : Reals x0 x1 x2 x3 x4 x5 x6 x7 x8 x9 x10) (t : Fin 4096) (k : Fin 512) :
    (val_main_v138 (F := Ideal) x0 x1 x2 x3 x4 x5 x6 x7 x8 x9 x10 : Vec Ideal S4096x512 .f32) (ix2 t k) = da (aF x1) (gaF x4) (dmF x0 x1 x2 x3 x4 x5 x6 x7 x8 x9 x10) t k := by
  unfold val_main_v138 val_main_v137 val_main_v136 val_main_v135 val_main_v134 val_main_v133 val_main_cst_25 val_main_v132 val_main_v131 val_main_cst_24 val_main_v130 val_main_v129 val_main_v128 val_main_v127 val_main_v126 val_main_cst_23 val_main_v125 val_main_v123 val_main_v122 val_main_v89 val_main_v15 val_main_v12 val_main_v11 val_main_cst_2 val_main_v10 val_main_v9 val_main_v8 val_main_v7 val_main_cst_1 val_main_v6 val_main_v5 val_main_cst_0 val_main_v4 val_main_v3 val_main_cst val_main_v2 val_main_v1
  have e_v88 := dmix_apply x0 x1 x2 x3 x4 x5 x6 x7 x8 x9 x10 H
  generalize val_main_v88 (F := Ideal) x0 x1 x2 x3 x4 x5 x6 x7 x8 x9 x10 = Av88 at e_v88 ⊢
  pointwise
  simp only [e_v88]
  rw [Fin.sum_univ_one, rms_host512 fun i => x1 (ix2 t i), n512_eq, neghalf_eq, div_real _ 512 (by norm_num), div_real _ 512 (by norm_num)]
  exact (normGrad_eq' (N := 512) (x := aF x1 t) (d := fun i => dmF x0 x1 x2 x3 x4 x5 x6 x7 x8 x9 x10 t (left i) * gaF x4 i) (by norm_num) (fun _ => H.r1 _)
    (fun _ => (H.dmix _ _).mul (H.r4 _)) k).symm

theorem dga_apply (H : Reals x0 x1 x2 x3 x4 x5 x6 x7 x8 x9 x10) (u : Fin 1) (k : Fin 512) :
    (val_main_v139 (F := Ideal) x0 x1 x2 x3 x4 x5 x6 x7 x8 x9 x10 : Vec Ideal S1x512 .f32) (ix2 u k) = dga (aF x1) (dmF x0 x1 x2 x3 x4 x5 x6 x7 x8 x9 x10) k := by
  unfold val_main_v139 val_main_v124 val_main_cst_22 val_main_v121 val_main_v120 val_main_cst_21 val_main_v119 val_main_v89 val_main_v14 val_main_v13 val_main_v9 val_main_v8 val_main_v7 val_main_cst_1 val_main_v6 val_main_v5 val_main_cst_0 val_main_v4 val_main_v3 val_main_cst val_main_v2
  have e_v88 := dmix_apply x0 x1 x2 x3 x4 x5 x6 x7 x8 x9 x10 H
  generalize val_main_v88 (F := Ideal) x0 x1 x2 x3 x4 x5 x6 x7 x8 x9 x10 = Av88 at e_v88 ⊢
  pointwise
  simp only [e_v88]
  rw [Fin.sum_univ_one]
  unfold dga
  refine Finset.sum_congr rfl fun t _ => ?_
  rw [rms_host512 fun i => x1 (ix2 t i)]
  unfold dgaTerm
  rw [dif_pos t.isLt, mul_comm]
  rfl

theorem dgh_apply (H : Reals x0 x1 x2 x3 x4 x5 x6 x7 x8 x9 x10) (u : Fin 1) (k : Fin 512) :
    (val_main_v117 (F := Ideal) x0 x1 x2 x3 x4 x5 x6 x7 x8 x9 x10 : Vec Ideal S1x512 .f32) (ix2 u k) = dgh (rF x2) (zF x3) (dmF x0 x1 x2 x3 x4 x5 x6 x7 x8 x9 x10) k := by
  unfold val_main_v117 val_main_v116 val_main_v101 val_main_cst_17 val_main_v98 val_main_v97 val_main_cst_16 val_main_v96 val_main_v93 val_main_v91 val_main_v90 val_main_v38_0 val_main_v38_2 val_main_call0_v4 val_main_call0_cst_0 val_main_call0_v3 val_main_call0_v2 val_main_call0_cst val_main_call0_v1 val_main_call0_v0 val_main_v37 val_main_v33 val_main_v32 val_main_v28 val_main_v27 val_main_v26 val_main_cst_5 val_main_v25 val_main_v24 val_main_cst_4 val_main_v23 val_main_v22 val_main_cst_3 val_main_v21 val_main_v18 val_main_v0
  have e_v88 := dmix_apply x0 x1 x2 x3 x4 x5 x6 x7 x8 x9 x10 H
  generalize val_main_v88 (F := Ideal) x0 x1 x2 x3 x4 x5 x6 x7 x8 x9 x10 = Av88 at e_v88 ⊢
  pointwise
  simp only [e_v88]
  rw [Fin.sum_univ_one]
  unfold dgh
  refine Finset.sum_congr rfl fun t _ => ?_
  rw [rms_host128 fun x => x2 (ix2 t ⟨k.val / 128 * 128 + x.val, by omega⟩)]
  unfold dghTerm
  rw [dif_pos t.isLt, mul_comm]
  rfl

theorem dr_apply (H : Reals x0 x1 x2 x3 x4 x5 x6 x7 x8 x9 x10) (t : Fin 4096) (k : Fin 512) :
    (val_main_v118 (F := Ideal) x0 x1 x2 x3 x4 x5 x6 x7 x8 x9 x10 : Vec Ideal S4096x512 .f32) (ix2 t k) = dr (rF x2) (zF x3) (ghF x5) (dmF x0 x1 x2 x3 x4 x5 x6 x7 x8 x9 x10) t k := by
  unfold val_main_v118 val_main_v115 val_main_v114 val_main_v113 val_main_v112 val_main_v111 val_main_v110 val_main_cst_20 val_main_v109 val_main_v108 val_main_cst_19 val_main_v107 val_main_v106 val_main_v105 val_main_v104 val_main_v103 val_main_cst_18 val_main_v102 val_main_v100 val_main_v99 val_main_v93 val_main_v91 val_main_v90 val_main_v38_0 val_main_v38_2 val_main_call0_v4 val_main_call0_cst_0 val_main_call0_v3 val_main_call0_v2 val_main_call0_cst val_main_call0_v1 val_main_call0_v0 val_main_v37 val_main_v34 val_main_v31 val_main_v30 val_main_cst_6 val_main_v29 val_main_v28 val_main_v27 val_main_v26 val_main_cst_5 val_main_v25 val_main_v24 val_main_cst_4 val_main_v23 val_main_v22 val_main_cst_3 val_main_v21 val_main_v20 val_main_v19 val_main_v18 val_main_v0
  have e_v88 := dmix_apply x0 x1 x2 x3 x4 x5 x6 x7 x8 x9 x10 H
  generalize val_main_v88 (F := Ideal) x0 x1 x2 x3 x4 x5 x6 x7 x8 x9 x10 = Av88 at e_v88 ⊢
  pointwise
  simp only [e_v88]
  rw [Fin.sum_univ_one, rms_host128 fun x => x2 (ix2 t ⟨k.val / 128 * 128 + x.val, by omega⟩), n128_eq, neghalf_eq, div_real _ 128 (by norm_num), div_real _ 128 (by norm_num)]
  have e := normGrad_eq' (N := 128) (x := head (rF x2 t) k) (d := head (fun i => dgated (zF x3) (dmF x0 x1 x2 x3 x4 x5 x6 x7 x8 x9 x10) t i * ghF x5 i) k) (by norm_num) (fun _ => H.r2 _)
    (fun _ => ((H.dmix _ _).mul ((H.r3 _).mul (sig_real (H.r3 _)))).mul (H.r5 _)) (headPlace k)
  unfold dr
  rw [e]
  unfold head
  rw [headCol_place]
  rfl

theorem dz_apply (H : Reals x0 x1 x2 x3 x4 x5 x6 x7 x8 x9 x10) (t : Fin 4096) (k : Fin 512) :
    (val_main_v140 (F := Ideal) x0 x1 x2 x3 x4 x5 x6 x7 x8 x9 x10 : Vec Ideal S4096x512 .bf16) (ix2 t k) = dz (rF x2) (zF x3) (ghF x5) (dmF x0 x1 x2 x3 x4 x5 x6 x7 x8 x9 x10) t k := by
  unfold val_main_v140 val_main_v95 val_main_v94 val_main_call1_v2 val_main_call1_v1 val_main_call1_v0 val_main_v92 val_main_v91 val_main_v90 val_main_v38_1 val_main_call0_v7 val_main_call0_v6 val_main_call0_cst_1 val_main_v38_2 val_main_call0_v4 val_main_call0_cst_0 val_main_call0_v3 val_main_call0_v2 val_main_call0_cst val_main_call0_v1 val_main_call0_v0 val_main_v37 val_main_v36 val_main_v35 val_main_v34 val_main_v33 val_main_v32 val_main_v28 val_main_v27 val_main_v26 val_main_cst_5 val_main_v25 val_main_v24 val_main_cst_4 val_main_v23 val_main_v22 val_main_cst_3 val_main_v21 val_main_v20 val_main_v19 val_main_v18 val_main_v0
  have e_v88 := dmix_apply x0 x1 x2 x3 x4 x5 x6 x7 x8 x9 x10 H
  generalize val_main_v88 (F := Ideal) x0 x1 x2 x3 x4 x5 x6 x7 x8 x9 x10 = Av88 at e_v88 ⊢
  pointwise
  simp only [e_v88]
  rw [rms_host128 fun x => x2 (ix2 t ⟨k.val / 128 * 128 + x.val, by omega⟩)]
  refine (gate_eq (u := recN (rF x2 t) k * ghF x5 k * dmF x0 x1 x2 x3 x4 x5 x6 x7 x8 x9 x10 t (right k)) (z := zF x3 t k)
    (((recN_real (fun _ => H.r2 _) k).mul (H.r5 _)).mul (H.dmix _ _)) (H.r3 _)).trans ?_
  unfold dz
  rw [mul_comm _ (dmF x0 x1 x2 x3 x4 x5 x6 x7 x8 x9 x10 t (right k)), ← mul_assoc (dmF x0 x1 x2 x3 x4 x5 x6 x7 x8 x9 x10 t (right k))]

theorem dw_apply (H : Reals x0 x1 x2 x3 x4 x5 x6 x7 x8 x9 x10) (k j : Fin 1024) :
    (val_main_v141 (F := Ideal) x0 x1 x2 x3 x4 x5 x6 x7 x8 x9 x10 : Vec Ideal S1024x1024 .bf16) (ix2 k j) = dw (mF x1 x2 x3 x4 x5) (dF x0 x1 x2 x3 x4 x5 x6 x7 x8 x9 x10) k j := by
  unfold val_main_v141 val_main_v87 val_main_v86 val_main_v85
  have e_v83 := dx_apply x0 x1 x2 x3 x4 x5 x6 x7 x8 x9 x10 H
  generalize val_main_v83 (F := Ideal) x0 x1 x2 x3 x4 x5 x6 x7 x8 x9 x10 = Av83 at e_v83 ⊢
  have e_v41 := mixed_apply x1 x2 x3 x4 x5
  generalize val_main_v41 (F := Ideal) x1 x2 x3 x4 x5 = Av41 at e_v41 ⊢
  pointwise
  simp only [e_v83, e_v41]
  unfold dw
  refine Finset.sum_congr rfl fun t _ => ?_
  unfold dwTerm
  rw [dif_pos t.isLt, mul_comm]

end Cert.Reference3Ideal.Up

end
-- ==== Proof.Up.Results.lean ====
/- The reference's results are the kernel's result arrays when the reference's arguments are the kernel's. -/
module

public import proofs.«01_k».proof.Proof.Up.Ref
public import proofs.«01_k».proof.Proof.Up.Global

@[expose] public section

noncomputable section

namespace Cert.Reference3Ideal.Up

open Cert.Reference3Ideal.Read Idealize.ShloMosaic Idealize.ShloMosaic.TcCoe Idealize.SL.Sem
open Cert.Kernel3Ideal.Up (dhOut dgOut daOut drOut dzOut gaOut ghOut dwOut)

variable (m : (ℓ : Loc Cert.Kernel3Ideal.nD Cert.Kernel3Ideal.τ Cert.Kernel3Ideal.sig) → Buf (Elt Ideal) ℓ) (c : Dev Cert.Kernel3Ideal.nD)

/-- An argument array of the kernel. -/
abbrev arg (b : Ref Cert.Kernel3Ideal.sig .tc) := m ((c.tc : Thread Cert.Kernel3Ideal.nD Cert.Kernel3Ideal.τ).loc b)

/-- Every entry of every argument of the kernel is a real number. -/
abbrev RealArgs : Prop := Reals (arg m c Cert.Kernel3Ideal.main_arg0) (arg m c Cert.Kernel3Ideal.main_arg1) (arg m c Cert.Kernel3Ideal.main_arg2) (arg m c Cert.Kernel3Ideal.main_arg3) (arg m c Cert.Kernel3Ideal.main_arg4) (arg m c Cert.Kernel3Ideal.main_arg5) (arg m c Cert.Kernel3Ideal.main_arg6) (arg m c Cert.Kernel3Ideal.main_arg7) (arg m c Cert.Kernel3Ideal.main_arg8) (arg m c Cert.Kernel3Ideal.main_arg9) (arg m c Cert.Kernel3Ideal.main_arg10)

/-- The arrays are the kernel's arguments. -/
def Same (b0 : Vec Ideal Cert.Reference3Ideal.S4096x1024 .f32) (b1 : Vec Ideal Cert.Reference3Ideal.S4096x512 .f32) (b2 : Vec Ideal Cert.Reference3Ideal.S4096x512 .f32) (b3 : Vec Ideal Cert.Reference3Ideal.S4096x2048 .f32) (b4 : Vec Ideal Cert.Reference3Ideal.S1x512 .f32) (b5 : Vec Ideal Cert.Reference3Ideal.S1x512 .f32) (b6 : Vec Ideal Cert.Reference3Ideal.S1024x1024 .f32) (b7 : Vec Ideal Cert.Reference3Ideal.S1x1024 .f32) (b8 : Vec Ideal Cert.Reference3Ideal.S1024x5632 .f32) (b9 : Vec Ideal Cert.Reference3Ideal.S4096x1024 .f32) (b10 : Vec Ideal Cert.Reference3Ideal.S4096x5632 .f32) : Prop :=
  b0 = arg m c Cert.Kernel3Ideal.main_arg0 ∧ b1 = arg m c Cert.Kernel3Ideal.main_arg1 ∧ b2 = arg m c Cert.Kernel3Ideal.main_arg2 ∧ b3 = arg m c Cert.Kernel3Ideal.main_arg3 ∧ b4 = arg m c Cert.Kernel3Ideal.main_arg4 ∧ b5 = arg m c Cert.Kernel3Ideal.main_arg5 ∧ b6 = arg m c Cert.Kernel3Ideal.main_arg6 ∧ b7 = arg m c Cert.Kernel3Ideal.main_arg7 ∧ b8 = arg m c Cert.Kernel3Ideal.main_arg8 ∧ b9 = arg m c Cert.Kernel3Ideal.main_arg9 ∧ b10 = arg m c Cert.Kernel3Ideal.main_arg10

variable {m c} {b0 : Vec Ideal Cert.Reference3Ideal.S4096x1024 .f32} {b1 : Vec Ideal Cert.Reference3Ideal.S4096x512 .f32} {b2 : Vec Ideal Cert.Reference3Ideal.S4096x512 .f32} {b3 : Vec Ideal Cert.Reference3Ideal.S4096x2048 .f32} {b4 : Vec Ideal Cert.Reference3Ideal.S1x512 .f32} {b5 : Vec Ideal Cert.Reference3Ideal.S1x512 .f32} {b6 : Vec Ideal Cert.Reference3Ideal.S1024x1024 .f32} {b7 : Vec Ideal Cert.Reference3Ideal.S1x1024 .f32} {b8 : Vec Ideal Cert.Reference3Ideal.S1024x5632 .f32} {b9 : Vec Ideal Cert.Reference3Ideal.S4096x1024 .f32} {b10 : Vec Ideal Cert.Reference3Ideal.S4096x5632 .f32} (E : Same m c b0 b1 b2 b3 b4 b5 b6 b7 b8 b9 b10)

include E

theorem result_dh (H : RealArgs m c) : val_main_v83 (F := Ideal) b0 b1 b2 b3 b4 b5 b6 b7 b8 b9 b10 = dhOut m c := by
  obtain ⟨rfl, rfl, rfl, rfl, rfl, rfl, rfl, rfl, rfl, rfl, rfl⟩ := E
  funext y
  rw [Cert.Kernel3Ideal.Up.ix2_eta y]
  exact dx_apply _ _ _ _ _ _ _ _ _ _ _ H _ _

theorem result_dg : val_main_v84 (F := Ideal) b0 b1 b2 b3 b4 b5 b6 b8 b10 = dgOut m c := by
  obtain ⟨rfl, rfl, rfl, rfl, rfl, rfl, rfl, rfl, rfl, rfl, rfl⟩ := E
  funext y
  rw [Cert.Kernel3Ideal.Up.ix2_eta y]
  exact dg_apply _ _ _ _ _ _ _ _ _ _ _

theorem result_da (H : RealArgs m c) : val_main_v138 (F := Ideal) b0 b1 b2 b3 b4 b5 b6 b7 b8 b9 b10 = daOut m c := by
  obtain ⟨rfl, rfl, rfl, rfl, rfl, rfl, rfl, rfl, rfl, rfl, rfl⟩ := E
  funext y
  rw [Cert.Kernel3Ideal.Up.ix2_eta y]
  exact da_apply _ _ _ _ _ _ _ _ _ _ _ H _ _

theorem result_dr (H : RealArgs m c) : val_main_v118 (F := Ideal) b0 b1 b2 b3 b4 b5 b6 b7 b8 b9 b10 = drOut m c := by
  obtain ⟨rfl, rfl, rfl, rfl, rfl, rfl, rfl, rfl, rfl, rfl, rfl⟩ := E
  funext y
  rw [Cert.Kernel3Ideal.Up.ix2_eta y]
  exact dr_apply _ _ _ _ _ _ _ _ _ _ _ H _ _

theorem result_dz (H : RealArgs m c) : val_main_v140 (F := Ideal) b0 b1 b2 b3 b4 b5 b6 b7 b8 b9 b10 = dzOut m c := by
  obtain ⟨rfl, rfl, rfl, rfl, rfl, rfl, rfl, rfl, rfl, rfl, rfl⟩ := E
  funext y
  rw [Cert.Kernel3Ideal.Up.ix2_eta y]
  exact dz_apply _ _ _ _ _ _ _ _ _ _ _ H _ _

theorem result_ga (H : RealArgs m c) : val_main_v139 (F := Ideal) b0 b1 b2 b3 b4 b5 b6 b7 b8 b9 b10 = gaOut m c := by
  obtain ⟨rfl, rfl, rfl, rfl, rfl, rfl, rfl, rfl, rfl, rfl, rfl⟩ := E
  funext y
  rw [Cert.Kernel3Ideal.Up.ix2_eta y]
  exact dga_apply _ _ _ _ _ _ _ _ _ _ _ H _ _

theorem result_gh (H : RealArgs m c) : val_main_v117 (F := Ideal) b0 b1 b2 b3 b4 b5 b6 b7 b8 b9 b10 = ghOut m c := by
  obtain ⟨rfl, rfl, rfl, rfl, rfl, rfl, rfl, rfl, rfl, rfl, rfl⟩ := E
  funext y
  rw [Cert.Kernel3Ideal.Up.ix2_eta y]
  exact dgh_apply _ _ _ _ _ _ _ _ _ _ _ H _ _

theorem result_dw (H : RealArgs m c) : val_main_v141 (F := Ideal) b0 b1 b2 b3 b4 b5 b6 b7 b8 b9 b10 = dwOut m c := by
  obtain ⟨rfl, rfl, rfl, rfl, rfl, rfl, rfl, rfl, rfl, rfl, rfl⟩ := E
  funext y
  rw [Cert.Kernel3Ideal.Up.ix2_eta y]
  exact dw_apply _ _ _ _ _ _ _ _ _ _ _ H _ _

end Cert.Reference3Ideal.Up

end
-- ==== Proof.Up.Pre.lean ====
/- The third precondition read back: every entry of every argument is a real number. -/
module

public import proofs.«01_k».proof.Defs
public import proofs.«01_k».proof.Proof.Gen.Pre_finite3
public import proofs.«01_k».proof.Proof.Mlp.Pre
public import proofs.«01_k».proof.Proof.Up.Ref

@[expose] public section

noncomputable section

namespace Cert.Up

open Idealize.ShloMosaic Cert.Pre_finite3 Cert.Mlp

theorem real_of_finite3 (a0 : FVec Ideal S4096x1024 .f32) (a1 : FVec Ideal S4096x512 .f32) (a2 : FVec Ideal S4096x512 .f32) (a3 : FVec Ideal S4096x2048 .f32)
    (a4 : FVec Ideal S1x512 .f32) (a5 : FVec Ideal S1x512 .f32) (a6 : FVec Ideal S1024x1024 .f32) (a7 : FVec Ideal S1x1024 .f32) (a8 : FVec Ideal S1024x5632 .f32)
    (a9 : FVec Ideal S4096x1024 .f32) (a10 : FVec Ideal S4096x5632 .f32) [Facts]
    (h : fn (F := Ideal) a0 a1 a2 a3 a4 a5 a6 a7 a8 a9 a10 = fun _ => 1#1) :
    Cert.Reference3Ideal.Up.Reals a0 a1 a2 a3 a4 a5 a6 a7 a8 a9 a10 := by
  have h' := congrFun h (fun i => i.elim0)
  unfold fn fn_part1 fn_part2 fn_part3 at h'
  obtain ⟨h', e10⟩ := IntOp.andi_eq_one.mp h'
  obtain ⟨h', e9⟩ := IntOp.andi_eq_one.mp h'
  obtain ⟨h', e8⟩ := IntOp.andi_eq_one.mp h'
  obtain ⟨h', e7⟩ := IntOp.andi_eq_one.mp h'
  obtain ⟨h', e6⟩ := IntOp.andi_eq_one.mp h'
  obtain ⟨h', e5⟩ := IntOp.andi_eq_one.mp h'
  obtain ⟨h', e4⟩ := IntOp.andi_eq_one.mp h'
  obtain ⟨h', e3⟩ := IntOp.andi_eq_one.mp h'
  obtain ⟨h', e2⟩ := IntOp.andi_eq_one.mp h'
  obtain ⟨e0, e1⟩ := IntOp.andi_eq_one.mp h'
  exact ⟨real_of_all a0 _ _ _ _ e0, real_of_all a1 _ _ _ _ e1, real_of_all a2 _ _ _ _ e2, real_of_all a3 _ _ _ _ e3, real_of_all a4 _ _ _ _ e4,
    real_of_all a5 _ _ _ _ e5, real_of_all a6 _ _ _ _ e6, real_of_all a7 _ _ _ _ e7, real_of_all a8 _ _ _ _ e8, real_of_all a9 _ _ _ _ e9,
    real_of_all a10 _ _ _ _ e10⟩

end Cert.Up

end
-- ==== Proof.Pack.Spec.lean ====
/- The packed array of the small gradients, and the gradient of the lower bound's logits: the softmax of two rows and its first row's derivative. -/
module

public import proofs.«01_k».proof.Proof.Up.Spec

@[expose] public section

noncomputable section

namespace Cert.Pack

open Idealize.ShloMosaic Cert.Mlp Cert.Norm

/-- Rows of 128 entries: the gradients row by row, the two rows of the logits' gradient among them, the loss, and rows of zero. -/
def packed (g1 : Fin 1024 → EReal) (ga gh : Fin 512 → EReal) (dl : Fin 2 → Fin 512 → EReal) (g2 : Fin 1024 → EReal) (cb : Fin 2816 → EReal)
    (gf : Fin 1024 → EReal) (cw : Fin 3 → Fin 2816 → EReal) (loss : Fin 128 → EReal) (i : Fin 136) (k : Fin 128) : EReal :=
  if _ : i.val < 8 then g1 ⟨i.val * 128 + k.val, by omega⟩
  else if _ : i.val - 8 < 4 then ga ⟨(i.val - 8) * 128 + k.val, by omega⟩
  else if _ : i.val - 8 - 4 < 4 then gh ⟨(i.val - 8 - 4) * 128 + k.val, by omega⟩
  else if _ : i.val - 8 - 4 - 4 < 8 then dl ⟨(i.val - 8 - 4 - 4) / 4, by omega⟩ ⟨(i.val - 8 - 4 - 4) % 4 * 128 + k.val, by omega⟩
  else if _ : i.val - 8 - 4 - 4 - 8 < 8 then g2 ⟨(i.val - 8 - 4 - 4 - 8) * 128 + k.val, by omega⟩
  else if _ : i.val - 8 - 4 - 4 - 8 - 8 < 22 then cb ⟨(i.val - 8 - 4 - 4 - 8 - 8) * 128 + k.val, by omega⟩
  else if _ : i.val - 8 - 4 - 4 - 8 - 8 - 22 < 8 then gf ⟨(i.val - 8 - 4 - 4 - 8 - 8 - 22) * 128 + k.val, by omega⟩
  else if _ : i.val - 8 - 4 - 4 - 8 - 8 - 22 - 8 < 66 then
    cw ⟨(i.val - 8 - 4 - 4 - 8 - 8 - 22 - 8) / 22, by omega⟩ ⟨(i.val - 8 - 4 - 4 - 8 - 8 - 22 - 8) % 22 * 128 + k.val, by omega⟩
  else if _ : i.val - 8 - 4 - 4 - 8 - 8 - 22 - 8 - 66 < 1 then loss k
  else 0

/-- The greatest of the two logits, taken from minus infinity. -/
def top (l : Fin 2 → EReal) : EReal :=
  max (Ideal.ofBits .f32 0xFF800000#32) (Finset.fold max (Ideal.ofBits .f32 0xFF800000#32) l Finset.univ)

/-- One logit's exponential, the greatest subtracted. -/
def ex (l : Fin 2 → EReal) (i : Fin 2) : EReal := Ideal.exp (l i - top l)

/-- The lower bound: the first entry of the two logits' softmax. -/
def bound (l : Fin 2 → EReal) : EReal := Ideal.div (ex l 0) (∑ x, ex l x)

/-- The gradient of the two logits of one lower bound with cotangent `d`. -/
def boundGrad (l : Fin 2 → EReal) (d : EReal) (i : Fin 2) : EReal :=
  if i.val = 0 then d * bound l * (1 - bound l) else -(d * bound l * (1 - bound l))

theorem bot_eq : Ideal.ofBits .f32 0xFF800000#32 = ⊥ := by simp [Ideal.ofBits, Ideal.ieee]

theorem top_real (l : Fin 2 → EReal) (h : ∀ i, IsReal (l i)) : IsReal (top l) := by
  have e : top l = max (l 0) (l 1) := by
    unfold top
    rw [bot_eq, show (Finset.univ : Finset (Fin 2)) = insert 0 {1} from rfl, Finset.fold_insert (by decide), Finset.fold_singleton]
    simp
  rw [e]
  rcases max_choice (l 0) (l 1) with e | e <;> rw [e]
  · exact h 0
  · exact h 1

theorem ex_real (l : Fin 2 → EReal) (h : ∀ i, IsReal (l i)) (i : Fin 2) : ∃ r : ℝ, 0 < r ∧ ex l i = (r : EReal) := by
  obtain ⟨M, hM⟩ := top_real l h
  obtain ⟨a, ha⟩ := h i
  exact ⟨Real.exp (a - M), Real.exp_pos _, by unfold ex; rw [hM, ha, ← EReal.coe_sub, Ideal.exp_coe]⟩

/-- The softmax's derivative, row by row as differentiation writes it, is the lower bound's closed form. -/
theorem grad_eq (l : Fin 2 → EReal) (h : ∀ i, IsReal (l i)) (d : EReal) (hd : IsReal d) (i : Fin 2) :
    (Ideal.div (if i.val = 0 then d else 0) (∑ x, ex l x) +
      ∑ _x : Fin 1, -(∑ x : Fin 2, (if x.val = 0 then d else 0) * Ideal.div 1 ((∑ x, ex l x) * ∑ x, ex l x) * ex l x)) * ex l i = boundGrad l d i := by
  obtain ⟨a, ha, ea⟩ := ex_real l h 0
  obtain ⟨b, hb, eb⟩ := ex_real l h 1
  obtain ⟨r, rfl⟩ := hd
  have hs : a + b ≠ 0 := by positivity
  have hss : (a + b) * (a + b) ≠ 0 := by positivity
  unfold boundGrad bound
  simp only [Fin.sum_univ_two, ea, eb, ← EReal.coe_add, ← EReal.coe_mul, div_real _ _ hs, div_real _ _ hss, Finset.univ_unique, Finset.sum_singleton, Fin.val_zero,
    Fin.val_one, if_true, one_ne_zero, if_false, zero_mul, add_zero, one_mul, ← EReal.coe_neg]
  match i with
  | 0 =>
    simp only [Fin.val_zero, if_true, ea, ← EReal.coe_add, ← EReal.coe_mul, ← EReal.coe_one, ← EReal.coe_sub, ← EReal.coe_neg]
    refine congrArg _ ?_
    field_simp
    ring
  | 1 =>
    simp only [Fin.val_one, one_ne_zero, if_false, zero_mul, zero_add, eb, ← EReal.coe_add, ← EReal.coe_mul, ← EReal.coe_one, ← EReal.coe_sub, ← EReal.coe_neg]
    refine congrArg _ ?_
    field_simp
    ring

end Cert.Pack

end
-- ==== Proof.Pack.Case.lean ====
/- The packing kernel's stores, read back: 129 rows of 128 entries over a fill of zeros. -/
module

public import proofs.«01_k».proof.Proof.Gen.Kernel4Ideal.Value
public import proofs.«01_k».proof.Proof.Pack.Spec
public import Idealize.ShloMosaic.Lib.Pointwise
public import Idealize.ShloMosaic.Lib.Pipeline.Value
public import Idealize.ShloMosaic.Lib.Pipeline.CanonAppend
public import Idealize.ShloMosaic.Lib.Pipeline.ReadBack

@[expose] public section

set_option maxRecDepth 16384

noncomputable section

namespace Cert.Kernel4Ideal.Pack

open Cert.Kernel4Ideal Cert.Kernel4Ideal.Gen Idealize.ShloMosaic Idealize.ShloMosaic.TcCoe Idealize.SL.Sem
open Cert.Pack

/-- Stores that are blocks of `G` over one fill: `G` where a store lies. -/
theorem canon_stored {s : Shape} {e : EltTy} (G : s.Idx → Elt Ideal e) (L : List (View.Piece (Elt Ideal) s e)) (y : s.Idx)
    (hc : ∃ p ∈ L.dropLast, y ∈ p.1.set) (h : View.PiecesOf G L.dropLast) : View.canon L y = G y := by
  have hne : L ≠ [] := by rintro rfl; obtain ⟨p, hp, -⟩ := hc; simp at hp
  rw [← List.dropLast_append_getLast hne]
  exact View.canon_append_of_piecesOf G _ _ h y hc

/-- A stored rectangle's embedding is the same rectangle's read index. -/
theorem emb_eq_idx {s : Shape} (off size : Fin s.rank → ℕ) (inb : ∀ a, off a + size a ≤ s.size a) (x : (Rect.unit (s := s) off size inb).shape.Idx) :
    (Rect.unit (s := s) off size inb).emb x = (Rect.unit (s := s) off size inb).toLoadRect.idx x := rfl

/-- The two rows of the logits' gradient, from the lower bound's row `p` and its cotangent's `d`. -/
def rowGrad (d p : Vec Ideal S1x512 .f32) (r : Fin 2) (j : Fin 512) : EReal :=
  if r.val = 0 then d (ix2 0 j) * p (ix2 0 j) * (1 - p (ix2 0 j)) else 0 - d (ix2 0 j) * p (ix2 0 j) * (1 - p (ix2 0 j))

variable (c : Dev nD) (arg0 : Memref sig .tc .vmem S1x1024 .f32) (harg0 : arg0.IsWhole) (arg1 : Memref sig .tc .vmem S1x512 .f32) (harg1 : arg1.IsWhole) (arg2 : Memref sig .tc .vmem S1x512 .f32) (harg2 : arg2.IsWhole) (arg3 : Memref sig .tc .vmem S1x1024 .f32) (harg3 : arg3.IsWhole) (arg4 : Memref sig .tc .vmem S1x2816 .f32) (harg4 : arg4.IsWhole) (arg5 : Memref sig .tc .vmem S1x1024 .f32) (harg5 : arg5.IsWhole) (arg6 : Memref sig .tc .vmem S3x2816 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x128 .f32) (harg9 : arg9.IsWhole) (arg10 : Memref sig .tc .vmem S136x128 .f32) (harg10 : arg10.IsWhole)
    (x0 : Vec Ideal S1x1024 .f32) (x1 : Vec Ideal S1x512 .f32) (x2 : Vec Ideal S1x512 .f32) (x3 : Vec Ideal S1x1024 .f32) (x4 : Vec Ideal S1x2816 .f32) (x5 : Vec Ideal S1x1024 .f32) (x6 : Vec Ideal S3x2816 .f32) (x7 : Vec Ideal S1x512 .f32) (x8 : Vec Ideal S1x512 .f32) (x9 : Vec Ideal S1x128 .f32)

/-- The packed array of the blocks. -/
abbrev blk : S136x128.Idx → EReal := fun y =>
  packed (fun j => x0 (ix2 0 j)) (fun j => x1 (ix2 0 j)) (fun j => x2 (ix2 0 j)) (rowGrad x7 x8) (fun j => x3 (ix2 0 j)) (fun j => x4 (ix2 0 j))
    (fun j => x5 (ix2 0 j)) (fun r j => x6 (ix2 r j)) (fun j => x9 (ix2 0 j)) (y 0) (y 1)

section Rows

variable (i : Fin 136) (k : Fin 128)

theorem row_0 (j : Fin 1024) (h : 0 ≤ i.val) (h' : i.val < 8) (hj : j.val = (i.val - 0) * 128 + k.val) :
    blk x0 x1 x2 x3 x4 x5 x6 x7 x8 x9 (ix2 i k) = x0 (ix2 0 j) := by
  change packed _ _ _ _ _ _ _ _ _ i k = _
  unfold packed
  rw [dif_pos (by omega)]
  exact congrArg _ (congrArg _ (Fin.ext (by dsimp only; omega)))

theorem row_1 (j : Fin 512) (h : 8 ≤ i.val) (h' : i.val < 12) (hj : j.val = (i.val - 8) * 128 + k.val) :
    blk x0 x1 x2 x3 x4 x5 x6 x7 x8 x9 (ix2 i k) = x1 (ix2 0 j) := by
  change packed _ _ _ _ _ _ _ _ _ i k = _
  unfold packed
  rw [dif_neg (by omega)]; rw [dif_pos (by omega)]
  exact congrArg _ (congrArg _ (Fin.ext (by dsimp only; omega)))

theorem row_2 (j : Fin 512) (h : 12 ≤ i.val) (h' : i.val < 16) (hj : j.val = (i.val - 12) * 128 + k.val) :
    blk x0 x1 x2 x3 x4 x5 x6 x7 x8 x9 (ix2 i k) = x2 (ix2 0 j) := by
  change packed _ _ _ _ _ _ _ _ _ i k = _
  unfold packed
  rw [dif_neg (by omega)]; rw [dif_neg (by omega)]; rw [dif_pos (by omega)]
  exact congrArg _ (congrArg _ (Fin.ext (by dsimp only; omega)))

theorem row_3 (j : Fin 1024) (h : 24 ≤ i.val) (h' : i.val < 32) (hj : j.val = (i.val - 24) * 128 + k.val) :
    blk x0 x1 x2 x3 x4 x5 x6 x7 x8 x9 (ix2 i k) = x3 (ix2 0 j) := by
  change packed _ _ _ _ _ _ _ _ _ i k = _
  unfold packed
  rw [dif_neg (by omega)]; rw [dif_neg (by omega)]; rw [dif_neg (by omega)]; rw [dif_neg (by omega)]; rw [dif_pos (by omega)]
  exact congrArg _ (congrArg _ (Fin.ext (by dsimp only; omega)))

theorem row_4 (j : Fin 2816) (h : 32 ≤ i.val) (h' : i.val < 54) (hj : j.val = (i.val - 32) * 128 + k.val) :
    blk x0 x1 x2 x3 x4 x5 x6 x7 x8 x9 (ix2 i k) = x4 (ix2 0 j) := by
  change packed _ _ _ _ _ _ _ _ _ i k = _
  unfold packed
  rw [dif_neg (by omega)]; rw [dif_neg (by omega)]; rw [dif_neg (by omega)]; rw [dif_neg (by omega)]; rw [dif_neg (by omega)]; rw [dif_pos (by omega)]
  exact congrArg _ (congrArg _ (Fin.ext (by dsimp only; omega)))

theorem row_5 (j : Fin 1024) (h : 54 ≤ i.val) (h' : i.val < 62) (hj : j.val = (i.val - 54) * 128 + k.val) :
    blk x0 x1 x2 x3 x4 x5 x6 x7 x8 x9 (ix2 i k) = x5 (ix2 0 j) := by
  change packed _ _ _ _ _ _ _ _ _ i k = _
  unfold packed
  rw [dif_neg (by omega)]; rw [dif_neg (by omega)]; rw [dif_neg (by omega)]; rw [dif_neg (by omega)]; rw [dif_neg (by omega)]; rw [dif_neg (by omega)]; rw [dif_pos (by omega)]
  exact congrArg _ (congrArg _ (Fin.ext (by dsimp only; omega)))

theorem row_7 (j : Fin 512) (h : 16 ≤ i.val) (h' : i.val < 20) (hj : j.val = (i.val - 16) * 128 + k.val) :
    blk x0 x1 x2 x3 x4 x5 x6 x7 x8 x9 (ix2 i k) = x7 (ix2 0 j) * x8 (ix2 0 j) * (1 - x8 (ix2 0 j)) := by
  change packed _ _ _ _ _ _ _ _ _ i k = _
  unfold packed
  rw [dif_neg (by omega)]; rw [dif_neg (by omega)]; rw [dif_neg (by omega)]; rw [dif_pos (by omega)]
  have e : ∀ (r : Fin 2) (q : Fin 512), r = 0 → q = j → rowGrad x7 x8 r q = x7 (ix2 0 j) * x8 (ix2 0 j) * (1 - x8 (ix2 0 j)) := by
    rintro _ _ rfl rfl; rfl
  exact e _ _ (Fin.ext (by simp only [Fin.val_zero]; omega)) (Fin.ext (by dsimp only; omega))

theorem row_8 (j : Fin 512) (h : 20 ≤ i.val) (h' : i.val < 24) (hj : j.val = (i.val - 20) * 128 + k.val) :
    blk x0 x1 x2 x3 x4 x5 x6 x7 x8 x9 (ix2 i k) = 0 - x7 (ix2 0 j) * x8 (ix2 0 j) * (1 - x8 (ix2 0 j)) := by
  change packed _ _ _ _ _ _ _ _ _ i k = _
  unfold packed
  rw [dif_neg (by omega)]; rw [dif_neg (by omega)]; rw [dif_neg (by omega)]; rw [dif_pos (by omega)]
  have e : ∀ (r : Fin 2) (q : Fin 512), r = 1 → q = j → rowGrad x7 x8 r q = 0 - x7 (ix2 0 j) * x8 (ix2 0 j) * (1 - x8 (ix2 0 j)) := by
    rintro _ _ rfl rfl; rfl
  exact e _ _ (Fin.ext (by simp only [Fin.val_one]; omega)) (Fin.ext (by dsimp only; omega))

theorem row_6 (r : Fin 3) (j : Fin 2816) (h : 62 ≤ i.val) (h' : i.val < 128) (hr : r.val = (i.val - 62) / 22) (hj : j.val = (i.val - 62) % 22 * 128 + k.val) :
    blk x0 x1 x2 x3 x4 x5 x6 x7 x8 x9 (ix2 i k) = x6 (ix2 r j) := by
  change packed _ _ _ _ _ _ _ _ _ i k = _
  unfold packed
  rw [dif_neg (by omega)]; rw [dif_neg (by omega)]; rw [dif_neg (by omega)]; rw [dif_neg (by omega)]; rw [dif_neg (by omega)]; rw [dif_neg (by omega)]; rw [dif_neg (by omega)]; rw [dif_pos (by omega)]
  exact congrArg x6 (congrArg₂ ix2 (Fin.ext (by dsimp only; omega)) (Fin.ext (by dsimp only; omega)))

theorem row_9 (h : i.val = 128) : blk x0 x1 x2 x3 x4 x5 x6 x7 x8 x9 (ix2 i k) = x9 (ix2 0 k) := by
  change packed _ _ _ _ _ _ _ _ _ i k = _
  unfold packed
  rw [dif_neg (by omega)]; rw [dif_neg (by omega)]; rw [dif_neg (by omega)]; rw [dif_neg (by omega)]; rw [dif_neg (by omega)]; rw [dif_neg (by omega)]; rw [dif_neg (by omega)]; rw [dif_neg (by omega)]; rw [dif_pos (by omega)]

theorem row_zero (h : 128 < i.val) : blk x0 x1 x2 x3 x4 x5 x6 x7 x8 x9 (ix2 i k) = 0 := by
  change packed _ _ _ _ _ _ _ _ _ i k = _
  unfold packed
  rw [dif_neg (by omega)]; rw [dif_neg (by omega)]; rw [dif_neg (by omega)]; rw [dif_neg (by omega)]; rw [dif_neg (by omega)]; rw [dif_neg (by omega)]; rw [dif_neg (by omega)]; rw [dif_neg (by omega)]; rw [dif_neg (by omega)]

end Rows

set_option maxHeartbeats 4000000 in
include c arg0 harg0 arg1 harg1 arg2 harg2 arg3 harg3 arg4 harg4 arg5 harg5 arg6 harg6 arg7 harg7 arg8 harg8 arg9 harg9 arg10 harg10 in
/-- Each store but the fill is a row of the packed array. -/
theorem pieces : View.PiecesOf (blk x0 x1 x2 x3 x4 x5 x6 x7 x8 x9) (kernelRun0_A c arg0 harg0 arg1 harg1 arg2 harg2 arg3 harg3 arg4 harg4 arg5 harg5 arg6 harg6 arg7 harg7 arg8 harg8 arg9 harg9 arg10 harg10 x0 x1 x2 x3 x4 x5 x6 x7 x8 x9).1.dropLast := by
  unfold kernelRun0_A
  dsimp only
  sl_unfold_words
  simp (disch := decide) only [↓View.readCov_skip, ↓View.readCov_fill, View.readAt_eq_ld, harg0.read_unread, harg1.read_unread, harg2.read_unread, harg3.read_unread, harg4.read_unread, harg5.read_unread, harg6.read_unread, harg7.read_unread, harg8.read_unread, harg9.read_unread,
    List.dropLast_cons₂, List.dropLast_singleton]
  generalize hG : blk x0 x1 x2 x3 x4 x5 x6 x7 x8 x9 = G
  simp only [View.PiecesOf, and_true]
  repeat' apply And.intro
  all_goals
    (intro y
     change S1x128.Idx at y
     idx_vars y
     rw [emb_eq_idx]
     unfold_payloads
     pointwise [View.ld_unit]
     rw [← hG]
     first
      | exact (row_0 x0 x1 x2 x3 x4 x5 x6 x7 x8 x9 _ _ _ (by decide) (by decide) (by first | rfl | exact (Nat.zero_add _).symm)).symm
      | exact (row_1 x0 x1 x2 x3 x4 x5 x6 x7 x8 x9 _ _ _ (by decide) (by decide) (by first | rfl | exact (Nat.zero_add _).symm)).symm
      | exact (row_2 x0 x1 x2 x3 x4 x5 x6 x7 x8 x9 _ _ _ (by decide) (by decide) (by first | rfl | exact (Nat.zero_add _).symm)).symm
      | exact (row_3 x0 x1 x2 x3 x4 x5 x6 x7 x8 x9 _ _ _ (by decide) (by decide) (by first | rfl | exact (Nat.zero_add _).symm)).symm
      | exact (row_4 x0 x1 x2 x3 x4 x5 x6 x7 x8 x9 _ _ _ (by decide) (by decide) (by first | rfl | exact (Nat.zero_add _).symm)).symm
      | exact (row_5 x0 x1 x2 x3 x4 x5 x6 x7 x8 x9 _ _ _ (by decide) (by decide) (by first | rfl | exact (Nat.zero_add _).symm)).symm
      | exact (row_6 x0 x1 x2 x3 x4 x5 x6 x7 x8 x9 _ _ _ _ (by decide) (by decide) (by decide) (by first | rfl | exact (Nat.zero_add _).symm)).symm
      | exact (row_7 x0 x1 x2 x3 x4 x5 x6 x7 x8 x9 _ _ _ (by decide) (by decide) (by first | rfl | exact (Nat.zero_add _).symm)).symm
      | exact (row_8 x0 x1 x2 x3 x4 x5 x6 x7 x8 x9 _ _ _ (by decide) (by decide) (by first | rfl | exact (Nat.zero_add _).symm)).symm
      | exact (row_9 x0 x1 x2 x3 x4 x5 x6 x7 x8 x9 _ _ (by decide)).symm)

/-- Rows past the stored ones. -/
def rest : List (View.Piece (Elt Ideal) S136x128 .f32) :=
  List.ofFn fun q : Fin 7 => ⟨Rect.unit (s := S136x128) ![129 + q.val, 0] ![1, 128] (fun a => match a with
    | ⟨0, _⟩ => by show 129 + q.val + 1 ≤ 136; omega
    | ⟨1, _⟩ => by show 0 + 128 ≤ 128; omega), fun _ => (0 : EReal)⟩

theorem rest_rows (p : View.Piece (Elt Ideal) S136x128 .f32) (hp : p ∈ rest) (y : S136x128.Idx) (hy : y ∈ p.1.set) : 129 ≤ (y 0).val := by
  unfold rest at hp
  obtain ⟨q, rfl⟩ := (List.mem_ofFn).mp hp
  have h := hy
  dsimp only at h
  rw [Rect.mem_set_unit] at h
  exact le_trans (Nat.le_add_right 129 q.val) (h 0).1

set_option maxHeartbeats 1000000 in
include c arg0 harg0 arg1 harg1 arg2 harg2 arg3 harg3 arg4 harg4 arg5 harg5 arg6 harg6 arg7 harg7 arg8 harg8 arg9 harg9 arg10 harg10 in
/-- Every row before the last seven is stored. -/
theorem covered (y : S136x128.Idx) (h : (y 0).val < 129) : ∃ p ∈ (kernelRun0_A c arg0 harg0 arg1 harg1 arg2 harg2 arg3 harg3 arg4 harg4 arg5 harg5 arg6 harg6 arg7 harg7 arg8 harg8 arg9 harg9 arg10 harg10 x0 x1 x2 x3 x4 x5 x6 x7 x8 x9).1.dropLast, y ∈ p.1.set := by
  obtain ⟨p, hp, hy⟩ := View.cover_of_tiledBy (rest ++ (kernelRun0_A c arg0 harg0 arg1 harg1 arg2 harg2 arg3 harg3 arg4 harg4 arg5 harg5 arg6 harg6 arg7 harg7 arg8 harg8 arg9 harg9 arg10 harg10 x0 x1 x2 x3 x4 x5 x6 x7 x8 x9).1.dropLast) ![1, 128] (by sl_kernel_rfl) y
  rcases List.mem_append.mp hp with hp | hp
  · exact absurd (rest_rows p hp y hy) (by omega)
  · exact ⟨p, hp, hy⟩

/-- Off every store over one fill of the whole buffer the fill remains. -/
theorem canon_unstored {s : Shape} {e : EltTy} (L : List (View.Piece (Elt Ideal) s e)) (f : View.Piece (Elt Ideal) s e) (y : s.Idx)
    (hc : ¬ ∃ p ∈ L, y ∈ p.1.set) : View.canon (L ++ [f]) y = View.canon [f] y := by
  induction L with
  | nil => rfl
  | cons p L ih =>
    rw [List.cons_append, View.canon_cons_of_not_mem p _ (fun h => hc ⟨p, List.mem_cons_self, h⟩)]
    exact ih fun ⟨q, hq, hy⟩ => hc ⟨q, List.mem_cons_of_mem _ hq, hy⟩

set_option maxHeartbeats 1000000 in
include c arg0 harg0 arg1 harg1 arg2 harg2 arg3 harg3 arg4 harg4 arg5 harg5 arg6 harg6 arg7 harg7 arg8 harg8 arg9 harg9 arg10 harg10 in
/-- The fill is zero. -/
theorem fill (y : S136x128.Idx) (hc : ¬ ∃ p ∈ (kernelRun0_A c arg0 harg0 arg1 harg1 arg2 harg2 arg3 harg3 arg4 harg4 arg5 harg5 arg6 harg6 arg7 harg7 arg8 harg8 arg9 harg9 arg10 harg10 x0 x1 x2 x3 x4 x5 x6 x7 x8 x9).1.dropLast, y ∈ p.1.set) : View.canon (kernelRun0_A c arg0 harg0 arg1 harg1 arg2 harg2 arg3 harg3 arg4 harg4 arg5 harg5 arg6 harg6 arg7 harg7 arg8 harg8 arg9 harg9 arg10 harg10 x0 x1 x2 x3 x4 x5 x6 x7 x8 x9).1 y = 0 := by
  have e : (kernelRun0_A c arg0 harg0 arg1 harg1 arg2 harg2 arg3 harg3 arg4 harg4 arg5 harg5 arg6 harg6 arg7 harg7 arg8 harg8 arg9 harg9 arg10 harg10 x0 x1 x2 x3 x4 x5 x6 x7 x8 x9).1 =
      (kernelRun0_A c arg0 harg0 arg1 harg1 arg2 harg2 arg3 harg3 arg4 harg4 arg5 harg5 arg6 harg6 arg7 harg7 arg8 harg8 arg9 harg9 arg10 harg10 x0 x1 x2 x3 x4 x5 x6 x7 x8 x9).1.dropLast ++ [⟨Rect.unit (s := S136x128) ![0, 0] ![136, 128] inb_S136x128_S136x128_0_0, k0_pay1 (F := Ideal)⟩] := by
    sl_kernel_rfl
  rw [e, canon_unstored _ _ _ hc, View.canon_cons_unit_lit _ _ _ (by decide)]
  exact Ideal.ofBits_zero_f32

include c arg0 harg0 arg1 harg1 arg2 harg2 arg3 harg3 arg4 harg4 arg5 harg5 arg6 harg6 arg7 harg7 arg8 harg8 arg9 harg9 arg10 harg10 in
/-- The kernel leaves the packed array. -/
theorem out_eq : out0_A_10 c arg0 harg0 arg1 harg1 arg2 harg2 arg3 harg3 arg4 harg4 arg5 harg5 arg6 harg6 arg7 harg7 arg8 harg8 arg9 harg9 arg10 harg10 x0 x1 x2 x3 x4 x5 x6 x7 x8 x9 = blk x0 x1 x2 x3 x4 x5 x6 x7 x8 x9 := by
  funext y
  unfold out0_A_10
  rw [View.read_writes_eq_canon _ _ _ (cover0_A_10 c arg0 harg0 arg1 harg1 arg2 harg2 arg3 harg3 arg4 harg4 arg5 harg5 arg6 harg6 arg7 harg7 arg8 harg8 arg9 harg9 arg10 harg10 x0 x1 x2 x3 x4 x5 x6 x7 x8 x9)]
  by_cases hc : ∃ p ∈ (kernelRun0_A c arg0 harg0 arg1 harg1 arg2 harg2 arg3 harg3 arg4 harg4 arg5 harg5 arg6 harg6 arg7 harg7 arg8 harg8 arg9 harg9 arg10 harg10 x0 x1 x2 x3 x4 x5 x6 x7 x8 x9).1.dropLast, y ∈ p.1.set
  · exact canon_stored _ _ y hc (pieces c arg0 harg0 arg1 harg1 arg2 harg2 arg3 harg3 arg4 harg4 arg5 harg5 arg6 harg6 arg7 harg7 arg8 harg8 arg9 harg9 arg10 harg10 x0 x1 x2 x3 x4 x5 x6 x7 x8 x9)
  · rw [fill c arg0 harg0 arg1 harg1 arg2 harg2 arg3 harg3 arg4 harg4 arg5 harg5 arg6 harg6 arg7 harg7 arg8 harg8 arg9 harg9 arg10 harg10 x0 x1 x2 x3 x4 x5 x6 x7 x8 x9 y hc]
    have hy : ¬ (y 0).val < 129 := fun h => hc (covered c arg0 harg0 arg1 harg1 arg2 harg2 arg3 harg3 arg4 harg4 arg5 harg5 arg6 harg6 arg7 harg7 arg8 harg8 arg9 harg9 arg10 harg10 x0 x1 x2 x3 x4 x5 x6 x7 x8 x9 y h)
    have e : y = ix2 (y 0) (y 1) := funext fun a => match a with | ⟨0, _⟩ => rfl | ⟨1, _⟩ => rfl
    rw [e]
    exact (row_zero x0 x1 x2 x3 x4 x5 x6 x7 x8 x9 _ _ (by omega)).symm

end Cert.Kernel4Ideal.Pack

end
-- ==== Proof.Pack.Final.lean ====
/- What the packing kernel reads, whole arguments and the lower bound's row, and the array it leaves. -/
module

public import proofs.«01_k».proof.Proof.Pack.Case

@[expose] public section

set_option maxRecDepth 16384

noncomputable section

namespace Cert.Kernel4Ideal.Pack

open Cert.Kernel4Ideal Cert.Kernel4Ideal.Gen Idealize.ShloMosaic Idealize.ShloMosaic.TcCoe Idealize.SL.Sem
open Cert.Pack

variable (m : (ℓ : Loc nD τ sig) → Buf (Elt Ideal) ℓ) (c : Dev nD)

/-- The logits of one lower bound. -/
abbrev logits (j : Fin 512) : Fin 2 → EReal := fun x => (m ((c : Thread nD τ).loc main_arg0) : Vec Ideal S2x512 .f32) (ix2 x j)

set_option maxHeartbeats 1000000

/-- The row the host hands over is the lower bound. -/
theorem V_lb (j : Fin 512) : (V m c main_v11 : Vec Ideal S1x512 .f32) (ix2 0 j) = bound (logits m c j) := by
  unfold V
  simp only [hostOps0, List.flatten_cons, List.flatten_nil, List.append_nil, List.cons_append, List.nil_append,
    StableHlo.TRef.nullary, StableHlo.TRef.unary, StableHlo.TRef.binary, StableHlo.TRef.toBuf, StableHlo.TRef.ofBuf, cast_eq]
  after_results
  pointwise
  unfold bound ex top
  rfl

theorem in_0 : (iblk m c 0 t0_0 : Vec Ideal S1x1024 .f32) = m ((c : Thread nD τ).loc main_arg1) := by
  have hz : (fun a => win0_0.index t0_0 a * main_arg1.ty.shape.size a) = fun _ => 0 := funext fun a => by fin_cases a <;> decide
  exact Memref.read_access_unit_zero (Elt Ideal) main_arg1 hz (fun a => by rw [congrFun hz a]; simp) (V m c main_arg1)

theorem in_1 : (iblk m c 1 t0_0 : Vec Ideal S1x512 .f32) = m ((c : Thread nD τ).loc main_arg2) := by
  have hz : (fun a => win0_1.index t0_0 a * main_arg2.ty.shape.size a) = fun _ => 0 := funext fun a => by fin_cases a <;> decide
  exact Memref.read_access_unit_zero (Elt Ideal) main_arg2 hz (fun a => by rw [congrFun hz a]; simp) (V m c main_arg2)

theorem in_2 : (iblk m c 2 t0_0 : Vec Ideal S1x512 .f32) = m ((c : Thread nD τ).loc main_arg3) := by
  have hz : (fun a => win0_2.index t0_0 a * main_arg3.ty.shape.size a) = fun _ => 0 := funext fun a => by fin_cases a <;> decide
  exact Memref.read_access_unit_zero (Elt Ideal) main_arg3 hz (fun a => by rw [congrFun hz a]; simp) (V m c main_arg3)

theorem in_3 : (iblk m c 3 t0_0 : Vec Ideal S1x1024 .f32) = m ((c : Thread nD τ).loc main_arg4) := by
  have hz : (fun a => win0_3.index t0_0 a * main_arg4.ty.shape.size a) = fun _ => 0 := funext fun a => by fin_cases a <;> decide
  exact Memref.read_access_unit_zero (Elt Ideal) main_arg4 hz (fun a => by rw [congrFun hz a]; simp) (V m c main_arg4)

theorem in_4 : (iblk m c 4 t0_0 : Vec Ideal S1x2816 .f32) = m ((c : Thread nD τ).loc main_arg5) := by
  have hz : (fun a => win0_4.index t0_0 a * main_arg5.ty.shape.size a) = fun _ => 0 := funext fun a => by fin_cases a <;> decide
  exact Memref.read_access_unit_zero (Elt Ideal) main_arg5 hz (fun a => by rw [congrFun hz a]; simp) (V m c main_arg5)

theorem in_5 : (iblk m c 5 t0_0 : Vec Ideal S1x1024 .f32) = m ((c : Thread nD τ).loc main_arg6) := by
  have hz : (fun a => win0_5.index t0_0 a * main_arg6.ty.shape.size a) = fun _ => 0 := funext fun a => by fin_cases a <;> decide
  exact Memref.read_access_unit_zero (Elt Ideal) main_arg6 hz (fun a => by rw [congrFun hz a]; simp) (V m c main_arg6)

theorem in_6 : (iblk m c 6 t0_0 : Vec Ideal S3x2816 .f32) = m ((c : Thread nD τ).loc main_arg7) := by
  have hz : (fun a => win0_6.index t0_0 a * main_arg7.ty.shape.size a) = fun _ => 0 := funext fun a => by fin_cases a <;> decide
  exact Memref.read_access_unit_zero (Elt Ideal) main_arg7 hz (fun a => by rw [congrFun hz a]; simp) (V m c main_arg7)

theorem in_7 : (iblk m c 7 t0_0 : Vec Ideal S1x512 .f32) = m ((c : Thread nD τ).loc main_arg8) := by
  have hz : (fun a => win0_7.index t0_0 a * main_arg8.ty.shape.size a) = fun _ => 0 := funext fun a => by fin_cases a <;> decide
  exact Memref.read_access_unit_zero (Elt Ideal) main_arg8 hz (fun a => by rw [congrFun hz a]; simp) (V m c main_arg8)

theorem in_8 : (iblk m c 8 t0_0 : Vec Ideal S1x512 .f32) = V m c main_v11 := by
  have hz : (fun a => win0_8.index t0_0 a * main_v11.ty.shape.size a) = fun _ => 0 := funext fun a => by fin_cases a <;> decide
  exact Memref.read_access_unit_zero (Elt Ideal) main_v11 hz (fun a => by rw [congrFun hz a]; simp) (V m c main_v11)

theorem in_9 : (iblk m c 9 t0_0 : Vec Ideal S1x128 .f32) = m ((c : Thread nD τ).loc main_arg9) := by
  have hz : (fun a => win0_9.index t0_0 a * main_arg9.ty.shape.size a) = fun _ => 0 := funext fun a => by fin_cases a <;> decide
  exact Memref.read_access_unit_zero (Elt Ideal) main_arg9 hz (fun a => by rw [congrFun hz a]; simp) (V m c main_arg9)

/-- The kernel's result: the packed array of its arguments, the logits' gradient among them. -/
def packOut : Vec Ideal S136x128 .f32 := fun y =>
  packed (fun j => (m ((c : Thread nD τ).loc main_arg1) : Vec Ideal S1x1024 .f32) (ix2 0 j)) (fun j => (m ((c : Thread nD τ).loc main_arg2) : Vec Ideal S1x512 .f32) (ix2 0 j))
    (fun j => (m ((c : Thread nD τ).loc main_arg3) : Vec Ideal S1x512 .f32) (ix2 0 j))
    (fun r j => boundGrad (logits m c j) ((m ((c : Thread nD τ).loc main_arg8) : Vec Ideal S1x512 .f32) (ix2 0 j)) r)
    (fun j => (m ((c : Thread nD τ).loc main_arg4) : Vec Ideal S1x1024 .f32) (ix2 0 j)) (fun j => (m ((c : Thread nD τ).loc main_arg5) : Vec Ideal S1x2816 .f32) (ix2 0 j))
    (fun j => (m ((c : Thread nD τ).loc main_arg6) : Vec Ideal S1x1024 .f32) (ix2 0 j)) (fun r j => (m ((c : Thread nD τ).loc main_arg7) : Vec Ideal S3x2816 .f32) (ix2 r j))
    (fun j => (m ((c : Thread nD τ).loc main_arg9) : Vec Ideal S1x128 .f32) (ix2 0 j)) (y 0) (y 1)

/-- The two rows the kernel writes for the logits are their gradient. -/
theorem rows_eq (d p : Vec Ideal S1x512 .f32) (l : Fin 512 → Fin 2 → EReal) (h : ∀ j, p (ix2 0 j) = bound (l j)) :
    rowGrad d p = fun r j => boundGrad (l j) (d (ix2 0 j)) r := by
  funext r j
  unfold rowGrad boundGrad
  rw [h j, sub_eq_add_neg 0, zero_add]

theorem outs : (outsAt0 m c t0_0 : Vec Ideal S136x128 .f32) = packOut m c := by
  unfold outsAt0
  rw [out_eq, in_0, in_1, in_2, in_3, in_4, in_5, in_6, in_7, in_8, in_9]
  unfold packOut
  funext y
  rw [← rows_eq _ (V m c main_v11) (logits m c) (V_lb m c)]

theorem flushed_pack (t : Fin cfg0.N) : (dats m 0 c).flushed 10 t = ((cfg0.win 10).blk t).view.read (Elt Ideal) (packOut m c) := by
  obtain rfl := fin_N0 t
  show (cfg0.win 10).cut (grid0.coords t0_0) ((dats m 0 c).after 10 t0_0) = _
  rw [after0_10, outs]
  have hz : (fun a => win0_10.index t0_0 a * main_v12.ty.shape.size a) = fun _ => 0 := funext fun a => by fin_cases a <;> decide
  exact (Memref.read_access_unit_zero (Elt Ideal) main_v12 hz (fun a => by rw [congrFun hz a]; simp) (packOut m c)).symm

theorem final_pack : (dats m 0 c).arrAt 10 cfg0.N = packOut m c :=
  (dats m 0 c).arrAt_eq_of_cover 10 (packOut m c) (fun t _ => flushed_pack m c t) fun i => ⟨t0_0, flush0_10 t0_0, by
    show i ∈ ((View.whole main_v12).slice (win0_10.rect t0_0)).set
    rw [View.set_slice_whole, Rect.mem_set_unit]
    intro a
    match a with
    | ⟨0, _⟩ =>
      have h : (i 0 : Nat) < 136 := (i 0).isLt
      show win0_10.index t0_0 0 * 136 ≤ (i 0 : Nat) ∧ (i 0 : Nat) < win0_10.index t0_0 0 * 136 + win0_10.xsize (grid0.coords t0_0) 0
      rw [show win0_10.index t0_0 0 = 0 from by decide +kernel, show win0_10.xsize (grid0.coords t0_0) 0 = 136 from by decide +kernel]; omega
    | ⟨1, _⟩ =>
      have h : (i 1 : Nat) < 128 := (i 1).isLt
      show win0_10.index t0_0 1 * 128 ≤ (i 1 : Nat) ∧ (i 1 : Nat) < win0_10.index t0_0 1 * 128 + win0_10.xsize (grid0.coords t0_0) 1
      rw [show win0_10.index t0_0 1 = 0 from by decide +kernel, show win0_10.xsize (grid0.coords t0_0) 1 = 128 from by decide +kernel]; omega⟩

end Cert.Kernel4Ideal.Pack

end
-- ==== Proof.Pack.Ref.lean ====
/- The reference of the packing call, read at an index: the rows of the packed array, and the gradient of the lower bound's logits. -/
module

public import proofs.«01_k».proof.Proof.Gen.Reference4Ideal.Read
public import proofs.«01_k».proof.Proof.Pack.Spec
public import Idealize.ShloMosaic.Lib.Pointwise

@[expose] public section

set_option maxRecDepth 16384

noncomputable section

namespace Cert.Reference4Ideal.Pack

open Cert.Reference4Ideal Cert.Reference4Ideal.Gen Cert.Reference4Ideal.Read Idealize.ShloMosaic Idealize.ShloMosaic.TcCoe Idealize.SL.Sem
open Cert.Mlp Cert.Norm Cert.Up Cert.Pack

variable (l : (⟨S2x512, .f32⟩ : BufTy).Contents (Elt Ideal)) (d : (⟨S1x512, .f32⟩ : BufTy).Contents (Elt Ideal))

/-- The cotangent with a row of zeros below. -/
theorem pad_apply (i : Fin 2) (k : Fin 512) :
    (val_main_v33 (F := Ideal) d : Vec Ideal S2x512 .f32) (ix2 i k) = if i.val = 0 then (d : Vec Ideal S1x512 .f32) (ix2 0 k) else 0 := by
  unfold val_main_v33 val_main_v32 val_main_v31
  pointwise
  match i with
  | 0 => rfl
  | 1 => exact Ideal.ofBits_zero_f32

/-- The padded cotangent summed from its end: the cotangent in the first row. -/
theorem cot_apply (i : Fin 2) (k : Fin 512) :
    (val_main_v34 (F := Ideal) d : Vec Ideal S2x512 .f32) (ix2 i k) = if i.val = 0 then (d : Vec Ideal S1x512 .f32) (ix2 0 k) else 0 := by
  unfold val_main_v34
  simp only [Host.reduceWindowAdd, Ideal.hostReduceWindowAdd_def]
  unfold Ideal.hostReduceWindowAdd Host.reduceWindow
  have hl : List.finRange (⟨S2x512.rank, ![2, 1]⟩ : Shape).numel = [⟨0, by decide⟩, ⟨1, by decide⟩] := by decide
  dsimp only
  rw [hl]
  simp only [List.foldl_cons, List.foldl_nil]
  have e0 : ∀ a, ((⟨S2x512.rank, ![2, 1]⟩ : Shape).rowMajor.symm ⟨0, by decide⟩ a).val = 0 := by decide
  have e1 : ∀ a, ((⟨S2x512.rank, ![2, 1]⟩ : Shape).rowMajor.symm ⟨1, by decide⟩ a).val = ![1, 0] a := by decide
  simp only [e0, e1]
  have z : ∀ j, (val_main_call1_call0_v0 (F := Ideal) : Vec Ideal S_ .f32) j = 0 := fun j => by
    rw [val_main_call1_call0_v0_apply, val_main_call1_call0_cst_apply]
    exact Ideal.ofBits_zero_f32
  simp only [z]
  have p := pad_apply d
  generalize val_main_v33 (F := Ideal) d = A at p ⊢
  match i with
  | 0 =>
    rw [dif_pos, dif_pos]
    · refine (congrArg₂ (fun a b => 0 + a + b) ((congrArg A (?_ : _ = ix2 0 k)).trans (p 0 k)) ((congrArg A (?_ : _ = ix2 1 k)).trans (p 1 k))).trans ?_
      · exact funext fun a => match a with
          | ⟨0, _⟩ => rfl
          | ⟨1, _⟩ => Fin.ext (by show k.val * 1 + 0 - 0 = k.val; omega)
      · exact funext fun a => match a with
          | ⟨0, _⟩ => rfl
          | ⟨1, _⟩ => Fin.ext (by show k.val * 1 + 0 - 0 = k.val; omega)
      · simp
    · exact fun a => match a with
        | ⟨0, _⟩ => ⟨Nat.zero_le _, by show 0 * 1 + 1 - 0 < 2; decide⟩
        | ⟨1, _⟩ => ⟨Nat.zero_le _, by show k.val * 1 + 0 - 0 < 512; omega⟩
    · exact fun a => match a with
        | ⟨0, _⟩ => ⟨Nat.zero_le _, by show 0 * 1 + 0 - 0 < 2; decide⟩
        | ⟨1, _⟩ => ⟨Nat.zero_le _, by show k.val * 1 + 0 - 0 < 512; omega⟩
  | 1 =>
    rw [dif_pos, dif_neg]
    · refine (congrArg (fun a => 0 + a + 0) ((congrArg A (?_ : _ = ix2 1 k)).trans (p 1 k))).trans ?_
      · exact funext fun a => match a with
          | ⟨0, _⟩ => rfl
          | ⟨1, _⟩ => Fin.ext (by show k.val * 1 + 0 - 0 = k.val; omega)
      · simp
    · exact fun h => absurd (h ⟨0, by decide⟩).2 (by show ¬ (1 * 1 + 1 - 0 < 2); decide)
    · exact fun a => match a with
        | ⟨0, _⟩ => ⟨Nat.zero_le _, by show 1 * 1 + 0 - 0 < 2; decide⟩
        | ⟨1, _⟩ => ⟨Nat.zero_le _, by show k.val * 1 + 0 - 0 < 512; omega⟩

/-- The gradient of the logits: the lower bound's closed form. -/
theorem lb_apply (hl : ∀ j, IsReal (l j)) (hd : ∀ j, IsReal (d j)) (i : Fin 2) (k : Fin 512) :
    (val_main_v46 (F := Ideal) l d : Vec Ideal S2x512 .f32) (ix2 i k) =
      boundGrad (fun x => (l : Vec Ideal S2x512 .f32) (ix2 x k)) ((d : Vec Ideal S1x512 .f32) (ix2 0 k)) i := by
  have e34 := cot_apply d
  unfold val_main_v46 val_main_v45 val_main_v44 val_main_v43 val_main_v42 val_main_v41 val_main_v40 val_main_v39 val_main_v38 val_main_v37 val_main_v36 val_main_v35 val_main_v27 val_main_v26 val_main_v25 val_main_v22 val_main_v21 val_main_v20 val_main_v19 val_main_v18 val_main_v17 val_main_v7 val_main_v6 val_main_v0
  generalize val_main_v34 (F := Ideal) d = A34 at e34 ⊢
  pointwise
  simp only [e34]
  rw [← grad_eq _ (fun x => hl _) _ (hd _)]
  have z7 : ∀ j, (val_main_cst_7 (F := Ideal) : Vec Ideal S_ .f32) j = 0 := fun j => Ideal.ofBits_zero_f32
  have z10 : ∀ j, (val_main_cst_10 (F := Ideal) : Vec Ideal S_ .f32) j = 0 := fun j => Ideal.ofBits_zero_f32
  have z11 : ∀ j, (val_main_cst_11 (F := Ideal) : Vec Ideal S_ .f32) j = 0 := fun j => Ideal.ofBits_zero_f32
  have z8 : ∀ j, (val_main_cst_8 (F := Ideal) : Vec Ideal S_ .f32) j = 1 := fun j => one_eq
  simp only [z7, z10, z11, z8, zero_add]
  rfl

variable (x1 : (⟨S1x1024, .f32⟩ : BufTy).Contents (Elt Ideal)) (x2 x3 : (⟨S1x512, .f32⟩ : BufTy).Contents (Elt Ideal)) (x4 : (⟨S1x1024, .f32⟩ : BufTy).Contents (Elt Ideal)) (x5 : (⟨S1x2816, .f32⟩ : BufTy).Contents (Elt Ideal)) (x6 : (⟨S1x1024, .f32⟩ : BufTy).Contents (Elt Ideal)) (x7 : (⟨S3x2816, .f32⟩ : BufTy).Contents (Elt Ideal)) (x9 : (⟨S1x128, .f32⟩ : BufTy).Contents (Elt Ideal))

/-- The reference's packed array. -/
theorem packed_apply (hl : ∀ j, IsReal (l j)) (hd : ∀ j, IsReal (d j)) (i : Fin 136) (k : Fin 128) :
    (val_main_v56 (F := Ideal) l x1 x2 x3 x4 x5 x6 x7 d x9 : Vec Ideal S136x128 .f32) (ix2 i k) =
      packed (fun j => x1 (ix2 0 j)) (fun j => x2 (ix2 0 j)) (fun j => x3 (ix2 0 j)) (fun r j => boundGrad (fun x => l (ix2 x j)) (d (ix2 0 j)) r)
        (fun j => x4 (ix2 0 j)) (fun j => x5 (ix2 0 j)) (fun j => x6 (ix2 0 j)) (fun r j => x7 (ix2 r j)) (fun j => x9 (ix2 0 j)) i k := by
  have e46 := lb_apply l d hl hd
  unfold val_main_v56 val_main_v47 val_main_v48 val_main_v49 val_main_v50 val_main_v51 val_main_v52 val_main_v53 val_main_v54 val_main_v55
  generalize val_main_v46 (F := Ideal) l d = A46 at e46 ⊢
  pointwise
  have z12 : ∀ j, (val_main_cst_12 (F := Ideal) : Vec Ideal S_ .f32) j = 0 := fun j => Ideal.ofBits_zero_f32
  simp only [e46, z12]
  unfold packed
  have e9 : ∀ r : Fin 1, r = 0 := fun r => Subsingleton.elim _ _
  simp only [e9]

end Cert.Reference4Ideal.Pack

end
-- ==== Proof.Pack.Results.lean ====
/- The fourth precondition read back: the logits and the lower bound's cotangent are real numbers; and the reference's result is then the kernel's array. -/
module

public import proofs.«01_k».proof.Defs
public import proofs.«01_k».proof.Proof.Gen.Pre_finite4
public import proofs.«01_k».proof.Proof.Mlp.Pre
public import proofs.«01_k».proof.Proof.Pack.Ref
public import proofs.«01_k».proof.Proof.Pack.Final

@[expose] public section

noncomputable section

namespace Cert.Pack

open Idealize.ShloMosaic Cert.Pre_finite4 Cert.Mlp Cert.Norm

theorem real_of_finite4 (a0 : FVec Ideal S2x512 .f32) (a1 : FVec Ideal S1x1024 .f32) (a2 a3 : FVec Ideal S1x512 .f32) (a4 : FVec Ideal S1x1024 .f32)
    (a5 : FVec Ideal S1x2816 .f32) (a6 : FVec Ideal S1x1024 .f32) (a7 : FVec Ideal S3x2816 .f32) (a8 : FVec Ideal S1x512 .f32) (a9 : FVec Ideal S1x128 .f32) [Facts]
    (h : fn (F := Ideal) a0 a1 a2 a3 a4 a5 a6 a7 a8 a9 = fun _ => 1#1) : (∀ j, IsReal (a0 j)) ∧ ∀ j, IsReal (a8 j) := by
  have h' := congrFun h (fun i => i.elim0)
  unfold fn at h'
  obtain ⟨e0, e8⟩ := IntOp.andi_eq_one.mp h'
  exact ⟨real_of_all a0 _ _ _ _ e0, real_of_all a8 _ _ _ _ e8⟩

end Cert.Pack

namespace Cert.Reference4Ideal.Pack

open Cert.Reference4Ideal Cert.Reference4Ideal.Read Idealize.ShloMosaic Idealize.ShloMosaic.TcCoe Idealize.SL.Sem
open Cert.Kernel4Ideal.Pack (packOut)
open Cert.Mlp Cert.Norm

variable (m : (ℓ : Loc Cert.Kernel4Ideal.nD Cert.Kernel4Ideal.τ Cert.Kernel4Ideal.sig) → Buf (Elt Ideal) ℓ) (c : Dev Cert.Kernel4Ideal.nD)

/-- An argument array of the kernel. -/
abbrev arg (b : Ref Cert.Kernel4Ideal.sig .tc) := m ((c.tc : Thread Cert.Kernel4Ideal.nD Cert.Kernel4Ideal.τ).loc b)

theorem result_pack (b0 : Vec Ideal S2x512 .f32) (b1 : Vec Ideal S1x1024 .f32) (b2 b3 : Vec Ideal S1x512 .f32) (b4 : Vec Ideal S1x1024 .f32) (b5 : Vec Ideal S1x2816 .f32)
    (b6 : Vec Ideal S1x1024 .f32) (b7 : Vec Ideal S3x2816 .f32) (b8 : Vec Ideal S1x512 .f32) (b9 : Vec Ideal S1x128 .f32)
    (e : b0 = arg m c Cert.Kernel4Ideal.main_arg0 ∧ b1 = arg m c Cert.Kernel4Ideal.main_arg1 ∧ b2 = arg m c Cert.Kernel4Ideal.main_arg2 ∧ b3 = arg m c Cert.Kernel4Ideal.main_arg3 ∧ b4 = arg m c Cert.Kernel4Ideal.main_arg4 ∧ b5 = arg m c Cert.Kernel4Ideal.main_arg5 ∧ b6 = arg m c Cert.Kernel4Ideal.main_arg6 ∧ b7 = arg m c Cert.Kernel4Ideal.main_arg7 ∧ b8 = arg m c Cert.Kernel4Ideal.main_arg8 ∧ b9 = arg m c Cert.Kernel4Ideal.main_arg9)
    (H : (∀ j, IsReal ((arg m c Cert.Kernel4Ideal.main_arg0 : Vec Ideal S2x512 .f32) j)) ∧ ∀ j, IsReal ((arg m c Cert.Kernel4Ideal.main_arg8 : Vec Ideal S1x512 .f32) j)) :
    val_main_v56 (F := Ideal) b0 b1 b2 b3 b4 b5 b6 b7 b8 b9 = packOut m c := by
  obtain ⟨rfl, rfl, rfl, rfl, rfl, rfl, rfl, rfl, rfl, rfl⟩ := e
  funext y
  have e : y = ix2 (y 0) (y 1) := funext fun a => match a with | ⟨0, _⟩ => rfl | ⟨1, _⟩ => rfl
  rw [e]
  exact packed_apply _ _ _ _ _ _ _ _ _ _ H.1 H.2 _ _

end Cert.Reference4Ideal.Pack

end
-- ==== Proof.Fwd.Spec.lean ====
/- The forward lines from the mixers' outputs to the up projection, written entry by entry: the second norm's scaled rows and the two halves of the up projection's columns.
   The joined rows and the residual are the ones of the backward kernel. -/
module

public import proofs.«01_k».proof.Proof.Up.Spec

@[expose] public section

set_option maxRecDepth 16384

noncomputable section

namespace Cert.Fwd

open Idealize.ShloMosaic Cert.Mlp Cert.Norm Cert.Up

variable (H : Fin 4096 → Fin 1024 → EReal) (G : Fin 1024 → EReal) (W : Fin 1024 → Fin 5632 → EReal)

/-- The second norm's scaled rows. -/
def scaled (t : Fin 4096) (k : Fin 1024) : EReal := H t k * rms 1024 (H t) * G k

/-- The up projection. -/
def up (t : Fin 4096) (j : Fin 5632) : EReal := ∑ k, scaled H G t k * W k j

/-- Its first half, the gate, and its second half, the value. -/
def gate (t : Fin 4096) (j : Fin 2816) : EReal := up H G W t ⟨j.val, by omega⟩
def val (t : Fin 4096) (j : Fin 2816) : EReal := up H G W t ⟨2816 + j.val, by omega⟩

end Cert.Fwd

end
-- ==== Proof.Fwd.Block.lean ====
/- One grid point's results in the terms of the whole problem: if the point's blocks hold rows `256 b …` of the arrays, its results are the same rows of the specification. -/
module

public import proofs.«01_k».proof.Proof.Gen.Kernel5Ideal.Skeleton
public import Idealize.ShloMosaic.Lib.Pointwise
public import Idealize.ShloMosaic.Lib.Pipeline.Value
public import proofs.«01_k».proof.Proof.Fwd.Spec
public import proofs.«01_k».proof.Proof.Up.Block

@[expose] public section

set_option maxRecDepth 16384

noncomputable section

namespace Cert.Kernel5Ideal.Fwd

open Cert.Kernel5Ideal Cert.Kernel5Ideal.Gen Idealize.ShloMosaic Idealize.ShloMosaic.TcCoe Idealize.SL.Sem
open Cert.Mlp Cert.Norm Cert.Up Cert.Fwd
open Cert.In (rms_kernel)
open Cert.Kernel3Ideal.Up (by_head)

/-- The four column blocks of the up projection the body reads, one after the other in each half. -/
def gateL (w : Vec Ideal S1024x5632 .bf16) : Vec Ideal S1024x1536 .bf16 := View.ld w (Rect.unit (s := S1024x5632) ![0, 0] S1024x1536.size inb_S1024x5632_S1024x1536_0_0)
def gateR (w : Vec Ideal S1024x5632 .bf16) : Vec Ideal S1024x1280 .bf16 := View.ld w (Rect.unit (s := S1024x5632) ![0, 1536] S1024x1280.size inb_S1024x5632_S1024x1280_0_1536)
def valL (w : Vec Ideal S1024x5632 .bf16) : Vec Ideal S1024x1536 .bf16 := View.ld w (Rect.unit (s := S1024x5632) ![0, 2816] S1024x1536.size inb_S1024x5632_S1024x1536_0_2816)
def valR (w : Vec Ideal S1024x5632 .bf16) : Vec Ideal S1024x1280 .bf16 := View.ld w (Rect.unit (s := S1024x5632) ![0, 4352] S1024x1280.size inb_S1024x5632_S1024x1280_0_4352)

theorem gateL_at (w : Vec Ideal S1024x5632 .bf16) (k : Fin 1024) (j : Fin 1536) : gateL w (ix2 k j) = w (ix2 k ⟨j.val, by omega⟩) := by
  unfold gateL
  pointwise [View.ld_unit]
theorem gateR_at (w : Vec Ideal S1024x5632 .bf16) (k : Fin 1024) (j : Fin 1280) : gateR w (ix2 k j) = w (ix2 k ⟨1536 + j.val, by omega⟩) := by
  unfold gateR
  pointwise [View.ld_unit]
theorem valL_at (w : Vec Ideal S1024x5632 .bf16) (k : Fin 1024) (j : Fin 1536) : valL w (ix2 k j) = w (ix2 k ⟨2816 + j.val, by omega⟩) := by
  unfold valL
  pointwise [View.ld_unit]
theorem valR_at (w : Vec Ideal S1024x5632 .bf16) (k : Fin 1024) (j : Fin 1280) : valR w (ix2 k j) = w (ix2 k ⟨4352 + j.val, by omega⟩) := by
  unfold valR
  pointwise [View.ld_unit]

section
variable (x0 x1 x2 : Vec Ideal S256x512 .f32) (x3 : Vec Ideal S256x1024 .f32) (x4 x5 : Vec Ideal S1x512 .f32) (x6 : Vec Ideal S1024x1024 .bf16) (x7 : Vec Ideal S1x1024 .f32)
  (w : Vec Ideal S1024x5632 .bf16)

/-- The point's joined rows, residual, scaled rows and the four column blocks of their projection. -/
abbrev bMixed := k0_pay9 (k0_pay6 x0 x4) x2 x1 (k0_pay7 x1) (k0_pay8 x1) x5
abbrev bH := k0_pay10 (bMixed x0 x1 x2 x4 x5) x3 x6
abbrev bU := k0_pay11 (bMixed x0 x1 x2 x4 x5) x3 x6 x7
abbrev bGateL := k0_pay13 (bMixed x0 x1 x2 x4 x5) x3 x6 x7 (gateL w)
abbrev bValL := k0_pay14 (bMixed x0 x1 x2 x4 x5) x3 x6 x7 (valL w)
abbrev bGateR := k0_pay24 (bU x0 x1 x2 x3 x4 x5 x6 x7) (gateR w)
abbrev bValR := k0_pay25 (bU x0 x1 x2 x3 x4 x5 x6 x7) (valR w)
end

variable {X : Fin 4096 → Fin 1024 → EReal} {A R Z : Fin 4096 → Fin 512 → EReal} {GA GH : Fin 512 → EReal} {WO : Fin 1024 → Fin 1024 → EReal}
  {G : Fin 1024 → EReal} {W : Fin 1024 → Fin 5632 → EReal} {b : ℕ}
  {x0 x1 x2 : Vec Ideal S256x512 .f32} {x3 : Vec Ideal S256x1024 .f32} {x4 x5 : Vec Ideal S1x512 .f32} {x6 : Vec Ideal S1024x1024 .bf16} {x7 : Vec Ideal S1x1024 .f32}

/-- The blocks hold rows `256 b …` of the arrays. -/
structure Holds (X : Fin 4096 → Fin 1024 → EReal) (A R Z : Fin 4096 → Fin 512 → EReal) (GA GH : Fin 512 → EReal) (WO : Fin 1024 → Fin 1024 → EReal)
    (G : Fin 1024 → EReal) (b : ℕ) (x0 x1 x2 : Vec Ideal S256x512 .f32) (x3 : Vec Ideal S256x1024 .f32) (x4 x5 : Vec Ideal S1x512 .f32)
    (x6 : Vec Ideal S1024x1024 .bf16) (x7 : Vec Ideal S1x1024 .f32) : Prop where
  lt : b < 16
  ha : ∀ (r : Fin 256) (k : Fin 512), x0 (ix2 r k) = A ⟨b * 256 + r.val, by omega⟩ k
  hr : ∀ (r : Fin 256) (k : Fin 512), x1 (ix2 r k) = R ⟨b * 256 + r.val, by omega⟩ k
  hz : ∀ (r : Fin 256) (k : Fin 512), x2 (ix2 r k) = Z ⟨b * 256 + r.val, by omega⟩ k
  hx : ∀ (r : Fin 256) (k : Fin 1024), x3 (ix2 r k) = X ⟨b * 256 + r.val, by omega⟩ k
  hga : ∀ k : Fin 512, x4 (ix2 0 k) = GA k
  hgh : ∀ k : Fin 512, x5 (ix2 0 k) = GH k
  hwo : ∀ j k : Fin 1024, x6 (ix2 j k) = WO j k
  hg : ∀ k : Fin 1024, x7 (ix2 0 k) = G k

section
variable (B : Holds X A R Z GA GH WO G b x0 x1 x2 x3 x4 x5 x6 x7)
include B

theorem Holds.row (r : Fin 256) : b * 256 + r.val < 4096 := by
  have := B.lt
  omega

/-- The block's joined rows. -/
theorem Holds.mixed_eq (r : Fin 256) (k : Fin 1024) : bMixed x0 x1 x2 x4 x5 (ix2 r k) = mixed A R Z GA GH ⟨b * 256 + r.val, B.row r⟩ k := by
  unfold bMixed
  unfold_payloads
  pointwise
  simp only [B.ha, B.hr, B.hz, B.hga, B.hgh]
  show _ = mixedRow (A ⟨b * 256 + r.val, B.row r⟩) (R ⟨b * 256 + r.val, B.row r⟩) (Z ⟨b * 256 + r.val, B.row r⟩) GA GH k
  unfold mixedRow
  split
  · rw [rms_kernel512 (A ⟨b * 256 + r.val, B.row r⟩)]
  · next h =>
    rw [zero_sub]
    refine congrArg (fun s => R ⟨b * 256 + r.val, B.row r⟩ ⟨k.val - 512, by omega⟩ * s * GH ⟨k.val - 512, by omega⟩ *
      (Z ⟨b * 256 + r.val, B.row r⟩ ⟨k.val - 512, by omega⟩ * Cert.Up.sig (Z ⟨b * 256 + r.val, B.row r⟩ ⟨k.val - 512, by omega⟩))) ?_
    refine (by_head (R ⟨b * 256 + r.val, B.row r⟩) (fun y => Ideal.rsqrt ((∑ i, y i * y i) * Ideal.ofBits FTy.f32 1006632960#32 + Ideal.ofBits FTy.f32 897988541#32))
      ⟨k.val - 512, by omega⟩).trans ?_
    exact rms_kernel128 _

/-- The block's rows of the residual. -/
theorem Holds.h_eq (r : Fin 256) (k : Fin 1024) : bH x0 x1 x2 x3 x4 x5 x6 (ix2 r k) = h1 X A R Z GA GH WO ⟨b * 256 + r.val, B.row r⟩ k := by
  have e := B.mixed_eq
  unfold bH k0_pay10
  generalize bMixed x0 x1 x2 x4 x5 = d at e ⊢
  pointwise
  simp only [e, B.hx, B.hwo]
  rfl

/-- The block's rows of the second norm's scaled output. -/
theorem Holds.u_eq (r : Fin 256) (k : Fin 1024) :
    bU x0 x1 x2 x3 x4 x5 x6 x7 (ix2 r k) = scaled (h1 X A R Z GA GH WO) G ⟨b * 256 + r.val, B.row r⟩ k := by
  have e := B.h_eq
  unfold bH at e
  unfold bU k0_pay11
  generalize k0_pay10 (bMixed x0 x1 x2 x4 x5) x3 x6 = d at e ⊢
  pointwise
  simp only [e, B.hg]
  rw [rms_kernel]
  rfl

section
variable (w : Vec Ideal S1024x5632 .bf16) (hw : ∀ k j, w (ix2 k j) = W k j)
include hw

/-- The block's rows of the gate and of the value, in their two column blocks. -/
theorem Holds.gateL_eq (r : Fin 256) (j : Fin 1536) :
    bGateL x0 x1 x2 x3 x4 x5 x6 x7 w (ix2 r j) = gate (h1 X A R Z GA GH WO) G W ⟨b * 256 + r.val, B.row r⟩ ⟨j.val, by omega⟩ := by
  have e := B.u_eq
  have e' := fun k j => (gateL_at w k j).trans (hw _ _)
  unfold bU at e
  unfold bGateL k0_pay13
  generalize k0_pay11 (bMixed x0 x1 x2 x4 x5) x3 x6 x7 = d at e ⊢
  generalize gateL w = v at e' ⊢
  pointwise
  simp only [e, e']
  rfl

theorem Holds.gateR_eq (r : Fin 256) (j : Fin 1280) :
    bGateR x0 x1 x2 x3 x4 x5 x6 x7 w (ix2 r j) = gate (h1 X A R Z GA GH WO) G W ⟨b * 256 + r.val, B.row r⟩ ⟨1536 + j.val, by omega⟩ := by
  have e := B.u_eq
  have e' := fun k j => (gateR_at w k j).trans (hw _ _)
  unfold bGateR k0_pay24
  generalize bU x0 x1 x2 x3 x4 x5 x6 x7 = d at e ⊢
  generalize gateR w = v at e' ⊢
  pointwise
  simp only [e, e']
  rfl

theorem Holds.valL_eq (r : Fin 256) (j : Fin 1536) :
    bValL x0 x1 x2 x3 x4 x5 x6 x7 w (ix2 r j) = val (h1 X A R Z GA GH WO) G W ⟨b * 256 + r.val, B.row r⟩ ⟨j.val, by omega⟩ := by
  have e := B.u_eq
  have e' := fun k j => (valL_at w k j).trans (hw _ _)
  unfold bU at e
  unfold bValL k0_pay14
  generalize k0_pay11 (bMixed x0 x1 x2 x4 x5) x3 x6 x7 = d at e ⊢
  generalize valL w = v at e' ⊢
  pointwise
  simp only [e, e']
  rfl

theorem Holds.valR_eq (r : Fin 256) (j : Fin 1280) :
    bValR x0 x1 x2 x3 x4 x5 x6 x7 w (ix2 r j) = val (h1 X A R Z GA GH WO) G W ⟨b * 256 + r.val, B.row r⟩ ⟨1536 + j.val, by omega⟩ := by
  have e := B.u_eq
  have e' := fun k j => (valR_at w k j).trans (hw _ _)
  unfold bValR k0_pay25
  generalize bU x0 x1 x2 x3 x4 x5 x6 x7 = d at e ⊢
  generalize valR w = v at e' ⊢
  pointwise
  simp only [e, e']
  refine Finset.sum_congr rfl fun k _ => congrArg (fun q => scaled (h1 X A R Z GA GH WO) G ⟨b * 256 + r.val, B.row r⟩ k * W k q) (Fin.ext ?_)
  show 4352 + j.val = 2816 + (1536 + j.val)
  omega

end
end

end Cert.Kernel5Ideal.Fwd

end
-- ==== Proof.Fwd.Terms.lean ====
/- How the residual and up projection's kernel assembles its weights and its two wide results out of column blocks. -/
module

public import proofs.«01_k».proof.Proof.Gen.Kernel5Ideal.Frame.Runs
public import proofs.«01_k».proof.Proof.Up.Terms
public import proofs.«01_k».proof.Proof.Fwd.Block

@[expose] public section

set_option maxRecDepth 16384

noncomputable section

namespace Cert.Kernel5Ideal.Fwd

open Cert.Kernel5Ideal Cert.Kernel5Ideal.Gen Idealize.ShloMosaic Idealize.ShloMosaic.TcCoe Idealize.SL.Sem
export Cert.Kernel3Ideal.Up (sideBySide canon_side blockOf placeOf)

/-- The scratch read at a block of columns after the four copies. -/
theorem read_side (v : View sig .tc .vmem S1024x5632 .bf16) (w : Vec Ideal S4x1024x1408 .bf16) (z : S8x128.Idx → Elt Ideal .bf16)
    (p0 p1 p2 p3 : S1024x1408.Idx → Elt Ideal .bf16)
    (h0 : ∀ (r : Fin 1024) (q : Fin 1408), p0 (ix2 r q) = w (ix3 (0 : Fin 4) r q)) (h1 : ∀ (r : Fin 1024) (q : Fin 1408), p1 (ix2 r q) = w (ix3 (1 : Fin 4) r q))
    (h2 : ∀ (r : Fin 1024) (q : Fin 1408), p2 (ix2 r q) = w (ix3 (2 : Fin 4) r q)) (h3 : ∀ (r : Fin 1024) (q : Fin 1408), p3 (ix2 r q) = w (ix3 (3 : Fin 4) r q))
    (i0 i1 i2 i3 iz) (o n : ℕ) (inb)
    (hcov : ∀ y, ∃ p ∈ ([⟨Rect.unit ![0, 4224] ![1024, 1408] i3, p3⟩, ⟨Rect.unit ![0, 5504] ![8, 128] iz, z⟩,
       ⟨Rect.unit ![0, 2816] ![1024, 1408] i2, p2⟩, ⟨Rect.unit ![0, 1408] ![1024, 1408] i1, p1⟩,
       ⟨Rect.unit ![0, 0] ![1024, 1408] i0, p0⟩] : List (View.Piece (Elt Ideal) S1024x5632 .bf16)), y ∈ p.1.set) :
    v.readCov (Val := Elt Ideal)
      [⟨Rect.unit ![0, 4224] ![1024, 1408] i3, p3⟩, ⟨Rect.unit ![0, 5504] ![8, 128] iz, z⟩,
       ⟨Rect.unit ![0, 2816] ![1024, 1408] i2, p2⟩, ⟨Rect.unit ![0, 1408] ![1024, 1408] i1, p1⟩,
       ⟨Rect.unit ![0, 0] ![1024, 1408] i0, p0⟩] (Rect.unit ![0, o] ![1024, n] inb).toLoadRect
      = View.ld (sideBySide w : Vec Ideal S1024x5632 .bf16) (Rect.unit (s := S1024x5632) ![0, o] ![1024, n] inb) := by
  rw [View.readCov_eq_canon_ld _ _ _ hcov]
  exact congrArg (fun s : Vec Ideal S1024x5632 .bf16 => View.ld s (Rect.unit (s := S1024x5632) ![0, o] ![1024, n] inb))
    (canon_side w z p0 p1 p2 p3 h0 h1 h2 h3 i0 i1 i2 i3 iz)

/-- Block `k` of the weights in memory, as a copy reads it. -/
theorem slab (c : Dev nD) (k : Fin 4) (w : HbBuf0 (F := Ideal) c hbM0_0) (inb) (hs) (r : Fin 1024) (q : Fin 1408) :
    (ReadAs.same.apply (View.read (Elt Ideal) (((View.whole main_v2).slice (Rect.unit ![k.val, 0, 0] ![1, 1024, 1408] inb)).reshape S1024x1408 hs) w)
      : S1024x1408.Idx → Elt Ideal .bf16) (ix2 r q) = (w : Vec Ideal S4x1024x1408 .bf16) (ix3 k r q) := by
  show (w : Vec Ideal S4x1024x1408 .bf16) ((Rect.unit (s := S4x1024x1408) ![k.val, 0, 0] ![1, 1024, 1408] inb).emb (Shape.reshapeEquiv hs (ix2 r q))) = _
  refine congrArg (w : Vec Ideal S4x1024x1408 .bf16) ((congrArg _ (ValueIdx.reshapeEquiv_ix2_1ab hs r q)).trans ?_)
  funext a
  apply Fin.ext
  match a with
  | ⟨0, _⟩ => show k.val + 1 * 0 = k.val; omega
  | ⟨1, _⟩ => show 0 + 1 * r.val = r.val; omega
  | ⟨2, _⟩ => show 0 + 1 * q.val = q.val; omega

/-- 1536 columns with 1280 columns beside them. -/
def beside (p : Vec Ideal S256x1536 .bf16) (q : Vec Ideal S256x1280 .bf16) : Vec Ideal S256x2816 .bf16 := fun y =>
  if h : (y 1).val < 1536 then p (ix2 ⟨(y 0).val, (y 0).isLt⟩ ⟨(y 1).val, h⟩)
  else q (ix2 ⟨(y 0).val, (y 0).isLt⟩ ⟨(y 1).val - 1536, by have : (y 1).val < 2816 := (y 1).isLt; omega⟩)

/-- The two column blocks written one after the other. -/
theorem canon_beside (p : S256x1536.Idx → Elt Ideal .bf16) (q : S256x1280.Idx → Elt Ideal .bf16) (i0 i1) :
    View.canon (Val := Elt Ideal) (s := S256x2816) (e := .bf16)
      [⟨Rect.unit ![0, 1536] ![256, 1280] i1, q⟩, ⟨Rect.unit ![0, 0] ![256, 1536] i0, p⟩] = beside p q := by
  have left (r : Fin 256) (j : Fin 1536) (h : j.val < 2816) : (Rect.unit (s := S256x2816) ![0, 0] ![256, 1536] i0).emb (ix2 r j) = ix2 r ⟨j.val, h⟩ := by
    funext a
    apply Fin.ext
    match a with
    | ⟨0, _⟩ => show 0 + 1 * r.val = r.val; omega
    | ⟨1, _⟩ => show 0 + 1 * j.val = j.val; omega
  have right (r : Fin 256) (j : Fin 1280) (h : 1536 + j.val < 2816) : (Rect.unit (s := S256x2816) ![0, 1536] ![256, 1280] i1).emb (ix2 r j) = ix2 r ⟨1536 + j.val, h⟩ := by
    funext a
    apply Fin.ext
    match a with
    | ⟨0, _⟩ => show 0 + 1 * r.val = r.val; omega
    | ⟨1, _⟩ => show 1536 + 1 * j.val = 1536 + j.val; omega
  have key (r : Fin 256) (c : Fin 2816) : View.canon (Val := Elt Ideal) (s := S256x2816) (e := .bf16)
      [⟨Rect.unit ![0, 1536] ![256, 1280] i1, q⟩, ⟨Rect.unit ![0, 0] ![256, 1536] i0, p⟩] (ix2 r c) = beside p q (ix2 r c) := by
    by_cases h : c.val < 1536
    · refine (View.canon_cons_of_not_mem (⟨Rect.unit (s := S256x2816) ![0, 1536] ![256, 1280] i1, q⟩ : View.Piece (Elt Ideal) S256x2816 .bf16) _
        (Rect.not_mem_set_of_axis (Rect.unit (s := S256x2816) ![0, 1536] ![256, 1280] i1) (ix2 r c) (⟨1, Nat.one_lt_two⟩ : Fin 2) 1536 1280 rfl rfl rfl (Or.inl h))).trans ?_
      refine Eq.trans (congrArg _ (left r ⟨c.val, h⟩ c.isLt).symm) ((View.canon_cons_emb (Rect.unit (s := S256x2816) ![0, 0] ![256, 1536] i0) p [] (ix2 r ⟨c.val, h⟩)).trans ?_)
      show _ = (if h : c.val < 1536 then p (ix2 ⟨r.val, r.isLt⟩ ⟨c.val, h⟩) else q (ix2 ⟨r.val, r.isLt⟩ ⟨c.val - 1536, _⟩))
      rw [dif_pos h]
    · have hc := c.isLt
      refine Eq.trans (congrArg _ ((congrArg (ix2 r) (Fin.ext (by show c.val = 1536 + (c.val - 1536); omega))).trans
        (right r ⟨c.val - 1536, by omega⟩ (by show 1536 + (c.val - 1536) < 2816; omega)).symm))
        ((View.canon_cons_emb (Rect.unit (s := S256x2816) ![0, 1536] ![256, 1280] i1) q _ (ix2 r ⟨c.val - 1536, by omega⟩)).trans ?_)
      show _ = (if h : c.val < 1536 then p (ix2 ⟨r.val, r.isLt⟩ ⟨c.val, h⟩) else q (ix2 ⟨r.val, r.isLt⟩ ⟨c.val - 1536, _⟩))
      rw [dif_neg h]
  funext y
  exact (congrArg _ (eq_ix2 y)).trans ((key (y 0) (y 1)).trans (congrArg _ (eq_ix2 y).symm))

end Cert.Kernel5Ideal.Fwd

end
-- ==== Proof.Fwd.CaseA.lean ====
/- The first grid point of the residual and up projection, read back. -/
module

public import proofs.«01_k».proof.Proof.Gen.Kernel5Ideal.Frame
public import proofs.«01_k».proof.Proof.Fwd.Terms

@[expose] public section

set_option maxRecDepth 16384

noncomputable section

namespace Cert.Kernel5Ideal.Fwd

open Cert.Kernel5Ideal Cert.Kernel5Ideal.Gen Idealize.ShloMosaic Idealize.ShloMosaic.TcCoe Idealize.SL.Sem

variable (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S1x1024 .f32) (harg8 : arg8.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg13 : Memref sig .tc .vmem S1x1024 .f32) (harg13 : arg13.IsWhole) (arg14 : Memref sig .tc .vmem S256x1024 .f32) (harg14 : arg14.IsWhole) (arg15 : Memref sig .tc .vmem S256x1024 .f32) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S256x2816 .bf16) (harg18 : arg18.IsWhole) (arg19 : Memref sig .tc .vmem S256x2816 .bf16) (harg19 : arg19.IsWhole) (arg20 : Memref sig .tc .vmem S256x2816 .bf16) (harg20 : arg20.IsWhole) (arg21 : Memref sig .tc .vmem S256x2816 .bf16) (harg21 : arg21.IsWhole) (arg22 : Memref sig .tc .vmem S256x1024 .f32) (harg22 : arg22.IsWhole) (arg23 : Memref sig .tc .vmem S1x128 .f32) (harg23 : arg23.IsWhole) (arg24 : Memref sig .tc .vmem S1x1024 .f32) (harg24 : arg24.IsWhole) (arg25 : Memref sig .tc .vmem S8x2816 .f32) (harg25 : arg25.IsWhole) (arg26 : Memref sig .tc .vmem S1024x5632 .bf16) (harg26 : arg26.IsWhole) (hc0 : cond0_0 i) (x0 : Vec Ideal S256x512 .f32) (x1 : Vec Ideal S256x512 .f32) (x2 : Vec Ideal S256x512 .f32) (x3 : Vec Ideal S256x1024 .f32) (x4 : Vec Ideal S1x512 .f32) (x5 : Vec Ideal S1x512 .f32) (x6 : Vec Ideal S1024x1024 .bf16) (x7 : Vec Ideal S1x1024 .f32) (x8 : Vec Ideal S3x2816 .f32) (x9 : Vec Ideal S1x2816 .f32) (x10 : Vec Ideal S2816x1024 .bf16) (x11 : Vec Ideal S1x1024 .f32) (x12 : Vec Ideal S256x1024 .f32) (fh0 : HbBuf0 (F := Ideal) c hbM0_0)

set_option maxHeartbeats 4000000 in
/-- The scratch holds the whole up projection after the first point. -/
theorem w_A :
    sout0_A_1 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 fh0 = sideBySide fh0 := by
  unfold sout0_A_1
  rw [View.read_writes_eq_canon _ _ _ (scover0_A_1 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 fh0)]
  unfold kernelRun0_A
  dsimp only
  sl_unfold_words
  exact canon_side fh0 _ _ _ _ _ (slab c 0 fh0 _ _) (slab c 1 fh0 _ _) (slab c 2 fh0 _ _) (slab c 3 fh0 _ _) _ _ _ _ _

set_option maxHeartbeats 4000000 in
/-- The joined rows after the first point. -/
theorem mixed_A :
    out0_A_14 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 fh0 = bMixed x0 x1 x2 x4 x5 := by
  unfold out0_A_14
  rw [View.read_writes_eq_canon _ _ _ (cover0_A_14 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 fh0)]
  unfold kernelRun0_A
  dsimp only
  sl_unfold_words
  simp (disch := decide) only [View.canon_cons_unit_lit', View.readCov_cons_unit_lit', View.readCov_unit_lit', View.readAt_eq_ld, View.ld_unit_lit', harg1.read_unread, harg2.read_unread, harg3.read_unread, harg4.read_unread, harg5.read_unread, harg6.read_unread, harg7.read_unread, harg8.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread]

set_option maxHeartbeats 4000000 in
/-- The residual after the first point. -/
theorem h_A :
    out0_A_13 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 fh0 = bH x0 x1 x2 x3 x4 x5 x6 := by
  unfold out0_A_13
  rw [View.read_writes_eq_canon _ _ _ (cover0_A_13 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 fh0)]
  unfold kernelRun0_A
  dsimp only
  sl_unfold_words
  simp (disch := decide) only [View.canon_cons_unit_lit', View.readCov_cons_unit_lit', View.readCov_unit_lit', View.readAt_eq_ld, View.ld_unit_lit', harg1.read_unread, harg2.read_unread, harg3.read_unread, harg4.read_unread, harg5.read_unread, harg6.read_unread, harg7.read_unread, harg8.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread]

set_option maxHeartbeats 4000000 in
/-- The scaled rows after the first point. -/
theorem u_A :
    out0_A_15 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 fh0 = bU x0 x1 x2 x3 x4 x5 x6 x7 := by
  unfold out0_A_15
  rw [View.read_writes_eq_canon _ _ _ (cover0_A_15 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 fh0)]
  unfold kernelRun0_A
  dsimp only
  sl_unfold_words
  simp (disch := decide) only [View.canon_cons_unit_lit', View.readCov_cons_unit_lit', View.readCov_unit_lit', View.readAt_eq_ld, View.ld_unit_lit', harg1.read_unread, harg2.read_unread, harg3.read_unread, harg4.read_unread, harg5.read_unread, harg6.read_unread, harg7.read_unread, harg8.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread]

set_option maxHeartbeats 4000000 in
/-- The gate after the first point. -/
theorem gate_A :
    out0_A_16 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 fh0 = beside (bGateL x0 x1 x2 x3 x4 x5 x6 x7 (sideBySide fh0)) (bGateR x0 x1 x2 x3 x4 x5 x6 x7 (sideBySide fh0)) := by
  unfold out0_A_16
  rw [View.read_writes_eq_canon _ _ _ (cover0_A_16 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 fh0)]
  unfold kernelRun0_A
  dsimp only
  sl_unfold_words
  simp (disch := decide) only [View.canon_cons_unit_lit', View.readCov_cons_unit_lit', View.readCov_unit_lit', View.readAt_eq_ld, View.ld_unit_lit', harg1.read_unread, harg2.read_unread, harg3.read_unread, harg4.read_unread, harg5.read_unread, harg6.read_unread, harg7.read_unread, harg8.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread]
  refine (canon_beside _ _ _ _).trans (congrArg₂ (fun s s' => beside (k0_pay13 (bMixed x0 x1 x2 x4 x5) x3 x6 x7 s) (k0_pay24 (bU x0 x1 x2 x3 x4 x5 x6 x7) s')) ?_ ?_)
  · exact (read_side arg26.view fh0 _ _ _ _ _ (slab c 0 fh0 _ _) (slab c 1 fh0 _ _) (slab c 2 fh0 _ _) (slab c 3 fh0 _ _) _ _ _ _ _ _ _ _
      (scover0_A_1 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 fh0))
  · exact (read_side arg26.view fh0 _ _ _ _ _ (slab c 0 fh0 _ _) (slab c 1 fh0 _ _) (slab c 2 fh0 _ _) (slab c 3 fh0 _ _) _ _ _ _ _ _ _ _
      (scover0_A_1 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 fh0))

set_option maxHeartbeats 4000000 in
/-- The value after the first point. -/
theorem val_A :
    out0_A_17 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 fh0 = beside (bValL x0 x1 x2 x3 x4 x5 x6 x7 (sideBySide fh0)) (bValR x0 x1 x2 x3 x4 x5 x6 x7 (sideBySide fh0)) := by
  unfold out0_A_17
  rw [View.read_writes_eq_canon _ _ _ (cover0_A_17 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 fh0)]
  unfold kernelRun0_A
  dsimp only
  sl_unfold_words
  simp (disch := decide) only [View.canon_cons_unit_lit', View.readCov_cons_unit_lit', View.readCov_unit_lit', View.readAt_eq_ld, View.ld_unit_lit', harg1.read_unread, harg2.read_unread, harg3.read_unread, harg4.read_unread, harg5.read_unread, harg6.read_unread, harg7.read_unread, harg8.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread]
  refine (canon_beside _ _ _ _).trans (congrArg₂ (fun s s' => beside (k0_pay14 (bMixed x0 x1 x2 x4 x5) x3 x6 x7 s) (k0_pay25 (bU x0 x1 x2 x3 x4 x5 x6 x7) s')) ?_ ?_)
  · exact (read_side arg26.view fh0 _ _ _ _ _ (slab c 0 fh0 _ _) (slab c 1 fh0 _ _) (slab c 2 fh0 _ _) (slab c 3 fh0 _ _) _ _ _ _ _ _ _ _
      (scover0_A_1 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 fh0))
  · exact (read_side arg26.view fh0 _ _ _ _ _ (slab c 0 fh0 _ _) (slab c 1 fh0 _ _) (slab c 2 fh0 _ _) (slab c 3 fh0 _ _) _ _ _ _ _ _ _ _
      (scover0_A_1 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 fh0))

end Cert.Kernel5Ideal.Fwd

end
-- ==== Proof.Fwd.CaseB.lean ====
/- A later grid point of the residual and up projection, read back. -/
module

public import proofs.«01_k».proof.Proof.Gen.Kernel5Ideal.Frame
public import proofs.«01_k».proof.Proof.Fwd.Terms

@[expose] public section

set_option maxRecDepth 16384

noncomputable section

namespace Cert.Kernel5Ideal.Fwd

open Cert.Kernel5Ideal Cert.Kernel5Ideal.Gen Idealize.ShloMosaic Idealize.ShloMosaic.TcCoe Idealize.SL.Sem

variable (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S1x1024 .f32) (harg8 : arg8.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg13 : Memref sig .tc .vmem S1x1024 .f32) (harg13 : arg13.IsWhole) (arg14 : Memref sig .tc .vmem S256x1024 .f32) (harg14 : arg14.IsWhole) (arg15 : Memref sig .tc .vmem S256x1024 .f32) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S256x2816 .bf16) (harg18 : arg18.IsWhole) (arg19 : Memref sig .tc .vmem S256x2816 .bf16) (harg19 : arg19.IsWhole) (arg20 : Memref sig .tc .vmem S256x2816 .bf16) (harg20 : arg20.IsWhole) (arg21 : Memref sig .tc .vmem S256x2816 .bf16) (harg21 : arg21.IsWhole) (arg22 : Memref sig .tc .vmem S256x1024 .f32) (harg22 : arg22.IsWhole) (arg23 : Memref sig .tc .vmem S1x128 .f32) (harg23 : arg23.IsWhole) (arg24 : Memref sig .tc .vmem S1x1024 .f32) (harg24 : arg24.IsWhole) (arg25 : Memref sig .tc .vmem S8x2816 .f32) (harg25 : arg25.IsWhole) (arg26 : Memref sig .tc .vmem S1024x5632 .bf16) (harg26 : arg26.IsWhole) (hc0 : ¬cond0_0 i) (x0 : Vec Ideal S256x512 .f32) (x1 : Vec Ideal S256x512 .f32) (x2 : Vec Ideal S256x512 .f32) (x3 : Vec Ideal S256x1024 .f32) (x4 : Vec Ideal S1x512 .f32) (x5 : Vec Ideal S1x512 .f32) (x6 : Vec Ideal S1024x1024 .bf16) (x7 : Vec Ideal S1x1024 .f32) (x8 : Vec Ideal S3x2816 .f32) (x9 : Vec Ideal S1x2816 .f32) (x10 : Vec Ideal S2816x1024 .bf16) (x11 : Vec Ideal S1x1024 .f32) (x12 : Vec Ideal S256x1024 .f32) (xo21 : Vec Ideal S1x128 .f32) (xo22 : Vec Ideal S1x1024 .f32) (xs0 : Vec Ideal S8x2816 .f32) (xs1 : Vec Ideal S1024x5632 .bf16) (fh0 : HbBuf0 (F := Ideal) c hbM0_0)

set_option maxHeartbeats 4000000 in
/-- The joined rows after a later point. -/
theorem mixed_B :
    out0_B_14 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 xo21 xo22 xs0 xs1 fh0 = bMixed x0 x1 x2 x4 x5 := by
  unfold out0_B_14
  rw [View.read_writes_eq_canon _ _ _ (cover0_B_14 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 xo21 xo22 xs0 xs1 fh0)]
  unfold kernelRun0_B
  dsimp only
  sl_unfold_words
  simp (disch := decide) only [View.canon_cons_unit_lit', View.readCov_cons_unit_lit', View.readCov_unit_lit', View.readAt_eq_ld, View.ld_unit_lit', harg1.read_unread, harg2.read_unread, harg3.read_unread, harg4.read_unread, harg5.read_unread, harg6.read_unread, harg7.read_unread, harg8.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread]

set_option maxHeartbeats 4000000 in
/-- The residual after a later point. -/
theorem h_B :
    out0_B_13 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 xo21 xo22 xs0 xs1 fh0 = bH x0 x1 x2 x3 x4 x5 x6 := by
  unfold out0_B_13
  rw [View.read_writes_eq_canon _ _ _ (cover0_B_13 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 xo21 xo22 xs0 xs1 fh0)]
  unfold kernelRun0_B
  dsimp only
  sl_unfold_words
  simp (disch := decide) only [View.canon_cons_unit_lit', View.readCov_cons_unit_lit', View.readCov_unit_lit', View.readAt_eq_ld, View.ld_unit_lit', harg1.read_unread, harg2.read_unread, harg3.read_unread, harg4.read_unread, harg5.read_unread, harg6.read_unread, harg7.read_unread, harg8.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread]

set_option maxHeartbeats 4000000 in
/-- The scaled rows after a later point. -/
theorem u_B :
    out0_B_15 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 xo21 xo22 xs0 xs1 fh0 = bU x0 x1 x2 x3 x4 x5 x6 x7 := by
  unfold out0_B_15
  rw [View.read_writes_eq_canon _ _ _ (cover0_B_15 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 xo21 xo22 xs0 xs1 fh0)]
  unfold kernelRun0_B
  dsimp only
  sl_unfold_words
  simp (disch := decide) only [View.canon_cons_unit_lit', View.readCov_cons_unit_lit', View.readCov_unit_lit', View.readAt_eq_ld, View.ld_unit_lit', harg1.read_unread, harg2.read_unread, harg3.read_unread, harg4.read_unread, harg5.read_unread, harg6.read_unread, harg7.read_unread, harg8.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread]

set_option maxHeartbeats 4000000 in
/-- The gate after a later point. -/
theorem gate_B :
    out0_B_16 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 xo21 xo22 xs0 xs1 fh0 = beside (bGateL x0 x1 x2 x3 x4 x5 x6 x7 xs1) (bGateR x0 x1 x2 x3 x4 x5 x6 x7 xs1) := by
  unfold out0_B_16
  rw [View.read_writes_eq_canon _ _ _ (cover0_B_16 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 xo21 xo22 xs0 xs1 fh0)]
  unfold kernelRun0_B
  dsimp only
  sl_unfold_words
  simp (disch := decide) only [View.canon_cons_unit_lit', View.readCov_cons_unit_lit', View.readCov_unit_lit', View.readAt_eq_ld, View.ld_unit_lit', harg1.read_unread, harg2.read_unread, harg3.read_unread, harg4.read_unread, harg5.read_unread, harg6.read_unread, harg7.read_unread, harg8.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread]
  exact canon_beside _ _ _ _

set_option maxHeartbeats 4000000 in
/-- The value after a later point. -/
theorem val_B :
    out0_B_17 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 xo21 xo22 xs0 xs1 fh0 = beside (bValL x0 x1 x2 x3 x4 x5 x6 x7 xs1) (bValR x0 x1 x2 x3 x4 x5 x6 x7 xs1) := by
  unfold out0_B_17
  rw [View.read_writes_eq_canon _ _ _ (cover0_B_17 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 xo21 xo22 xs0 xs1 fh0)]
  unfold kernelRun0_B
  dsimp only
  sl_unfold_words
  simp (disch := decide) only [View.canon_cons_unit_lit', View.readCov_cons_unit_lit', View.readCov_unit_lit', View.readAt_eq_ld, View.ld_unit_lit', harg1.read_unread, harg2.read_unread, harg3.read_unread, harg4.read_unread, harg5.read_unread, harg6.read_unread, harg7.read_unread, harg8.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread]
  exact canon_beside _ _ _ _

end Cert.Kernel5Ideal.Fwd

end
-- ==== Proof.Fwd.Host.lean ====
/- What the host lines before the kernel leave in its operands: the weights cut into four, and the rounded output projection. -/
module

public import proofs.«01_k».proof.Proof.Gen.Kernel5Ideal.Frame
public import proofs.«01_k».proof.Proof.Fwd.Terms

@[expose] public section

set_option maxRecDepth 16384

noncomputable section

namespace Cert.Kernel5Ideal.Fwd

open Cert.Kernel5Ideal Cert.Kernel5Ideal.Gen Idealize.ShloMosaic Idealize.ShloMosaic.TcCoe Idealize.SL.Sem
open Cert.Mlp Cert.Norm Cert.Up Cert.Fwd

variable (m : (ℓ : Loc nD τ sig) → Buf (Elt Ideal) ℓ) (c : Dev nD)

/-- The arguments, as functions of row and column. -/
abbrev aM : Fin 4096 → Fin 512 → EReal := fun t k => (m ((c : Thread nD τ).loc main_arg0) : Vec Ideal S4096x512 .f32) (ix2 t k)
abbrev rM : Fin 4096 → Fin 512 → EReal := fun t k => (m ((c : Thread nD τ).loc main_arg1) : Vec Ideal S4096x512 .f32) (ix2 t k)
abbrev zM : Fin 4096 → Fin 512 → EReal := fun t k => (m ((c : Thread nD τ).loc main_arg2) : Vec Ideal S4096x2048 .f32) (ix2 t ⟨1536 + k.val, by omega⟩)
abbrev xM : Fin 4096 → Fin 1024 → EReal := fun t k => (m ((c : Thread nD τ).loc main_arg3) : Vec Ideal S4096x1024 .f32) (ix2 t k)
abbrev gaM : Fin 512 → EReal := fun k => (m ((c : Thread nD τ).loc main_arg4) : Vec Ideal S1x512 .f32) (ix2 0 k)
abbrev ghM : Fin 512 → EReal := fun k => (m ((c : Thread nD τ).loc main_arg5) : Vec Ideal S1x512 .f32) (ix2 0 k)
abbrev woM : Fin 1024 → Fin 1024 → EReal := fun j k => (m ((c : Thread nD τ).loc main_arg6) : Vec Ideal S1024x1024 .f32) (ix2 j k)
abbrev gM : Fin 1024 → EReal := fun k => (m ((c : Thread nD τ).loc main_arg7) : Vec Ideal S1x1024 .f32) (ix2 0 k)
abbrev wM : Fin 1024 → Fin 5632 → EReal := fun k j => (m ((c : Thread nD τ).loc main_arg8) : Vec Ideal S1024x5632 .f32) (ix2 k j)
/-- The joined rows and the residual. -/
abbrev qM := mixed (aM m c) (rM m c) (zM m c) (gaM m c) (ghM m c)
abbrev hM := h1 (xM m c) (aM m c) (rM m c) (zM m c) (gaM m c) (ghM m c) (woM m c)

set_option maxHeartbeats 1000000

/-- The four blocks of the weights side by side are the weights. -/
theorem V_w (k : Fin 1024) (j : Fin 5632) : sideBySide (V m c main_v2 : Vec Ideal S4x1024x1408 .bf16) (ix2 k j) = wM m c k j := by
  show (V m c main_v2 : Vec Ideal S4x1024x1408 .bf16) (ix3 (blockOf j) k (placeOf j)) = _
  unfold V hostOps0
  after_results
  pointwise
  show m (c, Proc.tc.devRef main_arg8) _ = m (c, Proc.tc.devRef main_arg8) _
  exact congrArg _ (congrArg _ (Fin.ext (by show j.val / 1408 * 1408 + j.val % 1408 = j.val; omega)))

theorem V_wo (j k : Fin 1024) : (V m c main_v3 : Vec Ideal S1024x1024 .bf16) (ix2 j k) = woM m c j k := by
  unfold V hostOps0
  after_results
  pointwise

end Cert.Kernel5Ideal.Fwd

end
-- ==== Proof.Fwd.Global.lean ====
/- The kernel's results point by point: point `t` takes row block `t`, and every point reads the same weights. -/
module

public import proofs.«01_k».proof.Proof.Fwd.CaseA
public import proofs.«01_k».proof.Proof.Fwd.CaseB
public import proofs.«01_k».proof.Proof.Fwd.Host

@[expose] public section

set_option maxRecDepth 16384

noncomputable section

namespace Cert.Kernel5Ideal.Fwd

open Cert.Kernel5Ideal Cert.Kernel5Ideal.Gen Idealize.ShloMosaic Idealize.ShloMosaic.TcCoe Idealize.SL.Sem
open Cert.Mlp Cert.Norm Cert.Up Cert.Fwd

variable (m : (ℓ : Loc nD τ sig) → Buf (Elt Ideal) ℓ) (c : Dev nD)

/-- The row block a point takes. -/
theorem idx (t : Fin cfg0.N) : win0_0.index t 0 = t.val ∧ win0_0.index t 1 = 0 ∧ win0_1.index t 0 = t.val ∧ win0_1.index t 1 = 0 ∧ win0_2.index t 0 = t.val ∧ win0_2.index t 1 = 3 ∧ win0_3.index t 0 = t.val ∧ win0_3.index t 1 = 0 ∧ win0_4.index t 0 = 0 ∧ win0_4.index t 1 = 0 ∧ win0_5.index t 0 = 0 ∧ win0_5.index t 1 = 0 ∧ win0_6.index t 0 = 0 ∧ win0_6.index t 1 = 0 ∧ win0_7.index t 0 = 0 ∧ win0_7.index t 1 = 0 ∧ win0_13.index t 0 = t.val ∧ win0_13.index t 1 = 0 ∧ win0_14.index t 0 = t.val ∧ win0_14.index t 1 = 0 ∧ win0_15.index t 0 = t.val ∧ win0_15.index t 1 = 0 ∧ win0_16.index t 0 = t.val ∧ win0_16.index t 1 = 0 ∧ win0_17.index t 0 = t.val ∧ win0_17.index t 1 = 0 :=
  (by decide +kernel : ∀ t : Fin grid0.N, win0_0.index t 0 = t.val ∧ win0_0.index t 1 = 0 ∧ win0_1.index t 0 = t.val ∧ win0_1.index t 1 = 0 ∧ win0_2.index t 0 = t.val ∧ win0_2.index t 1 = 3 ∧ win0_3.index t 0 = t.val ∧ win0_3.index t 1 = 0 ∧ win0_4.index t 0 = 0 ∧ win0_4.index t 1 = 0 ∧ win0_5.index t 0 = 0 ∧ win0_5.index t 1 = 0 ∧ win0_6.index t 0 = 0 ∧ win0_6.index t 1 = 0 ∧ win0_7.index t 0 = 0 ∧ win0_7.index t 1 = 0 ∧ win0_13.index t 0 = t.val ∧ win0_13.index t 1 = 0 ∧ win0_14.index t 0 = t.val ∧ win0_14.index t 1 = 0 ∧ win0_15.index t 0 = t.val ∧ win0_15.index t 1 = 0 ∧ win0_16.index t 0 = t.val ∧ win0_16.index t 1 = 0 ∧ win0_17.index t 0 = t.val ∧ win0_17.index t 1 = 0) t

theorem N16 (t : Fin cfg0.N) : t.val < 16 := lt_of_lt_of_eq t.isLt (show cfg0.N = 16 from N_0)

theorem row_lt (t : Fin cfg0.N) (r : Fin 256) : t.val * 256 + r.val < 4096 := by
  have := N16 t
  omega

theorem blk0 (t : Fin cfg0.N) (r : Fin 256) (k : Fin 512) : (iblk m c 0 t : Vec Ideal S256x512 .f32) (ix2 r k) = aM m c ⟨t.val * 256 + r.val, row_lt t r⟩ k := by
  have hi := idx t
  unfold iblk
  rw [View.read_apply]
  show V m c main_arg0 _ = _
  rw [V_main_arg0]
  show m ((c : Thread nD τ).loc main_arg0) _ = m ((c : Thread nD τ).loc main_arg0) _
  congr 1
  funext a
  apply Fin.ext
  match a with
  | ⟨0, _⟩ => show win0_0.index t 0 * 256 + 1 * _ = _; rw [hi.1]; simp
  | ⟨1, _⟩ => show win0_0.index t 1 * 512 + 1 * _ = _; rw [hi.2.1]; simp

theorem blk1 (t : Fin cfg0.N) (r : Fin 256) (k : Fin 512) : (iblk m c 1 t : Vec Ideal S256x512 .f32) (ix2 r k) = rM m c ⟨t.val * 256 + r.val, row_lt t r⟩ k := by
  have hi := idx t
  unfold iblk
  rw [View.read_apply]
  show V m c main_arg1 _ = _
  rw [V_main_arg1]
  show m ((c : Thread nD τ).loc main_arg1) _ = m ((c : Thread nD τ).loc main_arg1) _
  congr 1
  funext a
  apply Fin.ext
  match a with
  | ⟨0, _⟩ => show win0_1.index t 0 * 256 + 1 * _ = _; rw [hi.2.2.1]; simp
  | ⟨1, _⟩ => show win0_1.index t 1 * 512 + 1 * _ = _; rw [hi.2.2.2.1]; simp

theorem blk2 (t : Fin cfg0.N) (r : Fin 256) (k : Fin 512) : (iblk m c 2 t : Vec Ideal S256x512 .f32) (ix2 r k) = zM m c ⟨t.val * 256 + r.val, row_lt t r⟩ k := by
  have hi := idx t
  unfold iblk
  rw [View.read_apply]
  show V m c main_arg2 _ = _
  rw [V_main_arg2]
  show m ((c : Thread nD τ).loc main_arg2) _ = m ((c : Thread nD τ).loc main_arg2) _
  congr 1
  funext a
  apply Fin.ext
  match a with
  | ⟨0, _⟩ => show win0_2.index t 0 * 256 + 1 * _ = _; rw [hi.2.2.2.2.1]; simp
  | ⟨1, _⟩ => show win0_2.index t 1 * 512 + 1 * _ = _; rw [hi.2.2.2.2.2.1]; simp

theorem blk3 (t : Fin cfg0.N) (r : Fin 256) (k : Fin 1024) : (iblk m c 3 t : Vec Ideal S256x1024 .f32) (ix2 r k) = xM m c ⟨t.val * 256 + r.val, row_lt t r⟩ k := by
  have hi := idx t
  unfold iblk
  rw [View.read_apply]
  show V m c main_arg3 _ = _
  rw [V_main_arg3]
  show m ((c : Thread nD τ).loc main_arg3) _ = m ((c : Thread nD τ).loc main_arg3) _
  congr 1
  funext a
  apply Fin.ext
  match a with
  | ⟨0, _⟩ => show win0_3.index t 0 * 256 + 1 * _ = _; rw [hi.2.2.2.2.2.2.1]; simp
  | ⟨1, _⟩ => show win0_3.index t 1 * 1024 + 1 * _ = _; rw [hi.2.2.2.2.2.2.2.1]; simp

theorem blk4 (t : Fin cfg0.N) (k : Fin 512) : (iblk m c 4 t : Vec Ideal S1x512 .f32) (ix2 0 k) = gaM m c k := by
  have hi := idx t
  unfold iblk
  rw [View.read_apply]
  show V m c main_arg4 _ = _
  rw [V_main_arg4]
  show m ((c : Thread nD τ).loc main_arg4) _ = m ((c : Thread nD τ).loc main_arg4) _
  congr 1
  funext a
  apply Fin.ext
  match a with
  | ⟨0, _⟩ => show win0_4.index t 0 * 1 + 1 * _ = _; rw [hi.2.2.2.2.2.2.2.2.1]; simp
  | ⟨1, _⟩ => show win0_4.index t 1 * 512 + 1 * _ = _; rw [hi.2.2.2.2.2.2.2.2.2.1]; simp

theorem blk5 (t : Fin cfg0.N) (k : Fin 512) : (iblk m c 5 t : Vec Ideal S1x512 .f32) (ix2 0 k) = ghM m c k := by
  have hi := idx t
  unfold iblk
  rw [View.read_apply]
  show V m c main_arg5 _ = _
  rw [V_main_arg5]
  show m ((c : Thread nD τ).loc main_arg5) _ = m ((c : Thread nD τ).loc main_arg5) _
  congr 1
  funext a
  apply Fin.ext
  match a with
  | ⟨0, _⟩ => show win0_5.index t 0 * 1 + 1 * _ = _; rw [hi.2.2.2.2.2.2.2.2.2.2.1]; simp
  | ⟨1, _⟩ => show win0_5.index t 1 * 512 + 1 * _ = _; rw [hi.2.2.2.2.2.2.2.2.2.2.2.1]; simp

theorem blk6 (t : Fin cfg0.N) (j k : Fin 1024) : (iblk m c 6 t : Vec Ideal S1024x1024 .bf16) (ix2 j k) = woM m c j k := by
  have hi := idx t
  refine Eq.trans ?_ (V_wo m c j k)
  unfold iblk
  rw [View.read_apply]
  show V m c main_v3 _ = V m c main_v3 _
  generalize V m c main_v3 = A
  congr 1
  funext a
  apply Fin.ext
  match a with
  | ⟨0, _⟩ => show win0_6.index t 0 * 1024 + 1 * _ = _; rw [hi.2.2.2.2.2.2.2.2.2.2.2.2.1]; simp
  | ⟨1, _⟩ => show win0_6.index t 1 * 1024 + 1 * _ = _; rw [hi.2.2.2.2.2.2.2.2.2.2.2.2.2.1]; simp

theorem blk7 (t : Fin cfg0.N) (k : Fin 1024) : (iblk m c 7 t : Vec Ideal S1x1024 .f32) (ix2 0 k) = gM m c k := by
  have hi := idx t
  unfold iblk
  rw [View.read_apply]
  show V m c main_arg7 _ = _
  rw [V_main_arg7]
  show m ((c : Thread nD τ).loc main_arg7) _ = m ((c : Thread nD τ).loc main_arg7) _
  congr 1
  funext a
  apply Fin.ext
  match a with
  | ⟨0, _⟩ => show win0_7.index t 0 * 1 + 1 * _ = _; rw [hi.2.2.2.2.2.2.2.2.2.2.2.2.2.2.1]; simp
  | ⟨1, _⟩ => show win0_7.index t 1 * 1024 + 1 * _ = _; rw [hi.2.2.2.2.2.2.2.2.2.2.2.2.2.2.2.1]; simp

/-- A point's blocks hold the rows of its row block. -/
theorem holds (t : Fin cfg0.N) : Holds (xM m c) (aM m c) (rM m c) (zM m c) (gaM m c) (ghM m c) (woM m c) (gM m c) t.val
    (iblk m c 0 t) (iblk m c 1 t) (iblk m c 2 t) (iblk m c 3 t) (iblk m c 4 t) (iblk m c 5 t) (iblk m c 6 t) (iblk m c 7 t) where
  lt := N16 t
  ha := blk0 m c t
  hr := blk1 m c t
  hz := blk2 m c t
  hx := blk3 m c t
  hga := blk4 m c t
  hgh := blk5 m c t
  hwo := blk6 m c t
  hg := blk7 m c t

/-- Two column blocks that are the columns of one function, beside each other. -/
theorem beside_at {p : Vec Ideal S256x1536 .bf16} {q : Vec Ideal S256x1280 .bf16} {f : Fin 256 → Fin 2816 → EReal}
    (hp : ∀ (r : Fin 256) (j : Fin 1536), p (ix2 r j) = f r ⟨j.val, by omega⟩)
    (hq : ∀ (r : Fin 256) (j : Fin 1280), q (ix2 r j) = f r ⟨1536 + j.val, by omega⟩) (r : Fin 256) (j : Fin 2816) : beside p q (ix2 r j) = f r j := by
  show (if h : j.val < 1536 then p (ix2 ⟨r.val, _⟩ ⟨j.val, h⟩) else q (ix2 ⟨r.val, _⟩ ⟨j.val - 1536, _⟩)) = _
  have hj := j.isLt
  split
  · exact hp _ _
  · exact (hq _ _).trans (congrArg (f r) (Fin.ext (by show 1536 + (j.val - 1536) = j.val; omega)))

/-- What a point leaves behind of the five results stated here, and of the weights. -/
structure After (n : ℕ) (h : Vec Ideal S256x1024 .f32) (q u : Vec Ideal S256x1024 .bf16) (a v : Vec Ideal S256x2816 .bf16) (w : Vec Ideal S1024x5632 .bf16) : Prop where
  lt : n < 16
  h1 : ∀ (r : Fin 256) (k : Fin 1024), h (ix2 r k) = hM m c ⟨n * 256 + r.val, by omega⟩ k
  mixed : ∀ (r : Fin 256) (k : Fin 1024), q (ix2 r k) = qM m c ⟨n * 256 + r.val, by omega⟩ k
  u : ∀ (r : Fin 256) (k : Fin 1024), u (ix2 r k) = scaled (hM m c) (gM m c) ⟨n * 256 + r.val, by omega⟩ k
  gate : ∀ (r : Fin 256) (j : Fin 2816), a (ix2 r j) = gate (hM m c) (gM m c) (wM m c) ⟨n * 256 + r.val, by omega⟩ j
  val : ∀ (r : Fin 256) (j : Fin 2816), v (ix2 r j) = val (hM m c) (gM m c) (wM m c) ⟨n * 256 + r.val, by omega⟩ j
  w : ∀ (k : Fin 1024) (j : Fin 5632), w (ix2 k j) = wM m c k j

/-- A point whose blocks hold row block `n` and which has the weights leaves these. -/
theorem after_of {n : ℕ} {x0 x1 x2 : Vec Ideal S256x512 .f32} {x3 : Vec Ideal S256x1024 .f32} {x4 x5 : Vec Ideal S1x512 .f32} {x6 : Vec Ideal S1024x1024 .bf16} {x7 : Vec Ideal S1x1024 .f32}
    (H : Holds (xM m c) (aM m c) (rM m c) (zM m c) (gaM m c) (ghM m c) (woM m c) (gM m c) n x0 x1 x2 x3 x4 x5 x6 x7)
    (w : Vec Ideal S1024x5632 .bf16) (hw : ∀ k j, w (ix2 k j) = wM m c k j) :
    After m c n (bH x0 x1 x2 x3 x4 x5 x6) (bMixed x0 x1 x2 x4 x5) (bU x0 x1 x2 x3 x4 x5 x6 x7)
      (beside (bGateL x0 x1 x2 x3 x4 x5 x6 x7 w) (bGateR x0 x1 x2 x3 x4 x5 x6 x7 w)) (beside (bValL x0 x1 x2 x3 x4 x5 x6 x7 w) (bValR x0 x1 x2 x3 x4 x5 x6 x7 w)) w where
  lt := H.lt
  h1 := H.h_eq
  mixed := H.mixed_eq
  u := H.u_eq
  gate := beside_at (f := fun r j => Cert.Fwd.gate (hM m c) (gM m c) (wM m c) ⟨n * 256 + r.val, H.row r⟩ j) (H.gateL_eq w hw) (H.gateR_eq w hw)
  val := beside_at (f := fun r j => Cert.Fwd.val (hM m c) (gM m c) (wM m c) ⟨n * 256 + r.val, H.row r⟩ j) (H.valL_eq w hw) (H.valR_eq w hw)
  w := hw

set_option maxHeartbeats 1000000 in
theorem after_A (t : Fin cfg0.N) (h : t.val = 0) : After m c 0 (outsAt0 m c t.val t.isLt).1 (outsAt0 m c t.val t.isLt).2.1 (outsAt0 m c t.val t.isLt).2.2.1 (outsAt0 m c t.val t.isLt).2.2.2.1 (outsAt0 m c t.val t.isLt).2.2.2.2.1 (outsAt0 m c t.val t.isLt).2.2.2.2.2.2.2.2.2.2.2 := by
  have H := holds m c t
  rw [h] at H
  rw [outsAt0_A m c t (by rw [h])]
  dsimp only
  rw [h_A, mixed_A, u_A, gate_A, val_A, w_A]
  exact after_of m c H _ (V_w m c)

set_option maxHeartbeats 1000000 in
theorem after_B (t : Fin cfg0.N) (n : ℕ) (h : t.val = n + 1)
    (hw : ∀ (k : Fin 1024) (j : Fin 5632), (outsAt0 m c (t.val - 1) (Nat.lt_of_le_of_lt (Nat.sub_le _ _) t.isLt)).2.2.2.2.2.2.2.2.2.2.2 (ix2 k j) = wM m c k j) :
    After m c (n + 1) (outsAt0 m c t.val t.isLt).1 (outsAt0 m c t.val t.isLt).2.1 (outsAt0 m c t.val t.isLt).2.2.1 (outsAt0 m c t.val t.isLt).2.2.2.1 (outsAt0 m c t.val t.isLt).2.2.2.2.1 (outsAt0 m c t.val t.isLt).2.2.2.2.2.2.2.2.2.2.2 := by
  have H := holds m c t
  have := N16 t
  rw [h] at H
  rw [outsAt0_B m c t (by omega)]
  dsimp only
  rw [h_B, mixed_B, u_B, gate_B, val_B]
  exact after_of m c H _ hw

/-- What every point leaves behind. -/
theorem after (n : ℕ) : ∀ hn : n < cfg0.N, After m c n (outsAt0 m c n hn).1 (outsAt0 m c n hn).2.1 (outsAt0 m c n hn).2.2.1 (outsAt0 m c n hn).2.2.2.1 (outsAt0 m c n hn).2.2.2.2.1 (outsAt0 m c n hn).2.2.2.2.2.2.2.2.2.2.2 := by
  induction n with
  | zero => exact fun hn => after_A m c ⟨0, hn⟩ rfl
  | succ n ih => exact fun hn => after_B m c ⟨n + 1, hn⟩ n rfl (ih _).w

/-- The five results as arrays. -/
def hOut : Vec Ideal S4096x1024 .f32 := fun y => hM m c ⟨(y 0).val, (y 0).isLt⟩ ⟨(y 1).val, (y 1).isLt⟩
def qOut : Vec Ideal S4096x1024 .bf16 := fun y => qM m c ⟨(y 0).val, (y 0).isLt⟩ ⟨(y 1).val, (y 1).isLt⟩
def uOut : Vec Ideal S4096x1024 .bf16 := fun y => scaled (hM m c) (gM m c) ⟨(y 0).val, (y 0).isLt⟩ ⟨(y 1).val, (y 1).isLt⟩
def gateOut : Vec Ideal S4096x2816 .bf16 := fun y => gate (hM m c) (gM m c) (wM m c) ⟨(y 0).val, (y 0).isLt⟩ ⟨(y 1).val, (y 1).isLt⟩
def valOut : Vec Ideal S4096x2816 .bf16 := fun y => val (hM m c) (gM m c) (wM m c) ⟨(y 0).val, (y 0).isLt⟩ ⟨(y 1).val, (y 1).isLt⟩

end Cert.Kernel5Ideal.Fwd

end
-- ==== Proof.Fwd.Final.lean ====
/- The kernel's first five result arrays. -/
module

public import proofs.«01_k».proof.Proof.Gen.Kernel5Ideal.Value
public import proofs.«01_k».proof.Proof.Fwd.Global

@[expose] public section

set_option maxRecDepth 16384

noncomputable section

namespace Cert.Kernel5Ideal.Fwd

open Cert.Kernel5Ideal Cert.Kernel5Ideal.Gen Idealize.ShloMosaic Idealize.ShloMosaic.TcCoe Idealize.SL.Sem
open Cert.Mlp Cert.Norm Cert.Up Cert.Fwd

variable (m : (ℓ : Loc nD τ sig) → Buf (Elt Ideal) ℓ) (c : Dev nD)

theorem xs13 (t : Fin cfg0.N) : win0_13.xsize (grid0.coords t) 0 = 256 ∧ win0_13.xsize (grid0.coords t) 1 = 1024 :=
  (by decide +kernel : ∀ t : Fin grid0.N, win0_13.xsize (grid0.coords t) 0 = 256 ∧ win0_13.xsize (grid0.coords t) 1 = 1024) t

theorem cut_h (t : Fin cfg0.N) (o : Vec Ideal S256x1024 .f32)
    (A : ∀ (r : Fin 256) (k : Fin 1024), o (ix2 r k) = hM m c ⟨t.val * 256 + r.val, row_lt t r⟩ k) :
    (cfg0.win 13).cut (grid0.coords t) o = ((cfg0.win 13).blk t).view.read (Elt Ideal) (hOut m c) := by
  have hi := idx t
  funext j
  rw [View.read_apply]
  have hj0 : (j 0).val < 256 := lt_of_lt_of_eq (j 0).isLt (xs13 t).1
  have hj1 : (j 1).val < 1024 := lt_of_lt_of_eq (j 1).isLt (xs13 t).2
  refine Eq.trans (b := o (ix2 ⟨(j 0).val, hj0⟩ ⟨(j 1).val, hj1⟩)) ?_ ((A _ _).trans ?_)
  · exact congrArg o (funext fun a => match a with | ⟨0, _⟩ => rfl | ⟨1, _⟩ => rfl)
  · refine congrArg₂ (hM m c) ?_ ?_
    · apply Fin.ext
      show t.val * 256 + (j 0).val = win0_13.index t 0 * 256 + 1 * (j 0).val
      rw [hi.2.2.2.2.2.2.2.2.2.2.2.2.2.2.2.2.1]; omega
    · apply Fin.ext
      show (j 1).val = win0_13.index t 1 * 1024 + 1 * (j 1).val
      rw [hi.2.2.2.2.2.2.2.2.2.2.2.2.2.2.2.2.2.1]; omega

theorem flushed_h (t : Fin cfg0.N) : (dats m 0 c).flushed 13 t = ((cfg0.win 13).blk t).view.read (Elt Ideal) (hOut m c) :=
  (Value.flushed13 m c t).trans (cut_h m c t _ (after m c t.val t.isLt).h1)

theorem final_h : (dats m 0 c).arrAt 13 cfg0.N = hOut m c :=
  (dats m 0 c).arrAt_eq_of_cover 13 (hOut m c) (fun t _ => flushed_h m c t) fun i => by
    have h0 : (i 0 : Nat) < 4096 := (i 0).isLt
    have h1 : (i 1 : Nat) < 1024 := (i 1).isLt
    obtain ⟨t, ht⟩ : ∃ t : Fin cfg0.N, t.val = (i 0 : Nat) / 256 := ⟨⟨(i 0 : Nat) / 256, lt_of_lt_of_eq (by omega : _ < 16) (show cfg0.N = 16 from N_0).symm⟩, rfl⟩
    have hi := idx t
    refine ⟨t, flush0_13 t, ?_⟩
    show i ∈ ((View.whole main_v5_0).slice (win0_13.rect t)).set
    rw [View.set_slice_whole, Rect.mem_set_unit]
    intro a
    match a with
    | ⟨0, _⟩ =>
      show win0_13.index t 0 * 256 ≤ (i 0 : Nat) ∧ (i 0 : Nat) < win0_13.index t 0 * 256 + win0_13.xsize (grid0.coords t) 0
      rw [(xs13 t).1, hi.2.2.2.2.2.2.2.2.2.2.2.2.2.2.2.2.1]
      omega
    | ⟨1, _⟩ =>
      show win0_13.index t 1 * 1024 ≤ (i 1 : Nat) ∧ (i 1 : Nat) < win0_13.index t 1 * 1024 + win0_13.xsize (grid0.coords t) 1
      rw [(xs13 t).2, hi.2.2.2.2.2.2.2.2.2.2.2.2.2.2.2.2.2.1]
      omega

theorem xs14 (t : Fin cfg0.N) : win0_14.xsize (grid0.coords t) 0 = 256 ∧ win0_14.xsize (grid0.coords t) 1 = 1024 :=
  (by decide +kernel : ∀ t : Fin grid0.N, win0_14.xsize (grid0.coords t) 0 = 256 ∧ win0_14.xsize (grid0.coords t) 1 = 1024) t

theorem cut_q (t : Fin cfg0.N) (o : Vec Ideal S256x1024 .bf16)
    (A : ∀ (r : Fin 256) (k : Fin 1024), o (ix2 r k) = qM m c ⟨t.val * 256 + r.val, row_lt t r⟩ k) :
    (cfg0.win 14).cut (grid0.coords t) o = ((cfg0.win 14).blk t).view.read (Elt Ideal) (qOut m c) := by
  have hi := idx t
  funext j
  rw [View.read_apply]
  have hj0 : (j 0).val < 256 := lt_of_lt_of_eq (j 0).isLt (xs14 t).1
  have hj1 : (j 1).val < 1024 := lt_of_lt_of_eq (j 1).isLt (xs14 t).2
  refine Eq.trans (b := o (ix2 ⟨(j 0).val, hj0⟩ ⟨(j 1).val, hj1⟩)) ?_ ((A _ _).trans ?_)
  · exact congrArg o (funext fun a => match a with | ⟨0, _⟩ => rfl | ⟨1, _⟩ => rfl)
  · refine congrArg₂ (qM m c) ?_ ?_
    · apply Fin.ext
      show t.val * 256 + (j 0).val = win0_14.index t 0 * 256 + 1 * (j 0).val
      rw [hi.2.2.2.2.2.2.2.2.2.2.2.2.2.2.2.2.2.2.1]; omega
    · apply Fin.ext
      show (j 1).val = win0_14.index t 1 * 1024 + 1 * (j 1).val
      rw [hi.2.2.2.2.2.2.2.2.2.2.2.2.2.2.2.2.2.2.2.1]; omega

theorem flushed_q (t : Fin cfg0.N) : (dats m 0 c).flushed 14 t = ((cfg0.win 14).blk t).view.read (Elt Ideal) (qOut m c) :=
  (Value.flushed14 m c t).trans (cut_q m c t _ (after m c t.val t.isLt).mixed)

theorem final_q : (dats m 0 c).arrAt 14 cfg0.N = qOut m c :=
  (dats m 0 c).arrAt_eq_of_cover 14 (qOut m c) (fun t _ => flushed_q m c t) fun i => by
    have h0 : (i 0 : Nat) < 4096 := (i 0).isLt
    have h1 : (i 1 : Nat) < 1024 := (i 1).isLt
    obtain ⟨t, ht⟩ : ∃ t : Fin cfg0.N, t.val = (i 0 : Nat) / 256 := ⟨⟨(i 0 : Nat) / 256, lt_of_lt_of_eq (by omega : _ < 16) (show cfg0.N = 16 from N_0).symm⟩, rfl⟩
    have hi := idx t
    refine ⟨t, flush0_14 t, ?_⟩
    show i ∈ ((View.whole main_v5_1).slice (win0_14.rect t)).set
    rw [View.set_slice_whole, Rect.mem_set_unit]
    intro a
    match a with
    | ⟨0, _⟩ =>
      show win0_14.index t 0 * 256 ≤ (i 0 : Nat) ∧ (i 0 : Nat) < win0_14.index t 0 * 256 + win0_14.xsize (grid0.coords t) 0
      rw [(xs14 t).1, hi.2.2.2.2.2.2.2.2.2.2.2.2.2.2.2.2.2.2.1]
      omega
    | ⟨1, _⟩ =>
      show win0_14.index t 1 * 1024 ≤ (i 1 : Nat) ∧ (i 1 : Nat) < win0_14.index t 1 * 1024 + win0_14.xsize (grid0.coords t) 1
      rw [(xs14 t).2, hi.2.2.2.2.2.2.2.2.2.2.2.2.2.2.2.2.2.2.2.1]
      omega

theorem xs15 (t : Fin cfg0.N) : win0_15.xsize (grid0.coords t) 0 = 256 ∧ win0_15.xsize (grid0.coords t) 1 = 1024 :=
  (by decide +kernel : ∀ t : Fin grid0.N, win0_15.xsize (grid0.coords t) 0 = 256 ∧ win0_15.xsize (grid0.coords t) 1 = 1024) t

theorem cut_u (t : Fin cfg0.N) (o : Vec Ideal S256x1024 .bf16)
    (A : ∀ (r : Fin 256) (k : Fin 1024), o (ix2 r k) = scaled (hM m c) (gM m c) ⟨t.val * 256 + r.val, row_lt t r⟩ k) :
    (cfg0.win 15).cut (grid0.coords t) o = ((cfg0.win 15).blk t).view.read (Elt Ideal) (uOut m c) := by
  have hi := idx t
  funext j
  rw [View.read_apply]
  have hj0 : (j 0).val < 256 := lt_of_lt_of_eq (j 0).isLt (xs15 t).1
  have hj1 : (j 1).val < 1024 := lt_of_lt_of_eq (j 1).isLt (xs15 t).2
  refine Eq.trans (b := o (ix2 ⟨(j 0).val, hj0⟩ ⟨(j 1).val, hj1⟩)) ?_ ((A _ _).trans ?_)
  · exact congrArg o (funext fun a => match a with | ⟨0, _⟩ => rfl | ⟨1, _⟩ => rfl)
  · refine congrArg₂ (scaled (hM m c) (gM m c)) ?_ ?_
    · apply Fin.ext
      show t.val * 256 + (j 0).val = win0_15.index t 0 * 256 + 1 * (j 0).val
      rw [hi.2.2.2.2.2.2.2.2.2.2.2.2.2.2.2.2.2.2.2.2.1]; omega
    · apply Fin.ext
      show (j 1).val = win0_15.index t 1 * 1024 + 1 * (j 1).val
      rw [hi.2.2.2.2.2.2.2.2.2.2.2.2.2.2.2.2.2.2.2.2.2.1]; omega

theorem flushed_u (t : Fin cfg0.N) : (dats m 0 c).flushed 15 t = ((cfg0.win 15).blk t).view.read (Elt Ideal) (uOut m c) :=
  (Value.flushed15 m c t).trans (cut_u m c t _ (after m c t.val t.isLt).u)

theorem final_u : (dats m 0 c).arrAt 15 cfg0.N = uOut m c :=
  (dats m 0 c).arrAt_eq_of_cover 15 (uOut m c) (fun t _ => flushed_u m c t) fun i => by
    have h0 : (i 0 : Nat) < 4096 := (i 0).isLt
    have h1 : (i 1 : Nat) < 1024 := (i 1).isLt
    obtain ⟨t, ht⟩ : ∃ t : Fin cfg0.N, t.val = (i 0 : Nat) / 256 := ⟨⟨(i 0 : Nat) / 256, lt_of_lt_of_eq (by omega : _ < 16) (show cfg0.N = 16 from N_0).symm⟩, rfl⟩
    have hi := idx t
    refine ⟨t, flush0_15 t, ?_⟩
    show i ∈ ((View.whole main_v5_2).slice (win0_15.rect t)).set
    rw [View.set_slice_whole, Rect.mem_set_unit]
    intro a
    match a with
    | ⟨0, _⟩ =>
      show win0_15.index t 0 * 256 ≤ (i 0 : Nat) ∧ (i 0 : Nat) < win0_15.index t 0 * 256 + win0_15.xsize (grid0.coords t) 0
      rw [(xs15 t).1, hi.2.2.2.2.2.2.2.2.2.2.2.2.2.2.2.2.2.2.2.2.1]
      omega
    | ⟨1, _⟩ =>
      show win0_15.index t 1 * 1024 ≤ (i 1 : Nat) ∧ (i 1 : Nat) < win0_15.index t 1 * 1024 + win0_15.xsize (grid0.coords t) 1
      rw [(xs15 t).2, hi.2.2.2.2.2.2.2.2.2.2.2.2.2.2.2.2.2.2.2.2.2.1]
      omega

theorem xs16 (t : Fin cfg0.N) : win0_16.xsize (grid0.coords t) 0 = 256 ∧ win0_16.xsize (grid0.coords t) 1 = 2816 :=
  (by decide +kernel : ∀ t : Fin grid0.N, win0_16.xsize (grid0.coords t) 0 = 256 ∧ win0_16.xsize (grid0.coords t) 1 = 2816) t

theorem cut_gate (t : Fin cfg0.N) (o : Vec Ideal S256x2816 .bf16)
    (A : ∀ (r : Fin 256) (k : Fin 2816), o (ix2 r k) = Cert.Fwd.gate (hM m c) (gM m c) (wM m c) ⟨t.val * 256 + r.val, row_lt t r⟩ k) :
    (cfg0.win 16).cut (grid0.coords t) o = ((cfg0.win 16).blk t).view.read (Elt Ideal) (gateOut m c) := by
  have hi := idx t
  funext j
  rw [View.read_apply]
  have hj0 : (j 0).val < 256 := lt_of_lt_of_eq (j 0).isLt (xs16 t).1
  have hj1 : (j 1).val < 2816 := lt_of_lt_of_eq (j 1).isLt (xs16 t).2
  refine Eq.trans (b := o (ix2 ⟨(j 0).val, hj0⟩ ⟨(j 1).val, hj1⟩)) ?_ ((A _ _).trans ?_)
  · exact congrArg o (funext fun a => match a with | ⟨0, _⟩ => rfl | ⟨1, _⟩ => rfl)
  · refine congrArg₂ (Cert.Fwd.gate (hM m c) (gM m c) (wM m c)) ?_ ?_
    · apply Fin.ext
      show t.val * 256 + (j 0).val = win0_16.index t 0 * 256 + 1 * (j 0).val
      rw [hi.2.2.2.2.2.2.2.2.2.2.2.2.2.2.2.2.2.2.2.2.2.2.1]; omega
    · apply Fin.ext
      show (j 1).val = win0_16.index t 1 * 2816 + 1 * (j 1).val
      rw [hi.2.2.2.2.2.2.2.2.2.2.2.2.2.2.2.2.2.2.2.2.2.2.2.1]; omega

theorem flushed_gate (t : Fin cfg0.N) : (dats m 0 c).flushed 16 t = ((cfg0.win 16).blk t).view.read (Elt Ideal) (gateOut m c) :=
  (Value.flushed16 m c t).trans (cut_gate m c t _ (after m c t.val t.isLt).gate)

theorem final_gate : (dats m 0 c).arrAt 16 cfg0.N = gateOut m c :=
  (dats m 0 c).arrAt_eq_of_cover 16 (gateOut m c) (fun t _ => flushed_gate m c t) fun i => by
    have h0 : (i 0 : Nat) < 4096 := (i 0).isLt
    have h1 : (i 1 : Nat) < 2816 := (i 1).isLt
    obtain ⟨t, ht⟩ : ∃ t : Fin cfg0.N, t.val = (i 0 : Nat) / 256 := ⟨⟨(i 0 : Nat) / 256, lt_of_lt_of_eq (by omega : _ < 16) (show cfg0.N = 16 from N_0).symm⟩, rfl⟩
    have hi := idx t
    refine ⟨t, flush0_16 t, ?_⟩
    show i ∈ ((View.whole main_v5_3).slice (win0_16.rect t)).set
    rw [View.set_slice_whole, Rect.mem_set_unit]
    intro a
    match a with
    | ⟨0, _⟩ =>
      show win0_16.index t 0 * 256 ≤ (i 0 : Nat) ∧ (i 0 : Nat) < win0_16.index t 0 * 256 + win0_16.xsize (grid0.coords t) 0
      rw [(xs16 t).1, hi.2.2.2.2.2.2.2.2.2.2.2.2.2.2.2.2.2.2.2.2.2.2.1]
      omega
    | ⟨1, _⟩ =>
      show win0_16.index t 1 * 2816 ≤ (i 1 : Nat) ∧ (i 1 : Nat) < win0_16.index t 1 * 2816 + win0_16.xsize (grid0.coords t) 1
      rw [(xs16 t).2, hi.2.2.2.2.2.2.2.2.2.2.2.2.2.2.2.2.2.2.2.2.2.2.2.1]
      omega

theorem xs17 (t : Fin cfg0.N) : win0_17.xsize (grid0.coords t) 0 = 256 ∧ win0_17.xsize (grid0.coords t) 1 = 2816 :=
  (by decide +kernel : ∀ t : Fin grid0.N, win0_17.xsize (grid0.coords t) 0 = 256 ∧ win0_17.xsize (grid0.coords t) 1 = 2816) t

theorem cut_val (t : Fin cfg0.N) (o : Vec Ideal S256x2816 .bf16)
    (A : ∀ (r : Fin 256) (k : Fin 2816), o (ix2 r k) = Cert.Fwd.val (hM m c) (gM m c) (wM m c) ⟨t.val * 256 + r.val, row_lt t r⟩ k) :
    (cfg0.win 17).cut (grid0.coords t) o = ((cfg0.win 17).blk t).view.read (Elt Ideal) (valOut m c) := by
  have hi := idx t
  funext j
  rw [View.read_apply]
  have hj0 : (j 0).val < 256 := lt_of_lt_of_eq (j 0).isLt (xs17 t).1
  have hj1 : (j 1).val < 2816 := lt_of_lt_of_eq (j 1).isLt (xs17 t).2
  refine Eq.trans (b := o (ix2 ⟨(j 0).val, hj0⟩ ⟨(j 1).val, hj1⟩)) ?_ ((A _ _).trans ?_)
  · exact congrArg o (funext fun a => match a with | ⟨0, _⟩ => rfl | ⟨1, _⟩ => rfl)
  · refine congrArg₂ (Cert.Fwd.val (hM m c) (gM m c) (wM m c)) ?_ ?_
    · apply Fin.ext
      show t.val * 256 + (j 0).val = win0_17.index t 0 * 256 + 1 * (j 0).val
      rw [hi.2.2.2.2.2.2.2.2.2.2.2.2.2.2.2.2.2.2.2.2.2.2.2.2.1]; omega
    · apply Fin.ext
      show (j 1).val = win0_17.index t 1 * 2816 + 1 * (j 1).val
      rw [hi.2.2.2.2.2.2.2.2.2.2.2.2.2.2.2.2.2.2.2.2.2.2.2.2.2]; omega

theorem flushed_val (t : Fin cfg0.N) : (dats m 0 c).flushed 17 t = ((cfg0.win 17).blk t).view.read (Elt Ideal) (valOut m c) :=
  (Value.flushed17 m c t).trans (cut_val m c t _ (after m c t.val t.isLt).val)

theorem final_val : (dats m 0 c).arrAt 17 cfg0.N = valOut m c :=
  (dats m 0 c).arrAt_eq_of_cover 17 (valOut m c) (fun t _ => flushed_val m c t) fun i => by
    have h0 : (i 0 : Nat) < 4096 := (i 0).isLt
    have h1 : (i 1 : Nat) < 2816 := (i 1).isLt
    obtain ⟨t, ht⟩ : ∃ t : Fin cfg0.N, t.val = (i 0 : Nat) / 256 := ⟨⟨(i 0 : Nat) / 256, lt_of_lt_of_eq (by omega : _ < 16) (show cfg0.N = 16 from N_0).symm⟩, rfl⟩
    have hi := idx t
    refine ⟨t, flush0_17 t, ?_⟩
    show i ∈ ((View.whole main_v5_4).slice (win0_17.rect t)).set
    rw [View.set_slice_whole, Rect.mem_set_unit]
    intro a
    match a with
    | ⟨0, _⟩ =>
      show win0_17.index t 0 * 256 ≤ (i 0 : Nat) ∧ (i 0 : Nat) < win0_17.index t 0 * 256 + win0_17.xsize (grid0.coords t) 0
      rw [(xs17 t).1, hi.2.2.2.2.2.2.2.2.2.2.2.2.2.2.2.2.2.2.2.2.2.2.2.2.1]
      omega
    | ⟨1, _⟩ =>
      show win0_17.index t 1 * 2816 ≤ (i 1 : Nat) ∧ (i 1 : Nat) < win0_17.index t 1 * 2816 + win0_17.xsize (grid0.coords t) 1
      rw [(xs17 t).2, hi.2.2.2.2.2.2.2.2.2.2.2.2.2.2.2.2.2.2.2.2.2.2.2.2.2]
      omega

end Cert.Kernel5Ideal.Fwd

end
-- ==== Proof.Fwd.Tail.lean ====
/- The forward lines after the up projection, written entry by entry: the second residual, the last norm, its distance from the target, the loss, and the gradients of the two. -/
module

public import proofs.«01_k».proof.Proof.Fwd.Spec
public import proofs.«01_k».proof.Proof.In.Spec

@[expose] public section

set_option maxRecDepth 16384

noncomputable section

namespace Cert.Fwd

open Idealize.ShloMosaic Cert.Mlp Cert.Norm Cert.Up

section
variable (H : Fin 4096 → Fin 1024 → EReal) (A : Fin 4096 → Fin 2816 → EReal) (WD : Fin 2816 → Fin 1024 → EReal)

/-- The residual after the down projection of the activation `A`. -/
def h2 (t : Fin 4096) (k : Fin 1024) : EReal := H t k + ∑ c, A t c * WD c k
end

variable (Y : Fin 4096 → Fin 1024 → EReal) (GF : Fin 1024 → EReal) (T : Fin 4096 → Fin 1024 → EReal)

/-- The last norm without its scale. -/
def normed (t : Fin 4096) (k : Fin 1024) : EReal := Y t k * rms 1024 (Y t)

/-- The distance from the target. -/
def miss (t : Fin 4096) (k : Fin 1024) : EReal := normed Y t k * GF k - T t k

/-- One over the width. -/
def inv : EReal := (((1024 : ℝ)⁻¹ : ℝ) : EReal)
/-- Half of it. -/
def halfInv : EReal := (((2048 : ℝ)⁻¹ : ℝ) : EReal)

/-- The cotangent of the scaled norm. -/
def dy (t : Fin 4096) (k : Fin 1024) : EReal := miss Y GF T t k * inv

/-- Row `n`'s part of the loss, and of the gradient of the scale. -/
def lossTerm (n : ℕ) : EReal := if h : n < 4096 then ∑ k, miss Y GF T ⟨n, h⟩ k * miss Y GF T ⟨n, h⟩ k else 0
def dgfTerm (k : Fin 1024) (n : ℕ) : EReal := if h : n < 4096 then dy Y GF T ⟨n, h⟩ k * normed Y ⟨n, h⟩ k else 0

/-- The loss. -/
def loss : EReal := (∑ t : Fin 4096, lossTerm Y GF T t.val) * halfInv

/-- The gradient of the scale. -/
def dgf (k : Fin 1024) : EReal := ∑ t : Fin 4096, dgfTerm Y GF T k t.val

/-- The gradient of the residual. -/
def dh2 (t : Fin 4096) (k : Fin 1024) : EReal := normGrad 1024 (Y t) (fun i => dy Y GF T t i * GF i) k

theorem inv_nonneg : 0 ≤ inv := by unfold inv; exact_mod_cast (by positivity : (0 : ℝ) ≤ (1024 : ℝ)⁻¹)
theorem halfInv_nonneg : 0 ≤ halfInv := by unfold halfInv; exact_mod_cast (by positivity : (0 : ℝ) ≤ (2048 : ℝ)⁻¹)

/-- A factor that is a real and not negative may go before or after a sum. -/
theorem sum_mul_real {ι : Type} (s : Finset ι) (f : ι → EReal) {x : EReal} (h0 : 0 ≤ x) (h1 : x ≠ ⊤) : ∑ i ∈ s, f i * x = (∑ i ∈ s, f i) * x := by
  classical
  induction s using Finset.induction_on with
  | empty => simp
  | insert a s h ih => rw [Finset.sum_insert h, Finset.sum_insert h, ih, EReal.right_distrib_of_nonneg_of_ne_top h0 h1]

theorem halfInv_eq : Ideal.ofBits FTy.f32 973078528#32 = halfInv := by
  unfold halfInv
  simp [Ideal.ofBits, Ideal.ieee]
  rw [← EReal.coe_mul]; norm_num [zpow_neg]

/-- Half of the mean of the squares. -/
theorem loss_mean (S : Fin 4096 → EReal) : half * ∑ t, S t * inv = (∑ t, S t) * halfInv := by
  rw [sum_mul_real _ _ inv_nonneg (by unfold inv; exact EReal.coe_ne_top _), mul_comm half, mul_assoc]
  congr 1
  rw [half_eq]
  unfold inv halfInv
  rw [← EReal.coe_mul]
  norm_num

/-- The derivative of half of the mean square. -/
theorem dy_chain (e : EReal) :
    half * inv * (((2 : ℝ) : EReal) * e) = e * inv := by
  rw [← mul_assoc, mul_comm e]
  congr 1
  rw [half_eq]
  unfold inv
  rw [← EReal.coe_mul, ← EReal.coe_mul]
  congr 1
  norm_num

variable {Y GF T}

theorem IsReal.minus {x y : EReal} : IsReal x → IsReal y → IsReal (x - y) := fun ⟨a, ha⟩ ⟨b, hb⟩ => ⟨a - b, by rw [ha, hb, EReal.coe_sub]⟩

theorem dy_real (hY : ∀ t k, IsReal (Y t k)) (hG : ∀ k, IsReal (GF k)) (hT : ∀ t k, IsReal (T t k)) (t : Fin 4096) (k : Fin 1024) : IsReal (dy Y GF T t k) :=
  (IsReal.minus (((hY t k).mul (rms_real (by norm_num) (hY t))).mul (hG k)) (hT t k)).mul (IsReal.coe _)

end Cert.Fwd

end
-- ==== Proof.Fwd.Chunk.lean ====
/- The rest of one grid point, in its two column blocks: the convolution over the rows before, the activation and its projection. -/
module

public import proofs.«01_k».proof.Proof.Fwd.Block
public import proofs.«01_k».proof.Proof.Fwd.Tail

@[expose] public section

set_option maxRecDepth 16384

noncomputable section

namespace Cert.Kernel5Ideal.Fwd

open Cert.Kernel5Ideal Cert.Kernel5Ideal.Gen Idealize.ShloMosaic Idealize.ShloMosaic.TcCoe Idealize.SL.Sem
open Cert.Mlp Cert.Norm Cert.Up Cert.Fwd

theorem isqrt2_named : Named.named (F := Ideal) (φ := .f32) κ "inv_sqrt2" 1060439283#32 = isqrt2 := IdealRules.named_const.ideal_named_scalar _ _ _ _ rfl

theorem sel (r k : ℕ) (hr : r < 256) (hk : k < 256) (a b : EReal) :
    Scalar.select (IntOp.cmpi CmpIPredicate.eq (BitVec.ofNat 32 r) (BitVec.ofNat 32 k)) a b = if r = k then a else b := by
  unfold Scalar.select
  by_cases h : r = k
  · subst h; rw [if_pos rfl, if_pos (by simp [IntOp.cmpi])]
  · rw [if_neg h, if_neg]
    intro e
    have := congrArg BitVec.toNat (IntOp.cmpi_eq.mp e)
    simp only [BitVec.toNat_ofNat] at this
    omega

/-- Rows 6 and 7 of eight, picked by a sum. -/
theorem pick6 (f : Fin 8 → EReal) : ∑ x, Scalar.select (IntOp.cmpi CmpIPredicate.eq (BitVec.ofNat 32 x.val) 6#32) (f x) 0 = f 6 := by
  simp [Fin.sum_univ_eight, Scalar.select, IntOp.cmpi]
theorem pick7 (f : Fin 8 → EReal) : ∑ x, Scalar.select (IntOp.cmpi CmpIPredicate.eq (BitVec.ofNat 32 x.val) 7#32) (f x) 0 = f 7 := by
  simp [Fin.sum_univ_eight, Scalar.select, IntOp.cmpi]

section
variable (gv : Fin 4096 → Fin 5632 → EReal) {b : ℕ} (hb : b < 16) (c : Fin 2816) (f : Fin 256 → EReal)
  (hf : ∀ r : Fin 256, f r = gv ⟨b * 256 + r.val, by omega⟩ ⟨c.val, by omega⟩)
include hb hf

/-- A block's column of the gate, and the same one and two rows before it with the carried rows in front. -/
theorem prev0 (r : Fin 256) : f r = gpad gv (2 + (b * 256 + r.val)) c := by
  unfold gpad Cert.Mlp.gate
  rw [if_neg (by omega), dif_pos (by omega), hf]
  exact congrArg (fun t => gv t _) (Fin.ext (by show b * 256 + r.val = 2 + (b * 256 + r.val) - 2; omega))

theorem prev1 (x : EReal) (hx : x = gpad gv (b * 256 + 1) c) (r : Fin 256) (h) : (if r.val = 0 then x else f ⟨(r.val + 256 - 1) % 256, h⟩) = gpad gv (1 + (b * 256 + r.val)) c := by
  split
  · next h0 => rw [hx, h0]; congr 1; omega
  · rw [prev0 gv hb c f hf]; congr 1; simp only; omega

theorem prev2 (x y : EReal) (hx : x = gpad gv (b * 256 + 1) c) (hy : y = gpad gv (b * 256) c) (r : Fin 256) (h) :
    (if r.val = 0 then y else if r.val = 1 then x else f ⟨(r.val + 256 - 2) % 256, h⟩) = gpad gv (b * 256 + r.val) c := by
  split
  · next h0 => rw [hy, h0]; rfl
  · split
    · next h1 => rw [hx, h1]
    · rw [prev0 gv hb c f hf]; congr 1; simp only; omega

end

/-- The rows of a chunk one and two rows before, with the carried rows in front. -/
theorem s1L_at (e : Vec Ideal S256x1536 .f32) (cl : Vec Ideal S8x1536 .f32) (r : Fin 256) (j : Fin 1536) :
    k0_pay17 (iota .tc S256x1536 32 [0] iota_S256x1536_d0_w32) e cl (iota .tc S8x1536 32 [0] iota_S8x1536_d0_w32) (ix2 r j)
      = if r.val = 0 then cl (ix2 7 j) else e (ix2 ⟨(r.val + 256 - 1) % 256, by omega⟩ j) := by
  unfold_payloads
  pointwise
  rw [sel r.val 0 r.isLt (by norm_num), pick7 fun x => cl (ix2 x j)]

theorem tL_at (e : Vec Ideal S256x1536 .f32) (cl : Vec Ideal S8x1536 .f32) (b w : Vec Ideal S1x1536 .f32) (r : Fin 256) (j : Fin 1536) :
    k0_pay19 (iota .tc S256x1536 32 [0] iota_S256x1536_d0_w32) e cl (iota .tc S8x1536 32 [0] iota_S8x1536_d0_w32) b w (ix2 r j)
      = b (ix2 0 j) + w (ix2 0 j) * (if r.val = 0 then cl (ix2 6 j) else if r.val = 1 then cl (ix2 7 j) else e (ix2 ⟨(r.val + 256 - 2) % 256, by omega⟩ j)) := by
  unfold_payloads
  pointwise
  rw [sel r.val 0 r.isLt (by norm_num), sel r.val 1 r.isLt (by norm_num), pick7 fun x => cl (ix2 x j), pick6 fun x => cl (ix2 x j)]

theorem s1R_at (e : Vec Ideal S256x1280 .bf16) (cl : Vec Ideal S8x1280 .f32) (r : Fin 256) (j : Fin 1280) :
    k0_pay28 (iota .tc S256x1280 32 [0] iota_S256x1280_d0_w32) e cl (ix2 r j)
      = if r.val = 0 then cl (ix2 7 j) else e (ix2 ⟨(r.val + 256 - 1) % 256, by omega⟩ j) := by
  unfold_payloads
  pointwise
  rw [sel r.val 0 r.isLt (by norm_num), pick7 fun x => cl (ix2 x j)]

theorem s2R_at (e : Vec Ideal S256x1280 .bf16) (cl : Vec Ideal S8x1280 .f32) (r : Fin 256) (j : Fin 1280) :
    k0_pay29 (iota .tc S256x1280 32 [0] iota_S256x1280_d0_w32) e cl (ix2 r j)
      = (if r.val = 0 then cl (ix2 6 j) else if r.val = 1 then cl (ix2 7 j) else e (ix2 ⟨(r.val + 256 - 2) % 256, by omega⟩ j)) := by
  unfold_payloads
  pointwise
  rw [sel r.val 0 r.isLt (by norm_num), sel r.val 1 r.isLt (by norm_num), pick7 fun x => cl (ix2 x j), pick6 fun x => cl (ix2 x j)]

/-- The two column blocks of the carried rows, of the taps and the bias, and the two row blocks of the down projection. -/
def carL (x : Vec Ideal S8x2816 .f32) : Vec Ideal S8x1536 .f32 := View.ld x (Rect.unit (s := S8x2816) ![0, 0] S8x1536.size inb_S8x2816_S8x1536_0_0)
def carR (x : Vec Ideal S8x2816 .f32) : Vec Ideal S8x1280 .f32 := View.ld x (Rect.unit (s := S8x2816) ![0, 1536] S8x1280.size inb_S8x2816_S8x1280_0_1536)
def cbL (x : Vec Ideal S1x2816 .f32) : Vec Ideal S1x1536 .f32 := View.ld x (Rect.unit (s := S1x2816) ![0, 0] S1x1536.size inb_S1x2816_S1x1536_0_0)
def cbR (x : Vec Ideal S1x2816 .f32) : Vec Ideal S1x1280 .f32 := View.ld x (Rect.unit (s := S1x2816) ![0, 1536] S1x1280.size inb_S1x2816_S1x1280_0_1536)
def cwL0 (x : Vec Ideal S3x2816 .f32) : Vec Ideal S1x1536 .f32 := View.ld x (Rect.unit (s := S3x2816) ![0, 0] S1x1536.size inb_S3x2816_S1x1536_0_0)
def cwR0 (x : Vec Ideal S3x2816 .f32) : Vec Ideal S1x1280 .f32 := View.ld x (Rect.unit (s := S3x2816) ![0, 1536] S1x1280.size inb_S3x2816_S1x1280_0_1536)
def cwL1 (x : Vec Ideal S3x2816 .f32) : Vec Ideal S1x1536 .f32 := View.ld x (Rect.unit (s := S3x2816) ![1, 0] S1x1536.size inb_S3x2816_S1x1536_1_0)
def cwR1 (x : Vec Ideal S3x2816 .f32) : Vec Ideal S1x1280 .f32 := View.ld x (Rect.unit (s := S3x2816) ![1, 1536] S1x1280.size inb_S3x2816_S1x1280_1_1536)
def cwL2 (x : Vec Ideal S3x2816 .f32) : Vec Ideal S1x1536 .f32 := View.ld x (Rect.unit (s := S3x2816) ![2, 0] S1x1536.size inb_S3x2816_S1x1536_2_0)
def cwR2 (x : Vec Ideal S3x2816 .f32) : Vec Ideal S1x1280 .f32 := View.ld x (Rect.unit (s := S3x2816) ![2, 1536] S1x1280.size inb_S3x2816_S1x1280_2_1536)
def wdL (x : Vec Ideal S2816x1024 .bf16) : Vec Ideal S1536x1024 .bf16 := View.ld x (Rect.unit (s := S2816x1024) ![0, 0] S1536x1024.size inb_S2816x1024_S1536x1024_0_0)
def wdR (x : Vec Ideal S2816x1024 .bf16) : Vec Ideal S1280x1024 .bf16 := View.ld x (Rect.unit (s := S2816x1024) ![1536, 0] S1280x1024.size inb_S2816x1024_S1280x1024_1536_0)

theorem carL_at (x : Vec Ideal S8x2816 .f32) (i : Fin 8) (j : Fin 1536) : carL x (ix2 i j) = x (ix2 i ⟨j.val, by omega⟩) := by
  unfold carL
  pointwise [View.ld_unit]
theorem carR_at (x : Vec Ideal S8x2816 .f32) (i : Fin 8) (j : Fin 1280) : carR x (ix2 i j) = x (ix2 i ⟨1536 + j.val, by omega⟩) := by
  unfold carR
  pointwise [View.ld_unit]
theorem cbL_at (x : Vec Ideal S1x2816 .f32) (j : Fin 1536) : cbL x (ix2 0 j) = x (ix2 0 ⟨j.val, by omega⟩) := by
  unfold cbL
  pointwise [View.ld_unit]
theorem cbR_at (x : Vec Ideal S1x2816 .f32) (j : Fin 1280) : cbR x (ix2 0 j) = x (ix2 0 ⟨1536 + j.val, by omega⟩) := by
  unfold cbR
  pointwise [View.ld_unit]
theorem cwL0_at (x : Vec Ideal S3x2816 .f32) (j : Fin 1536) : cwL0 x (ix2 0 j) = x (ix2 0 ⟨j.val, by omega⟩) := by
  unfold cwL0
  pointwise [View.ld_unit]
theorem cwR0_at (x : Vec Ideal S3x2816 .f32) (j : Fin 1280) : cwR0 x (ix2 0 j) = x (ix2 0 ⟨1536 + j.val, by omega⟩) := by
  unfold cwR0
  pointwise [View.ld_unit]
theorem cwL1_at (x : Vec Ideal S3x2816 .f32) (j : Fin 1536) : cwL1 x (ix2 0 j) = x (ix2 1 ⟨j.val, by omega⟩) := by
  unfold cwL1
  pointwise [View.ld_unit]
theorem cwR1_at (x : Vec Ideal S3x2816 .f32) (j : Fin 1280) : cwR1 x (ix2 0 j) = x (ix2 1 ⟨1536 + j.val, by omega⟩) := by
  unfold cwR1
  pointwise [View.ld_unit]
theorem cwL2_at (x : Vec Ideal S3x2816 .f32) (j : Fin 1536) : cwL2 x (ix2 0 j) = x (ix2 2 ⟨j.val, by omega⟩) := by
  unfold cwL2
  pointwise [View.ld_unit]
theorem cwR2_at (x : Vec Ideal S3x2816 .f32) (j : Fin 1280) : cwR2 x (ix2 0 j) = x (ix2 2 ⟨1536 + j.val, by omega⟩) := by
  unfold cwR2
  pointwise [View.ld_unit]
theorem wdL_at (x : Vec Ideal S2816x1024 .bf16) (i : Fin 1536) (j : Fin 1024) : wdL x (ix2 i j) = x (ix2 ⟨i.val, by omega⟩ j) := by
  unfold wdL
  pointwise [View.ld_unit]
theorem wdR_at (x : Vec Ideal S2816x1024 .bf16) (i : Fin 1280) (j : Fin 1024) : wdR x (ix2 i j) = x (ix2 ⟨1536 + i.val, by omega⟩ j) := by
  unfold wdR
  pointwise [View.ld_unit]

section
variable (x0 x1 x2 : Vec Ideal S256x512 .f32) (x3 : Vec Ideal S256x1024 .f32) (x4 x5 : Vec Ideal S1x512 .f32) (x6 : Vec Ideal S1024x1024 .bf16) (x7 : Vec Ideal S1x1024 .f32)
  (x8 : Vec Ideal S3x2816 .f32) (x9 : Vec Ideal S1x2816 .f32) (x10 : Vec Ideal S2816x1024 .bf16) (xs : Vec Ideal S8x2816 .f32) (w : Vec Ideal S1024x5632 .bf16)

/-- The chunks' gates in full width, and their rows before. -/
abbrev bEL := k0_pay15 (bMixed x0 x1 x2 x4 x5) x3 x6 x7 (gateL w)
abbrev bER := k0_pay26 (bGateR x0 x1 x2 x3 x4 x5 x6 x7 w)
abbrev bS1L := k0_pay17 (iota .tc S256x1536 32 [0] iota_S256x1536_d0_w32) (bEL x0 x1 x2 x3 x4 x5 x6 x7 w) (carL xs) (iota .tc S8x1536 32 [0] iota_S8x1536_d0_w32)
abbrev bTL := k0_pay19 (iota .tc S256x1536 32 [0] iota_S256x1536_d0_w32) (bEL x0 x1 x2 x3 x4 x5 x6 x7 w) (carL xs) (iota .tc S8x1536 32 [0] iota_S8x1536_d0_w32) (cbL x9) (cwL0 x8)
abbrev bS1R := k0_pay28 (iota .tc S256x1280 32 [0] iota_S256x1280_d0_w32) (bGateR x0 x1 x2 x3 x4 x5 x6 x7 w) (carR xs)
abbrev bS2R := k0_pay29 (iota .tc S256x1280 32 [0] iota_S256x1280_d0_w32) (bGateR x0 x1 x2 x3 x4 x5 x6 x7 w) (carR xs)

/-- The chunks' convolutions and activations, and the second residual. -/
abbrev bConvL := k0_pay22 (bEL x0 x1 x2 x3 x4 x5 x6 x7 w) (bS1L x0 x1 x2 x3 x4 x5 x6 x7 xs w) (bTL x0 x1 x2 x3 x4 x5 x6 x7 x8 x9 xs w) (cwL1 x8) (cwL2 x8)
abbrev bActL := k0_pay21 (bValL x0 x1 x2 x3 x4 x5 x6 x7 w) (bEL x0 x1 x2 x3 x4 x5 x6 x7 w) (bS1L x0 x1 x2 x3 x4 x5 x6 x7 xs w) (bTL x0 x1 x2 x3 x4 x5 x6 x7 x8 x9 xs w) (cwL1 x8) (cwL2 x8)
abbrev bConvR := k0_pay33 (bER x0 x1 x2 x3 x4 x5 x6 x7 w) (bS1R x0 x1 x2 x3 x4 x5 x6 x7 xs w) (bS2R x0 x1 x2 x3 x4 x5 x6 x7 xs w) (cbR x9) (cwR0 x8) (cwR1 x8) (cwR2 x8)
abbrev bActR := k0_pay32 (bValR x0 x1 x2 x3 x4 x5 x6 x7 w) (bER x0 x1 x2 x3 x4 x5 x6 x7 w) (bS1R x0 x1 x2 x3 x4 x5 x6 x7 xs w) (bS2R x0 x1 x2 x3 x4 x5 x6 x7 xs w) (cbR x9) (cwR0 x8) (cwR1 x8) (cwR2 x8)
abbrev bY2 := k0_pay23 k0_pay12 (bValL x0 x1 x2 x3 x4 x5 x6 x7 w) (bEL x0 x1 x2 x3 x4 x5 x6 x7 w) (bS1L x0 x1 x2 x3 x4 x5 x6 x7 xs w) (bTL x0 x1 x2 x3 x4 x5 x6 x7 x8 x9 xs w) (cwL1 x8) (cwL2 x8) (wdL x10)
abbrev bH2 := k0_pay34 (bH x0 x1 x2 x3 x4 x5 x6) (bY2 x0 x1 x2 x3 x4 x5 x6 x7 x8 x9 x10 xs w) (bValR x0 x1 x2 x3 x4 x5 x6 x7 w) (bER x0 x1 x2 x3 x4 x5 x6 x7 w) (bS1R x0 x1 x2 x3 x4 x5 x6 x7 xs w) (bS2R x0 x1 x2 x3 x4 x5 x6 x7 xs w) (cbR x9) (cwR0 x8) (cwR1 x8) (cwR2 x8) (wdR x10)
abbrev bRms := k0_pay35 (bH x0 x1 x2 x3 x4 x5 x6) (bY2 x0 x1 x2 x3 x4 x5 x6 x7 x8 x9 x10 xs w) (bValR x0 x1 x2 x3 x4 x5 x6 x7 w) (bER x0 x1 x2 x3 x4 x5 x6 x7 w) (bS1R x0 x1 x2 x3 x4 x5 x6 x7 xs w) (bS2R x0 x1 x2 x3 x4 x5 x6 x7 xs w) (cbR x9) (cwR0 x8) (cwR1 x8) (cwR2 x8) (wdR x10)
abbrev bNorm := k0_pay36 (bH x0 x1 x2 x3 x4 x5 x6) (bY2 x0 x1 x2 x3 x4 x5 x6 x7 x8 x9 x10 xs w) (bValR x0 x1 x2 x3 x4 x5 x6 x7 w) (bER x0 x1 x2 x3 x4 x5 x6 x7 w) (bS1R x0 x1 x2 x3 x4 x5 x6 x7 xs w) (bS2R x0 x1 x2 x3 x4 x5 x6 x7 xs w) (cbR x9) (cwR0 x8) (cwR1 x8) (cwR2 x8) (wdR x10)
end

variable {X : Fin 4096 → Fin 1024 → EReal} {A R Z : Fin 4096 → Fin 512 → EReal} {GA GH : Fin 512 → EReal} {WO : Fin 1024 → Fin 1024 → EReal}
  {G : Fin 1024 → EReal} {W : Fin 1024 → Fin 5632 → EReal} {b : ℕ}
  {CW : Fin 3 → Fin 2816 → EReal} {CB : Fin 2816 → EReal} {WD : Fin 2816 → Fin 1024 → EReal} {GF : Fin 1024 → EReal} {T : Fin 4096 → Fin 1024 → EReal}
  {x0 x1 x2 : Vec Ideal S256x512 .f32} {x3 : Vec Ideal S256x1024 .f32} {x4 x5 : Vec Ideal S1x512 .f32} {x6 : Vec Ideal S1024x1024 .bf16} {x7 : Vec Ideal S1x1024 .f32}
  {x8 : Vec Ideal S3x2816 .f32} {x9 : Vec Ideal S1x2816 .f32} {x10 : Vec Ideal S2816x1024 .bf16} {x11 : Vec Ideal S1x1024 .f32} {x12 : Vec Ideal S256x1024 .f32}

/-- Row `r` of block `b` is a row. -/
theorem blockRow {b : ℕ} (h : b < 16) (r : Fin 256) : b * 256 + r.val < 4096 := by omega

/-- The other blocks hold the taps, the bias, the down projection, the last scale and rows `256 b …` of the target. -/
structure Rest (CW : Fin 3 → Fin 2816 → EReal) (CB : Fin 2816 → EReal) (WD : Fin 2816 → Fin 1024 → EReal) (GF : Fin 1024 → EReal) (T : Fin 4096 → Fin 1024 → EReal) (b : ℕ)
    (x8 : Vec Ideal S3x2816 .f32) (x9 : Vec Ideal S1x2816 .f32) (x10 : Vec Ideal S2816x1024 .bf16) (x11 : Vec Ideal S1x1024 .f32) (x12 : Vec Ideal S256x1024 .f32) : Prop where
  lt : b < 16
  hcw : ∀ (j : Fin 3) (c : Fin 2816), x8 (ix2 j c) = CW j c
  hcb : ∀ c : Fin 2816, x9 (ix2 0 c) = CB c
  hwd : ∀ (c : Fin 2816) (k : Fin 1024), x10 (ix2 c k) = WD c k
  hgf : ∀ k : Fin 1024, x11 (ix2 0 k) = GF k
  ht : ∀ (r : Fin 256) (k : Fin 1024), x12 (ix2 r k) = T ⟨b * 256 + r.val, blockRow lt r⟩ k

/-- The last two carried rows are the two rows of the gate before block `b`. -/
structure Carried (gv : Fin 4096 → Fin 5632 → EReal) (b : ℕ) (xs : Vec Ideal S8x2816 .f32) : Prop where
  h6 : ∀ c : Fin 2816, xs (ix2 6 c) = gpad gv (b * 256) c
  h7 : ∀ c : Fin 2816, xs (ix2 7 c) = gpad gv (b * 256 + 1) c

section
variable (B : Holds X A R Z GA GH WO G b x0 x1 x2 x3 x4 x5 x6 x7) (D : Rest CW CB WD GF T b x8 x9 x10 x11 x12)
  (w : Vec Ideal S1024x5632 .bf16) (hw : ∀ k j, w (ix2 k j) = W k j) (xs : Vec Ideal S8x2816 .f32) (C : Carried (up (h1 X A R Z GA GH WO) G W) b xs)

include B hw in
theorem Holds.eL_eq (r : Fin 256) (j : Fin 1536) :
    bEL x0 x1 x2 x3 x4 x5 x6 x7 w (ix2 r j) = up (h1 X A R Z GA GH WO) G W ⟨b * 256 + r.val, B.row r⟩ ⟨j.val, by omega⟩ := by
  have e := B.gateL_eq w hw
  unfold bGateL at e
  unfold bEL k0_pay15
  generalize k0_pay13 (bMixed x0 x1 x2 x4 x5) x3 x6 x7 (gateL w) = d at e ⊢
  pointwise
  exact e r j

include B hw in
theorem Holds.eR_eq (r : Fin 256) (j : Fin 1280) :
    bER x0 x1 x2 x3 x4 x5 x6 x7 w (ix2 r j) = up (h1 X A R Z GA GH WO) G W ⟨b * 256 + r.val, B.row r⟩ ⟨1536 + j.val, by omega⟩ := by
  have e := B.gateR_eq w hw
  unfold bER k0_pay26
  generalize bGateR x0 x1 x2 x3 x4 x5 x6 x7 w = d at e ⊢
  pointwise
  exact e r j

include B D hw C in
/-- The convolution in the left chunk. -/
theorem Holds.conv20 (r : Fin 256) (j : Fin 1536) :
    k0_pay20 (bEL x0 x1 x2 x3 x4 x5 x6 x7 w) (bS1L x0 x1 x2 x3 x4 x5 x6 x7 xs w) (bTL x0 x1 x2 x3 x4 x5 x6 x7 x8 x9 xs w) (cwL1 x8) (cwL2 x8) (ix2 r j)
      = conv (up (h1 X A R Z GA GH WO) G W) CW CB ⟨b * 256 + r.val, B.row r⟩ ⟨j.val, by omega⟩ := by
  have e := B.eL_eq w hw
  unfold bS1L bTL
  generalize bEL x0 x1 x2 x3 x4 x5 x6 x7 w = d at e ⊢
  have e1 := s1L_at d (carL xs) r j
  have e2 := tL_at d (carL xs) (cbL x9) (cwL0 x8) r j
  rw [carL_at] at e1
  rw [carL_at, carL_at, cbL_at, cwL0_at] at e2
  rw [prev1 _ B.lt ⟨j.val, by omega⟩ (fun r => d (ix2 r j)) (fun r => e r j) _ (C.h7 _) r] at e1
  rw [prev2 _ B.lt ⟨j.val, by omega⟩ (fun r => d (ix2 r j)) (fun r => e r j) _ _ (C.h7 _) (C.h6 _) r] at e2
  have e0 := prev0 _ B.lt ⟨j.val, by omega⟩ (fun r => d (ix2 r j)) (fun r => e r j) r
  have e3 := cwL1_at x8 j
  have e4 := cwL2_at x8 j
  generalize k0_pay17 (iota .tc S256x1536 32 [0] iota_S256x1536_d0_w32) d (carL xs) (iota .tc S8x1536 32 [0] iota_S8x1536_d0_w32) = s1 at e1 ⊢
  generalize k0_pay19 (iota .tc S256x1536 32 [0] iota_S256x1536_d0_w32) d (carL xs) (iota .tc S8x1536 32 [0] iota_S8x1536_d0_w32) (cbL x9) (cwL0 x8) = s2 at e2 ⊢
  generalize cwL1 x8 = u1 at e3 ⊢
  generalize cwL2 x8 = u2 at e4 ⊢
  unfold k0_pay20
  pointwise
  unfold conv
  rw [e1, e2, e3, e4, D.hcw, D.hcw, D.hcw, D.hcb]
  exact congrArg _ (congrArg _ e0)

include B D hw C in
/-- The convolution in the right chunk. -/
theorem Holds.conv31 (r : Fin 256) (j : Fin 1280) :
    k0_pay31 (bER x0 x1 x2 x3 x4 x5 x6 x7 w) (bS1R x0 x1 x2 x3 x4 x5 x6 x7 xs w) (bS2R x0 x1 x2 x3 x4 x5 x6 x7 xs w) (cbR x9) (cwR0 x8) (cwR1 x8) (cwR2 x8) (ix2 r j)
      = conv (up (h1 X A R Z GA GH WO) G W) CW CB ⟨b * 256 + r.val, B.row r⟩ ⟨1536 + j.val, by omega⟩ := by
  have e := B.gateR_eq w hw
  have e0 := prev0 _ B.lt ⟨1536 + j.val, by omega⟩ (fun r => bER x0 x1 x2 x3 x4 x5 x6 x7 w (ix2 r j)) (fun r => B.eR_eq w hw r j) r
  generalize bER x0 x1 x2 x3 x4 x5 x6 x7 w = d0 at e0 ⊢
  unfold bS1R bS2R
  generalize bGateR x0 x1 x2 x3 x4 x5 x6 x7 w = d at e ⊢
  have e1 := s1R_at d (carR xs) r j
  have e2 := s2R_at d (carR xs) r j
  rw [carR_at] at e1
  rw [carR_at, carR_at] at e2
  rw [prev1 _ B.lt ⟨1536 + j.val, by omega⟩ (fun r => d (ix2 r j)) (fun r => e r j) _ (C.h7 _) r] at e1
  rw [prev2 _ B.lt ⟨1536 + j.val, by omega⟩ (fun r => d (ix2 r j)) (fun r => e r j) _ _ (C.h7 _) (C.h6 _) r] at e2
  have e3 := cwR1_at x8 j
  have e4 := cwR2_at x8 j
  have e5 := cwR0_at x8 j
  have e6 := cbR_at x9 j
  generalize k0_pay28 (iota .tc S256x1280 32 [0] iota_S256x1280_d0_w32) d (carR xs) = s1 at e1 ⊢
  generalize k0_pay29 (iota .tc S256x1280 32 [0] iota_S256x1280_d0_w32) d (carR xs) = s2 at e2 ⊢
  generalize cwR1 x8 = u1 at e3 ⊢
  generalize cwR2 x8 = u2 at e4 ⊢
  generalize cwR0 x8 = u0 at e5 ⊢
  generalize cbR x9 = ub at e6 ⊢
  unfold k0_pay31
  pointwise
  unfold conv
  rw [e1, e2, e3, e4, e5, e6, D.hcw, D.hcw, D.hcw, D.hcb]
  exact congrArg _ (congrArg _ e0)

include B D hw C

theorem Holds.convL_eq (r : Fin 256) (j : Fin 1536) : bConvL x0 x1 x2 x3 x4 x5 x6 x7 x8 x9 xs w (ix2 r j)
      = conv (up (h1 X A R Z GA GH WO) G W) CW CB ⟨b * 256 + r.val, B.row r⟩ ⟨j.val, by omega⟩ := by
  have e := B.conv20 D w hw xs C
  unfold bConvL k0_pay22
  generalize k0_pay20 (bEL x0 x1 x2 x3 x4 x5 x6 x7 w) (bS1L x0 x1 x2 x3 x4 x5 x6 x7 xs w) (bTL x0 x1 x2 x3 x4 x5 x6 x7 x8 x9 xs w) (cwL1 x8) (cwL2 x8) = d at e ⊢
  pointwise
  exact e r j

theorem Holds.convR_eq (r : Fin 256) (j : Fin 1280) : bConvR x0 x1 x2 x3 x4 x5 x6 x7 x8 x9 xs w (ix2 r j)
      = conv (up (h1 X A R Z GA GH WO) G W) CW CB ⟨b * 256 + r.val, B.row r⟩ ⟨1536 + j.val, by omega⟩ := by
  have e := B.conv31 D w hw xs C
  unfold bConvR k0_pay33
  generalize k0_pay31 (bER x0 x1 x2 x3 x4 x5 x6 x7 w) (bS1R x0 x1 x2 x3 x4 x5 x6 x7 xs w) (bS2R x0 x1 x2 x3 x4 x5 x6 x7 xs w) (cbR x9) (cwR0 x8) (cwR1 x8) (cwR2 x8) = d at e ⊢
  pointwise
  exact e r j

theorem Holds.actL_eq (r : Fin 256) (j : Fin 1536) : bActL x0 x1 x2 x3 x4 x5 x6 x7 x8 x9 xs w (ix2 r j)
      = act (up (h1 X A R Z GA GH WO) G W) CW CB ⟨b * 256 + r.val, B.row r⟩ ⟨j.val, by omega⟩ := by
  have e := B.conv20 D w hw xs C
  have e' := B.valL_eq w hw
  unfold bActL k0_pay21
  generalize k0_pay20 (bEL x0 x1 x2 x3 x4 x5 x6 x7 w) (bS1L x0 x1 x2 x3 x4 x5 x6 x7 xs w) (bTL x0 x1 x2 x3 x4 x5 x6 x7 x8 x9 xs w) (cwL1 x8) (cwL2 x8) = d at e ⊢
  generalize bValL x0 x1 x2 x3 x4 x5 x6 x7 w = v at e' ⊢
  pointwise
  rw [isqrt2_named, e, e']
  rfl

theorem Holds.actR_eq (r : Fin 256) (j : Fin 1280) : bActR x0 x1 x2 x3 x4 x5 x6 x7 x8 x9 xs w (ix2 r j)
      = act (up (h1 X A R Z GA GH WO) G W) CW CB ⟨b * 256 + r.val, B.row r⟩ ⟨1536 + j.val, by omega⟩ := by
  have e := B.conv31 D w hw xs C
  have e' := B.valR_eq w hw
  unfold bActR k0_pay32
  generalize k0_pay31 (bER x0 x1 x2 x3 x4 x5 x6 x7 w) (bS1R x0 x1 x2 x3 x4 x5 x6 x7 xs w) (bS2R x0 x1 x2 x3 x4 x5 x6 x7 xs w) (cbR x9) (cwR0 x8) (cwR1 x8) (cwR2 x8) = d at e ⊢
  generalize bValR x0 x1 x2 x3 x4 x5 x6 x7 w = v at e' ⊢
  pointwise
  rw [isqrt2_named, e, e']
  rfl

/-- The second residual: the activation's two chunks summed one after the other. -/
theorem Holds.h2_eq (r : Fin 256) (k : Fin 1024) : bH2 x0 x1 x2 x3 x4 x5 x6 x7 x8 x9 x10 xs w (ix2 r k)
      = h2 (h1 X A R Z GA GH WO) (act (up (h1 X A R Z GA GH WO) G W) CW CB) WD ⟨b * 256 + r.val, B.row r⟩ k := by
  have eL := B.actL_eq D w hw xs C
  have eR := B.actR_eq D w hw xs C
  have eH := B.h_eq
  have lL := wdL_at x10
  have lR := wdR_at x10
  unfold bActL at eL
  unfold bActR at eR
  unfold bH2 bY2 k0_pay34 k0_pay23 k0_pay12
  generalize k0_pay21 (bValL x0 x1 x2 x3 x4 x5 x6 x7 w) (bEL x0 x1 x2 x3 x4 x5 x6 x7 w) (bS1L x0 x1 x2 x3 x4 x5 x6 x7 xs w) (bTL x0 x1 x2 x3 x4 x5 x6 x7 x8 x9 xs w) (cwL1 x8) (cwL2 x8) = aL at eL ⊢
  generalize k0_pay32 (bValR x0 x1 x2 x3 x4 x5 x6 x7 w) (bER x0 x1 x2 x3 x4 x5 x6 x7 w) (bS1R x0 x1 x2 x3 x4 x5 x6 x7 xs w) (bS2R x0 x1 x2 x3 x4 x5 x6 x7 xs w) (cbR x9) (cwR0 x8) (cwR1 x8) (cwR2 x8) = aR at eR ⊢
  generalize bH x0 x1 x2 x3 x4 x5 x6 = h at eH ⊢
  generalize wdL x10 = wL at lL ⊢
  generalize wdR x10 = wR at lR ⊢
  pointwise
  simp only [eL, eR, eH, lL, lR, D.hwd, zero_add]
  unfold h2
  exact congrArg _ (Fin.sum_univ_add (a := 1536) (b := 1280) (fun c : Fin 2816 => act (up (h1 X A R Z GA GH WO) G W) CW CB ⟨b * 256 + r.val, B.row r⟩ c * WD c k)).symm

end

end Cert.Kernel5Ideal.Fwd

end
-- ==== Proof.Fwd.Carry.lean ====
/- The two carried rows of the gate: the scratch's two column blocks, as one grid point leaves them and the next one reads them. -/
module

public import proofs.«01_k».proof.Proof.Fwd.Terms
public import proofs.«01_k».proof.Proof.Fwd.Chunk

@[expose] public section

set_option maxRecDepth 16384

noncomputable section

namespace Cert.Kernel5Ideal.Fwd

open Cert.Kernel5Ideal Cert.Kernel5Ideal.Gen Idealize.ShloMosaic Idealize.ShloMosaic.TcCoe Idealize.SL.Sem
open Cert.Mlp Cert.Norm Cert.Up Cert.Fwd

/-- The carried rows before the first block. -/
def zero8 : Vec Ideal S8x2816 .f32 := fun _ => FloatOps.ofBits (F := Ideal) FTy.f32 0#32

theorem cong4 {α β γ δ ε : Type} (f : α → β → γ → δ → ε) {a a' : α} {b b' : β} {c c' : γ} {d d' : δ} (ha : a = a') (hb : b = b') (hc : c = c') (hd : d = d') :
    f a b c d = f a' b' c' d' := by subst ha hb hc hd; rfl
theorem cong6 {α β γ δ ε ζ η : Type} (f : α → β → γ → δ → ε → ζ → η) {a a' : α} {b b' : β} {c c' : γ} {d d' : δ} {e e' : ε} {g g' : ζ}
    (ha : a = a') (hb : b = b') (hc : c = c') (hd : d = d') (he : e = e') (hg : g = g') :
    f a b c d e g = f a' b' c' d' e' g' := by subst ha hb hc hd he hg; rfl

/-- Every place of the scratch lies in its filling. -/
theorem whole_mem (iz) (y : S8x2816.Idx) : y ∈ (Rect.unit (s := S8x2816) ![0, 0] ![8, 2816] iz).set := by
  rw [Rect.mem_set_unit]
  intro a
  have h0 : (y 0).val < 8 := (y 0).isLt
  have h1 : (y 1).val < 2816 := (y 1).isLt
  match a with
  | ⟨0, _⟩ => show 0 ≤ (y 0).val ∧ (y 0).val < 0 + 8; omega
  | ⟨1, _⟩ => show 0 ≤ (y 1).val ∧ (y 1).val < 0 + 2816; omega

theorem whole_emb (iz) (i : Fin 8) (j : Fin 2816) : (Rect.unit (s := S8x2816) ![0, 0] ![8, 2816] iz).emb (ix2 i j) = ix2 i j := by
  funext a
  apply Fin.ext
  match a with
  | ⟨0, _⟩ => show 0 + 1 * i.val = i.val; omega
  | ⟨1, _⟩ => show 0 + 1 * j.val = j.val; omega

theorem canon_filled (z : S8x2816.Idx → Elt Ideal .f32) (iz) :
    View.canon (Val := Elt Ideal) (s := S8x2816) (e := .f32) [⟨Rect.unit ![0, 0] ![8, 2816] iz, z⟩] = z := by
  have key (i : Fin 8) (j : Fin 2816) : View.canon (Val := Elt Ideal) (s := S8x2816) (e := .f32) [⟨Rect.unit ![0, 0] ![8, 2816] iz, z⟩] (ix2 i j) = z (ix2 i j) :=
    Eq.trans (congrArg _ (whole_emb iz i j).symm) (View.canon_cons_emb (Rect.unit (s := S8x2816) ![0, 0] ![8, 2816] iz) z [] (ix2 i j))
  funext y
  exact (congrArg _ (eq_ix2 y)).trans ((key (y 0) (y 1)).trans (congrArg _ (eq_ix2 y).symm))

/-- The left block read after the whole scratch was filled. -/
theorem read_left (v : View sig .tc .vmem S8x2816 .f32) (z : S8x2816.Idx → Elt Ideal .f32) (iz inb) :
    v.readCov (Val := Elt Ideal) [⟨Rect.unit ![0, 0] ![8, 2816] iz, z⟩] (Rect.unit ![0, 0] ![8, 1536] inb).toLoadRect = carL z := by
  have hc : ∀ y, ∃ p ∈ ([⟨Rect.unit ![0, 0] ![8, 2816] iz, z⟩] : List (View.Piece (Elt Ideal) S8x2816 .f32)), y ∈ p.1.set := by
    intro y
    refine ⟨⟨Rect.unit (s := S8x2816) ![0, 0] ![8, 2816] iz, z⟩, List.mem_cons_self, ?_⟩
    exact whole_mem iz y
  rw [View.readCov_eq_canon_ld _ _ _ hc]
  exact congrArg (fun s : Vec Ideal S8x2816 .f32 => View.ld s (Rect.unit (s := S8x2816) ![0, 0] ![8, 1536] inb)) (canon_filled z iz)

/-- The right block read after the whole scratch was filled and its left block overwritten. -/
theorem read_right (v : View sig .tc .vmem S8x2816 .f32) (z : S8x2816.Idx → Elt Ideal .f32) (p : S8x1536.Idx → Elt Ideal .f32) (iz ip inb) :
    v.readCov (Val := Elt Ideal) [⟨Rect.unit ![0, 0] ![8, 1536] ip, p⟩, ⟨Rect.unit ![0, 0] ![8, 2816] iz, z⟩] (Rect.unit ![0, 1536] ![8, 1280] inb).toLoadRect = carR z := by
  have hc : ∀ y, ∃ a ∈ ([⟨Rect.unit ![0, 0] ![8, 1536] ip, p⟩, ⟨Rect.unit ![0, 0] ![8, 2816] iz, z⟩] : List (View.Piece (Elt Ideal) S8x2816 .f32)), y ∈ a.1.set := by
    intro y
    refine ⟨⟨Rect.unit (s := S8x2816) ![0, 0] ![8, 2816] iz, z⟩, List.mem_cons_of_mem _ List.mem_cons_self, ?_⟩
    exact whole_mem iz y
  rw [View.readCov_eq_canon_ld _ _ _ hc]
  funext y
  refine (View.canon_cons_of_not_mem (⟨Rect.unit (s := S8x2816) ![0, 0] ![8, 1536] ip, p⟩ : View.Piece (Elt Ideal) S8x2816 .f32) _
        (Rect.not_mem_set_of_axis (Rect.unit (s := S8x2816) ![0, 0] ![8, 1536] ip) ((Rect.unit (s := S8x2816) ![0, 1536] ![8, 1280] inb).emb y) (⟨1, Nat.one_lt_two⟩ : Fin 2) 0 1536 rfl rfl rfl
          (Or.inr (by show 0 + 1536 ≤ 1536 + 1 * (y 1).val; omega)))).trans ?_
  exact congrFun (canon_filled z iz) _

/-- Eight rows of 1536 columns with 1280 columns beside them. -/
def beside8 (p : Vec Ideal S8x1536 .f32) (q : Vec Ideal S8x1280 .f32) : Vec Ideal S8x2816 .f32 := fun y =>
  if h : (y 1).val < 1536 then p (ix2 ⟨(y 0).val, (y 0).isLt⟩ ⟨(y 1).val, h⟩)
  else q (ix2 ⟨(y 0).val, (y 0).isLt⟩ ⟨(y 1).val - 1536, by have : (y 1).val < 2816 := (y 1).isLt; omega⟩)

/-- The two column blocks written one after the other, over whatever was there. -/
theorem canon_beside8 (p : S8x1536.Idx → Elt Ideal .f32) (q : S8x1280.Idx → Elt Ideal .f32) (i0 i1) (L : List (View.Piece (Elt Ideal) S8x2816 .f32)) :
    View.canon (Val := Elt Ideal) (s := S8x2816) (e := .f32)
      (⟨Rect.unit ![0, 1536] ![8, 1280] i1, q⟩ :: ⟨Rect.unit ![0, 0] ![8, 1536] i0, p⟩ :: L) = beside8 p q := by
  have left (r : Fin 8) (j : Fin 1536) (h : j.val < 2816) : (Rect.unit (s := S8x2816) ![0, 0] ![8, 1536] i0).emb (ix2 r j) = ix2 r ⟨j.val, h⟩ := by
    funext a
    apply Fin.ext
    match a with
    | ⟨0, _⟩ => show 0 + 1 * r.val = r.val; omega
    | ⟨1, _⟩ => show 0 + 1 * j.val = j.val; omega
  have right (r : Fin 8) (j : Fin 1280) (h : 1536 + j.val < 2816) : (Rect.unit (s := S8x2816) ![0, 1536] ![8, 1280] i1).emb (ix2 r j) = ix2 r ⟨1536 + j.val, h⟩ := by
    funext a
    apply Fin.ext
    match a with
    | ⟨0, _⟩ => show 0 + 1 * r.val = r.val; omega
    | ⟨1, _⟩ => show 1536 + 1 * j.val = 1536 + j.val; omega
  have key (r : Fin 8) (c : Fin 2816) : View.canon (Val := Elt Ideal) (s := S8x2816) (e := .f32)
      (⟨Rect.unit ![0, 1536] ![8, 1280] i1, q⟩ :: ⟨Rect.unit ![0, 0] ![8, 1536] i0, p⟩ :: L) (ix2 r c) = beside8 p q (ix2 r c) := by
    by_cases h : c.val < 1536
    · refine (View.canon_cons_of_not_mem (⟨Rect.unit (s := S8x2816) ![0, 1536] ![8, 1280] i1, q⟩ : View.Piece (Elt Ideal) S8x2816 .f32) _
        (Rect.not_mem_set_of_axis (Rect.unit (s := S8x2816) ![0, 1536] ![8, 1280] i1) (ix2 r c) (⟨1, Nat.one_lt_two⟩ : Fin 2) 1536 1280 rfl rfl rfl (Or.inl h))).trans ?_
      refine Eq.trans (congrArg _ (left r ⟨c.val, h⟩ c.isLt).symm) ((View.canon_cons_emb (Rect.unit (s := S8x2816) ![0, 0] ![8, 1536] i0) p L (ix2 r ⟨c.val, h⟩)).trans ?_)
      show _ = (if h : c.val < 1536 then p (ix2 ⟨r.val, r.isLt⟩ ⟨c.val, h⟩) else q (ix2 ⟨r.val, r.isLt⟩ ⟨c.val - 1536, _⟩))
      rw [dif_pos h]
    · have hc := c.isLt
      refine Eq.trans (congrArg _ ((congrArg (ix2 r) (Fin.ext (by show c.val = 1536 + (c.val - 1536); omega))).trans
        (right r ⟨c.val - 1536, by omega⟩ (by show 1536 + (c.val - 1536) < 2816; omega)).symm))
        ((View.canon_cons_emb (Rect.unit (s := S8x2816) ![0, 1536] ![8, 1280] i1) q _ (ix2 r ⟨c.val - 1536, by omega⟩)).trans ?_)
      show _ = (if h : c.val < 1536 then p (ix2 ⟨r.val, r.isLt⟩ ⟨c.val, h⟩) else q (ix2 ⟨r.val, r.isLt⟩ ⟨c.val - 1536, _⟩))
      rw [dif_neg h]
  funext y
  exact (congrArg _ (eq_ix2 y)).trans ((key (y 0) (y 1)).trans (congrArg _ (eq_ix2 y).symm))

/-- Rows 248 to 255 of a chunk. -/
theorem lastL_at (e : Vec Ideal S256x1536 .f32) (i : Fin 8) (j : Fin 1536) : k0_pay18 (F := Ideal) e (ix2 i j) = e (ix2 ⟨248 + i.val, by omega⟩ j) := by
  unfold k0_pay18
  pointwise
theorem lastR_at (e : Vec Ideal S256x1280 .bf16) (i : Fin 8) (j : Fin 1280) : k0_pay30 (F := Ideal) e (ix2 i j) = e (ix2 ⟨248 + i.val, by omega⟩ j) := by
  unfold k0_pay30 k0_pay26
  pointwise

theorem carried_zero (gv : Fin 4096 → Fin 5632 → EReal) : Carried gv 0 zero8 := by
  have z : (FloatOps.ofBits (F := Ideal) FTy.f32 0#32 : EReal) = 0 := by simp
  refine ⟨fun c => ?_, fun c => ?_⟩
  · show (FloatOps.ofBits (F := Ideal) FTy.f32 0#32 : EReal) = _
    rw [z]; unfold gpad; rw [if_pos (by omega)]
  · show (FloatOps.ofBits (F := Ideal) FTy.f32 0#32 : EReal) = _
    rw [z]; unfold gpad; rw [if_pos (by omega)]

variable {X : Fin 4096 → Fin 1024 → EReal} {A R Z : Fin 4096 → Fin 512 → EReal} {GA GH : Fin 512 → EReal} {WO : Fin 1024 → Fin 1024 → EReal}
  {G : Fin 1024 → EReal} {W : Fin 1024 → Fin 5632 → EReal} {b : ℕ}
  {x0 x1 x2 : Vec Ideal S256x512 .f32} {x3 : Vec Ideal S256x1024 .f32} {x4 x5 : Vec Ideal S1x512 .f32} {x6 : Vec Ideal S1024x1024 .bf16} {x7 : Vec Ideal S1x1024 .f32}
  (B : Holds X A R Z GA GH WO G b x0 x1 x2 x3 x4 x5 x6 x7) (w : Vec Ideal S1024x5632 .bf16) (hw : ∀ k j, w (ix2 k j) = W k j)

include B hw in
theorem Holds.carry_row (i : Fin 8) (c : Fin 2816) :
    beside8 (k0_pay18 (bEL x0 x1 x2 x3 x4 x5 x6 x7 w)) (k0_pay30 (bGateR x0 x1 x2 x3 x4 x5 x6 x7 w)) (ix2 i c)
      = up (h1 X A R Z GA GH WO) G W ⟨b * 256 + (248 + i.val), by have := B.lt; omega⟩ ⟨c.val, by omega⟩ := by
  have eL := B.eL_eq w hw
  have eR := B.gateR_eq w hw
  generalize bEL x0 x1 x2 x3 x4 x5 x6 x7 w = d at eL ⊢
  generalize bGateR x0 x1 x2 x3 x4 x5 x6 x7 w = e at eR ⊢
  show (if h : c.val < 1536 then k0_pay18 (F := Ideal) d (ix2 ⟨i.val, i.isLt⟩ ⟨c.val, h⟩) else k0_pay30 (F := Ideal) e (ix2 ⟨i.val, i.isLt⟩ ⟨c.val - 1536, _⟩)) = _
  split
  · rw [lastL_at, eL]
  · rw [lastR_at, eR]
    exact congrArg _ (Fin.ext (by show 1536 + (c.val - 1536) = c.val; omega))

include B hw in
/-- What a point leaves is what the next point takes. -/
theorem Holds.carried_next :
    Carried (up (h1 X A R Z GA GH WO) G W) (b + 1) (beside8 (k0_pay18 (bEL x0 x1 x2 x3 x4 x5 x6 x7 w)) (k0_pay30 (bGateR x0 x1 x2 x3 x4 x5 x6 x7 w))) := by
  have hb := B.lt
  refine ⟨fun c => (B.carry_row w hw 6 c).trans ?_, fun c => (B.carry_row w hw 7 c).trans ?_⟩
  · unfold gpad Cert.Mlp.gate
    rw [if_neg (by omega), dif_pos (by omega)]
    exact congrArg (fun t => up (h1 X A R Z GA GH WO) G W t _) (Fin.ext (by show b * 256 + (248 + 6) = (b + 1) * 256 - 2; omega))
  · unfold gpad Cert.Mlp.gate
    rw [if_neg (by omega), dif_pos (by omega)]
    exact congrArg (fun t => up (h1 X A R Z GA GH WO) G W t _) (Fin.ext (by show b * 256 + (248 + 7) = (b + 1) * 256 + 1 - 2; omega))

end Cert.Kernel5Ideal.Fwd

end
-- ==== Proof.Fwd.Rest.lean ====
/- The taps, the bias, the down projection, the last scale and the target, as a grid point reads them. -/
module

public import proofs.«01_k».proof.Proof.Fwd.Global
public import proofs.«01_k».proof.Proof.Fwd.Carry

@[expose] public section

set_option maxRecDepth 16384

noncomputable section

namespace Cert.Kernel5Ideal.Fwd

open Cert.Kernel5Ideal Cert.Kernel5Ideal.Gen Idealize.ShloMosaic Idealize.ShloMosaic.TcCoe Idealize.SL.Sem
open Cert.Mlp Cert.Norm Cert.Up Cert.Fwd
open Cert.In (upto upto_zero upto_succ upto_last)

variable (m : (ℓ : Loc nD τ sig) → Buf (Elt Ideal) ℓ) (c : Dev nD)

/-- The other arguments, as functions of row and column. -/
abbrev cwM : Fin 3 → Fin 2816 → EReal := fun j k => (m ((c : Thread nD τ).loc main_arg9) : Vec Ideal S3x2816 .f32) (ix2 j k)
abbrev cbM : Fin 2816 → EReal := fun k => (m ((c : Thread nD τ).loc main_arg10) : Vec Ideal S1x2816 .f32) (ix2 0 k)
abbrev wdM : Fin 2816 → Fin 1024 → EReal := fun j k => (m ((c : Thread nD τ).loc main_arg11) : Vec Ideal S2816x1024 .f32) (ix2 j k)
abbrev gfM : Fin 1024 → EReal := fun k => (m ((c : Thread nD τ).loc main_arg12) : Vec Ideal S1x1024 .f32) (ix2 0 k)
abbrev tM : Fin 4096 → Fin 1024 → EReal := fun t k => (m ((c : Thread nD τ).loc main_arg13) : Vec Ideal S4096x1024 .f32) (ix2 t k)
/-- The up projection and the second residual. -/
abbrev upM := up (hM m c) (gM m c) (wM m c)
abbrev yM := h2 (hM m c) (act (upM m c) (cwM m c) (cbM m c)) (wdM m c)

theorem V_wd (j : Fin 2816) (k : Fin 1024) : (V m c main_v4 : Vec Ideal S2816x1024 .bf16) (ix2 j k) = wdM m c j k := by
  unfold V hostOps0
  after_results
  pointwise

/-- The blocks a point takes of these. -/
theorem idx' (t : Fin cfg0.N) : win0_8.index t 0 = 0 ∧ win0_8.index t 1 = 0 ∧ win0_9.index t 0 = 0 ∧ win0_9.index t 1 = 0 ∧ win0_10.index t 0 = 0 ∧ win0_10.index t 1 = 0 ∧ win0_11.index t 0 = 0 ∧ win0_11.index t 1 = 0 ∧ win0_12.index t 0 = t.val ∧ win0_12.index t 1 = 0 :=
  (by decide +kernel : ∀ t : Fin grid0.N, win0_8.index t 0 = 0 ∧ win0_8.index t 1 = 0 ∧ win0_9.index t 0 = 0 ∧ win0_9.index t 1 = 0 ∧ win0_10.index t 0 = 0 ∧ win0_10.index t 1 = 0 ∧ win0_11.index t 0 = 0 ∧ win0_11.index t 1 = 0 ∧ win0_12.index t 0 = t.val ∧ win0_12.index t 1 = 0) t

theorem blk8 (t : Fin cfg0.N) (j : Fin 3) (k : Fin 2816) : (iblk m c 8 t : Vec Ideal S3x2816 .f32) (ix2 j k) = cwM m c j k := by
  have hi := idx' t
  unfold iblk
  rw [View.read_apply]
  show V m c main_arg9 _ = _
  rw [V_main_arg9]
  show m ((c : Thread nD τ).loc main_arg9) _ = m ((c : Thread nD τ).loc main_arg9) _
  congr 1
  funext a
  apply Fin.ext
  match a with
  | ⟨0, _⟩ => show win0_8.index t 0 * 3 + 1 * _ = _; rw [hi.1]; simp
  | ⟨1, _⟩ => show win0_8.index t 1 * 2816 + 1 * _ = _; rw [hi.2.1]; simp

theorem blk9 (t : Fin cfg0.N) (k : Fin 2816) : (iblk m c 9 t : Vec Ideal S1x2816 .f32) (ix2 0 k) = cbM m c k := by
  have hi := idx' t
  unfold iblk
  rw [View.read_apply]
  show V m c main_arg10 _ = _
  rw [V_main_arg10]
  show m ((c : Thread nD τ).loc main_arg10) _ = m ((c : Thread nD τ).loc main_arg10) _
  congr 1
  funext a
  apply Fin.ext
  match a with
  | ⟨0, _⟩ => show win0_9.index t 0 * 1 + 1 * _ = _; rw [hi.2.2.1]; simp
  | ⟨1, _⟩ => show win0_9.index t 1 * 2816 + 1 * _ = _; rw [hi.2.2.2.1]; simp

theorem blk10 (t : Fin cfg0.N) (j : Fin 2816) (k : Fin 1024) : (iblk m c 10 t : Vec Ideal S2816x1024 .bf16) (ix2 j k) = wdM m c j k := by
  have hi := idx' t
  refine Eq.trans ?_ (V_wd m c j k)
  unfold iblk
  rw [View.read_apply]
  show V m c main_v4 _ = V m c main_v4 _
  generalize V m c main_v4 = A
  congr 1
  funext a
  apply Fin.ext
  match a with
  | ⟨0, _⟩ => show win0_10.index t 0 * 2816 + 1 * _ = _; rw [hi.2.2.2.2.1]; simp
  | ⟨1, _⟩ => show win0_10.index t 1 * 1024 + 1 * _ = _; rw [hi.2.2.2.2.2.1]; simp

theorem blk11 (t : Fin cfg0.N) (k : Fin 1024) : (iblk m c 11 t : Vec Ideal S1x1024 .f32) (ix2 0 k) = gfM m c k := by
  have hi := idx' t
  unfold iblk
  rw [View.read_apply]
  show V m c main_arg12 _ = _
  rw [V_main_arg12]
  show m ((c : Thread nD τ).loc main_arg12) _ = m ((c : Thread nD τ).loc main_arg12) _
  congr 1
  funext a
  apply Fin.ext
  match a with
  | ⟨0, _⟩ => show win0_11.index t 0 * 1 + 1 * _ = _; rw [hi.2.2.2.2.2.2.1]; simp
  | ⟨1, _⟩ => show win0_11.index t 1 * 1024 + 1 * _ = _; rw [hi.2.2.2.2.2.2.2.1]; simp

theorem blk12 (t : Fin cfg0.N) (r : Fin 256) (k : Fin 1024) : (iblk m c 12 t : Vec Ideal S256x1024 .f32) (ix2 r k) = tM m c ⟨t.val * 256 + r.val, row_lt t r⟩ k := by
  have hi := idx' t
  unfold iblk
  rw [View.read_apply]
  show V m c main_arg13 _ = _
  rw [V_main_arg13]
  show m ((c : Thread nD τ).loc main_arg13) _ = m ((c : Thread nD τ).loc main_arg13) _
  congr 1
  funext a
  apply Fin.ext
  match a with
  | ⟨0, _⟩ => show win0_12.index t 0 * 256 + 1 * _ = _; rw [hi.2.2.2.2.2.2.2.2.1]; simp
  | ⟨1, _⟩ => show win0_12.index t 1 * 1024 + 1 * _ = _; rw [hi.2.2.2.2.2.2.2.2.2]; simp

theorem rest (t : Fin cfg0.N) : Rest (cwM m c) (cbM m c) (wdM m c) (gfM m c) (tM m c) t.val (iblk m c 8 t) (iblk m c 9 t) (iblk m c 10 t) (iblk m c 11 t) (iblk m c 12 t) where
  lt := N16 t
  hcw := blk8 m c t
  hcb := blk9 m c t
  hwd := blk10 m c t
  hgf := blk11 m c t
  ht := blk12 m c t

end Cert.Kernel5Ideal.Fwd

end
-- ==== Proof.Fwd.Last.lean ====
/- The end of one grid point: the last norm of its rows, their part of the loss and of the gradient of the scale, and the gradient of the residual. -/
module

public import proofs.«01_k».proof.Proof.Fwd.Chunk

@[expose] public section

set_option maxRecDepth 16384

noncomputable section

namespace Cert.Kernel5Ideal.Fwd

open Cert.Kernel5Ideal Cert.Kernel5Ideal.Gen Idealize.ShloMosaic Idealize.ShloMosaic.TcCoe Idealize.SL.Sem
open Cert.Mlp Cert.Norm Cert.Up Cert.Fwd
open Cert.In (rms_kernel)

variable {Y : Fin 4096 → Fin 1024 → EReal} {GF : Fin 1024 → EReal} {T : Fin 4096 → Fin 1024 → EReal} {b : ℕ} (hb : b < 16)

section
variable (v84 : FVec Ideal S256x1024 .f32) (v179 : FVec Ideal S256x1024 .f32) (v186 : FVec Ideal S256x1280 .bf16) (v189 : FVec Ideal S256x1280 .f32) (v210 : FVec Ideal S256x1280 .f32) (v221 : FVec Ideal S256x1280 .f32) (v226 v227 v232 v236 : Vec Ideal S1x1280 .f32) (v254 : Vec Ideal S1280x1024 .bf16)
  (hY : ∀ (r : Fin 256) (k : Fin 1024), k0_pay34 v84 v179 v186 v189 v210 v221 v226 v227 v232 v236 v254 (ix2 r k) = Y ⟨b * 256 + r.val, blockRow hb r⟩ k)
include hY

theorem rms_at (r : Fin 256) (u : Fin 1) : k0_pay35 v84 v179 v186 v189 v210 v221 v226 v227 v232 v236 v254 (ix2 r u) = rms 1024 (Y ⟨b * 256 + r.val, blockRow hb r⟩) := by
  unfold k0_pay35
  generalize k0_pay34 v84 v179 v186 v189 v210 v221 v226 v227 v232 v236 v254 = d at hY ⊢
  pointwise
  simp only [hY]
  exact rms_kernel _

theorem norm_at (r : Fin 256) (k : Fin 1024) : k0_pay36 v84 v179 v186 v189 v210 v221 v226 v227 v232 v236 v254 (ix2 r k) = normed Y ⟨b * 256 + r.val, blockRow hb r⟩ k := by
  have e := rms_at hb v84 v179 v186 v189 v210 v221 v226 v227 v232 v236 v254 hY
  unfold k0_pay36
  generalize k0_pay34 v84 v179 v186 v189 v210 v221 v226 v227 v232 v236 v254 = d at hY ⊢
  generalize k0_pay35 v84 v179 v186 v189 v210 v221 v226 v227 v232 v236 v254 = s at e ⊢
  pointwise
  rw [hY, e]
  rfl

end

section
variable (n : FVec Ideal S256x1024 .f32) (hn : ∀ (r : Fin 256) (k : Fin 1024), n (ix2 r k) = normed Y ⟨b * 256 + r.val, blockRow hb r⟩ k)
  (x11 : Vec Ideal S1x1024 .f32) (hg : ∀ k : Fin 1024, x11 (ix2 0 k) = GF k)
  (x12 : Vec Ideal S256x1024 .f32) (ht : ∀ (r : Fin 256) (k : Fin 1024), x12 (ix2 r k) = T ⟨b * 256 + r.val, blockRow hb r⟩ k)
include hn hg ht

theorem miss_at (r : Fin 256) (k : Fin 1024) : k0_pay37 n x11 x12 (ix2 r k) = miss Y GF T ⟨b * 256 + r.val, blockRow hb r⟩ k := by
  unfold k0_pay37
  pointwise
  rw [hn, hg, ht]
  rfl

theorem dy_at (r : Fin 256) (k : Fin 1024) : k0_pay39 n x11 x12 (ix2 r k) = dy Y GF T ⟨b * 256 + r.val, blockRow hb r⟩ k := by
  have e := miss_at hb n hn x11 hg x12 ht
  unfold k0_pay39
  generalize k0_pay37 n x11 x12 = d at e ⊢
  pointwise
  rw [e, inv1024_eq]
  rfl

/-- The loss gains this block's rows. -/
theorem loss_at (prev : Vec Ideal S1x128 .f32) (u : Fin 1) (q : Fin 128) :
    k0_pay38 n x11 x12 prev (ix2 u q) = prev (ix2 u q) + (∑ r : Fin 256, lossTerm Y GF T (b * 256 + r.val)) * halfInv := by
  have e := miss_at hb n hn x11 hg x12 ht
  unfold k0_pay38
  generalize k0_pay37 n x11 x12 = d at e ⊢
  pointwise
  simp only [e]
  rw [halfInv_eq]
  congr 2
  refine Finset.sum_congr rfl fun r _ => ?_
  unfold lossTerm
  rw [dif_pos (by omega)]

/-- The scale's gradient gains this block's rows. -/
theorem dgf_at (prev : Vec Ideal S1x1024 .f32) (u : Fin 1) (k : Fin 1024) :
    k0_pay40 n x11 x12 prev (ix2 u k) = prev (ix2 u k) + ∑ r : Fin 256, dgfTerm Y GF T k (b * 256 + r.val) := by
  have e := dy_at hb n hn x11 hg x12 ht
  unfold k0_pay40
  generalize k0_pay39 n x11 x12 = d at e ⊢
  pointwise
  simp only [e, hn]
  congr 1
  refine Finset.sum_congr rfl fun r _ => ?_
  unfold dgfTerm
  rw [dif_pos (by omega)]

/-- The gradient of the residual. -/
theorem dh2_at (s : FVec Ideal S256x1 .f32) (hs : ∀ (r : Fin 256) (u : Fin 1), s (ix2 r u) = rms 1024 (Y ⟨b * 256 + r.val, blockRow hb r⟩)) (r : Fin 256) (k : Fin 1024) :
    k0_pay41 s n x11 x12 (ix2 r k) = dh2 Y GF T ⟨b * 256 + r.val, blockRow hb r⟩ k := by
  have e := dy_at hb n hn x11 hg x12 ht
  unfold k0_pay41
  generalize k0_pay39 n x11 x12 = d at e ⊢
  pointwise
  simp only [e, hn, hg, hs]
  rw [inv1024_eq]
  rfl

end

end Cert.Kernel5Ideal.Fwd

end
-- ==== Proof.Fwd.TailA1.lean ====
/- The first grid point of the residual and up projection: the convolution and the carried rows, read back. -/
module

public import proofs.«01_k».proof.Proof.Gen.Kernel5Ideal.Frame
public import proofs.«01_k».proof.Proof.Fwd.Carry

@[expose] public section

set_option maxRecDepth 16384

noncomputable section

namespace Cert.Kernel5Ideal.Fwd

open Cert.Kernel5Ideal Cert.Kernel5Ideal.Gen Idealize.ShloMosaic Idealize.ShloMosaic.TcCoe Idealize.SL.Sem

variable (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S1x1024 .f32) (harg8 : arg8.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg13 : Memref sig .tc .vmem S1x1024 .f32) (harg13 : arg13.IsWhole) (arg14 : Memref sig .tc .vmem S256x1024 .f32) (harg14 : arg14.IsWhole) (arg15 : Memref sig .tc .vmem S256x1024 .f32) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S256x2816 .bf16) (harg18 : arg18.IsWhole) (arg19 : Memref sig .tc .vmem S256x2816 .bf16) (harg19 : arg19.IsWhole) (arg20 : Memref sig .tc .vmem S256x2816 .bf16) (harg20 : arg20.IsWhole) (arg21 : Memref sig .tc .vmem S256x2816 .bf16) (harg21 : arg21.IsWhole) (arg22 : Memref sig .tc .vmem S256x1024 .f32) (harg22 : arg22.IsWhole) (arg23 : Memref sig .tc .vmem S1x128 .f32) (harg23 : arg23.IsWhole) (arg24 : Memref sig .tc .vmem S1x1024 .f32) (harg24 : arg24.IsWhole) (arg25 : Memref sig .tc .vmem S8x2816 .f32) (harg25 : arg25.IsWhole) (arg26 : Memref sig .tc .vmem S1024x5632 .bf16) (harg26 : arg26.IsWhole) (hc0 : cond0_0 i) (x0 : Vec Ideal S256x512 .f32) (x1 : Vec Ideal S256x512 .f32) (x2 : Vec Ideal S256x512 .f32) (x3 : Vec Ideal S256x1024 .f32) (x4 : Vec Ideal S1x512 .f32) (x5 : Vec Ideal S1x512 .f32) (x6 : Vec Ideal S1024x1024 .bf16) (x7 : Vec Ideal S1x1024 .f32) (x8 : Vec Ideal S3x2816 .f32) (x9 : Vec Ideal S1x2816 .f32) (x10 : Vec Ideal S2816x1024 .bf16) (x11 : Vec Ideal S1x1024 .f32) (x12 : Vec Ideal S256x1024 .f32) (fh0 : HbBuf0 (F := Ideal) c hbM0_0)

set_option maxHeartbeats 4000000 in
/-- The convolution after the first point. -/
theorem conv_A :
    out0_A_18 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 fh0 = beside (bConvL x0 x1 x2 x3 x4 x5 x6 x7 x8 x9 zero8 (sideBySide fh0)) (bConvR x0 x1 x2 x3 x4 x5 x6 x7 x8 x9 zero8 (sideBySide fh0)) := by
  unfold out0_A_18
  rw [View.read_writes_eq_canon _ _ _ (cover0_A_18 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 fh0)]
  unfold kernelRun0_A
  dsimp only
  sl_unfold_words
  simp (disch := decide) only [View.canon_cons_unit_lit', View.readCov_cons_unit_lit', View.readCov_unit_lit', View.readAt_eq_ld, View.ld_unit_lit', harg1.read_unread, harg2.read_unread, harg3.read_unread, harg4.read_unread, harg5.read_unread, harg6.read_unread, harg7.read_unread, harg8.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread]
  refine (canon_beside _ _ _ _).trans (cong4 (fun (gl : Vec Ideal S1024x1536 .bf16) (gr : Vec Ideal S1024x1280 .bf16) (cl : Vec Ideal S8x1536 .f32) (cr : Vec Ideal S8x1280 .f32) => beside (k0_pay22 (k0_pay15 (bMixed x0 x1 x2 x4 x5) x3 x6 x7 gl) (k0_pay17 (iota .tc S256x1536 32 [0] iota_S256x1536_d0_w32) (k0_pay15 (bMixed x0 x1 x2 x4 x5) x3 x6 x7 gl) cl (iota .tc S8x1536 32 [0] iota_S8x1536_d0_w32)) (k0_pay19 (iota .tc S256x1536 32 [0] iota_S256x1536_d0_w32) (k0_pay15 (bMixed x0 x1 x2 x4 x5) x3 x6 x7 gl) cl (iota .tc S8x1536 32 [0] iota_S8x1536_d0_w32) (cbL x9) (cwL0 x8)) (cwL1 x8) (cwL2 x8)) (k0_pay33 (k0_pay26 (k0_pay24 (bU x0 x1 x2 x3 x4 x5 x6 x7) gr)) (k0_pay28 (iota .tc S256x1280 32 [0] iota_S256x1280_d0_w32) (k0_pay24 (bU x0 x1 x2 x3 x4 x5 x6 x7) gr) cr) (k0_pay29 (iota .tc S256x1280 32 [0] iota_S256x1280_d0_w32) (k0_pay24 (bU x0 x1 x2 x3 x4 x5 x6 x7) gr) cr) (cbR x9) (cwR0 x8) (cwR1 x8) (cwR2 x8))) ?_ ?_ ?_ ?_)
  · exact (read_side arg26.view fh0 _ _ _ _ _ (slab c 0 fh0 _ _) (slab c 1 fh0 _ _) (slab c 2 fh0 _ _) (slab c 3 fh0 _ _) _ _ _ _ _ _ _ _
      (scover0_A_1 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 fh0))
  · exact (read_side arg26.view fh0 _ _ _ _ _ (slab c 0 fh0 _ _) (slab c 1 fh0 _ _) (slab c 2 fh0 _ _) (slab c 3 fh0 _ _) _ _ _ _ _ _ _ _
      (scover0_A_1 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 fh0))
  · exact read_left arg25.view zero8 _ _
  · exact read_right arg25.view zero8 _ _ _ _

set_option maxHeartbeats 4000000 in
/-- The carried rows after the first point. -/
theorem carry_A :
    sout0_A_0 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 fh0 = beside8 (k0_pay18 (bEL x0 x1 x2 x3 x4 x5 x6 x7 (sideBySide fh0))) (k0_pay30 (bGateR x0 x1 x2 x3 x4 x5 x6 x7 (sideBySide fh0))) := by
  unfold sout0_A_0
  rw [View.read_writes_eq_canon _ _ _ (scover0_A_0 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 fh0)]
  unfold kernelRun0_A
  dsimp only
  sl_unfold_words
  simp (disch := decide) only [View.canon_cons_unit_lit', View.readCov_cons_unit_lit', View.readCov_unit_lit', View.readAt_eq_ld, View.ld_unit_lit', harg1.read_unread, harg2.read_unread, harg3.read_unread, harg4.read_unread, harg5.read_unread, harg6.read_unread, harg7.read_unread, harg8.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread]
  refine (canon_beside8 _ _ _ _ _).trans (congrArg₂ (fun (gl : Vec Ideal S1024x1536 .bf16) (gr : Vec Ideal S1024x1280 .bf16) => beside8 (k0_pay18 (k0_pay15 (bMixed x0 x1 x2 x4 x5) x3 x6 x7 gl)) (k0_pay30 (k0_pay24 (bU x0 x1 x2 x3 x4 x5 x6 x7) gr))) ?_ ?_)
  · exact (read_side arg26.view fh0 _ _ _ _ _ (slab c 0 fh0 _ _) (slab c 1 fh0 _ _) (slab c 2 fh0 _ _) (slab c 3 fh0 _ _) _ _ _ _ _ _ _ _
      (scover0_A_1 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 fh0))
  · exact (read_side arg26.view fh0 _ _ _ _ _ (slab c 0 fh0 _ _) (slab c 1 fh0 _ _) (slab c 2 fh0 _ _) (slab c 3 fh0 _ _) _ _ _ _ _ _ _ _
      (scover0_A_1 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 fh0))

end Cert.Kernel5Ideal.Fwd

end
-- ==== Proof.Fwd.TailA2.lean ====
/- The first grid point of the residual and up projection: the activation, read back. -/
module

public import proofs.«01_k».proof.Proof.Gen.Kernel5Ideal.Frame
public import proofs.«01_k».proof.Proof.Fwd.Carry

@[expose] public section

set_option maxRecDepth 16384

noncomputable section

namespace Cert.Kernel5Ideal.Fwd

open Cert.Kernel5Ideal Cert.Kernel5Ideal.Gen Idealize.ShloMosaic Idealize.ShloMosaic.TcCoe Idealize.SL.Sem

variable (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S1x1024 .f32) (harg8 : arg8.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg13 : Memref sig .tc .vmem S1x1024 .f32) (harg13 : arg13.IsWhole) (arg14 : Memref sig .tc .vmem S256x1024 .f32) (harg14 : arg14.IsWhole) (arg15 : Memref sig .tc .vmem S256x1024 .f32) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S256x2816 .bf16) (harg18 : arg18.IsWhole) (arg19 : Memref sig .tc .vmem S256x2816 .bf16) (harg19 : arg19.IsWhole) (arg20 : Memref sig .tc .vmem S256x2816 .bf16) (harg20 : arg20.IsWhole) (arg21 : Memref sig .tc .vmem S256x2816 .bf16) (harg21 : arg21.IsWhole) (arg22 : Memref sig .tc .vmem S256x1024 .f32) (harg22 : arg22.IsWhole) (arg23 : Memref sig .tc .vmem S1x128 .f32) (harg23 : arg23.IsWhole) (arg24 : Memref sig .tc .vmem S1x1024 .f32) (harg24 : arg24.IsWhole) (arg25 : Memref sig .tc .vmem S8x2816 .f32) (harg25 : arg25.IsWhole) (arg26 : Memref sig .tc .vmem S1024x5632 .bf16) (harg26 : arg26.IsWhole) (hc0 : cond0_0 i) (x0 : Vec Ideal S256x512 .f32) (x1 : Vec Ideal S256x512 .f32) (x2 : Vec Ideal S256x512 .f32) (x3 : Vec Ideal S256x1024 .f32) (x4 : Vec Ideal S1x512 .f32) (x5 : Vec Ideal S1x512 .f32) (x6 : Vec Ideal S1024x1024 .bf16) (x7 : Vec Ideal S1x1024 .f32) (x8 : Vec Ideal S3x2816 .f32) (x9 : Vec Ideal S1x2816 .f32) (x10 : Vec Ideal S2816x1024 .bf16) (x11 : Vec Ideal S1x1024 .f32) (x12 : Vec Ideal S256x1024 .f32) (fh0 : HbBuf0 (F := Ideal) c hbM0_0)

set_option maxHeartbeats 4000000 in
/-- The activation after the first point. -/
theorem act_A :
    out0_A_19 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 fh0 = beside (bActL x0 x1 x2 x3 x4 x5 x6 x7 x8 x9 zero8 (sideBySide fh0)) (bActR x0 x1 x2 x3 x4 x5 x6 x7 x8 x9 zero8 (sideBySide fh0)) := by
  unfold out0_A_19
  rw [View.read_writes_eq_canon _ _ _ (cover0_A_19 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 fh0)]
  unfold kernelRun0_A
  dsimp only
  sl_unfold_words
  simp (disch := decide) only [View.canon_cons_unit_lit', View.readCov_cons_unit_lit', View.readCov_unit_lit', View.readAt_eq_ld, View.ld_unit_lit', harg1.read_unread, harg2.read_unread, harg3.read_unread, harg4.read_unread, harg5.read_unread, harg6.read_unread, harg7.read_unread, harg8.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread]
  refine (canon_beside _ _ _ _).trans (cong6 (fun (gl vl : Vec Ideal S1024x1536 .bf16) (gr vr : Vec Ideal S1024x1280 .bf16) (cl : Vec Ideal S8x1536 .f32) (cr : Vec Ideal S8x1280 .f32) => beside (k0_pay21 (k0_pay14 (bMixed x0 x1 x2 x4 x5) x3 x6 x7 vl) (k0_pay15 (bMixed x0 x1 x2 x4 x5) x3 x6 x7 gl) (k0_pay17 (iota .tc S256x1536 32 [0] iota_S256x1536_d0_w32) (k0_pay15 (bMixed x0 x1 x2 x4 x5) x3 x6 x7 gl) cl (iota .tc S8x1536 32 [0] iota_S8x1536_d0_w32)) (k0_pay19 (iota .tc S256x1536 32 [0] iota_S256x1536_d0_w32) (k0_pay15 (bMixed x0 x1 x2 x4 x5) x3 x6 x7 gl) cl (iota .tc S8x1536 32 [0] iota_S8x1536_d0_w32) (cbL x9) (cwL0 x8)) (cwL1 x8) (cwL2 x8)) (k0_pay32 (k0_pay25 (bU x0 x1 x2 x3 x4 x5 x6 x7) vr) (k0_pay26 (k0_pay24 (bU x0 x1 x2 x3 x4 x5 x6 x7) gr)) (k0_pay28 (iota .tc S256x1280 32 [0] iota_S256x1280_d0_w32) (k0_pay24 (bU x0 x1 x2 x3 x4 x5 x6 x7) gr) cr) (k0_pay29 (iota .tc S256x1280 32 [0] iota_S256x1280_d0_w32) (k0_pay24 (bU x0 x1 x2 x3 x4 x5 x6 x7) gr) cr) (cbR x9) (cwR0 x8) (cwR1 x8) (cwR2 x8))) ?_ ?_ ?_ ?_ ?_ ?_)
  · exact (read_side arg26.view fh0 _ _ _ _ _ (slab c 0 fh0 _ _) (slab c 1 fh0 _ _) (slab c 2 fh0 _ _) (slab c 3 fh0 _ _) _ _ _ _ _ _ _ _
      (scover0_A_1 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 fh0))
  · exact (read_side arg26.view fh0 _ _ _ _ _ (slab c 0 fh0 _ _) (slab c 1 fh0 _ _) (slab c 2 fh0 _ _) (slab c 3 fh0 _ _) _ _ _ _ _ _ _ _
      (scover0_A_1 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 fh0))
  · exact (read_side arg26.view fh0 _ _ _ _ _ (slab c 0 fh0 _ _) (slab c 1 fh0 _ _) (slab c 2 fh0 _ _) (slab c 3 fh0 _ _) _ _ _ _ _ _ _ _
      (scover0_A_1 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 fh0))
  · exact (read_side arg26.view fh0 _ _ _ _ _ (slab c 0 fh0 _ _) (slab c 1 fh0 _ _) (slab c 2 fh0 _ _) (slab c 3 fh0 _ _) _ _ _ _ _ _ _ _
      (scover0_A_1 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 fh0))
  · exact read_left arg25.view zero8 _ _
  · exact read_right arg25.view zero8 _ _ _ _

end Cert.Kernel5Ideal.Fwd

end
-- ==== Proof.Fwd.TailA3.lean ====
/- The first grid point of the residual and up projection: the loss and the gradient of the last scale, read back. -/
module

public import proofs.«01_k».proof.Proof.Gen.Kernel5Ideal.Frame
public import proofs.«01_k».proof.Proof.Fwd.Carry

@[expose] public section

set_option maxRecDepth 16384

noncomputable section

namespace Cert.Kernel5Ideal.Fwd

open Cert.Kernel5Ideal Cert.Kernel5Ideal.Gen Idealize.ShloMosaic Idealize.ShloMosaic.TcCoe Idealize.SL.Sem

variable (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S1x1024 .f32) (harg8 : arg8.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg13 : Memref sig .tc .vmem S1x1024 .f32) (harg13 : arg13.IsWhole) (arg14 : Memref sig .tc .vmem S256x1024 .f32) (harg14 : arg14.IsWhole) (arg15 : Memref sig .tc .vmem S256x1024 .f32) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S256x2816 .bf16) (harg18 : arg18.IsWhole) (arg19 : Memref sig .tc .vmem S256x2816 .bf16) (harg19 : arg19.IsWhole) (arg20 : Memref sig .tc .vmem S256x2816 .bf16) (harg20 : arg20.IsWhole) (arg21 : Memref sig .tc .vmem S256x2816 .bf16) (harg21 : arg21.IsWhole) (arg22 : Memref sig .tc .vmem S256x1024 .f32) (harg22 : arg22.IsWhole) (arg23 : Memref sig .tc .vmem S1x128 .f32) (harg23 : arg23.IsWhole) (arg24 : Memref sig .tc .vmem S1x1024 .f32) (harg24 : arg24.IsWhole) (arg25 : Memref sig .tc .vmem S8x2816 .f32) (harg25 : arg25.IsWhole) (arg26 : Memref sig .tc .vmem S1024x5632 .bf16) (harg26 : arg26.IsWhole) (hc0 : cond0_0 i) (x0 : Vec Ideal S256x512 .f32) (x1 : Vec Ideal S256x512 .f32) (x2 : Vec Ideal S256x512 .f32) (x3 : Vec Ideal S256x1024 .f32) (x4 : Vec Ideal S1x512 .f32) (x5 : Vec Ideal S1x512 .f32) (x6 : Vec Ideal S1024x1024 .bf16) (x7 : Vec Ideal S1x1024 .f32) (x8 : Vec Ideal S3x2816 .f32) (x9 : Vec Ideal S1x2816 .f32) (x10 : Vec Ideal S2816x1024 .bf16) (x11 : Vec Ideal S1x1024 .f32) (x12 : Vec Ideal S256x1024 .f32) (fh0 : HbBuf0 (F := Ideal) c hbM0_0)

set_option maxHeartbeats 4000000 in
/-- The loss after the first point. -/
theorem loss_A :
    out0_A_21 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 fh0 = k0_pay38 (bNorm x0 x1 x2 x3 x4 x5 x6 x7 x8 x9 x10 zero8 (sideBySide fh0)) x11 x12 (broadcast S1x128 (FloatOps.ofBits (F := Ideal) FTy.f32 0#32)) := by
  unfold out0_A_21
  rw [View.read_writes_eq_canon _ _ _ (cover0_A_21 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 fh0)]
  unfold kernelRun0_A
  dsimp only
  sl_unfold_words
  simp (disch := decide) only [View.canon_cons_unit_lit', View.readCov_cons_unit_lit', View.readCov_unit_lit', View.readAt_eq_ld, View.ld_unit_lit', harg1.read_unread, harg2.read_unread, harg3.read_unread, harg4.read_unread, harg5.read_unread, harg6.read_unread, harg7.read_unread, harg8.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread]
  refine (cong6 (fun (gl vl : Vec Ideal S1024x1536 .bf16) (gr vr : Vec Ideal S1024x1280 .bf16) (cl : Vec Ideal S8x1536 .f32) (cr : Vec Ideal S8x1280 .f32) => k0_pay38 (k0_pay36 (bH x0 x1 x2 x3 x4 x5 x6) (k0_pay23 k0_pay12 (k0_pay14 (bMixed x0 x1 x2 x4 x5) x3 x6 x7 vl) (k0_pay15 (bMixed x0 x1 x2 x4 x5) x3 x6 x7 gl) (k0_pay17 (iota .tc S256x1536 32 [0] iota_S256x1536_d0_w32) (k0_pay15 (bMixed x0 x1 x2 x4 x5) x3 x6 x7 gl) cl (iota .tc S8x1536 32 [0] iota_S8x1536_d0_w32)) (k0_pay19 (iota .tc S256x1536 32 [0] iota_S256x1536_d0_w32) (k0_pay15 (bMixed x0 x1 x2 x4 x5) x3 x6 x7 gl) cl (iota .tc S8x1536 32 [0] iota_S8x1536_d0_w32) (cbL x9) (cwL0 x8)) (cwL1 x8) (cwL2 x8) (wdL x10)) (k0_pay25 (bU x0 x1 x2 x3 x4 x5 x6 x7) vr) (k0_pay26 (k0_pay24 (bU x0 x1 x2 x3 x4 x5 x6 x7) gr)) (k0_pay28 (iota .tc S256x1280 32 [0] iota_S256x1280_d0_w32) (k0_pay24 (bU x0 x1 x2 x3 x4 x5 x6 x7) gr) cr) (k0_pay29 (iota .tc S256x1280 32 [0] iota_S256x1280_d0_w32) (k0_pay24 (bU x0 x1 x2 x3 x4 x5 x6 x7) gr) cr) (cbR x9) (cwR0 x8) (cwR1 x8) (cwR2 x8) (wdR x10)) x11 x12 (broadcast S1x128 (FloatOps.ofBits (F := Ideal) FTy.f32 0#32))) ?_ ?_ ?_ ?_ ?_ ?_)
  · exact (read_side arg26.view fh0 _ _ _ _ _ (slab c 0 fh0 _ _) (slab c 1 fh0 _ _) (slab c 2 fh0 _ _) (slab c 3 fh0 _ _) _ _ _ _ _ _ _ _
      (scover0_A_1 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 fh0))
  · exact (read_side arg26.view fh0 _ _ _ _ _ (slab c 0 fh0 _ _) (slab c 1 fh0 _ _) (slab c 2 fh0 _ _) (slab c 3 fh0 _ _) _ _ _ _ _ _ _ _
      (scover0_A_1 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 fh0))
  · exact (read_side arg26.view fh0 _ _ _ _ _ (slab c 0 fh0 _ _) (slab c 1 fh0 _ _) (slab c 2 fh0 _ _) (slab c 3 fh0 _ _) _ _ _ _ _ _ _ _
      (scover0_A_1 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 fh0))
  · exact (read_side arg26.view fh0 _ _ _ _ _ (slab c 0 fh0 _ _) (slab c 1 fh0 _ _) (slab c 2 fh0 _ _) (slab c 3 fh0 _ _) _ _ _ _ _ _ _ _
      (scover0_A_1 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 fh0))
  · exact read_left arg25.view zero8 _ _
  · exact read_right arg25.view zero8 _ _ _ _

set_option maxHeartbeats 4000000 in
/-- The gradient of the last scale after the first point. -/
theorem dgf_A :
    out0_A_22 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 fh0 = k0_pay40 (bNorm x0 x1 x2 x3 x4 x5 x6 x7 x8 x9 x10 zero8 (sideBySide fh0)) x11 x12 (broadcast S1x1024 (FloatOps.ofBits (F := Ideal) FTy.f32 0#32)) := by
  unfold out0_A_22
  rw [View.read_writes_eq_canon _ _ _ (cover0_A_22 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 fh0)]
  unfold kernelRun0_A
  dsimp only
  sl_unfold_words
  simp (disch := decide) only [View.canon_cons_unit_lit', View.readCov_cons_unit_lit', View.readCov_unit_lit', View.readAt_eq_ld, View.ld_unit_lit', harg1.read_unread, harg2.read_unread, harg3.read_unread, harg4.read_unread, harg5.read_unread, harg6.read_unread, harg7.read_unread, harg8.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread]
  refine (cong6 (fun (gl vl : Vec Ideal S1024x1536 .bf16) (gr vr : Vec Ideal S1024x1280 .bf16) (cl : Vec Ideal S8x1536 .f32) (cr : Vec Ideal S8x1280 .f32) => k0_pay40 (k0_pay36 (bH x0 x1 x2 x3 x4 x5 x6) (k0_pay23 k0_pay12 (k0_pay14 (bMixed x0 x1 x2 x4 x5) x3 x6 x7 vl) (k0_pay15 (bMixed x0 x1 x2 x4 x5) x3 x6 x7 gl) (k0_pay17 (iota .tc S256x1536 32 [0] iota_S256x1536_d0_w32) (k0_pay15 (bMixed x0 x1 x2 x4 x5) x3 x6 x7 gl) cl (iota .tc S8x1536 32 [0] iota_S8x1536_d0_w32)) (k0_pay19 (iota .tc S256x1536 32 [0] iota_S256x1536_d0_w32) (k0_pay15 (bMixed x0 x1 x2 x4 x5) x3 x6 x7 gl) cl (iota .tc S8x1536 32 [0] iota_S8x1536_d0_w32) (cbL x9) (cwL0 x8)) (cwL1 x8) (cwL2 x8) (wdL x10)) (k0_pay25 (bU x0 x1 x2 x3 x4 x5 x6 x7) vr) (k0_pay26 (k0_pay24 (bU x0 x1 x2 x3 x4 x5 x6 x7) gr)) (k0_pay28 (iota .tc S256x1280 32 [0] iota_S256x1280_d0_w32) (k0_pay24 (bU x0 x1 x2 x3 x4 x5 x6 x7) gr) cr) (k0_pay29 (iota .tc S256x1280 32 [0] iota_S256x1280_d0_w32) (k0_pay24 (bU x0 x1 x2 x3 x4 x5 x6 x7) gr) cr) (cbR x9) (cwR0 x8) (cwR1 x8) (cwR2 x8) (wdR x10)) x11 x12 (broadcast S1x1024 (FloatOps.ofBits (F := Ideal) FTy.f32 0#32))) ?_ ?_ ?_ ?_ ?_ ?_)
  · exact (read_side arg26.view fh0 _ _ _ _ _ (slab c 0 fh0 _ _) (slab c 1 fh0 _ _) (slab c 2 fh0 _ _) (slab c 3 fh0 _ _) _ _ _ _ _ _ _ _
      (scover0_A_1 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 fh0))
  · exact (read_side arg26.view fh0 _ _ _ _ _ (slab c 0 fh0 _ _) (slab c 1 fh0 _ _) (slab c 2 fh0 _ _) (slab c 3 fh0 _ _) _ _ _ _ _ _ _ _
      (scover0_A_1 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 fh0))
  · exact (read_side arg26.view fh0 _ _ _ _ _ (slab c 0 fh0 _ _) (slab c 1 fh0 _ _) (slab c 2 fh0 _ _) (slab c 3 fh0 _ _) _ _ _ _ _ _ _ _
      (scover0_A_1 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 fh0))
  · exact (read_side arg26.view fh0 _ _ _ _ _ (slab c 0 fh0 _ _) (slab c 1 fh0 _ _) (slab c 2 fh0 _ _) (slab c 3 fh0 _ _) _ _ _ _ _ _ _ _
      (scover0_A_1 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 fh0))
  · exact read_left arg25.view zero8 _ _
  · exact read_right arg25.view zero8 _ _ _ _

end Cert.Kernel5Ideal.Fwd

end
-- ==== Proof.Fwd.TailA4.lean ====
/- The first grid point of the residual and up projection: the gradient of the residual, read back. -/
module

public import proofs.«01_k».proof.Proof.Gen.Kernel5Ideal.Frame
public import proofs.«01_k».proof.Proof.Fwd.Carry

@[expose] public section

set_option maxRecDepth 16384

noncomputable section

namespace Cert.Kernel5Ideal.Fwd

open Cert.Kernel5Ideal Cert.Kernel5Ideal.Gen Idealize.ShloMosaic Idealize.ShloMosaic.TcCoe Idealize.SL.Sem

variable (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S1x1024 .f32) (harg8 : arg8.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg13 : Memref sig .tc .vmem S1x1024 .f32) (harg13 : arg13.IsWhole) (arg14 : Memref sig .tc .vmem S256x1024 .f32) (harg14 : arg14.IsWhole) (arg15 : Memref sig .tc .vmem S256x1024 .f32) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S256x2816 .bf16) (harg18 : arg18.IsWhole) (arg19 : Memref sig .tc .vmem S256x2816 .bf16) (harg19 : arg19.IsWhole) (arg20 : Memref sig .tc .vmem S256x2816 .bf16) (harg20 : arg20.IsWhole) (arg21 : Memref sig .tc .vmem S256x2816 .bf16) (harg21 : arg21.IsWhole) (arg22 : Memref sig .tc .vmem S256x1024 .f32) (harg22 : arg22.IsWhole) (arg23 : Memref sig .tc .vmem S1x128 .f32) (harg23 : arg23.IsWhole) (arg24 : Memref sig .tc .vmem S1x1024 .f32) (harg24 : arg24.IsWhole) (arg25 : Memref sig .tc .vmem S8x2816 .f32) (harg25 : arg25.IsWhole) (arg26 : Memref sig .tc .vmem S1024x5632 .bf16) (harg26 : arg26.IsWhole) (hc0 : cond0_0 i) (x0 : Vec Ideal S256x512 .f32) (x1 : Vec Ideal S256x512 .f32) (x2 : Vec Ideal S256x512 .f32) (x3 : Vec Ideal S256x1024 .f32) (x4 : Vec Ideal S1x512 .f32) (x5 : Vec Ideal S1x512 .f32) (x6 : Vec Ideal S1024x1024 .bf16) (x7 : Vec Ideal S1x1024 .f32) (x8 : Vec Ideal S3x2816 .f32) (x9 : Vec Ideal S1x2816 .f32) (x10 : Vec Ideal S2816x1024 .bf16) (x11 : Vec Ideal S1x1024 .f32) (x12 : Vec Ideal S256x1024 .f32) (fh0 : HbBuf0 (F := Ideal) c hbM0_0)

set_option maxHeartbeats 4000000 in
/-- The gradient of the residual after the first point. -/
theorem dh_A :
    out0_A_20 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 fh0 = k0_pay41 (bRms x0 x1 x2 x3 x4 x5 x6 x7 x8 x9 x10 zero8 (sideBySide fh0)) (bNorm x0 x1 x2 x3 x4 x5 x6 x7 x8 x9 x10 zero8 (sideBySide fh0)) x11 x12 := by
  unfold out0_A_20
  rw [View.read_writes_eq_canon _ _ _ (cover0_A_20 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 fh0)]
  unfold kernelRun0_A
  dsimp only
  sl_unfold_words
  simp (disch := decide) only [View.canon_cons_unit_lit', View.readCov_cons_unit_lit', View.readCov_unit_lit', View.readAt_eq_ld, View.ld_unit_lit', harg1.read_unread, harg2.read_unread, harg3.read_unread, harg4.read_unread, harg5.read_unread, harg6.read_unread, harg7.read_unread, harg8.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread]
  refine (cong6 (fun (gl vl : Vec Ideal S1024x1536 .bf16) (gr vr : Vec Ideal S1024x1280 .bf16) (cl : Vec Ideal S8x1536 .f32) (cr : Vec Ideal S8x1280 .f32) => k0_pay41 (k0_pay35 (bH x0 x1 x2 x3 x4 x5 x6) (k0_pay23 k0_pay12 (k0_pay14 (bMixed x0 x1 x2 x4 x5) x3 x6 x7 vl) (k0_pay15 (bMixed x0 x1 x2 x4 x5) x3 x6 x7 gl) (k0_pay17 (iota .tc S256x1536 32 [0] iota_S256x1536_d0_w32) (k0_pay15 (bMixed x0 x1 x2 x4 x5) x3 x6 x7 gl) cl (iota .tc S8x1536 32 [0] iota_S8x1536_d0_w32)) (k0_pay19 (iota .tc S256x1536 32 [0] iota_S256x1536_d0_w32) (k0_pay15 (bMixed x0 x1 x2 x4 x5) x3 x6 x7 gl) cl (iota .tc S8x1536 32 [0] iota_S8x1536_d0_w32) (cbL x9) (cwL0 x8)) (cwL1 x8) (cwL2 x8) (wdL x10)) (k0_pay25 (bU x0 x1 x2 x3 x4 x5 x6 x7) vr) (k0_pay26 (k0_pay24 (bU x0 x1 x2 x3 x4 x5 x6 x7) gr)) (k0_pay28 (iota .tc S256x1280 32 [0] iota_S256x1280_d0_w32) (k0_pay24 (bU x0 x1 x2 x3 x4 x5 x6 x7) gr) cr) (k0_pay29 (iota .tc S256x1280 32 [0] iota_S256x1280_d0_w32) (k0_pay24 (bU x0 x1 x2 x3 x4 x5 x6 x7) gr) cr) (cbR x9) (cwR0 x8) (cwR1 x8) (cwR2 x8) (wdR x10)) (k0_pay36 (bH x0 x1 x2 x3 x4 x5 x6) (k0_pay23 k0_pay12 (k0_pay14 (bMixed x0 x1 x2 x4 x5) x3 x6 x7 vl) (k0_pay15 (bMixed x0 x1 x2 x4 x5) x3 x6 x7 gl) (k0_pay17 (iota .tc S256x1536 32 [0] iota_S256x1536_d0_w32) (k0_pay15 (bMixed x0 x1 x2 x4 x5) x3 x6 x7 gl) cl (iota .tc S8x1536 32 [0] iota_S8x1536_d0_w32)) (k0_pay19 (iota .tc S256x1536 32 [0] iota_S256x1536_d0_w32) (k0_pay15 (bMixed x0 x1 x2 x4 x5) x3 x6 x7 gl) cl (iota .tc S8x1536 32 [0] iota_S8x1536_d0_w32) (cbL x9) (cwL0 x8)) (cwL1 x8) (cwL2 x8) (wdL x10)) (k0_pay25 (bU x0 x1 x2 x3 x4 x5 x6 x7) vr) (k0_pay26 (k0_pay24 (bU x0 x1 x2 x3 x4 x5 x6 x7) gr)) (k0_pay28 (iota .tc S256x1280 32 [0] iota_S256x1280_d0_w32) (k0_pay24 (bU x0 x1 x2 x3 x4 x5 x6 x7) gr) cr) (k0_pay29 (iota .tc S256x1280 32 [0] iota_S256x1280_d0_w32) (k0_pay24 (bU x0 x1 x2 x3 x4 x5 x6 x7) gr) cr) (cbR x9) (cwR0 x8) (cwR1 x8) (cwR2 x8) (wdR x10)) x11 x12) ?_ ?_ ?_ ?_ ?_ ?_)
  · exact (read_side arg26.view fh0 _ _ _ _ _ (slab c 0 fh0 _ _) (slab c 1 fh0 _ _) (slab c 2 fh0 _ _) (slab c 3 fh0 _ _) _ _ _ _ _ _ _ _
      (scover0_A_1 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 fh0))
  · exact (read_side arg26.view fh0 _ _ _ _ _ (slab c 0 fh0 _ _) (slab c 1 fh0 _ _) (slab c 2 fh0 _ _) (slab c 3 fh0 _ _) _ _ _ _ _ _ _ _
      (scover0_A_1 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 fh0))
  · exact (read_side arg26.view fh0 _ _ _ _ _ (slab c 0 fh0 _ _) (slab c 1 fh0 _ _) (slab c 2 fh0 _ _) (slab c 3 fh0 _ _) _ _ _ _ _ _ _ _
      (scover0_A_1 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 fh0))
  · exact (read_side arg26.view fh0 _ _ _ _ _ (slab c 0 fh0 _ _) (slab c 1 fh0 _ _) (slab c 2 fh0 _ _) (slab c 3 fh0 _ _) _ _ _ _ _ _ _ _
      (scover0_A_1 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 fh0))
  · exact read_left arg25.view zero8 _ _
  · exact read_right arg25.view zero8 _ _ _ _

end Cert.Kernel5Ideal.Fwd

end
-- ==== Proof.Fwd.TailB1.lean ====
/- A later grid point of the residual and up projection: the convolution, the activation and the carried rows, read back. -/
module

public import proofs.«01_k».proof.Proof.Gen.Kernel5Ideal.Frame
public import proofs.«01_k».proof.Proof.Fwd.Carry

@[expose] public section

set_option maxRecDepth 16384

noncomputable section

namespace Cert.Kernel5Ideal.Fwd

open Cert.Kernel5Ideal Cert.Kernel5Ideal.Gen Idealize.ShloMosaic Idealize.ShloMosaic.TcCoe Idealize.SL.Sem

variable (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S1x1024 .f32) (harg8 : arg8.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg13 : Memref sig .tc .vmem S1x1024 .f32) (harg13 : arg13.IsWhole) (arg14 : Memref sig .tc .vmem S256x1024 .f32) (harg14 : arg14.IsWhole) (arg15 : Memref sig .tc .vmem S256x1024 .f32) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S256x2816 .bf16) (harg18 : arg18.IsWhole) (arg19 : Memref sig .tc .vmem S256x2816 .bf16) (harg19 : arg19.IsWhole) (arg20 : Memref sig .tc .vmem S256x2816 .bf16) (harg20 : arg20.IsWhole) (arg21 : Memref sig .tc .vmem S256x2816 .bf16) (harg21 : arg21.IsWhole) (arg22 : Memref sig .tc .vmem S256x1024 .f32) (harg22 : arg22.IsWhole) (arg23 : Memref sig .tc .vmem S1x128 .f32) (harg23 : arg23.IsWhole) (arg24 : Memref sig .tc .vmem S1x1024 .f32) (harg24 : arg24.IsWhole) (arg25 : Memref sig .tc .vmem S8x2816 .f32) (harg25 : arg25.IsWhole) (arg26 : Memref sig .tc .vmem S1024x5632 .bf16) (harg26 : arg26.IsWhole) (hc0 : ¬cond0_0 i) (x0 : Vec Ideal S256x512 .f32) (x1 : Vec Ideal S256x512 .f32) (x2 : Vec Ideal S256x512 .f32) (x3 : Vec Ideal S256x1024 .f32) (x4 : Vec Ideal S1x512 .f32) (x5 : Vec Ideal S1x512 .f32) (x6 : Vec Ideal S1024x1024 .bf16) (x7 : Vec Ideal S1x1024 .f32) (x8 : Vec Ideal S3x2816 .f32) (x9 : Vec Ideal S1x2816 .f32) (x10 : Vec Ideal S2816x1024 .bf16) (x11 : Vec Ideal S1x1024 .f32) (x12 : Vec Ideal S256x1024 .f32) (xo21 : Vec Ideal S1x128 .f32) (xo22 : Vec Ideal S1x1024 .f32) (xs0 : Vec Ideal S8x2816 .f32) (xs1 : Vec Ideal S1024x5632 .bf16) (fh0 : HbBuf0 (F := Ideal) c hbM0_0)

set_option maxHeartbeats 4000000 in
/-- The convolution after a later point. -/
theorem conv_B :
    out0_B_18 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 xo21 xo22 xs0 xs1 fh0 = beside (bConvL x0 x1 x2 x3 x4 x5 x6 x7 x8 x9 xs0 xs1) (bConvR x0 x1 x2 x3 x4 x5 x6 x7 x8 x9 xs0 xs1) := by
  unfold out0_B_18
  rw [View.read_writes_eq_canon _ _ _ (cover0_B_18 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 xo21 xo22 xs0 xs1 fh0)]
  unfold kernelRun0_B
  dsimp only
  sl_unfold_words
  simp (disch := decide) only [View.canon_cons_unit_lit', View.readCov_cons_unit_lit', View.readCov_unit_lit', View.readAt_eq_ld, View.ld_unit_lit', harg1.read_unread, harg2.read_unread, harg3.read_unread, harg4.read_unread, harg5.read_unread, harg6.read_unread, harg7.read_unread, harg8.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread]
  exact canon_beside _ _ _ _

set_option maxHeartbeats 4000000 in
/-- The activation after a later point. -/
theorem act_B :
    out0_B_19 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 xo21 xo22 xs0 xs1 fh0 = beside (bActL x0 x1 x2 x3 x4 x5 x6 x7 x8 x9 xs0 xs1) (bActR x0 x1 x2 x3 x4 x5 x6 x7 x8 x9 xs0 xs1) := by
  unfold out0_B_19
  rw [View.read_writes_eq_canon _ _ _ (cover0_B_19 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 xo21 xo22 xs0 xs1 fh0)]
  unfold kernelRun0_B
  dsimp only
  sl_unfold_words
  simp (disch := decide) only [View.canon_cons_unit_lit', View.readCov_cons_unit_lit', View.readCov_unit_lit', View.readAt_eq_ld, View.ld_unit_lit', harg1.read_unread, harg2.read_unread, harg3.read_unread, harg4.read_unread, harg5.read_unread, harg6.read_unread, harg7.read_unread, harg8.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread]
  exact canon_beside _ _ _ _

set_option maxHeartbeats 4000000 in
/-- The carried rows after a later point. -/
theorem carry_B :
    sout0_B_0 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 xo21 xo22 xs0 xs1 fh0 = beside8 (k0_pay18 (bEL x0 x1 x2 x3 x4 x5 x6 x7 xs1)) (k0_pay30 (bGateR x0 x1 x2 x3 x4 x5 x6 x7 xs1)) := by
  unfold sout0_B_0
  rw [View.read_writes_eq_canon _ _ _ (scover0_B_0 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 xo21 xo22 xs0 xs1 fh0)]
  unfold kernelRun0_B
  dsimp only
  sl_unfold_words
  simp (disch := decide) only [View.canon_cons_unit_lit', View.readCov_cons_unit_lit', View.readCov_unit_lit', View.readAt_eq_ld, View.ld_unit_lit', harg1.read_unread, harg2.read_unread, harg3.read_unread, harg4.read_unread, harg5.read_unread, harg6.read_unread, harg7.read_unread, harg8.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread]
  exact canon_beside8 _ _ _ _ _

end Cert.Kernel5Ideal.Fwd

end
-- ==== Proof.Fwd.TailB2.lean ====
/- A later grid point of the residual and up projection: the gradients and the loss, read back. -/
module

public import proofs.«01_k».proof.Proof.Gen.Kernel5Ideal.Frame
public import proofs.«01_k».proof.Proof.Fwd.Carry

@[expose] public section

set_option maxRecDepth 16384

noncomputable section

namespace Cert.Kernel5Ideal.Fwd

open Cert.Kernel5Ideal Cert.Kernel5Ideal.Gen Idealize.ShloMosaic Idealize.ShloMosaic.TcCoe Idealize.SL.Sem

variable (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x1024 .bf16) (harg7 : arg7.IsWhole) (arg8 : Memref sig .tc .vmem S1x1024 .f32) (harg8 : arg8.IsWhole) (arg10 : Memref sig .tc .vmem S3x2816 .f32) (harg10 : arg10.IsWhole) (arg11 : Memref sig .tc .vmem S1x2816 .f32) (harg11 : arg11.IsWhole) (arg12 : Memref sig .tc .vmem S2816x1024 .bf16) (harg12 : arg12.IsWhole) (arg13 : Memref sig .tc .vmem S1x1024 .f32) (harg13 : arg13.IsWhole) (arg14 : Memref sig .tc .vmem S256x1024 .f32) (harg14 : arg14.IsWhole) (arg15 : Memref sig .tc .vmem S256x1024 .f32) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S256x2816 .bf16) (harg18 : arg18.IsWhole) (arg19 : Memref sig .tc .vmem S256x2816 .bf16) (harg19 : arg19.IsWhole) (arg20 : Memref sig .tc .vmem S256x2816 .bf16) (harg20 : arg20.IsWhole) (arg21 : Memref sig .tc .vmem S256x2816 .bf16) (harg21 : arg21.IsWhole) (arg22 : Memref sig .tc .vmem S256x1024 .f32) (harg22 : arg22.IsWhole) (arg23 : Memref sig .tc .vmem S1x128 .f32) (harg23 : arg23.IsWhole) (arg24 : Memref sig .tc .vmem S1x1024 .f32) (harg24 : arg24.IsWhole) (arg25 : Memref sig .tc .vmem S8x2816 .f32) (harg25 : arg25.IsWhole) (arg26 : Memref sig .tc .vmem S1024x5632 .bf16) (harg26 : arg26.IsWhole) (hc0 : ¬cond0_0 i) (x0 : Vec Ideal S256x512 .f32) (x1 : Vec Ideal S256x512 .f32) (x2 : Vec Ideal S256x512 .f32) (x3 : Vec Ideal S256x1024 .f32) (x4 : Vec Ideal S1x512 .f32) (x5 : Vec Ideal S1x512 .f32) (x6 : Vec Ideal S1024x1024 .bf16) (x7 : Vec Ideal S1x1024 .f32) (x8 : Vec Ideal S3x2816 .f32) (x9 : Vec Ideal S1x2816 .f32) (x10 : Vec Ideal S2816x1024 .bf16) (x11 : Vec Ideal S1x1024 .f32) (x12 : Vec Ideal S256x1024 .f32) (xo21 : Vec Ideal S1x128 .f32) (xo22 : Vec Ideal S1x1024 .f32) (xs0 : Vec Ideal S8x2816 .f32) (xs1 : Vec Ideal S1024x5632 .bf16) (fh0 : HbBuf0 (F := Ideal) c hbM0_0)

set_option maxHeartbeats 4000000 in
/-- The gradient of the residual after a later point. -/
theorem dh_B :
    out0_B_20 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 xo21 xo22 xs0 xs1 fh0 = k0_pay41 (bRms x0 x1 x2 x3 x4 x5 x6 x7 x8 x9 x10 xs0 xs1) (bNorm x0 x1 x2 x3 x4 x5 x6 x7 x8 x9 x10 xs0 xs1) x11 x12 := by
  unfold out0_B_20
  rw [View.read_writes_eq_canon _ _ _ (cover0_B_20 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 xo21 xo22 xs0 xs1 fh0)]
  unfold kernelRun0_B
  dsimp only
  sl_unfold_words
  simp (disch := decide) only [View.canon_cons_unit_lit', View.readCov_cons_unit_lit', View.readCov_unit_lit', View.readAt_eq_ld, View.ld_unit_lit', harg1.read_unread, harg2.read_unread, harg3.read_unread, harg4.read_unread, harg5.read_unread, harg6.read_unread, harg7.read_unread, harg8.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread]
  rfl

set_option maxHeartbeats 4000000 in
/-- The loss after a later point. -/
theorem loss_B :
    out0_B_21 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 xo21 xo22 xs0 xs1 fh0 = k0_pay38 (bNorm x0 x1 x2 x3 x4 x5 x6 x7 x8 x9 x10 xs0 xs1) x11 x12 xo21 := by
  unfold out0_B_21
  rw [View.read_writes_eq_canon _ _ _ (cover0_B_21 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 xo21 xo22 xs0 xs1 fh0)]
  unfold kernelRun0_B
  dsimp only
  sl_unfold_words
  simp (disch := decide) only [View.canon_cons_unit_lit', View.readCov_cons_unit_lit', View.readCov_unit_lit', View.readAt_eq_ld, View.ld_unit_lit', harg1.read_unread, harg2.read_unread, harg3.read_unread, harg4.read_unread, harg5.read_unread, harg6.read_unread, harg7.read_unread, harg8.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread]
  rfl

set_option maxHeartbeats 4000000 in
/-- The gradient of the last scale after a later point. -/
theorem dgf_B :
    out0_B_22 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 xo21 xo22 xs0 xs1 fh0 = k0_pay40 (bNorm x0 x1 x2 x3 x4 x5 x6 x7 x8 x9 x10 xs0 xs1) x11 x12 xo22 := by
  unfold out0_B_22
  rw [View.read_writes_eq_canon _ _ _ (cover0_B_22 c i arg1 harg1 arg2 harg2 arg3 harg3 arg4 harg4 arg5 harg5 arg6 harg6 arg7 harg7 arg8 harg8 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 x0 x1 x2 x3 x4 x5 x6 x7 x8 x9 x10 x11 x12 xo21 xo22 xs0 xs1 fh0)]
  unfold kernelRun0_B
  dsimp only
  sl_unfold_words
  simp (disch := decide) only [View.canon_cons_unit_lit', View.readCov_cons_unit_lit', View.readCov_unit_lit', View.readAt_eq_ld, View.ld_unit_lit', harg1.read_unread, harg2.read_unread, harg3.read_unread, harg4.read_unread, harg5.read_unread, harg6.read_unread, harg7.read_unread, harg8.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread]
  rfl

end Cert.Kernel5Ideal.Fwd

end
-- ==== Proof.Fwd.Left.lean ====
/- The other five results point by point: the loss and the gradient of the last scale are summed over the points, the carried rows go from one point to the next. -/
module

public import proofs.«01_k».proof.Proof.Fwd.Rest
public import proofs.«01_k».proof.Proof.Fwd.Last
public import proofs.«01_k».proof.Proof.Fwd.TailA1
public import proofs.«01_k».proof.Proof.Fwd.TailA2
public import proofs.«01_k».proof.Proof.Fwd.TailA3
public import proofs.«01_k».proof.Proof.Fwd.TailA4
public import proofs.«01_k».proof.Proof.Fwd.TailB1
public import proofs.«01_k».proof.Proof.Fwd.TailB2

@[expose] public section

set_option maxRecDepth 16384

noncomputable section

namespace Cert.Kernel5Ideal.Fwd

open Cert.Kernel5Ideal Cert.Kernel5Ideal.Gen Idealize.ShloMosaic Idealize.ShloMosaic.TcCoe Idealize.SL.Sem
open Cert.Mlp Cert.Norm Cert.Up Cert.Fwd
open Cert.In (upto upto_zero upto_succ upto_last)

variable (m : (ℓ : Loc nD τ sig) → Buf (Elt Ideal) ℓ) (c : Dev nD)

/-- What a point leaves behind of the other five results, and of the carried rows. -/
structure Left (n : ℕ) (p q : Vec Ideal S256x2816 .bf16) (d : Vec Ideal S256x1024 .f32) (l : Vec Ideal S1x128 .f32) (g : Vec Ideal S1x1024 .f32) (s : Vec Ideal S8x2816 .f32) : Prop where
  lt : n < 16
  conv : ∀ (r : Fin 256) (j : Fin 2816), p (ix2 r j) = Cert.Mlp.conv (upM m c) (cwM m c) (cbM m c) ⟨n * 256 + r.val, blockRow lt r⟩ j
  act : ∀ (r : Fin 256) (j : Fin 2816), q (ix2 r j) = Cert.Mlp.act (upM m c) (cwM m c) (cbM m c) ⟨n * 256 + r.val, blockRow lt r⟩ j
  dh : ∀ (r : Fin 256) (k : Fin 1024), d (ix2 r k) = dh2 (yM m c) (gfM m c) (tM m c) ⟨n * 256 + r.val, blockRow lt r⟩ k
  loss : ∀ (u : Fin 1) (k : Fin 128), l (ix2 u k) = upto (lossTerm (yM m c) (gfM m c) (tM m c)) n * halfInv
  dgf : ∀ (u : Fin 1) (k : Fin 1024), g (ix2 u k) = upto (dgfTerm (yM m c) (gfM m c) (tM m c) k) n
  car : Carried (upM m c) (n + 1) s

/-- A point that has the weights and the carried rows adds its rows to the loss and the gradient of the scale it found. -/
theorem left_of {n : ℕ} {x0 x1 x2 : Vec Ideal S256x512 .f32} {x3 : Vec Ideal S256x1024 .f32} {x4 x5 : Vec Ideal S1x512 .f32} {x6 : Vec Ideal S1024x1024 .bf16} {x7 : Vec Ideal S1x1024 .f32}
    {x8 : Vec Ideal S3x2816 .f32} {x9 : Vec Ideal S1x2816 .f32} {x10 : Vec Ideal S2816x1024 .bf16} {x11 : Vec Ideal S1x1024 .f32} {x12 : Vec Ideal S256x1024 .f32}
    (H : Holds (xM m c) (aM m c) (rM m c) (zM m c) (gaM m c) (ghM m c) (woM m c) (gM m c) n x0 x1 x2 x3 x4 x5 x6 x7)
    (D : Rest (cwM m c) (cbM m c) (wdM m c) (gfM m c) (tM m c) n x8 x9 x10 x11 x12)
    (w : Vec Ideal S1024x5632 .bf16) (hw : ∀ k j, w (ix2 k j) = wM m c k j) (xs : Vec Ideal S8x2816 .f32) (C : Carried (upM m c) n xs)
    (l : Vec Ideal S1x128 .f32) (hl : ∀ (u : Fin 1) (k : Fin 128), l (ix2 u k) + (∑ r : Fin 256, lossTerm (yM m c) (gfM m c) (tM m c) (n * 256 + r.val)) * halfInv = upto (lossTerm (yM m c) (gfM m c) (tM m c)) n * halfInv)
    (g : Vec Ideal S1x1024 .f32) (hg : ∀ (u : Fin 1) (k : Fin 1024), g (ix2 u k) + ∑ r : Fin 256, dgfTerm (yM m c) (gfM m c) (tM m c) k (n * 256 + r.val) = upto (dgfTerm (yM m c) (gfM m c) (tM m c) k) n) :
    Left m c n (beside (bConvL x0 x1 x2 x3 x4 x5 x6 x7 x8 x9 xs w) (bConvR x0 x1 x2 x3 x4 x5 x6 x7 x8 x9 xs w)) (beside (bActL x0 x1 x2 x3 x4 x5 x6 x7 x8 x9 xs w) (bActR x0 x1 x2 x3 x4 x5 x6 x7 x8 x9 xs w))
      (k0_pay41 (bRms x0 x1 x2 x3 x4 x5 x6 x7 x8 x9 x10 xs w) (bNorm x0 x1 x2 x3 x4 x5 x6 x7 x8 x9 x10 xs w) x11 x12) (k0_pay38 (bNorm x0 x1 x2 x3 x4 x5 x6 x7 x8 x9 x10 xs w) x11 x12 l) (k0_pay40 (bNorm x0 x1 x2 x3 x4 x5 x6 x7 x8 x9 x10 xs w) x11 x12 g)
      (beside8 (k0_pay18 (bEL x0 x1 x2 x3 x4 x5 x6 x7 w)) (k0_pay30 (bGateR x0 x1 x2 x3 x4 x5 x6 x7 w))) := by
  have hs := rms_at H.lt _ _ _ _ _ _ _ _ _ _ _ (H.h2_eq D w hw xs C)
  have hn := norm_at H.lt _ _ _ _ _ _ _ _ _ _ _ (H.h2_eq D w hw xs C)
  refine ⟨H.lt, ?_, ?_, ?_, ?_, ?_, H.carried_next w hw⟩
  · exact beside_at (f := fun r j => Cert.Mlp.conv (upM m c) (cwM m c) (cbM m c) ⟨n * 256 + r.val, H.row r⟩ j) (H.convL_eq D w hw xs C) (H.convR_eq D w hw xs C)
  · exact beside_at (f := fun r j => Cert.Mlp.act (upM m c) (cwM m c) (cbM m c) ⟨n * 256 + r.val, H.row r⟩ j) (H.actL_eq D w hw xs C) (H.actR_eq D w hw xs C)
  · exact dh2_at H.lt _ hn x11 D.hgf x12 D.ht _ hs
  · exact fun u k => (loss_at H.lt _ hn x11 D.hgf x12 D.ht l u k).trans (hl u k)
  · exact fun u k => (dgf_at H.lt _ hn x11 D.hgf x12 D.ht g u k).trans (hg u k)

theorem zero_plus (x : EReal) (h : x = 0 + x) : (FloatOps.ofBits (F := Ideal) FTy.f32 0#32 : EReal) + x = x := by
  have z : (FloatOps.ofBits (F := Ideal) FTy.f32 0#32 : EReal) = 0 := by simp
  rw [z]; exact h.symm

set_option maxHeartbeats 1000000 in
theorem left_A (t : Fin cfg0.N) (h : t.val = 0) : Left m c 0 (outsAt0 m c t.val t.isLt).2.2.2.2.2.1 (outsAt0 m c t.val t.isLt).2.2.2.2.2.2.1 (outsAt0 m c t.val t.isLt).2.2.2.2.2.2.2.1 (outsAt0 m c t.val t.isLt).2.2.2.2.2.2.2.2.1 (outsAt0 m c t.val t.isLt).2.2.2.2.2.2.2.2.2.1 (outsAt0 m c t.val t.isLt).2.2.2.2.2.2.2.2.2.2.1 := by
  have H := holds m c t
  have D := rest m c t
  rw [h] at H D
  rw [outsAt0_A m c t (by rw [h])]
  dsimp only
  rw [conv_A, act_A, dh_A, loss_A, dgf_A, carry_A]
  refine left_of m c H D _ (V_w m c) _ (carried_zero _) _ (fun u k => ?_) _ (fun u k => ?_)
  · rw [upto_zero, zero_add]
    exact zero_plus _ (zero_add _).symm
  · rw [upto_zero, zero_add]
    exact zero_plus _ (zero_add _).symm

set_option maxHeartbeats 1000000 in
theorem left_B (t : Fin cfg0.N) (n : ℕ) (h : t.val = n + 1)
    (hw : ∀ (k : Fin 1024) (j : Fin 5632), (outsAt0 m c (t.val - 1) (Nat.lt_of_le_of_lt (Nat.sub_le _ _) t.isLt)).2.2.2.2.2.2.2.2.2.2.2 (ix2 k j) = wM m c k j)
    (L : Left m c n (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1) :
    Left m c (n + 1) (outsAt0 m c t.val t.isLt).2.2.2.2.2.1 (outsAt0 m c t.val t.isLt).2.2.2.2.2.2.1 (outsAt0 m c t.val t.isLt).2.2.2.2.2.2.2.1 (outsAt0 m c t.val t.isLt).2.2.2.2.2.2.2.2.1 (outsAt0 m c t.val t.isLt).2.2.2.2.2.2.2.2.2.1 (outsAt0 m c t.val t.isLt).2.2.2.2.2.2.2.2.2.2.1 := by
  have H := holds m c t
  have D := rest m c t
  have := N16 t
  rw [h] at H D
  rw [outsAt0_B m c t (by omega)]
  dsimp only
  rw [conv_B, act_B, dh_B, loss_B, dgf_B, carry_B]
  refine left_of m c H D _ hw _ L.car _ (fun u k => ?_) _ (fun u k => ?_)
  · rw [L.loss, upto_succ, EReal.right_distrib_of_nonneg_of_ne_top halfInv_nonneg (by unfold halfInv; exact EReal.coe_ne_top _)]
  · rw [L.dgf, upto_succ]

/-- What every point leaves behind. -/
theorem left (n : ℕ) : ∀ hn : n < cfg0.N, Left m c n (outsAt0 m c n hn).2.2.2.2.2.1 (outsAt0 m c n hn).2.2.2.2.2.2.1 (outsAt0 m c n hn).2.2.2.2.2.2.2.1 (outsAt0 m c n hn).2.2.2.2.2.2.2.2.1 (outsAt0 m c n hn).2.2.2.2.2.2.2.2.2.1 (outsAt0 m c n hn).2.2.2.2.2.2.2.2.2.2.1 := by
  induction n with
  | zero => exact fun hn => left_A m c ⟨0, hn⟩ rfl
  | succ n ih => exact fun hn => left_B m c ⟨n + 1, hn⟩ n rfl (after m c n _).w (ih _)

/-- The five results as arrays. -/
def convOut : Vec Ideal S4096x2816 .bf16 := fun y => Cert.Mlp.conv (upM m c) (cwM m c) (cbM m c) ⟨(y 0).val, (y 0).isLt⟩ ⟨(y 1).val, (y 1).isLt⟩
def actOut : Vec Ideal S4096x2816 .bf16 := fun y => Cert.Mlp.act (upM m c) (cwM m c) (cbM m c) ⟨(y 0).val, (y 0).isLt⟩ ⟨(y 1).val, (y 1).isLt⟩
def dhOut : Vec Ideal S4096x1024 .f32 := fun y => dh2 (yM m c) (gfM m c) (tM m c) ⟨(y 0).val, (y 0).isLt⟩ ⟨(y 1).val, (y 1).isLt⟩
def lossOut : Vec Ideal S1x128 .f32 := fun _ => loss (yM m c) (gfM m c) (tM m c)
def dgfOut : Vec Ideal S1x1024 .f32 := fun y => dgf (yM m c) (gfM m c) (tM m c) ⟨(y 1).val, (y 1).isLt⟩

end Cert.Kernel5Ideal.Fwd

end
-- ==== Proof.Fwd.Final2.lean ====
/- The kernel's other five result arrays. -/
module

public import proofs.«01_k».proof.Proof.Gen.Kernel5Ideal.Value
public import proofs.«01_k».proof.Proof.Fwd.Left

@[expose] public section

set_option maxRecDepth 16384

noncomputable section

namespace Cert.Kernel5Ideal.Fwd

open Cert.Kernel5Ideal Cert.Kernel5Ideal.Gen Idealize.ShloMosaic Idealize.ShloMosaic.TcCoe Idealize.SL.Sem
open Cert.Mlp Cert.Norm Cert.Up Cert.Fwd
open Cert.In (upto upto_zero upto_succ upto_last)

variable (m : (ℓ : Loc nD τ sig) → Buf (Elt Ideal) ℓ) (c : Dev nD)

/-- The row block a point writes of these. -/
theorem idxOut (t : Fin cfg0.N) : win0_18.index t 0 = t.val ∧ win0_18.index t 1 = 0 ∧ win0_19.index t 0 = t.val ∧ win0_19.index t 1 = 0 ∧ win0_20.index t 0 = t.val ∧ win0_20.index t 1 = 0 :=
  (by decide +kernel : ∀ t : Fin grid0.N, win0_18.index t 0 = t.val ∧ win0_18.index t 1 = 0 ∧ win0_19.index t 0 = t.val ∧ win0_19.index t 1 = 0 ∧ win0_20.index t 0 = t.val ∧ win0_20.index t 1 = 0) t

theorem xs18 (t : Fin cfg0.N) : win0_18.xsize (grid0.coords t) 0 = 256 ∧ win0_18.xsize (grid0.coords t) 1 = 2816 :=
  (by decide +kernel : ∀ t : Fin grid0.N, win0_18.xsize (grid0.coords t) 0 = 256 ∧ win0_18.xsize (grid0.coords t) 1 = 2816) t

theorem cut_conv (t : Fin cfg0.N) (o : Vec Ideal S256x2816 .bf16)
    (A : ∀ (r : Fin 256) (k : Fin 2816), o (ix2 r k) = Cert.Mlp.conv (upM m c) (cwM m c) (cbM m c) ⟨t.val * 256 + r.val, row_lt t r⟩ k) :
    (cfg0.win 18).cut (grid0.coords t) o = ((cfg0.win 18).blk t).view.read (Elt Ideal) (convOut m c) := by
  have hi := idxOut t
  funext j
  rw [View.read_apply]
  have hj0 : (j 0).val < 256 := lt_of_lt_of_eq (j 0).isLt (xs18 t).1
  have hj1 : (j 1).val < 2816 := lt_of_lt_of_eq (j 1).isLt (xs18 t).2
  refine Eq.trans (b := o (ix2 ⟨(j 0).val, hj0⟩ ⟨(j 1).val, hj1⟩)) ?_ ((A _ _).trans ?_)
  · exact congrArg o (funext fun a => match a with | ⟨0, _⟩ => rfl | ⟨1, _⟩ => rfl)
  · refine congrArg₂ (Cert.Mlp.conv (upM m c) (cwM m c) (cbM m c)) ?_ ?_
    · apply Fin.ext
      show t.val * 256 + (j 0).val = win0_18.index t 0 * 256 + 1 * (j 0).val
      rw [hi.1]; omega
    · apply Fin.ext
      show (j 1).val = win0_18.index t 1 * 2816 + 1 * (j 1).val
      rw [hi.2.1]; omega

theorem flushed_conv (t : Fin cfg0.N) : (dats m 0 c).flushed 18 t = ((cfg0.win 18).blk t).view.read (Elt Ideal) (convOut m c) :=
  (Value.flushed18 m c t).trans (cut_conv m c t _ (left m c t.val t.isLt).conv)

theorem final_conv : (dats m 0 c).arrAt 18 cfg0.N = convOut m c :=
  (dats m 0 c).arrAt_eq_of_cover 18 (convOut m c) (fun t _ => flushed_conv m c t) fun i => by
    have h0 : (i 0 : Nat) < 4096 := (i 0).isLt
    have h1 : (i 1 : Nat) < 2816 := (i 1).isLt
    obtain ⟨t, ht⟩ : ∃ t : Fin cfg0.N, t.val = (i 0 : Nat) / 256 := ⟨⟨(i 0 : Nat) / 256, lt_of_lt_of_eq (by omega : _ < 16) (show cfg0.N = 16 from N_0).symm⟩, rfl⟩
    have hi := idxOut t
    refine ⟨t, flush0_18 t, ?_⟩
    show i ∈ ((View.whole main_v5_5).slice (win0_18.rect t)).set
    rw [View.set_slice_whole, Rect.mem_set_unit]
    intro a
    match a with
    | ⟨0, _⟩ =>
      show win0_18.index t 0 * 256 ≤ (i 0 : Nat) ∧ (i 0 : Nat) < win0_18.index t 0 * 256 + win0_18.xsize (grid0.coords t) 0
      rw [(xs18 t).1, hi.1]
      omega
    | ⟨1, _⟩ =>
      show win0_18.index t 1 * 2816 ≤ (i 1 : Nat) ∧ (i 1 : Nat) < win0_18.index t 1 * 2816 + win0_18.xsize (grid0.coords t) 1
      rw [(xs18 t).2, hi.2.1]
      omega

theorem xs19 (t : Fin cfg0.N) : win0_19.xsize (grid0.coords t) 0 = 256 ∧ win0_19.xsize (grid0.coords t) 1 = 2816 :=
  (by decide +kernel : ∀ t : Fin grid0.N, win0_19.xsize (grid0.coords t) 0 = 256 ∧ win0_19.xsize (grid0.coords t) 1 = 2816) t

theorem cut_act (t : Fin cfg0.N) (o : Vec Ideal S256x2816 .bf16)
    (A : ∀ (r : Fin 256) (k : Fin 2816), o (ix2 r k) = Cert.Mlp.act (upM m c) (cwM m c) (cbM m c) ⟨t.val * 256 + r.val, row_lt t r⟩ k) :
    (cfg0.win 19).cut (grid0.coords t) o = ((cfg0.win 19).blk t).view.read (Elt Ideal) (actOut m c) := by
  have hi := idxOut t
  funext j
  rw [View.read_apply]
  have hj0 : (j 0).val < 256 := lt_of_lt_of_eq (j 0).isLt (xs19 t).1
  have hj1 : (j 1).val < 2816 := lt_of_lt_of_eq (j 1).isLt (xs19 t).2
  refine Eq.trans (b := o (ix2 ⟨(j 0).val, hj0⟩ ⟨(j 1).val, hj1⟩)) ?_ ((A _ _).trans ?_)
  · exact congrArg o (funext fun a => match a with | ⟨0, _⟩ => rfl | ⟨1, _⟩ => rfl)
  · refine congrArg₂ (Cert.Mlp.act (upM m c) (cwM m c) (cbM m c)) ?_ ?_
    · apply Fin.ext
      show t.val * 256 + (j 0).val = win0_19.index t 0 * 256 + 1 * (j 0).val
      rw [hi.2.2.1]; omega
    · apply Fin.ext
      show (j 1).val = win0_19.index t 1 * 2816 + 1 * (j 1).val
      rw [hi.2.2.2.1]; omega

theorem flushed_act (t : Fin cfg0.N) : (dats m 0 c).flushed 19 t = ((cfg0.win 19).blk t).view.read (Elt Ideal) (actOut m c) :=
  (Value.flushed19 m c t).trans (cut_act m c t _ (left m c t.val t.isLt).act)

theorem final_act : (dats m 0 c).arrAt 19 cfg0.N = actOut m c :=
  (dats m 0 c).arrAt_eq_of_cover 19 (actOut m c) (fun t _ => flushed_act m c t) fun i => by
    have h0 : (i 0 : Nat) < 4096 := (i 0).isLt
    have h1 : (i 1 : Nat) < 2816 := (i 1).isLt
    obtain ⟨t, ht⟩ : ∃ t : Fin cfg0.N, t.val = (i 0 : Nat) / 256 := ⟨⟨(i 0 : Nat) / 256, lt_of_lt_of_eq (by omega : _ < 16) (show cfg0.N = 16 from N_0).symm⟩, rfl⟩
    have hi := idxOut t
    refine ⟨t, flush0_19 t, ?_⟩
    show i ∈ ((View.whole main_v5_6).slice (win0_19.rect t)).set
    rw [View.set_slice_whole, Rect.mem_set_unit]
    intro a
    match a with
    | ⟨0, _⟩ =>
      show win0_19.index t 0 * 256 ≤ (i 0 : Nat) ∧ (i 0 : Nat) < win0_19.index t 0 * 256 + win0_19.xsize (grid0.coords t) 0
      rw [(xs19 t).1, hi.2.2.1]
      omega
    | ⟨1, _⟩ =>
      show win0_19.index t 1 * 2816 ≤ (i 1 : Nat) ∧ (i 1 : Nat) < win0_19.index t 1 * 2816 + win0_19.xsize (grid0.coords t) 1
      rw [(xs19 t).2, hi.2.2.2.1]
      omega

theorem xs20 (t : Fin cfg0.N) : win0_20.xsize (grid0.coords t) 0 = 256 ∧ win0_20.xsize (grid0.coords t) 1 = 1024 :=
  (by decide +kernel : ∀ t : Fin grid0.N, win0_20.xsize (grid0.coords t) 0 = 256 ∧ win0_20.xsize (grid0.coords t) 1 = 1024) t

theorem cut_dh (t : Fin cfg0.N) (o : Vec Ideal S256x1024 .f32)
    (A : ∀ (r : Fin 256) (k : Fin 1024), o (ix2 r k) = dh2 (yM m c) (gfM m c) (tM m c) ⟨t.val * 256 + r.val, row_lt t r⟩ k) :
    (cfg0.win 20).cut (grid0.coords t) o = ((cfg0.win 20).blk t).view.read (Elt Ideal) (dhOut m c) := by
  have hi := idxOut t
  funext j
  rw [View.read_apply]
  have hj0 : (j 0).val < 256 := lt_of_lt_of_eq (j 0).isLt (xs20 t).1
  have hj1 : (j 1).val < 1024 := lt_of_lt_of_eq (j 1).isLt (xs20 t).2
  refine Eq.trans (b := o (ix2 ⟨(j 0).val, hj0⟩ ⟨(j 1).val, hj1⟩)) ?_ ((A _ _).trans ?_)
  · exact congrArg o (funext fun a => match a with | ⟨0, _⟩ => rfl | ⟨1, _⟩ => rfl)
  · refine congrArg₂ (dh2 (yM m c) (gfM m c) (tM m c)) ?_ ?_
    · apply Fin.ext
      show t.val * 256 + (j 0).val = win0_20.index t 0 * 256 + 1 * (j 0).val
      rw [hi.2.2.2.2.1]; omega
    · apply Fin.ext
      show (j 1).val = win0_20.index t 1 * 1024 + 1 * (j 1).val
      rw [hi.2.2.2.2.2]; omega

theorem flushed_dh (t : Fin cfg0.N) : (dats m 0 c).flushed 20 t = ((cfg0.win 20).blk t).view.read (Elt Ideal) (dhOut m c) :=
  (Value.flushed20 m c t).trans (cut_dh m c t _ (left m c t.val t.isLt).dh)

theorem final_dh : (dats m 0 c).arrAt 20 cfg0.N = dhOut m c :=
  (dats m 0 c).arrAt_eq_of_cover 20 (dhOut m c) (fun t _ => flushed_dh m c t) fun i => by
    have h0 : (i 0 : Nat) < 4096 := (i 0).isLt
    have h1 : (i 1 : Nat) < 1024 := (i 1).isLt
    obtain ⟨t, ht⟩ : ∃ t : Fin cfg0.N, t.val = (i 0 : Nat) / 256 := ⟨⟨(i 0 : Nat) / 256, lt_of_lt_of_eq (by omega : _ < 16) (show cfg0.N = 16 from N_0).symm⟩, rfl⟩
    have hi := idxOut t
    refine ⟨t, flush0_20 t, ?_⟩
    show i ∈ ((View.whole main_v5_7).slice (win0_20.rect t)).set
    rw [View.set_slice_whole, Rect.mem_set_unit]
    intro a
    match a with
    | ⟨0, _⟩ =>
      show win0_20.index t 0 * 256 ≤ (i 0 : Nat) ∧ (i 0 : Nat) < win0_20.index t 0 * 256 + win0_20.xsize (grid0.coords t) 0
      rw [(xs20 t).1, hi.2.2.2.2.1]
      omega
    | ⟨1, _⟩ =>
      show win0_20.index t 1 * 1024 ≤ (i 1 : Nat) ∧ (i 1 : Nat) < win0_20.index t 1 * 1024 + win0_20.xsize (grid0.coords t) 1
      rw [(xs20 t).2, hi.2.2.2.2.2]
      omega

theorem last (t : Fin cfg0.N) (h : t.val % 16 = 15) : t = t0_15 := by
  have := N16 t
  exact Fin.ext (by show t.val = 15; omega)

theorem flushed_loss (t : Fin cfg0.N) (hf : (cfg0.win 21).flush t = true) :
    (dats m 0 c).flushed 21 t = ((cfg0.win 21).blk t).view.read (Elt Ideal) (lossOut m c) := by
  obtain rfl := last t ((flush0_21 t).mp hf)
  have A : (outsAt0 m c t0_15.val t0_15.isLt).2.2.2.2.2.2.2.2.1 = lossOut m c := by
    funext y
    exact (congrArg _ (eq_ix2 y)).trans (((left m c 15 t0_15.isLt).loss (y 0) (y 1)).trans (congrArg (· * halfInv) (upto_last _)))
  show (cfg0.win 21).cut (grid0.coords t0_15) ((dats m 0 c).after 21 t0_15) = _
  rw [after0_21, A]
  have hz' : (fun a => win0_21.index t0_15 a * main_v5_8.ty.shape.size a) = fun _ => 0 := funext fun a => by fin_cases a <;> decide
  exact (Memref.read_access_unit_zero (Elt Ideal) main_v5_8 hz' (fun a => by rw [congrFun hz' a]; simp) (lossOut m c)).symm

theorem final_loss : (dats m 0 c).arrAt 21 cfg0.N = lossOut m c :=
  (dats m 0 c).arrAt_eq_of_cover 21 (lossOut m c) (flushed_loss m c) fun i => ⟨t0_15, (flush0_21 t0_15).mpr rfl, by
    show i ∈ ((View.whole main_v5_8).slice (win0_21.rect t0_15)).set
    rw [View.set_slice_whole, Rect.mem_set_unit]
    intro a
    match a with
    | ⟨0, _⟩ =>
      have h : (i 0 : Nat) < 1 := (i 0).isLt
      show win0_21.index t0_15 0 * 1 ≤ (i 0 : Nat) ∧ (i 0 : Nat) < win0_21.index t0_15 0 * 1 + win0_21.xsize (grid0.coords t0_15) 0
      rw [show win0_21.index t0_15 0 = 0 from by decide +kernel, show win0_21.xsize (grid0.coords t0_15) 0 = 1 from by decide +kernel]; omega
    | ⟨1, _⟩ =>
      have h : (i 1 : Nat) < 128 := (i 1).isLt
      show win0_21.index t0_15 1 * 128 ≤ (i 1 : Nat) ∧ (i 1 : Nat) < win0_21.index t0_15 1 * 128 + win0_21.xsize (grid0.coords t0_15) 1
      rw [show win0_21.index t0_15 1 = 0 from by decide +kernel, show win0_21.xsize (grid0.coords t0_15) 1 = 128 from by decide +kernel]; omega⟩

theorem flushed_dgf (t : Fin cfg0.N) (hf : (cfg0.win 22).flush t = true) :
    (dats m 0 c).flushed 22 t = ((cfg0.win 22).blk t).view.read (Elt Ideal) (dgfOut m c) := by
  obtain rfl := last t ((flush0_22 t).mp hf)
  have A : (outsAt0 m c t0_15.val t0_15.isLt).2.2.2.2.2.2.2.2.2.1 = dgfOut m c := by
    funext y
    exact (congrArg _ (eq_ix2 y)).trans (((left m c 15 t0_15.isLt).dgf (y 0) (y 1)).trans (upto_last _))
  show (cfg0.win 22).cut (grid0.coords t0_15) ((dats m 0 c).after 22 t0_15) = _
  rw [after0_22, A]
  have hz' : (fun a => win0_22.index t0_15 a * main_v5_9.ty.shape.size a) = fun _ => 0 := funext fun a => by fin_cases a <;> decide
  exact (Memref.read_access_unit_zero (Elt Ideal) main_v5_9 hz' (fun a => by rw [congrFun hz' a]; simp) (dgfOut m c)).symm

theorem final_dgf : (dats m 0 c).arrAt 22 cfg0.N = dgfOut m c :=
  (dats m 0 c).arrAt_eq_of_cover 22 (dgfOut m c) (flushed_dgf m c) fun i => ⟨t0_15, (flush0_22 t0_15).mpr rfl, by
    show i ∈ ((View.whole main_v5_9).slice (win0_22.rect t0_15)).set
    rw [View.set_slice_whole, Rect.mem_set_unit]
    intro a
    match a with
    | ⟨0, _⟩ =>
      have h : (i 0 : Nat) < 1 := (i 0).isLt
      show win0_22.index t0_15 0 * 1 ≤ (i 0 : Nat) ∧ (i 0 : Nat) < win0_22.index t0_15 0 * 1 + win0_22.xsize (grid0.coords t0_15) 0
      rw [show win0_22.index t0_15 0 = 0 from by decide +kernel, show win0_22.xsize (grid0.coords t0_15) 0 = 1 from by decide +kernel]; omega
    | ⟨1, _⟩ =>
      have h : (i 1 : Nat) < 1024 := (i 1).isLt
      show win0_22.index t0_15 1 * 1024 ≤ (i 1 : Nat) ∧ (i 1 : Nat) < win0_22.index t0_15 1 * 1024 + win0_22.xsize (grid0.coords t0_15) 1
      rw [show win0_22.index t0_15 1 = 0 from by decide +kernel, show win0_22.xsize (grid0.coords t0_15) 1 = 1024 from by decide +kernel]; omega⟩

end Cert.Kernel5Ideal.Fwd

end
-- ==== Proof.Fwd.Ref.lean ====
/- What the reference computes, entry by entry. -/
module

public import proofs.«01_k».proof.Proof.Gen.Reference5Ideal.Read
public import proofs.«01_k».proof.Proof.Fwd.Spec

@[expose] public section

set_option maxRecDepth 16384

noncomputable section

namespace Cert.Reference5Ideal.Fwd

open Cert.Reference5Ideal Cert.Reference5Ideal.Gen Cert.Reference5Ideal.Read Idealize.ShloMosaic Idealize.ShloMosaic.TcCoe Idealize.SL.Sem
open Cert.Mlp Cert.Norm Cert.Up Cert.Fwd
open Cert.In (rms_host)

variable (x0 x1 : Vec Ideal S4096x512 .f32) (x2 : Vec Ideal S4096x2048 .f32) (x3 : Vec Ideal S4096x1024 .f32) (x4 x5 : Vec Ideal S1x512 .f32)
  (x6 : Vec Ideal S1024x1024 .f32) (x7 : Vec Ideal S1x1024 .f32) (x8 : Vec Ideal S1024x5632 .f32)

abbrev aF : Fin 4096 → Fin 512 → EReal := fun t k => x0 (ix2 t k)
abbrev rF : Fin 4096 → Fin 512 → EReal := fun t k => x1 (ix2 t k)
abbrev zF : Fin 4096 → Fin 512 → EReal := fun t k => x2 (ix2 t ⟨1536 + k.val, by omega⟩)
abbrev xF : Fin 4096 → Fin 1024 → EReal := fun t k => x3 (ix2 t k)
abbrev gaF : Fin 512 → EReal := fun k => x4 (ix2 0 k)
abbrev ghF : Fin 512 → EReal := fun k => x5 (ix2 0 k)
abbrev woF : Fin 1024 → Fin 1024 → EReal := fun j k => x6 (ix2 j k)
abbrev gF : Fin 1024 → EReal := fun k => x7 (ix2 0 k)
abbrev wF : Fin 1024 → Fin 5632 → EReal := fun k j => x8 (ix2 k j)
/-- The joined rows and the residual. -/
abbrev mF := mixed (aF x0) (rF x1) (zF x2) (gaF x4) (ghF x5)
abbrev hF := h1 (xF x3) (aF x0) (rF x1) (zF x2) (gaF x4) (ghF x5) (woF x6)

set_option maxHeartbeats 1000000

theorem mixed_apply (t : Fin 4096) (k : Fin 1024) :
    (val_main_v35 (F := Ideal) x0 x1 x2 x4 x5 : Vec Ideal S4096x1024 .f32) (ix2 t k) = mF x0 x1 x2 x4 x5 t k := by
  unfold val_main_v35 val_main_v34 val_main_v33 val_main_v32 val_main_call0_v5 val_main_call0_v4 val_main_call0_cst_0 val_main_call0_v3 val_main_call0_v2 val_main_call0_cst val_main_call0_v1 val_main_call0_v0 val_main_v31 val_main_v30 val_main_v29 val_main_v28 val_main_v27 val_main_v26 val_main_v25 val_main_v24 val_main_v23 val_main_cst_4 val_main_v22 val_main_v21 val_main_cst_3 val_main_v20 val_main_v19 val_main_cst_2 val_main_v18 val_main_v17 val_main_v16 val_main_v15 val_main_v14 val_main_v13 val_main_v12 val_main_v11 val_main_v10 val_main_v9 val_main_v8 val_main_v7 val_main_cst_1 val_main_v6 val_main_v5 val_main_cst_0 val_main_v4 val_main_v3 val_main_cst val_main_v2 val_main_v1 val_main_v0
  pointwise
  show _ = mixedRow (aF x0 t) (rF x1 t) (zF x2 t) (gaF x4) (ghF x5) k
  unfold mixedRow
  split
  · rw [rms_host512 fun i => x0 (ix2 t i)]
  · next h =>
    have e : (k.val - 512) / 128 * 128 + (k.val - 512) % 128 = k.val - 512 := Nat.div_add_mod' _ _
    rw [rms_host128 fun x => x1 (ix2 t ⟨(k.val - 512) / 128 * 128 + x.val, by omega⟩)]
    simp only [e]
    rfl

theorem h1_apply (t : Fin 4096) (k : Fin 1024) :
    (val_main_v37 (F := Ideal) x0 x1 x2 x3 x4 x5 x6 : Vec Ideal S4096x1024 .f32) (ix2 t k) = hF x0 x1 x2 x3 x4 x5 x6 t k := by
  unfold val_main_v37 val_main_v36
  have e_v35 := mixed_apply x0 x1 x2 x4 x5
  generalize val_main_v35 (F := Ideal) x0 x1 x2 x4 x5 = Av35 at e_v35 ⊢
  pointwise
  simp only [e_v35]
  rfl

theorem scaled_apply (t : Fin 4096) (k : Fin 1024) :
    (val_main_v51 (F := Ideal) x0 x1 x2 x3 x4 x5 x6 x7 : Vec Ideal S4096x1024 .f32) (ix2 t k) = scaled (hF x0 x1 x2 x3 x4 x5 x6) (gF x7) t k := by
  unfold val_main_v51 val_main_v50 val_main_v49 val_main_v48 val_main_v47 val_main_v46 val_main_v45 val_main_v44 val_main_cst_7 val_main_v43 val_main_v42 val_main_cst_6 val_main_v41 val_main_v40 val_main_cst_5 val_main_v39 val_main_v38
  have e_v37 := h1_apply x0 x1 x2 x3 x4 x5 x6
  generalize val_main_v37 (F := Ideal) x0 x1 x2 x3 x4 x5 x6 = Av37 at e_v37 ⊢
  pointwise
  simp only [e_v37]
  rw [rms_host (hF x0 x1 x2 x3 x4 x5 x6 t)]
  rfl

theorem up_apply (t : Fin 4096) (j : Fin 5632) :
    (val_main_v52 (F := Ideal) x0 x1 x2 x3 x4 x5 x6 x7 x8 : Vec Ideal S4096x5632 .f32) (ix2 t j) = up (hF x0 x1 x2 x3 x4 x5 x6) (gF x7) (wF x8) t j := by
  unfold val_main_v52
  have e_v51 := scaled_apply x0 x1 x2 x3 x4 x5 x6 x7
  generalize val_main_v51 (F := Ideal) x0 x1 x2 x3 x4 x5 x6 x7 = Av51 at e_v51 ⊢
  pointwise
  simp only [e_v51]
  rfl

theorem mixed_cast (t : Fin 4096) (k : Fin 1024) :
    (val_main_v146 (F := Ideal) x0 x1 x2 x4 x5 : Vec Ideal S4096x1024 .bf16) (ix2 t k) = mF x0 x1 x2 x4 x5 t k := by
  unfold val_main_v146
  have e := mixed_apply x0 x1 x2 x4 x5
  generalize val_main_v35 (F := Ideal) x0 x1 x2 x4 x5 = A at e ⊢
  pointwise
  exact e t k

theorem scaled_cast (t : Fin 4096) (k : Fin 1024) :
    (val_main_v147 (F := Ideal) x0 x1 x2 x3 x4 x5 x6 x7 : Vec Ideal S4096x1024 .bf16) (ix2 t k) = scaled (hF x0 x1 x2 x3 x4 x5 x6) (gF x7) t k := by
  unfold val_main_v147
  have e := scaled_apply x0 x1 x2 x3 x4 x5 x6 x7
  generalize val_main_v51 (F := Ideal) x0 x1 x2 x3 x4 x5 x6 x7 = A at e ⊢
  pointwise
  exact e t k

theorem gate_apply (t : Fin 4096) (j : Fin 2816) :
    (val_main_v148 (F := Ideal) x0 x1 x2 x3 x4 x5 x6 x7 x8 : Vec Ideal S4096x2816 .bf16) (ix2 t j) = gate (hF x0 x1 x2 x3 x4 x5 x6) (gF x7) (wF x8) t j := by
  unfold val_main_v148 val_main_v53
  have e := up_apply x0 x1 x2 x3 x4 x5 x6 x7 x8
  generalize val_main_v52 (F := Ideal) x0 x1 x2 x3 x4 x5 x6 x7 x8 = A at e ⊢
  pointwise
  exact e t ⟨j.val, by omega⟩

theorem val_apply (t : Fin 4096) (j : Fin 2816) :
    (val_main_v149 (F := Ideal) x0 x1 x2 x3 x4 x5 x6 x7 x8 : Vec Ideal S4096x2816 .bf16) (ix2 t j) = val (hF x0 x1 x2 x3 x4 x5 x6) (gF x7) (wF x8) t j := by
  unfold val_main_v149 val_main_v54
  have e := up_apply x0 x1 x2 x3 x4 x5 x6 x7 x8
  generalize val_main_v52 (F := Ideal) x0 x1 x2 x3 x4 x5 x6 x7 x8 = A at e ⊢
  pointwise
  exact e t ⟨2816 + j.val, by omega⟩

end Cert.Reference5Ideal.Fwd

end
-- ==== Proof.Fwd.RefTail.lean ====
/- What the reference computes after the up projection, entry by entry. -/
module

public import proofs.«01_k».proof.Proof.Fwd.Ref
public import proofs.«01_k».proof.Proof.Fwd.Tail

@[expose] public section

set_option maxRecDepth 16384

noncomputable section

namespace Cert.Reference5Ideal.Fwd

open Cert.Reference5Ideal Cert.Reference5Ideal.Gen Cert.Reference5Ideal.Read Idealize.ShloMosaic Idealize.ShloMosaic.TcCoe Idealize.SL.Sem
open Cert.Mlp Cert.Norm Cert.Up Cert.Fwd
open Cert.In (rms_host)

variable (x0 x1 : Vec Ideal S4096x512 .f32) (x2 : Vec Ideal S4096x2048 .f32) (x3 : Vec Ideal S4096x1024 .f32) (x4 x5 : Vec Ideal S1x512 .f32)
  (x6 : Vec Ideal S1024x1024 .f32) (x7 : Vec Ideal S1x1024 .f32) (x8 : Vec Ideal S1024x5632 .f32) (x9 : Vec Ideal S3x2816 .f32) (x10 : Vec Ideal S1x2816 .f32)
  (x11 : Vec Ideal S2816x1024 .f32) (x12 : Vec Ideal S1x1024 .f32) (x13 : Vec Ideal S4096x1024 .f32)

abbrev cwF : Fin 3 → Fin 2816 → EReal := fun j c => x9 (ix2 j c)
abbrev cbF : Fin 2816 → EReal := fun c => x10 (ix2 0 c)
abbrev wdF : Fin 2816 → Fin 1024 → EReal := fun c k => x11 (ix2 c k)
abbrev gfF : Fin 1024 → EReal := fun k => x12 (ix2 0 k)
abbrev tF : Fin 4096 → Fin 1024 → EReal := fun t k => x13 (ix2 t k)
/-- The up projection, the convolution and the activation. -/
abbrev upF := up (hF x0 x1 x2 x3 x4 x5 x6) (gF x7) (wF x8)
abbrev convF := conv (upF x0 x1 x2 x3 x4 x5 x6 x7 x8) (cwF x9) (cbF x10)
abbrev actF := act (upF x0 x1 x2 x3 x4 x5 x6 x7 x8) (cwF x9) (cbF x10)
/-- The second residual. -/
abbrev yF := h2 (hF x0 x1 x2 x3 x4 x5 x6) (actF x0 x1 x2 x3 x4 x5 x6 x7 x8 x9 x10) (wdF x11)

set_option maxHeartbeats 1000000

theorem gateRows_apply (t : Fin 4096) (j : Fin 2816) :
    (val_main_v53 (F := Ideal) x0 x1 x2 x3 x4 x5 x6 x7 x8 : Vec Ideal S4096x2816 .f32) (ix2 t j) = upF x0 x1 x2 x3 x4 x5 x6 x7 x8 t ⟨j.val, by omega⟩ := by
  unfold val_main_v53
  have e := up_apply x0 x1 x2 x3 x4 x5 x6 x7 x8
  generalize val_main_v52 (F := Ideal) x0 x1 x2 x3 x4 x5 x6 x7 x8 = A at e ⊢
  pointwise
  exact e t ⟨j.val, by omega⟩

theorem valRows_apply (t : Fin 4096) (j : Fin 2816) :
    (val_main_v54 (F := Ideal) x0 x1 x2 x3 x4 x5 x6 x7 x8 : Vec Ideal S4096x2816 .f32) (ix2 t j) = upF x0 x1 x2 x3 x4 x5 x6 x7 x8 t ⟨2816 + j.val, by omega⟩ := by
  unfold val_main_v54
  have e := up_apply x0 x1 x2 x3 x4 x5 x6 x7 x8
  generalize val_main_v52 (F := Ideal) x0 x1 x2 x3 x4 x5 x6 x7 x8 = A at e ⊢
  pointwise
  exact e t ⟨2816 + j.val, by omega⟩

/-- The padded gate: two rows of zeros, then the gate's. -/
theorem padded_apply (n : Fin 4098) (c : Fin 2816) :
    (val_main_v55 (F := Ideal) x0 x1 x2 x3 x4 x5 x6 x7 x8 : Vec Ideal S4098x2816 .f32) (ix2 n c) = gpad (upF x0 x1 x2 x3 x4 x5 x6 x7 x8) n.val c := by
  unfold val_main_v55 val_main_call1_v0 val_main_c
  have e := gateRows_apply x0 x1 x2 x3 x4 x5 x6 x7 x8
  generalize val_main_v53 (F := Ideal) x0 x1 x2 x3 x4 x5 x6 x7 x8 = A at e ⊢
  unfold pad gpad Cert.Mlp.gate
  by_cases h : n.val < 2
  · have no : ¬ 2 ≤ n.val := by omega
    rw [dif_neg (fun k => no (k 0).1), if_pos h]
    show (((0#32 : BitVec 32).toInt : ℝ) : EReal) = 0
    simp
  · have hn := n.isLt
    rw [dif_pos (show ∀ a : Fin 2, _ from fun a => match a with
      | ⟨0, _⟩ => ⟨(by show 2 ≤ n.val; omega), (by show (n.val - 2) % 1 = 0; omega), (by show (n.val - 2) / 1 < 4096; omega)⟩
      | ⟨1, _⟩ => ⟨(by show 0 ≤ c.val; omega), (by show (c.val - 0) % 1 = 0; omega), (by show (c.val - 0) / 1 < 2816; omega)⟩),
      if_neg h, dif_pos (by omega)]
    refine Eq.trans (congrArg A ?_) (e ⟨n.val - 2, by omega⟩ c)
    funext a
    apply Fin.ext
    match a with
    | ⟨0, _⟩ => show (n.val - 2) / 1 = n.val - 2; omega
    | ⟨1, _⟩ => show (c.val - 0) / 1 = c.val; omega

theorem conv_apply (t : Fin 4096) (c : Fin 2816) :
    (val_main_v79 (F := Ideal) x0 x1 x2 x3 x4 x5 x6 x7 x8 x9 x10 : Vec Ideal S4096x2816 .f32) (ix2 t c) = convF x0 x1 x2 x3 x4 x5 x6 x7 x8 x9 x10 t c := by
  unfold val_main_v79 val_main_v78 val_main_v77 val_main_v76 val_main_v75 val_main_v74 val_main_v73 val_main_v72 val_main_v71 val_main_v70 val_main_v69 val_main_v68 val_main_v67 val_main_v66 val_main_v65 val_main_v64 val_main_v63 val_main_v62 val_main_v61 val_main_v60 val_main_v59 val_main_v58 val_main_v57 val_main_v56
  have e := padded_apply x0 x1 x2 x3 x4 x5 x6 x7 x8
  generalize val_main_v55 (F := Ideal) x0 x1 x2 x3 x4 x5 x6 x7 x8 = A at e ⊢
  pointwise
  simp only [e]
  rfl

theorem two_eq : Ideal.ofBits FTy.f32 1073741824#32 = ((2 : ℝ) : EReal) := by
  simp [Ideal.ofBits, Ideal.ieee]
  rw [← EReal.coe_mul]; norm_num [zpow_neg]

theorem div_sqrt2 (x : EReal) (i : S_.Idx) : Ideal.div x (id (Host.sqrt (F := Ideal) (constant S_ FTy.f32 1073741824#32)) i) = x * isqrt2 := by
  have e : id (Host.sqrt (F := Ideal) (constant S_ FTy.f32 1073741824#32)) i = ((Real.sqrt 2 : ℝ) : EReal) := by
    show Ideal.sqrt (Ideal.ofBits FTy.f32 1073741824#32) = _
    rw [two_eq, Ideal.sqrt_coe, if_neg (by norm_num)]
  rw [e, div_real _ _ (by positivity)]
  rfl

theorem act_apply (t : Fin 4096) (c : Fin 2816) :
    (val_main_v90 (F := Ideal) x0 x1 x2 x3 x4 x5 x6 x7 x8 x9 x10 : Vec Ideal S4096x2816 .f32) (ix2 t c) = actF x0 x1 x2 x3 x4 x5 x6 x7 x8 x9 x10 t c := by
  unfold val_main_v90 val_main_v89 val_main_v88 val_main_v87 val_main_cst_10 val_main_v86 val_main_v85 val_main_v84 val_main_v83 val_main_v82 val_main_cst_9 val_main_v81 val_main_v80 val_main_cst_8
  have e := conv_apply x0 x1 x2 x3 x4 x5 x6 x7 x8 x9 x10
  generalize val_main_v79 (F := Ideal) x0 x1 x2 x3 x4 x5 x6 x7 x8 x9 x10 = A at e ⊢
  have e' := valRows_apply x0 x1 x2 x3 x4 x5 x6 x7 x8
  generalize val_main_v54 (F := Ideal) x0 x1 x2 x3 x4 x5 x6 x7 x8 = B at e' ⊢
  pointwise
  rw [div_sqrt2, e, e']
  rfl

theorem conv_cast (t : Fin 4096) (c : Fin 2816) :
    (val_main_v150 (F := Ideal) x0 x1 x2 x3 x4 x5 x6 x7 x8 x9 x10 : Vec Ideal S4096x2816 .bf16) (ix2 t c) = convF x0 x1 x2 x3 x4 x5 x6 x7 x8 x9 x10 t c := by
  unfold val_main_v150
  have e := conv_apply x0 x1 x2 x3 x4 x5 x6 x7 x8 x9 x10
  generalize val_main_v79 (F := Ideal) x0 x1 x2 x3 x4 x5 x6 x7 x8 x9 x10 = A at e ⊢
  pointwise
  exact e t c

theorem act_cast (t : Fin 4096) (c : Fin 2816) :
    (val_main_v151 (F := Ideal) x0 x1 x2 x3 x4 x5 x6 x7 x8 x9 x10 : Vec Ideal S4096x2816 .bf16) (ix2 t c) = actF x0 x1 x2 x3 x4 x5 x6 x7 x8 x9 x10 t c := by
  unfold val_main_v151
  have e := act_apply x0 x1 x2 x3 x4 x5 x6 x7 x8 x9 x10
  generalize val_main_v90 (F := Ideal) x0 x1 x2 x3 x4 x5 x6 x7 x8 x9 x10 = A at e ⊢
  pointwise
  exact e t c

theorem h2_apply (t : Fin 4096) (k : Fin 1024) :
    (val_main_v92 (F := Ideal) x0 x1 x2 x3 x4 x5 x6 x7 x8 x9 x10 x11 : Vec Ideal S4096x1024 .f32) (ix2 t k) = yF x0 x1 x2 x3 x4 x5 x6 x7 x8 x9 x10 x11 t k := by
  unfold val_main_v92 val_main_v91
  have e := h1_apply x0 x1 x2 x3 x4 x5 x6
  generalize val_main_v37 (F := Ideal) x0 x1 x2 x3 x4 x5 x6 = B at e ⊢
  have e' := act_apply x0 x1 x2 x3 x4 x5 x6 x7 x8 x9 x10
  generalize val_main_v90 (F := Ideal) x0 x1 x2 x3 x4 x5 x6 x7 x8 x9 x10 = A at e' ⊢
  pointwise
  simp only [e, e']
  rfl

theorem normed_apply (t : Fin 4096) (k : Fin 1024) :
    (val_main_v106 (F := Ideal) x0 x1 x2 x3 x4 x5 x6 x7 x8 x9 x10 x11 : Vec Ideal S4096x1024 .f32) (ix2 t k) = normed (yF x0 x1 x2 x3 x4 x5 x6 x7 x8 x9 x10 x11) t k := by
  unfold val_main_v106 val_main_v105 val_main_v101 val_main_v100 val_main_v99 val_main_cst_13 val_main_v98 val_main_v97 val_main_cst_12 val_main_v96 val_main_v95 val_main_cst_11 val_main_v94
  have e := h2_apply x0 x1 x2 x3 x4 x5 x6 x7 x8 x9 x10 x11
  generalize val_main_v92 (F := Ideal) x0 x1 x2 x3 x4 x5 x6 x7 x8 x9 x10 x11 = A at e ⊢
  pointwise
  simp only [e]
  rw [rms_host (yF x0 x1 x2 x3 x4 x5 x6 x7 x8 x9 x10 x11 t)]
  rfl

theorem miss_apply (t : Fin 4096) (k : Fin 1024) :
    (val_main_v110 (F := Ideal) x0 x1 x2 x3 x4 x5 x6 x7 x8 x9 x10 x11 x12 x13 : Vec Ideal S4096x1024 .f32) (ix2 t k) = miss (yF x0 x1 x2 x3 x4 x5 x6 x7 x8 x9 x10 x11) (gfF x12) (tF x13) t k := by
  unfold val_main_v110 val_main_v109 val_main_v108 val_main_v107 val_main_v93
  have e := normed_apply x0 x1 x2 x3 x4 x5 x6 x7 x8 x9 x10 x11
  generalize val_main_v106 (F := Ideal) x0 x1 x2 x3 x4 x5 x6 x7 x8 x9 x10 x11 = A at e ⊢
  pointwise
  rw [e]
  rfl

theorem dy_apply (t : Fin 4096) (k : Fin 1024) :
    (val_main_v124 (F := Ideal) x0 x1 x2 x3 x4 x5 x6 x7 x8 x9 x10 x11 x12 x13 : Vec Ideal S4096x1024 .f32) (ix2 t k) = dy (yF x0 x1 x2 x3 x4 x5 x6 x7 x8 x9 x10 x11) (gfF x12) (tF x13) t k := by
  unfold val_main_v124 val_main_v123 val_main_v122 val_main_v121 val_main_cst_22 val_main_v120 val_main_v119 val_main_cst_21 val_main_cst_20 val_main_v113 val_main_v112 val_main_cst_15
  have e := miss_apply x0 x1 x2 x3 x4 x5 x6 x7 x8 x9 x10 x11 x12 x13
  generalize val_main_v110 (F := Ideal) x0 x1 x2 x3 x4 x5 x6 x7 x8 x9 x10 x11 x12 x13 = A at e ⊢
  pointwise
  rw [e, n1024_eq, div_real _ _ (by norm_num), two_eq]
  exact dy_chain _

theorem loss_apply (i : Fin 1) (j : Fin 128) :
    (val_main_v152 (F := Ideal) x0 x1 x2 x3 x4 x5 x6 x7 x8 x9 x10 x11 x12 x13 : Vec Ideal S1x128 .f32) (ix2 i j) = loss (yF x0 x1 x2 x3 x4 x5 x6 x7 x8 x9 x10 x11) (gfF x12) (tF x13) := by
  unfold val_main_v152 val_main_v118 val_main_cst_19 val_main_v117 val_main_cst_18 val_main_v116 val_main_v115 val_main_cst_17 val_main_v114 val_main_cst_16 val_main_v111
  have e := miss_apply x0 x1 x2 x3 x4 x5 x6 x7 x8 x9 x10 x11 x12 x13
  generalize val_main_v110 (F := Ideal) x0 x1 x2 x3 x4 x5 x6 x7 x8 x9 x10 x11 x12 x13 = A at e ⊢
  pointwise
  simp only [e]
  rw [n1024_eq]
  simp only [div_real _ (1024 : ℝ) (by norm_num)]
  refine (loss_mean _).trans ?_
  unfold loss lossTerm
  simp only [Fin.is_lt, dif_pos]

theorem dgf_apply (i : Fin 1) (k : Fin 1024) :
    (val_main_v145 (F := Ideal) x0 x1 x2 x3 x4 x5 x6 x7 x8 x9 x10 x11 x12 x13 : Vec Ideal S1x1024 .f32) (ix2 i k) = dgf (yF x0 x1 x2 x3 x4 x5 x6 x7 x8 x9 x10 x11) (gfF x12) (tF x13) k := by
  unfold val_main_v145 val_main_v130 val_main_cst_24 val_main_v127 val_main_v126 val_main_cst_23 val_main_v125
  have e := normed_apply x0 x1 x2 x3 x4 x5 x6 x7 x8 x9 x10 x11
  generalize val_main_v106 (F := Ideal) x0 x1 x2 x3 x4 x5 x6 x7 x8 x9 x10 x11 = A at e ⊢
  have e' := dy_apply x0 x1 x2 x3 x4 x5 x6 x7 x8 x9 x10 x11 x12 x13
  generalize val_main_v124 (F := Ideal) x0 x1 x2 x3 x4 x5 x6 x7 x8 x9 x10 x11 x12 x13 = B at e' ⊢
  pointwise
  simp only [e, e']
  rw [Fin.sum_univ_one]
  unfold dgf
  refine Finset.sum_congr rfl fun t _ => ?_
  unfold dgfTerm
  rw [dif_pos t.isLt, mul_comm]

theorem dh2_apply (hy : ∀ t k, IsReal (yF x0 x1 x2 x3 x4 x5 x6 x7 x8 x9 x10 x11 t k)) (hg : ∀ k, IsReal (gfF x12 k)) (ht : ∀ t k, IsReal (tF x13 t k)) (t : Fin 4096) (k : Fin 1024) :
    (val_main_v144 (F := Ideal) x0 x1 x2 x3 x4 x5 x6 x7 x8 x9 x10 x11 x12 x13 : Vec Ideal S4096x1024 .f32) (ix2 t k) = dh2 (yF x0 x1 x2 x3 x4 x5 x6 x7 x8 x9 x10 x11) (gfF x12) (tF x13) t k := by
  unfold val_main_v144 val_main_v143 val_main_v142 val_main_v141 val_main_v140 val_main_v139 val_main_cst_27 val_main_v138 val_main_v137 val_main_cst_26 val_main_v136 val_main_v135 val_main_v134 val_main_v133 val_main_v132 val_main_cst_25 val_main_v131 val_main_v129 val_main_v128 val_main_v107 val_main_v104 val_main_v103 val_main_cst_14 val_main_v102 val_main_v101 val_main_v100 val_main_v99 val_main_cst_13 val_main_v98 val_main_v97 val_main_cst_12 val_main_v96 val_main_v95 val_main_cst_11 val_main_v94 val_main_v93
  have e := h2_apply x0 x1 x2 x3 x4 x5 x6 x7 x8 x9 x10 x11
  generalize val_main_v92 (F := Ideal) x0 x1 x2 x3 x4 x5 x6 x7 x8 x9 x10 x11 = A at e ⊢
  have e' := dy_apply x0 x1 x2 x3 x4 x5 x6 x7 x8 x9 x10 x11 x12 x13
  generalize val_main_v124 (F := Ideal) x0 x1 x2 x3 x4 x5 x6 x7 x8 x9 x10 x11 x12 x13 = B at e' ⊢
  pointwise
  simp only [e, e']
  rw [Fin.sum_univ_one, rms_host (yF x0 x1 x2 x3 x4 x5 x6 x7 x8 x9 x10 x11 t), n1024_eq, neghalf_eq, div_real _ 1024 (by norm_num), div_real _ 1024 (by norm_num)]
  exact (normGrad_eq' (N := 1024) (by norm_num) (hy t) (fun i => (dy_real hy hg ht t i).mul (hg i)) k).symm

end Cert.Reference5Ideal.Fwd

end
-- ==== Proof.Fwd.Reals.lean ====
/- The second residual has real entries when the arguments have. -/
module

public import proofs.«01_k».proof.Proof.Fwd.RefTail

@[expose] public section

set_option maxRecDepth 16384

noncomputable section

namespace Cert.Reference5Ideal.Fwd

open Cert.Reference5Ideal Idealize.ShloMosaic Idealize.ShloMosaic.TcCoe Idealize.SL.Sem
open Cert.Mlp Cert.Norm Cert.Up Cert.Fwd

variable {x0 x1 : Vec Ideal S4096x512 .f32} {x2 : Vec Ideal S4096x2048 .f32} {x3 : Vec Ideal S4096x1024 .f32} {x4 x5 : Vec Ideal S1x512 .f32}
  {x6 : Vec Ideal S1024x1024 .f32} {x7 : Vec Ideal S1x1024 .f32} {x8 : Vec Ideal S1024x5632 .f32} {x9 : Vec Ideal S3x2816 .f32} {x10 : Vec Ideal S1x2816 .f32}
  {x11 : Vec Ideal S2816x1024 .f32} {x12 : Vec Ideal S1x1024 .f32} {x13 : Vec Ideal S4096x1024 .f32}

/-- Every entry of every argument is a real. -/
structure Reals (x0 x1 : Vec Ideal S4096x512 .f32) (x2 : Vec Ideal S4096x2048 .f32) (x3 : Vec Ideal S4096x1024 .f32) (x4 x5 : Vec Ideal S1x512 .f32)
    (x6 : Vec Ideal S1024x1024 .f32) (x7 : Vec Ideal S1x1024 .f32) (x8 : Vec Ideal S1024x5632 .f32) (x9 : Vec Ideal S3x2816 .f32) (x10 : Vec Ideal S1x2816 .f32)
    (x11 : Vec Ideal S2816x1024 .f32) (x12 : Vec Ideal S1x1024 .f32) (x13 : Vec Ideal S4096x1024 .f32) : Prop where
  r0 : ∀ i, IsReal (x0 i)
  r1 : ∀ i, IsReal (x1 i)
  r2 : ∀ i, IsReal (x2 i)
  r3 : ∀ i, IsReal (x3 i)
  r4 : ∀ i, IsReal (x4 i)
  r5 : ∀ i, IsReal (x5 i)
  r6 : ∀ i, IsReal (x6 i)
  r7 : ∀ i, IsReal (x7 i)
  r8 : ∀ i, IsReal (x8 i)
  r9 : ∀ i, IsReal (x9 i)
  r10 : ∀ i, IsReal (x10 i)
  r11 : ∀ i, IsReal (x11 i)
  r12 : ∀ i, IsReal (x12 i)
  r13 : ∀ i, IsReal (x13 i)

/-- The activation of a real row is real. -/
theorem act_real {gv : Fin 4096 → Fin 5632 → EReal} {cw : Fin 3 → Fin 2816 → EReal} {cb : Fin 2816 → EReal}
    (hg : ∀ t j, IsReal (gv t j)) (hw : ∀ j c, IsReal (cw j c)) (hb : ∀ c, IsReal (cb c)) (t : Fin 4096) (c : Fin 2816) : IsReal (act gv cw cb t c) := by
  unfold Cert.Mlp.act
  have hc := conv_real hg hw hb t c
  generalize Cert.Mlp.conv gv cw cb t c = x at hc ⊢
  have he : IsReal (FloatOps.erf (F := Ideal) (φ := .f32) (x * isqrt2)) := by
    obtain ⟨x, rfl⟩ := hc
    unfold isqrt2
    rw [← EReal.coe_mul]
    exact ⟨_, Ideal.erf_coe _⟩
  have h1 : IsReal 1 := ⟨1, EReal.coe_one.symm⟩
  have hh : IsReal half := ⟨_, half_eq⟩
  exact ((IsReal.mul hh hc).mul (h1.add he)).mul (hg _ _)

theorem Reals.h1 (H : Reals x0 x1 x2 x3 x4 x5 x6 x7 x8 x9 x10 x11 x12 x13) (t : Fin 4096) (k : Fin 1024) : IsReal (hF x0 x1 x2 x3 x4 x5 x6 t k) :=
  (H.r3 _).add (IsReal.sum _ _ fun _ => (mixed_real (fun _ _ => H.r0 _) (fun _ _ => H.r1 _) (fun _ _ => H.r2 _) (fun _ => H.r4 _) (fun _ => H.r5 _) _ _).mul (H.r6 _))

theorem Reals.up (H : Reals x0 x1 x2 x3 x4 x5 x6 x7 x8 x9 x10 x11 x12 x13) (t : Fin 4096) (j : Fin 5632) : IsReal (upF x0 x1 x2 x3 x4 x5 x6 x7 x8 t j) :=
  IsReal.sum _ _ fun _ => (((H.h1 t _).mul (rms_real (by norm_num) (H.h1 t))).mul (H.r7 _)).mul (H.r8 _)

theorem Reals.y (H : Reals x0 x1 x2 x3 x4 x5 x6 x7 x8 x9 x10 x11 x12 x13) (t : Fin 4096) (k : Fin 1024) : IsReal (yF x0 x1 x2 x3 x4 x5 x6 x7 x8 x9 x10 x11 t k) :=
  (H.h1 t k).add (IsReal.sum _ _ fun _ => (act_real H.up (fun _ _ => H.r9 _) (fun _ => H.r10 _) _ _).mul (H.r11 _))

end Cert.Reference5Ideal.Fwd

end
-- ==== Proof.Fwd.Results.lean ====
/- The reference's ten results are the kernel's. -/
module

public import proofs.«01_k».proof.Proof.Fwd.Final
public import proofs.«01_k».proof.Proof.Fwd.Final2
public import proofs.«01_k».proof.Proof.Fwd.Reals

@[expose] public section

set_option maxRecDepth 16384

noncomputable section

namespace Cert.Reference5Ideal.Fwd

open Cert.Reference5Ideal.Read Idealize.ShloMosaic Idealize.ShloMosaic.TcCoe Idealize.SL.Sem
open Cert.Kernel5Ideal.Fwd (hOut qOut uOut gateOut valOut convOut actOut dhOut lossOut dgfOut)

variable (m : (ℓ : Loc Cert.Kernel5Ideal.nD Cert.Kernel5Ideal.τ Cert.Kernel5Ideal.sig) → Buf (Elt Ideal) ℓ) (c : Dev Cert.Kernel5Ideal.nD)

/-- An argument array of the kernel. -/
abbrev arg (b : Ref Cert.Kernel5Ideal.sig .tc) := m ((c.tc : Thread Cert.Kernel5Ideal.nD Cert.Kernel5Ideal.τ).loc b)

/-- Every entry of every argument of the kernel is a real number. -/
abbrev RealArgs : Prop := Reals (arg m c Cert.Kernel5Ideal.main_arg0) (arg m c Cert.Kernel5Ideal.main_arg1) (arg m c Cert.Kernel5Ideal.main_arg2) (arg m c Cert.Kernel5Ideal.main_arg3) (arg m c Cert.Kernel5Ideal.main_arg4) (arg m c Cert.Kernel5Ideal.main_arg5) (arg m c Cert.Kernel5Ideal.main_arg6) (arg m c Cert.Kernel5Ideal.main_arg7) (arg m c Cert.Kernel5Ideal.main_arg8) (arg m c Cert.Kernel5Ideal.main_arg9) (arg m c Cert.Kernel5Ideal.main_arg10) (arg m c Cert.Kernel5Ideal.main_arg11) (arg m c Cert.Kernel5Ideal.main_arg12) (arg m c Cert.Kernel5Ideal.main_arg13)

/-- The arrays are the kernel's arguments. -/
def Same (b0 : Vec Ideal Cert.Reference5Ideal.S4096x512 .f32) (b1 : Vec Ideal Cert.Reference5Ideal.S4096x512 .f32) (b2 : Vec Ideal Cert.Reference5Ideal.S4096x2048 .f32) (b3 : Vec Ideal Cert.Reference5Ideal.S4096x1024 .f32) (b4 : Vec Ideal Cert.Reference5Ideal.S1x512 .f32) (b5 : Vec Ideal Cert.Reference5Ideal.S1x512 .f32) (b6 : Vec Ideal Cert.Reference5Ideal.S1024x1024 .f32) (b7 : Vec Ideal Cert.Reference5Ideal.S1x1024 .f32) (b8 : Vec Ideal Cert.Reference5Ideal.S1024x5632 .f32) (b9 : Vec Ideal Cert.Reference5Ideal.S3x2816 .f32) (b10 : Vec Ideal Cert.Reference5Ideal.S1x2816 .f32) (b11 : Vec Ideal Cert.Reference5Ideal.S2816x1024 .f32) (b12 : Vec Ideal Cert.Reference5Ideal.S1x1024 .f32) (b13 : Vec Ideal Cert.Reference5Ideal.S4096x1024 .f32) : Prop :=
  b0 = arg m c Cert.Kernel5Ideal.main_arg0 ∧ b1 = arg m c Cert.Kernel5Ideal.main_arg1 ∧ b2 = arg m c Cert.Kernel5Ideal.main_arg2 ∧ b3 = arg m c Cert.Kernel5Ideal.main_arg3 ∧ b4 = arg m c Cert.Kernel5Ideal.main_arg4 ∧ b5 = arg m c Cert.Kernel5Ideal.main_arg5 ∧ b6 = arg m c Cert.Kernel5Ideal.main_arg6 ∧ b7 = arg m c Cert.Kernel5Ideal.main_arg7 ∧ b8 = arg m c Cert.Kernel5Ideal.main_arg8 ∧ b9 = arg m c Cert.Kernel5Ideal.main_arg9 ∧ b10 = arg m c Cert.Kernel5Ideal.main_arg10 ∧ b11 = arg m c Cert.Kernel5Ideal.main_arg11 ∧ b12 = arg m c Cert.Kernel5Ideal.main_arg12 ∧ b13 = arg m c Cert.Kernel5Ideal.main_arg13

variable {m c} {b0 : Vec Ideal Cert.Reference5Ideal.S4096x512 .f32} {b1 : Vec Ideal Cert.Reference5Ideal.S4096x512 .f32} {b2 : Vec Ideal Cert.Reference5Ideal.S4096x2048 .f32} {b3 : Vec Ideal Cert.Reference5Ideal.S4096x1024 .f32} {b4 : Vec Ideal Cert.Reference5Ideal.S1x512 .f32} {b5 : Vec Ideal Cert.Reference5Ideal.S1x512 .f32} {b6 : Vec Ideal Cert.Reference5Ideal.S1024x1024 .f32} {b7 : Vec Ideal Cert.Reference5Ideal.S1x1024 .f32} {b8 : Vec Ideal Cert.Reference5Ideal.S1024x5632 .f32} {b9 : Vec Ideal Cert.Reference5Ideal.S3x2816 .f32} {b10 : Vec Ideal Cert.Reference5Ideal.S1x2816 .f32} {b11 : Vec Ideal Cert.Reference5Ideal.S2816x1024 .f32} {b12 : Vec Ideal Cert.Reference5Ideal.S1x1024 .f32} {b13 : Vec Ideal Cert.Reference5Ideal.S4096x1024 .f32} (E : Same m c b0 b1 b2 b3 b4 b5 b6 b7 b8 b9 b10 b11 b12 b13)

include E

theorem result_h : val_main_v37 (F := Ideal) b0 b1 b2 b3 b4 b5 b6 = hOut m c := by
  obtain ⟨rfl, rfl, rfl, rfl, rfl, rfl, rfl, rfl, rfl, rfl, rfl, rfl, rfl, rfl⟩ := E
  funext y
  exact (congrArg _ (eq_ix2 y)).trans (h1_apply _ _ _ _ _ _ _ (y 0) (y 1))

theorem result_q : val_main_v146 (F := Ideal) b0 b1 b2 b4 b5 = qOut m c := by
  obtain ⟨rfl, rfl, rfl, rfl, rfl, rfl, rfl, rfl, rfl, rfl, rfl, rfl, rfl, rfl⟩ := E
  funext y
  exact (congrArg _ (eq_ix2 y)).trans (mixed_cast _ _ _ _ _ (y 0) (y 1))

theorem result_u : val_main_v147 (F := Ideal) b0 b1 b2 b3 b4 b5 b6 b7 = uOut m c := by
  obtain ⟨rfl, rfl, rfl, rfl, rfl, rfl, rfl, rfl, rfl, rfl, rfl, rfl, rfl, rfl⟩ := E
  funext y
  exact (congrArg _ (eq_ix2 y)).trans (scaled_cast _ _ _ _ _ _ _ _ (y 0) (y 1))

theorem result_gate : val_main_v148 (F := Ideal) b0 b1 b2 b3 b4 b5 b6 b7 b8 = gateOut m c := by
  obtain ⟨rfl, rfl, rfl, rfl, rfl, rfl, rfl, rfl, rfl, rfl, rfl, rfl, rfl, rfl⟩ := E
  funext y
  exact (congrArg _ (eq_ix2 y)).trans (gate_apply _ _ _ _ _ _ _ _ _ (y 0) (y 1))

theorem result_val : val_main_v149 (F := Ideal) b0 b1 b2 b3 b4 b5 b6 b7 b8 = valOut m c := by
  obtain ⟨rfl, rfl, rfl, rfl, rfl, rfl, rfl, rfl, rfl, rfl, rfl, rfl, rfl, rfl⟩ := E
  funext y
  exact (congrArg _ (eq_ix2 y)).trans (val_apply _ _ _ _ _ _ _ _ _ (y 0) (y 1))

theorem result_conv : val_main_v150 (F := Ideal) b0 b1 b2 b3 b4 b5 b6 b7 b8 b9 b10 = convOut m c := by
  obtain ⟨rfl, rfl, rfl, rfl, rfl, rfl, rfl, rfl, rfl, rfl, rfl, rfl, rfl, rfl⟩ := E
  funext y
  exact (congrArg _ (eq_ix2 y)).trans (conv_cast _ _ _ _ _ _ _ _ _ _ _ (y 0) (y 1))

theorem result_act : val_main_v151 (F := Ideal) b0 b1 b2 b3 b4 b5 b6 b7 b8 b9 b10 = actOut m c := by
  obtain ⟨rfl, rfl, rfl, rfl, rfl, rfl, rfl, rfl, rfl, rfl, rfl, rfl, rfl, rfl⟩ := E
  funext y
  exact (congrArg _ (eq_ix2 y)).trans (act_cast _ _ _ _ _ _ _ _ _ _ _ (y 0) (y 1))

theorem result_dh (H : RealArgs m c) : val_main_v144 (F := Ideal) b0 b1 b2 b3 b4 b5 b6 b7 b8 b9 b10 b11 b12 b13 = dhOut m c := by
  obtain ⟨rfl, rfl, rfl, rfl, rfl, rfl, rfl, rfl, rfl, rfl, rfl, rfl, rfl, rfl⟩ := E
  funext y
  exact (congrArg _ (eq_ix2 y)).trans (dh2_apply _ _ _ _ _ _ _ _ _ _ _ _ _ _ H.y (fun _ => H.r12 _) (fun _ _ => H.r13 _) (y 0) (y 1))

theorem result_loss : val_main_v152 (F := Ideal) b0 b1 b2 b3 b4 b5 b6 b7 b8 b9 b10 b11 b12 b13 = lossOut m c := by
  obtain ⟨rfl, rfl, rfl, rfl, rfl, rfl, rfl, rfl, rfl, rfl, rfl, rfl, rfl, rfl⟩ := E
  funext y
  exact (congrArg _ (eq_ix2 y)).trans (loss_apply _ _ _ _ _ _ _ _ _ _ _ _ _ _ (y 0) (y 1))

theorem result_dgf : val_main_v145 (F := Ideal) b0 b1 b2 b3 b4 b5 b6 b7 b8 b9 b10 b11 b12 b13 = dgfOut m c := by
  obtain ⟨rfl, rfl, rfl, rfl, rfl, rfl, rfl, rfl, rfl, rfl, rfl, rfl, rfl, rfl⟩ := E
  funext y
  exact (congrArg _ (eq_ix2 y)).trans (dgf_apply _ _ _ _ _ _ _ _ _ _ _ _ _ _ (y 0) (y 1))

end Cert.Reference5Ideal.Fwd

end
-- ==== Proof.Fwd.Pre.lean ====
/- The fifth precondition read back: every entry of every argument is a real number. -/
module

public import proofs.«01_k».proof.Defs
public import proofs.«01_k».proof.Proof.Gen.Pre_finite5
public import proofs.«01_k».proof.Proof.Mlp.Pre
public import proofs.«01_k».proof.Proof.Fwd.Reals

@[expose] public section

noncomputable section

namespace Cert.Fwd

open Idealize.ShloMosaic Cert.Pre_finite5 Cert.Mlp

theorem real_of_finite5 (a0 : FVec Ideal S4096x512 .f32) (a1 : FVec Ideal S4096x512 .f32) (a2 : FVec Ideal S4096x2048 .f32) (a3 : FVec Ideal S4096x1024 .f32) (a4 : FVec Ideal S1x512 .f32) (a5 : FVec Ideal S1x512 .f32) (a6 : FVec Ideal S1024x1024 .f32) (a7 : FVec Ideal S1x1024 .f32) (a8 : FVec Ideal S1024x5632 .f32) (a9 : FVec Ideal S3x2816 .f32) (a10 : FVec Ideal S1x2816 .f32) (a11 : FVec Ideal S2816x1024 .f32) (a12 : FVec Ideal S1x1024 .f32) (a13 : FVec Ideal S4096x1024 .f32) [Facts]
    (h : fn (F := Ideal) a0 a1 a2 a3 a4 a5 a6 a7 a8 a9 a10 a11 a12 a13 = fun _ => 1#1) :
    Cert.Reference5Ideal.Fwd.Reals a0 a1 a2 a3 a4 a5 a6 a7 a8 a9 a10 a11 a12 a13 := by
  have h' := congrFun h (fun i => i.elim0)
  unfold fn fn_part1 fn_part2 fn_part3 fn_part4 at h'
  obtain ⟨h', e13⟩ := IntOp.andi_eq_one.mp h'
  obtain ⟨h', e12⟩ := IntOp.andi_eq_one.mp h'
  obtain ⟨h', e11⟩ := IntOp.andi_eq_one.mp h'
  obtain ⟨h', e10⟩ := IntOp.andi_eq_one.mp h'
  obtain ⟨h', e9⟩ := IntOp.andi_eq_one.mp h'
  obtain ⟨h', e8⟩ := IntOp.andi_eq_one.mp h'
  obtain ⟨h', e7⟩ := IntOp.andi_eq_one.mp h'
  obtain ⟨h', e6⟩ := IntOp.andi_eq_one.mp h'
  obtain ⟨h', e5⟩ := IntOp.andi_eq_one.mp h'
  obtain ⟨h', e4⟩ := IntOp.andi_eq_one.mp h'
  obtain ⟨h', e3⟩ := IntOp.andi_eq_one.mp h'
  obtain ⟨h', e2⟩ := IntOp.andi_eq_one.mp h'
  obtain ⟨e0, e1⟩ := IntOp.andi_eq_one.mp h'
  exact ⟨real_of_all a0 _ _ _ _ e0,
    real_of_all a1 _ _ _ _ e1,
    real_of_all a2 _ _ _ _ e2,
    real_of_all a3 _ _ _ _ e3,
    real_of_all a4 _ _ _ _ e4,
    real_of_all a5 _ _ _ _ e5,
    real_of_all a6 _ _ _ _ e6,
    real_of_all a7 _ _ _ _ e7,
    real_of_all a8 _ _ _ _ e8,
    real_of_all a9 _ _ _ _ e9,
    real_of_all a10 _ _ _ _ e10,
    real_of_all a11 _ _ _ _ e11,
    real_of_all a12 _ _ _ _ e12,
    real_of_all a13 _ _ _ _ e13⟩

end Cert.Fwd

end
-- ==== Proof.lean ====
module

public import proofs.«01_k».proof.Proof.Mlp.Final
public import proofs.«01_k».proof.Proof.Mlp.Ref
public import proofs.«01_k».proof.Proof.Mlp.Pre
public import proofs.«01_k».proof.Proof.In.Final
public import proofs.«01_k».proof.Proof.In.Ref
public import proofs.«01_k».proof.Proof.In.Pre
public import proofs.«01_k».proof.Proof.Up.Final
public import proofs.«01_k».proof.Proof.Up.Results
public import proofs.«01_k».proof.Proof.Up.Pre
public import proofs.«01_k».proof.Proof.Pack.Final
public import proofs.«01_k».proof.Proof.Pack.Results
public import proofs.«01_k».proof.Proof.Fwd.Results
public import proofs.«01_k».proof.Proof.Fwd.Pre
public import proofs.«01_k».proof.Proof.Gen.KernelIdeal.Value
public import proofs.«01_k».proof.Proof.Gen.ReferenceIdeal.Value
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Pre_finite2
public import proofs.«01_k».proof.Proof.Gen.Pre_finite5
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Pre_finite3
public import proofs.«01_k».proof.Proof.Gen.Pre_finite4
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import Idealize.ShloMosaic.Adequacy
public import Idealize.ShloMosaic.Init

@[expose] public section

noncomputable section

namespace Cert.Proof

open Idealize.ShloMosaic Idealize.ShloMosaic.TcCoe Idealize.SL.Sem

/-- The kernel's results and the reference's are the same arrays. -/
theorem algebraic : Cert.algebraic_KernelIdeal_ReferenceIdeal_pre_finite := by
  intro m g m' g' hpre hargs
  refine ⟨fun c => Cert.KernelIdeal.Mlp.gvOut m c, fun c => Cert.KernelIdeal.Mlp.cwOut m c, fun c => Cert.KernelIdeal.Mlp.cbOut m c,
    fun c => Cert.KernelIdeal.Mlp.wdOut m c, ?_, ?_⟩
  · refine (θ_run Cert.KernelIdeal.defs _ _).mono (fun r h c => ?_) (Cert.KernelIdeal.Value.run_blocks (F := Ideal) m g)
    obtain ⟨h0, h1, h2, h3, hk⟩ := h c
    exact ⟨h0.trans (Cert.KernelIdeal.Mlp.final_gv m c), h1.trans (Cert.KernelIdeal.Mlp.final_cw m c), h2.trans (Cert.KernelIdeal.Mlp.final_cb m c),
      h3.trans (Cert.KernelIdeal.Mlp.final_wd m c), hk⟩
  · refine (θ_run Cert.ReferenceIdeal.defs _ _).mono (fun r h c => ?_) (Cert.ReferenceIdeal.Value.run (F := Ideal) m' g')
    obtain ⟨h0, h1, h2, h3, hk⟩ := h c
    obtain ⟨e0, e1, e2, e3, e4⟩ := hargs c
    obtain ⟨f0, f1, f2, f3, f4⟩ := Cert.Mlp.real_of_finite _ _ _ _ _ (hpre c)
    refine ⟨h0.trans ?_, h1.trans ?_, h2.trans ?_, h3.trans ?_, hk⟩
    · rw [e0, e1, e2, e3, e4]
      funext y
      rw [Cert.KernelIdeal.Mlp.ix2_eta y]
      exact Cert.ReferenceIdeal.Mlp.g5_apply _ _ _ _ _ (fun _ _ => f0 _) (fun _ _ => f1 _) (fun _ => f2 _) (fun _ _ => f3 _) (fun _ _ => f4 _) _ _
    · rw [e0, e1, e2, e3, e4]
      funext y
      rw [Cert.KernelIdeal.Mlp.ix2_eta y]
      exact Cert.ReferenceIdeal.Mlp.g6_apply _ _ _ _ _ (fun _ _ => f0 _) (fun _ _ => f1 _) (fun _ => f2 _) (fun _ _ => f3 _) (fun _ _ => f4 _) _ _
    · rw [e0, e1, e2, e3, e4]
      funext y
      rw [Cert.KernelIdeal.Mlp.ix2_eta y]
      exact Cert.ReferenceIdeal.Mlp.g7_apply _ _ _ _ _ (fun _ _ => f0 _) (fun _ _ => f1 _) (fun _ => f2 _) (fun _ _ => f3 _) (fun _ _ => f4 _) _ _
    · rw [e0, e1, e2, e3, e4]
      funext y
      rw [Cert.KernelIdeal.Mlp.ix2_eta y]
      exact Cert.ReferenceIdeal.Mlp.g8_apply _ _ _ _ _ _ _

/-- The same for the gradient of the first norm and the input weights. -/
theorem algebraic2 : Cert.algebraic_Kernel2Ideal_Reference2Ideal_pre_finite2 := by
  intro m g m' g' hpre hargs
  refine ⟨fun c => Cert.Kernel2Ideal.In.dwOut m c, fun c => Cert.Kernel2Ideal.In.dxOut m c, fun c => Cert.Kernel2Ideal.In.dgOut m c, ?_, ?_⟩
  · refine (θ_run Cert.Kernel2Ideal.defs _ _).mono (fun r h c => ?_) (Cert.Kernel2Ideal.Value.run_blocks (F := Ideal) m g)
    obtain ⟨h0, h1, h2, hk⟩ := h c
    exact ⟨h0.trans (Cert.Kernel2Ideal.In.final_dw m c), h1.trans (Cert.Kernel2Ideal.In.final_dx m c), h2.trans (Cert.Kernel2Ideal.In.final_dg m c), hk⟩
  · refine (θ_run Cert.Reference2Ideal.defs _ _).mono (fun r h c => ?_) (Cert.Reference2Ideal.Value.run (F := Ideal) m' g')
    obtain ⟨h0, h1, h2, hk⟩ := h c
    obtain ⟨e0, e1, e2, e3, e4⟩ := hargs c
    obtain ⟨f0, f1, f2, f4⟩ := Cert.In.real_of_finite2 _ _ _ _ _ (hpre c)
    refine ⟨h0.trans ((Cert.Reference2Ideal.Read.val_main_v45_eq _ _ _).trans ?_), h1.trans ((Cert.Reference2Ideal.Read.val_main_v41_eq m' c).trans ?_),
      h2.trans ((Cert.Reference2Ideal.Read.val_main_v42_eq _ _ _).trans ?_), hk⟩
    · rw [e0, e1, e4]
      funext y
      rw [Cert.Kernel2Ideal.In.ix3_eta y]
      exact Cert.Reference2Ideal.In.dw_apply _ _ _ _ _ _ (Cert.Kernel2Ideal.In.colOf _ _).isLt
    · rw [e0, e1, e2, e3, e4]
      funext y
      rw [Cert.Kernel2Ideal.In.ix2_eta y]
      exact Cert.Reference2Ideal.In.dx_apply _ _ _ _ _ f0 f1 f2 f4 _ _
    · rw [e0, e2, e4]
      funext y
      rw [Cert.Kernel2Ideal.In.ix2_eta y]
      exact Cert.Reference2Ideal.In.dg_apply _ _ _ _ _

/-- The second reference runs on the host alone: its run keeps the arguments, and it declares no semaphore. -/
theorem frame_reference2 : Cert.quiescent_Reference2Ideal := fun m ρ _ =>
  (θ_run Cert.Reference2Ideal.defs _ _).mono (fun r h => ⟨fun c => (h c).2.2.2, sem_eq_zero_of_no_sems (by decide) r.2⟩)
    (Cert.Reference2Ideal.Value.run (F := Ideal) m ρ)

/-- The same for the gradient of the second norm, the output weights, the head norms and the silu gate. -/
theorem algebraic3 : Cert.algebraic_Kernel3Ideal_Reference3Ideal_pre_finite3 := by
  intro m g m' g' hpre hargs
  refine ⟨fun c => Cert.Kernel3Ideal.Up.dhOut m c, fun c => Cert.Kernel3Ideal.Up.dgOut m c, fun c => Cert.Kernel3Ideal.Up.daOut m c, fun c => Cert.Kernel3Ideal.Up.drOut m c, fun c => Cert.Kernel3Ideal.Up.dzOut m c, fun c => Cert.Kernel3Ideal.Up.gaOut m c, fun c => Cert.Kernel3Ideal.Up.ghOut m c, fun c => Cert.Kernel3Ideal.Up.dwOut m c, ?_, ?_⟩
  · refine (θ_run Cert.Kernel3Ideal.defs _ _).mono (fun r h c => ?_) (Cert.Kernel3Ideal.Value.run_blocks (F := Ideal) m g)
    obtain ⟨h0, h1, h2, h3, h4, h5, h6, h7, hk⟩ := h c
    exact ⟨h0.trans (Cert.Kernel3Ideal.Up.final_dh m c),
      h1.trans (Cert.Kernel3Ideal.Up.final_dg m c),
      h2.trans (Cert.Kernel3Ideal.Up.final_da m c),
      h3.trans (Cert.Kernel3Ideal.Up.final_dr m c),
      h4.trans (Cert.Kernel3Ideal.Up.final_dz m c),
      h5.trans (Cert.Kernel3Ideal.Up.final_ga m c),
      h6.trans (Cert.Kernel3Ideal.Up.final_gh m c),
      h7.trans (Cert.Kernel3Ideal.Up.final_dw m c), hk⟩
  · refine (θ_run Cert.Reference3Ideal.defs _ _).mono (fun r h c => ?_) (Cert.Reference3Ideal.Value.run (F := Ideal) m' g')
    obtain ⟨h0, h1, h2, h3, h4, h5, h6, h7, hk⟩ := h c
    have H := Cert.Up.real_of_finite3 _ _ _ _ _ _ _ _ _ _ _ (hpre c)
    exact ⟨h0.trans ((Cert.Reference3Ideal.Read.val_main_v83_eq _).trans (Cert.Reference3Ideal.Up.result_dh (hargs c) H)),
      h1.trans ((Cert.Reference3Ideal.Read.val_main_v84_eq _).trans (Cert.Reference3Ideal.Up.result_dg (hargs c))),
      h2.trans ((Cert.Reference3Ideal.Read.val_main_v138_eq _).trans (Cert.Reference3Ideal.Up.result_da (hargs c) H)),
      h3.trans ((Cert.Reference3Ideal.Read.val_main_v118_eq _).trans (Cert.Reference3Ideal.Up.result_dr (hargs c) H)),
      h4.trans ((Cert.Reference3Ideal.Read.val_main_v140_eq _).trans (Cert.Reference3Ideal.Up.result_dz (hargs c) H)),
      h5.trans ((Cert.Reference3Ideal.Read.val_main_v139_eq _).trans (Cert.Reference3Ideal.Up.result_ga (hargs c) H)),
      h6.trans ((Cert.Reference3Ideal.Read.val_main_v117_eq _).trans (Cert.Reference3Ideal.Up.result_gh (hargs c) H)),
      h7.trans ((Cert.Reference3Ideal.Read.val_main_v141_eq _).trans (Cert.Reference3Ideal.Up.result_dw (hargs c) H)), hk⟩

/-- The third reference runs on the host alone too. -/
theorem frame_reference3 : Cert.quiescent_Reference3Ideal := fun m ρ _ =>
  (θ_run Cert.Reference3Ideal.defs _ _).mono (fun r h => ⟨fun c => (h c).2.2.2.2.2.2.2.2, sem_eq_zero_of_no_sems (by decide) r.2⟩)
    (Cert.Reference3Ideal.Value.run (F := Ideal) m ρ)

/-- The same for the packed small gradients, the gradient of the lower bound's logits among them. -/
theorem algebraic4 : Cert.algebraic_Kernel4Ideal_Reference4Ideal_pre_finite4 := by
  intro m g m' g' hpre hargs
  refine ⟨fun c => Cert.Kernel4Ideal.Pack.packOut m c, ?_, ?_⟩
  · refine (θ_run Cert.Kernel4Ideal.defs _ _).mono (fun r h c => ?_) (Cert.Kernel4Ideal.Value.run_blocks (F := Ideal) m g)
    obtain ⟨h0, hk⟩ := h c
    exact ⟨h0.trans (Cert.Kernel4Ideal.Pack.final_pack m c), hk⟩
  · refine (θ_run Cert.Reference4Ideal.defs _ _).mono (fun r h c => ?_) (Cert.Reference4Ideal.Value.run (F := Ideal) m' g')
    obtain ⟨h0, hk⟩ := h c
    have H := Cert.Pack.real_of_finite4 _ _ _ _ _ _ _ _ _ _ (hpre c)
    exact ⟨h0.trans ((Cert.Reference4Ideal.Read.val_main_v56_eq _ _).trans (Cert.Reference4Ideal.Pack.result_pack m c _ _ _ _ _ _ _ _ _ _ (hargs c) H)), hk⟩

/-- The fourth reference runs on the host alone too. -/
theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The forward pass after attention and recurrence, with the loss and its first gradients: the kernel's ten results are the reference's. -/
theorem algebraic5 : Cert.algebraic_Kernel5Ideal_Reference5Ideal_pre_finite5 := by
  intro m g m' g' hpre hargs
  refine ⟨fun c => Cert.Kernel5Ideal.Fwd.hOut m c, fun c => Cert.Kernel5Ideal.Fwd.qOut m c, fun c => Cert.Kernel5Ideal.Fwd.uOut m c, fun c => Cert.Kernel5Ideal.Fwd.gateOut m c, fun c => Cert.Kernel5Ideal.Fwd.valOut m c, fun c => Cert.Kernel5Ideal.Fwd.convOut m c, fun c => Cert.Kernel5Ideal.Fwd.actOut m c, fun c => Cert.Kernel5Ideal.Fwd.dhOut m c, fun c => Cert.Kernel5Ideal.Fwd.lossOut m c, fun c => Cert.Kernel5Ideal.Fwd.dgfOut m c, ?_, ?_⟩
  · refine (θ_run Cert.Kernel5Ideal.defs _ _).mono (fun r h c => ?_) (Cert.Kernel5Ideal.Value.run_blocks (F := Ideal) m g)
    obtain ⟨h0, h1, h2, h3, h4, h5, h6, h7, h8, h9, hk⟩ := h c
    exact ⟨h0.trans (Cert.Kernel5Ideal.Fwd.final_h m c),
      h1.trans (Cert.Kernel5Ideal.Fwd.final_q m c),
      h2.trans (Cert.Kernel5Ideal.Fwd.final_u m c),
      h3.trans (Cert.Kernel5Ideal.Fwd.final_gate m c),
      h4.trans (Cert.Kernel5Ideal.Fwd.final_val m c),
      h5.trans (Cert.Kernel5Ideal.Fwd.final_conv m c),
      h6.trans (Cert.Kernel5Ideal.Fwd.final_act m c),
      h7.trans (Cert.Kernel5Ideal.Fwd.final_dh m c),
      h8.trans (Cert.Kernel5Ideal.Fwd.final_loss m c),
      h9.trans (Cert.Kernel5Ideal.Fwd.final_dgf m c), hk⟩
  · refine (θ_run Cert.Reference5Ideal.defs _ _).mono (fun r h c => ?_) (Cert.Reference5Ideal.Value.run (F := Ideal) m' g')
    obtain ⟨h0, h1, h2, h3, h4, h5, h6, h7, h8, h9, hk⟩ := h c
    have H := Cert.Fwd.real_of_finite5 _ _ _ _ _ _ _ _ _ _ _ _ _ _ (hpre c)
    exact ⟨h0.trans ((Cert.Reference5Ideal.Read.val_main_v37_eq _).trans (Cert.Reference5Ideal.Fwd.result_h (hargs c))),
      h1.trans ((Cert.Reference5Ideal.Read.val_main_v146_eq _).trans (Cert.Reference5Ideal.Fwd.result_q (hargs c))),
      h2.trans ((Cert.Reference5Ideal.Read.val_main_v147_eq _).trans (Cert.Reference5Ideal.Fwd.result_u (hargs c))),
      h3.trans ((Cert.Reference5Ideal.Read.val_main_v148_eq _).trans (Cert.Reference5Ideal.Fwd.result_gate (hargs c))),
      h4.trans ((Cert.Reference5Ideal.Read.val_main_v149_eq _).trans (Cert.Reference5Ideal.Fwd.result_val (hargs c))),
      h5.trans ((Cert.Reference5Ideal.Read.val_main_v150_eq _).trans (Cert.Reference5Ideal.Fwd.result_conv (hargs c))),
      h6.trans ((Cert.Reference5Ideal.Read.val_main_v151_eq _).trans (Cert.Reference5Ideal.Fwd.result_act (hargs c))),
      h7.trans ((Cert.Reference5Ideal.Read.val_main_v144_eq _).trans (Cert.Reference5Ideal.Fwd.result_dh (hargs c) H)),
      h8.trans ((Cert.Reference5Ideal.Read.val_main_v152_eq _).trans (Cert.Reference5Ideal.Fwd.result_loss (hargs c))),
      h9.trans ((Cert.Reference5Ideal.Read.val_main_v145_eq _).trans (Cert.Reference5Ideal.Fwd.result_dgf (hargs c))), hk⟩

/-- The fifth reference runs on the host alone too. -/
theorem frame_reference5 : Cert.quiescent_Reference5Ideal := fun m ρ _ =>
  (θ_run Cert.Reference5Ideal.defs _ _).mono (fun r h => ⟨fun c => (h c).2.2.2.2.2.2.2.2.2.2, sem_eq_zero_of_no_sems (by decide) r.2⟩)
    (Cert.Reference5Ideal.Value.run (F := Ideal) m ρ)

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Pre_finite.Gen.facts, Cert.Pre_finite2.Gen.facts, Cert.Pre_finite3.Gen.facts, Cert.Pre_finite4.Gen.facts, Cert.Pre_finite5.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ,
  fun m ρ _ => Cert.Kernel2.Gen.frame m ρ, fun m ρ _ => Cert.Kernel2Ideal.Gen.frame m ρ, fun m ρ _ => Cert.Kernel2Ideal.Gen.frame m ρ,
  frame_reference2, fun m ρ _ => frame_reference2 m ρ trivial,
  fun m ρ _ => Cert.Kernel3.Gen.frame m ρ, fun m ρ _ => Cert.Kernel3Ideal.Gen.frame m ρ, fun m ρ _ => Cert.Kernel3Ideal.Gen.frame m ρ,
  frame_reference3, fun m ρ _ => frame_reference3 m ρ trivial,
  fun m ρ _ => Cert.Kernel4.Gen.frame m ρ, fun m ρ _ => Cert.Kernel4Ideal.Gen.frame m ρ, fun m ρ _ => Cert.Kernel4Ideal.Gen.frame m ρ,
  frame_reference4, fun m ρ _ => frame_reference4 m ρ trivial,
  fun m ρ _ => Cert.Kernel5.Gen.frame m ρ, fun m ρ _ => Cert.Kernel5Ideal.Gen.frame m ρ, fun m ρ _ => Cert.Kernel5Ideal.Gen.frame m ρ,
  frame_reference5, fun m ρ _ => frame_reference5 m ρ trivial,
  ⟨IdealRules.named_const.statement Cert.KernelIdeal.κ "inv_sqrt2" .f32 0x3F3504F3#32 (((Real.sqrt 2)⁻¹ : ℝ) : EReal) rfl,
    IdealRules.named_const.statement Cert.KernelIdeal.κ "inv_sqrt2pi" .f32 0x3ECC422A#32 (((Real.sqrt (2 * Real.pi))⁻¹ : ℝ) : EReal) rfl⟩,
  algebraic, trivial, algebraic2, trivial, algebraic3, trivial, algebraic4,
  IdealRules.named_const.statement Cert.Kernel5Ideal.κ "inv_sqrt2" .f32 0x3F3504F3#32 (((Real.sqrt 2)⁻¹ : ℝ) : EReal) rfl, algebraic5⟩

end Cert.Proof

end
